-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite_att [hPre_finite_att : Cert.Pre_finite_att.Facts] (m : (ℓ : Loc Cert.AttIdeal.nD Cert.AttIdeal.τ Cert.AttIdeal.sig) → Buf (Elt Ideal) ℓ) : Prop :=
  ∀ c : Dev Cert.AttIdeal.nD,
    (Cert.Pre_finite_att.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4)) (m ((c.tc : Thread Cert.AttIdeal.nD Cert.AttIdeal.τ).loc Cert.AttIdeal.main_arg5))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite_att [hPre_finite_att : Cert.Pre_finite_att.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite_att.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4)) (m ((c.tc : Thread Cert.AttRefIdeal.nD Cert.AttRefIdeal.τ).loc Cert.AttRefIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_QNorm (m : (ℓ : Loc Cert.QNorm.nD Cert.QNorm.τ Cert.QNorm.sig) → Buf (Elt Bits) ℓ) : Prop :=
  True

def Pre_QNormIdeal (m : (ℓ : Loc Cert.QNormIdeal.nD Cert.QNormIdeal.τ Cert.QNormIdeal.sig) → Buf (Elt Ideal) ℓ) : Prop :=
  True

def Pre_QNormRefIdeal (m : (ℓ : Loc Cert.QNormRefIdeal.nD Cert.QNormRefIdeal.τ Cert.QNormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_KvRope (m : (ℓ : Loc Cert.KvRope.nD Cert.KvRope.τ Cert.KvRope.sig) → Buf (Elt Bits) ℓ) : Prop :=
  True

def Pre_KvRopeIdeal (m : (ℓ : Loc Cert.KvRopeIdeal.nD Cert.KvRopeIdeal.τ Cert.KvRopeIdeal.sig) → Buf (Elt Ideal) ℓ) : Prop :=
  True

def Pre_KvRopeIdeal_finite_kvrope [hPre_finite_kvrope : Cert.Pre_finite_kvrope.Facts] (m : (ℓ : Loc Cert.KvRopeIdeal.nD Cert.KvRopeIdeal.τ Cert.KvRopeIdeal.sig) → Buf (Elt Ideal) ℓ) : Prop :=
  ∀ c : Dev Cert.KvRopeIdeal.nD,
    (Cert.Pre_finite_kvrope.fn (F := Ideal) (m ((c.tc : Thread Cert.KvRopeIdeal.nD Cert.KvRopeIdeal.τ).loc Cert.KvRopeIdeal.main_arg0)) (m ((c.tc : Thread Cert.KvRopeIdeal.nD Cert.KvRopeIdeal.τ).loc Cert.KvRopeIdeal.main_arg1)) (m ((c.tc : Thread Cert.KvRopeIdeal.nD Cert.KvRopeIdeal.τ).loc Cert.KvRopeIdeal.main_arg2)) (m ((c.tc : Thread Cert.KvRopeIdeal.nD Cert.KvRopeIdeal.τ).loc Cert.KvRopeIdeal.main_arg3)) (m ((c.tc : Thread Cert.KvRopeIdeal.nD Cert.KvRopeIdeal.τ).loc Cert.KvRopeIdeal.main_arg4))) = (fun _ => 1#1)

def Pre_KvRopeRefIdeal (m : (ℓ : Loc Cert.KvRopeRefIdeal.nD Cert.KvRopeRefIdeal.τ Cert.KvRopeRefIdeal.sig) → Buf (Elt Ideal) ℓ) : Prop :=
  True

def Pre_KvRopeRefIdeal_finite_kvrope [hPre_finite_kvrope : Cert.Pre_finite_kvrope.Facts] (m : (ℓ : Loc Cert.KvRopeRefIdeal.nD Cert.KvRopeRefIdeal.τ Cert.KvRopeRefIdeal.sig) → Buf (Elt Ideal) ℓ) : Prop :=
  ∀ c : Dev Cert.KvRopeRefIdeal.nD,
    (Cert.Pre_finite_kvrope.fn (F := Ideal) (m ((c.tc : Thread Cert.KvRopeRefIdeal.nD Cert.KvRopeRefIdeal.τ).loc Cert.KvRopeRefIdeal.main_arg0)) (m ((c.tc : Thread Cert.KvRopeRefIdeal.nD Cert.KvRopeRefIdeal.τ).loc Cert.KvRopeRefIdeal.main_arg1)) (m ((c.tc : Thread Cert.KvRopeRefIdeal.nD Cert.KvRopeRefIdeal.τ).loc Cert.KvRopeRefIdeal.main_arg2)) (m ((c.tc : Thread Cert.KvRopeRefIdeal.nD Cert.KvRopeRefIdeal.τ).loc Cert.KvRopeRefIdeal.main_arg3)) (m ((c.tc : Thread Cert.KvRopeRefIdeal.nD Cert.KvRopeRefIdeal.τ).loc Cert.KvRopeRefIdeal.main_arg4))) = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_finite_gates [hPre_finite_gates : Cert.Pre_finite_gates.Facts] (m : (ℓ : Loc Cert.GatesIdeal.nD Cert.GatesIdeal.τ Cert.GatesIdeal.sig) → Buf (Elt Ideal) ℓ) : Prop :=
  ∀ c : Dev Cert.GatesIdeal.nD,
    (Cert.Pre_finite_gates.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3))) = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_finite_gates [hPre_finite_gates : Cert.Pre_finite_gates.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_finite_gates.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3))) = (fun _ => 1#1)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3)
      ∧ r.2.mem ((c.tc : Thread Cert.Att.nD Cert.Att.τ).loc Cert.Att.main_arg4) = m ((c.tc : Thread Cert.Att.nD Cert.Att.τ).loc Cert.Att.main_arg4)
      ∧ r.2.mem ((c.tc : Thread Cert.Att.nD Cert.Att.τ).loc Cert.Att.main_arg5) = m ((c.tc : Thread Cert.Att.nD Cert.Att.τ).loc Cert.Att.main_arg5))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4)
      ∧ r.2.mem ((c.tc : Thread Cert.AttIdeal.nD Cert.AttIdeal.τ).loc Cert.AttIdeal.main_arg5) = m ((c.tc : Thread Cert.AttIdeal.nD Cert.AttIdeal.τ).loc Cert.AttIdeal.main_arg5))
      ∧ r.2.sem = fun _ => 0)

def quiescent_AttIdeal_pre_finite_att [hAttIdeal : Cert.AttIdeal.Facts] [hPre_finite_att : Cert.Pre_finite_att.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite_att m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4)
      ∧ r.2.mem ((c.tc : Thread Cert.AttIdeal.nD Cert.AttIdeal.τ).loc Cert.AttIdeal.main_arg5) = m ((c.tc : Thread Cert.AttIdeal.nD Cert.AttIdeal.τ).loc Cert.AttIdeal.main_arg5))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4)
      ∧ r.2.mem ((c.tc : Thread Cert.AttRefIdeal.nD Cert.AttRefIdeal.τ).loc Cert.AttRefIdeal.main_arg5) = m ((c.tc : Thread Cert.AttRefIdeal.nD Cert.AttRefIdeal.τ).loc Cert.AttRefIdeal.main_arg5))
      ∧ r.2.sem = fun _ => 0)

def quiescent_AttRefIdeal_pre_finite_att [hAttRefIdeal : Cert.AttRefIdeal.Facts] [hPre_finite_att : Cert.Pre_finite_att.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite_att m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4)
      ∧ r.2.mem ((c.tc : Thread Cert.AttRefIdeal.nD Cert.AttRefIdeal.τ).loc Cert.AttRefIdeal.main_arg5) = m ((c.tc : Thread Cert.AttRefIdeal.nD Cert.AttRefIdeal.τ).loc Cert.AttRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_QNorm [hQNorm : Cert.QNorm.Facts] : Prop :=
  ∀ (m : (ℓ : Loc Cert.QNorm.nD Cert.QNorm.τ Cert.QNorm.sig) → Buf (Elt Bits) ℓ) (g : Dev Cert.QNorm.nD → PrngReg), Pre_QNorm m →
    θ_run (Cert.QNorm.defs (F := Bits)) (onTc (τ := Cert.QNorm.τ) (Cert.QNorm.main (F := Bits))) ⟨m, fun _ => 0, g⟩ (fun r => (∀ c : Dev Cert.QNorm.nD,
      r.2.mem ((c.tc : Thread Cert.QNorm.nD Cert.QNorm.τ).loc Cert.QNorm.main_arg0) = m ((c.tc : Thread Cert.QNorm.nD Cert.QNorm.τ).loc Cert.QNorm.main_arg0)
      ∧ r.2.mem ((c.tc : Thread Cert.QNorm.nD Cert.QNorm.τ).loc Cert.QNorm.main_arg1) = m ((c.tc : Thread Cert.QNorm.nD Cert.QNorm.τ).loc Cert.QNorm.main_arg1)
      ∧ r.2.mem ((c.tc : Thread Cert.QNorm.nD Cert.QNorm.τ).loc Cert.QNorm.main_arg2) = m ((c.tc : Thread Cert.QNorm.nD Cert.QNorm.τ).loc Cert.QNorm.main_arg2))
      ∧ r.2.sem = fun _ => 0)

def quiescent_QNormIdeal [hQNormIdeal : Cert.QNormIdeal.Facts] : Prop :=
  ∀ (m : (ℓ : Loc Cert.QNormIdeal.nD Cert.QNormIdeal.τ Cert.QNormIdeal.sig) → Buf (Elt Ideal) ℓ) (g : Dev Cert.QNormIdeal.nD → PrngReg), Pre_QNormIdeal m →
    θ_run (Cert.QNormIdeal.defs (F := Ideal)) (onTc (τ := Cert.QNormIdeal.τ) (Cert.QNormIdeal.main (F := Ideal))) ⟨m, fun _ => 0, g⟩ (fun r => (∀ c : Dev Cert.QNormIdeal.nD,
      r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
      ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
      ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2))
      ∧ r.2.sem = fun _ => 0)

def quiescent_QNormRefIdeal [hQNormRefIdeal : Cert.QNormRefIdeal.Facts] : Prop :=
  ∀ (m : (ℓ : Loc Cert.QNormRefIdeal.nD Cert.QNormRefIdeal.τ Cert.QNormRefIdeal.sig) → Buf (Elt Ideal) ℓ) (g : Dev Cert.QNormRefIdeal.nD → PrngReg), Pre_QNormRefIdeal m →
    θ_run (Cert.QNormRefIdeal.defs (F := Ideal)) (onTc (τ := Cert.QNormRefIdeal.τ) (Cert.QNormRefIdeal.main (F := Ideal))) ⟨m, fun _ => 0, g⟩ (fun r => (∀ c : Dev Cert.QNormRefIdeal.nD,
      r.2.mem ((c.tc : Thread Cert.QNormRefIdeal.nD Cert.QNormRefIdeal.τ).loc Cert.QNormRefIdeal.main_arg0) = m ((c.tc : Thread Cert.QNormRefIdeal.nD Cert.QNormRefIdeal.τ).loc Cert.QNormRefIdeal.main_arg0)
      ∧ r.2.mem ((c.tc : Thread Cert.QNormRefIdeal.nD Cert.QNormRefIdeal.τ).loc Cert.QNormRefIdeal.main_arg1) = m ((c.tc : Thread Cert.QNormRefIdeal.nD Cert.QNormRefIdeal.τ).loc Cert.QNormRefIdeal.main_arg1)
      ∧ r.2.mem ((c.tc : Thread Cert.QNormRefIdeal.nD Cert.QNormRefIdeal.τ).loc Cert.QNormRefIdeal.main_arg2) = m ((c.tc : Thread Cert.QNormRefIdeal.nD Cert.QNormRefIdeal.τ).loc Cert.QNormRefIdeal.main_arg2))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1)
      ∧ r.2.mem ((c.tc : Thread Cert.MemNorm.nD Cert.MemNorm.τ).loc Cert.MemNorm.main_arg2) = m ((c.tc : Thread Cert.MemNorm.nD Cert.MemNorm.τ).loc Cert.MemNorm.main_arg2))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
      ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1)
      ∧ r.2.mem ((c.tc : Thread Cert.MemNormRefIdeal.nD Cert.MemNormRefIdeal.τ).loc Cert.MemNormRefIdeal.main_arg2) = m ((c.tc : Thread Cert.MemNormRefIdeal.nD Cert.MemNormRefIdeal.τ).loc Cert.MemNormRefIdeal.main_arg2))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1))
      ∧ r.2.sem = fun _ => 0)

def quiescent_KvRope [hKvRope : Cert.KvRope.Facts] : Prop :=
  ∀ (m : (ℓ : Loc Cert.KvRope.nD Cert.KvRope.τ Cert.KvRope.sig) → Buf (Elt Bits) ℓ) (g : Dev Cert.KvRope.nD → PrngReg), Pre_KvRope m →
    θ_run (Cert.KvRope.defs (F := Bits)) (onTc (τ := Cert.KvRope.τ) (Cert.KvRope.main (F := Bits))) ⟨m, fun _ => 0, g⟩ (fun r => (∀ c : Dev Cert.KvRope.nD,
      r.2.mem ((c.tc : Thread Cert.KvRope.nD Cert.KvRope.τ).loc Cert.KvRope.main_arg0) = m ((c.tc : Thread Cert.KvRope.nD Cert.KvRope.τ).loc Cert.KvRope.main_arg0)
      ∧ r.2.mem ((c.tc : Thread Cert.KvRope.nD Cert.KvRope.τ).loc Cert.KvRope.main_arg1) = m ((c.tc : Thread Cert.KvRope.nD Cert.KvRope.τ).loc Cert.KvRope.main_arg1)
      ∧ r.2.mem ((c.tc : Thread Cert.KvRope.nD Cert.KvRope.τ).loc Cert.KvRope.main_arg2) = m ((c.tc : Thread Cert.KvRope.nD Cert.KvRope.τ).loc Cert.KvRope.main_arg2)
      ∧ r.2.mem ((c.tc : Thread Cert.KvRope.nD Cert.KvRope.τ).loc Cert.KvRope.main_arg3) = m ((c.tc : Thread Cert.KvRope.nD Cert.KvRope.τ).loc Cert.KvRope.main_arg3)
      ∧ r.2.mem ((c.tc : Thread Cert.KvRope.nD Cert.KvRope.τ).loc Cert.KvRope.main_arg4) = m ((c.tc : Thread Cert.KvRope.nD Cert.KvRope.τ).loc Cert.KvRope.main_arg4))
      ∧ r.2.sem = fun _ => 0)

def quiescent_KvRopeIdeal [hKvRopeIdeal : Cert.KvRopeIdeal.Facts] : Prop :=
  ∀ (m : (ℓ : Loc Cert.KvRopeIdeal.nD Cert.KvRopeIdeal.τ Cert.KvRopeIdeal.sig) → Buf (Elt Ideal) ℓ) (g : Dev Cert.KvRopeIdeal.nD → PrngReg), Pre_KvRopeIdeal m →
    θ_run (Cert.KvRopeIdeal.defs (F := Ideal)) (onTc (τ := Cert.KvRopeIdeal.τ) (Cert.KvRopeIdeal.main (F := Ideal))) ⟨m, fun _ => 0, g⟩ (fun r => (∀ c : Dev Cert.KvRopeIdeal.nD,
      r.2.mem ((c.tc : Thread Cert.KvRopeIdeal.nD Cert.KvRopeIdeal.τ).loc Cert.KvRopeIdeal.main_arg0) = m ((c.tc : Thread Cert.KvRopeIdeal.nD Cert.KvRopeIdeal.τ).loc Cert.KvRopeIdeal.main_arg0)
      ∧ r.2.mem ((c.tc : Thread Cert.KvRopeIdeal.nD Cert.KvRopeIdeal.τ).loc Cert.KvRopeIdeal.main_arg1) = m ((c.tc : Thread Cert.KvRopeIdeal.nD Cert.KvRopeIdeal.τ).loc Cert.KvRopeIdeal.main_arg1)
      ∧ r.2.mem ((c.tc : Thread Cert.KvRopeIdeal.nD Cert.KvRopeIdeal.τ).loc Cert.KvRopeIdeal.main_arg2) = m ((c.tc : Thread Cert.KvRopeIdeal.nD Cert.KvRopeIdeal.τ).loc Cert.KvRopeIdeal.main_arg2)
      ∧ r.2.mem ((c.tc : Thread Cert.KvRopeIdeal.nD Cert.KvRopeIdeal.τ).loc Cert.KvRopeIdeal.main_arg3) = m ((c.tc : Thread Cert.KvRopeIdeal.nD Cert.KvRopeIdeal.τ).loc Cert.KvRopeIdeal.main_arg3)
      ∧ r.2.mem ((c.tc : Thread Cert.KvRopeIdeal.nD Cert.KvRopeIdeal.τ).loc Cert.KvRopeIdeal.main_arg4) = m ((c.tc : Thread Cert.KvRopeIdeal.nD Cert.KvRopeIdeal.τ).loc Cert.KvRopeIdeal.main_arg4))
      ∧ r.2.sem = fun _ => 0)

def quiescent_KvRopeIdeal_pre_finite_kvrope [hKvRopeIdeal : Cert.KvRopeIdeal.Facts] [hPre_finite_kvrope : Cert.Pre_finite_kvrope.Facts] : Prop :=
  ∀ (m : (ℓ : Loc Cert.KvRopeIdeal.nD Cert.KvRopeIdeal.τ Cert.KvRopeIdeal.sig) → Buf (Elt Ideal) ℓ) (g : Dev Cert.KvRopeIdeal.nD → PrngReg), Pre_KvRopeIdeal_finite_kvrope m →
    θ_run (Cert.KvRopeIdeal.defs (F := Ideal)) (onTc (τ := Cert.KvRopeIdeal.τ) (Cert.KvRopeIdeal.main (F := Ideal))) ⟨m, fun _ => 0, g⟩ (fun r => (∀ c : Dev Cert.KvRopeIdeal.nD,
      r.2.mem ((c.tc : Thread Cert.KvRopeIdeal.nD Cert.KvRopeIdeal.τ).loc Cert.KvRopeIdeal.main_arg0) = m ((c.tc : Thread Cert.KvRopeIdeal.nD Cert.KvRopeIdeal.τ).loc Cert.KvRopeIdeal.main_arg0)
      ∧ r.2.mem ((c.tc : Thread Cert.KvRopeIdeal.nD Cert.KvRopeIdeal.τ).loc Cert.KvRopeIdeal.main_arg1) = m ((c.tc : Thread Cert.KvRopeIdeal.nD Cert.KvRopeIdeal.τ).loc Cert.KvRopeIdeal.main_arg1)
      ∧ r.2.mem ((c.tc : Thread Cert.KvRopeIdeal.nD Cert.KvRopeIdeal.τ).loc Cert.KvRopeIdeal.main_arg2) = m ((c.tc : Thread Cert.KvRopeIdeal.nD Cert.KvRopeIdeal.τ).loc Cert.KvRopeIdeal.main_arg2)
      ∧ r.2.mem ((c.tc : Thread Cert.KvRopeIdeal.nD Cert.KvRopeIdeal.τ).loc Cert.KvRopeIdeal.main_arg3) = m ((c.tc : Thread Cert.KvRopeIdeal.nD Cert.KvRopeIdeal.τ).loc Cert.KvRopeIdeal.main_arg3)
      ∧ r.2.mem ((c.tc : Thread Cert.KvRopeIdeal.nD Cert.KvRopeIdeal.τ).loc Cert.KvRopeIdeal.main_arg4) = m ((c.tc : Thread Cert.KvRopeIdeal.nD Cert.KvRopeIdeal.τ).loc Cert.KvRopeIdeal.main_arg4))
      ∧ r.2.sem = fun _ => 0)

def quiescent_KvRopeRefIdeal [hKvRopeRefIdeal : Cert.KvRopeRefIdeal.Facts] : Prop :=
  ∀ (m : (ℓ : Loc Cert.KvRopeRefIdeal.nD Cert.KvRopeRefIdeal.τ Cert.KvRopeRefIdeal.sig) → Buf (Elt Ideal) ℓ) (g : Dev Cert.KvRopeRefIdeal.nD → PrngReg), Pre_KvRopeRefIdeal m →
    θ_run (Cert.KvRopeRefIdeal.defs (F := Ideal)) (onTc (τ := Cert.KvRopeRefIdeal.τ) (Cert.KvRopeRefIdeal.main (F := Ideal))) ⟨m, fun _ => 0, g⟩ (fun r => (∀ c : Dev Cert.KvRopeRefIdeal.nD,
      r.2.mem ((c.tc : Thread Cert.KvRopeRefIdeal.nD Cert.KvRopeRefIdeal.τ).loc Cert.KvRopeRefIdeal.main_arg0) = m ((c.tc : Thread Cert.KvRopeRefIdeal.nD Cert.KvRopeRefIdeal.τ).loc Cert.KvRopeRefIdeal.main_arg0)
      ∧ r.2.mem ((c.tc : Thread Cert.KvRopeRefIdeal.nD Cert.KvRopeRefIdeal.τ).loc Cert.KvRopeRefIdeal.main_arg1) = m ((c.tc : Thread Cert.KvRopeRefIdeal.nD Cert.KvRopeRefIdeal.τ).loc Cert.KvRopeRefIdeal.main_arg1)
      ∧ r.2.mem ((c.tc : Thread Cert.KvRopeRefIdeal.nD Cert.KvRopeRefIdeal.τ).loc Cert.KvRopeRefIdeal.main_arg2) = m ((c.tc : Thread Cert.KvRopeRefIdeal.nD Cert.KvRopeRefIdeal.τ).loc Cert.KvRopeRefIdeal.main_arg2)
      ∧ r.2.mem ((c.tc : Thread Cert.KvRopeRefIdeal.nD Cert.KvRopeRefIdeal.τ).loc Cert.KvRopeRefIdeal.main_arg3) = m ((c.tc : Thread Cert.KvRopeRefIdeal.nD Cert.KvRopeRefIdeal.τ).loc Cert.KvRopeRefIdeal.main_arg3)
      ∧ r.2.mem ((c.tc : Thread Cert.KvRopeRefIdeal.nD Cert.KvRopeRefIdeal.τ).loc Cert.KvRopeRefIdeal.main_arg4) = m ((c.tc : Thread Cert.KvRopeRefIdeal.nD Cert.KvRopeRefIdeal.τ).loc Cert.KvRopeRefIdeal.main_arg4))
      ∧ r.2.sem = fun _ => 0)

def quiescent_KvRopeRefIdeal_pre_finite_kvrope [hKvRopeRefIdeal : Cert.KvRopeRefIdeal.Facts] [hPre_finite_kvrope : Cert.Pre_finite_kvrope.Facts] : Prop :=
  ∀ (m : (ℓ : Loc Cert.KvRopeRefIdeal.nD Cert.KvRopeRefIdeal.τ Cert.KvRopeRefIdeal.sig) → Buf (Elt Ideal) ℓ) (g : Dev Cert.KvRopeRefIdeal.nD → PrngReg), Pre_KvRopeRefIdeal_finite_kvrope m →
    θ_run (Cert.KvRopeRefIdeal.defs (F := Ideal)) (onTc (τ := Cert.KvRopeRefIdeal.τ) (Cert.KvRopeRefIdeal.main (F := Ideal))) ⟨m, fun _ => 0, g⟩ (fun r => (∀ c : Dev Cert.KvRopeRefIdeal.nD,
      r.2.mem ((c.tc : Thread Cert.KvRopeRefIdeal.nD Cert.KvRopeRefIdeal.τ).loc Cert.KvRopeRefIdeal.main_arg0) = m ((c.tc : Thread Cert.KvRopeRefIdeal.nD Cert.KvRopeRefIdeal.τ).loc Cert.KvRopeRefIdeal.main_arg0)
      ∧ r.2.mem ((c.tc : Thread Cert.KvRopeRefIdeal.nD Cert.KvRopeRefIdeal.τ).loc Cert.KvRopeRefIdeal.main_arg1) = m ((c.tc : Thread Cert.KvRopeRefIdeal.nD Cert.KvRopeRefIdeal.τ).loc Cert.KvRopeRefIdeal.main_arg1)
      ∧ r.2.mem ((c.tc : Thread Cert.KvRopeRefIdeal.nD Cert.KvRopeRefIdeal.τ).loc Cert.KvRopeRefIdeal.main_arg2) = m ((c.tc : Thread Cert.KvRopeRefIdeal.nD Cert.KvRopeRefIdeal.τ).loc Cert.KvRopeRefIdeal.main_arg2)
      ∧ r.2.mem ((c.tc : Thread Cert.KvRopeRefIdeal.nD Cert.KvRopeRefIdeal.τ).loc Cert.KvRopeRefIdeal.main_arg3) = m ((c.tc : Thread Cert.KvRopeRefIdeal.nD Cert.KvRopeRefIdeal.τ).loc Cert.KvRopeRefIdeal.main_arg3)
      ∧ r.2.mem ((c.tc : Thread Cert.KvRopeRefIdeal.nD Cert.KvRopeRefIdeal.τ).loc Cert.KvRopeRefIdeal.main_arg4) = m ((c.tc : Thread Cert.KvRopeRefIdeal.nD Cert.KvRopeRefIdeal.τ).loc Cert.KvRopeRefIdeal.main_arg4))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesIdeal_pre_finite_gates [hGatesIdeal : Cert.GatesIdeal.Facts] [hPre_finite_gates : Cert.Pre_finite_gates.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_finite_gates m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_GatesRefIdeal_pre_finite_gates [hGatesRefIdeal : Cert.GatesRefIdeal.Facts] [hPre_finite_gates : Cert.Pre_finite_gates.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_finite_gates m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v18) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v16) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v9_0)) (v1 : (c : Dev Cert.ConvIdeal.nD) → Buf (Elt Ideal) ((c.tc : Thread Cert.ConvIdeal.nD Cert.ConvIdeal.τ).loc Cert.ConvIdeal.main_v9_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v9_0) = v0 c
          ∧ r.2.mem ((c.tc : Thread Cert.ConvIdeal.nD Cert.ConvIdeal.τ).loc Cert.ConvIdeal.main_v9_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v80) = v0 c
          ∧ r.2.mem ((c.tc : Thread Cert.ConvRefIdeal.nD Cert.ConvRefIdeal.τ).loc Cert.ConvRefIdeal.main_v75) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Att_AttIdeal : Prop :=
  IdealRules.named_const.Statement Cert.AttIdeal.κ "mask" .f32 0xF149F2CA#32 ⊥
  ∧ IdealRules.named_const.Statement Cert.AttIdeal.κ "log2e" .f32 0x3FB8AA3B#32 (((Real.log 2)⁻¹ : ℝ) : EReal)
  ∧ IdealRules.named_const.Statement Cert.AttIdeal.κ "dq_scale" .f32 0x3D93CD3A#32 (((Real.sqrt 192)⁻¹ : ℝ) : EReal)
  ∧ IdealRules.named_const.Statement Cert.AttIdeal.κ "ln2" .f32 0x3F317218#32 ((Real.log 2 : ℝ) : EReal)

def algebraic_AttIdeal_AttRefIdeal_pre_finite_att [hAttIdeal : Cert.AttIdeal.Facts] [hAttRefIdeal : Cert.AttRefIdeal.Facts] [hPre_finite_att : Cert.Pre_finite_att.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite_att m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)
      ∧ m' ((c.tc : Thread Cert.AttRefIdeal.nD Cert.AttRefIdeal.τ).loc Cert.AttRefIdeal.main_arg3) = m ((c.tc : Thread Cert.AttIdeal.nD Cert.AttIdeal.τ).loc Cert.AttIdeal.main_arg3)
      ∧ m' ((c.tc : Thread Cert.AttRefIdeal.nD Cert.AttRefIdeal.τ).loc Cert.AttRefIdeal.main_arg4) = m ((c.tc : Thread Cert.AttIdeal.nD Cert.AttIdeal.τ).loc Cert.AttIdeal.main_arg4)
      ∧ m' ((c.tc : Thread Cert.AttRefIdeal.nD Cert.AttRefIdeal.τ).loc Cert.AttRefIdeal.main_arg5) = m ((c.tc : Thread Cert.AttIdeal.nD Cert.AttIdeal.τ).loc Cert.AttIdeal.main_arg5)) →
    ∃ (v0 : (c : Dev Cert.AttIdeal.nD) → Buf (Elt Ideal) ((c.tc : Thread Cert.AttIdeal.nD Cert.AttIdeal.τ).loc Cert.AttIdeal.main_v16_0)) (v1 : (c : Dev Cert.AttIdeal.nD) → Buf (Elt Ideal) ((c.tc : Thread Cert.AttIdeal.nD Cert.AttIdeal.τ).loc Cert.AttIdeal.main_v18_0)) (v2 : (c : Dev Cert.AttIdeal.nD) → Buf (Elt Ideal) ((c.tc : Thread Cert.AttIdeal.nD Cert.AttIdeal.τ).loc Cert.AttIdeal.main_v19_0)) (v3 : (c : Dev Cert.AttIdeal.nD) → Buf (Elt Ideal) ((c.tc : Thread Cert.AttIdeal.nD Cert.AttIdeal.τ).loc Cert.AttIdeal.main_v19_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v16_0) = v0 c
          ∧ r.2.mem ((c.tc : Thread Cert.AttIdeal.nD Cert.AttIdeal.τ).loc Cert.AttIdeal.main_v18_0) = v1 c
          ∧ r.2.mem ((c.tc : Thread Cert.AttIdeal.nD Cert.AttIdeal.τ).loc Cert.AttIdeal.main_v19_0) = v2 c
          ∧ r.2.mem ((c.tc : Thread Cert.AttIdeal.nD Cert.AttIdeal.τ).loc Cert.AttIdeal.main_v19_1) = v3 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
          ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
          ∧ r.2.mem ((c.tc : Thread Cert.AttIdeal.nD Cert.AttIdeal.τ).loc Cert.AttIdeal.main_arg4) = m ((c.tc : Thread Cert.AttIdeal.nD Cert.AttIdeal.τ).loc Cert.AttIdeal.main_arg4)
          ∧ r.2.mem ((c.tc : Thread Cert.AttIdeal.nD Cert.AttIdeal.τ).loc Cert.AttIdeal.main_arg5) = m ((c.tc : Thread Cert.AttIdeal.nD Cert.AttIdeal.τ).loc Cert.AttIdeal.main_arg5))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v80) = v0 c
          ∧ r.2.mem ((c.tc : Thread Cert.AttRefIdeal.nD Cert.AttRefIdeal.τ).loc Cert.AttRefIdeal.main_v81) = v1 c
          ∧ r.2.mem ((c.tc : Thread Cert.AttRefIdeal.nD Cert.AttRefIdeal.τ).loc Cert.AttRefIdeal.main_v82) = v2 c
          ∧ r.2.mem ((c.tc : Thread Cert.AttRefIdeal.nD Cert.AttRefIdeal.τ).loc Cert.AttRefIdeal.main_v84) = v3 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3)
          ∧ r.2.mem ((c.tc : Thread Cert.AttRefIdeal.nD Cert.AttRefIdeal.τ).loc Cert.AttRefIdeal.main_arg4) = m' ((c.tc : Thread Cert.AttRefIdeal.nD Cert.AttRefIdeal.τ).loc Cert.AttRefIdeal.main_arg4)
          ∧ r.2.mem ((c.tc : Thread Cert.AttRefIdeal.nD Cert.AttRefIdeal.τ).loc Cert.AttRefIdeal.main_arg5) = m' ((c.tc : Thread Cert.AttRefIdeal.nD Cert.AttRefIdeal.τ).loc Cert.AttRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_QNorm_QNormIdeal : Prop :=
  True

def algebraic_QNormIdeal_QNormRefIdeal [hQNormIdeal : Cert.QNormIdeal.Facts] [hQNormRefIdeal : Cert.QNormRefIdeal.Facts] : Prop :=
  ∀ (m : (ℓ : Loc Cert.QNormIdeal.nD Cert.QNormIdeal.τ Cert.QNormIdeal.sig) → Buf (Elt Ideal) ℓ) (g : Dev Cert.QNormIdeal.nD → PrngReg)
    (m' : (ℓ : Loc Cert.QNormRefIdeal.nD Cert.QNormRefIdeal.τ Cert.QNormRefIdeal.sig) → Buf (Elt Ideal) ℓ) (g' : Dev Cert.QNormRefIdeal.nD → PrngReg), Pre_QNormIdeal m →
    (∀ c : Dev Cert.QNormIdeal.nD,
      m' ((c.tc : Thread Cert.QNormRefIdeal.nD Cert.QNormRefIdeal.τ).loc Cert.QNormRefIdeal.main_arg0) = m ((c.tc : Thread Cert.QNormIdeal.nD Cert.QNormIdeal.τ).loc Cert.QNormIdeal.main_arg0)
      ∧ m' ((c.tc : Thread Cert.QNormRefIdeal.nD Cert.QNormRefIdeal.τ).loc Cert.QNormRefIdeal.main_arg1) = m ((c.tc : Thread Cert.QNormIdeal.nD Cert.QNormIdeal.τ).loc Cert.QNormIdeal.main_arg1)
      ∧ m' ((c.tc : Thread Cert.QNormRefIdeal.nD Cert.QNormRefIdeal.τ).loc Cert.QNormRefIdeal.main_arg2) = m ((c.tc : Thread Cert.QNormIdeal.nD Cert.QNormIdeal.τ).loc Cert.QNormIdeal.main_arg2)) →
    ∃ (v0 : (c : Dev Cert.QNormIdeal.nD) → Buf (Elt Ideal) ((c.tc : Thread Cert.QNormIdeal.nD Cert.QNormIdeal.τ).loc Cert.QNormIdeal.main_v3_0)) (v1 : (c : Dev Cert.QNormIdeal.nD) → Buf (Elt Ideal) ((c.tc : Thread Cert.QNormIdeal.nD Cert.QNormIdeal.τ).loc Cert.QNormIdeal.main_v3_1)),
      θ_run (Cert.QNormIdeal.defs (F := Ideal)) (onTc (τ := Cert.QNormIdeal.τ) (Cert.QNormIdeal.main (F := Ideal))) ⟨m, fun _ => 0, g⟩ (fun r => ∀ c : Dev Cert.QNormIdeal.nD,
          r.2.mem ((c.tc : Thread Cert.QNormIdeal.nD Cert.QNormIdeal.τ).loc Cert.QNormIdeal.main_v3_0) = v0 c
          ∧ r.2.mem ((c.tc : Thread Cert.QNormIdeal.nD Cert.QNormIdeal.τ).loc Cert.QNormIdeal.main_v3_1) = v1 c
          ∧ r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
          ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
          ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2))
      ∧ θ_run (Cert.QNormRefIdeal.defs (F := Ideal)) (onTc (τ := Cert.QNormRefIdeal.τ) (Cert.QNormRefIdeal.main (F := Ideal))) ⟨m', fun _ => 0, g'⟩ (fun r => ∀ c : Dev Cert.QNormRefIdeal.nD,
          r.2.mem ((c.tc : Thread Cert.QNormRefIdeal.nD Cert.QNormRefIdeal.τ).loc Cert.QNormRefIdeal.main_v38) = v0 c
          ∧ r.2.mem ((c.tc : Thread Cert.QNormRefIdeal.nD Cert.QNormRefIdeal.τ).loc Cert.QNormRefIdeal.main_v39) = v1 c
          ∧ r.2.mem ((c.tc : Thread Cert.QNormRefIdeal.nD Cert.QNormRefIdeal.τ).loc Cert.QNormRefIdeal.main_arg0) = m' ((c.tc : Thread Cert.QNormRefIdeal.nD Cert.QNormRefIdeal.τ).loc Cert.QNormRefIdeal.main_arg0)
          ∧ r.2.mem ((c.tc : Thread Cert.QNormRefIdeal.nD Cert.QNormRefIdeal.τ).loc Cert.QNormRefIdeal.main_arg1) = m' ((c.tc : Thread Cert.QNormRefIdeal.nD Cert.QNormRefIdeal.τ).loc Cert.QNormRefIdeal.main_arg1)
          ∧ r.2.mem ((c.tc : Thread Cert.QNormRefIdeal.nD Cert.QNormRefIdeal.τ).loc Cert.QNormRefIdeal.main_arg2) = m' ((c.tc : Thread Cert.QNormRefIdeal.nD Cert.QNormRefIdeal.τ).loc Cert.QNormRefIdeal.main_arg2))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)
      ∧ m' ((c.tc : Thread Cert.MemNormRefIdeal.nD Cert.MemNormRefIdeal.τ).loc Cert.MemNormRefIdeal.main_arg2) = m ((c.tc : Thread Cert.MemNormIdeal.nD Cert.MemNormIdeal.τ).loc Cert.MemNormIdeal.main_arg2)) →
    ∃ (v0 : (c : Dev Cert.MemNormIdeal.nD) → Buf (Elt Ideal) ((c.tc : Thread Cert.MemNormIdeal.nD Cert.MemNormIdeal.τ).loc Cert.MemNormIdeal.main_v1_0)) (v1 : (c : Dev Cert.MemNormIdeal.nD) → Buf (Elt Ideal) ((c.tc : Thread Cert.MemNormIdeal.nD Cert.MemNormIdeal.τ).loc Cert.MemNormIdeal.main_v1_1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v1_0) = v0 c
          ∧ r.2.mem ((c.tc : Thread Cert.MemNormIdeal.nD Cert.MemNormIdeal.τ).loc Cert.MemNormIdeal.main_v1_1) = v1 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
          ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v35) = v0 c
          ∧ r.2.mem ((c.tc : Thread Cert.MemNormRefIdeal.nD Cert.MemNormRefIdeal.τ).loc Cert.MemNormRefIdeal.main_v36) = v1 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1)
          ∧ r.2.mem ((c.tc : Thread Cert.MemNormRefIdeal.nD Cert.MemNormRefIdeal.τ).loc Cert.MemNormRefIdeal.main_arg2) = m' ((c.tc : Thread Cert.MemNormRefIdeal.nD Cert.MemNormRefIdeal.τ).loc Cert.MemNormRefIdeal.main_arg2))

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)) →
    ∃ (v0 : (c : Dev Cert.OutNormIdeal.nD) → Buf (Elt Ideal) ((c.tc : Thread Cert.OutNormIdeal.nD Cert.OutNormIdeal.τ).loc Cert.OutNormIdeal.main_v9_0)) (v1 : (c : Dev Cert.OutNormIdeal.nD) → Buf (Elt Ideal) ((c.tc : Thread Cert.OutNormIdeal.nD Cert.OutNormIdeal.τ).loc Cert.OutNormIdeal.main_v9_1)) (v2 : (c : Dev Cert.OutNormIdeal.nD) → Buf (Elt Ideal) ((c.tc : Thread Cert.OutNormIdeal.nD Cert.OutNormIdeal.τ).loc Cert.OutNormIdeal.main_v9_2)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v9_0) = v0 c
          ∧ r.2.mem ((c.tc : Thread Cert.OutNormIdeal.nD Cert.OutNormIdeal.τ).loc Cert.OutNormIdeal.main_v9_1) = v1 c
          ∧ r.2.mem ((c.tc : Thread Cert.OutNormIdeal.nD Cert.OutNormIdeal.τ).loc Cert.OutNormIdeal.main_v9_2) = v2 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v50) = v0 c
          ∧ r.2.mem ((c.tc : Thread Cert.OutNormRefIdeal.nD Cert.OutNormRefIdeal.τ).loc Cert.OutNormRefIdeal.main_v51) = v1 c
          ∧ r.2.mem ((c.tc : Thread Cert.OutNormRefIdeal.nD Cert.OutNormRefIdeal.τ).loc Cert.OutNormRefIdeal.main_v52) = v2 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v6) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v70) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)) →
    ∃ (v0 : (c : Dev Cert.RopeIdeal.nD) → Buf (Elt Ideal) ((c.tc : Thread Cert.RopeIdeal.nD Cert.RopeIdeal.τ).loc Cert.RopeIdeal.main_v50)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v50) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v53) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1))

def preserves_KvRope_KvRopeIdeal : Prop :=
  True

def algebraic_KvRopeIdeal_KvRopeRefIdeal_pre_finite_kvrope [hKvRopeIdeal : Cert.KvRopeIdeal.Facts] [hKvRopeRefIdeal : Cert.KvRopeRefIdeal.Facts] [hPre_finite_kvrope : Cert.Pre_finite_kvrope.Facts] : Prop :=
  ∀ (m : (ℓ : Loc Cert.KvRopeIdeal.nD Cert.KvRopeIdeal.τ Cert.KvRopeIdeal.sig) → Buf (Elt Ideal) ℓ) (g : Dev Cert.KvRopeIdeal.nD → PrngReg)
    (m' : (ℓ : Loc Cert.KvRopeRefIdeal.nD Cert.KvRopeRefIdeal.τ Cert.KvRopeRefIdeal.sig) → Buf (Elt Ideal) ℓ) (g' : Dev Cert.KvRopeRefIdeal.nD → PrngReg), Pre_KvRopeIdeal_finite_kvrope m →
    (∀ c : Dev Cert.KvRopeIdeal.nD,
      m' ((c.tc : Thread Cert.KvRopeRefIdeal.nD Cert.KvRopeRefIdeal.τ).loc Cert.KvRopeRefIdeal.main_arg0) = m ((c.tc : Thread Cert.KvRopeIdeal.nD Cert.KvRopeIdeal.τ).loc Cert.KvRopeIdeal.main_arg0)
      ∧ m' ((c.tc : Thread Cert.KvRopeRefIdeal.nD Cert.KvRopeRefIdeal.τ).loc Cert.KvRopeRefIdeal.main_arg1) = m ((c.tc : Thread Cert.KvRopeIdeal.nD Cert.KvRopeIdeal.τ).loc Cert.KvRopeIdeal.main_arg1)
      ∧ m' ((c.tc : Thread Cert.KvRopeRefIdeal.nD Cert.KvRopeRefIdeal.τ).loc Cert.KvRopeRefIdeal.main_arg2) = m ((c.tc : Thread Cert.KvRopeIdeal.nD Cert.KvRopeIdeal.τ).loc Cert.KvRopeIdeal.main_arg2)
      ∧ m' ((c.tc : Thread Cert.KvRopeRefIdeal.nD Cert.KvRopeRefIdeal.τ).loc Cert.KvRopeRefIdeal.main_arg3) = m ((c.tc : Thread Cert.KvRopeIdeal.nD Cert.KvRopeIdeal.τ).loc Cert.KvRopeIdeal.main_arg3)
      ∧ m' ((c.tc : Thread Cert.KvRopeRefIdeal.nD Cert.KvRopeRefIdeal.τ).loc Cert.KvRopeRefIdeal.main_arg4) = m ((c.tc : Thread Cert.KvRopeIdeal.nD Cert.KvRopeIdeal.τ).loc Cert.KvRopeIdeal.main_arg4)) →
    ∃ (v0 : (c : Dev Cert.KvRopeIdeal.nD) → Buf (Elt Ideal) ((c.tc : Thread Cert.KvRopeIdeal.nD Cert.KvRopeIdeal.τ).loc Cert.KvRopeIdeal.main_v46)) (v1 : (c : Dev Cert.KvRopeIdeal.nD) → Buf (Elt Ideal) ((c.tc : Thread Cert.KvRopeIdeal.nD Cert.KvRopeIdeal.τ).loc Cert.KvRopeIdeal.main_v54)) (v2 : (c : Dev Cert.KvRopeIdeal.nD) → Buf (Elt Ideal) ((c.tc : Thread Cert.KvRopeIdeal.nD Cert.KvRopeIdeal.τ).loc Cert.KvRopeIdeal.main_v44)),
      θ_run (Cert.KvRopeIdeal.defs (F := Ideal)) (onTc (τ := Cert.KvRopeIdeal.τ) (Cert.KvRopeIdeal.main (F := Ideal))) ⟨m, fun _ => 0, g⟩ (fun r => ∀ c : Dev Cert.KvRopeIdeal.nD,
          r.2.mem ((c.tc : Thread Cert.KvRopeIdeal.nD Cert.KvRopeIdeal.τ).loc Cert.KvRopeIdeal.main_v46) = v0 c
          ∧ r.2.mem ((c.tc : Thread Cert.KvRopeIdeal.nD Cert.KvRopeIdeal.τ).loc Cert.KvRopeIdeal.main_v54) = v1 c
          ∧ r.2.mem ((c.tc : Thread Cert.KvRopeIdeal.nD Cert.KvRopeIdeal.τ).loc Cert.KvRopeIdeal.main_v44) = v2 c
          ∧ r.2.mem ((c.tc : Thread Cert.KvRopeIdeal.nD Cert.KvRopeIdeal.τ).loc Cert.KvRopeIdeal.main_arg0) = m ((c.tc : Thread Cert.KvRopeIdeal.nD Cert.KvRopeIdeal.τ).loc Cert.KvRopeIdeal.main_arg0)
          ∧ r.2.mem ((c.tc : Thread Cert.KvRopeIdeal.nD Cert.KvRopeIdeal.τ).loc Cert.KvRopeIdeal.main_arg1) = m ((c.tc : Thread Cert.KvRopeIdeal.nD Cert.KvRopeIdeal.τ).loc Cert.KvRopeIdeal.main_arg1)
          ∧ r.2.mem ((c.tc : Thread Cert.KvRopeIdeal.nD Cert.KvRopeIdeal.τ).loc Cert.KvRopeIdeal.main_arg2) = m ((c.tc : Thread Cert.KvRopeIdeal.nD Cert.KvRopeIdeal.τ).loc Cert.KvRopeIdeal.main_arg2)
          ∧ r.2.mem ((c.tc : Thread Cert.KvRopeIdeal.nD Cert.KvRopeIdeal.τ).loc Cert.KvRopeIdeal.main_arg3) = m ((c.tc : Thread Cert.KvRopeIdeal.nD Cert.KvRopeIdeal.τ).loc Cert.KvRopeIdeal.main_arg3)
          ∧ r.2.mem ((c.tc : Thread Cert.KvRopeIdeal.nD Cert.KvRopeIdeal.τ).loc Cert.KvRopeIdeal.main_arg4) = m ((c.tc : Thread Cert.KvRopeIdeal.nD Cert.KvRopeIdeal.τ).loc Cert.KvRopeIdeal.main_arg4))
      ∧ θ_run (Cert.KvRopeRefIdeal.defs (F := Ideal)) (onTc (τ := Cert.KvRopeRefIdeal.τ) (Cert.KvRopeRefIdeal.main (F := Ideal))) ⟨m', fun _ => 0, g'⟩ (fun r => ∀ c : Dev Cert.KvRopeRefIdeal.nD,
          r.2.mem ((c.tc : Thread Cert.KvRopeRefIdeal.nD Cert.KvRopeRefIdeal.τ).loc Cert.KvRopeRefIdeal.main_v52) = v0 c
          ∧ r.2.mem ((c.tc : Thread Cert.KvRopeRefIdeal.nD Cert.KvRopeRefIdeal.τ).loc Cert.KvRopeRefIdeal.main_v51) = v1 c
          ∧ r.2.mem ((c.tc : Thread Cert.KvRopeRefIdeal.nD Cert.KvRopeRefIdeal.τ).loc Cert.KvRopeRefIdeal.main_v54) = v2 c
          ∧ r.2.mem ((c.tc : Thread Cert.KvRopeRefIdeal.nD Cert.KvRopeRefIdeal.τ).loc Cert.KvRopeRefIdeal.main_arg0) = m' ((c.tc : Thread Cert.KvRopeRefIdeal.nD Cert.KvRopeRefIdeal.τ).loc Cert.KvRopeRefIdeal.main_arg0)
          ∧ r.2.mem ((c.tc : Thread Cert.KvRopeRefIdeal.nD Cert.KvRopeRefIdeal.τ).loc Cert.KvRopeRefIdeal.main_arg1) = m' ((c.tc : Thread Cert.KvRopeRefIdeal.nD Cert.KvRopeRefIdeal.τ).loc Cert.KvRopeRefIdeal.main_arg1)
          ∧ r.2.mem ((c.tc : Thread Cert.KvRopeRefIdeal.nD Cert.KvRopeRefIdeal.τ).loc Cert.KvRopeRefIdeal.main_arg2) = m' ((c.tc : Thread Cert.KvRopeRefIdeal.nD Cert.KvRopeRefIdeal.τ).loc Cert.KvRopeRefIdeal.main_arg2)
          ∧ r.2.mem ((c.tc : Thread Cert.KvRopeRefIdeal.nD Cert.KvRopeRefIdeal.τ).loc Cert.KvRopeRefIdeal.main_arg3) = m' ((c.tc : Thread Cert.KvRopeRefIdeal.nD Cert.KvRopeRefIdeal.τ).loc Cert.KvRopeRefIdeal.main_arg3)
          ∧ r.2.mem ((c.tc : Thread Cert.KvRopeRefIdeal.nD Cert.KvRopeRefIdeal.τ).loc Cert.KvRopeRefIdeal.main_arg4) = m' ((c.tc : Thread Cert.KvRopeRefIdeal.nD Cert.KvRopeRefIdeal.τ).loc Cert.KvRopeRefIdeal.main_arg4))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v9_0)) (v1 : (c : Dev Cert.MemoryIdeal.nD) → Buf (Elt Ideal) ((c.tc : Thread Cert.MemoryIdeal.nD Cert.MemoryIdeal.τ).loc Cert.MemoryIdeal.main_v9_1)) (v2 : (c : Dev Cert.MemoryIdeal.nD) → Buf (Elt Ideal) ((c.tc : Thread Cert.MemoryIdeal.nD Cert.MemoryIdeal.τ).loc Cert.MemoryIdeal.main_v9_2)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v9_0) = v0 c
          ∧ r.2.mem ((c.tc : Thread Cert.MemoryIdeal.nD Cert.MemoryIdeal.τ).loc Cert.MemoryIdeal.main_v9_1) = v1 c
          ∧ r.2.mem ((c.tc : Thread Cert.MemoryIdeal.nD Cert.MemoryIdeal.τ).loc Cert.MemoryIdeal.main_v9_2) = v2 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v66) = v0 c
          ∧ r.2.mem ((c.tc : Thread Cert.MemoryRefIdeal.nD Cert.MemoryRefIdeal.τ).loc Cert.MemoryRefIdeal.main_v64) = v1 c
          ∧ r.2.mem ((c.tc : Thread Cert.MemoryRefIdeal.nD Cert.MemoryRefIdeal.τ).loc Cert.MemoryRefIdeal.main_v63) = v2 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_Gates_GatesIdeal : Prop :=
  True

def algebraic_GatesIdeal_GatesRefIdeal_pre_finite_gates [hGatesIdeal : Cert.GatesIdeal.Facts] [hGatesRefIdeal : Cert.GatesRefIdeal.Facts] [hPre_finite_gates : Cert.Pre_finite_gates.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_finite_gates m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v10_0)) (v1 : (c : Dev Cert.GatesIdeal.nD) → Buf (Elt Ideal) ((c.tc : Thread Cert.GatesIdeal.nD Cert.GatesIdeal.τ).loc Cert.GatesIdeal.main_v10_1)) (v2 : (c : Dev Cert.GatesIdeal.nD) → Buf (Elt Ideal) ((c.tc : Thread Cert.GatesIdeal.nD Cert.GatesIdeal.τ).loc Cert.GatesIdeal.main_v10_2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v10_0) = v0 c
          ∧ r.2.mem ((c.tc : Thread Cert.GatesIdeal.nD Cert.GatesIdeal.τ).loc Cert.GatesIdeal.main_v10_1) = v1 c
          ∧ r.2.mem ((c.tc : Thread Cert.GatesIdeal.nD Cert.GatesIdeal.τ).loc Cert.GatesIdeal.main_v10_2) = v2 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v40) = v0 c
          ∧ r.2.mem ((c.tc : Thread Cert.GatesRefIdeal.nD Cert.GatesRefIdeal.τ).loc Cert.GatesRefIdeal.main_v42) = v1 c
          ∧ r.2.mem ((c.tc : Thread Cert.GatesRefIdeal.nD Cert.GatesRefIdeal.τ).loc Cert.GatesRefIdeal.main_v44) = v2 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3))

def Claim : Prop :=
  ∃ (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hConv : Cert.Conv.Facts) (hConvIdeal : Cert.ConvIdeal.Facts) (hConvRefIdeal : Cert.ConvRefIdeal.Facts) (hAtt : Cert.Att.Facts) (hAttIdeal : Cert.AttIdeal.Facts) (hAttRefIdeal : Cert.AttRefIdeal.Facts) (hNorm : Cert.Norm.Facts) (hNormIdeal : Cert.NormIdeal.Facts) (hNormRefIdeal : Cert.NormRefIdeal.Facts) (hQNorm : Cert.QNorm.Facts) (hQNormIdeal : Cert.QNormIdeal.Facts) (hQNormRefIdeal : Cert.QNormRefIdeal.Facts) (hMemNorm : Cert.MemNorm.Facts) (hMemNormIdeal : Cert.MemNormIdeal.Facts) (hMemNormRefIdeal : Cert.MemNormRefIdeal.Facts) (hOutNorm : Cert.OutNorm.Facts) (hOutNormIdeal : Cert.OutNormIdeal.Facts) (hOutNormRefIdeal : Cert.OutNormRefIdeal.Facts) (hLoss : Cert.Loss.Facts) (hLossIdeal : Cert.LossIdeal.Facts) (hLossRefIdeal : Cert.LossRefIdeal.Facts) (hPrep : Cert.Prep.Facts) (hPrepIdeal : Cert.PrepIdeal.Facts) (hPrepRefIdeal : Cert.PrepRefIdeal.Facts) (hRope : Cert.Rope.Facts) (hRopeIdeal : Cert.RopeIdeal.Facts) (hRopeRefIdeal : Cert.RopeRefIdeal.Facts) (hKvRope : Cert.KvRope.Facts) (hKvRopeIdeal : Cert.KvRopeIdeal.Facts) (hKvRopeRefIdeal : Cert.KvRopeRefIdeal.Facts) (hMemory : Cert.Memory.Facts) (hMemoryIdeal : Cert.MemoryIdeal.Facts) (hMemoryRefIdeal : Cert.MemoryRefIdeal.Facts) (hGates : Cert.Gates.Facts) (hGatesIdeal : Cert.GatesIdeal.Facts) (hGatesRefIdeal : Cert.GatesRefIdeal.Facts) (hPre_finite_gate : Cert.Pre_finite_gate.Facts) (hPre_finite_att : Cert.Pre_finite_att.Facts) (hPre_finite_kvrope : Cert.Pre_finite_kvrope.Facts) (hPre_finite_gates : Cert.Pre_finite_gates.Facts),
    quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Down (hDown := hDown)
    ∧ quiescent_DownIdeal (hDownIdeal := hDownIdeal)
    ∧ quiescent_DownRefIdeal (hDownRefIdeal := hDownRefIdeal)
    ∧ quiescent_Conv (hConv := hConv)
    ∧ quiescent_ConvIdeal (hConvIdeal := hConvIdeal)
    ∧ quiescent_ConvRefIdeal (hConvRefIdeal := hConvRefIdeal)
    ∧ quiescent_Att (hAtt := hAtt)
    ∧ quiescent_AttIdeal (hAttIdeal := hAttIdeal)
    ∧ quiescent_AttIdeal_pre_finite_att (hAttIdeal := hAttIdeal) (hPre_finite_att := hPre_finite_att)
    ∧ quiescent_AttRefIdeal (hAttRefIdeal := hAttRefIdeal)
    ∧ quiescent_AttRefIdeal_pre_finite_att (hAttRefIdeal := hAttRefIdeal) (hPre_finite_att := hPre_finite_att)
    ∧ quiescent_Norm (hNorm := hNorm)
    ∧ quiescent_NormIdeal (hNormIdeal := hNormIdeal)
    ∧ quiescent_NormRefIdeal (hNormRefIdeal := hNormRefIdeal)
    ∧ quiescent_QNorm (hQNorm := hQNorm)
    ∧ quiescent_QNormIdeal (hQNormIdeal := hQNormIdeal)
    ∧ quiescent_QNormRefIdeal (hQNormRefIdeal := hQNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_OutNorm (hOutNorm := hOutNorm)
    ∧ quiescent_OutNormIdeal (hOutNormIdeal := hOutNormIdeal)
    ∧ quiescent_OutNormRefIdeal (hOutNormRefIdeal := hOutNormRefIdeal)
    ∧ quiescent_Loss (hLoss := hLoss)
    ∧ quiescent_LossIdeal (hLossIdeal := hLossIdeal)
    ∧ quiescent_LossRefIdeal (hLossRefIdeal := hLossRefIdeal)
    ∧ quiescent_Prep (hPrep := hPrep)
    ∧ quiescent_PrepIdeal (hPrepIdeal := hPrepIdeal)
    ∧ quiescent_PrepRefIdeal (hPrepRefIdeal := hPrepRefIdeal)
    ∧ quiescent_Rope (hRope := hRope)
    ∧ quiescent_RopeIdeal (hRopeIdeal := hRopeIdeal)
    ∧ quiescent_RopeRefIdeal (hRopeRefIdeal := hRopeRefIdeal)
    ∧ quiescent_KvRope (hKvRope := hKvRope)
    ∧ quiescent_KvRopeIdeal (hKvRopeIdeal := hKvRopeIdeal)
    ∧ quiescent_KvRopeIdeal_pre_finite_kvrope (hKvRopeIdeal := hKvRopeIdeal) (hPre_finite_kvrope := hPre_finite_kvrope)
    ∧ quiescent_KvRopeRefIdeal (hKvRopeRefIdeal := hKvRopeRefIdeal)
    ∧ quiescent_KvRopeRefIdeal_pre_finite_kvrope (hKvRopeRefIdeal := hKvRopeRefIdeal) (hPre_finite_kvrope := hPre_finite_kvrope)
    ∧ quiescent_Memory (hMemory := hMemory)
    ∧ quiescent_MemoryIdeal (hMemoryIdeal := hMemoryIdeal)
    ∧ quiescent_MemoryRefIdeal (hMemoryRefIdeal := hMemoryRefIdeal)
    ∧ quiescent_Gates (hGates := hGates)
    ∧ quiescent_GatesIdeal (hGatesIdeal := hGatesIdeal)
    ∧ quiescent_GatesIdeal_pre_finite_gates (hGatesIdeal := hGatesIdeal) (hPre_finite_gates := hPre_finite_gates)
    ∧ quiescent_GatesRefIdeal (hGatesRefIdeal := hGatesRefIdeal)
    ∧ quiescent_GatesRefIdeal_pre_finite_gates (hGatesRefIdeal := hGatesRefIdeal) (hPre_finite_gates := hPre_finite_gates)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Down_DownIdeal
    ∧ algebraic_DownIdeal_DownRefIdeal (hDownIdeal := hDownIdeal) (hDownRefIdeal := hDownRefIdeal)
    ∧ preserves_Conv_ConvIdeal
    ∧ algebraic_ConvIdeal_ConvRefIdeal (hConvIdeal := hConvIdeal) (hConvRefIdeal := hConvRefIdeal)
    ∧ preserves_Att_AttIdeal
    ∧ algebraic_AttIdeal_AttRefIdeal_pre_finite_att (hAttIdeal := hAttIdeal) (hAttRefIdeal := hAttRefIdeal) (hPre_finite_att := hPre_finite_att)
    ∧ preserves_Norm_NormIdeal
    ∧ algebraic_NormIdeal_NormRefIdeal (hNormIdeal := hNormIdeal) (hNormRefIdeal := hNormRefIdeal)
    ∧ preserves_QNorm_QNormIdeal
    ∧ algebraic_QNormIdeal_QNormRefIdeal (hQNormIdeal := hQNormIdeal) (hQNormRefIdeal := hQNormRefIdeal)
    ∧ preserves_MemNorm_MemNormIdeal
    ∧ algebraic_MemNormIdeal_MemNormRefIdeal (hMemNormIdeal := hMemNormIdeal) (hMemNormRefIdeal := hMemNormRefIdeal)
    ∧ preserves_OutNorm_OutNormIdeal
    ∧ algebraic_OutNormIdeal_OutNormRefIdeal (hOutNormIdeal := hOutNormIdeal) (hOutNormRefIdeal := hOutNormRefIdeal)
    ∧ preserves_Loss_LossIdeal
    ∧ algebraic_LossIdeal_LossRefIdeal (hLossIdeal := hLossIdeal) (hLossRefIdeal := hLossRefIdeal)
    ∧ preserves_Prep_PrepIdeal
    ∧ algebraic_PrepIdeal_PrepRefIdeal (hPrepIdeal := hPrepIdeal) (hPrepRefIdeal := hPrepRefIdeal)
    ∧ preserves_Rope_RopeIdeal
    ∧ algebraic_RopeIdeal_RopeRefIdeal (hRopeIdeal := hRopeIdeal) (hRopeRefIdeal := hRopeRefIdeal)
    ∧ preserves_KvRope_KvRopeIdeal
    ∧ algebraic_KvRopeIdeal_KvRopeRefIdeal_pre_finite_kvrope (hKvRopeIdeal := hKvRopeIdeal) (hKvRopeRefIdeal := hKvRopeRefIdeal) (hPre_finite_kvrope := hPre_finite_kvrope)
    ∧ preserves_Memory_MemoryIdeal
    ∧ algebraic_MemoryIdeal_MemoryRefIdeal (hMemoryIdeal := hMemoryIdeal) (hMemoryRefIdeal := hMemoryRefIdeal)
    ∧ preserves_Gates_GatesIdeal
    ∧ algebraic_GatesIdeal_GatesRefIdeal_pre_finite_gates (hGatesIdeal := hGatesIdeal) (hGatesRefIdeal := hGatesRefIdeal) (hPre_finite_gates := hPre_finite_gates)
-- ==== Pre_finite_att.lean ====
abbrev S16384x6x128 : Shape := ⟨3, ![16384, 6, 128]⟩
abbrev S16384x6x64 : Shape := ⟨3, ![16384, 6, 64]⟩
abbrev S16384x64 : Shape := ⟨2, ![16384, 64]⟩
abbrev S16384x768 : Shape := ⟨2, ![16384, 768]⟩
abbrev S_ : Shape := ⟨0, ![]⟩

class Facts : Prop where
  bcast_S_S16384x6x128 : S_.BroadcastsInDim S16384x6x128 (![] : Fin 0 → Fin S16384x6x128.rank)
  reducesTo_S16384x6x128_S_d0_1_2 : S16384x6x128.ReducesTo [0, 1, 2] S_
  h_S_ : 0 < S_.numel
  bcast_S_S16384x6x64 : S_.BroadcastsInDim S16384x6x64 (![] : Fin 0 → Fin S16384x6x64.rank)
  reducesTo_S16384x6x64_S_d0_1_2 : S16384x6x64.ReducesTo [0, 1, 2] S_
  bcast_S_S16384x64 : S_.BroadcastsInDim S16384x64 (![] : Fin 0 → Fin S16384x64.rank)
  reducesTo_S16384x64_S_d0_1 : S16384x64.ReducesTo [0, 1] S_
  bcast_S_S16384x768 : S_.BroadcastsInDim S16384x768 (![] : Fin 0 → Fin S16384x768.rank)
  reducesTo_S16384x768_S_d0_1 : S16384x768.ReducesTo [0, 1] S_

variable [Facts]

def fn_part1 {F : FTy → Type} [FloatOps F] (main_arg4 : FVec F S16384x6x128 .f32) (main_arg5 : FVec F S16384x768 .f32) (main_v13 : IVec S_ 1) (main_v16 : IVec S16384x64 1) : IVec S_ 1 :=
  let main_c_5 : IVec S_ 1 := constantI S_ 1 1#1
  let main_v17 : IVec S_ 1 := (fun x v => Host.reduce IntOp.andi x v reducesTo_S16384x64_S_d0_1 h_S_) main_v16 main_c_5
  let main_v18 : IVec S_ 1 := andi main_v13 main_v17
  let main_v19 : FVec F S16384x6x128 .f32 := Host.absf main_arg4
  let main_cst_6 : FVec F S_ .f32 := constant S_ .f32 0x7F800000#32
  let main_v20 : FVec F S16384x6x128 .f32 := broadcastInDim S16384x6x128 ![] bcast_S_S16384x6x128 main_cst_6
  let main_v21 : IVec S16384x6x128 1 := cmpf .olt main_v19 main_v20
  let main_c_7 : IVec S_ 1 := constantI S_ 1 1#1
  let main_v22 : IVec S_ 1 := (fun x v => Host.reduce IntOp.andi x v reducesTo_S16384x6x128_S_d0_1_2 h_S_) main_v21 main_c_7
  let main_v23 : IVec S_ 1 := andi main_v18 main_v22
  let main_v24 : FVec F S16384x768 .f32 := Host.absf main_arg5
  let main_cst_8 : FVec F S_ .f32 := constant S_ .f32 0x7F800000#32
  let main_v25 : FVec F S16384x768 .f32 := broadcastInDim S16384x768 ![] bcast_S_S16384x768 main_cst_8
  let main_v26 : IVec S16384x768 1 := cmpf .olt main_v24 main_v25
  let main_c_9 : IVec S_ 1 := constantI S_ 1 1#1
  let main_v27 : IVec S_ 1 := (fun x v => Host.reduce IntOp.andi x v reducesTo_S16384x768_S_d0_1 h_S_) main_v26 main_c_9
  let main_v28 : IVec S_ 1 := andi main_v23 main_v27
  main_v28

def fn {F : FTy → Type} [FloatOps F] (main_arg0 : FVec F S16384x6x128 .f32) (main_arg1 : FVec F S16384x6x64 .f32) (main_arg2 : FVec F S16384x6x128 .f32) (main_arg3 : FVec F S16384x64 .f32) (main_arg4 : FVec F S16384x6x128 .f32) (main_arg5 : FVec F S16384x768 .f32) : IVec S_ 1 :=
  let main_v0 : FVec F S16384x6x128 .f32 := Host.absf main_arg0
  let main_cst : FVec F S_ .f32 := constant S_ .f32 0x7F800000#32
  let main_v1 : FVec F S16384x6x128 .f32 := broadcastInDim S16384x6x128 ![] bcast_S_S16384x6x128 main_cst
  let main_v2 : IVec S16384x6x128 1 := cmpf .olt main_v0 main_v1
  let main_c : IVec S_ 1 := constantI S_ 1 1#1
  let main_v3 : IVec S_ 1 := (fun x v => Host.reduce IntOp.andi x v reducesTo_S16384x6x128_S_d0_1_2 h_S_) main_v2 main_c
  let main_v4 : FVec F S16384x6x64 .f32 := Host.absf main_arg1
  let main_cst_0 : FVec F S_ .f32 := constant S_ .f32 0x7F800000#32
  let main_v5 : FVec F S16384x6x64 .f32 := broadcastInDim S16384x6x64 ![] bcast_S_S16384x6x64 main_cst_0
  let main_v6 : IVec S16384x6x64 1 := cmpf .olt main_v4 main_v5
  let main_c_1 : IVec S_ 1 := constantI S_ 1 1#1
  let main_v7 : IVec S_ 1 := (fun x v => Host.reduce IntOp.andi x v reducesTo_S16384x6x64_S_d0_1_2 h_S_) main_v6 main_c_1
  let main_v8 : IVec S_ 1 := andi main_v3 main_v7
  let main_v9 : FVec F S16384x6x128 .f32 := Host.absf main_arg2
  let main_cst_2 : FVec F S_ .f32 := constant S_ .f32 0x7F800000#32
  let main_v10 : FVec F S16384x6x128 .f32 := broadcastInDim S16384x6x128 ![] bcast_S_S16384x6x128 main_cst_2
  let main_v11 : IVec S16384x6x128 1 := cmpf .olt main_v9 main_v10
  let main_c_3 : IVec S_ 1 := constantI S_ 1 1#1
  let main_v12 : IVec S_ 1 := (fun x v => Host.reduce IntOp.andi x v reducesTo_S16384x6x128_S_d0_1_2 h_S_) main_v11 main_c_3
  let main_v13 : IVec S_ 1 := andi main_v8 main_v12
  let main_v14 : FVec F S16384x64 .f32 := Host.absf main_arg3
  let main_cst_4 : FVec F S_ .f32 := constant S_ .f32 0x7F800000#32
  let main_v15 : FVec F S16384x64 .f32 := broadcastInDim S16384x64 ![] bcast_S_S16384x64 main_cst_4
  let main_v16 : IVec S16384x64 1 := cmpf .olt main_v14 main_v15
  fn_part1 (F := F) main_arg4 main_arg5 main_v13 main_v16
-- ==== Pre_finite_gate.lean ====
abbrev S16384x5632 : Shape := ⟨2, ![16384, 5632]⟩
abbrev S2816x1024 : Shape := ⟨2, ![2816, 1024]⟩
abbrev S16384x1024 : Shape := ⟨2, ![16384, 1024]⟩
abbrev S_ : Shape := ⟨0, ![]⟩

class Facts : Prop where
  bcast_S_S16384x5632 : S_.BroadcastsInDim S16384x5632 (![] : Fin 0 → Fin S16384x5632.rank)
  reducesTo_S16384x5632_S_d0_1 : S16384x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S16384x5632 .f32) (main_arg1 : FVec F S2816x1024 .f32) (main_arg2 : FVec F S16384x1024 .f32) : IVec S_ 1 :=
  let main_v0 : FVec F S16384x5632 .f32 := Host.absf main_arg0
  let main_cst : FVec F S_ .f32 := constant S_ .f32 0x7F800000#32
  let main_v1 : FVec F S16384x5632 .f32 := broadcastInDim S16384x5632 ![] bcast_S_S16384x5632 main_cst
  let main_v2 : IVec S16384x5632 1 := cmpf .olt main_v0 main_v1
  let main_c : IVec S_ 1 := constantI S_ 1 1#1
  let main_v3 : IVec S_ 1 := (fun x v => Host.reduce IntOp.andi x v reducesTo_S16384x5632_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Pre_finite_gates.lean ====
abbrev S16384x3340 : Shape := ⟨2, ![16384, 3340]⟩
abbrev S6 : Shape := ⟨1, ![6]⟩
abbrev S6x16384x128 : Shape := ⟨3, ![6, 16384, 128]⟩
abbrev S16384x6 : Shape := ⟨2, ![16384, 6]⟩
abbrev S1x6 : Shape := ⟨2, ![1, 6]⟩
abbrev S_ : Shape := ⟨0, ![]⟩

class Facts : Prop where
  slices_S16384x3340_S16384x6_0_3078 : S16384x3340.Slices ![0, 3078] S16384x6
  bcast_S6_S1x6_1 : S6.BroadcastsInDim S1x6 (![1] : Fin 1 → Fin S1x6.rank)
  bcast_S1x6_S16384x6_0_1 : S1x6.BroadcastsInDim S16384x6 (![0, 1] : Fin 2 → Fin S16384x6.rank)
  bcast_S_S16384x6 : S_.BroadcastsInDim S16384x6 (![] : Fin 0 → Fin S16384x6.rank)
  reducesTo_S16384x6_S_d0_1 : S16384x6.ReducesTo [0, 1] S_
  h_S_ : 0 < S_.numel
  bcast_S_S6 : S_.BroadcastsInDim S6 (![] : Fin 0 → Fin S6.rank)
  reducesTo_S6_S_d0 : S6.ReducesTo [0] S_
  bcast_S_S6x16384x128 : S_.BroadcastsInDim S6x16384x128 (![] : Fin 0 → Fin S6x16384x128.rank)
  reducesTo_S6x16384x128_S_d0_1_2 : S6x16384x128.ReducesTo [0, 1, 2] S_

variable [Facts]

def fn_part1 {F : FTy → Type} [FloatOps F] (main_arg3 : FVec F S6x16384x128 .f32) (main_v3 : FVec F S16384x6 .f32) (main_v17 : IVec S_ 1) : IVec S_ 1 :=
  let main_v18 : FVec F S6x16384x128 .f32 := Host.absf main_arg3
  let main_cst_4 : FVec F S_ .f32 := constant S_ .f32 0x7F800000#32
  let main_v19 : FVec F S6x16384x128 .f32 := broadcastInDim S6x16384x128 ![] bcast_S_S6x16384x128 main_cst_4
  let main_v20 : IVec S6x16384x128 1 := cmpf .olt main_v18 main_v19
  let main_c_5 : IVec S_ 1 := constantI S_ 1 1#1
  let main_v21 : IVec S_ 1 := (fun x v => Host.reduce IntOp.andi x v reducesTo_S6x16384x128_S_d0_1_2 h_S_) main_v20 main_c_5
  let main_v22 : IVec S_ 1 := andi main_v17 main_v21
  let main_cst_6 : FVec F S_ .f32 := constant S_ .f32 0x00000000#32
  let main_v23 : FVec F S16384x6 .f32 := broadcastInDim S16384x6 ![] bcast_S_S16384x6 main_cst_6
  let main_v24 : IVec S16384x6 1 := cmpf .une main_v3 main_v23
  let main_c_7 : IVec S_ 1 := constantI S_ 1 1#1
  let main_v25 : IVec S_ 1 := (fun x v => Host.reduce IntOp.andi x v reducesTo_S16384x6_S_d0_1 h_S_) main_v24 main_c_7
  let main_v26 : IVec S_ 1 := andi main_v22 main_v25
  main_v26

def fn {F : FTy → Type} [FloatOps F] (main_arg0 : FVec F S16384x3340 .f32) (main_arg1 : FVec F S6 .f32) (main_arg2 : FVec F S6 .f32) (main_arg3 : FVec F S6x16384x128 .f32) : IVec S_ 1 :=
  let main_v0 : FVec F S16384x6 .f32 := (extractStridedSlice S16384x6 ![0, 3078] · slices_S16384x3340_S16384x6_0_3078) main_arg0
  let main_v1 : FVec F S1x6 .f32 := broadcastInDim S1x6 ![1] bcast_S6_S1x6_1 main_arg2
  let main_v2 : FVec F S16384x6 .f32 := broadcastInDim S16384x6 ![0, 1] bcast_S1x6_S16384x6_0_1 main_v1
  let main_v3 : FVec F S16384x6 .f32 := addf main_v0 main_v2
  let main_v4 : FVec F S16384x6 .f32 := Host.absf main_v0
  let main_cst : FVec F S_ .f32 := constant S_ .f32 0x7F800000#32
  let main_v5 : FVec F S16384x6 .f32 := broadcastInDim S16384x6 ![] bcast_S_S16384x6 main_cst
  let main_v6 : IVec S16384x6 1 := cmpf .olt main_v4 main_v5
  let main_c : IVec S_ 1 := constantI S_ 1 1#1
  let main_v7 : IVec S_ 1 := (fun x v => Host.reduce IntOp.andi x v reducesTo_S16384x6_S_d0_1 h_S_) main_v6 main_c
  let main_v8 : FVec F S6 .f32 := Host.absf main_arg1
  let main_cst_0 : FVec F S_ .f32 := constant S_ .f32 0x7F800000#32
  let main_v9 : FVec F S6 .f32 := broadcastInDim S6 ![] bcast_S_S6 main_cst_0
  let main_v10 : IVec S6 1 := cmpf .olt main_v8 main_v9
  let main_c_1 : IVec S_ 1 := constantI S_ 1 1#1
  let main_v11 : IVec S_ 1 := (fun x v => Host.reduce IntOp.andi x v reducesTo_S6_S_d0 h_S_) main_v10 main_c_1
  let main_v12 : IVec S_ 1 := andi main_v7 main_v11
  let main_v13 : FVec F S6 .f32 := Host.absf main_arg2
  let main_cst_2 : FVec F S_ .f32 := constant S_ .f32 0x7F800000#32
  let main_v14 : FVec F S6 .f32 := broadcastInDim S6 ![] bcast_S_S6 main_cst_2
  let main_v15 : IVec S6 1 := cmpf .olt main_v13 main_v14
  let main_c_3 : IVec S_ 1 := constantI S_ 1 1#1
  let main_v16 : IVec S_ 1 := (fun x v => Host.reduce IntOp.andi x v reducesTo_S6_S_d0 h_S_) main_v15 main_c_3
  let main_v17 : IVec S_ 1 := andi main_v12 main_v16
  fn_part1 (F := F) main_arg3 main_v3 main_v17
-- ==== Pre_finite_kvrope.lean ====
abbrev S16384 : Shape := ⟨1, ![16384]⟩
abbrev S16384x6x192 : Shape := ⟨3, ![16384, 6, 192]⟩
abbrev S16384x6x128 : Shape := ⟨3, ![16384, 6, 128]⟩
abbrev S_ : Shape := ⟨0, ![]⟩

class Facts : Prop where
  bcast_S_S16384x6x192 : S_.BroadcastsInDim S16384x6x192 (![] : Fin 0 → Fin S16384x6x192.rank)
  reducesTo_S16384x6x192_S_d0_1_2 : S16384x6x192.ReducesTo [0, 1, 2] S_
  h_S_ : 0 < S_.numel

variable [Facts]

def fn {F : FTy → Type} [FloatOps F] (main_arg0 : IVec S16384 32) (main_arg1 : FVec F S16384x6x192 .f32) (main_arg2 : FVec F S16384x6x192 .f32) (main_arg3 : FVec F S16384x6x128 .f32) (main_arg4 : FVec F S16384x6x128 .f32) : IVec S_ 1 :=
  let main_v0 : FVec F S16384x6x192 .f32 := Host.absf main_arg1
  let main_cst : FVec F S_ .f32 := constant S_ .f32 0x7F800000#32
  let main_v1 : FVec F S16384x6x192 .f32 := broadcastInDim S16384x6x192 ![] bcast_S_S16384x6x192 main_cst
  let main_v2 : IVec S16384x6x192 1 := cmpf .olt main_v0 main_v1
  let main_c : IVec S_ 1 := constantI S_ 1 1#1
  let main_v3 : IVec S_ 1 := (fun x v => Host.reduce IntOp.andi x v reducesTo_S16384x6x192_S_d0_1_2 h_S_) main_v2 main_c
  let main_v4 : FVec F S16384x6x192 .f32 := Host.absf main_arg2
  let main_cst_0 : FVec F S_ .f32 := constant S_ .f32 0x7F800000#32
  let main_v5 : FVec F S16384x6x192 .f32 := broadcastInDim S16384x6x192 ![] bcast_S_S16384x6x192 main_cst_0
  let main_v6 : IVec S16384x6x192 1 := cmpf .olt main_v4 main_v5
  let main_c_1 : IVec S_ 1 := constantI S_ 1 1#1
  let main_v7 : IVec S_ 1 := (fun x v => Host.reduce IntOp.andi x v reducesTo_S16384x6x192_S_d0_1_2 h_S_) main_v6 main_c_1
  let main_v8 : IVec S_ 1 := andi main_v3 main_v7
  main_v8
-- ==== Gate.lean ====
abbrev S16384x5632 : Shape := ⟨2, ![16384, 5632]⟩
abbrev S2816x1024 : Shape := ⟨2, ![2816, 1024]⟩
abbrev S16384x1024 : Shape := ⟨2, ![16384, 1024]⟩
abbrev S16384x2x4x704 : Shape := ⟨4, ![16384, 2, 4, 704]⟩
abbrev S2x4x16384x704 : Shape := ⟨4, ![2, 4, 16384, 704]⟩
abbrev S4x704x1024 : Shape := ⟨3, ![4, 704, 1024]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S1024x704 : Shape := ⟨2, ![1024, 704]⟩
abbrev S704x1024 : Shape := ⟨2, ![704, 1024]⟩
abbrev S2x1024x704 : Shape := ⟨3, ![2, 1024, 704]⟩
abbrev S1x1024x704 : Shape := ⟨3, ![1, 1024, 704]⟩

abbrev nBuf : Space → Nat
  | .hbm => 9
  | .vmem => 9
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S16384x1024, .f32⟩
  | .hbm, ⟨3, _⟩ => ⟨S16384x2x4x704, .f32⟩
  | .hbm, ⟨4, _⟩ => ⟨S2x4x16384x704, .f32⟩
  | .hbm, ⟨5, _⟩ => ⟨S2x4x16384x704, .bf16⟩
  | .hbm, ⟨6, _⟩ => ⟨S4x704x1024, .f32⟩
  | .hbm, ⟨7, _⟩ => ⟨S4x704x1024, .bf16⟩
  | .hbm, ⟨8, _⟩ => ⟨S2x4x16384x704, .bf16⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S1024x704, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateRefIdeal.lean ====
abbrev S16384x5632 : Shape := ⟨2, ![16384, 5632]⟩
abbrev S2816x1024 : Shape := ⟨2, ![2816, 1024]⟩
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S16384x2x4x704 : Shape := ⟨4, ![16384, 2, 4, 704]⟩
abbrev S2x4x16384x704 : Shape := ⟨4, ![2, 4, 16384, 704]⟩

abbrev nBuf : Space → Nat
  | .hbm => 39
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S16384x1024, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S1024x2816, .f32⟩
  | .hbm, ⟨27, _⟩ => ⟨S2816x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x5632, .f32⟩
  | .hbm, ⟨36, _⟩ => ⟨S16384x2x4x704, .f32⟩
  | .hbm, ⟨37, _⟩ => ⟨S2x4x16384x704, .f32⟩
  | .hbm, ⟨38, _⟩ => ⟨S2x4x16384x704, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Down.lean ====
abbrev S16384x5632 : Shape := ⟨2, ![16384, 5632]⟩
abbrev S2816x1024 : Shape := ⟨2, ![2816, 1024]⟩
abbrev S16384x1024 : Shape := ⟨2, ![16384, 1024]⟩
abbrev S16384x2x4x704 : Shape := ⟨4, ![16384, 2, 4, 704]⟩
abbrev S2x4x16384x704 : Shape := ⟨4, ![2, 4, 16384, 704]⟩
abbrev S4x704x1024 : Shape := ⟨3, ![4, 704, 1024]⟩
abbrev S2x1x2048x704 : Shape := ⟨4, ![2, 1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2x1x512x704 : Shape := ⟨4, ![2, 1, 512, 704]⟩
abbrev S2x512x704 : Shape := ⟨3, ![2, 512, 704]⟩
abbrev S1x512x704 : Shape := ⟨3, ![1, 512, 704]⟩
abbrev S512x704 : Shape := ⟨2, ![512, 704]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S16384x1024, .f32⟩
  | .hbm, ⟨3, _⟩ => ⟨S16384x2x4x704, .f32⟩
  | .hbm, ⟨4, _⟩ => ⟨S2x4x16384x704, .f32⟩
  | .hbm, ⟨5, _⟩ => ⟨S2x4x16384x704, .bf16⟩
  | .hbm, ⟨6, _⟩ => ⟨S4x704x1024, .f32⟩
  | .local _ .vmem, ⟨0, _⟩ => ⟨S2x1x2048x704, .bf16⟩
  | .local _ .vmem, ⟨1, _⟩ => ⟨S2x1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .f32⟩
  | .local _ .vmem, ⟨5, _⟩ => ⟨S1x704x1024, .f32⟩
  | .local _ .vmem, ⟨6, _⟩ => ⟨S704x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v83 : BitVec 1 := Scalar.cmpi .eq arg2 c7_i32
  let v84 : BitVec 32 := Scalar.extui v83
  let c0_i32_40 : BitVec 32 := 0#32
  let v85 : BitVec 1 := Scalar.cmpi .ne v84 c0_i32_40
  v85

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownRefIdeal.lean ====
abbrev S16384x5632 : Shape := ⟨2, ![16384, 5632]⟩
abbrev S2816x1024 : Shape := ⟨2, ![2816, 1024]⟩
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S4x704x1024 : Shape := ⟨3, ![4, 704, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S16384x1024, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S1024x2816, .f32⟩
  | .hbm, ⟨27, _⟩ => ⟨S2816x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x5632, .f32⟩
  | .hbm, ⟨36, _⟩ => ⟨S4x704x1024, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Conv.lean ====
abbrev S16384x3340 : Shape := ⟨2, ![16384, 3340]⟩
abbrev S4x2304 : Shape := ⟨2, ![4, 2304]⟩
abbrev S16384x2304 : Shape := ⟨2, ![16384, 2304]⟩
abbrev S16384x12 : Shape := ⟨2, ![16384, 12]⟩
abbrev S_ : Shape := ⟨0, ![]⟩
abbrev S16384x128 : Shape := ⟨2, ![16384, 128]⟩
abbrev S16384x3072 : Shape := ⟨2, ![16384, 3072]⟩
abbrev S16384x256 : Shape := ⟨2, ![16384, 256]⟩
abbrev S16384x3456 : Shape := ⟨2, ![16384, 3456]⟩
abbrev S16384x3x768 : Shape := ⟨3, ![16384, 3, 768]⟩
abbrev S3x16384x768 : Shape := ⟨3, ![3, 16384, 768]⟩
abbrev S8x768 : Shape := ⟨2, ![8, 768]⟩
abbrev S1024x768 : Shape := ⟨2, ![1024, 768]⟩
abbrev S1x1024x768 : Shape := ⟨3, ![1, 1024, 768]⟩
abbrev S1x8x768 : Shape := ⟨3, ![1, 8, 768]⟩
abbrev S4x768 : Shape := ⟨2, ![4, 768]⟩
abbrev S1032x768 : Shape := ⟨2, ![1032, 768]⟩
abbrev S1x768 : Shape := ⟨2, ![1, 768]⟩
abbrev S768 : Shape := ⟨1, ![768]⟩

abbrev nBuf : Space → Nat
  | .hbm => 16
  | .vmem => 14
  | .smem => 0
  | _ => 0

abbrev bufTy : (tb : Table) → Fin (tcTables nBuf tb) → BufTy
  | .hbm, ⟨0, _⟩ => ⟨S16384x3340, .f32⟩
  | .hbm, ⟨1, _⟩ => ⟨S4x2304, .f32⟩
  | .hbm, ⟨2, _⟩ => ⟨S16384x2304, .f32⟩
  | .hbm, ⟨3, _⟩ => ⟨S16384x12, .f32⟩
  | .hbm, ⟨4, _⟩ => ⟨S_, .i32⟩
  | .hbm, ⟨5, _⟩ => ⟨S_, .f32⟩
  | .hbm, ⟨6, _⟩ => ⟨S16384x128, .f32⟩
  | .hbm, ⟨7, _⟩ => ⟨S16384x3072, .f32⟩
  | .hbm, ⟨8, _⟩ => ⟨S16384x256, .f32⟩
  | .hbm, ⟨9, _⟩ => ⟨S16384x3456, .f32⟩
  | .hbm, ⟨10, _⟩ => ⟨S16384x3456, .bf16⟩
  | .hbm, ⟨11, _⟩ => ⟨S16384x3x768, .f32⟩
  | .hbm, ⟨12, _⟩ => ⟨S3x16384x768, .f32⟩
  | .hbm, ⟨13, _⟩ => ⟨S3x16384x768, .bf16⟩
  | .hbm, ⟨14, _⟩ => ⟨S16384x2304, .bf16⟩
  | .hbm, ⟨15, _⟩ => ⟨S4x2304, .f32⟩
  | .local _ .vmem, ⟨0, _⟩ => ⟨S8x768, .bf16⟩
  | .local _ .vmem, ⟨1, _⟩ => ⟨S8x768, .bf16⟩
  | .local _ .vmem, ⟨2, _⟩ => ⟨S1024x768, .bf16⟩
  | .local _ .vmem, ⟨3, _⟩ => ⟨S1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x8x768, .bf16⟩
  | .local _ .vmem, ⟨7, _⟩ => ⟨S1x8x768, .bf16⟩
  | .local _ .vmem, ⟨8, _⟩ => ⟨S4x768, .f32⟩
  | .local _ .vmem, ⟨9, _⟩ => ⟨S4x768, .f32⟩
  | .local _ .vmem, ⟨10, _⟩ => ⟨S1024x768, .bf16⟩
  | .local _ .vmem, ⟨11, _⟩ => ⟨S1024x768, .bf16⟩
  | .local _ .vmem, ⟨12, _⟩ => ⟨S4x768, .f32⟩
  | .local _ .vmem, ⟨13, _⟩ => ⟨S4x768, .f32⟩
  | _, _ => ⟨S16384x3340, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvRefIdeal.lean ====
abbrev S16384x3340 : Shape := ⟨2, ![16384, 3340]⟩
abbrev S4x2304 : Shape := ⟨2, ![4, 2304]⟩
abbrev S16384x2304 : Shape := ⟨2, ![16384, 2304]⟩
abbrev S16384x1036 : Shape := ⟨2, ![16384, 1036]⟩
abbrev S_ : Shape := ⟨0, ![]⟩
abbrev S3x2304 : Shape := ⟨2, ![3, 2304]⟩
abbrev S16387x2304 : Shape := ⟨2, ![16387, 2304]⟩
abbrev S1x2304 : Shape := ⟨2, ![1, 2304]⟩
abbrev S2304 : Shape := ⟨1, ![2304]⟩

abbrev nBuf : Space → Nat
  | .hbm => 103
  | .vmem => 0
  | .smem => 0
  | _ => 0

abbrev bufTy : (tb : Table) → Fin (tcTables nBuf tb) → BufTy
  | .hbm, ⟨0, _⟩ => ⟨S16384x3340, .f32⟩
  | .hbm, ⟨1, _⟩ => ⟨S4x2304, .f32⟩
  | .hbm, ⟨2, _⟩ => ⟨S16384x2304, .f32⟩
  | .hbm, ⟨3, _⟩ => ⟨S16384x2304, .f32⟩
  | .hbm, ⟨4, _⟩ => ⟨S16384x1036, .f32⟩
  | .hbm, ⟨5, _⟩ => ⟨S_, .f32⟩
  | .hbm, ⟨6, _⟩ => ⟨S3x2304, .f32⟩
  | .hbm, ⟨7, _⟩ => ⟨S16387x2304, .f32⟩
  | .hbm, ⟨8, _⟩ => ⟨S_, .f32⟩
  | .hbm, ⟨9, _⟩ => ⟨S3x2304, .f32⟩
  | .hbm, ⟨10, _⟩ => ⟨S16384x2304, .f32⟩
  | .hbm, ⟨11, _⟩ => ⟨S1x2304, .f32⟩
  | .hbm, ⟨12, _⟩ => ⟨S2304, .f32⟩
  | .hbm, ⟨13, _⟩ => ⟨S1x2304, .f32⟩
  | .hbm, ⟨14, _⟩ => ⟨S16384x2304, .f32⟩
  | .hbm, ⟨15, _⟩ => ⟨S16384x2304, .f32⟩
  | .hbm, ⟨16, _⟩ => ⟨S_, .f32⟩
  | .hbm, ⟨17, _⟩ => ⟨S16384x2304, .f32⟩
  | .hbm, ⟨18, _⟩ => ⟨S16384x2304, .f32⟩
  | .hbm, ⟨19, _⟩ => ⟨S16384x2304, .f32⟩
  | .hbm, ⟨20, _⟩ => ⟨S1x2304, .f32⟩
  | .hbm, ⟨21, _⟩ => ⟨S2304, .f32⟩
  | .hbm, ⟨22, _⟩ => ⟨S1x2304, .f32⟩
  | .hbm, ⟨23, _⟩ => ⟨S16384x2304, .f32⟩
  | .hbm, ⟨24, _⟩ => ⟨S16384x2304, .f32⟩
  | .hbm, ⟨25, _⟩ => ⟨S16384x2304, .f32⟩
  | .hbm, ⟨26, _⟩ => ⟨S16384x2304, .f32⟩
  | .hbm, ⟨27, _⟩ => ⟨S1x2304, .f32⟩
  | .hbm, ⟨28, _⟩ => ⟨S2304, .f32⟩
  | .hbm, ⟨29, _⟩ => ⟨S1x2304, .f32⟩
  | .hbm, ⟨30, _⟩ => ⟨S16384x2304, .f32⟩
  | .hbm, ⟨31, _⟩ => ⟨S16384x2304, .f32⟩
  | .hbm, ⟨32, _⟩ => ⟨S16384x2304, .f32⟩
  | .hbm, ⟨33, _⟩ => ⟨S16384x2304, .f32⟩
  | .hbm, ⟨34, _⟩ => ⟨S1x2304, .f32⟩
  | .hbm, ⟨35, _⟩ => ⟨S2304, .f32⟩
  | .hbm, ⟨36, _⟩ => ⟨S1x2304, .f32⟩
  | .hbm, ⟨37, _⟩ => ⟨S16384x2304, .f32⟩
  | .hbm, ⟨38, _⟩ => ⟨S16384x2304, .f32⟩
  | .hbm, ⟨39, _⟩ => ⟨S16384x2304, .f32⟩
  | .hbm, ⟨40, _⟩ => ⟨S16384x2304, .f32⟩
  | .hbm, ⟨41, _⟩ => ⟨S16384x2304, .f32⟩
  | .hbm, ⟨42, _⟩ => ⟨S16384x2304, .f32⟩
  | .hbm, ⟨43, _⟩ => ⟨S_, .f32⟩
  | .hbm, ⟨44, _⟩ => ⟨S2304, .f32⟩
  | .hbm, ⟨45, _⟩ => ⟨S1x2304, .f32⟩
  | .hbm, ⟨46, _⟩ => ⟨S16384x2304, .f32⟩
  | .hbm, ⟨47, _⟩ => ⟨S16384x2304, .f32⟩
  | .hbm, ⟨48, _⟩ => ⟨S_, .f32⟩
  | .hbm, ⟨49, _⟩ => ⟨S2304, .f32⟩
  | .hbm, ⟨50, _⟩ => ⟨S1x2304, .f32⟩
  | .hbm, ⟨51, _⟩ => ⟨S_, .f32⟩
  | .hbm, ⟨52, _⟩ => ⟨S4x2304, .f32⟩
  | .hbm, ⟨53, _⟩ => ⟨S_, .f32⟩
  | .hbm, ⟨54, _⟩ => ⟨S16387x2304, .f32⟩
  | .hbm, ⟨55, _⟩ => ⟨S16384x2304, .f32⟩
  | .hbm, ⟨56, _⟩ => ⟨S_, .f32⟩
  | .hbm, ⟨57, _⟩ => ⟨S2304, .f32⟩
  | .hbm, ⟨58, _⟩ => ⟨S1x2304, .f32⟩
  | .hbm, ⟨59, _⟩ => ⟨S16384x2304, .f32⟩
  | .hbm, ⟨60, _⟩ => ⟨S16384x2304, .f32⟩
  | .hbm, ⟨61, _⟩ => ⟨S_, .f32⟩
  | .hbm, ⟨62, _⟩ => ⟨S2304, .f32⟩
  | .hbm, ⟨63, _⟩ => ⟨S1x2304, .f32⟩
  | .hbm, ⟨64, _⟩ => ⟨S_, .f32⟩
  | .hbm, ⟨65, _⟩ => ⟨S4x2304, .f32⟩
  | .hbm, ⟨66, _⟩ => ⟨S4x2304, .f32⟩
  | .hbm, ⟨67, _⟩ => ⟨S_, .f32⟩
  | .hbm, ⟨68, _⟩ => ⟨S16387x2304, .f32⟩
  | .hbm, ⟨69, _⟩ => ⟨S16387x2304, .f32⟩
  | .hbm, ⟨70, _⟩ => ⟨S16384x2304, .f32⟩
  | .hbm, ⟨71, _⟩ => ⟨S_, .f32⟩
  | .hbm, ⟨72, _⟩ => ⟨S2304, .f32⟩
  | .hbm, ⟨73, _⟩ => ⟨S1x2304, .f32⟩
  | .hbm, ⟨74, _⟩ => ⟨S16384x2304, .f32⟩
  | .hbm, ⟨75, _⟩ => ⟨S16384x2304, .f32⟩
  | .hbm, ⟨76, _⟩ => ⟨S_, .f32⟩
  | .hbm, ⟨77, _⟩ => ⟨S2304, .f32⟩
  | .hbm, ⟨78, _⟩ => ⟨S1x2304, .f32⟩
  | .hbm, ⟨79, _⟩ => ⟨S_, .f32⟩
  | .hbm, ⟨80, _⟩ => ⟨S4x2304, .f32⟩
  | .hbm, ⟨81, _⟩ => ⟨S4x2304, .f32⟩
  | .hbm, ⟨82, _⟩ => ⟨S_, .f32⟩
  | .hbm, ⟨83, _⟩ => ⟨S16387x2304, .f32⟩
  | .hbm, ⟨84, _⟩ => ⟨S16387x2304, .f32⟩
  | .hbm, ⟨85, _⟩ => ⟨S16384x2304, .f32⟩
  | .hbm, ⟨86, _⟩ => ⟨S_, .f32⟩
  | .hbm, ⟨87, _⟩ => ⟨S2304, .f32⟩
  | .hbm, ⟨88, _⟩ => ⟨S1x2304, .f32⟩
  | .hbm, ⟨89, _⟩ => ⟨S16384x2304, .f32⟩
  | .hbm, ⟨90, _⟩ => ⟨S16384x2304, .f32⟩
  | .hbm, ⟨91, _⟩ => ⟨S_, .f32⟩
  | .hbm, ⟨92, _⟩ => ⟨S2304, .f32⟩
  | .hbm, ⟨93, _⟩ => ⟨S1x2304, .f32⟩
  | .hbm, ⟨94, _⟩ => ⟨S_, .f32⟩
  | .hbm, ⟨95, _⟩ => ⟨S4x2304, .f32⟩
  | .hbm, ⟨96, _⟩ => ⟨S4x2304, .f32⟩
  | .hbm, ⟨97, _⟩ => ⟨S_, .f32⟩
  | .hbm, ⟨98, _⟩ => ⟨S16387x2304, .f32⟩
  | .hbm, ⟨99, _⟩ => ⟨S16387x2304, .f32⟩
  | .hbm, ⟨100, _⟩ => ⟨S3x2304, .f32⟩
  | .hbm, ⟨101, _⟩ => ⟨S16384x2304, .f32⟩
  | .hbm, ⟨102, _⟩ => ⟨S16384x2304, .bf16⟩
  | _, _ => ⟨S16384x3340, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_v73 : Ref sig .tc := ⟨.hbm, 93, rfl⟩
abbrev main_cst_16 : Ref sig .tc := ⟨.hbm, 94, rfl⟩
abbrev main_v74 : Ref sig .tc := ⟨.hbm, 95, rfl⟩
abbrev main_v75 : Ref sig .tc := ⟨.hbm, 96, rfl⟩
abbrev main_cst_17 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Att.lean ====
abbrev S16384x6x128 : Shape := ⟨3, ![16384, 6, 128]⟩
abbrev S16384x6x64 : Shape := ⟨3, ![16384, 6, 64]⟩
abbrev S16384x64 : Shape := ⟨2, ![16384, 64]⟩
abbrev S16384x768 : Shape := ⟨2, ![16384, 768]⟩
abbrev S_ : Shape := ⟨0, ![]⟩
abbrev S16384x1x64 : Shape := ⟨3, ![16384, 1, 64]⟩
abbrev S16384x6x256 : Shape := ⟨3, ![16384, 6, 256]⟩
abbrev S16384x1536 : Shape := ⟨2, ![16384, 1536]⟩
abbrev S6x16384x1 : Shape := ⟨3, ![6, 16384, 1]⟩
abbrev S6x16x1x1024 : Shape := ⟨4, ![6, 16, 1, 1024]⟩
abbrev S1024x256 : Shape := ⟨2, ![1024, 256]⟩
abbrev S16384x256 : Shape := ⟨2, ![16384, 256]⟩
abbrev S16384x128 : Shape := ⟨2, ![16384, 128]⟩
abbrev S1024x128 : Shape := ⟨2, ![1024, 128]⟩
abbrev S1x1024x1 : Shape := ⟨3, ![1, 1024, 1]⟩
abbrev S1x1x1x1024 : Shape := ⟨4, ![1, 1, 1, 1024]⟩
abbrev S1024x1 : Shape := ⟨2, ![1024, 1]⟩
abbrev S1024x1024 : Shape := ⟨2, ![1024, 1024]⟩
abbrev S1024 : Shape := ⟨1, ![1024]⟩
abbrev S1x1024 : Shape := ⟨2, ![1, 1024]⟩
abbrev S1x16x1x1024 : Shape := ⟨4, ![1, 16, 1, 1024]⟩

abbrev nBuf : Space → Nat
  | .hbm => 33
  | .vmem => 50
  | .smem => 0
  | _ => 0

abbrev bufTy : (tb : Table) → Fin (tcTables nBuf tb) → BufTy
  | .hbm, ⟨0, _⟩ => ⟨S16384x6x128, .f32⟩
  | .hbm, ⟨1, _⟩ => ⟨S16384x6x64, .f32⟩
  | .hbm, ⟨2, _⟩ => ⟨S16384x6x128, .f32⟩
  | .hbm, ⟨3, _⟩ => ⟨S16384x64, .f32⟩
  | .hbm, ⟨4, _⟩ => ⟨S16384x6x128, .f32⟩
  | .hbm, ⟨5, _⟩ => ⟨S16384x768, .f32⟩
  | .hbm, ⟨6, _⟩ => ⟨S_, .f32⟩
  | .hbm, ⟨7, _⟩ => ⟨S16384x6x64, .f32⟩
  | .hbm, ⟨8, _⟩ => ⟨S16384x1x64, .f32⟩
  | .hbm, ⟨9, _⟩ => ⟨S16384x6x64, .f32⟩
  | .hbm, ⟨10, _⟩ => ⟨S16384x6x256, .f32⟩
  | .hbm, ⟨11, _⟩ => ⟨S16384x1536, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16384x1536, .f32⟩
  | .hbm, ⟨18, _⟩ => ⟨S16384x1536, .f32⟩
  | .hbm, ⟨19, _⟩ => ⟨S16384x1536, .bf16⟩
  | .hbm, ⟨20, _⟩ => ⟨S16384x6x256, .f32⟩
  | .hbm, ⟨21, _⟩ => ⟨S16384x1536, .f32⟩
  | .hbm, ⟨22, _⟩ => ⟨S16384x1536, .bf16⟩
  | .hbm, ⟨23, _⟩ => ⟨S16384x768, .f32⟩
  | .hbm, ⟨24, _⟩ => ⟨S16384x768, .bf16⟩
  | .hbm, ⟨25, _⟩ => ⟨S16384x768, .bf16⟩
  | .hbm, ⟨26, _⟩ => ⟨S6x16384x1, .f32⟩
  | .hbm, ⟨27, _⟩ => ⟨S6x16x1x1024, .f32⟩
  | .hbm, ⟨28, _⟩ => ⟨S16384x768, .bf16⟩
  | .hbm, ⟨29, _⟩ => ⟨S16384x1536, .bf16⟩
  | .hbm, ⟨30, _⟩ => ⟨S6x16x1x1024, .f32⟩
  | .hbm, ⟨31, _⟩ => ⟨S16384x1536, .bf16⟩
  | .hbm, ⟨32, _⟩ => ⟨S16384x768, .bf16⟩
  | .local _ .vmem, ⟨0, _⟩ => ⟨S1024x256, .bf16⟩
  | .local _ .vmem, ⟨1, _⟩ => ⟨S1024x256, .bf16⟩
  | .local _ .vmem, ⟨2, _⟩ => ⟨S16384x256, .bf16⟩
  | .local _ .vmem, ⟨3, _⟩ => ⟨S16384x256, .bf16⟩
  | .local _ .vmem, ⟨4, _⟩ => ⟨S16384x128, .bf16⟩
  | .local _ .vmem, ⟨5, _⟩ => ⟨S16384x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | .local _ .vmem, ⟨15, _⟩ => ⟨S1024x256, .bf16⟩
  | .local _ .vmem, ⟨16, _⟩ => ⟨S1024x256, .bf16⟩
  | .local _ .vmem, ⟨17, _⟩ => ⟨S16384x256, .bf16⟩
  | .local _ .vmem, ⟨18, _⟩ => ⟨S16384x256, .bf16⟩
  | .local _ .vmem, ⟨19, _⟩ => ⟨S16384x128, .bf16⟩
  | .local _ .vmem, ⟨20, _⟩ => ⟨S16384x128, .bf16⟩
  | .local _ .vmem, ⟨21, _⟩ => ⟨S1024x128, .bf16⟩
  | .local _ .vmem, ⟨22, _⟩ => ⟨S1024x128, .bf16⟩
  | .local _ .vmem, ⟨23, _⟩ => ⟨S1x1024x1, .f32⟩
  | .local _ .vmem, ⟨24, _⟩ => ⟨S1x1024x1, .f32⟩
  | .local _ .vmem, ⟨25, _⟩ => ⟨S1024x128, .bf16⟩
  | .local _ .vmem, ⟨26, _⟩ => ⟨S1024x128, .bf16⟩
  | .local _ .vmem, ⟨27, _⟩ => ⟨S1024x256, .bf16⟩
  | .local _ .vmem, ⟨28, _⟩ => ⟨S1024x256, .bf16⟩
  | .local _ .vmem, ⟨29, _⟩ => ⟨S1x1x1x1024, .f32⟩
  | .local _ .vmem, ⟨30, _⟩ => ⟨S1x1x1x1024, .f32⟩
  | .local _ .vmem, ⟨31, _⟩ => ⟨S1024x256, .f32⟩
  | .local _ .vmem, ⟨32, _⟩ => ⟨S1024x256, .bf16⟩
  | .local _ .vmem, ⟨33, _⟩ => ⟨S1024x256, .bf16⟩
  | .local _ .vmem, ⟨34, _⟩ => ⟨S1024x128, .bf16⟩
  | .local _ .vmem, ⟨35, _⟩ => ⟨S1024x128, .bf16⟩
  | .local _ .vmem, ⟨36, _⟩ => ⟨S16384x256, .bf16⟩
  | .local _ .vmem, ⟨37, _⟩ => ⟨S16384x256, .bf16⟩
  | .local _ .vmem, ⟨38, _⟩ => ⟨S16384x128, .bf16⟩
  | .local _ .vmem, ⟨39, _⟩ => ⟨S16384x128, .bf16⟩
  | .local _ .vmem, ⟨40, _⟩ => ⟨S1x16x1x1024, .f32⟩
  | .local _ .vmem, ⟨41, _⟩ => ⟨S1x16x1x1024, .f32⟩
  | .local _ .vmem, ⟨42, _⟩ => ⟨S1x16x1x1024, .f32⟩
  | .local _ .vmem, ⟨43, _⟩ => ⟨S1x16x1x1024, .f32⟩
  | .local _ .vmem, ⟨44, _⟩ => ⟨S1024x256, .bf16⟩
  | .local _ .vmem, ⟨45, _⟩ => ⟨S1024x256, .bf16⟩
  | .local _ .vmem, ⟨46, _⟩ => ⟨S1024x128, .bf16⟩
  | .local _ .vmem, ⟨47, _⟩ => ⟨S1024x128, .bf16⟩
  | .local _ .vmem, ⟨48, _⟩ => ⟨S1024x256, .f32⟩
  | .local _ .vmem, ⟨49, _⟩ => ⟨S1024x128, .f32⟩
  | _, _ => ⟨S16384x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19_0 : Ref sig .tc := ⟨.hbm, 31, rfl⟩
abbrev main_v19_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_scratch0 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc2_scratch0 : Ref sig .tc := ⟨.vmem, 48, rfl⟩
abbrev cc2_scratch1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc2_sem7_0 : DmaSem sig := 42
abbrev cc2_sem7_1 : DmaSem sig := 43

abbrev nD : Nat := 1
abbrev τ : Topo := Topo.v7x

variable {F : FTy → Type} [FloatOps F]

abbrev grid0 : Pipeline.Grid := ⟨2, ![6, 16], ![false, false]⟩

@[reducible] def k0_t1_loop (i : grid0.Coords) : Scf.Loop 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_10 : BitVec 32 := 1#32
  ⟨c0_i32_9, v18, c1_i32_10⟩
def k0_mult1 (i : grid0.Coords) (k0_t1 : Fin (k0_t1_loop i).trips) : BitVec 32 :=
  let c0_i32_9 : BitVec 32 := 0#32
  let c1_i32_10 : BitVec 32 := 1#32
  let arg11 : BitVec 32 := Scf.iv c0_i32_9 c1_i32_10 k0_t1
  let c1024_i32_53 : BitVec 32 := 1024#32
  let v95 : BitVec 32 := Scalar.muli arg11 c1024_i32_53
  v95
def k0_off1 (i : grid0.Coords) (k0_t1 : Fin (k0_t1_loop i).trips) : Fin 2 → Nat :=
  let c0_i32_9 : BitVec 32 := 0#32
  let c1_i32_10 : BitVec 32 := 1#32
  let arg11 : BitVec 32 := Scf.iv c0_i32_9 c1_i32_10 k0_t1
  let c1024_i32_53 : BitVec 32 := 1024#32
  let v95 : BitVec 32 := Scalar.muli arg11 c1024_i32_53
  let v96 : BitVec 32 := v95
  let v97 : Index := Scalar.indexCast v96
  let c0_54 : Index := 0#32
  ![v97.toNat, 0]
def k0_mult2 (i : grid0.Coords) (k0_t1 : Fin (k0_t1_loop i).trips) : BitVec 32 :=
  let c0_i32_9 : BitVec 32 := 0#32
  let c1_i32_10 : BitVec 32 := 1#32
  let arg11 : BitVec 32 := Scf.iv c0_i32_9 c1_i32_10 k0_t1
  let c1024_i32_66 : BitVec 32 := 1024#32
  let v121 : BitVec 32 := Scalar.muli arg11 c1024_i32_66
  v121
def k0_off2 (i : grid0.Coords) (k0_t1 : Fin (k0_t1_loop i).trips) : Fin 2 → Nat :=
  let c0_i32_9 : BitVec 32 := 0#32
  let c1_i32_10 : BitVec 32 := 1#32
  let arg11 : BitVec 32 := Scf.iv c0_i32_9 c1_i32_10 k0_t1
  let c1024_i32_66 : BitVec 32 := 1024#32
  let v121 : BitVec 32 := Scalar.muli arg11 c1024_i32_66
  let v122 : BitVec 32 := v121
  let v123 : Index := Scalar.indexCast v122
  let c0_67 : Index := 0#32
  ![v123.toNat, 0]
@[reducible] def k0_t2_loop (i : grid0.Coords) : Scf.Loop 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let v15 : BitVec 32 := Scalar.addi c0_i32_9 v14
  let c1_i32_11 : BitVec 32 := 1#32
  ⟨v18, v15, c1_i32_11⟩
def k0_mult3 (i : grid0.Coords) (k0_t2 : Fin (k0_t2_loop i).trips) : BitVec 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg11 : BitVec 32 := Scf.iv v18 c1_i32_11 k0_t2
  let c1024_i32_53 : BitVec 32 := 1024#32
  let v95 : BitVec 32 := Scalar.muli arg11 c1024_i32_53
  v95
def k0_off3 (i : grid0.Coords) (k0_t2 : Fin (k0_t2_loop i).trips) : Fin 2 → Nat :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg11 : BitVec 32 := Scf.iv v18 c1_i32_11 k0_t2
  let c1024_i32_53 : BitVec 32 := 1024#32
  let v95 : BitVec 32 := Scalar.muli arg11 c1024_i32_53
  let v96 : BitVec 32 := v95
  let v97 : Index := Scalar.indexCast v96
  let c0_54 : Index := 0#32
  ![v97.toNat, 0]
def k0_mult4 (i : grid0.Coords) (k0_t2 : Fin (k0_t2_loop i).trips) : BitVec 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg11 : BitVec 32 := Scf.iv v18 c1_i32_11 k0_t2
  let c1024_i32_66 : BitVec 32 := 1024#32
  let v121 : BitVec 32 := Scalar.muli arg11 c1024_i32_66
  v121
def k0_off4 (i : grid0.Coords) (k0_t2 : Fin (k0_t2_loop i).trips) : Fin 2 → Nat :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg11 : BitVec 32 := Scf.iv v18 c1_i32_11 k0_t2
  let c1024_i32_66 : BitVec 32 := 1024#32
  let v121 : BitVec 32 := Scalar.muli arg11 c1024_i32_66
  let v122 : BitVec 32 := v121
  let v123 : Index := Scalar.indexCast v122
  let c0_67 : Index := 0#32
  ![v123.toNat, 0]
def k0_mult5 (i : grid0.Coords) : BitVec 32 :=
  let arg1 : BitVec 32 := BitVec.ofNat 32 (i 1).val
  let c1024_i32 : BitVec 32 := 1024#32
  let v19 : BitVec 32 := Scalar.muli arg1 c1024_i32
  v19
def k0_off5 (i : grid0.Coords) : Fin 2 → Nat :=
  let arg1 : BitVec 32 := BitVec.ofNat 32 (i 1).val
  let c1024_i32 : BitVec 32 := 1024#32
  let v19 : BitVec 32 := Scalar.muli arg1 c1024_i32
  let v20 : BitVec 32 := v19
  let v21 : Index := Scalar.indexCast v20
  let c0_12 : Index := 0#32
  ![v21.toNat, 0]
def k0_mult6 (i : grid0.Coords) : BitVec 32 :=
  let arg1 : BitVec 32 := BitVec.ofNat 32 (i 1).val
  let c1024_i32_26 : BitVec 32 := 1024#32
  let v54 : BitVec 32 := Scalar.muli arg1 c1024_i32_26
  v54
def k0_off6 (i : grid0.Coords) : Fin 2 → Nat :=
  let arg1 : BitVec 32 := BitVec.ofNat 32 (i 1).val
  let c1024_i32_26 : BitVec 32 := 1024#32
  let v54 : BitVec 32 := Scalar.muli arg1 c1024_i32_26
  let v55 : BitVec 32 := v54
  let v56 : Index := Scalar.indexCast v55
  let c0_27 : Index := 0#32
  ![v56.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![6, 16], ![false, false]⟩

@[reducible] def k1_t1_loop (i : grid1.Coords) : Scf.Loop 32 :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_18 : BitVec 32 := 1#32
  ⟨c0_i32_17, v33, c1_i32_18⟩
def k1_mult1 (i : grid1.Coords) (k1_t1 : Fin (k1_t1_loop i).trips) : BitVec 32 :=
  let c0_i32_17 : BitVec 32 := 0#32
  let c1_i32_18 : BitVec 32 := 1#32
  let arg11 : BitVec 32 := Scf.iv c0_i32_17 c1_i32_18 k1_t1
  let c1024_i32_37 : BitVec 32 := 1024#32
  let v73 : BitVec 32 := Scalar.muli arg11 c1024_i32_37
  v73
def k1_off1 (i : grid1.Coords) (k1_t1 : Fin (k1_t1_loop i).trips) : Fin 2 → Nat :=
  let c0_i32_17 : BitVec 32 := 0#32
  let c1_i32_18 : BitVec 32 := 1#32
  let arg11 : BitVec 32 := Scf.iv c0_i32_17 c1_i32_18 k1_t1
  let c1024_i32_37 : BitVec 32 := 1024#32
  let v73 : BitVec 32 := Scalar.muli arg11 c1024_i32_37
  let v74 : BitVec 32 := v73
  let v75 : Index := Scalar.indexCast v74
  let c0_38 : Index := 0#32
  ![v75.toNat, 0]
def k1_mult2 (i : grid1.Coords) (k1_t1 : Fin (k1_t1_loop i).trips) : BitVec 32 :=
  let c0_i32_17 : BitVec 32 := 0#32
  let c1_i32_18 : BitVec 32 := 1#32
  let arg11 : BitVec 32 := Scf.iv c0_i32_17 c1_i32_18 k1_t1
  let c1024_i32_40 : BitVec 32 := 1024#32
  let v82 : BitVec 32 := Scalar.muli arg11 c1024_i32_40
  v82
def k1_off2 (i : grid1.Coords) (k1_t1 : Fin (k1_t1_loop i).trips) : Fin 2 → Nat :=
  let c0_i32_17 : BitVec 32 := 0#32
  let c1_i32_18 : BitVec 32 := 1#32
  let arg11 : BitVec 32 := Scf.iv c0_i32_17 c1_i32_18 k1_t1
  let c1024_i32_40 : BitVec 32 := 1024#32
  let v82 : BitVec 32 := Scalar.muli arg11 c1024_i32_40
  let v83 : BitVec 32 := v82
  let v84 : Index := Scalar.indexCast v83
  let c0_41 : Index := 0#32
  ![v84.toNat, 0]
@[reducible] def k1_t2_loop (i : grid1.Coords) : Scf.Loop 32 :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let v30 : BitVec 32 := Scalar.addi c0_i32_17 v29
  let c1_i32_19 : BitVec 32 := 1#32
  ⟨v33, v30, c1_i32_19⟩
def k1_mult3 (i : grid1.Coords) (k1_t2 : Fin (k1_t2_loop i).trips) : BitVec 32 :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_19 : BitVec 32 := 1#32
  let arg11 : BitVec 32 := Scf.iv v33 c1_i32_19 k1_t2
  let c1024_i32_37 : BitVec 32 := 1024#32
  let v73 : BitVec 32 := Scalar.muli arg11 c1024_i32_37
  v73
def k1_off3 (i : grid1.Coords) (k1_t2 : Fin (k1_t2_loop i).trips) : Fin 2 → Nat :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_19 : BitVec 32 := 1#32
  let arg11 : BitVec 32 := Scf.iv v33 c1_i32_19 k1_t2
  let c1024_i32_37 : BitVec 32 := 1024#32
  let v73 : BitVec 32 := Scalar.muli arg11 c1024_i32_37
  let v74 : BitVec 32 := v73
  let v75 : Index := Scalar.indexCast v74
  let c0_38 : Index := 0#32
  ![v75.toNat, 0]
def k1_mult4 (i : grid1.Coords) (k1_t2 : Fin (k1_t2_loop i).trips) : BitVec 32 :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_19 : BitVec 32 := 1#32
  let arg11 : BitVec 32 := Scf.iv v33 c1_i32_19 k1_t2
  let c1024_i32_40 : BitVec 32 := 1024#32
  let v82 : BitVec 32 := Scalar.muli arg11 c1024_i32_40
  v82
def k1_off4 (i : grid1.Coords) (k1_t2 : Fin (k1_t2_loop i).trips) : Fin 2 → Nat :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_19 : BitVec 32 := 1#32
  let arg11 : BitVec 32 := Scf.iv v33 c1_i32_19 k1_t2
  let c1024_i32_40 : BitVec 32 := 1024#32
  let v82 : BitVec 32 := Scalar.muli arg11 c1024_i32_40
  let v83 : BitVec 32 := v82
  let v84 : Index := Scalar.indexCast v83
  let c0_41 : Index := 0#32
  ![v84.toNat, 0]
def k1_mult5 (i : grid1.Coords) : BitVec 32 :=
  let arg1 : BitVec 32 := BitVec.ofNat 32 (i 1).val
  let c1024_i32 : BitVec 32 := 1024#32
  let v34 : BitVec 32 := Scalar.muli arg1 c1024_i32
  v34
def k1_off5 (i : grid1.Coords) : Fin 2 → Nat :=
  let arg1 : BitVec 32 := BitVec.ofNat 32 (i 1).val
  let c1024_i32 : BitVec 32 := 1024#32
  let v34 : BitVec 32 := Scalar.muli arg1 c1024_i32
  let v35 : BitVec 32 := v34
  let v36 : Index := Scalar.indexCast v35
  let c0_20 : Index := 0#32
  ![v36.toNat, 0]
def k1_mult6 (i : grid1.Coords) : BitVec 32 :=
  let arg1 : BitVec 32 := BitVec.ofNat 32 (i 1).val
  let c1024_i32_24 : BitVec 32 := 1024#32
  let v52 : BitVec 32 := Scalar.muli arg1 c1024_i32_24
  v52
def k1_off6 (i : grid1.Coords) : Fin 2 → Nat :=
  let arg1 : BitVec 32 := BitVec.ofNat 32 (i 1).val
  let c1024_i32_24 : BitVec 32 := 1024#32
  let v52 : BitVec 32 := Scalar.muli arg1 c1024_i32_24
  let v53 : BitVec 32 := v52
  let v54 : Index := Scalar.indexCast v53
  let c0_25 : Index := 0#32
  ![v54.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16384x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16384x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![6, 16], ![false, false]⟩

def k2_mult1 (i : grid2.Coords) : BitVec 32 :=
  let arg1 : BitVec 32 := BitVec.ofNat 32 (i 1).val
  let c1024_i32 : BitVec 32 := 1024#32
  let v12 : BitVec 32 := Scalar.muli arg1 c1024_i32
  v12
def k2_off1 (i : grid2.Coords) : Fin 2 → Nat :=
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_8 : Index := 0#32
  ![v14.toNat, 0]
def k2_mult2 (i : grid2.Coords) : BitVec 32 :=
  let arg1 : BitVec 32 := BitVec.ofNat 32 (i 1).val
  let c1024_i32_9 : BitVec 32 := 1024#32
  let v17 : BitVec 32 := Scalar.muli arg1 c1024_i32_9
  v17
def k2_off2 (i : grid2.Coords) : Fin 2 → Nat :=
  let arg1 : BitVec 32 := BitVec.ofNat 32 (i 1).val
  let c1024_i32_9 : BitVec 32 := 1024#32
  let v17 : BitVec 32 := Scalar.muli arg1 c1024_i32_9
  let v18 : BitVec 32 := v17
  let v19 : Index := Scalar.indexCast v18
  let c0_10 : Index := 0#32
  ![v19.toNat, 0]
def k2_off3 (i : grid2.Coords) : Fin 4 → Nat :=
  let c0_14 : Index := 0#32
  let arg1 : BitVec 32 := BitVec.ofNat 32 (i 1).val
  let v32 : Index := Scalar.indexCast arg1
  let c0_15 : Index := 0#32
  let c0_16 : Index := 0#32
  ![0, v32.toNat, 0, 0]
@[reducible] def k2_t1_loop (i : grid2.Coords) : Scf.Loop 32 :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_32 : BitVec 32 := 1#32
  ⟨v59, v64, c1_i32_32⟩
def k2_mult3 (i : grid2.Coords) (k2_t1 : Fin (k2_t1_loop i).trips) : BitVec 32 :=
  let arg1 : BitVec 32 := BitVec.ofNat 32 (i 1).val
  let c1_i32 : BitVec 32 := 1#32
  let v59 : BitVec 32 := Scalar.addi arg1 c1_i32
  let c1_i32_32 : BitVec 32 := 1#32
  let arg12 : BitVec 32 := Scf.iv v59 c1_i32_32 k2_t1
  let c1024_i32_43 : BitVec 32 := 1024#32
  let v73 : BitVec 32 := Scalar.muli arg12 c1024_i32_43
  v73
def k2_off4 (i : grid2.Coords) (k2_t1 : Fin (k2_t1_loop i).trips) : Fin 2 → Nat :=
  let arg1 : BitVec 32 := BitVec.ofNat 32 (i 1).val
  let c1_i32 : BitVec 32 := 1#32
  let v59 : BitVec 32 := Scalar.addi arg1 c1_i32
  let c1_i32_32 : BitVec 32 := 1#32
  let arg12 : BitVec 32 := Scf.iv v59 c1_i32_32 k2_t1
  let c1024_i32_43 : BitVec 32 := 1024#32
  let v73 : BitVec 32 := Scalar.muli arg12 c1024_i32_43
  let v74 : BitVec 32 := v73
  let v75 : Index := Scalar.indexCast v74
  let c0_44 : Index := 0#32
  ![v75.toNat, 0]
def k2_mult4 (i : grid2.Coords) (k2_t1 : Fin (k2_t1_loop i).trips) : BitVec 32 :=
  let arg1 : BitVec 32 := BitVec.ofNat 32 (i 1).val
  let c1_i32 : BitVec 32 := 1#32
  let v59 : BitVec 32 := Scalar.addi arg1 c1_i32
  let c1_i32_32 : BitVec 32 := 1#32
  let arg12 : BitVec 32 := Scf.iv v59 c1_i32_32 k2_t1
  let c1024_i32_45 : BitVec 32 := 1024#32
  let v78 : BitVec 32 := Scalar.muli arg12 c1024_i32_45
  v78
def k2_off5 (i : grid2.Coords) (k2_t1 : Fin (k2_t1_loop i).trips) : Fin 2 → Nat :=
  let arg1 : BitVec 32 := BitVec.ofNat 32 (i 1).val
  let c1_i32 : BitVec 32 := 1#32
  let v59 : BitVec 32 := Scalar.addi arg1 c1_i32
  let c1_i32_32 : BitVec 32 := 1#32
  let arg12 : BitVec 32 := Scf.iv v59 c1_i32_32 k2_t1
  let c1024_i32_45 : BitVec 32 := 1024#32
  let v78 : BitVec 32 := Scalar.muli arg12 c1024_i32_45
  let v79 : BitVec 32 := v78
  let v80 : Index := Scalar.indexCast v79
  let c0_46 : Index := 0#32
  ![v80.toNat, 0]
def k2_off6 (i : grid2.Coords) (k2_t1 : Fin (k2_t1_loop i).trips) : Fin 4 → Nat :=
  let c0_48 : Index := 0#32
  let arg1 : BitVec 32 := BitVec.ofNat 32 (i 1).val
  let c1_i32 : BitVec 32 := 1#32
  let v59 : BitVec 32 := Scalar.addi arg1 c1_i32
  let c1_i32_32 : BitVec 32 := 1#32
  let arg12 : BitVec 32 := Scf.iv v59 c1_i32_32 k2_t1
  let v84 : Index := Scalar.indexCast arg12
  let c0_49 : Index := 0#32
  let c0_50 : Index := 0#32
  ![0, v84.toNat, 0, 0]
@[reducible] def k2_t2_loop (i : grid2.Coords) : Scf.Loop 32 :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let v61 : BitVec 32 := Scalar.addi v59 v60
  let c1_i32_33 : BitVec 32 := 1#32
  ⟨v64, v61, c1_i32_33⟩
def k2_mult5 (i : grid2.Coords) (k2_t2 : Fin (k2_t2_loop i).trips) : BitVec 32 :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_33 : BitVec 32 := 1#32
  let arg12 : BitVec 32 := Scf.iv v64 c1_i32_33 k2_t2
  let c1024_i32_43 : BitVec 32 := 1024#32
  let v73 : BitVec 32 := Scalar.muli arg12 c1024_i32_43
  v73
def k2_off7 (i : grid2.Coords) (k2_t2 : Fin (k2_t2_loop i).trips) : Fin 2 → Nat :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_33 : BitVec 32 := 1#32
  let arg12 : BitVec 32 := Scf.iv v64 c1_i32_33 k2_t2
  let c1024_i32_43 : BitVec 32 := 1024#32
  let v73 : BitVec 32 := Scalar.muli arg12 c1024_i32_43
  let v74 : BitVec 32 := v73
  let v75 : Index := Scalar.indexCast v74
  let c0_44 : Index := 0#32
  ![v75.toNat, 0]
def k2_mult6 (i : grid2.Coords) (k2_t2 : Fin (k2_t2_loop i).trips) : BitVec 32 :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_33 : BitVec 32 := 1#32
  let arg12 : BitVec 32 := Scf.iv v64 c1_i32_33 k2_t2
  let c1024_i32_45 : BitVec 32 := 1024#32
  let v78 : BitVec 32 := Scalar.muli arg12 c1024_i32_45
  v78
def k2_off8 (i : grid2.Coords) (k2_t2 : Fin (k2_t2_loop i).trips) : Fin 2 → Nat :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_33 : BitVec 32 := 1#32
  let arg12 : BitVec 32 := Scf.iv v64 c1_i32_33 k2_t2
  let c1024_i32_45 : BitVec 32 := 1024#32
  let v78 : BitVec 32 := Scalar.muli arg12 c1024_i32_45
  let v79 : BitVec 32 := v78
  let v80 : Index := Scalar.indexCast v79
  let c0_46 : Index := 0#32
  ![v80.toNat, 0]
def k2_off9 (i : grid2.Coords) (k2_t2 : Fin (k2_t2_loop i).trips) : Fin 4 → Nat :=
  let c0_48 : Index := 0#32
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_33 : BitVec 32 := 1#32
  let arg12 : BitVec 32 := Scf.iv v64 c1_i32_33 k2_t2
  let v84 : Index := Scalar.indexCast arg12
  let c0_49 : Index := 0#32
  let c0_50 : Index := 0#32
  ![0, v84.toNat, 0, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S16384x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S16384x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x16x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x16x1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1024x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== AttIdeal.lean ====
variable {F : FTy → Type} [FloatOps F] [Named F]
def κ : String → Option EReal := fun
  | "dq_scale" => some (((Real.sqrt 192)⁻¹ : ℝ) : EReal)
  | "ln2" => some ((Real.log 2 : ℝ) : EReal)
  | "log2e" => some (((Real.log 2)⁻¹ : ℝ) : EReal)
  | "mask" => some ⊥
  | _ => none
-- ==== AttRefIdeal.lean ====
abbrev S16384x6x128 : Shape := ⟨3, ![16384, 6, 128]⟩
abbrev S16384x6x64 : Shape := ⟨3, ![16384, 6, 64]⟩
abbrev S16384x64 : Shape := ⟨2, ![16384, 64]⟩
abbrev S16384x768 : Shape := ⟨2, ![16384, 768]⟩
abbrev S16384x1x64 : Shape := ⟨3, ![16384, 1, 64]⟩
abbrev S16384 : Shape := ⟨1, ![16384]⟩
abbrev S_ : Shape := ⟨0, ![]⟩
abbrev S6x16384x16384 : Shape := ⟨3, ![6, 16384, 16384]⟩
abbrev S1x16384 : Shape := ⟨2, ![1, 16384]⟩
abbrev S16384x1 : Shape := ⟨2, ![16384, 1]⟩
abbrev S16384x16384 : Shape := ⟨2, ![16384, 16384]⟩
abbrev S6x16384 : Shape := ⟨2, ![6, 16384]⟩
abbrev S6x16384x1 : Shape := ⟨3, ![6, 16384, 1]⟩
abbrev S6x128x16384 : Shape := ⟨3, ![6, 128, 16384]⟩
abbrev S6x16384x64 : Shape := ⟨3, ![6, 16384, 64]⟩
abbrev S6x16384x128 : Shape := ⟨3, ![6, 16384, 128]⟩
abbrev S16384x6x256 : Shape := ⟨3, ![16384, 6, 256]⟩
abbrev S16384x1536 : Shape := ⟨2, ![16384, 1536]⟩

abbrev nBuf : Space → Nat
  | .hbm => 130
  | .vmem => 0
  | .smem => 0
  | _ => 0

abbrev hbmTy0_0 (i : Nat) : BufTy := match i % 128 with
  | 0 => ⟨S16384x6x128, .f32⟩
  | 1 => ⟨S16384x6x64, .f32⟩
  | 2 => ⟨S16384x6x128, .f32⟩
  | 3 => ⟨S16384x64, .f32⟩
  | 4 => ⟨S16384x6x128, .f32⟩
  | 5 => ⟨S16384x768, .f32⟩
  | 6 => ⟨S16384x1x64, .f32⟩
  | 7 => ⟨S16384x6x64, .f32⟩
  | 8 => ⟨S16384, .i32⟩
  | 9 => ⟨S_, .i32⟩
  | 10 => ⟨S_, .i32⟩
  | 11 => ⟨S16384, .i32⟩
  | 12 => ⟨S16384, .i32⟩
  | 13 => ⟨S16384, .i32⟩
  | 14 => ⟨S_, .i32⟩
  | 15 => ⟨S16384, .i32⟩
  | 16 => ⟨S16384, .i1⟩
  | 17 => ⟨S16384, .i32⟩
  | 18 => ⟨S16384, .i32⟩
  | 19 => ⟨S_, .i32⟩
  | 20 => ⟨S16384, .i32⟩
  | 21 => ⟨S16384, .i1⟩
  | 22 => ⟨S16384, .i1⟩
  | 23 => ⟨S_, .i32⟩
  | 24 => ⟨S16384, .i32⟩
  | 25 => ⟨S16384, .i32⟩
  | 26 => ⟨S16384, .i32⟩
  | 27 => ⟨S6x16384x16384, .f32⟩
  | 28 => ⟨S6x16384x16384, .f32⟩
  | 29 => ⟨S6x16384x16384, .f32⟩
  | 30 => ⟨S_, .f32⟩
  | 31 => ⟨S_, .f32⟩
  | 32 => ⟨S6x16384x16384, .f32⟩
  | 33 => ⟨S6x16384x16384, .f32⟩
  | 34 => ⟨S1x16384, .i32⟩
  | 35 => ⟨S16384x1, .i32⟩
  | 36 => ⟨S16384x16384, .i32⟩
  | 37 => ⟨S16384x16384, .i32⟩
  | 38 => ⟨S16384x16384, .i1⟩
  | 39 => ⟨S_, .f32⟩
  | 40 => ⟨S_, .f32⟩
  | 41 => ⟨S6x16384x16384, .i1⟩
  | 42 => ⟨S6x16384x16384, .f32⟩
  | 43 => ⟨S6x16384x16384, .f32⟩
  | 44 => ⟨S_, .f32⟩
  | 45 => ⟨S6x16384x16384, .f32⟩
  | 46 => ⟨S_, .f32⟩
  | 47 => ⟨S6x16384, .f32⟩
  | 48 => ⟨S6x16384x1, .f32⟩
  | 49 => ⟨S6x16384x16384, .f32⟩
  | 50 => ⟨S6x16384x16384, .i1⟩
  | 51 => ⟨S6x16384x16384, .f32⟩
  | 52 => ⟨S_, .f32⟩
  | 53 => ⟨S6x16384, .f32⟩
  | 54 => ⟨S_, .f32⟩
  | 55 => ⟨S6x16384, .f32⟩
  | 56 => ⟨S6x16384, .f32⟩
  | 57 => ⟨S_, .f32⟩
  | 58 => ⟨S6x16384, .f32⟩
  | 59 => ⟨S6x16384, .i1⟩
  | 60 => ⟨S_, .f32⟩
  | 61 => ⟨S6x16384, .f32⟩
  | 62 => ⟨S6x16384, .i1⟩
  | 63 => ⟨S_, .f32⟩
  | 64 => ⟨S6x16384, .f32⟩
  | 65 => ⟨S_, .f32⟩
  | 66 => ⟨S6x16384, .f32⟩
  | 67 => ⟨S_, .f32⟩
  | 68 => ⟨S6x16384, .f32⟩
  | 69 => ⟨S6x16384, .f32⟩
  | 70 => ⟨S6x16384, .f32⟩
  | 71 => ⟨S6x16384x1, .f32⟩
  | 72 => ⟨S6x16384x16384, .f32⟩
  | 73 => ⟨S6x16384x16384, .f32⟩
  | 74 => ⟨S6x16384x16384, .f32⟩
  | 75 => ⟨S_, .f32⟩
  | 76 => ⟨S6x16384, .f32⟩
  | 77 => ⟨S6x16384x1, .f32⟩
  | 78 => ⟨S6x16384x16384, .f32⟩
  | 79 => ⟨S6x16384x16384, .f32⟩
  | 80 => ⟨S6x16384x1, .f32⟩
  | 81 => ⟨S_, .f32⟩
  | 82 => ⟨S6x16384x1, .f32⟩
  | 83 => ⟨S6x16384x1, .f32⟩
  | 84 => ⟨S6x128x16384, .f32⟩
  | 85 => ⟨S16384x6x128, .f32⟩
  | 86 => ⟨S16384x768, .f32⟩
  | 87 => ⟨S16384x6x128, .f32⟩
  | 88 => ⟨S6x128x16384, .f32⟩
  | 89 => ⟨S6x16384x16384, .f32⟩
  | 90 => ⟨S6x128x16384, .f32⟩
  | 91 => ⟨S16384x6x128, .f32⟩
  | 92 => ⟨S6x16384x16384, .f32⟩
  | 93 => ⟨S6x16384x16384, .f32⟩
  | 94 => ⟨S6x16384x16384, .f32⟩
  | 95 => ⟨S_, .f32⟩
  | 96 => ⟨S6x16384, .f32⟩
  | 97 => ⟨S6x16384x1, .f32⟩
  | 98 => ⟨S6x16384x1, .f32⟩
  | 99 => ⟨S6x16384x16384, .f32⟩
  | 100 => ⟨S6x16384x16384, .f32⟩
  | 101 => ⟨S_, .f32⟩
  | 102 => ⟨S6x16384, .f32⟩
  | 103 => ⟨S6x16384x16384, .f32⟩
  | 104 => ⟨S6x16384x16384, .f32⟩
  | 105 => ⟨S6x16384x16384, .f32⟩
  | 106 => ⟨S_, .f32⟩
  | 107 => ⟨S6x16384x16384, .f32⟩
  | 108 => ⟨S6x16384x16384, .f32⟩
  | 109 => ⟨S6x16384x16384, .f32⟩
  | 110 => ⟨S6x16384x16384, .f32⟩
  | 111 => ⟨S6x16384x64, .f32⟩
  | 112 => ⟨S16384x6x64, .f32⟩
  | 113 => ⟨S6x16384x64, .f32⟩
  | 114 => ⟨S16384x6x64, .f32⟩
  | 115 => ⟨S6x16384x128, .f32⟩
  | 116 => ⟨S16384x6x128, .f32⟩
  | 117 => ⟨S6x16384x128, .f32⟩
  | 118 => ⟨S16384x6x128, .f32⟩
  | 119 => ⟨S_, .f32⟩
  | 120 => ⟨S16384x6x64, .f32⟩
  | 121 => ⟨S16384x6x256, .f32⟩
  | 122 => ⟨S16384x1536, .f32⟩
  | 123 => ⟨S16384x6x256, .f32⟩
  | 124 => ⟨S16384x1536, .f32⟩
  | 125 => ⟨S16384x768, .bf16⟩
  | 126 => ⟨S16384x1536, .bf16⟩
  | 127 => ⟨S16384x1536, .bf16⟩
  | _ => ⟨S16384x6x128, .f32⟩

abbrev hbmTy0_1 (i : Nat) : BufTy := match i % 128 with
  | 0 => ⟨S16384x768, .f32⟩
  | 1 => ⟨S16384x768, .bf16⟩
  | _ => ⟨S16384x6x128, .f32⟩

abbrev hbmTy (i : Nat) : BufTy := match i / 128 with
  | 0 => hbmTy0_0 i
  | 1 => hbmTy0_1 i
  | _ => ⟨S16384x6x128, .f32⟩

abbrev bufTy : (tb : Table) → Fin (tcTables nBuf tb) → BufTy
  | .hbm, ⟨i, _⟩ => hbmTy i
  | _, _ => ⟨S16384x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_0 : Ref sig .tc := ⟨.hbm, 39, rfl⟩
abbrev main_call1_v0 : Ref sig .tc := ⟨.hbm, 40, rfl⟩
abbrev main_v15_1 : Ref sig .tc := ⟨.hbm, 41, rfl⟩
abbrev main_call1_v2 : Ref sig .tc := ⟨.hbm, 42, rfl⟩
abbrev main_v15_0 : Ref sig .tc := ⟨.hbm, 43, rfl⟩
abbrev main_call1_cst : Ref sig .tc := ⟨.hbm, 44, rfl⟩
abbrev main_v15_2 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_9 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_11 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_12 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_call2_cst : Ref sig .tc := ⟨.hbm, 106, rfl⟩
abbrev main_call2_v0 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_13 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .bf16⟩
  | .hbm, ⟨6, _⟩ => ⟨S16384x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== QNorm.lean ====
abbrev S16384x512 : Shape := ⟨2, ![16384, 512]⟩
abbrev S256 : Shape := ⟨1, ![256]⟩
abbrev S16384x256 : Shape := ⟨2, ![16384, 256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S256, .f32⟩
  | .hbm, ⟨2, _⟩ => ⟨S16384x256, .f32⟩
  | .hbm, ⟨3, _⟩ => ⟨S16384x512, .bf16⟩
  | .hbm, ⟨4, _⟩ => ⟨S1x256, .f32⟩
  | .hbm, ⟨5, _⟩ => ⟨S16384x256, .bf16⟩
  | .hbm, ⟨6, _⟩ => ⟨S16384x256, .bf16⟩
  | .hbm, ⟨7, _⟩ => ⟨S1x256, .f32⟩
  | .local _ .vmem, ⟨0, _⟩ => ⟨S512x256, .bf16⟩
  | .local _ .vmem, ⟨1, _⟩ => ⟨S512x256, .bf16⟩
  | .local _ .vmem, ⟨2, _⟩ => ⟨S1x256, .f32⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S1x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QNormRefIdeal.lean ====
abbrev S16384x512 : Shape := ⟨2, ![16384, 512]⟩
abbrev S256 : Shape := ⟨1, ![256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x256 : Shape := ⟨2, ![1, 256]⟩

abbrev nBuf : Space → Nat
  | .hbm => 52
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x256, .f32⟩
  | .hbm, ⟨21, _⟩ => ⟨S16384x256, .f32⟩
  | .hbm, ⟨22, _⟩ => ⟨S1x256, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S_, .f32⟩
  | .hbm, ⟨27, _⟩ => ⟨S256, .f32⟩
  | .hbm, ⟨28, _⟩ => ⟨S1x256, .f32⟩
  | .hbm, ⟨29, _⟩ => ⟨S16384x256, .f32⟩
  | .hbm, ⟨30, _⟩ => ⟨S16384x256, .f32⟩
  | .hbm, ⟨31, _⟩ => ⟨S_, .f32⟩
  | .hbm, ⟨32, _⟩ => ⟨S256, .f32⟩
  | .hbm, ⟨33, _⟩ => ⟨S16384x256, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x256, .f32⟩
  | .hbm, ⟨38, _⟩ => ⟨S16384x256, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x256, .bf16⟩
  | .hbm, ⟨51, _⟩ => ⟨S1x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== MemNorm.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemNormRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== OutNorm.lean ====
abbrev S16384x768 : Shape := ⟨2, ![16384, 768]⟩
abbrev S16384x3340 : Shape := ⟨2, ![16384, 3340]⟩
abbrev S128 : Shape := ⟨1, ![128]⟩
abbrev S16384x12 : Shape := ⟨2, ![16384, 12]⟩
abbrev S_ : Shape := ⟨0, ![]⟩
abbrev S16384x128 : Shape := ⟨2, ![16384, 128]⟩
abbrev S16384x3072 : Shape := ⟨2, ![16384, 3072]⟩
abbrev S16384x256 : Shape := ⟨2, ![16384, 256]⟩
abbrev S16384x3456 : Shape := ⟨2, ![16384, 3456]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 18
  | .vmem => 12
  | .smem => 0
  | _ => 0

abbrev bufTy : (tb : Table) → Fin (tcTables nBuf tb) → BufTy
  | .hbm, ⟨0, _⟩ => ⟨S16384x768, .f32⟩
  | .hbm, ⟨1, _⟩ => ⟨S16384x3340, .f32⟩
  | .hbm, ⟨2, _⟩ => ⟨S128, .f32⟩
  | .hbm, ⟨3, _⟩ => ⟨S16384x768, .f32⟩
  | .hbm, ⟨4, _⟩ => ⟨S16384x12, .f32⟩
  | .hbm, ⟨5, _⟩ => ⟨S_, .i32⟩
  | .hbm, ⟨6, _⟩ => ⟨S_, .f32⟩
  | .hbm, ⟨7, _⟩ => ⟨S16384x128, .f32⟩
  | .hbm, ⟨8, _⟩ => ⟨S16384x3072, .f32⟩
  | .hbm, ⟨9, _⟩ => ⟨S16384x256, .f32⟩
  | .hbm, ⟨10, _⟩ => ⟨S16384x3456, .f32⟩
  | .hbm, ⟨11, _⟩ => ⟨S16384x3456, .bf16⟩
  | .hbm, ⟨12, _⟩ => ⟨S16384x768, .bf16⟩
  | .hbm, ⟨13, _⟩ => ⟨S1x128, .f32⟩
  | .hbm, ⟨14, _⟩ => ⟨S16384x768, .bf16⟩
  | .hbm, ⟨15, _⟩ => ⟨S16384x768, .bf16⟩
  | .hbm, ⟨16, _⟩ => ⟨S16384x768, .bf16⟩
  | .hbm, ⟨17, _⟩ => ⟨S1x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S1x128, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== OutNormRefIdeal.lean ====
abbrev S16384x768 : Shape := ⟨2, ![16384, 768]⟩
abbrev S16384x3340 : Shape := ⟨2, ![16384, 3340]⟩
abbrev S128 : Shape := ⟨1, ![128]⟩
abbrev S16384x2304 : Shape := ⟨2, ![16384, 2304]⟩
abbrev S16384x268 : Shape := ⟨2, ![16384, 268]⟩
abbrev S16384x6x128 : Shape := ⟨3, ![16384, 6, 128]⟩
abbrev S_ : Shape := ⟨0, ![]⟩
abbrev S16384x6 : Shape := ⟨2, ![16384, 6]⟩
abbrev S16384x6x1 : Shape := ⟨3, ![16384, 6, 1]⟩
abbrev S1x1x128 : Shape := ⟨3, ![1, 1, 128]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x3340, .f32⟩
  | .hbm, ⟨2, _⟩ => ⟨S128, .f32⟩
  | .hbm, ⟨3, _⟩ => ⟨S16384x768, .f32⟩
  | .hbm, ⟨4, _⟩ => ⟨S16384x2304, .f32⟩
  | .hbm, ⟨5, _⟩ => ⟨S16384x768, .f32⟩
  | .hbm, ⟨6, _⟩ => ⟨S16384x268, .f32⟩
  | .hbm, ⟨7, _⟩ => ⟨S16384x6x128, .f32⟩
  | .hbm, ⟨8, _⟩ => ⟨S16384x6x128, .f32⟩
  | .hbm, ⟨9, _⟩ => ⟨S_, .f32⟩
  | .hbm, ⟨10, _⟩ => ⟨S16384x6, .f32⟩
  | .hbm, ⟨11, _⟩ => ⟨S16384x6x1, .f32⟩
  | .hbm, ⟨12, _⟩ => ⟨S_, .f32⟩
  | .hbm, ⟨13, _⟩ => ⟨S16384x6x1, .f32⟩
  | .hbm, ⟨14, _⟩ => ⟨S16384x6x1, .f32⟩
  | .hbm, ⟨15, _⟩ => ⟨S_, .f32⟩
  | .hbm, ⟨16, _⟩ => ⟨S16384x6x1, .f32⟩
  | .hbm, ⟨17, _⟩ => ⟨S16384x6x1, .f32⟩
  | .hbm, ⟨18, _⟩ => ⟨S16384x6x1, .f32⟩
  | .hbm, ⟨19, _⟩ => ⟨S16384x6x1, .f32⟩
  | .hbm, ⟨20, _⟩ => ⟨S_, .f32⟩
  | .hbm, ⟨21, _⟩ => ⟨S16384x6x1, .f32⟩
  | .hbm, ⟨22, _⟩ => ⟨S16384x6x1, .f32⟩
  | .hbm, ⟨23, _⟩ => ⟨S16384x6x128, .f32⟩
  | .hbm, ⟨24, _⟩ => ⟨S16384x6x128, .f32⟩
  | .hbm, ⟨25, _⟩ => ⟨S1x1x128, .f32⟩
  | .hbm, ⟨26, _⟩ => ⟨S16384x6x128, .f32⟩
  | .hbm, ⟨27, _⟩ => ⟨S16384x6x128, .f32⟩
  | .hbm, ⟨28, _⟩ => ⟨S16384x6x128, .f32⟩
  | .hbm, ⟨29, _⟩ => ⟨S16384x6x128, .f32⟩
  | .hbm, ⟨30, _⟩ => ⟨S16384x6x128, .f32⟩
  | .hbm, ⟨31, _⟩ => ⟨S_, .f32⟩
  | .hbm, ⟨32, _⟩ => ⟨S16384x6x128, .f32⟩
  | .hbm, ⟨33, _⟩ => ⟨S16384x6x128, .f32⟩
  | .hbm, ⟨34, _⟩ => ⟨S_, .f32⟩
  | .hbm, ⟨35, _⟩ => ⟨S16384x6x128, .f32⟩
  | .hbm, ⟨36, _⟩ => ⟨S16384x6x128, .f32⟩
  | .hbm, ⟨37, _⟩ => ⟨S_, .f32⟩
  | .hbm, ⟨38, _⟩ => ⟨S16384x6x128, .f32⟩
  | .hbm, ⟨39, _⟩ => ⟨S16384x6x128, .f32⟩
  | .hbm, ⟨40, _⟩ => ⟨S16384x6x128, .f32⟩
  | .hbm, ⟨41, _⟩ => ⟨S16384x6x128, .f32⟩
  | .hbm, ⟨42, _⟩ => ⟨S16384x6x128, .f32⟩
  | .hbm, ⟨43, _⟩ => ⟨S16384x768, .f32⟩
  | .hbm, ⟨44, _⟩ => ⟨S16384x6x128, .f32⟩
  | .hbm, ⟨45, _⟩ => ⟨S16384x6x128, .f32⟩
  | .hbm, ⟨46, _⟩ => ⟨S16384x6x128, .f32⟩
  | .hbm, ⟨47, _⟩ => ⟨S16384x6x128, .f32⟩
  | .hbm, ⟨48, _⟩ => ⟨S16384x6x128, .f32⟩
  | .hbm, ⟨49, _⟩ => ⟨S16384x6x128, .f32⟩
  | .hbm, ⟨50, _⟩ => ⟨S16384x6x128, .f32⟩
  | .hbm, ⟨51, _⟩ => ⟨S16384x768, .f32⟩
  | .hbm, ⟨52, _⟩ => ⟨S16384x6x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S16384x6x128, .f32⟩
  | .hbm, ⟨57, _⟩ => ⟨S16384x6x128, .f32⟩
  | .hbm, ⟨58, _⟩ => ⟨S_, .f32⟩
  | .hbm, ⟨59, _⟩ => ⟨S128, .f32⟩
  | .hbm, ⟨60, _⟩ => ⟨S16384x6x128, .f32⟩
  | .hbm, ⟨61, _⟩ => ⟨S_, .f32⟩
  | .hbm, ⟨62, _⟩ => ⟨S16384x6, .f32⟩
  | .hbm, ⟨63, _⟩ => ⟨S16384x6x1, .f32⟩
  | .hbm, ⟨64, _⟩ => ⟨S16384x6x128, .f32⟩
  | .hbm, ⟨65, _⟩ => ⟨S16384x6x128, .f32⟩
  | .hbm, ⟨66, _⟩ => ⟨S16384x6x1, .f32⟩
  | .hbm, ⟨67, _⟩ => ⟨S_, .f32⟩
  | .hbm, ⟨68, _⟩ => ⟨S16384x6x1, .f32⟩
  | .hbm, ⟨69, _⟩ => ⟨S16384x6x1, .f32⟩
  | .hbm, ⟨70, _⟩ => ⟨S_, .f32⟩
  | .hbm, ⟨71, _⟩ => ⟨S16384x6, .f32⟩
  | .hbm, ⟨72, _⟩ => ⟨S16384x6x128, .f32⟩
  | .hbm, ⟨73, _⟩ => ⟨S16384x6x128, .f32⟩
  | .hbm, ⟨74, _⟩ => ⟨S16384x6x128, .f32⟩
  | .hbm, ⟨75, _⟩ => ⟨S16384x6x128, .f32⟩
  | .hbm, ⟨76, _⟩ => ⟨S16384x6x128, .f32⟩
  | .hbm, ⟨77, _⟩ => ⟨S16384x768, .f32⟩
  | .hbm, ⟨78, _⟩ => ⟨S16384x768, .bf16⟩
  | .hbm, ⟨79, _⟩ => ⟨S16384x768, .bf16⟩
  | .hbm, ⟨80, _⟩ => ⟨S1x128, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v21_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v21_1 : Ref sig .tc := ⟨.hbm, 40, rfl⟩
abbrev main_v21_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Loss.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Prep.lean ====
abbrev S16384x2304 : Shape := ⟨2, ![16384, 2304]⟩
abbrev S16384x3x768 : Shape := ⟨3, ![16384, 3, 768]⟩
abbrev S3x16384x768 : Shape := ⟨3, ![3, 16384, 768]⟩
abbrev S3x2048x128 : Shape := ⟨3, ![3, 2048, 128]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 9
  | .vmem => 6
  | .smem => 0
  | _ => 0

abbrev bufTy : (tb : Table) → Fin (tcTables nBuf tb) → BufTy
  | .hbm, ⟨0, _⟩ => ⟨S16384x2304, .f32⟩
  | .hbm, ⟨1, _⟩ => ⟨S16384x2304, .f32⟩
  | .hbm, ⟨2, _⟩ => ⟨S16384x3x768, .f32⟩
  | .hbm, ⟨3, _⟩ => ⟨S3x16384x768, .f32⟩
  | .hbm, ⟨4, _⟩ => ⟨S3x16384x768, .bf16⟩
  | .hbm, ⟨5, _⟩ => ⟨S16384x3x768, .f32⟩
  | .hbm, ⟨6, _⟩ => ⟨S3x16384x768, .f32⟩
  | .hbm, ⟨7, _⟩ => ⟨S3x16384x768, .bf16⟩
  | .hbm, ⟨8, _⟩ => ⟨S3x16384x768, .bf16⟩
  | .local _ .vmem, ⟨0, _⟩ => ⟨S3x2048x128, .bf16⟩
  | .local _ .vmem, ⟨1, _⟩ => ⟨S3x2048x128, .bf16⟩
  | .local _ .vmem, ⟨2, _⟩ => ⟨S3x2048x128, .bf16⟩
  | .local _ .vmem, ⟨3, _⟩ => ⟨S3x2048x128, .bf16⟩
  | .local _ .vmem, ⟨4, _⟩ => ⟨S3x2048x128, .bf16⟩
  | .local _ .vmem, ⟨5, _⟩ => ⟨S3x2048x128, .bf16⟩
  | _, _ => ⟨S16384x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S3x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PrepRefIdeal.lean ====
abbrev S16384x2304 : Shape := ⟨2, ![16384, 2304]⟩
abbrev S16384x768 : Shape := ⟨2, ![16384, 768]⟩
abbrev S16384x6x128 : Shape := ⟨3, ![16384, 6, 128]⟩
abbrev S_ : Shape := ⟨0, ![]⟩
abbrev S16384x6 : Shape := ⟨2, ![16384, 6]⟩
abbrev S16384x6x1 : Shape := ⟨3, ![16384, 6, 1]⟩
abbrev S16384x3x768 : Shape := ⟨3, ![16384, 3, 768]⟩
abbrev S3x16384x768 : Shape := ⟨3, ![3, 16384, 768]⟩

abbrev nBuf : Space → Nat
  | .hbm => 100
  | .vmem => 0
  | .smem => 0
  | _ => 0

abbrev bufTy : (tb : Table) → Fin (tcTables nBuf tb) → BufTy
  | .hbm, ⟨0, _⟩ => ⟨S16384x2304, .f32⟩
  | .hbm, ⟨1, _⟩ => ⟨S16384x2304, .f32⟩
  | .hbm, ⟨2, _⟩ => ⟨S16384x768, .f32⟩
  | .hbm, ⟨3, _⟩ => ⟨S16384x768, .f32⟩
  | .hbm, ⟨4, _⟩ => ⟨S16384x768, .f32⟩
  | .hbm, ⟨5, _⟩ => ⟨S16384x6x128, .f32⟩
  | .hbm, ⟨6, _⟩ => ⟨S16384x6x128, .f32⟩
  | .hbm, ⟨7, _⟩ => ⟨S16384x6x128, .f32⟩
  | .hbm, ⟨8, _⟩ => ⟨S16384x2304, .f32⟩
  | .hbm, ⟨9, _⟩ => ⟨S16384x2304, .f32⟩
  | .hbm, ⟨10, _⟩ => ⟨S_, .f32⟩
  | .hbm, ⟨11, _⟩ => ⟨S16384x2304, .f32⟩
  | .hbm, ⟨12, _⟩ => ⟨S16384x2304, .f32⟩
  | .hbm, ⟨13, _⟩ => ⟨S_, .f32⟩
  | .hbm, ⟨14, _⟩ => ⟨S16384x2304, .f32⟩
  | .hbm, ⟨15, _⟩ => ⟨S16384x2304, .f32⟩
  | .hbm, ⟨16, _⟩ => ⟨S_, .f32⟩
  | .hbm, ⟨17, _⟩ => ⟨S16384x2304, .f32⟩
  | .hbm, ⟨18, _⟩ => ⟨S16384x2304, .f32⟩
  | .hbm, ⟨19, _⟩ => ⟨S16384x2304, .f32⟩
  | .hbm, ⟨20, _⟩ => ⟨S16384x2304, .f32⟩
  | .hbm, ⟨21, _⟩ => ⟨S16384x768, .f32⟩
  | .hbm, ⟨22, _⟩ => ⟨S16384x768, .f32⟩
  | .hbm, ⟨23, _⟩ => ⟨S16384x768, .f32⟩
  | .hbm, ⟨24, _⟩ => ⟨S16384x6x128, .f32⟩
  | .hbm, ⟨25, _⟩ => ⟨S16384x6x128, .f32⟩
  | .hbm, ⟨26, _⟩ => ⟨S16384x6x128, .f32⟩
  | .hbm, ⟨27, _⟩ => ⟨S16384x6x128, .f32⟩
  | .hbm, ⟨28, _⟩ => ⟨S_, .f32⟩
  | .hbm, ⟨29, _⟩ => ⟨S16384x6, .f32⟩
  | .hbm, ⟨30, _⟩ => ⟨S16384x6x1, .f32⟩
  | .hbm, ⟨31, _⟩ => ⟨S_, .f32⟩
  | .hbm, ⟨32, _⟩ => ⟨S16384x6x1, .f32⟩
  | .hbm, ⟨33, _⟩ => ⟨S16384x6x1, .f32⟩
  | .hbm, ⟨34, _⟩ => ⟨S16384x6x1, .f32⟩
  | .hbm, ⟨35, _⟩ => ⟨S16384x6x1, .f32⟩
  | .hbm, ⟨36, _⟩ => ⟨S_, .f32⟩
  | .hbm, ⟨37, _⟩ => ⟨S16384x6x1, .f32⟩
  | .hbm, ⟨38, _⟩ => ⟨S16384x6x1, .f32⟩
  | .hbm, ⟨39, _⟩ => ⟨S16384x6x128, .f32⟩
  | .hbm, ⟨40, _⟩ => ⟨S16384x6x128, .f32⟩
  | .hbm, ⟨41, _⟩ => ⟨S_, .f32⟩
  | .hbm, ⟨42, _⟩ => ⟨S16384x6x128, .f32⟩
  | .hbm, ⟨43, _⟩ => ⟨S16384x6x128, .f32⟩
  | .hbm, ⟨44, _⟩ => ⟨S16384x6x128, .f32⟩
  | .hbm, ⟨45, _⟩ => ⟨S_, .f32⟩
  | .hbm, ⟨46, _⟩ => ⟨S16384x6, .f32⟩
  | .hbm, ⟨47, _⟩ => ⟨S16384x6x1, .f32⟩
  | .hbm, ⟨48, _⟩ => ⟨S_, .f32⟩
  | .hbm, ⟨49, _⟩ => ⟨S16384x6x1, .f32⟩
  | .hbm, ⟨50, _⟩ => ⟨S16384x6x1, .f32⟩
  | .hbm, ⟨51, _⟩ => ⟨S16384x6x1, .f32⟩
  | .hbm, ⟨52, _⟩ => ⟨S16384x6x1, .f32⟩
  | .hbm, ⟨53, _⟩ => ⟨S_, .f32⟩
  | .hbm, ⟨54, _⟩ => ⟨S16384x6x1, .f32⟩
  | .hbm, ⟨55, _⟩ => ⟨S16384x6x1, .f32⟩
  | .hbm, ⟨56, _⟩ => ⟨S16384x6x128, .f32⟩
  | .hbm, ⟨57, _⟩ => ⟨S16384x6x128, .f32⟩
  | .hbm, ⟨58, _⟩ => ⟨S16384x6x128, .f32⟩
  | .hbm, ⟨59, _⟩ => ⟨S_, .f32⟩
  | .hbm, ⟨60, _⟩ => ⟨S16384x6, .f32⟩
  | .hbm, ⟨61, _⟩ => ⟨S16384x6x1, .f32⟩
  | .hbm, ⟨62, _⟩ => ⟨S16384x6x128, .f32⟩
  | .hbm, ⟨63, _⟩ => ⟨S16384x6x128, .f32⟩
  | .hbm, ⟨64, _⟩ => ⟨S16384x6x1, .f32⟩
  | .hbm, ⟨65, _⟩ => ⟨S_, .f32⟩
  | .hbm, ⟨66, _⟩ => ⟨S16384x6, .f32⟩
  | .hbm, ⟨67, _⟩ => ⟨S16384x6x128, .f32⟩
  | .hbm, ⟨68, _⟩ => ⟨S16384x6x128, .f32⟩
  | .hbm, ⟨69, _⟩ => ⟨S16384x6x128, .f32⟩
  | .hbm, ⟨70, _⟩ => ⟨S16384x6x128, .f32⟩
  | .hbm, ⟨71, _⟩ => ⟨S16384x6x128, .f32⟩
  | .hbm, ⟨72, _⟩ => ⟨S_, .f32⟩
  | .hbm, ⟨73, _⟩ => ⟨S16384x6x128, .f32⟩
  | .hbm, ⟨74, _⟩ => ⟨S16384x6x128, .f32⟩
  | .hbm, ⟨75, _⟩ => ⟨S16384x6x128, .f32⟩
  | .hbm, ⟨76, _⟩ => ⟨S_, .f32⟩
  | .hbm, ⟨77, _⟩ => ⟨S16384x6, .f32⟩
  | .hbm, ⟨78, _⟩ => ⟨S16384x6x1, .f32⟩
  | .hbm, ⟨79, _⟩ => ⟨S16384x6x128, .f32⟩
  | .hbm, ⟨80, _⟩ => ⟨S16384x6x128, .f32⟩
  | .hbm, ⟨81, _⟩ => ⟨S16384x6x1, .f32⟩
  | .hbm, ⟨82, _⟩ => ⟨S_, .f32⟩
  | .hbm, ⟨83, _⟩ => ⟨S16384x6, .f32⟩
  | .hbm, ⟨84, _⟩ => ⟨S16384x6x128, .f32⟩
  | .hbm, ⟨85, _⟩ => ⟨S16384x6x128, .f32⟩
  | .hbm, ⟨86, _⟩ => ⟨S16384x6x128, .f32⟩
  | .hbm, ⟨87, _⟩ => ⟨S16384x6x128, .f32⟩
  | .hbm, ⟨88, _⟩ => ⟨S16384x6x128, .f32⟩
  | .hbm, ⟨89, _⟩ => ⟨S16384x768, .f32⟩
  | .hbm, ⟨90, _⟩ => ⟨S16384x768, .f32⟩
  | .hbm, ⟨91, _⟩ => ⟨S16384x768, .f32⟩
  | .hbm, ⟨92, _⟩ => ⟨S16384x2304, .f32⟩
  | .hbm, ⟨93, _⟩ => ⟨S16384x2304, .f32⟩
  | .hbm, ⟨94, _⟩ => ⟨S16384x2304, .f32⟩
  | .hbm, ⟨95, _⟩ => ⟨S16384x2304, .f32⟩
  | .hbm, ⟨96, _⟩ => ⟨S16384x2304, .f32⟩
  | .hbm, ⟨97, _⟩ => ⟨S16384x3x768, .f32⟩
  | .hbm, ⟨98, _⟩ => ⟨S3x16384x768, .f32⟩
  | .hbm, ⟨99, _⟩ => ⟨S3x16384x768, .bf16⟩
  | _, _ => ⟨S16384x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v6_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v6_1 : Ref sig .tc := ⟨.hbm, 19, rfl⟩
abbrev main_v6_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== Rope.lean ====
abbrev S16384 : Shape := ⟨1, ![16384]⟩
abbrev S16384x6x192 : Shape := ⟨3, ![16384, 6, 192]⟩
abbrev S16384x1 : Shape := ⟨2, ![16384, 1]⟩
abbrev S32 : Shape := ⟨1, ![32]⟩
abbrev S_ : Shape := ⟨0, ![]⟩
abbrev S128 : Shape := ⟨1, ![128]⟩
abbrev S64 : Shape := ⟨1, ![64]⟩
abbrev S256 : Shape := ⟨1, ![256]⟩
abbrev S1x256 : Shape := ⟨2, ![1, 256]⟩
abbrev S16384x256 : Shape := ⟨2, ![16384, 256]⟩
abbrev S512x1 : Shape := ⟨2, ![512, 1]⟩
abbrev S512x256 : Shape := ⟨2, ![512, 256]⟩
abbrev S16384x6x64 : Shape := ⟨3, ![16384, 6, 64]⟩
abbrev S16384x6x256 : Shape := ⟨3, ![16384, 6, 256]⟩
abbrev S16384x1536 : Shape := ⟨2, ![16384, 1536]⟩
abbrev S2x16384x1536 : Shape := ⟨3, ![2, 16384, 1536]⟩
abbrev S2048x256 : Shape := ⟨2, ![2048, 256]⟩
abbrev S2x2048x256 : Shape := ⟨3, ![2, 2048, 256]⟩
abbrev S1x2048x256 : Shape := ⟨3, ![1, 2048, 256]⟩
abbrev S1x16384x1536 : Shape := ⟨3, ![1, 16384, 1536]⟩
abbrev S16384x6x128 : Shape := ⟨3, ![16384, 6, 128]⟩
abbrev S16384x6x32 : Shape := ⟨3, ![16384, 6, 32]⟩

abbrev nBuf : Space → Nat
  | .hbm => 65
  | .vmem => 18
  | .smem => 0
  | _ => 0

abbrev bufTy : (tb : Table) → Fin (tcTables nBuf tb) → BufTy
  | .hbm, ⟨0, _⟩ => ⟨S16384, .i32⟩
  | .hbm, ⟨1, _⟩ => ⟨S16384x6x192, .f32⟩
  | .hbm, ⟨2, _⟩ => ⟨S16384x1, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S64, .f32⟩
  | .hbm, ⟨23, _⟩ => ⟨S256, .f32⟩
  | .hbm, ⟨24, _⟩ => ⟨S1x256, .f32⟩
  | .hbm, ⟨25, _⟩ => ⟨S32, .f32⟩
  | .hbm, ⟨26, _⟩ => ⟨S256, .f32⟩
  | .hbm, ⟨27, _⟩ => ⟨S1x256, .f32⟩
  | .hbm, ⟨28, _⟩ => ⟨S256, .f32⟩
  | .hbm, ⟨29, _⟩ => ⟨S1x256, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S256, .f32⟩
  | .hbm, ⟨40, _⟩ => ⟨S1x256, .f32⟩
  | .hbm, ⟨41, _⟩ => ⟨S16384x256, .f32⟩
  | .hbm, ⟨42, _⟩ => ⟨S16384x256, .f32⟩
  | .hbm, ⟨43, _⟩ => ⟨S_, .f32⟩
  | .hbm, ⟨44, _⟩ => ⟨S16384x6x64, .f32⟩
  | .hbm, ⟨45, _⟩ => ⟨S16384x6x256, .f32⟩
  | .hbm, ⟨46, _⟩ => ⟨S16384x1536, .f32⟩
  | .hbm, ⟨47, _⟩ => ⟨S16384x1536, .bf16⟩
  | .hbm, ⟨48, _⟩ => ⟨S2x16384x1536, .bf16⟩
  | .hbm, ⟨49, _⟩ => ⟨S1x16384x1536, .bf16⟩
  | .hbm, ⟨50, _⟩ => ⟨S16384x1536, .bf16⟩
  | .hbm, ⟨51, _⟩ => ⟨S16384x6x256, .bf16⟩
  | .hbm, ⟨52, _⟩ => ⟨S16384x6x256, .f32⟩
  | .hbm, ⟨53, _⟩ => ⟨S1x16384x1536, .bf16⟩
  | .hbm, ⟨54, _⟩ => ⟨S16384x1536, .bf16⟩
  | .hbm, ⟨55, _⟩ => ⟨S16384x6x256, .bf16⟩
  | .hbm, ⟨56, _⟩ => ⟨S16384x6x256, .f32⟩
  | .hbm, ⟨57, _⟩ => ⟨S16384x6x128, .f32⟩
  | .hbm, ⟨58, _⟩ => ⟨S16384x6x64, .f32⟩
  | .hbm, ⟨59, _⟩ => ⟨S16384x6x64, .f32⟩
  | .hbm, ⟨60, _⟩ => ⟨S16384x6x32, .f32⟩
  | .hbm, ⟨61, _⟩ => ⟨S16384x6x32, .f32⟩
  | .hbm, ⟨62, _⟩ => ⟨S16384x6x64, .f32⟩
  | .hbm, ⟨63, _⟩ => ⟨S16384x6x64, .f32⟩
  | .hbm, ⟨64, _⟩ => ⟨S16384x6x192, .f32⟩
  | .local _ .vmem, ⟨0, _⟩ => ⟨S512x1, .i32⟩
  | .local _ .vmem, ⟨1, _⟩ => ⟨S512x1, .i32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S2x2048x256, .bf16⟩
  | .local _ .vmem, ⟨17, _⟩ => ⟨S2x2048x256, .bf16⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== RopeRefIdeal.lean ====
abbrev S16384 : Shape := ⟨1, ![16384]⟩
abbrev S16384x6x192 : Shape := ⟨3, ![16384, 6, 192]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x6x128 : Shape := ⟨3, ![16384, 6, 128]⟩
abbrev S16384x6x64 : Shape := ⟨3, ![16384, 6, 64]⟩
abbrev S16384x6x32 : Shape := ⟨3, ![16384, 6, 32]⟩
abbrev S16384x1x32 : Shape := ⟨3, ![16384, 1, 32]⟩

abbrev nBuf : Space → Nat
  | .hbm => 61
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x6x192, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S16384, .f32⟩
  | .hbm, ⟨17, _⟩ => ⟨S16384x1, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S_, .f32⟩
  | .hbm, ⟨25, _⟩ => ⟨S16384x6x192, .f32⟩
  | .hbm, ⟨26, _⟩ => ⟨S16384x6x128, .f32⟩
  | .hbm, ⟨27, _⟩ => ⟨S16384x6x64, .f32⟩
  | .hbm, ⟨28, _⟩ => ⟨S16384x6x32, .f32⟩
  | .hbm, ⟨29, _⟩ => ⟨S16384x6x32, .f32⟩
  | .hbm, ⟨30, _⟩ => ⟨S16384x1x32, .f32⟩
  | .hbm, ⟨31, _⟩ => ⟨S16384x1x32, .f32⟩
  | .hbm, ⟨32, _⟩ => ⟨S16384x6x32, .f32⟩
  | .hbm, ⟨33, _⟩ => ⟨S16384x6x32, .f32⟩
  | .hbm, ⟨34, _⟩ => ⟨S16384x6x32, .f32⟩
  | .hbm, ⟨35, _⟩ => ⟨S16384x6x32, .f32⟩
  | .hbm, ⟨36, _⟩ => ⟨S16384x6x32, .f32⟩
  | .hbm, ⟨37, _⟩ => ⟨S16384x6x32, .f32⟩
  | .hbm, ⟨38, _⟩ => ⟨S16384x6x32, .f32⟩
  | .hbm, ⟨39, _⟩ => ⟨S16384x6x32, .f32⟩
  | .hbm, ⟨40, _⟩ => ⟨S16384x6x32, .f32⟩
  | .hbm, ⟨41, _⟩ => ⟨S16384x6x32, .f32⟩
  | .hbm, ⟨42, _⟩ => ⟨S16384x6x64, .f32⟩
  | .hbm, ⟨43, _⟩ => ⟨S16384x6x192, .f32⟩
  | .hbm, ⟨44, _⟩ => ⟨S16384x6x128, .f32⟩
  | .hbm, ⟨45, _⟩ => ⟨S16384x6x64, .f32⟩
  | .hbm, ⟨46, _⟩ => ⟨S16384x6x32, .f32⟩
  | .hbm, ⟨47, _⟩ => ⟨S16384x6x32, .f32⟩
  | .hbm, ⟨48, _⟩ => ⟨S16384x6x32, .f32⟩
  | .hbm, ⟨49, _⟩ => ⟨S16384x6x32, .f32⟩
  | .hbm, ⟨50, _⟩ => ⟨S16384x6x32, .f32⟩
  | .hbm, ⟨51, _⟩ => ⟨S16384x6x32, .f32⟩
  | .hbm, ⟨52, _⟩ => ⟨S16384x6x32, .f32⟩
  | .hbm, ⟨53, _⟩ => ⟨S16384x6x32, .f32⟩
  | .hbm, ⟨54, _⟩ => ⟨S16384x6x32, .f32⟩
  | .hbm, ⟨55, _⟩ => ⟨S16384x6x32, .f32⟩
  | .hbm, ⟨56, _⟩ => ⟨S16384x6x32, .f32⟩
  | .hbm, ⟨57, _⟩ => ⟨S16384x6x32, .f32⟩
  | .hbm, ⟨58, _⟩ => ⟨S16384x6x32, .f32⟩
  | .hbm, ⟨59, _⟩ => ⟨S16384x6x64, .f32⟩
  | .hbm, ⟨60, _⟩ => ⟨S16384x6x192, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩

abbrev nD : Nat := 1
abbrev τ : Topo := Topo.v7x

variable {F : FTy → Type} [FloatOps F]
-- ==== KvRope.lean ====
abbrev S16384 : Shape := ⟨1, ![16384]⟩
abbrev S16384x6x192 : Shape := ⟨3, ![16384, 6, 192]⟩
abbrev S16384x6x128 : Shape := ⟨3, ![16384, 6, 128]⟩
abbrev S16384x1 : Shape := ⟨2, ![16384, 1]⟩
abbrev S32 : Shape := ⟨1, ![32]⟩
abbrev S_ : Shape := ⟨0, ![]⟩
abbrev S128 : Shape := ⟨1, ![128]⟩
abbrev S64 : Shape := ⟨1, ![64]⟩
abbrev S256 : Shape := ⟨1, ![256]⟩
abbrev S1x256 : Shape := ⟨2, ![1, 256]⟩
abbrev S16384x256 : Shape := ⟨2, ![16384, 256]⟩
abbrev S512x1 : Shape := ⟨2, ![512, 1]⟩
abbrev S512x256 : Shape := ⟨2, ![512, 256]⟩
abbrev S16384x6x64 : Shape := ⟨3, ![16384, 6, 64]⟩
abbrev S16384x6x256 : Shape := ⟨3, ![16384, 6, 256]⟩
abbrev S16384x1536 : Shape := ⟨2, ![16384, 1536]⟩
abbrev S6x16384x256 : Shape := ⟨3, ![6, 16384, 256]⟩
abbrev S2048x256 : Shape := ⟨2, ![2048, 256]⟩
abbrev S1x2048x256 : Shape := ⟨3, ![1, 2048, 256]⟩
abbrev S6x512x256 : Shape := ⟨3, ![6, 512, 256]⟩
abbrev S16384x768 : Shape := ⟨2, ![16384, 768]⟩
abbrev S512x768 : Shape := ⟨2, ![512, 768]⟩
abbrev S16384x64 : Shape := ⟨2, ![16384, 64]⟩
abbrev S16384x32 : Shape := ⟨2, ![16384, 32]⟩

abbrev nBuf : Space → Nat
  | .hbm => 76
  | .vmem => 38
  | .smem => 0
  | _ => 0

abbrev bufTy : (tb : Table) → Fin (tcTables nBuf tb) → BufTy
  | .hbm, ⟨0, _⟩ => ⟨S16384, .i32⟩
  | .hbm, ⟨1, _⟩ => ⟨S16384x6x192, .f32⟩
  | .hbm, ⟨2, _⟩ => ⟨S16384x6x192, .f32⟩
  | .hbm, ⟨3, _⟩ => ⟨S16384x6x128, .f32⟩
  | .hbm, ⟨4, _⟩ => ⟨S16384x6x128, .f32⟩
  | .hbm, ⟨5, _⟩ => ⟨S16384x1, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S64, .f32⟩
  | .hbm, ⟨26, _⟩ => ⟨S256, .f32⟩
  | .hbm, ⟨27, _⟩ => ⟨S1x256, .f32⟩
  | .hbm, ⟨28, _⟩ => ⟨S32, .f32⟩
  | .hbm, ⟨29, _⟩ => ⟨S256, .f32⟩
  | .hbm, ⟨30, _⟩ => ⟨S1x256, .f32⟩
  | .hbm, ⟨31, _⟩ => ⟨S256, .f32⟩
  | .hbm, ⟨32, _⟩ => ⟨S1x256, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S256, .f32⟩
  | .hbm, ⟨43, _⟩ => ⟨S1x256, .f32⟩
  | .hbm, ⟨44, _⟩ => ⟨S16384x256, .f32⟩
  | .hbm, ⟨45, _⟩ => ⟨S16384x256, .f32⟩
  | .hbm, ⟨46, _⟩ => ⟨S_, .f32⟩
  | .hbm, ⟨47, _⟩ => ⟨S16384x6x64, .f32⟩
  | .hbm, ⟨48, _⟩ => ⟨S16384x6x256, .f32⟩
  | .hbm, ⟨49, _⟩ => ⟨S16384x1536, .f32⟩
  | .hbm, ⟨50, _⟩ => ⟨S16384x1536, .bf16⟩
  | .hbm, ⟨51, _⟩ => ⟨S_, .f32⟩
  | .hbm, ⟨52, _⟩ => ⟨S16384x6x64, .f32⟩
  | .hbm, ⟨53, _⟩ => ⟨S16384x6x256, .f32⟩
  | .hbm, ⟨54, _⟩ => ⟨S16384x1536, .f32⟩
  | .hbm, ⟨55, _⟩ => ⟨S16384x1536, .bf16⟩
  | .hbm, ⟨56, _⟩ => ⟨S16384x1536, .bf16⟩
  | .hbm, ⟨57, _⟩ => ⟨S6x16384x256, .bf16⟩
  | .hbm, ⟨58, _⟩ => ⟨S6x16384x256, .bf16⟩
  | .hbm, ⟨59, _⟩ => ⟨S16384x256, .bf16⟩
  | .hbm, ⟨60, _⟩ => ⟨S16384x256, .bf16⟩
  | .hbm, ⟨61, _⟩ => ⟨S16384x768, .f32⟩
  | .hbm, ⟨62, _⟩ => ⟨S16384x768, .bf16⟩
  | .hbm, ⟨63, _⟩ => ⟨S16384x768, .f32⟩
  | .hbm, ⟨64, _⟩ => ⟨S16384x768, .bf16⟩
  | .hbm, ⟨65, _⟩ => ⟨S16384x768, .bf16⟩
  | .hbm, ⟨66, _⟩ => ⟨S16384x6x256, .bf16⟩
  | .hbm, ⟨67, _⟩ => ⟨S16384x6x128, .bf16⟩
  | .hbm, ⟨68, _⟩ => ⟨S16384x64, .bf16⟩
  | .hbm, ⟨69, _⟩ => ⟨S16384x64, .f32⟩
  | .hbm, ⟨70, _⟩ => ⟨S16384x64, .bf16⟩
  | .hbm, ⟨71, _⟩ => ⟨S16384x64, .f32⟩
  | .hbm, ⟨72, _⟩ => ⟨S16384x32, .f32⟩
  | .hbm, ⟨73, _⟩ => ⟨S16384x32, .f32⟩
  | .hbm, ⟨74, _⟩ => ⟨S16384x64, .f32⟩
  | .hbm, ⟨75, _⟩ => ⟨S16384x64, .f32⟩
  | .local _ .vmem, ⟨0, _⟩ => ⟨S512x1, .i32⟩
  | .local _ .vmem, ⟨1, _⟩ => ⟨S512x1, .i32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S1x2048x256, .bf16⟩
  | .local _ .vmem, ⟨21, _⟩ => ⟨S1x2048x256, .bf16⟩
  | .local _ .vmem, ⟨22, _⟩ => ⟨S1x2048x256, .bf16⟩
  | .local _ .vmem, ⟨23, _⟩ => ⟨S1x2048x256, .bf16⟩
  | .local _ .vmem, ⟨24, _⟩ => ⟨S6x512x256, .bf16⟩
  | .local _ .vmem, ⟨25, _⟩ => ⟨S6x512x256, .bf16⟩
  | .local _ .vmem, ⟨26, _⟩ => ⟨S6x512x256, .bf16⟩
  | .local _ .vmem, ⟨27, _⟩ => ⟨S6x512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S512x768, .bf16⟩
  | .local _ .vmem, ⟨33, _⟩ => ⟨S512x768, .bf16⟩
  | .local _ .vmem, ⟨34, _⟩ => ⟨S512x768, .bf16⟩
  | .local _ .vmem, ⟨35, _⟩ => ⟨S512x768, .bf16⟩
  | .local _ .vmem, ⟨36, _⟩ => ⟨S512x768, .bf16⟩
  | .local _ .vmem, ⟨37, _⟩ => ⟨S512x768, .bf16⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29_0 : Ref sig .tc := ⟨.hbm, 44, rfl⟩
abbrev main_v29_1 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38_0 : Ref sig .tc := ⟨.hbm, 56, rfl⟩
abbrev main_v38_1 : Ref sig .tc := ⟨.hbm, 57, rfl⟩
abbrev main_v38_2 : Ref sig .tc := ⟨.hbm, 58, rfl⟩
abbrev main_v39_0 : Ref sig .tc := ⟨.hbm, 59, rfl⟩
abbrev main_v39_1 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6x512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6x512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x768 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== KvRopeRefIdeal.lean ====
abbrev S16384 : Shape := ⟨1, ![16384]⟩
abbrev S16384x6x192 : Shape := ⟨3, ![16384, 6, 192]⟩
abbrev S16384x6x128 : Shape := ⟨3, ![16384, 6, 128]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x1x64 : Shape := ⟨3, ![16384, 1, 64]⟩
abbrev S16384x1x32 : Shape := ⟨3, ![16384, 1, 32]⟩
abbrev S16384x6x64 : Shape := ⟨3, ![16384, 6, 64]⟩
abbrev S16384x768 : Shape := ⟨2, ![16384, 768]⟩

abbrev nBuf : Space → Nat
  | .hbm => 69
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x6x192, .f32⟩
  | .hbm, ⟨2, _⟩ => ⟨S16384x6x192, .f32⟩
  | .hbm, ⟨3, _⟩ => ⟨S16384x6x128, .f32⟩
  | .hbm, ⟨4, _⟩ => ⟨S16384x6x128, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S16384, .f32⟩
  | .hbm, ⟨20, _⟩ => ⟨S16384x1, .f32⟩
  | .hbm, ⟨21, _⟩ => ⟨S1x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S_, .f32⟩
  | .hbm, ⟨28, _⟩ => ⟨S16384x6x128, .f32⟩
  | .hbm, ⟨29, _⟩ => ⟨S_, .f32⟩
  | .hbm, ⟨30, _⟩ => ⟨S16384x64, .f32⟩
  | .hbm, ⟨31, _⟩ => ⟨S_, .f32⟩
  | .hbm, ⟨32, _⟩ => ⟨S16384x6x128, .f32⟩
  | .hbm, ⟨33, _⟩ => ⟨S16384x1x64, .f32⟩
  | .hbm, ⟨34, _⟩ => ⟨S16384x1x32, .f32⟩
  | .hbm, ⟨35, _⟩ => ⟨S16384x1x32, .f32⟩
  | .hbm, ⟨36, _⟩ => ⟨S16384x1x32, .f32⟩
  | .hbm, ⟨37, _⟩ => ⟨S16384x1x32, .f32⟩
  | .hbm, ⟨38, _⟩ => ⟨S16384x1x32, .f32⟩
  | .hbm, ⟨39, _⟩ => ⟨S16384x1x32, .f32⟩
  | .hbm, ⟨40, _⟩ => ⟨S16384x1x32, .f32⟩
  | .hbm, ⟨41, _⟩ => ⟨S16384x1x32, .f32⟩
  | .hbm, ⟨42, _⟩ => ⟨S16384x1x32, .f32⟩
  | .hbm, ⟨43, _⟩ => ⟨S16384x1x32, .f32⟩
  | .hbm, ⟨44, _⟩ => ⟨S16384x1x64, .f32⟩
  | .hbm, ⟨45, _⟩ => ⟨S16384x6x64, .f32⟩
  | .hbm, ⟨46, _⟩ => ⟨S16384x6x192, .f32⟩
  | .hbm, ⟨47, _⟩ => ⟨S16384x6x192, .f32⟩
  | .hbm, ⟨48, _⟩ => ⟨S16384x6x128, .f32⟩
  | .hbm, ⟨49, _⟩ => ⟨S16384x6x128, .f32⟩
  | .hbm, ⟨50, _⟩ => ⟨S16384x6x64, .f32⟩
  | .hbm, ⟨51, _⟩ => ⟨S_, .f32⟩
  | .hbm, ⟨52, _⟩ => ⟨S16384x64, .f32⟩
  | .hbm, ⟨53, _⟩ => ⟨S16384x1x64, .f32⟩
  | .hbm, ⟨54, _⟩ => ⟨S16384x1x32, .f32⟩
  | .hbm, ⟨55, _⟩ => ⟨S16384x1x32, .f32⟩
  | .hbm, ⟨56, _⟩ => ⟨S16384x1x32, .f32⟩
  | .hbm, ⟨57, _⟩ => ⟨S16384x1x32, .f32⟩
  | .hbm, ⟨58, _⟩ => ⟨S16384x1x32, .f32⟩
  | .hbm, ⟨59, _⟩ => ⟨S16384x1x32, .f32⟩
  | .hbm, ⟨60, _⟩ => ⟨S16384x1x32, .f32⟩
  | .hbm, ⟨61, _⟩ => ⟨S16384x1x32, .f32⟩
  | .hbm, ⟨62, _⟩ => ⟨S16384x1x32, .f32⟩
  | .hbm, ⟨63, _⟩ => ⟨S16384x1x64, .f32⟩
  | .hbm, ⟨64, _⟩ => ⟨S_, .f32⟩
  | .hbm, ⟨65, _⟩ => ⟨S16384x64, .f32⟩
  | .hbm, ⟨66, _⟩ => ⟨S16384x6x128, .bf16⟩
  | .hbm, ⟨67, _⟩ => ⟨S16384x768, .f32⟩
  | .hbm, ⟨68, _⟩ => ⟨S16384x768, .bf16⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Memory.lean ====
abbrev S16384x3340 : Shape := ⟨2, ![16384, 3340]⟩
abbrev S256x512 : Shape := ⟨2, ![256, 512]⟩
abbrev S16384x256 : Shape := ⟨2, ![16384, 256]⟩
abbrev S16384x12 : Shape := ⟨2, ![16384, 12]⟩
abbrev S_ : Shape := ⟨0, ![]⟩
abbrev S16384x128 : Shape := ⟨2, ![16384, 128]⟩
abbrev S16384x3072 : Shape := ⟨2, ![16384, 3072]⟩
abbrev S16384x3456 : Shape := ⟨2, ![16384, 3456]⟩
abbrev S16384x1024 : Shape := ⟨2, ![16384, 1024]⟩
abbrev S256x256 : Shape := ⟨2, ![256, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 19
  | .vmem => 10
  | .smem => 0
  | _ => 0

abbrev bufTy : (tb : Table) → Fin (tcTables nBuf tb) → BufTy
  | .hbm, ⟨0, _⟩ => ⟨S16384x3340, .f32⟩
  | .hbm, ⟨1, _⟩ => ⟨S256x512, .f32⟩
  | .hbm, ⟨2, _⟩ => ⟨S16384x256, .f32⟩
  | .hbm, ⟨3, _⟩ => ⟨S16384x12, .f32⟩
  | .hbm, ⟨4, _⟩ => ⟨S_, .i32⟩
  | .hbm, ⟨5, _⟩ => ⟨S_, .f32⟩
  | .hbm, ⟨6, _⟩ => ⟨S16384x128, .f32⟩
  | .hbm, ⟨7, _⟩ => ⟨S16384x3072, .f32⟩
  | .hbm, ⟨8, _⟩ => ⟨S16384x256, .f32⟩
  | .hbm, ⟨9, _⟩ => ⟨S16384x3456, .f32⟩
  | .hbm, ⟨10, _⟩ => ⟨S16384x3456, .bf16⟩
  | .hbm, ⟨11, _⟩ => ⟨S_, .i32⟩
  | .hbm, ⟨12, _⟩ => ⟨S_, .f32⟩
  | .hbm, ⟨13, _⟩ => ⟨S16384x1024, .f32⟩
  | .hbm, ⟨14, _⟩ => ⟨S16384x1024, .bf16⟩
  | .hbm, ⟨15, _⟩ => ⟨S256x512, .bf16⟩
  | .hbm, ⟨16, _⟩ => ⟨S16384x256, .bf16⟩
  | .hbm, ⟨17, _⟩ => ⟨S256x256, .f32⟩
  | .hbm, ⟨18, _⟩ => ⟨S256x256, .f32⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S256x256, .f32⟩
  | .local _ .vmem, ⟨9, _⟩ => ⟨S256x256, .f32⟩
  | _, _ => ⟨S16384x3340, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemoryRefIdeal.lean ====
abbrev S16384x3340 : Shape := ⟨2, ![16384, 3340]⟩
abbrev S256x512 : Shape := ⟨2, ![256, 512]⟩
abbrev S16384x256 : Shape := ⟨2, ![16384, 256]⟩
abbrev S256x256 : Shape := ⟨2, ![256, 256]⟩
abbrev S16384x4x64 : Shape := ⟨3, ![16384, 4, 64]⟩
abbrev S256x4x64 : Shape := ⟨3, ![256, 4, 64]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x64x16384 : Shape := ⟨3, ![4, 64, 16384]⟩
abbrev S4x64x256 : Shape := ⟨3, ![4, 64, 256]⟩
abbrev S4x256x64 : Shape := ⟨3, ![4, 256, 64]⟩
abbrev S4x16384x64 : Shape := ⟨3, ![4, 16384, 64]⟩

abbrev nBuf : Space → Nat
  | .hbm => 84
  | .vmem => 0
  | .smem => 0
  | _ => 0

abbrev bufTy : (tb : Table) → Fin (tcTables nBuf tb) → BufTy
  | .hbm, ⟨0, _⟩ => ⟨S16384x3340, .f32⟩
  | .hbm, ⟨1, _⟩ => ⟨S256x512, .f32⟩
  | .hbm, ⟨2, _⟩ => ⟨S16384x256, .f32⟩
  | .hbm, ⟨3, _⟩ => ⟨S16384x256, .f32⟩
  | .hbm, ⟨4, _⟩ => ⟨S256x256, .f32⟩
  | .hbm, ⟨5, _⟩ => ⟨S256x256, .f32⟩
  | .hbm, ⟨6, _⟩ => ⟨S16384x4x64, .f32⟩
  | .hbm, ⟨7, _⟩ => ⟨S256x4x64, .f32⟩
  | .hbm, ⟨8, _⟩ => ⟨S256x4x64, .f32⟩
  | .hbm, ⟨9, _⟩ => ⟨S4x16384x256, .f32⟩
  | .hbm, ⟨10, _⟩ => ⟨S_, .f32⟩
  | .hbm, ⟨11, _⟩ => ⟨S4x16384x256, .f32⟩
  | .hbm, ⟨12, _⟩ => ⟨S4x16384x256, .f32⟩
  | .hbm, ⟨13, _⟩ => ⟨S_, .f32⟩
  | .hbm, ⟨14, _⟩ => ⟨S4x16384, .f32⟩
  | .hbm, ⟨15, _⟩ => ⟨S4x16384x1, .f32⟩
  | .hbm, ⟨16, _⟩ => ⟨S4x16384x256, .f32⟩
  | .hbm, ⟨17, _⟩ => ⟨S4x16384x256, .i1⟩
  | .hbm, ⟨18, _⟩ => ⟨S4x16384x256, .f32⟩
  | .hbm, ⟨19, _⟩ => ⟨S_, .f32⟩
  | .hbm, ⟨20, _⟩ => ⟨S4x16384, .f32⟩
  | .hbm, ⟨21, _⟩ => ⟨S_, .f32⟩
  | .hbm, ⟨22, _⟩ => ⟨S4x16384, .f32⟩
  | .hbm, ⟨23, _⟩ => ⟨S4x16384, .f32⟩
  | .hbm, ⟨24, _⟩ => ⟨S_, .f32⟩
  | .hbm, ⟨25, _⟩ => ⟨S4x16384, .f32⟩
  | .hbm, ⟨26, _⟩ => ⟨S4x16384, .i1⟩
  | .hbm, ⟨27, _⟩ => ⟨S_, .f32⟩
  | .hbm, ⟨28, _⟩ => ⟨S4x16384, .f32⟩
  | .hbm, ⟨29, _⟩ => ⟨S4x16384, .i1⟩
  | .hbm, ⟨30, _⟩ => ⟨S_, .f32⟩
  | .hbm, ⟨31, _⟩ => ⟨S4x16384, .f32⟩
  | .hbm, ⟨32, _⟩ => ⟨S_, .f32⟩
  | .hbm, ⟨33, _⟩ => ⟨S4x16384, .f32⟩
  | .hbm, ⟨34, _⟩ => ⟨S_, .f32⟩
  | .hbm, ⟨35, _⟩ => ⟨S4x16384, .f32⟩
  | .hbm, ⟨36, _⟩ => ⟨S4x16384, .f32⟩
  | .hbm, ⟨37, _⟩ => ⟨S4x16384, .f32⟩
  | .hbm, ⟨38, _⟩ => ⟨S4x16384x1, .f32⟩
  | .hbm, ⟨39, _⟩ => ⟨S4x16384x256, .f32⟩
  | .hbm, ⟨40, _⟩ => ⟨S4x16384x256, .f32⟩
  | .hbm, ⟨41, _⟩ => ⟨S4x16384x256, .f32⟩
  | .hbm, ⟨42, _⟩ => ⟨S_, .f32⟩
  | .hbm, ⟨43, _⟩ => ⟨S4x16384, .f32⟩
  | .hbm, ⟨44, _⟩ => ⟨S4x16384x1, .f32⟩
  | .hbm, ⟨45, _⟩ => ⟨S4x16384x256, .f32⟩
  | .hbm, ⟨46, _⟩ => ⟨S4x16384x256, .f32⟩
  | .hbm, ⟨47, _⟩ => ⟨S4x16384x1, .f32⟩
  | .hbm, ⟨48, _⟩ => ⟨S_, .f32⟩
  | .hbm, ⟨49, _⟩ => ⟨S4x16384x1, .f32⟩
  | .hbm, ⟨50, _⟩ => ⟨S4x16384x1, .f32⟩
  | .hbm, ⟨51, _⟩ => ⟨S4x64x16384, .f32⟩
  | .hbm, ⟨52, _⟩ => ⟨S16384x4x64, .f32⟩
  | .hbm, ⟨53, _⟩ => ⟨S16384x256, .f32⟩
  | .hbm, ⟨54, _⟩ => ⟨S16384x4x64, .f32⟩
  | .hbm, ⟨55, _⟩ => ⟨S4x64x16384, .f32⟩
  | .hbm, ⟨56, _⟩ => ⟨S4x16384x256, .f32⟩
  | .hbm, ⟨57, _⟩ => ⟨S4x64x256, .f32⟩
  | .hbm, ⟨58, _⟩ => ⟨S256x4x64, .f32⟩
  | .hbm, ⟨59, _⟩ => ⟨S4x16384x256, .f32⟩
  | .hbm, ⟨60, _⟩ => ⟨S4x16384x256, .f32⟩
  | .hbm, ⟨61, _⟩ => ⟨S4x16384x256, .f32⟩
  | .hbm, ⟨62, _⟩ => ⟨S_, .f32⟩
  | .hbm, ⟨63, _⟩ => ⟨S4x16384, .f32⟩
  | .hbm, ⟨64, _⟩ => ⟨S4x16384x1, .f32⟩
  | .hbm, ⟨65, _⟩ => ⟨S4x16384x1, .f32⟩
  | .hbm, ⟨66, _⟩ => ⟨S4x16384x256, .f32⟩
  | .hbm, ⟨67, _⟩ => ⟨S4x16384x256, .f32⟩
  | .hbm, ⟨68, _⟩ => ⟨S_, .f32⟩
  | .hbm, ⟨69, _⟩ => ⟨S4x16384, .f32⟩
  | .hbm, ⟨70, _⟩ => ⟨S4x16384x256, .f32⟩
  | .hbm, ⟨71, _⟩ => ⟨S4x16384x256, .f32⟩
  | .hbm, ⟨72, _⟩ => ⟨S4x16384x256, .f32⟩
  | .hbm, ⟨73, _⟩ => ⟨S_, .f32⟩
  | .hbm, ⟨74, _⟩ => ⟨S4x16384x256, .f32⟩
  | .hbm, ⟨75, _⟩ => ⟨S4x16384x256, .f32⟩
  | .hbm, ⟨76, _⟩ => ⟨S4x256x64, .f32⟩
  | .hbm, ⟨77, _⟩ => ⟨S256x4x64, .f32⟩
  | .hbm, ⟨78, _⟩ => ⟨S4x16384x64, .f32⟩
  | .hbm, ⟨79, _⟩ => ⟨S16384x4x64, .f32⟩
  | .hbm, ⟨80, _⟩ => ⟨S256x256, .f32⟩
  | .hbm, ⟨81, _⟩ => ⟨S256x256, .f32⟩
  | .hbm, ⟨82, _⟩ => ⟨S16384x256, .f32⟩
  | .hbm, ⟨83, _⟩ => ⟨S16384x256, .bf16⟩
  | _, _ => ⟨S16384x3340, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Gates.lean ====
abbrev S16384x3340 : Shape := ⟨2, ![16384, 3340]⟩
abbrev S6 : Shape := ⟨1, ![6]⟩
abbrev S6x16384x128 : Shape := ⟨3, ![6, 16384, 128]⟩
abbrev S16384x12 : Shape := ⟨2, ![16384, 12]⟩
abbrev S_ : Shape := ⟨0, ![]⟩
abbrev S16384x128 : Shape := ⟨2, ![16384, 128]⟩
abbrev S16384x3072 : Shape := ⟨2, ![16384, 3072]⟩
abbrev S16384x256 : Shape := ⟨2, ![16384, 256]⟩
abbrev S16384x3456 : Shape := ⟨2, ![16384, 3456]⟩
abbrev S1x6 : Shape := ⟨2, ![1, 6]⟩
abbrev S1x128 : Shape := ⟨2, ![1, 128]⟩
abbrev S512x128 : Shape := ⟨2, ![512, 128]⟩
abbrev S6x512x128 : Shape := ⟨3, ![6, 512, 128]⟩
abbrev S128 : Shape := ⟨1, ![128]⟩

abbrev nBuf : Space → Nat
  | .hbm => 23
  | .vmem => 10
  | .smem => 0
  | _ => 0

abbrev bufTy : (tb : Table) → Fin (tcTables nBuf tb) → BufTy
  | .hbm, ⟨0, _⟩ => ⟨S16384x3340, .f32⟩
  | .hbm, ⟨1, _⟩ => ⟨S6, .f32⟩
  | .hbm, ⟨2, _⟩ => ⟨S6, .f32⟩
  | .hbm, ⟨3, _⟩ => ⟨S6x16384x128, .f32⟩
  | .hbm, ⟨4, _⟩ => ⟨S16384x12, .f32⟩
  | .hbm, ⟨5, _⟩ => ⟨S_, .i32⟩
  | .hbm, ⟨6, _⟩ => ⟨S_, .f32⟩
  | .hbm, ⟨7, _⟩ => ⟨S16384x128, .f32⟩
  | .hbm, ⟨8, _⟩ => ⟨S16384x3072, .f32⟩
  | .hbm, ⟨9, _⟩ => ⟨S16384x256, .f32⟩
  | .hbm, ⟨10, _⟩ => ⟨S16384x3456, .f32⟩
  | .hbm, ⟨11, _⟩ => ⟨S16384x3456, .bf16⟩
  | .hbm, ⟨12, _⟩ => ⟨S1x6, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x6, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S16384x128, .bf16⟩
  | .hbm, ⟨21, _⟩ => ⟨S1x128, .f32⟩
  | .hbm, ⟨22, _⟩ => ⟨S1x128, .f32⟩
  | .local _ .vmem, ⟨0, _⟩ => ⟨S512x128, .bf16⟩
  | .local _ .vmem, ⟨1, _⟩ => ⟨S512x128, .bf16⟩
  | .local _ .vmem, ⟨2, _⟩ => ⟨S1x128, .f32⟩
  | .local _ .vmem, ⟨3, _⟩ => ⟨S1x128, .f32⟩
  | .local _ .vmem, ⟨4, _⟩ => ⟨S6x512x128, .f32⟩
  | .local _ .vmem, ⟨5, _⟩ => ⟨S6x512x128, .f32⟩
  | .local _ .vmem, ⟨6, _⟩ => ⟨S512x128, .bf16⟩
  | .local _ .vmem, ⟨7, _⟩ => ⟨S512x128, .bf16⟩
  | .local _ .vmem, ⟨8, _⟩ => ⟨S1x128, .f32⟩
  | .local _ .vmem, ⟨9, _⟩ => ⟨S1x128, .f32⟩
  | _, _ => ⟨S16384x3340, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GatesRefIdeal.lean ====
abbrev S16384x3340 : Shape := ⟨2, ![16384, 3340]⟩
abbrev S6 : Shape := ⟨1, ![6]⟩
abbrev S6x16384x128 : Shape := ⟨3, ![6, 16384, 128]⟩
abbrev S16384x3072 : Shape := ⟨2, ![16384, 3072]⟩
abbrev S16384x6 : Shape := ⟨2, ![16384, 6]⟩
abbrev S16384x256 : Shape := ⟨2, ![16384, 256]⟩
abbrev S_ : Shape := ⟨0, ![]⟩
abbrev S16384x128 : Shape := ⟨2, ![16384, 128]⟩
abbrev S1x6 : Shape := ⟨2, ![1, 6]⟩
abbrev S16384x12 : Shape := ⟨2, ![16384, 12]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S16384x3340, .f32⟩
  | .hbm, ⟨1, _⟩ => ⟨S6, .f32⟩
  | .hbm, ⟨2, _⟩ => ⟨S6, .f32⟩
  | .hbm, ⟨3, _⟩ => ⟨S6x16384x128, .f32⟩
  | .hbm, ⟨4, _⟩ => ⟨S16384x3072, .f32⟩
  | .hbm, ⟨5, _⟩ => ⟨S16384x6, .f32⟩
  | .hbm, ⟨6, _⟩ => ⟨S16384x6, .f32⟩
  | .hbm, ⟨7, _⟩ => ⟨S16384x256, .f32⟩
  | .hbm, ⟨8, _⟩ => ⟨S_, .f32⟩
  | .hbm, ⟨9, _⟩ => ⟨S16384x128, .f32⟩
  | .hbm, ⟨10, _⟩ => ⟨S16384x6, .f32⟩
  | .hbm, ⟨11, _⟩ => ⟨S16384x6, .f32⟩
  | .hbm, ⟨12, _⟩ => ⟨S_, .f32⟩
  | .hbm, ⟨13, _⟩ => ⟨S16384x6, .f32⟩
  | .hbm, ⟨14, _⟩ => ⟨S16384x6, .f32⟩
  | .hbm, ⟨15, _⟩ => ⟨S_, .f32⟩
  | .hbm, ⟨16, _⟩ => ⟨S16384x6, .f32⟩
  | .hbm, ⟨17, _⟩ => ⟨S16384x6, .f32⟩
  | .hbm, ⟨18, _⟩ => ⟨S_, .f32⟩
  | .hbm, ⟨19, _⟩ => ⟨S16384x6, .f32⟩
  | .hbm, ⟨20, _⟩ => ⟨S16384x6, .f32⟩
  | .hbm, ⟨21, _⟩ => ⟨S16384x6, .f32⟩
  | .hbm, ⟨22, _⟩ => ⟨S6, .f32⟩
  | .hbm, ⟨23, _⟩ => ⟨S6, .f32⟩
  | .hbm, ⟨24, _⟩ => ⟨S1x6, .f32⟩
  | .hbm, ⟨25, _⟩ => ⟨S16384x6, .f32⟩
  | .hbm, ⟨26, _⟩ => ⟨S16384x6, .f32⟩
  | .hbm, ⟨27, _⟩ => ⟨S_, .f32⟩
  | .hbm, ⟨28, _⟩ => ⟨S16384x6, .f32⟩
  | .hbm, ⟨29, _⟩ => ⟨S16384x6, .f32⟩
  | .hbm, ⟨30, _⟩ => ⟨S16384x6, .f32⟩
  | .hbm, ⟨31, _⟩ => ⟨S16384x6, .f32⟩
  | .hbm, ⟨32, _⟩ => ⟨S16384x6, .i1⟩
  | .hbm, ⟨33, _⟩ => ⟨S16384x6, .f32⟩
  | .hbm, ⟨34, _⟩ => ⟨S16384x6, .f32⟩
  | .hbm, ⟨35, _⟩ => ⟨S16384x6, .f32⟩
  | .hbm, ⟨36, _⟩ => ⟨S16384x6, .f32⟩
  | .hbm, ⟨37, _⟩ => ⟨S16384x6, .f32⟩
  | .hbm, ⟨38, _⟩ => ⟨S16384x6, .f32⟩
  | .hbm, ⟨39, _⟩ => ⟨S16384x6, .f32⟩
  | .hbm, ⟨40, _⟩ => ⟨S16384x6, .f32⟩
  | .hbm, ⟨41, _⟩ => ⟨S_, .f32⟩
  | .hbm, ⟨42, _⟩ => ⟨S16384x6, .f32⟩
  | .hbm, ⟨43, _⟩ => ⟨S16384x6, .i1⟩
  | .hbm, ⟨44, _⟩ => ⟨S_, .f32⟩
  | .hbm, ⟨45, _⟩ => ⟨S16384x6, .f32⟩
  | .hbm, ⟨46, _⟩ => ⟨S16384x6, .f32⟩
  | .hbm, ⟨47, _⟩ => ⟨S_, .f32⟩
  | .hbm, ⟨48, _⟩ => ⟨S16384x6, .f32⟩
  | .hbm, ⟨49, _⟩ => ⟨S16384x6, .i1⟩
  | .hbm, ⟨50, _⟩ => ⟨S_, .f32⟩
  | .hbm, ⟨51, _⟩ => ⟨S16384x6, .f32⟩
  | .hbm, ⟨52, _⟩ => ⟨S16384x6, .f32⟩
  | .hbm, ⟨53, _⟩ => ⟨S16384x6, .f32⟩
  | .hbm, ⟨54, _⟩ => ⟨S16384x6, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16384x6, .f32⟩
  | .hbm, ⟨63, _⟩ => ⟨S16384x6, .i1⟩
  | .hbm, ⟨64, _⟩ => ⟨S_, .f32⟩
  | .hbm, ⟨65, _⟩ => ⟨S16384x6, .f32⟩
  | .hbm, ⟨66, _⟩ => ⟨S16384x6, .f32⟩
  | .hbm, ⟨67, _⟩ => ⟨S16384x6, .f32⟩
  | .hbm, ⟨68, _⟩ => ⟨S16384x6, .f32⟩
  | .hbm, ⟨69, _⟩ => ⟨S16384x6, .f32⟩
  | .hbm, ⟨70, _⟩ => ⟨S_, .f32⟩
  | .hbm, ⟨71, _⟩ => ⟨S16384x6, .f32⟩
  | .hbm, ⟨72, _⟩ => ⟨S16384x6, .f32⟩
  | .hbm, ⟨73, _⟩ => ⟨S1x6, .f32⟩
  | .hbm, ⟨74, _⟩ => ⟨S16384x6, .f32⟩
  | .hbm, ⟨75, _⟩ => ⟨S16384x6, .f32⟩
  | .hbm, ⟨76, _⟩ => ⟨S16384x6, .f32⟩
  | .hbm, ⟨77, _⟩ => ⟨S16384x6, .f32⟩
  | .hbm, ⟨78, _⟩ => ⟨S16384x6, .f32⟩
  | .hbm, ⟨79, _⟩ => ⟨S16384x6, .f32⟩
  | .hbm, ⟨80, _⟩ => ⟨S16384x6, .f32⟩
  | .hbm, ⟨81, _⟩ => ⟨S_, .f32⟩
  | .hbm, ⟨82, _⟩ => ⟨S6, .f32⟩
  | .hbm, ⟨83, _⟩ => ⟨S1x6, .f32⟩
  | .hbm, ⟨84, _⟩ => ⟨S_, .f32⟩
  | .hbm, ⟨85, _⟩ => ⟨S6, .f32⟩
  | .hbm, ⟨86, _⟩ => ⟨S16384x6, .f32⟩
  | .hbm, ⟨87, _⟩ => ⟨S_, .f32⟩
  | .hbm, ⟨88, _⟩ => ⟨S6, .f32⟩
  | .hbm, ⟨89, _⟩ => ⟨S1x6, .f32⟩
  | .hbm, ⟨90, _⟩ => ⟨S_, .f32⟩
  | .hbm, ⟨91, _⟩ => ⟨S6, .f32⟩
  | .hbm, ⟨92, _⟩ => ⟨S6, .f32⟩
  | .hbm, ⟨93, _⟩ => ⟨S6, .f32⟩
  | .hbm, ⟨94, _⟩ => ⟨S16384x6, .f32⟩
  | .hbm, ⟨95, _⟩ => ⟨S16384x12, .f32⟩
  | .hbm, ⟨96, _⟩ => ⟨S_, .i32⟩
  | .hbm, ⟨97, _⟩ => ⟨S_, .f32⟩
  | .hbm, ⟨98, _⟩ => ⟨S16384x128, .f32⟩
  | .hbm, ⟨99, _⟩ => ⟨S16384x128, .bf16⟩
  | .hbm, ⟨100, _⟩ => ⟨S1x6, .f32⟩
  | .hbm, ⟨101, _⟩ => ⟨S_, .i32⟩
  | .hbm, ⟨102, _⟩ => ⟨S_, .f32⟩
  | .hbm, ⟨103, _⟩ => ⟨S1x128, .f32⟩
  | .hbm, ⟨104, _⟩ => ⟨S1x6, .f32⟩
  | .hbm, ⟨105, _⟩ => ⟨S_, .i32⟩
  | .hbm, ⟨106, _⟩ => ⟨S_, .f32⟩
  | .hbm, ⟨107, _⟩ => ⟨S1x128, .f32⟩
  | _, _ => ⟨S16384x3340, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v19_0 : Ref sig .tc := ⟨.hbm, 40, rfl⟩
abbrev main_call0_cst_0 : Ref sig .tc := ⟨.hbm, 41, rfl⟩
abbrev main_call0_v13 : Ref sig .tc := ⟨.hbm, 42, rfl⟩
abbrev main_call0_v14 : Ref sig .tc := ⟨.hbm, 43, rfl⟩
abbrev main_call0_cst_1 : Ref sig .tc := ⟨.hbm, 44, rfl⟩
abbrev main_call0_v15 : Ref sig .tc := ⟨.hbm, 45, rfl⟩
abbrev main_call0_v16 : Ref sig .tc := ⟨.hbm, 46, rfl⟩
abbrev main_call0_cst_2 : Ref sig .tc := ⟨.hbm, 47, rfl⟩
abbrev main_call0_v17 : Ref sig .tc := ⟨.hbm, 48, rfl⟩
abbrev main_call0_v18 : Ref sig .tc := ⟨.hbm, 49, rfl⟩
abbrev main_call0_cst_3 : Ref sig .tc := ⟨.hbm, 50, rfl⟩
abbrev main_call0_v19 : Ref sig .tc := ⟨.hbm, 51, rfl⟩
abbrev main_call0_v20 : Ref sig .tc := ⟨.hbm, 52, rfl⟩
abbrev main_call0_v21 : Ref sig .tc := ⟨.hbm, 53, rfl⟩
abbrev main_v19_1 : Ref sig .tc := ⟨.hbm, 54, rfl⟩
abbrev main_call0_cst_4 : Ref sig .tc := ⟨.hbm, 55, rfl⟩
abbrev main_call0_cst_5 : Ref sig .tc := ⟨.hbm, 56, rfl⟩
abbrev main_call0_v23 : Ref sig .tc := ⟨.hbm, 57, rfl⟩
abbrev main_call0_cst_6 : Ref sig .tc := ⟨.hbm, 58, rfl⟩
abbrev main_call0_cst_7 : Ref sig .tc := ⟨.hbm, 59, rfl⟩
abbrev main_call0_v24 : Ref sig .tc := ⟨.hbm, 60, rfl⟩
abbrev main_call0_cst_8 : Ref sig .tc := ⟨.hbm, 61, rfl⟩
abbrev main_call0_v25 : Ref sig .tc := ⟨.hbm, 62, rfl⟩
abbrev main_call0_v26 : Ref sig .tc := ⟨.hbm, 63, rfl⟩
abbrev main_call0_cst_9 : Ref sig .tc := ⟨.hbm, 64, rfl⟩
abbrev main_call0_v27 : Ref sig .tc := ⟨.hbm, 65, rfl⟩
abbrev main_call0_v28 : Ref sig .tc := ⟨.hbm, 66, rfl⟩
abbrev main_call0_v29 : Ref sig .tc := ⟨.hbm, 67, rfl⟩
abbrev main_call0_v30 : Ref sig .tc := ⟨.hbm, 68, rfl⟩
abbrev main_call0_v31 : Ref sig .tc := ⟨.hbm, 69, rfl⟩
abbrev main_call0_cst_10 : Ref sig .tc := ⟨.hbm, 70, rfl⟩
abbrev main_call0_v32 : Ref sig .tc := ⟨.hbm, 71, rfl⟩
abbrev main_v19_2 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_3 : Ref sig .tc := ⟨.hbm, 81, rfl⟩
abbrev main_v28 : Ref sig .tc := ⟨.hbm, 82, rfl⟩
abbrev main_v29 : Ref sig .tc := ⟨.hbm, 83, rfl⟩
abbrev main_cst_4 : Ref sig .tc := ⟨.hbm, 84, rfl⟩
abbrev main_v30 : Ref sig .tc := ⟨.hbm, 85, rfl⟩
abbrev main_v31 : Ref sig .tc := ⟨.hbm, 86, rfl⟩
abbrev main_cst_5 : Ref sig .tc := ⟨.hbm, 87, rfl⟩
abbrev main_v32 : Ref sig .tc := ⟨.hbm, 88, rfl⟩
abbrev main_v33 : Ref sig .tc := ⟨.hbm, 89, rfl⟩
abbrev main_cst_6 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_c : Ref sig .tc := ⟨.hbm, 96, rfl⟩
abbrev main_call2_v0 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_c_7 : Ref sig .tc := ⟨.hbm, 101, rfl⟩
abbrev main_call3_v0 : Ref sig .tc := ⟨.hbm, 102, rfl⟩
abbrev main_v42 : Ref sig .tc := ⟨.hbm, 103, rfl⟩
abbrev main_v43 : Ref sig .tc := ⟨.hbm, 104, rfl⟩
abbrev main_c_8 : Ref sig .tc := ⟨.hbm, 105, rfl⟩
abbrev main_call4_v0 : Ref sig .tc := ⟨.hbm, 106, rfl⟩
abbrev main_v44 : Ref sig .tc := ⟨.hbm, 107, rfl⟩

abbrev nD : Nat := 1
abbrev τ : Topo := Topo.v7x

variable {F : FTy → Type} [FloatOps F]
-- ==== Proof.GateKernel.lean ====
module

public import proofs.«01_k».proof.Proof.Gen.GateIdeal.Value
public import Idealize.ShloMosaic.Lib.Pipeline.ValueKit
public import Idealize.ShloMosaic.Lib.Pointwise

@[expose] public section

set_option maxRecDepth 16384

noncomputable section

/-! What the gated unit's backward kernel leaves in its result array. -/

namespace Cert.GateIdeal.Pf

open Idealize.ShloMosaic Idealize.ShloMosaic.TcCoe Idealize.SL.Sem
open Idealize.ShloMosaic.Pipeline (Dat)
open Cert.GateIdeal Cert.GateIdeal.Gen

variable (m : (ℓ : Loc nD τ sig) → Buf (Elt Ideal) ℓ)

/-- Row `t`, hidden unit `q` of the cotangent of the gated product: half the product of the result's cotangent with
    the transposed matrix. -/
def dact (w : FVec Ideal S2816x1024 .f32) (d : FVec Ideal S16384x1024 .f32) (t : Fin 16384) (q : Fin 2816) : EReal :=
  (∑ x : Fin 1024, d (ix2 t x) * w (ix2 q x)) * Ideal.ofBits .f32 0x3F000000#32

/-- The two gradients at one element, from the gate `g`, the other factor `u` and the cotangent `s`. -/
def dpair (a : Fin 2) (g u s : EReal) : EReal :=
  if (a : ℕ) < 1 then s * u * Ideal.logistic g * (1 + g * (1 - Ideal.logistic g)) else s * g * Ideal.logistic g

/-- Hidden unit number of column `f` of part `j`. -/
abbrev unit (j : Fin 4) (f : Fin 704) : Fin 2816 := ⟨j.val * 704 + f.val, by omega⟩
/-- The same unit's column among the gates. -/
abbrev gcol (j : Fin 4) (f : Fin 704) : Fin 5632 := ⟨j.val * 704 + f.val, by omega⟩
/-- The same unit's column among the other factors. -/
abbrev ucol (j : Fin 4) (f : Fin 704) : Fin 5632 := ⟨2816 + (j.val * 704 + f.val), by omega⟩

/-- The whole result array in terms of the three arguments. -/
def G (gu : FVec Ideal S16384x5632 .f32) (w : FVec Ideal S2816x1024 .f32) (d : FVec Ideal S16384x1024 .f32) :
    FVec Ideal S2x4x16384x704 .bf16 := fun i =>
  dpair (i 0) (gu (ix2 (i 2) (gcol (i 1) (i 3)))) (gu (ix2 (i 2) (ucol (i 1) (i 3)))) (dact w d (i 2) (unit (i 1) (i 3)))

/-- Every window's block at point `t`: part `t / 16`, row block `t % 16`. -/
theorem idx : ∀ t : Fin cfg0.N, win0_0.index t = ![t.val % 16, 0] ∧ win0_1.index t = ![t.val / 16, 0, 0]
    ∧ win0_2.index t = ![0, t.val / 16, t.val % 16, 0] ∧ win0_3.index t = ![0, t.val / 16, t.val % 16, 0] :=
  (by decide +kernel : ∀ t : Fin grid0.N, _)

/-- The rows of the cotangent that point `t` reads. -/
theorem blk0 (c : Dev nD) (t : Fin cfg0.N) (y : Fin 1024) (x : Fin 1024) (q : Fin 16384) (hq : q.val = t.val % 16 * 1024 + y.val) :
    iblk m c 0 t (ix2 y x) = m ((c : Thread nD τ).loc main_arg2) (ix2 q x) := by
  unfold iblk; entry_read; blk_ext [idx t]

/-- The rows of the matrix that point `t` reads. -/
theorem blk1 (c : Dev nD) (t : Fin cfg0.N) (y : Fin 704) (x : Fin 1024) (q : Fin 2816) (hq : q.val = t.val / 16 * 704 + y.val) :
    iblk m c 1 t (ix3 0 y x) = m ((c : Thread nD τ).loc main_arg1) (ix2 q x) := by
  unfold iblk; entry_read; blk_simp; pointwise; blk_ext [idx t]

/-- The entries of the unit's input that point `t` reads. -/
theorem blk2 (c : Dev nD) (t : Fin cfg0.N) (a : Fin 2) (y : Fin 1024) (f : Fin 704) (r : Fin 16384) (q : Fin 5632)
    (hr : r.val = t.val % 16 * 1024 + y.val) (hq : q.val = a.val * 2816 + (t.val / 16 * 704 + f.val)) :
    iblk m c 2 t (ix4 a 0 y f) = m ((c : Thread nD τ).loc main_arg0) (ix2 r q) := by
  unfold iblk; entry_read; blk_simp; pointwise; blk_ext [idx t]

/-- The result array after the run. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  idx_vars y
  have ht : t.val < 64 := lt_of_lt_of_eq t.isLt N_0
  pointwise [k0_pay1, k0_pay2, k0_pay3]
  have e : ((View.whole main_v5).slice (win0_3.rect t)).emb (ix4 y0 y1 y2 y3)
      = ix4 y0 (⟨t.val / 16, by omega⟩ : Fin 4) (⟨t.val % 16 * 1024 + y2.val, by omega⟩ : Fin 16384) y3 := by
    blk_ext [idx t]
  rw [e]
  show _ = dpair y0 _ _ (dact _ _ _ _)
  unfold dpair dact
  have b0 : ∀ x, iblk m c 0 t (ix2 y2 x) = _ := fun x => blk0 m c t y2 x ⟨t.val % 16 * 1024 + y2.val, by omega⟩ rfl
  have b1 : ∀ x, iblk m c 1 t (ix3 0 y3 x) = _ := fun x => blk1 m c t y3 x ⟨t.val / 16 * 704 + y3.val, by omega⟩ rfl
  have b2 : iblk m c 2 t (ix4 0 0 y2 y3) = _ := blk2 m c t 0 y2 y3 ⟨t.val % 16 * 1024 + y2.val, by omega⟩ (gcol ⟨t.val / 16, by omega⟩ y3) rfl (by simp)
  have b3 : iblk m c 2 t (ix4 1 0 y2 y3) = _ := blk2 m c t 1 y2 y3 ⟨t.val % 16 * 1024 + y2.val, by omega⟩ (ucol ⟨t.val / 16, by omega⟩ y3) rfl (by simp)
  simp only [b0, b1, b2, b3]
  rfl

end Cert.GateIdeal.Pf

end
-- ==== Proof.Finite.lean ====
module

public import Idealize.ShloMosaic.Lib.ReduceAll
public import Idealize.ShloMosaic.Lib.Pointwise
public import Idealize.ShloMosaic.PureOps.Ideal.Laws

@[expose] public section

noncomputable section

/-! Reading a precondition of the form "every entry has a finite magnitude", and computing with finite extended reals. -/

namespace Cert.Finite

open Idealize.ShloMosaic

/-- The word of the positive infinity denotes the top element. -/
theorem inf_word : Ideal.ofBits .f32 0x7F800000#32 = ⊤ := by
  simp [Ideal.ofBits, Ideal.ieee]

/-- An extended real whose magnitude is below the top element is a real number. -/
theorem real_of_abs_lt (x : EReal) (h : max x (-x) < ⊤) : ∃ r : ℝ, x = r := by
  induction x with
  | bot => simp at h
  | top => simp at h
  | coe r => exact ⟨r, rfl⟩

/-- A conjunction of two truth bits is true only when both are. -/
theorem and_eq_one (a b : BitVec 1) (h : a &&& b = 1#1) : a = 1#1 ∧ b = 1#1 := by
  revert h; revert a b; decide

/-- An array every entry of which compares below the infinity in magnitude holds real numbers. -/
theorem reals_of_all {s t u : Shape} {axes : List (Fin s.rank)} [Subsingleton t.Idx] (x y : FVec Ideal s .f32)
    (hy : ∀ i, y i = ⊤) (init : u.Idx → BitVec 1) (h : s.ReducesTo axes t) (hu : 0 < u.numel) (j : t.Idx)
    (e : Host.reduce IntOp.andi (cmpf .olt (Host.absf x) y) init h hu j = 1#1) :
    ∃ r : s.Idx → ℝ, x = fun i => (r i : EReal) := by
  have key : ∀ i, ∃ r : ℝ, x i = r := fun i => by
    have h1 := Host.reduce_andi_all _ init h hu j e i
    have h2 : BitVec.ofBool (decide (max (x i) (-(x i)) < y i)) = 1#1 := h1
    refine real_of_abs_lt _ ?_
    rw [hy i] at h2
    by_contra hn
    simp [hn] at h2
  choose r hr using key
  exact ⟨r, funext hr⟩

/-- A finite sum of real numbers, read as extended reals, is the sum read as an extended real. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient that spells the logistic function, at a real number. -/
theorem logistic_quotient (r : ℝ) :
    Ideal.div 1 (1 + Ideal.exp (-(r : EReal))) = (((1 + Real.exp (-r))⁻¹ : ℝ) : EReal) :=
  Ideal.logistic_coe r

end Cert.Finite

end
-- ==== Proof.GateRef.lean ====
module

public import proofs.«01_k».proof.Proof.Gen.GateRefIdeal.Read
public import proofs.«01_k».proof.Proof.GateKernel
public import proofs.«01_k».proof.Proof.Finite

@[expose] public section

set_option maxRecDepth 16384

noncomputable section

/-! The derivative the gated unit's reference computes equals the kernel's array, for finite arguments. -/

namespace Cert.GateRefIdeal.Pf

open Idealize.ShloMosaic Idealize.ShloMosaic.TcCoe
open Cert.GateRefIdeal Cert.GateRefIdeal.Gen Cert.GateRefIdeal.Read
open Cert.GateIdeal.Pf (G dpair dact unit gcol ucol)

theorem half_word : Ideal.ofBits .f32 0x3F000000#32 = ((1 / 2 : ℝ) : EReal) := by
  simp [Ideal.ofBits, Ideal.ieee, -EReal.coe_mul]; norm_num

/-- The product of the halved cotangent with the transposed matrix, as one real number. -/
theorem half_sum (w : S2816x1024.Idx → ℝ) (d : S16384x1024.Idx → ℝ) (t : Fin 16384) (q : Fin 2816) :
    (∑ x : Fin 1024, Ideal.ofBits .f32 0x3F000000#32 * (d (ix2 t x) : EReal) * (w (ix2 q x) : EReal))
      = ((1 / 2 * ∑ x : Fin 1024, d (ix2 t x) * w (ix2 q x) : ℝ) : EReal) := by
  rw [half_word, Finset.mul_sum, ← Cert.Finite.coe_sum]
  exact Finset.sum_congr rfl fun x _ => by rw [← EReal.coe_mul, ← EReal.coe_mul, mul_assoc]

/-- The kernel's cotangent of the gated product, as one real number. -/
theorem dact_real (w : S2816x1024.Idx → ℝ) (d : S16384x1024.Idx → ℝ) (t : Fin 16384) (q : Fin 2816) :
    Cert.GateIdeal.Pf.dact (fun i => (w i : EReal)) (fun i => (d i : EReal)) t q
      = ((1 / 2 * ∑ x : Fin 1024, d (ix2 t x) * w (ix2 q x) : ℝ) : EReal) := by
  unfold Cert.GateIdeal.Pf.dact
  rw [half_word, mul_comm (1 / 2 : ℝ), EReal.coe_mul, ← Cert.Finite.coe_sum]
  simp only [EReal.coe_mul]

/-- The reference's result at every element, for arguments that are real numbers. -/
theorem value_eq (gu : S16384x5632.Idx → ℝ) (w : S2816x1024.Idx → ℝ) (d : S16384x1024.Idx → ℝ) :
    val_main_v18 (F := Ideal) (fun i => (gu i : EReal)) (fun i => (w i : EReal)) (fun i => (d i : EReal))
      = G (fun i => (gu i : EReal)) (fun i => (w i : EReal)) (fun i => (d i : EReal)) := by
  funext i
  idx_vars i
  pointwise [val_main_v18, val_main_v17, val_main_v16, val_main_v15, val_main_v14, val_main_call1_v2, val_main_call1_v1,
    val_main_call1_v0, val_main_v13, val_main_v12, val_main_v11, val_main_v8, val_main_v7, val_main_cst_0, val_main_v2_0,
    val_main_v2_1, val_main_v2_2, val_main_call0_v7, val_main_call0_v6, val_main_call0_v4, val_main_call0_v3,
    val_main_call0_v2, val_main_call0_v1, val_main_call0_v0, val_main_call0_cst, val_main_call0_cst_0,
    val_main_call0_cst_1, val_main_v1, val_main_v0, G]
  simp only [half_sum, dact_real, Cert.Finite.logistic_quotient]
  unfold dpair
  by_cases h : (i0 : ℕ) < 1
  · have h0 : (i0 : ℕ) = 0 := by omega
    have hq : i0.val * 2816 + i1.val * 704 + i3.val < 2816 := by omega
    have e1 : (⟨i0.val * 2816 + i1.val * 704 + i3.val, hq⟩ : Fin 2816) = unit i1 i3 := Fin.ext (by simp [h0])
    have e2 : (⟨i0.val * 2816 + i1.val * 704 + i3.val, by omega⟩ : Fin 5632) = gcol i1 i3 := Fin.ext (by simp [h0])
    have e3 : (⟨2816 + (i0.val * 2816 + i1.val * 704 + i3.val), by omega⟩ : Fin 5632) = ucol i1 i3 := Fin.ext (by simp [h0])
    have rw1 : ∀ x, w (ix2 _ x) = w (ix2 _ x) := fun x => congrArg (fun q => w (ix2 q x)) e1
    have rw2 : gu (ix2 i2 _) = gu (ix2 i2 _) := congrArg (fun q => gu (ix2 i2 q)) e2
    have rw3 : gu (ix2 i2 _) = gu (ix2 i2 _) := congrArg (fun q => gu (ix2 i2 q)) e3
    rw [dif_pos hq, if_pos h, Ideal.logistic_coe]
    simp only [rw1, rw2, rw3]
    norm_cast
    ring_nf
  · have h1 : (i0 : ℕ) = 1 := by omega
    have hq : ¬ i0.val * 2816 + i1.val * 704 + i3.val < 2816 := by omega
    have e1 : (⟨i0.val * 2816 + i1.val * 704 + i3.val - 2816, by omega⟩ : Fin 2816) = unit i1 i3 := Fin.ext (by simp [h1]; omega)
    have e2 : (⟨i0.val * 2816 + i1.val * 704 + i3.val - 2816, by omega⟩ : Fin 5632) = gcol i1 i3 := Fin.ext (by simp [h1]; omega)
    have rw1 : ∀ x, w (ix2 _ x) = w (ix2 _ x) := fun x => congrArg (fun q => w (ix2 q x)) e1
    have rw2 : gu (ix2 i2 _) = gu (ix2 i2 _) := congrArg (fun q => gu (ix2 i2 q)) e2
    rw [dif_neg hq, if_neg h, Ideal.logistic_coe]
    simp only [rw1, rw2]
    norm_cast
    ring_nf

end Cert.GateRefIdeal.Pf

end
-- ==== Proof.GateClaim.lean ====
module

public import proofs.«01_k».proof.Defs
public import proofs.«01_k».proof.Proof.Gen.Gate.Frame
public import proofs.«01_k».proof.Proof.Gen.Pre_finite_gate
public import proofs.«01_k».proof.Proof.Gen.GateRefIdeal.Run
public import proofs.«01_k».proof.Proof.GateRef
public import Idealize.ShloMosaic.Lib.Claim

@[expose] public section

set_option maxRecDepth 16384

noncomputable section

/-! The claims about the gated unit's gradient. -/

namespace Cert.Proof.Gate

open Idealize.ShloMosaic Idealize.SL.Sem

theorem frame_kernel : Cert.quiescent_Gate := fun m ρ _ => Cert.Gate.Gen.frame m ρ

theorem frame_ideal : Cert.quiescent_GateIdeal := fun m ρ _ => Cert.GateIdeal.Gen.frame m ρ

theorem frame_ideal_pre : Cert.quiescent_GateIdeal_pre_finite_gate := fun m ρ _ => Cert.GateIdeal.Gen.frame m ρ

theorem frame_ref : Cert.quiescent_GateRefIdeal := fun m ρ _ =>
  (θ_run Cert.GateRefIdeal.defs _ _).mono
    (fun r h => ⟨fun c => (h c).2, Idealize.ShloMosaic.sem_eq_zero_of_no_sems (by decide) r.2⟩)
    (Cert.GateRefIdeal.Value.run (F := Ideal) m ρ)

theorem frame_ref_pre : Cert.quiescent_GateRefIdeal_pre_finite_gate := fun m ρ _ => frame_ref m ρ trivial

/-- Where the predicate holds, each of its three arguments is an array of real numbers. -/
theorem reals (gu : FVec Ideal Cert.Pre_finite_gate.S16384x5632 .f32) (w : FVec Ideal Cert.Pre_finite_gate.S2816x1024 .f32)
    (d : FVec Ideal Cert.Pre_finite_gate.S16384x1024 .f32) (h : Cert.Pre_finite_gate.fn (F := Ideal) gu w d = fun _ => 1#1) :
    (∃ r : Cert.Pre_finite_gate.S16384x5632.Idx → ℝ, gu = fun i => (r i : EReal))
      ∧ (∃ r : Cert.Pre_finite_gate.S2816x1024.Idx → ℝ, w = fun i => (r i : EReal))
      ∧ ∃ r : Cert.Pre_finite_gate.S16384x1024.Idx → ℝ, d = fun i => (r i : EReal) := by
  have e := congrFun h (fun k => k.elim0)
  obtain ⟨e1, e3⟩ := Cert.Finite.and_eq_one _ _ e
  obtain ⟨e1, e2⟩ := Cert.Finite.and_eq_one _ _ e1
  exact ⟨Cert.Finite.reals_of_all gu _ (fun _ => Cert.Finite.inf_word) _ _ _ _ e1,
    Cert.Finite.reals_of_all w _ (fun _ => Cert.Finite.inf_word) _ _ _ _ e2,
    Cert.Finite.reals_of_all d _ (fun _ => Cert.Finite.inf_word) _ _ _ _ e3⟩

/-- For finite arguments the kernel's gradient and the derivative of the plain lines are one array. -/
theorem value : Cert.algebraic_GateIdeal_GateRefIdeal_pre_finite_gate := by
  intro m g m' g' hpre hagree
  refine ⟨fun c => Cert.GateIdeal.Pf.G (m ((c.tc : Thread Cert.GateIdeal.nD Cert.GateIdeal.τ).loc Cert.GateIdeal.main_arg0))
      (m ((c.tc : Thread Cert.GateIdeal.nD Cert.GateIdeal.τ).loc Cert.GateIdeal.main_arg1))
      (m ((c.tc : Thread Cert.GateIdeal.nD Cert.GateIdeal.τ).loc Cert.GateIdeal.main_arg2)), ?_, ?_⟩
  · exact (θ_run Cert.GateIdeal.defs _ _).mono (fun r h c => ⟨(h c).1.trans (Cert.GateIdeal.Pf.final m c), (h c).2⟩)
      (Cert.GateIdeal.Value.run_blocks m g)
  · refine (θ_run Cert.GateRefIdeal.defs _ _).mono (fun r h c => ⟨(h c).1.trans ?_, (h c).2⟩)
      (Cert.GateRefIdeal.Value.run (F := Ideal) m' g')
    obtain ⟨⟨gu, hgu⟩, ⟨w, hw⟩, ⟨d, hd⟩⟩ := reals _ _ _ (hpre c)
    obtain ⟨h0, h1, h2⟩ := hagree c
    beta_reduce
    rw [h0, h1, h2, hgu, hw, hd]
    exact (Cert.GateRefIdeal.Read.val_main_v18_eq _ _ _).trans (Cert.GateRefIdeal.Pf.value_eq gu w d)

end Cert.Proof.Gate

end
-- ==== Proof.DownKernel.lean ====
module

public import proofs.«01_k».proof.Proof.Gen.DownIdeal.Value
public import Idealize.ShloMosaic.Lib.Pipeline.ValueKit
public import Idealize.ShloMosaic.Lib.Pointwise

@[expose] public section

set_option maxRecDepth 16384

noncomputable section

/-! What the kernel for the gradient of the gated unit's second matrix leaves in its result array. -/

namespace Cert.DownIdeal.Pf

open Idealize.ShloMosaic Idealize.ShloMosaic.TcCoe Idealize.SL.Sem
open Idealize.ShloMosaic.Pipeline (Dat)
open Cert.DownIdeal Cert.DownIdeal.Gen

variable (m : (ℓ : Loc nD τ sig) → Buf (Elt Ideal) ℓ)

/-- The gated product of a gate `g` and the other factor `u`. -/
def act (g u : EReal) : EReal := g * Ideal.logistic g * u

/-- The products one grid point adds to entry `(r, x)`. -/
def part (X : FVec Ideal S2x1x2048x704 .bf16) (Y : FVec Ideal S2048x1024 .f32) (r : Fin 704) (x : Fin 1024) : EReal :=
  ∑ s : Fin 2048, act (X (ix4 0 0 s r)) (X (ix4 1 0 s r)) * Y (ix2 s x)

/-- Four stretches of 512 summands are one sum over 2048. -/
theorem sum_four (f : Fin 2048 → EReal) :
    (∑ k : Fin 512, f ⟨k.val, by omega⟩) + (∑ k : Fin 512, f ⟨512 + k.val, by omega⟩)
      + (∑ k : Fin 512, f ⟨1024 + k.val, by omega⟩) + (∑ k : Fin 512, f ⟨1536 + k.val, by omega⟩) = ∑ k, f k := by
  rw [← Fin.sum_mul_add_congr (F := fun (s : Fin 4) (k : Fin 512) => f ⟨s.val * 512 + k.val, by omega⟩) (f := f) fun s k _ => rfl]
  rw [Fin.sum_univ_four]
  simp only [Fin.val_zero, Fin.val_one, Fin.val_two, show ((3 : Fin 4) : ℕ) = 3 from rfl, Nat.zero_mul, Nat.zero_add, Nat.one_mul,
    show 2 * 512 = 1024 from rfl, show 3 * 512 = 1536 from rfl]

section
variable (c : Dev nD) (i : grid0.Coords) (a3 : Memref sig .tc .vmem S2x1x2048x704 .bf16) (h3 : a3.IsWhole)
  (a4 : Memref sig .tc .vmem S2048x1024 .f32) (h4 : a4.IsWhole) (a5 : Memref sig .tc .vmem S1x704x1024 .f32) (h5 : a5.IsWhole)
  (a6 : Memref sig .tc .vmem S704x1024 .f32) (h6 : a6.IsWhole)
  (X : FVec Ideal S2x1x2048x704 .bf16) (Y : FVec Ideal S2048x1024 .f32) (Z : FVec Ideal S704x1024 .f32) (r : Fin 704) (x : Fin 1024)

/-- A run's first point leaves its own products in the scratch. -/
theorem step_A (hc0 : cond0_0 i) (hc1 : ¬cond0_1 i) :
    sout0_A_0 (F := Ideal) c i a3 h3 a4 h4 a5 h5 a6 h6 hc0 hc1 X Y (ix2 r x) = 0 + part X Y r x := by
  frame_out
  pointwise [k0_pay1, k0_pay3, k0_pay4, k0_pay5, k0_pay6, k0_pay7, k0_pay8]
  unfold part act
  rw [← sum_four]

/-- A point in the middle of a run adds its own products to the scratch. -/
theorem step_B (hc0 : ¬cond0_0 i) (hc1 : ¬cond0_1 i) :
    sout0_B_0 (F := Ideal) c i a3 h3 a4 h4 a5 h5 a6 h6 hc0 hc1 X Y Z (ix2 r x) = Z (ix2 r x) + part X Y r x := by
  frame_out
  pointwise [k0_pay1, k0_pay4, k0_pay5, k0_pay6, k0_pay7, k0_pay8]
  unfold part act
  rw [← sum_four]
  simp only [add_assoc]

/-- So does a run's last point. -/
theorem step_C (hc0 : ¬cond0_0 i) (hc1 : cond0_1 i) :
    sout0_C_0 (F := Ideal) c i a3 h3 a4 h4 a5 h5 a6 h6 hc0 hc1 X Y Z (ix2 r x) = Z (ix2 r x) + part X Y r x := by
  frame_out
  pointwise [k0_pay1, k0_pay4, k0_pay5, k0_pay6, k0_pay7, k0_pay8]
  unfold part act
  rw [← sum_four]
  simp only [add_assoc]

/-- A run's last point writes half of what the scratch then holds. -/
theorem flush_C (hc0 : ¬cond0_0 i) (hc1 : cond0_1 i) :
    out0_C_2 (F := Ideal) c i a3 h3 a4 h4 a5 h5 a6 h6 hc0 hc1 X Y Z (ix3 0 r x)
      = (Z (ix2 r x) + part X Y r x) * Ideal.ofBits .f32 0x3F000000#32 := by
  frame_out
  pointwise [k0_pay1, k0_pay2, k0_pay4, k0_pay5, k0_pay6, k0_pay7, k0_pay8]
  unfold part act
  rw [← sum_four]
  simp only [add_assoc]

end

/-- The same unit's column among the gates. -/
abbrev gcol (j : Fin 4) (f : Fin 704) : Fin 5632 := ⟨j.val * 704 + f.val, by omega⟩
/-- The same unit's column among the other factors. -/
abbrev ucol (j : Fin 4) (f : Fin 704) : Fin 5632 := ⟨2816 + (j.val * 704 + f.val), by omega⟩

/-- The whole result array in terms of the unit's input and the cotangent. -/
def G (gu : FVec Ideal S16384x5632 .f32) (d : FVec Ideal S16384x1024 .f32) : FVec Ideal S4x704x1024 .f32 := fun i =>
  (∑ t : Fin 16384, act (gu (ix2 t (gcol (i 0) (i 1)))) (gu (ix2 t (ucol (i 0) (i 1)))) * d (ix2 t (i 2)))
    * Ideal.ofBits .f32 0x3F000000#32

/-- Every window's block at point `t`: part `t / 8`, row block `t % 8`. -/
theorem idx : ∀ t : Fin cfg0.N, win0_0.index t = ![0, t.val / 8, t.val % 8, 0] ∧ win0_1.index t = ![t.val % 8, 0]
    ∧ win0_2.index t = ![t.val / 8, 0, 0] :=
  (by decide +kernel : ∀ t : Fin grid0.N, _)

/-- The entries of the unit's input that point `t` reads. -/
theorem blk0 (c : Dev nD) (t : Fin cfg0.N) (a : Fin 2) (y : Fin 2048) (f : Fin 704) (r : Fin 16384) (q : Fin 5632)
    (hr : r.val = t.val % 8 * 2048 + y.val) (hq : q.val = a.val * 2816 + (t.val / 8 * 704 + f.val)) :
    iblk m c 0 t (ix4 a 0 y f) = m ((c : Thread nD τ).loc main_arg0) (ix2 r q) := by
  unfold iblk; entry_read; blk_simp; pointwise; blk_ext [idx t]

/-- The rows of the cotangent that point `t` reads. -/
theorem blk1 (c : Dev nD) (t : Fin cfg0.N) (y : Fin 2048) (x : Fin 1024) (q : Fin 16384) (hq : q.val = t.val % 8 * 2048 + y.val) :
    iblk m c 1 t (ix2 y x) = m ((c : Thread nD τ).loc main_arg2) (ix2 q x) := by
  unfold iblk; entry_read; blk_ext [idx t]

/-- What the scratch holds after point `t`: the products of the run's points up to `t`. -/
theorem scratch (c : Dev nD) (t : Fin cfg0.N) (r : Fin 704) (x : Fin 1024) :
    (outsAt0 m c t.val t.isLt).2 (ix2 r x) = 0 + ∑ s : Fin (t.val % 8 + 1),
      part (iblk m c 0 ⟨8 * (t.val / 8) + s.val, Pipeline.run_point_lt t rfl s⟩)
        (iblk m c 1 ⟨8 * (t.val / 8) + s.val, Pipeline.run_point_lt t rfl s⟩) r x := by
  refine Pipeline.eq_sum_fin_of_reset_step_apply (fun n h (p : Fin 704 × Fin 1024) => (outsAt0 m c n h).2 (ix2 p.1 p.2)) 8 (fun _ => 0)
    (fun t p => part (iblk m c 0 t) (iblk m c 1 t) p.1 p.2) (fun t h p => ?_) (fun t h p => ?_) t (r, x)
  · beta_reduce
    rw [outsAt0_A m c t h (by omega)]
    dsimp only
    exact step_A c _ _ _ _ _ _ _ _ _ (iblk m c 0 t) (iblk m c 1 t) p.1 p.2 _ _
  · beta_reduce
    by_cases h7 : t.val % 8 = 7
    · rw [outsAt0_C m c t h h7]
      dsimp only
      exact step_C c _ _ _ _ _ _ _ _ _ (iblk m c 0 t) (iblk m c 1 t) _ p.1 p.2 _ _
    · rw [outsAt0_B m c t h h7]
      dsimp only
      exact step_B c _ _ _ _ _ _ _ _ _ (iblk m c 0 t) (iblk m c 1 t) _ p.1 p.2 _ _

/-- A run's last point writes half of the scratch. -/
theorem flushed (c : Dev nD) (t : Fin cfg0.N) (h7 : t.val % 8 = 7) (r : Fin 704) (x : Fin 1024) :
    (outsAt0 m c t.val t.isLt).1 (ix3 0 r x) = (outsAt0 m c t.val t.isLt).2 (ix2 r x) * Ideal.ofBits .f32 0x3F000000#32 := by
  rw [outsAt0_C m c t (by omega) h7]
  dsimp only
  exact (flush_C c _ _ _ _ _ _ _ _ _ (iblk m c 0 t) (iblk m c 1 t) _ r x _ _).trans
    (congrArg (fun q => q * Ideal.ofBits .f32 0x3F000000#32)
      (step_C c _ _ _ _ _ _ _ _ _ (iblk m c 0 t) (iblk m c 1 t) _ r x _ _).symm)

/-- The products of one whole run, as a sum over all rows. -/
theorem run_sum (c : Dev nD) (t : Fin cfg0.N) (h7 : t.val % 8 = 7) (j : Fin 4) (hj : j.val = t.val / 8) (r : Fin 704) (x : Fin 1024) :
    (outsAt0 m c t.val t.isLt).2 (ix2 r x)
      = ∑ q : Fin 16384, act (m ((c : Thread nD τ).loc main_arg0) (ix2 q (gcol j r))) (m ((c : Thread nD τ).loc main_arg0) (ix2 q (ucol j r)))
          * m ((c : Thread nD τ).loc main_arg2) (ix2 q x) := by
  have ht : t.val < 32 := lt_of_lt_of_eq t.isLt N_0
  rw [scratch m c t r x, zero_add]
  unfold part
  refine Fin.sum_mul_add_congr (fun s k hl => ?_) (by rw [h7])
  have hs : s.val < 8 := by have := s.isLt; omega
  have b0 : ∀ n (hn : n < cfg0.N), n = 8 * (t.val / 8) + s.val →
      act (iblk m c 0 ⟨n, hn⟩ (ix4 0 0 k r)) (iblk m c 0 ⟨n, hn⟩ (ix4 1 0 k r)) * iblk m c 1 ⟨n, hn⟩ (ix2 k x)
        = act (m ((c : Thread nD τ).loc main_arg0) (ix2 ⟨s.val * 2048 + k.val, hl⟩ (gcol j r)))
            (m ((c : Thread nD τ).loc main_arg0) (ix2 ⟨s.val * 2048 + k.val, hl⟩ (ucol j r)))
          * m ((c : Thread nD τ).loc main_arg2) (ix2 ⟨s.val * 2048 + k.val, hl⟩ x) := fun n hn e => by
    rw [blk0 m c ⟨n, hn⟩ 0 k r ⟨s.val * 2048 + k.val, hl⟩ (gcol j r) (by simp only; omega) (by simp only [Fin.val_zero]; omega),
      blk0 m c ⟨n, hn⟩ 1 k r ⟨s.val * 2048 + k.val, hl⟩ (ucol j r) (by simp only; omega) (by simp only [Fin.val_one]; omega),
      blk1 m c ⟨n, hn⟩ k x ⟨s.val * 2048 + k.val, hl⟩ (by simp only; omega)]
  exact b0 _ _ rfl

/-- The result array after the run. -/
theorem final (c : Dev nD) : (dats m 0 c).arrAt 2 (cfgs 0).N
    = G (m ((c : Thread nD τ).loc main_arg0)) (m ((c : Thread nD τ).loc main_arg2)) := by
  refine (dats m 0 c).arrAt_eq_of_covers 2 _ (by decide +kernel) fun t hf y => ?_
  have h7 : t.val % 8 = 7 := (flush0_2 t).mp hf
  have ht : t.val < 32 := lt_of_lt_of_eq t.isLt N_0
  blk_simp
  rw [after0_2]
  idx_vars y
  obtain rfl : y0 = 0 := Subsingleton.elim _ _
  have e : ((View.whole main_v3).slice (win0_2.rect t)).emb (ix3 0 y1 y2) = ix3 (⟨t.val / 8, by omega⟩ : Fin 4) y1 y2 := by
    blk_ext [idx t]
  rw [e]
  refine (flushed m c t h7 y1 y2).trans ?_
  rw [run_sum m c t h7 ⟨t.val / 8, by omega⟩ rfl y1 y2]
  rfl

end Cert.DownIdeal.Pf

end
-- ==== Proof.Half.lean ====
module

public import Idealize.ShloMosaic.Lib.Pointwise

@[expose] public section

noncomputable section

/-! One half of a sum of extended reals. -/

namespace Cert.Half

open Idealize.ShloMosaic

/-- The word of one half. -/
theorem half_word : Ideal.ofBits .f32 0x3F000000#32 = ((1 / 2 : ℝ) : EReal) := by
  simp [Ideal.ofBits, Ideal.ieee, -EReal.coe_mul]; norm_num

/-- One half may be taken out of a sum of extended reals. -/
theorem sum_half {n : ℕ} (f : Fin n → EReal) : (∑ k, f k * ((1 / 2 : ℝ) : EReal)) = (∑ k, f k) * ((1 / 2 : ℝ) : EReal) := by
  have h (s : Finset (Fin n)) : (∑ k ∈ s, f k * ((1 / 2 : ℝ) : EReal)) = (∑ k ∈ s, f k) * ((1 / 2 : ℝ) : EReal) := by
    induction s using Finset.induction_on with
    | empty => simp
    | insert a s ha ih =>
      rw [Finset.sum_insert ha, Finset.sum_insert ha, ih,
        EReal.right_distrib_of_nonneg_of_ne_top (by exact_mod_cast (by norm_num : (0 : ℝ) ≤ 1 / 2)) (EReal.coe_ne_top _)]
  exact h Finset.univ

/-- One half in front of a sum. -/
theorem half_sum {n : ℕ} (f : Fin n → EReal) : (∑ k, ((1 / 2 : ℝ) : EReal) * f k) = ((1 / 2 : ℝ) : EReal) * ∑ k, f k := by
  simp only [mul_comm ((1 / 2 : ℝ) : EReal)]
  exact sum_half f

/-- Twice a number, times a nonnegative real. -/
theorem twice (e : EReal) (s : ℝ) (hs : 0 ≤ s) : e * (s : EReal) + (s : EReal) * e = (s : EReal) * (2 * e) := by
  have h2 : (2 : EReal) * e = e + e := by
    rw [show (2 : EReal) = ((1 : ℝ) : EReal) + ((1 : ℝ) : EReal) by norm_num,
      EReal.right_distrib_of_nonneg (by norm_num) (by norm_num)]
    simp
  rw [h2, EReal.left_distrib_of_nonneg_of_ne_top (by exact_mod_cast hs) (EReal.coe_ne_top _), mul_comm e]

end Cert.Half

end
-- ==== Proof.DownRef.lean ====
module

public import proofs.«01_k».proof.Proof.Gen.DownRefIdeal.Read
public import proofs.«01_k».proof.Proof.DownKernel
public import proofs.«01_k».proof.Proof.Half

@[expose] public section

set_option maxRecDepth 16384

noncomputable section

/-! The derivative with respect to the gated unit's second matrix that the reference computes equals the kernel's array. -/

namespace Cert.DownRefIdeal.Pf

open Idealize.ShloMosaic Idealize.ShloMosaic.TcCoe
open Cert.Half
open Cert.DownRefIdeal Cert.DownRefIdeal.Gen Cert.DownRefIdeal.Read
open Cert.DownIdeal.Pf (G act gcol ucol)

/-- The reference's result at every element. -/
theorem value_eq (x0 : FVec Ideal S16384x5632 .f32) (x2 : FVec Ideal S16384x1024 .f32) :
    val_main_v16 (F := Ideal) x0 x2 = G x0 x2 := by
  funext i
  idx_vars i
  pointwise [val_main_v16, val_main_v10, val_main_v9, val_main_v8, val_main_v7, val_main_v3, val_main_cst_0, val_main_v2_0, val_main_v2_2,
    val_main_call0_v7, val_main_call0_v4, val_main_call0_v3,
    val_main_call0_v2, val_main_call0_v1, val_main_call0_v0, val_main_call0_cst, val_main_call0_cst_0,
    val_main_v1, val_main_v0]
  unfold G act
  rw [half_word, ← sum_half]
  refine Finset.sum_congr rfl fun k _ => ?_
  have e (g u d : EReal) : ((1 / 2 : ℝ) : EReal) * d * (g * Ideal.logistic g * u) = g * Ideal.logistic g * u * d * ((1 / 2 : ℝ) : EReal) := by
    rw [mul_comm ((1 / 2 : ℝ) : EReal), mul_right_comm, mul_comm d]
  exact e _ _ _

end Cert.DownRefIdeal.Pf

end
-- ==== Proof.DownClaim.lean ====
module

public import proofs.«01_k».proof.Defs
public import proofs.«01_k».proof.Proof.Gen.Down.Frame
public import proofs.«01_k».proof.Proof.Gen.DownRefIdeal.Run
public import proofs.«01_k».proof.Proof.DownRef
public import Idealize.ShloMosaic.Lib.Claim

@[expose] public section

set_option maxRecDepth 16384

noncomputable section

/-! The claims about the gradient of the gated unit's second matrix. -/

namespace Cert.Proof.Down

open Idealize.ShloMosaic Idealize.SL.Sem

theorem frame_kernel : Cert.quiescent_Down := fun m ρ _ => Cert.Down.Gen.frame m ρ

theorem frame_ideal : Cert.quiescent_DownIdeal := fun m ρ _ => Cert.DownIdeal.Gen.frame m ρ

theorem frame_ref : Cert.quiescent_DownRefIdeal := fun m ρ _ =>
  (θ_run Cert.DownRefIdeal.defs _ _).mono
    (fun r h => ⟨fun c => (h c).2, Idealize.ShloMosaic.sem_eq_zero_of_no_sems (by decide) r.2⟩)
    (Cert.DownRefIdeal.Value.run (F := Ideal) m ρ)

/-- The kernel's gradient and the derivative of the plain lines are one array. -/
theorem value : Cert.algebraic_DownIdeal_DownRefIdeal := by
  intro m g m' g' hpre hagree
  refine ⟨fun c => Cert.DownIdeal.Pf.G (m ((c.tc : Thread Cert.DownIdeal.nD Cert.DownIdeal.τ).loc Cert.DownIdeal.main_arg0))
      (m ((c.tc : Thread Cert.DownIdeal.nD Cert.DownIdeal.τ).loc Cert.DownIdeal.main_arg2)), ?_, ?_⟩
  · exact (θ_run Cert.DownIdeal.defs _ _).mono (fun r h c => ⟨(h c).1.trans (Cert.DownIdeal.Pf.final m c), (h c).2⟩)
      (Cert.DownIdeal.Value.run_blocks m g)
  · refine (θ_run Cert.DownRefIdeal.defs _ _).mono (fun r h c => ⟨(h c).1.trans ?_, (h c).2⟩)
      (Cert.DownRefIdeal.Value.run (F := Ideal) m' g')
    obtain ⟨h0, h1, h2⟩ := hagree c
    beta_reduce
    rw [h0, h2]
    exact (Cert.DownRefIdeal.Read.val_main_v16_eq _ _).trans (Cert.DownRefIdeal.Pf.value_eq _ _)

end Cert.Proof.Down

end
-- ==== Proof.ConvKernel.lean ====
module

public import proofs.«01_k».proof.Proof.Gen.ConvIdeal.Value
public import Idealize.ShloMosaic.Lib.Pipeline.ValueKit
public import Idealize.ShloMosaic.Lib.Pointwise
public import Idealize.ShloMosaic.Lib.StableHlo.RunRead

@[expose] public section

set_option maxRecDepth 16384

noncomputable section

/-! What the convolution's backward kernel leaves in its two result arrays. -/

namespace Cert.ConvIdeal.Pf

open Idealize.ShloMosaic Idealize.ShloMosaic.TcCoe Idealize.SL.Sem
open Idealize.ShloMosaic.Pipeline (Dat)
open Cert.ConvIdeal Cert.ConvIdeal.Gen

variable (m : (ℓ : Loc nD τ sig) → Buf (Elt Ideal) ℓ)

/-- Every window's block at point `t`: column part `t / 16`, row block `t % 16`, the eight rows before and behind it. -/
theorem idx : ∀ t : Fin cfg0.N, win0_0.index t = ![t.val % 16 * 128 - 1, t.val / 16] ∧ win0_1.index t = ![t.val % 16, t.val / 16]
    ∧ win0_2.index t = ![t.val / 16, t.val % 16, 0] ∧ win0_3.index t = ![t.val / 16, min ((t.val % 16 + 1) * 128) 2047, 0]
    ∧ win0_4.index t = ![0, t.val / 16] ∧ win0_5.index t = ![t.val % 16, t.val / 16] ∧ win0_6.index t = ![0, t.val / 16] :=
  (by decide +kernel : ∀ t : Fin grid0.N, _)

/-- The arrays before the last stretch of host lines. -/
def mid (c : Dev nD) : Valuation τ sig (Elt Ideal) :=
  StableHlo.after hostOps0_1 (StableHlo.after hostOps0 fun b => m (c, b))

theorem mid_arg0 (c : Dev nD) : mid m c main_arg0 = m ((c : Thread nD τ).loc main_arg0) := by
  unfold mid; after_reads_simp

theorem mid_arg2 (c : Dev nD) : mid m c main_arg2 = m ((c : Thread nD τ).loc main_arg2) := by
  unfold mid; after_reads_simp

/-- The cotangent split by thirds of its columns. -/
theorem host_v8 (c : Dev nD) (j : Fin 3) (r : Fin 16384) (x : Fin 768) :
    V m c main_v8 (ix3 j r x) = m ((c : Thread nD τ).loc main_arg2) (ix2 r ⟨j.val * 768 + x.val, by omega⟩) := by
  show StableHlo.after hostOps0_2 (mid m c) main_v8 (ix3 j r x) = _
  after_reads_simp
  rw [mid_arg2]
  generalize m ((c : Thread nD τ).loc main_arg2) = A
  pointwise

theorem cat3 (x0 : FVec Ideal S16384x3072 .f32) (x1 : FVec Ideal S16384x256 .f32) (x2 : FVec Ideal S16384x128 .f32) (hc)
    (r : Fin 16384) (q : Fin 2304) :
    concatenate S16384x3456 1 [⟨S16384x3072, x0⟩, ⟨S16384x256, x1⟩, ⟨S16384x128, x2⟩] hc (ix2 r ⟨q.val, by omega⟩)
      = x0 (ix2 r ⟨q.val, by omega⟩) := by
  have h : q.val < 3072 := by omega
  pointwise
  rw [dif_pos h]

/-- The array the two windows over the input read, in its first columns. -/
theorem host_v5 (c : Dev nD) (r : Fin 16384) (q : Fin 2304) :
    V m c main_v5 (ix2 r ⟨q.val, by omega⟩) = m ((c : Thread nD τ).loc main_arg0) (ix2 r ⟨q.val, by omega⟩) := by
  show StableHlo.after hostOps0_2 (mid m c) main_v5 (ix2 r ⟨q.val, by omega⟩) = _
  rw [StableHlo.after_last_write (r := main_v5) (i := 3) [main_v6, main_v7, main_v8] rfl rfl (by decide) (mid m c), StableHlo.unary_result',
    StableHlo.upto_last_write (r := main_v4) (i := 2) [] rfl rfl (by decide) (mid m c)]
  refine (congrFun (congrArg (fun f => (truncf .bf16 f bitsLt_bf16_f32 : FVec Ideal S16384x3456 .bf16))
    (StableHlo.nary_result' ![main_v2, main_v3, main_v1] _ _ _ _)) _).trans ?_
  refine (cat3 _ _ _ concatenates_S16384x3072_S16384x256_S16384x128_S16384x3456_d1 r q).trans ?_
  dsimp only [Matrix.cons_val]
  after_reads_simp
  rw [mid_arg0]
  generalize m ((c : Thread nD τ).loc main_arg0) = A
  pointwise

/-- The rows of the input that point `t` reads. -/
theorem blk1 (c : Dev nD) (t : Fin cfg0.N) (y : Fin 1024) (x : Fin 768) (r : Fin 16384) (q : Fin 2304)
    (hr : r.val = t.val % 16 * 1024 + y.val) (hq : q.val = t.val / 16 * 768 + x.val) :
    X0_1 m c t (ix2 y x) = m ((c : Thread nD τ).loc main_arg0) (ix2 r ⟨q.val, by omega⟩) := by
  refine Eq.trans ?_ (host_v5 m c r q)
  unfold X0_1 Pipeline.Window.fill
  rw [dif_pos (moved0_1 t _)]
  unfold iblk
  blk_ext [idx t]

/-- The eight rows before them, behind the first row block. -/
theorem blk0 (c : Dev nD) (t : Fin cfg0.N) (y : Fin 8) (x : Fin 768) (r : Fin 16384) (q : Fin 2304) (h0 : t.val % 16 ≠ 0)
    (hr : r.val + 8 = t.val % 16 * 1024 + y.val) (hq : q.val = t.val / 16 * 768 + x.val) :
    X0_0 m c t (ix2 y x) = m ((c : Thread nD τ).loc main_arg0) (ix2 r ⟨q.val, by omega⟩) := by
  refine Eq.trans ?_ (host_v5 m c r q)
  unfold X0_0 Pipeline.Window.fill
  rw [dif_pos (moved0_0 t _)]
  unfold iblk
  blk_ext [idx t]

/-- The cotangent entries that point `t` reads. -/
theorem blk2 (c : Dev nD) (t : Fin cfg0.N) (y : Fin 1024) (x : Fin 768) (r : Fin 16384) (q : Fin 2304)
    (hr : r.val = t.val % 16 * 1024 + y.val) (hq : q.val = t.val / 16 * 768 + x.val) :
    iblk m c 2 t (ix3 0 y x) = m ((c : Thread nD τ).loc main_arg2) (ix2 r q) := by
  refine Eq.trans ?_ (host_v8 m c ⟨t.val / 16, by have := lt_of_lt_of_eq t.isLt N_0; omega⟩ r x |>.trans
    (congrArg (fun k => m ((c : Thread nD τ).loc main_arg2) (ix2 r k)) (Fin.ext hq.symm)))
  unfold iblk
  blk_ext [idx t]

/-- The cotangent entries of the eight rows behind, below the last row block. -/
theorem blk3 (c : Dev nD) (t : Fin cfg0.N) (y : Fin 8) (x : Fin 768) (r : Fin 16384) (q : Fin 2304)
    (hr : r.val = (t.val % 16 + 1) * 1024 + y.val) (hq : q.val = t.val / 16 * 768 + x.val) :
    iblk m c 3 t (ix3 0 y x) = m ((c : Thread nD τ).loc main_arg2) (ix2 r q) := by
  refine Eq.trans ?_ (host_v8 m c ⟨t.val / 16, by have := lt_of_lt_of_eq t.isLt N_0; omega⟩ r x |>.trans
    (congrArg (fun k => m ((c : Thread nD τ).loc main_arg2) (ix2 r k)) (Fin.ext hq.symm)))
  unfold iblk
  blk_ext [idx t]

/-- The taps that point `t` reads. -/
theorem blk4 (c : Dev nD) (t : Fin cfg0.N) (k : Fin 4) (x : Fin 768) (q : Fin 2304) (hq : q.val = t.val / 16 * 768 + x.val) :
    iblk m c 4 t (ix2 k x) = m ((c : Thread nD τ).loc main_arg1) (ix2 k q) := by
  unfold iblk; entry_read; blk_ext [idx t]

/-- One if a later row block follows, else zero. -/
def after (i : grid0.Coords) : EReal :=
  (((Scalar.extui (Scalar.cmpi .slt (BitVec.ofNat 32 (i 1).val) 15#32) : BitVec 32).toInt : ℝ) : EReal)

/-- One if a row block comes before, else zero. -/
def before (i : grid0.Coords) : EReal :=
  (((Scalar.extui (Scalar.cmpi .sgt (BitVec.ofNat 32 (i 1).val) 0#32) : BitVec 32).toInt : ℝ) : EReal)

section
variable (c : Dev nD) (i : grid0.Coords) (a2 : Memref sig .tc .vmem S8x768 .bf16) (h2 : a2.IsWhole)
  (a3 : Memref sig .tc .vmem S1024x768 .bf16) (h3 : a3.IsWhole) (a4 : Memref sig .tc .vmem S1x1024x768 .bf16) (h4 : a4.IsWhole)
  (a5 : Memref sig .tc .vmem S1x8x768 .bf16) (h5 : a5.IsWhole) (a6 : Memref sig .tc .vmem S4x768 .f32) (h6 : a6.IsWhole)
  (a7 : Memref sig .tc .vmem S1024x768 .bf16) (h7 : a7.IsWhole) (a8 : Memref sig .tc .vmem S4x768 .f32) (h8 : a8.IsWhole)
  (P : FVec Ideal S8x768 .bf16) (X : FVec Ideal S1024x768 .bf16) (Y : FVec Ideal S1x1024x768 .bf16) (N : FVec Ideal S1x8x768 .bf16)
  (W : FVec Ideal S4x768 .f32) (Z : FVec Ideal S4x768 .f32) (r : Fin 1024) (k : Fin 4) (x : Fin 768) (D E : ℕ → EReal) (b : ℕ)

/-- A row of the cotangent at most three rows behind row `r` of a block. -/
theorem behind (fl : EReal) (hY : ∀ r : Fin 1024, Y (ix3 0 r x) = D (b + r.val)) (hN : ∀ p : Fin 8, N (ix3 0 p x) * fl = D (b + 1024 + p.val))
    (n j : ℕ) (hn : n + j = 1032) (hj : j ≤ 3) (h' : ¬(r.val + 1032 - n) % 1032 < 1024 → (r.val + 1032 - n) % 1032 - 1024 < 8) :
    (if h : (r.val + 1032 - n) % 1032 < 1024 then Y (ix3 0 ⟨(r.val + 1032 - n) % 1032, h⟩ x)
      else N (ix3 0 ⟨(r.val + 1032 - n) % 1032 - 1024, h' h⟩ x) * fl) = D (b + r.val + j) := by
  split_ifs with h
  · rw [hY]; exact congrArg D (by simp only; omega)
  · rw [hN]; exact congrArg D (by simp only; omega)

/-- A row of the input at most three rows before row `r` of a block. -/
theorem ahead (fl : EReal) (hX : ∀ r : Fin 1024, X (ix2 r x) = E (b + r.val + 3)) (hP : ∀ p : Fin 8, 5 ≤ p.val → P (ix2 p x) * fl = E (b + p.val - 5))
    (n j : ℕ) (hn : n + j = 3) (h0 : 1 ≤ n) (h' : ¬(8 + r.val + 1032 - n) % 1032 < 8 → (8 + r.val + 1032 - n) % 1032 - 8 < 1024) :
    (if h : (8 + r.val + 1032 - n) % 1032 < 8 then P (ix2 ⟨(8 + r.val + 1032 - n) % 1032, h⟩ x) * fl
      else X (ix2 ⟨(8 + r.val + 1032 - n) % 1032 - 8, h' h⟩ x)) = E (b + r.val + j) := by
  split_ifs with h
  · rw [hP _ (by simp only; omega)]; exact congrArg E (by simp only; omega)
  · rw [hX]; exact congrArg E (by simp only; omega)

variable (hY : ∀ r : Fin 1024, Y (ix3 0 r x) = D (b + r.val)) (hN : ∀ p : Fin 8, N (ix3 0 p x) * after i = D (b + 1024 + p.val))
  (hX : ∀ r : Fin 1024, X (ix2 r x) = E (b + r.val + 3)) (hP : ∀ p : Fin 8, 5 ≤ p.val → P (ix2 p x) * before i = E (b + p.val - 5))

include hY hN in
/-- The gradient of the input a run's first point writes, from the cotangent's rows `D` and the taps. -/
theorem dx_A (hc0 : cond0_0 i) :
    out0_A_5 (F := Ideal) c i a2 h2 a3 h3 a4 h4 a5 h5 a6 h6 a7 h7 a8 h8 hc0 P X Y N W (ix2 r x)
      = D (b + r.val) * W (ix2 3 x) + D (b + r.val + 1) * W (ix2 2 x) + D (b + r.val + 2) * W (ix2 1 x) + D (b + r.val + 3) * W (ix2 0 x) := by
  frame_out
  pointwise [k0_pay1, k0_pay6, k0_pay7, k0_pay9]
  have e := behind Y N r x D b (after i) hY hN
  unfold after at e
  rw [e 1031 1 rfl (by decide) (fun _ => by omega), e 1030 2 rfl (by decide) (fun _ => by omega),
    e 1029 3 rfl (by decide) (fun _ => by omega), hY]

include hY hN in
/-- The other points write the same. -/
theorem dx_B (hc0 : ¬cond0_0 i) :
    out0_B_5 (F := Ideal) c i a2 h2 a3 h3 a4 h4 a5 h5 a6 h6 a7 h7 a8 h8 hc0 P X Y N W Z (ix2 r x)
      = D (b + r.val) * W (ix2 3 x) + D (b + r.val + 1) * W (ix2 2 x) + D (b + r.val + 2) * W (ix2 1 x) + D (b + r.val + 3) * W (ix2 0 x) := by
  frame_out
  pointwise [k0_pay1, k0_pay6, k0_pay7, k0_pay9]
  have e := behind Y N r x D b (after i) hY hN
  unfold after at e
  rw [e 1031 1 rfl (by decide) (fun _ => by omega), e 1030 2 rfl (by decide) (fun _ => by omega),
    e 1029 3 rfl (by decide) (fun _ => by omega), hY]

include hY hX hP in
/-- The products a point adds to the gradient of tap `k`. -/
theorem dw_B (hc0 : ¬cond0_0 i) :
    out0_B_6 (F := Ideal) c i a2 h2 a3 h3 a4 h4 a5 h5 a6 h6 a7 h7 a8 h8 hc0 P X Y N W Z (ix2 k x)
      = Z (ix2 k x) + ∑ r : Fin 1024, D (b + r.val) * E (b + r.val + k.val) := by
  frame_out
  pointwise [k0_pay3, k0_pay4, k0_pay5, k0_pay6, k0_pay8, k0_pay10]
  have e := fun r => ahead P X r x E b (before i) hX hP
  unfold before at e
  simp only [e _ 3 0 rfl (by decide) (fun _ => by omega), e _ 2 1 rfl (by decide) (fun _ => by omega),
    e _ 1 2 rfl (by decide) (fun _ => by omega)]
  simp only [hX, hY]
  refine congrArg (fun q => Z (ix2 k x) + q) ?_
  fin_cases k <;> rfl

include hY hX hP in
/-- A run's first point starts from zero. -/
theorem dw_A (hc0 : cond0_0 i) :
    out0_A_6 (F := Ideal) c i a2 h2 a3 h3 a4 h4 a5 h5 a6 h6 a7 h7 a8 h8 hc0 P X Y N W (ix2 k x)
      = 0 + ∑ r : Fin 1024, D (b + r.val) * E (b + r.val + k.val) := by
  frame_out
  pointwise [k0_pay2, k0_pay3, k0_pay4, k0_pay5, k0_pay6, k0_pay8, k0_pay10]
  have e := fun r => ahead P X r x E b (before i) hX hP
  unfold before at e
  simp only [e _ 3 0 rfl (by decide) (fun _ => by omega), e _ 2 1 rfl (by decide) (fun _ => by omega),
    e _ 1 2 rfl (by decide) (fun _ => by omega)]
  simp only [hX, hY]
  try rw [zero_add]
  fin_cases k <;> rfl

end

/-- Row `q` of column `x` of the cotangent, zero behind the last row. -/
def cRow (d : FVec Ideal S16384x2304 .f32) (x : Fin 2304) (q : ℕ) : EReal := if h : q < 16384 then d (ix2 ⟨q, h⟩ x) else 0

/-- Row `q` of column `x` of the input behind three rows of zeros. -/
def hRow (A : FVec Ideal S16384x3340 .f32) (x : Fin 2304) (q : ℕ) : EReal :=
  if h : 3 ≤ q ∧ q - 3 < 16384 then A (ix2 ⟨q - 3, h.2⟩ ⟨x.val, by omega⟩) else 0

/-- The gradient of the convolution's input. -/
def DX (w : FVec Ideal S4x2304 .f32) (d : FVec Ideal S16384x2304 .f32) : FVec Ideal S16384x2304 .bf16 := fun i =>
  cRow d (i 1) (i 0).val * w (ix2 3 (i 1)) + cRow d (i 1) ((i 0).val + 1) * w (ix2 2 (i 1))
    + cRow d (i 1) ((i 0).val + 2) * w (ix2 1 (i 1)) + cRow d (i 1) ((i 0).val + 3) * w (ix2 0 (i 1))

/-- The gradient of the four taps. -/
def DW (A : FVec Ideal S16384x3340 .f32) (d : FVec Ideal S16384x2304 .f32) : FVec Ideal S4x2304 .f32 := fun i =>
  ∑ t : Fin 16384, cRow d (i 1) t.val * hRow A (i 1) (t.val + (i 0).val)

theorem after_eq (t : Fin cfg0.N) : after (grid0.coords t) = if t.val % 16 < 15 then 1 else 0 := by
  have h := (by decide +kernel : ∀ t : Fin grid0.N, (Scalar.extui (Scalar.cmpi .slt (BitVec.ofNat 32 (grid0.coords t 1).val) 15#32) : BitVec 32).toInt
    = if t.val % 16 < 15 then 1 else 0) t
  unfold after
  rw [h]
  split_ifs <;> simp

theorem before_eq (t : Fin cfg0.N) : before (grid0.coords t) = if t.val % 16 = 0 then 0 else 1 := by
  have h := (by decide +kernel : ∀ t : Fin grid0.N, (Scalar.extui (Scalar.cmpi .sgt (BitVec.ofNat 32 (grid0.coords t 1).val) 0#32) : BitVec 32).toInt
    = if t.val % 16 = 0 then 0 else 1) t
  unfold before
  rw [h]
  split_ifs <;> simp

section
variable (c : Dev nD) (t : Fin cfg0.N) (x : Fin 768) (q : Fin 2304) (hq : q.val = t.val / 16 * 768 + x.val)

include hq in
theorem rows_Y (r : Fin 1024) : iblk m c 2 t (ix3 0 r x) = cRow (m ((c : Thread nD τ).loc main_arg2)) q (t.val % 16 * 1024 + r.val) := by
  unfold cRow
  rw [dif_pos (by omega)]
  exact blk2 m c t r x _ q rfl hq

include hq in
theorem rows_N (p : Fin 8) : @HMul.hMul EReal EReal EReal _ (iblk m c 3 t (ix3 0 p x)) (after (grid0.coords t))
    = cRow (m ((c : Thread nD τ).loc main_arg2)) q (t.val % 16 * 1024 + 1024 + p.val) := by
  rw [after_eq]
  unfold cRow
  split_ifs with h h' h'
  · rw [mul_one]; exact blk3 m c t p x _ q (by simp only; omega) hq
  · omega
  · omega
  · exact mul_zero _

include hq in
theorem rows_X (r : Fin 1024) : X0_1 m c t (ix2 r x) = hRow (m ((c : Thread nD τ).loc main_arg0)) q (t.val % 16 * 1024 + r.val + 3) := by
  unfold hRow
  rw [dif_pos (by omega)]
  exact blk1 m c t r x _ q (by simp only; omega) hq

include hq in
theorem rows_P (p : Fin 8) (hp : 5 ≤ p.val) : @HMul.hMul EReal EReal EReal _ (X0_0 m c t (ix2 p x)) (before (grid0.coords t))
    = hRow (m ((c : Thread nD τ).loc main_arg0)) q (t.val % 16 * 1024 + p.val - 5) := by
  rw [before_eq]
  unfold hRow
  split_ifs with h h' h'
  · omega
  · exact mul_zero _
  · rw [mul_one]; exact blk0 m c t p x _ q h (by simp only; omega) hq
  · omega

include hq in
/-- What point `t` leaves in the first result's block. -/
theorem point_dx (r : Fin 1024) (k : Fin 16384) (hk : k.val = t.val % 16 * 1024 + r.val) :
    (outsAt0 m c t.val t.isLt).1 (ix2 r x) = DX (m ((c : Thread nD τ).loc main_arg1)) (m ((c : Thread nD τ).loc main_arg2)) (ix2 k q) := by
  unfold DX
  let W : FVec Ideal S4x2304 .f32 := m ((c : Thread nD τ).loc main_arg1)
  show _ = cRow _ q k.val * W (ix2 3 q) + cRow _ q (k.val + 1) * W (ix2 2 q) + cRow _ q (k.val + 2) * W (ix2 1 q) + cRow _ q (k.val + 3) * W (ix2 0 q)
  unfold W
  rw [hk, ← blk4 m c t 3 x q hq, ← blk4 m c t 2 x q hq, ← blk4 m c t 1 x q hq, ← blk4 m c t 0 x q hq]
  by_cases h0 : t.val % 16 = 0
  · rw [outsAt0_A m c t h0]
    dsimp only
    exact dx_A c _ _ _ _ _ _ _ _ _ _ _ _ _ _ _ (X0_0 m c t) (X0_1 m c t) (iblk m c 2 t) (iblk m c 3 t) (iblk m c 4 t) r x _ _
      (rows_Y m c t x q hq) (rows_N m c t x q hq) _
  · rw [outsAt0_B m c t h0]
    dsimp only
    exact dx_B c _ _ _ _ _ _ _ _ _ _ _ _ _ _ _ (X0_0 m c t) (X0_1 m c t) (iblk m c 2 t) (iblk m c 3 t) (iblk m c 4 t) _ r x _ _
      (rows_Y m c t x q hq) (rows_N m c t x q hq) _

end

/-- Column `x` of part `j`. -/
abbrev col (j : Fin 3) (x : Fin 768) : Fin 2304 := ⟨j.val * 768 + x.val, by omega⟩

/-- The products point `t` adds to the gradient of tap `k`. -/
def part (c : Dev nD) (t : Fin cfg0.N) (k : Fin 4) (x : Fin 768) : EReal :=
  ∑ r : Fin 1024, cRow (m ((c : Thread nD τ).loc main_arg2)) (col ⟨t.val / 16, by have := lt_of_lt_of_eq t.isLt N_0; omega⟩ x) (t.val % 16 * 1024 + r.val)
    * hRow (m ((c : Thread nD τ).loc main_arg0)) (col ⟨t.val / 16, by have := lt_of_lt_of_eq t.isLt N_0; omega⟩ x) (t.val % 16 * 1024 + r.val + k.val)

/-- What the second result's block holds after point `t`: the products of the run's points up to `t`. -/
theorem taps (c : Dev nD) (t : Fin cfg0.N) (k : Fin 4) (x : Fin 768) :
    (outsAt0 m c t.val t.isLt).2 (ix2 k x) = 0 + ∑ s : Fin (t.val % 16 + 1),
      part m c ⟨16 * (t.val / 16) + s.val, Pipeline.run_point_lt t rfl s⟩ k x := by
  refine Pipeline.eq_sum_fin_of_reset_step_apply (fun n h (p : Fin 4 × Fin 768) => (outsAt0 m c n h).2 (ix2 p.1 p.2)) 16 (fun _ => 0)
    (fun t p => part m c t p.1 p.2) (fun t h p => ?_) (fun t h p => ?_) t (k, x)
  · beta_reduce
    rw [outsAt0_A m c t h]
    dsimp only
    exact dw_A c _ _ _ _ _ _ _ _ _ _ _ _ _ _ _ (X0_0 m c t) (X0_1 m c t) (iblk m c 2 t) (iblk m c 3 t) (iblk m c 4 t) p.1 p.2 _ _ _
      (rows_Y m c t p.2 _ rfl) (rows_X m c t p.2 _ rfl) (rows_P m c t p.2 _ rfl) _
  · beta_reduce
    rw [outsAt0_B m c t h]
    dsimp only
    exact dw_B c _ _ _ _ _ _ _ _ _ _ _ _ _ _ _ (X0_0 m c t) (X0_1 m c t) (iblk m c 2 t) (iblk m c 3 t) (iblk m c 4 t) _ p.1 p.2 _ _ _
      (rows_Y m c t p.2 _ rfl) (rows_X m c t p.2 _ rfl) (rows_P m c t p.2 _ rfl) _

/-- The first result array after the run. -/
theorem final_dx (c : Dev nD) : (dats m 0 c).arrAt 5 (cfgs 0).N
    = DX (m ((c : Thread nD τ).loc main_arg1)) (m ((c : Thread nD τ).loc main_arg2)) := by
  refine (dats m 0 c).arrAt_eq_of_covers 5 _ (by decide +kernel) fun t hf y => ?_
  have ht : t.val < 48 := lt_of_lt_of_eq t.isLt N_0
  blk_simp
  rw [after0_5]
  idx_vars y
  have e : ((View.whole main_v9_0).slice (win0_5.rect t)).emb (ix2 y0 y1)
      = ix2 (⟨t.val % 16 * 1024 + y0.val, by omega⟩ : Fin 16384) (⟨t.val / 16 * 768 + y1.val, by omega⟩ : Fin 2304) := by
    blk_ext [idx t]
  rw [e]
  exact point_dx m c t y1 _ rfl y0 _ rfl

/-- The second result array after the run. -/
theorem final_dw (c : Dev nD) : (dats m 0 c).arrAt 6 (cfgs 0).N
    = DW (m ((c : Thread nD τ).loc main_arg0)) (m ((c : Thread nD τ).loc main_arg2)) := by
  refine (dats m 0 c).arrAt_eq_of_covers 6 _ (by decide +kernel) fun t hf y => ?_
  have h15 : t.val % 16 = 15 := (flush0_6 t).mp hf
  have ht : t.val < 48 := lt_of_lt_of_eq t.isLt N_0
  blk_simp
  rw [after0_6]
  idx_vars y
  have e : ((View.whole main_v9_1).slice (win0_6.rect t)).emb (ix2 y0 y1) = ix2 y0 (col ⟨t.val / 16, by omega⟩ y1) := by
    blk_ext [idx t]
  rw [e]
  refine (taps m c t y0 y1).trans ?_
  rw [zero_add]
  unfold part
  refine Fin.sum_mul_add_congr (fun s r hl => ?_) (by rw [h15])
  have hs : s.val < 16 := by have := s.isLt; omega
  have b0 : ∀ n (hn : n < 3), n = t.val / 16 → ∀ k, k = s.val →
      cRow (m ((c : Thread nD τ).loc main_arg2)) (col ⟨n, hn⟩ y1) (k * 1024 + r.val) * hRow (m ((c : Thread nD τ).loc main_arg0)) (col ⟨n, hn⟩ y1) (k * 1024 + r.val + y0.val)
      = cRow (m ((c : Thread nD τ).loc main_arg2)) (col ⟨t.val / 16, by omega⟩ y1) (s.val * 1024 + r.val)
        * hRow (m ((c : Thread nD τ).loc main_arg0)) (col ⟨t.val / 16, by omega⟩ y1) (s.val * 1024 + r.val + y0.val) := by
    rintro n hn rfl k rfl
    rfl
  exact b0 _ _ (by simp only; omega) _ (by simp only; omega)

end Cert.ConvIdeal.Pf

end
-- ==== Proof.ConvRef.lean ====
module

public import proofs.«01_k».proof.Proof.Gen.ConvRefIdeal.Read
public import proofs.«01_k».proof.Proof.ConvKernel

@[expose] public section

set_option maxRecDepth 16384

noncomputable section

/-! The two derivatives the convolution's reference computes equal the kernel's arrays. -/

namespace Cert.ConvRefIdeal.Pf

open Idealize.ShloMosaic Idealize.ShloMosaic.TcCoe
open Cert.ConvRefIdeal Cert.ConvRefIdeal.Gen Cert.ConvRefIdeal.Read
open Cert.ConvIdeal.Pf (cRow hRow DX DW)

variable (x0 : FVec Ideal S16384x3340 .f32) (x1 : FVec Ideal S4x2304 .f32) (x2 : FVec Ideal S16384x2304 .f32)

/-- The padded input, row by row. -/
theorem padded (r : Fin 16387) (x : Fin 2304) : val_main_v3 (F := Ideal) x0 (ix2 r x) = hRow x0 x r.val := by
  pointwise [val_main_v3, val_main_v2, val_main_cst, val_main_v0]
  unfold hRow
  by_cases h : r.val < 3
  · rw [dif_pos h, dif_neg (by omega)]
  · rw [dif_neg h, dif_pos (by omega)]

/-- A product of the cotangent and a tap, shifted down by `j` of the three rows that are cut off afterwards. -/
theorem shifted (w : EReal) (r : Fin 16384) (x : Fin 2304) (j n : ℕ) (hn : n + j = 3) :
    (if h : j ≤ 3 + r.val ∧ 3 + r.val - j < 16384 then x2 (ix2 ⟨3 + r.val - j, h.2⟩ x) * w else 0) = cRow x2 x (r.val + n) * w := by
  unfold cRow
  split_ifs with h h' h'
  · exact congrArg (fun q => x2 (ix2 q x) * w) (Fin.ext (by simp only; omega))
  · omega
  · omega
  · exact (zero_mul w).symm

/-- The reference's gradient of the input. -/
theorem dx_eq : val_main_v80 (F := Ideal) x1 x2 = DX x1 x2 := by
  funext i
  idx_vars i
  pointwise [val_main_v80, val_main_v79, val_main_v77, val_main_v76, val_main_cst_17, val_main_v71, val_main_v70, val_main_v66, val_main_v65,
    val_main_cst_13, val_main_v60, val_main_v59, val_main_v55, val_main_v54, val_main_cst_9, val_main_v49, val_main_v48,
    val_main_v44, val_main_cst_5, val_main_v40, val_main_v39, val_main_v35, val_main_v34, val_main_v30, val_main_v29, val_main_v28,
    val_main_v23, val_main_v22, val_main_v21, val_main_v16, val_main_v15, val_main_v14, val_main_v8, val_main_v7, val_main_v6]
  show _ = ((cRow x2 i1 i0.val * x1 (ix2 3 i1) + cRow x2 i1 (i0.val + 1) * x1 (ix2 2 i1)) + cRow x2 i1 (i0.val + 2) * x1 (ix2 1 i1)) + cRow x2 i1 (i0.val + 3) * x1 (ix2 0 i1)
  refine congrArg₂ (· + ·) (congrArg₂ (· + ·) (congrArg₂ (· + ·) ?_ ?_) ?_) ?_
  · unfold cRow
    rw [dif_pos i0.isLt]
  · exact shifted x2 _ i0 i1 2 1 rfl
  · exact shifted x2 _ i0 i1 1 2 rfl
  · unfold cRow
    by_cases h : 3 + i0.val < 16384
    · rw [dif_pos h]
      refine congrArg (fun q => q * x1 (ix2 0 i1)) (Eq.trans ?_ (dif_pos (show i0.val + 3 < 16384 by omega)).symm)
      exact congrArg (fun q => x2 (ix2 q i1)) (Fin.ext (by simp only; omega))
    · rw [dif_neg h]
      exact ((congrArg (fun q => q * x1 (ix2 0 i1)) (dif_neg (show ¬ i0.val + 3 < 16384 by omega))).trans (zero_mul _)).symm

/-- The reference's gradient of the taps. -/
theorem dw_eq : val_main_v75 (F := Ideal) x0 x2 = DW x0 x2 := by
  funext i
  idx_vars i
  pointwise [val_main_v75, val_main_v74, val_main_cst_16, val_main_v73, val_main_v72, val_main_cst_15, val_main_v69, val_main_v68, val_main_cst_14,
    val_main_v67, val_main_v64, val_main_v63, val_main_cst_12, val_main_v62, val_main_v61, val_main_cst_11, val_main_v58, val_main_v57, val_main_cst_10,
    val_main_v56, val_main_v53, val_main_v52, val_main_cst_8, val_main_v51, val_main_v50, val_main_cst_7, val_main_v47, val_main_v46, val_main_cst_6,
    val_main_v45, val_main_v43, val_main_cst_4, val_main_v42, val_main_v41, val_main_cst_3, val_main_v38, val_main_v37, val_main_cst_2, val_main_v36,
    val_main_v35, val_main_v34, val_main_v27, val_main_v20, val_main_v13, val_main_v5]
  simp only [padded, Finset.univ_unique, Finset.sum_singleton]
  have e (j : ℕ) (f : Fin 16384 → ℕ) (hf : ∀ q, f q = q.val + j) :
      (∑ q : Fin 16384, hRow x0 i1 (f q) * x2 (ix2 q i1)) = ∑ q : Fin 16384, cRow x2 i1 q.val * hRow x0 i1 (q.val + j) :=
    Finset.sum_congr rfl fun q _ => by
      rw [hf, mul_comm]
      unfold cRow
      rw [dif_pos q.isLt]
  rw [e 3 (fun q => 3 + q.val) (fun q => add_comm _ _), e 2 (fun q => 2 + q.val) (fun q => add_comm _ _),
    e 1 (fun q => 1 + q.val) (fun q => add_comm _ _), e 0 (fun q => q.val) (fun q => rfl)]
  show _ = ∑ q : Fin 16384, cRow x2 i1 q.val * hRow x0 i1 (q.val + i0.val)
  fin_cases i0 <;> simp

end Cert.ConvRefIdeal.Pf

end
-- ==== Proof.ConvClaim.lean ====
module

public import proofs.«01_k».proof.Defs
public import proofs.«01_k».proof.Proof.Gen.Conv.Frame
public import proofs.«01_k».proof.Proof.Gen.ConvRefIdeal.Run
public import proofs.«01_k».proof.Proof.ConvRef
public import Idealize.ShloMosaic.Lib.Claim

@[expose] public section

set_option maxRecDepth 16384

noncomputable section

/-! The claims about the convolution's gradients. -/

namespace Cert.Proof.Conv

open Idealize.ShloMosaic Idealize.SL.Sem

theorem frame_kernel : Cert.quiescent_Conv := fun m ρ _ => Cert.Conv.Gen.frame m ρ

theorem frame_ideal : Cert.quiescent_ConvIdeal := fun m ρ _ => Cert.ConvIdeal.Gen.frame m ρ

theorem frame_ref : Cert.quiescent_ConvRefIdeal := fun m ρ _ =>
  (θ_run Cert.ConvRefIdeal.defs _ _).mono
    (fun r h => ⟨fun c => (h c).2.2, Idealize.ShloMosaic.sem_eq_zero_of_no_sems (by decide) r.2⟩)
    (Cert.ConvRefIdeal.Value.run (F := Ideal) m ρ)

/-- The kernel's two gradients and the derivatives of the plain lines are the same arrays. -/
theorem value : Cert.algebraic_ConvIdeal_ConvRefIdeal := by
  intro m g m' g' hpre hagree
  refine ⟨fun c => Cert.ConvIdeal.Pf.DX (m ((c.tc : Thread Cert.ConvIdeal.nD Cert.ConvIdeal.τ).loc Cert.ConvIdeal.main_arg1))
      (m ((c.tc : Thread Cert.ConvIdeal.nD Cert.ConvIdeal.τ).loc Cert.ConvIdeal.main_arg2)),
    fun c => Cert.ConvIdeal.Pf.DW (m ((c.tc : Thread Cert.ConvIdeal.nD Cert.ConvIdeal.τ).loc Cert.ConvIdeal.main_arg0))
      (m ((c.tc : Thread Cert.ConvIdeal.nD Cert.ConvIdeal.τ).loc Cert.ConvIdeal.main_arg2)), ?_, ?_⟩
  · exact (θ_run Cert.ConvIdeal.defs _ _).mono
      (fun r h c => ⟨(h c).1.trans (Cert.ConvIdeal.Pf.final_dx m c), (h c).2.1.trans (Cert.ConvIdeal.Pf.final_dw m c), (h c).2.2⟩)
      (Cert.ConvIdeal.Value.run_blocks m g)
  · refine (θ_run Cert.ConvRefIdeal.defs _ _).mono (fun r h c => ⟨(h c).1.trans ?_, (h c).2.1.trans ?_, (h c).2.2⟩)
      (Cert.ConvRefIdeal.Value.run (F := Ideal) m' g')
    · obtain ⟨h0, h1, h2⟩ := hagree c
      beta_reduce
      rw [h1, h2]
      exact (Cert.ConvRefIdeal.Read.val_main_v80_eq _ _).trans (Cert.ConvRefIdeal.Pf.dx_eq _ _)
    · obtain ⟨h0, h1, h2⟩ := hagree c
      beta_reduce
      rw [h0, h2]
      exact (Cert.ConvRefIdeal.Read.val_main_v75_eq _ _).trans (Cert.ConvRefIdeal.Pf.dw_eq _ _)

end Cert.Proof.Conv

end
-- ==== Proof.AttRun.lean ====
module

public import proofs.«01_k».proof.Proof.Gen.AttIdeal.Frame

/-! The launch of attention with the contents of its results at the end. -/

@[expose] public section

set_option maxRecDepth 16384

noncomputable section

namespace Cert.Att

open Cert.AttIdeal Cert.AttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch, with what the four results hold at the end: the entries of `W5`. -/
theorem run : θ_run defs (onTc (τ := τ) (main (F := F))) ⟨m, fun _ => 0, ρ⟩ (fun r => ∀ c : Dev nD,
      r.2.mem ((c.tc : Thread nD τ).loc main_v16_0) = W5 m ρ c main_v16_0
      ∧ r.2.mem ((c.tc : Thread nD τ).loc main_v18_0) = W5 m ρ c main_v18_0
      ∧ r.2.mem ((c.tc : Thread nD τ).loc main_v19_0) = W5 m ρ c main_v19_0
      ∧ r.2.mem ((c.tc : Thread nD τ).loc main_v19_1) = W5 m ρ c main_v19_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v16_0 (by decide)), h c _ (mem_uc main_v18_0 (by decide)), h c _ (mem_uc main_v19_0 (by decide)), h c _ (mem_uc main_v19_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Att
end
end
-- ==== Proof.Online.lean ====
module

public import Idealize.ShloMosaic.PureOps.Ideal
public import proofs.«01_k».proof.Proof.Finite

@[expose] public section

noncomputable section

/-! A row's softmax accumulated block by block, over the extended reals: what is carried determines, whatever the running
maximum is, the sums of the powers of two that the row has seen. -/

namespace Cert.Online

open Idealize.ShloMosaic

/-- A score where the mask allows it, minus infinity elsewhere. -/
def masked (p : Prop) [Decidable p] (s : ℝ) : EReal := if p then (s : EReal) else ⊥

/-- The weight of a score: a power of two where the mask allows it. -/
def weight (p : Prop) [Decidable p] (s : ℝ) : ℝ := if p then Real.rpow 2 s else 0

theorem two_pow_pos (x : ℝ) : 0 < Real.rpow 2 x := Real.rpow_pos_of_pos (by norm_num) x

theorem two_pow_sub (x y : ℝ) : Real.rpow 2 (x - y) = Real.rpow 2 x * Real.rpow 2 (-y) := by
  show (2 : ℝ) ^ (x - y) = (2 : ℝ) ^ x * (2 : ℝ) ^ (-y)
  rw [sub_eq_add_neg, Real.rpow_add (by norm_num)]

theorem two_pow_neg_mul (x : ℝ) : Real.rpow 2 x * Real.rpow 2 (-x) = 1 := by
  rw [← two_pow_sub, sub_self]; exact Real.rpow_zero 2

theorem weight_nonneg (p : Prop) [Decidable p] (s : ℝ) : 0 ≤ weight p s := by
  unfold weight; split
  · exact (two_pow_pos s).le
  · exact le_rfl

/-- The power of two of a masked score less a real number. -/
theorem exp2_masked (p : Prop) [Decidable p] (s μ : ℝ) :
    Ideal.exp2 (masked p s - (μ : EReal)) = ((weight p s * Real.rpow 2 (-μ) : ℝ) : EReal) := by
  unfold masked weight
  split
  · rw [← EReal.coe_sub, Ideal.exp2_coe, two_pow_sub]
  · simp

/-- The largest of finitely many masked scores, one of them allowed, is a real number. -/
theorem fold_max {ι : Type} [Fintype ι] (p : ι → Prop) [DecidablePred p] (s : ι → ℝ) (h : ∃ i, p i) :
    ∃ μ : ℝ, Finset.fold max (⊥ : EReal) (fun i => masked (p i) (s i)) Finset.univ = (μ : EReal) := by
  obtain ⟨i, hi⟩ := h
  have e : Finset.fold max (⊥ : EReal) (fun i => masked (p i) (s i)) Finset.univ ≠ ⊥ := by
    intro e
    have := (Finset.fold_max_le (s := Finset.univ) (f := fun i => masked (p i) (s i)) (b := ⊥) ⊥).mp e.le
    have := this.2 i (Finset.mem_univ i)
    simp [masked, hi] at this
  have t : Finset.fold max (⊥ : EReal) (fun i => masked (p i) (s i)) Finset.univ ≠ ⊤ := by
    apply ne_of_lt
    rw [Finset.fold_max_lt]
    refine ⟨bot_lt_top, fun j _ => ?_⟩
    unfold masked; split
    · exact EReal.coe_lt_top _
    · exact bot_lt_top
  exact ⟨_, (EReal.coe_toReal t e).symm⟩

/-- What a row carries after the scores of total weight `A` and weighted sum `B`. -/
def Inv (m l a : EReal) (A B : ℝ) : Prop :=
  (m = ⊥ ∧ l = 0 ∧ a = 0 ∧ A = 0 ∧ B = 0)
    ∨ ∃ μ : ℝ, m = μ ∧ l = ((A * Real.rpow 2 (-μ) : ℝ) : EReal) ∧ a = ((B * Real.rpow 2 (-μ) : ℝ) : EReal)

theorem inv_zero : Inv ⊥ 0 0 0 0 := .inl ⟨rfl, rfl, rfl, rfl, rfl⟩

/-- The carried quantities after the maximum has moved to a real number. -/
theorem rescale {m l a : EReal} {A B : ℝ} (h : Inv m l a A B) (μ : ℝ) :
    Ideal.exp2 (m - (μ : EReal)) * l = ((A * Real.rpow 2 (-μ) : ℝ) : EReal)
      ∧ Ideal.exp2 (m - (μ : EReal)) * a = ((B * Real.rpow 2 (-μ) : ℝ) : EReal) := by
  obtain ⟨rfl, rfl, rfl, rfl, rfl⟩ | ⟨ν, rfl, rfl, rfl⟩ := h
  · simp
  · have e : Real.rpow 2 (ν - μ) * Real.rpow 2 (-ν) = Real.rpow 2 (-μ) := by
      rw [two_pow_sub, mul_right_comm, two_pow_neg_mul, one_mul]
    rw [← EReal.coe_sub, Ideal.exp2_coe, ← EReal.coe_mul, ← EReal.coe_mul]
    constructor <;> congr 1
    · rw [mul_left_comm, e]
    · rw [mul_left_comm, e]

/-- One block of scores: the state moves to the weights seen so far. -/
theorem step {ι : Type} [Fintype ι] {m l a : EReal} {A B : ℝ} (h : Inv m l a A B) (p : ι → Prop) [DecidablePred p] (s v : ι → ℝ)
    (hp : ∃ i, p i) {M : EReal} (hM : M = max m (Finset.fold max (⊥ : EReal) (fun i => masked (p i) (s i)) Finset.univ)) :
    Inv M (Ideal.exp2 (m - M) * l + ∑ i, Ideal.exp2 (masked (p i) (s i) - M))
      (Ideal.exp2 (m - M) * a + ∑ i, Ideal.exp2 (masked (p i) (s i) - M) * (v i : EReal))
      (A + ∑ i, weight (p i) (s i)) (B + ∑ i, weight (p i) (s i) * v i) := by
  obtain ⟨μ0, h0⟩ := fold_max p s hp
  have : ∃ μ : ℝ, M = μ := by
    rw [hM, h0]
    obtain ⟨rfl, -⟩ | ⟨ν, rfl, -⟩ := h
    · exact ⟨μ0, by simp⟩
    · exact ⟨max ν μ0, (EReal.coe_strictMono.monotone.map_max (a := ν) (b := μ0)).symm⟩
  obtain ⟨μ, e⟩ := this
  subst e
  obtain ⟨r1, r2⟩ := rescale h μ
  refine .inr ⟨μ, rfl, ?_, ?_⟩
  · rw [r1]
    simp only [exp2_masked]
    rw [Cert.Finite.coe_sum, ← EReal.coe_add, add_mul, Finset.sum_mul]
  · rw [r2]
    simp only [exp2_masked, ← EReal.coe_mul]
    rw [Cert.Finite.coe_sum, ← EReal.coe_add, add_mul, Finset.sum_mul]
    simp only [mul_right_comm]

/-- The output of a row: the weighted mean. -/
theorem out {m l a : EReal} {A B : ℝ} (h : Inv m l a A B) (hA : 0 < A) : Ideal.div a l = ((B / A : ℝ) : EReal) := by
  obtain ⟨-, -, -, rfl, -⟩ | ⟨ν, -, rfl, rfl⟩ := h
  · exact absurd hA (lt_irrefl _)
  · have := two_pow_pos (-ν)
    rw [Ideal.div_coe (mul_pos hA this).ne', ← EReal.coe_mul]
    congr 1
    field_simp

/-- The logarithm to base two of the row's total weight. -/
theorem lse {m l a : EReal} {A B : ℝ} (h : Inv m l a A B) (hA : 0 < A) :
    m + Ideal.log l * (((Real.log 2)⁻¹ : ℝ) : EReal) = ((Real.log A * (Real.log 2)⁻¹ : ℝ) : EReal) := by
  obtain ⟨-, -, -, rfl, -⟩ | ⟨ν, rfl, rfl, rfl⟩ := h
  · exact absurd hA (lt_irrefl _)
  · have h2 := two_pow_pos (-ν)
    have hl : Real.log 2 ≠ 0 := (Real.log_pos (by norm_num)).ne'
    rw [Ideal.log_coe, if_neg (not_le.mpr (mul_pos hA h2)), ← EReal.coe_mul, ← EReal.coe_add]
    congr 1
    have : Real.log (Real.rpow 2 (-ν)) = -ν * Real.log 2 := Real.log_rpow (by norm_num) _
    rw [Real.log_mul hA.ne' h2.ne', this]
    field_simp
    ring

/-- The probability of a score: its power of two less the row's logarithm. -/
theorem prob (p : Prop) [Decidable p] (s : ℝ) {A : ℝ} (hA : 0 < A) :
    Ideal.exp2 (masked p s - ((Real.log A * (Real.log 2)⁻¹ : ℝ) : EReal)) = ((weight p s / A : ℝ) : EReal) := by
  have hl : Real.log 2 ≠ 0 := (Real.log_pos (by norm_num)).ne'
  have : Real.rpow 2 (-(Real.log A * (Real.log 2)⁻¹)) = A⁻¹ := by
    show (2 : ℝ) ^ (-(Real.log A * (Real.log 2)⁻¹)) = A⁻¹
    rw [Real.rpow_neg (by norm_num), Real.rpow_def_of_pos (by norm_num), mul_left_comm, mul_inv_cancel₀ hl, mul_one,
      Real.exp_log hA]
  rw [exp2_masked, this, div_eq_mul_inv]

end Cert.Online

end
-- ==== Proof.AttSpec.lean ====
module

public import proofs.«01_k».proof.Proof.Online
public import proofs.«01_k».proof.Proof.Finite

/-! One head of masked attention over the real numbers, in the units in which a weight is a power of two, with the gradients
of its queries, keys and values; and sums over 16384 rows taken block by block of 1024. -/

@[expose] public section

noncomputable section

namespace Cert.AttSpec

open Cert.Online

/-- Row `j` of block `b`. -/
def at' (b : ℕ) (j : Fin 1024) : Fin 16384 := ⟨(1024 * b + j.val) % 16384, Nat.mod_lt _ (by decide)⟩

theorem at_val {b : ℕ} (hb : b < 16) (j : Fin 1024) : (at' b j).val = 1024 * b + j.val := by
  have := j.isLt
  exact Nat.mod_eq_of_lt (by omega)

/-- Every row is a row of its block. -/
theorem at_divmod (a : Fin 16384) : at' (a.val / 1024) ⟨a.val % 1024, Nat.mod_lt _ (by decide)⟩ = a := by
  have := a.isLt
  exact Fin.ext (by rw [at_val (by omega)]; show 1024 * (a.val / 1024) + a.val % 1024 = a.val; omega)

/-- A sum over the rows is a sum over the blocks and their rows. -/
theorem sum_at (f : Fin 16384 → ℝ) : ∑ k, f k = ∑ b ∈ Finset.range 16, ∑ j : Fin 1024, f (at' b j) := by
  rw [Finset.sum_range fun b => ∑ j : Fin 1024, f (at' b j), ← Fintype.sum_prod_type' fun (b : Fin 16) (j : Fin 1024) => f (at' b.val j)]
  refine (Fintype.sum_equiv (finProdFinEquiv (m := 16) (n := 1024)) _ _ fun p => ?_).symm
  congr 1
  exact Fin.ext (by rw [at_val p.1.isLt]; show 1024 * p.1.val + p.2.val = p.2.val + 1024 * p.1.val; omega)

/-- A sum of terms that vanish past block `n`. -/
theorem sum_low (f : Fin 16384 → ℝ) {n : ℕ} (hn : n < 16) (h : ∀ b, n < b → b < 16 → ∀ j, f (at' b j) = 0) :
    ∑ k, f k = (∑ b ∈ Finset.range n, ∑ j : Fin 1024, f (at' b j)) + ∑ j : Fin 1024, f (at' n j) := by
  rw [sum_at, ← Finset.sum_range_succ fun b => ∑ j : Fin 1024, f (at' b j)]
  symm
  refine Finset.sum_subset (Finset.range_subset_range.mpr (by omega)) fun b h1 h2 => ?_
  rw [Finset.mem_range] at h1 h2
  exact Finset.sum_eq_zero fun j _ => h b (by omega) h1 j

/-- A sum of terms that vanish before block `n`. -/
theorem sum_high (f : Fin 16384 → ℝ) {n : ℕ} (hn : n < 16) (h : ∀ b, b < n → ∀ j, f (at' b j) = 0) :
    ∑ k, f k = (∑ j : Fin 1024, f (at' n j)) + ∑ b ∈ Finset.range (15 - n), ∑ j : Fin 1024, f (at' (n + b + 1) j) := by
  have e : Finset.range 16 = Finset.range (n + (1 + (15 - n))) := by congr 1; omega
  rw [sum_at, e, Finset.sum_range_add, Finset.sum_eq_zero (s := Finset.range n), zero_add, Finset.sum_range_add]
  · rw [Finset.sum_range_one]
    exact congrArg _ (Finset.sum_congr rfl fun b _ => by rw [show n + (1 + b) = n + b + 1 by omega])
  · exact fun b hb => Finset.sum_eq_zero fun j _ => h b (Finset.mem_range.mp hb) j

/-- Whether the query of row `a` sees the key of row `b`: its chunk is not later. -/
abbrev sees (a b : Fin 16384) : Prop := b.val / 64 ≤ a.val / 64

theorem sees_before {n b : ℕ} (hn : n < 16) (h : b < n) (r j : Fin 1024) : sees (at' n r) (at' b j) := by
  unfold sees; rw [at_val hn, at_val (by omega)]; omega

theorem not_sees_after {n b : ℕ} (hb : b < 16) (h : n < b) (r j : Fin 1024) : ¬ sees (at' n r) (at' b j) := by
  unfold sees; rw [at_val hb, at_val (by omega)]; omega

theorem sees_diag {n : ℕ} (hn : n < 16) (r j : Fin 1024) : sees (at' n r) (at' n j) ↔ j.val / 64 ≤ r.val / 64 := by
  unfold sees; rw [at_val hn, at_val hn]; omega

section
variable (Q K : Fin 16384 → Fin 256 → ℝ) (V D : Fin 16384 → Fin 128 → ℝ)

/-- The score of a query and a key. -/
def sc (a b : Fin 16384) : ℝ := ∑ c, Q a c * K b c

/-- The weight of a key for a query. -/
def w (a b : Fin 16384) : ℝ := weight (sees a b) (sc Q K a b)

/-- The sum of a query's weights. -/
def Z (a : Fin 16384) : ℝ := ∑ b, w Q K a b

theorem w_nonneg (a b : Fin 16384) : 0 ≤ w Q K a b := weight_nonneg _ _

theorem Z_pos (a : Fin 16384) : 0 < Z Q K a := by
  refine lt_of_lt_of_le ?_ (Finset.single_le_sum (fun b _ => w_nonneg Q K a b) (Finset.mem_univ a))
  unfold w weight
  rw [if_pos (show sees a a from le_rfl)]
  exact two_pow_pos _

theorem w_after {n b : ℕ} (hb : b < 16) (h : n < b) (r j : Fin 1024) : w Q K (at' n r) (at' b j) = 0 := by
  unfold w weight; rw [if_neg (not_sees_after hb h r j)]

/-- The base two logarithm of a query's sum of weights. -/
def lse (a : Fin 16384) : ℝ := Real.log (Z Q K a) * (Real.log 2)⁻¹

/-- The sum of the values, weighted and not yet normalised. -/
def num (a : Fin 16384) (d : Fin 128) : ℝ := ∑ b, w Q K a b * V b d

/-- The output. -/
def o (a : Fin 16384) (d : Fin 128) : ℝ := num Q K V a d / Z Q K a

/-- The probability of a key for a query. -/
def P (a b : Fin 16384) : ℝ := w Q K a b / Z Q K a

/-- The gradient of a probability. -/
def dP (a b : Fin 16384) : ℝ := ∑ d, D a d * V b d

/-- The row's product of output and cotangent. -/
def dl (a : Fin 16384) : ℝ := ∑ d, D a d * o Q K V a d

/-- The gradient of a score. -/
def dS (a b : Fin 16384) : ℝ := P Q K a b * (dP V D a b - dl Q K V D a)

/-- The sum for a query's gradient. -/
def sdq (a : Fin 16384) (c : Fin 256) : ℝ := ∑ b, dS Q K V D a b * K b c

/-- The sum for a key's gradient. -/
def sdk (b : Fin 16384) (c : Fin 256) : ℝ := ∑ a, dS Q K V D a b * Q a c

/-- A value's gradient. -/
def dv (b : Fin 16384) (d : Fin 128) : ℝ := ∑ a, P Q K a b * D a d

theorem P_after {n b : ℕ} (hb : b < 16) (h : n < b) (r j : Fin 1024) : P Q K (at' n r) (at' b j) = 0 := by
  unfold P; rw [w_after Q K hb h, zero_div]

theorem dS_after {n b : ℕ} (hb : b < 16) (h : n < b) (r j : Fin 1024) : dS Q K V D (at' n r) (at' b j) = 0 := by
  unfold dS; rw [P_after Q K hb h, zero_mul]

/-- A probability before the diagonal block, from the score and the row's logarithm. -/
theorem prob_before {n b : ℕ} (hn : n < 16) (h : b < n) (r j : Fin 1024) :
    Idealize.ShloMosaic.Ideal.exp2 ((sc Q K (at' n r) (at' b j) : ℝ) - (lse Q K (at' n r) : ℝ) : EReal) = (P Q K (at' n r) (at' b j) : ℝ) := by
  have := prob (sees (at' n r) (at' b j)) (sc Q K (at' n r) (at' b j)) (Z_pos Q K (at' n r))
  unfold masked at this
  rwa [if_pos (sees_before hn h r j)] at this

/-- A probability in the diagonal block. -/
theorem prob_diag {n : ℕ} (hn : n < 16) (r j : Fin 1024) :
    Idealize.ShloMosaic.Ideal.exp2 ((if j.val / 64 ≤ r.val / 64 then ((sc Q K (at' n r) (at' n j) : ℝ) : EReal) else ⊥) - (lse Q K (at' n r) : ℝ))
      = (P Q K (at' n r) (at' n j) : ℝ) := by
  have := prob (sees (at' n r) (at' n j)) (sc Q K (at' n r) (at' n j)) (Z_pos Q K (at' n r))
  unfold masked at this
  simp only [sees_diag hn] at this
  refine this.trans ?_
  unfold P w
  simp only [sees_diag hn]

end

end Cert.AttSpec

end
-- ==== Proof.AttMask.lean ====
module

public import proofs.«01_k».proof.Proof.Gen.AttRefIdeal.Read
public import proofs.«01_k».proof.Proof.AttSpec
public import proofs.«01_k».proof.Proof.Finite
public import Idealize.ShloMosaic.Lib.Routing.Words

/-! The mask of attention's reference. -/

@[expose] public section

set_option maxRecDepth 16384

noncomputable section

namespace Cert.AttRefIdeal.Pf

open Idealize.ShloMosaic Idealize.ShloMosaic.TcCoe
open Cert.AttRefIdeal Cert.AttRefIdeal.Gen Cert.AttRefIdeal.Read
open Cert.AttSpec Cert.Online

/-- The number of a row's chunk, as a word. -/
theorem chunk (i : Fin 16384) : val_main_v3 (F := Ideal) (ix1 i) = BitVec.ofNat 32 (i.val / 64) := by
  pointwise [val_main_v3, val_main_call0_v11, val_main_call0_v13, val_main_call0_v2, val_main_v2, val_main_call0_v1, val_main_call0_v0, val_main_c,
    val_main_call0_v6, val_main_call0_v10, val_main_call0_v3, val_main_call0_v5, val_main_call0_v4, val_main_call0_v8, val_main_call0_v9, val_main_call0_v7,
    val_main_call0_c, val_main_call0_v12, val_main_call0_c_0]
  have hc : id (constantI S_ 32 64#32) ix0 = 64#32 := rfl
  rw [hc]
  have hd : IntOp.divsi ArithUnit.host (BitVec.ofNat 32 i.val) 64#32 = BitVec.ofNat 32 (i.val / 64) :=
    Routing.divsi_word _ (by have := i.isLt; omega) (by decide) (by decide)
  rw [hd]
  have hm : IntOp.remsi ArithUnit.host (BitVec.ofNat 32 i.val) 64#32 = BitVec.ofNat 32 (i.val % 64) :=
    Routing.remsi_word _ (by have := i.isLt; omega) (by decide) (by decide)
  rw [hm]
  by_cases h0 : i.val = 0
  · have e : IntOp.cmpi CmpIPredicate.ne (BitVec.ofNat 32 (i.val % 64)) 0#32 = 0#1 := by
      rw [h0]; rfl
    rw [e]
    generalize IntOp.cmpi CmpIPredicate.ne _ _ = z
    have hz : IntOp.andi z 0#1 = 0#1 := by revert z; decide
    rw [hz]
    rfl
  have h1 : ¬ BitVec.ofNat 32 i.val = 0 := by
    intro e
    have := congrArg BitVec.toNat e
    simp at this
    have := i.isLt
    omega
  have h2 : (BitVec.ofNat 32 i.val).msb = false := by
    rw [BitVec.msb_eq_false_iff_two_mul_lt]
    have := i.isLt
    simp only [BitVec.toNat_ofNat]
    omega
  have h3 : ¬ (BitVec.ofNat 32 i.val).msb = true := by rw [h2]; simp
  rw [if_neg h1]
  refine (congrArg (fun q => Scalar.select (IntOp.andi (IntOp.cmpi CmpIPredicate.ne q _) _) _ _) (if_neg h3)).trans ?_
  generalize IntOp.cmpi CmpIPredicate.ne (BitVec.ofNat 32 (i.val % 64)) 0#32 = z
  have hz : IntOp.andi (IntOp.cmpi CmpIPredicate.ne (1 : BitVec 32)
      (if (64#32 : BitVec 32) = 0 then 0 else if (64#32 : BitVec 32).msb = true then -1 else 1)) z = 0#1 := by
    revert z; decide
  rw [hz]
  rfl

/-- The mask: a query sees the keys of its own chunk and of those before. -/
theorem mask (h : Fin 6) (a b : Fin 16384) : val_main_v15_1 (F := Ideal) (ix3 h a b) = BitVec.ofBool (decide (sees a b)) := by
  pointwise [val_main_v15_1, val_main_v14, val_main_v12, val_main_v13, val_main_v10, val_main_v11, chunk]
  have ha := a.isLt
  have hb := b.isLt
  exact WordCmp.cmpi_sle_ofNat (w := 32) (by omega) (by omega)

end Cert.AttRefIdeal.Pf
end
end
-- ==== Proof.AttRead.lean ====
module

public import proofs.«01_k».proof.Proof.Gen.AttIdeal
public import Idealize.ShloMosaic.Lib.Pipeline.FrameBody
public import Idealize.ShloMosaic.Lib.Pipeline.Value
public import Idealize.ShloMosaic.Lib.Pipeline.ValueKit

@[expose] public section

set_option maxRecDepth 16384

noncomputable section

/-! Reading memories that stores have covered, and the blocks of 1024 rows of a tall array. -/

namespace Cert.Att

open Idealize.ShloMosaic Idealize.ShloMosaic.TcCoe Idealize.SL.Sem
open Cert.AttIdeal Cert.AttIdeal.Gen

section
variable {sp : Space} {S : Shape} {e : EltTy} (v : View sig .tc sp S e) (f : BufTy.Contents (Elt Ideal) v.ty)
  {off : Fin S.rank → Nat} (h : off = fun _ => 0) (inb : ∀ a, off a + S.size a ≤ S.size a) (w : S.Idx → Elt Ideal e)
  (L : List (View.Piece (Elt Ideal) S e))

include h

/-- A memory whose last store covered it reads as the stored vector. -/
theorem read_over : v.read (Elt Ideal) (v.writes (Elt Ideal) f ((⟨Rect.unit off S.size inb, w⟩ : View.Piece (Elt Ideal) S e) :: L)) = w := by
  rw [View.read_writes_eq_canon _ _ _ (fun y => ⟨_, List.mem_cons_self, View.mem_set_unit_zero h inb y⟩),
    View.canon_cons_unit_zero h]

/-- A whole load after a store that covered the memory reads the stored vector. -/
theorem readCov_over :
    v.readCov ((⟨Rect.unit off S.size inb, w⟩ : View.Piece (Elt Ideal) S e) :: L) (Rect.unit off S.size inb).toLoadRect = w := by
  rw [View.readCov_eq_canon_ld _ _ _ (fun y => ⟨_, List.mem_cons_self, View.mem_set_unit_zero h inb _⟩),
    View.canon_cons_unit_zero h, View.ld_unit_zero h]

/-- A whole load after further stores reads what the memory then holds. -/
theorem readCov_append {L' : List (View.Piece (Elt Ideal) S e)} (h' : ∃ w L'', L' = (⟨Rect.unit off S.size inb, w⟩ : View.Piece (Elt Ideal) S e) :: L'') :
    v.readCov (L ++ L') (Rect.unit off S.size inb).toLoadRect
      = v.read (Elt Ideal) (v.writes (Elt Ideal) (v.writes (Elt Ideal) f L') L) := by
  obtain ⟨w, L'', rfl⟩ := h'
  have c : ∀ y, ∃ p ∈ L ++ (⟨Rect.unit off S.size inb, w⟩ : View.Piece (Elt Ideal) S e) :: L'', y ∈ p.1.set := fun y =>
    ⟨_, List.mem_append_right _ List.mem_cons_self, View.mem_set_unit_zero h inb y⟩
  rw [View.readCov_eq_canon_ld _ _ _ c, View.ld_unit_zero h, ← View.writes_append, View.read_writes_eq_canon _ _ _ c]

end

theorem hz : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

/-- Block `b` of 1024 rows of the keys. -/
def keys (x : Vec Ideal S16384x256 .bf16) (b : ℕ) : Vec Ideal S1024x256 .bf16 :=
  fun j => x (ix2 ⟨(1024 * b + (j 0).val) % 16384, Nat.mod_lt _ (by decide)⟩ (j 1))

/-- Block `b` of 1024 rows of the values. -/
def vals (x : Vec Ideal S16384x128 .bf16) (b : ℕ) : Vec Ideal S1024x128 .bf16 :=
  fun j => x (ix2 ⟨(1024 * b + (j 0).val) % 16384, Nat.mod_lt _ (by decide)⟩ (j 1))

theorem ld_keys (x : Vec Ideal S16384x256 .bf16) (b : ℕ) {off : Fin 2 → ℕ} (e : off = ![1024 * b, 0])
    (inb : ∀ a, off a + S1024x256.size a ≤ S16384x256.size a) : View.ld x (Rect.unit off S1024x256.size inb) = keys x b := by
  subst e
  funext j
  have i0 := inb 0
  have h : 1024 * b + 1024 ≤ 16384 := i0
  have hj : (j 0).val < 1024 := (j 0).isLt
  show x _ = x _
  congr 1
  funext a
  match a with
  | ⟨0, _⟩ => exact Fin.ext (by show 1024 * b + 1 * (j 0).val = (1024 * b + (j 0).val) % 16384; rw [Nat.mod_eq_of_lt (by omega)]; omega)
  | ⟨1, _⟩ => exact Fin.ext (by show 0 + 1 * (j 1).val = (j 1).val; omega)

theorem ld_vals (x : Vec Ideal S16384x128 .bf16) (b : ℕ) {off : Fin 2 → ℕ} (e : off = ![1024 * b, 0])
    (inb : ∀ a, off a + S1024x128.size a ≤ S16384x128.size a) : View.ld x (Rect.unit off S1024x128.size inb) = vals x b := by
  subst e
  funext j
  have i0 := inb 0
  have h : 1024 * b + 1024 ≤ 16384 := i0
  have hj : (j 0).val < 1024 := (j 0).isLt
  show x _ = x _
  congr 1
  funext a
  match a with
  | ⟨0, _⟩ => exact Fin.ext (by show 1024 * b + 1 * (j 0).val = (1024 * b + (j 0).val) % 16384; rw [Nat.mod_eq_of_lt (by omega)]; omega)
  | ⟨1, _⟩ => exact Fin.ext (by show 0 + 1 * (j 1).val = (j 1).val; omega)

theorem trips0_1 : ∀ i : grid0.Coords, (k0_t1_loop i).trips = (i 1).val := by decide +kernel
theorem trips0_2 : ∀ i : grid0.Coords, (k0_t2_loop i).trips = 0 := fun i => Nat.le_zero.mp (k0_t2_abs i).2.1
theorem trips1_1 : ∀ i : grid1.Coords, (k1_t1_loop i).trips = (i 1).val := by decide +kernel
theorem trips1_2 : ∀ i : grid1.Coords, (k1_t2_loop i).trips = 0 := fun i => Nat.le_zero.mp (k1_t2_abs i).2.1
theorem trips2_1 : ∀ i : grid2.Coords, (k2_t1_loop i).trips = 15 - (i 1).val := by decide +kernel
theorem trips2_2 : ∀ i : grid2.Coords, (k2_t2_loop i).trips = 0 := fun i => Nat.le_zero.mp (k2_t2_abs i).2.1

end Cert.Att
end
end
-- ==== Proof.AttFwdLoop.lean ====
module

public import proofs.«01_k».proof.Proof.Gen.AttIdeal.Frame
public import proofs.«01_k».proof.Proof.AttRead

@[expose] public section

set_option maxRecDepth 16384
set_option pp.maxSteps 200

noncomputable section

/-! The forward kernel's body at one block of queries: the running maximum, sum and weighted values are stepped over the blocks
of keys before the diagonal one, then over the diagonal block. -/

namespace Cert.Att

open Idealize.ShloMosaic Idealize.ShloMosaic.TcCoe Idealize.SL.Sem
open Cert.AttIdeal Cert.AttIdeal.Gen

/-- One row's running maximum, running sum and running weighted values, for the 1024 rows of a block. -/
abbrev Carry : Type := Vec Ideal S1024x1 .f32 × Vec Ideal S1024x1 .f32 × Vec Ideal S1024x128 .f32

/-- The carry after one more whole block of keys. -/
def fwdStep (q : Vec Ideal S1024x256 .bf16) (k : Vec Ideal S1024x256 .bf16) (v : Vec Ideal S1024x128 .bf16) (s : Carry) : Carry :=
  (k0_pay21 (k0_pay6 (k0_pay17 q) k s.1), k0_pay9 (k0_pay17 q) k s.1 s.2.1, k0_pay10 (k0_pay17 q) k s.1 s.2.2 v)

/-- The carry after the blocks of keys before block `n`. -/
def fwdState (q : Vec Ideal S1024x256 .bf16) (x1 : Vec Ideal S16384x256 .bf16) (x2 : Vec Ideal S16384x128 .bf16) : ℕ → Carry
  | 0 => (k0_pay18 (F := Ideal), k0_pay19 (F := Ideal), k0_pay20 (F := Ideal))
  | n + 1 => fwdStep q (keys x1 n) (vals x2 n) (fwdState q x1 x2 n)

section
variable (𝒱 : Variants) (c : Dev nD) (bd : Option 𝒱.V) (i : grid0.Coords)
  (a2 : Memref sig .tc .vmem S1024x256 .bf16) (h2 : a2.IsWhole) (a3 : Memref sig .tc .vmem S16384x256 .bf16) (h3 : a3.IsWhole)
  (a4 : Memref sig .tc .vmem S16384x128 .bf16) (h4 : a4.IsWhole) (a5 : Memref sig .tc .vmem S1024x128 .bf16) (h5 : a5.IsWhole)
  (a6 : Memref sig .tc .vmem S1x1024x1 .f32) (h6 : a6.IsWhole) (a7 : Memref sig .tc .vmem S1x1x1x1024 .f32) (h7 : a7.IsWhole)
  (a8 : Memref sig .tc .vmem S1024x1 .f32) (h8 : a8.IsWhole) (a9 : Memref sig .tc .vmem S1024x1 .f32) (h9 : a9.IsWhole)
  (a10 : Memref sig .tc .vmem S1024x128 .f32) (h10 : a10.IsWhole)
  (q : Vec Ideal S1024x256 .bf16) (x1 : Vec Ideal S16384x256 .bf16) (x2 : Vec Ideal S16384x128 .bf16)
  (f8 : BufTy.Contents (Elt Ideal) a8.view.ty) (f9 : BufTy.Contents (Elt Ideal) a9.view.ty)
  (f10 : BufTy.Contents (Elt Ideal) a10.view.ty)

/-- The running maximum after a trip. -/
theorem trip0_max (k : Fin (k0_t1_loop i).trips) :
    a8.view.read (Elt Ideal) (a8.view.writes (Elt Ideal) f8
        (tripL_k0_t1 𝒱 c bd i a2 h2 a3 h3 a4 h4 a5 h5 a6 h6 a7 h7 a8 h8 a9 h9 a10 h10 q (h3.unread x1) (h4.unread x2) k f8 f9 f10).1)
      = k0_pay21 (k0_pay6 (k0_pay17 q) (keys x1 k.val) (a8.view.read (Elt Ideal) f8)) := by
  rw [← ld_keys x1 k.val (k0_off1_eq i k) (k0_off1_inb i k)]
  unfold tripL_k0_t1 trip_k0_t1
  dsimp only; sl_unfold_words
  refine (read_over (S := S1024x1) _ _ hz _ _ []).trans ?_
  simp only [View.readAt_eq_ld, View.ld_unit_zero (S := S1024x1) hz, h3.read_unread]
  rfl

/-- The running sum after a trip. -/
theorem trip0_sum (k : Fin (k0_t1_loop i).trips) :
    a9.view.read (Elt Ideal) (a9.view.writes (Elt Ideal) f9
        (tripL_k0_t1 𝒱 c bd i a2 h2 a3 h3 a4 h4 a5 h5 a6 h6 a7 h7 a8 h8 a9 h9 a10 h10 q (h3.unread x1) (h4.unread x2) k f8 f9 f10).2.1)
      = k0_pay9 (k0_pay17 q) (keys x1 k.val) (a8.view.read (Elt Ideal) f8) (a9.view.read (Elt Ideal) f9) := by
  rw [← ld_keys x1 k.val (k0_off1_eq i k) (k0_off1_inb i k)]
  unfold tripL_k0_t1 trip_k0_t1
  dsimp only; sl_unfold_words
  refine (read_over (S := S1024x1) _ _ hz _ _ []).trans ?_
  simp only [View.readAt_eq_ld, View.ld_unit_zero (S := S1024x1) hz, h3.read_unread]
  rfl

/-- The running weighted values after a trip. -/
theorem trip0_acc (k : Fin (k0_t1_loop i).trips) :
    a10.view.read (Elt Ideal) (a10.view.writes (Elt Ideal) f10
        (tripL_k0_t1 𝒱 c bd i a2 h2 a3 h3 a4 h4 a5 h5 a6 h6 a7 h7 a8 h8 a9 h9 a10 h10 q (h3.unread x1) (h4.unread x2) k f8 f9 f10).2.2)
      = k0_pay10 (k0_pay17 q) (keys x1 k.val) (a8.view.read (Elt Ideal) f8) (a10.view.read (Elt Ideal) f10) (vals x2 k.val) := by
  rw [← ld_keys x1 k.val (k0_off1_eq i k) (k0_off1_inb i k), ← ld_vals x2 k.val (k0_off2_eq i k) (k0_off2_inb i k)]
  unfold tripL_k0_t1 trip_k0_t1
  dsimp only; sl_unfold_words
  refine (read_over (S := S1024x128) _ _ hz _ _ []).trans ?_
  simp only [View.readAt_eq_ld, View.ld_unit_zero (S := S1024x1) hz, View.ld_unit_zero (S := S1024x128) hz, h3.read_unread, h4.read_unread]
  rfl

/-- What the three memories hold after the trips before trip `n`. -/
theorem loop0 (g8 : BufTy.Contents (Elt Ideal) a8.view.ty) (g9 : BufTy.Contents (Elt Ideal) a9.view.ty)
    (g10 : BufTy.Contents (Elt Ideal) a10.view.ty) (e8 : a8.view.read (Elt Ideal) g8 = k0_pay18 (F := Ideal))
    (e9 : a9.view.read (Elt Ideal) g9 = k0_pay19 (F := Ideal)) (e10 : a10.view.read (Elt Ideal) g10 = k0_pay20 (F := Ideal)) :
    ∀ n, n ≤ (k0_t1_loop i).trips →
      a8.view.read (Elt Ideal) (a8.view.writes (Elt Ideal) g8 (pb_k0_t1 𝒱 c bd i a2 h2 a3 h3 a4 h4 a5 h5 a6 h6 a7 h7 a8 h8 a9 h9 a10 h10 q (h3.unread x1) (h4.unread x2) g8 g9 g10 n).1)
          = (fwdState q x1 x2 n).1
        ∧ a9.view.read (Elt Ideal) (a9.view.writes (Elt Ideal) g9 (pb_k0_t1 𝒱 c bd i a2 h2 a3 h3 a4 h4 a5 h5 a6 h6 a7 h7 a8 h8 a9 h9 a10 h10 q (h3.unread x1) (h4.unread x2) g8 g9 g10 n).2.1)
          = (fwdState q x1 x2 n).2.1
        ∧ a10.view.read (Elt Ideal) (a10.view.writes (Elt Ideal) g10 (pb_k0_t1 𝒱 c bd i a2 h2 a3 h3 a4 h4 a5 h5 a6 h6 a7 h7 a8 h8 a9 h9 a10 h10 q (h3.unread x1) (h4.unread x2) g8 g9 g10 n).2.2)
          = (fwdState q x1 x2 n).2.2
  | 0, _ => ⟨e8, e9, e10⟩
  | n + 1, h => by
    obtain ⟨i1, i2, i3⟩ := loop0 g8 g9 g10 e8 e9 e10 n (by omega)
    have s := pb_k0_t1_succ 𝒱 c bd i a2 h2 a3 h3 a4 h4 a5 h5 a6 h6 a7 h7 a8 h8 a9 h9 a10 h10 q (h3.unread x1) (h4.unread x2) g8 g9 g10 ⟨n, h⟩
    rw [s]
    dsimp only
    rw [View.writes_append, View.writes_append, View.writes_append]
    refine ⟨(trip0_max 𝒱 c bd i a2 h2 a3 h3 a4 h4 a5 h5 a6 h6 a7 h7 a8 h8 a9 h9 a10 h10 q x1 x2 _ _ _ _).trans ?_, (trip0_sum 𝒱 c bd i a2 h2 a3 h3 a4 h4 a5 h5 a6 h6 a7 h7 a8 h8 a9 h9 a10 h10 q x1 x2 _ _ _ _).trans ?_,
      (trip0_acc 𝒱 c bd i a2 h2 a3 h3 a4 h4 a5 h5 a6 h6 a7 h7 a8 h8 a9 h9 a10 h10 q x1 x2 _ _ _ _).trans ?_⟩
    · rw [i1]; rfl
    · rw [i1, i2]; rfl
    · rw [i1, i3]; rfl

end

end Cert.Att
end
end
-- ==== Proof.AttFwdOut.lean ====
module

public import proofs.«01_k».proof.Proof.AttFwdLoop

@[expose] public section

set_option maxRecDepth 16384
set_option pp.maxSteps 300

noncomputable section

/-! What the forward kernel's body leaves in its three outputs, from the block of queries and the whole keys and values. -/

namespace Cert.Att

open Idealize.ShloMosaic Idealize.ShloMosaic.TcCoe Idealize.SL.Sem
open Cert.AttIdeal Cert.AttIdeal.Gen

/-- The carry after the diagonal block, whose mask lets a row see the chunks up to its own. -/
def fwdDiag (q : Vec Ideal S1024x256 .bf16) (k : Vec Ideal S1024x256 .bf16) (v : Vec Ideal S1024x128 .bf16) (s : Carry) : Carry :=
  (k0_pay31 (k0_pay23 q k) k0_pay24 s.1, k0_pay29 (k0_pay23 q k) k0_pay24 s.1 s.2.1,
    k0_pay30 (k0_pay23 q k) k0_pay24 s.1 s.2.2 v)

/-- The carry when the body has seen every block of keys up to the diagonal one. -/
def fwdEnd (q : Vec Ideal S1024x256 .bf16) (x1 : Vec Ideal S16384x256 .bf16) (x2 : Vec Ideal S16384x128 .bf16) (n : ℕ) : Carry :=
  fwdDiag q (keys x1 n) (vals x2 n) (fwdState q x1 x2 n)

section
variable (c : Dev nD) (i : grid0.Coords)
  (a2 : Memref sig .tc .vmem S1024x256 .bf16) (h2 : a2.IsWhole) (a3 : Memref sig .tc .vmem S16384x256 .bf16) (h3 : a3.IsWhole)
  (a4 : Memref sig .tc .vmem S16384x128 .bf16) (h4 : a4.IsWhole) (a5 : Memref sig .tc .vmem S1024x128 .bf16) (h5 : a5.IsWhole)
  (a6 : Memref sig .tc .vmem S1x1024x1 .f32) (h6 : a6.IsWhole) (a7 : Memref sig .tc .vmem S1x1x1x1024 .f32) (h7 : a7.IsWhole)
  (a8 : Memref sig .tc .vmem S1024x1 .f32) (h8 : a8.IsWhole) (a9 : Memref sig .tc .vmem S1024x1 .f32) (h9 : a9.IsWhole)
  (a10 : Memref sig .tc .vmem S1024x128 .f32) (h10 : a10.IsWhole)
  (x0 : Vec Ideal S1024x256 .bf16) (x1 : Vec Ideal S16384x256 .bf16) (x2 : Vec Ideal S16384x128 .bf16)

theorem load_q (x0 : Vec Ideal S1024x256 .bf16) : View.readAt (Elt Ideal) a2.view
    (Rect.unit ![0, 0] S1024x256.size inb_S1024x256_S1024x256_0_0).toLoadRect (h2.unread x0) = x0 := by
  rw [View.readAt_eq_ld, View.ld_unit_zero (S := S1024x256) hz, h2.read_unread]

/-- The diagonal step finds the running maximum of the blocks before it. -/
theorem fwd_max : kernelRun0_A.sl.v34 c i a2 h2 a3 h3 a4 h4 a5 h5 a6 h6 a7 h7 a8 h8 a9 h9 a10 h10 x0 x1 x2 = (fwdState x0 x1 x2 (i 1).val).1 := by
  unfold kernelRun0_A.sl.v34
  have e : Scf.trips (k0_t2_loop i).lb (k0_t2_loop i).ub (k0_t2_loop i).st = 0 := trips0_2 i
  rw [e]
  refine (readCov_append (S := S1024x1) a8.view a8.view.junk hz inb_S1024x1_S1024x1_0_0 _ ⟨_, _, rfl⟩).trans ?_
  have e1 : Scf.trips (k0_t1_loop i).lb (k0_t1_loop i).ub (k0_t1_loop i).st = (i 1).val := trips0_1 i
  rw [e1, load_q]
  exact (loop0 Variants.none c none i a2 h2 a3 h3 a4 h4 a5 h5 a6 h6 a7 h7 a8 h8 a9 h9 a10 h10 x0 x1 x2 _ _ _ (read_over (S := S1024x1) _ _ hz _ _ [])
    (read_over (S := S1024x1) _ _ hz _ _ []) (read_over (S := S1024x128) _ _ hz _ _ []) _ (trips0_1 i).ge).1

/-- It finds their running sum. -/
theorem fwd_sum : kernelRun0_A.sl.v43 c i a2 h2 a3 h3 a4 h4 a5 h5 a6 h6 a7 h7 a8 h8 a9 h9 a10 h10 x0 x1 x2 = (fwdState x0 x1 x2 (i 1).val).2.1 := by
  unfold kernelRun0_A.sl.v43
  have e : Scf.trips (k0_t2_loop i).lb (k0_t2_loop i).ub (k0_t2_loop i).st = 0 := trips0_2 i
  rw [e]
  refine (readCov_append (S := S1024x1) a9.view a9.view.junk hz inb_S1024x1_S1024x1_0_0 _ ⟨_, _, rfl⟩).trans ?_
  have e1 : Scf.trips (k0_t1_loop i).lb (k0_t1_loop i).ub (k0_t1_loop i).st = (i 1).val := trips0_1 i
  rw [e1, load_q]
  exact (loop0 Variants.none c none i a2 h2 a3 h3 a4 h4 a5 h5 a6 h6 a7 h7 a8 h8 a9 h9 a10 h10 x0 x1 x2 _ _ _ (read_over (S := S1024x1) _ _ hz _ _ [])
    (read_over (S := S1024x1) _ _ hz _ _ []) (read_over (S := S1024x128) _ _ hz _ _ []) _ (trips0_1 i).ge).2.1

/-- It finds their running weighted values. -/
theorem fwd_acc : kernelRun0_A.sl.v51 c i a2 h2 a3 h3 a4 h4 a5 h5 a6 h6 a7 h7 a8 h8 a9 h9 a10 h10 x0 x1 x2 = (fwdState x0 x1 x2 (i 1).val).2.2 := by
  unfold kernelRun0_A.sl.v51
  have e : Scf.trips (k0_t2_loop i).lb (k0_t2_loop i).ub (k0_t2_loop i).st = 0 := trips0_2 i
  rw [e]
  refine (readCov_append (S := S1024x128) a10.view a10.view.junk hz inb_S1024x128_S1024x128_0_0 _ ⟨_, _, rfl⟩).trans ?_
  have e1 : Scf.trips (k0_t1_loop i).lb (k0_t1_loop i).ub (k0_t1_loop i).st = (i 1).val := trips0_1 i
  rw [e1, load_q]
  exact (loop0 Variants.none c none i a2 h2 a3 h3 a4 h4 a5 h5 a6 h6 a7 h7 a8 h8 a9 h9 a10 h10 x0 x1 x2 _ _ _ (read_over (S := S1024x1) _ _ hz _ _ [])
    (read_over (S := S1024x1) _ _ hz _ _ []) (read_over (S := S1024x128) _ _ hz _ _ []) _ (trips0_1 i).ge).2.2

theorem scores_diag : kernelRun0_A.sl.r c i a2 h2 a3 h3 x0 x1 = k0_pay23 x0 (keys x1 (i 1).val) := by
  unfold kernelRun0_A.sl.r
  rw [load_q, View.readAt_eq_ld, h3.read_unread, ld_keys x1 (i 1).val (k0_off5_eq i)]

/-- The running weighted values after the diagonal block. -/
theorem end_acc : kernelRun0_A.sl.v c i a2 h2 a3 h3 a4 h4 a5 h5 a6 h6 a7 h7 a8 h8 a9 h9 a10 h10 x0 x1 x2 = (fwdEnd x0 x1 x2 (i 1).val).2.2 := by
  unfold kernelRun0_A.sl.v kernelRun0_A.sl.HS2_1_1
  refine (readCov_over (S := S1024x128) _ hz _ _ _).trans ?_
  rw [scores_diag, fwd_max, fwd_acc, View.readAt_eq_ld, h4.read_unread, ld_vals x2 (i 1).val (k0_off6_eq i)]
  rfl

/-- The running sum after the diagonal block. -/
theorem end_sum : kernelRun0_A.sl.v69 c i a2 h2 a3 h3 a4 h4 a5 h5 a6 h6 a7 h7 a8 h8 a9 h9 a10 h10 x0 x1 x2 = (fwdEnd x0 x1 x2 (i 1).val).2.1 := by
  unfold kernelRun0_A.sl.v69 kernelRun0_A.sl.HS1_1_1
  refine (readCov_over (S := S1024x1) _ hz _ _ _).trans ?_
  rw [scores_diag, fwd_max, fwd_sum]
  rfl

/-- The output block. -/
theorem out_o : out0_A_3 c i a2 h2 a3 h3 a4 h4 a5 h5 a6 h6 a7 h7 a8 h8 a9 h9 a10 h10 x0 x1 x2 = k0_pay1 (fwdEnd x0 x1 x2 (i 1).val).2.2 (fwdEnd x0 x1 x2 (i 1).val).2.1 := by
  unfold out0_A_3 kernelRun0_A
  dsimp only
  refine (read_over (S := S1024x128) _ _ hz _ _ []).trans ?_
  rw [end_acc, end_sum]

/-- The running maximum after the diagonal block. -/
theorem end_max : kernelRun0_A.sl.v74 c i a2 h2 a3 h3 a4 h4 a5 h5 a6 h6 a7 h7 a8 h8 a9 h9 a10 h10 x0 x1 x2 = (fwdEnd x0 x1 x2 (i 1).val).1 := by
  unfold kernelRun0_A.sl.v74 kernelRun0_A.sl.HS0_1_1
  refine (readCov_over (S := S1024x1) _ hz _ _ _).trans ?_
  rw [scores_diag, fwd_max]
  rfl

/-- The block of the rows' logarithms, as a column. -/
theorem out_lse : out0_A_4 c i a2 h2 a3 h3 a4 h4 a5 h5 a6 h6 a7 h7 a8 h8 a9 h9 a10 h10 x0 x1 x2 = k0_pay3 (fwdEnd x0 x1 x2 (i 1).val).1 (fwdEnd x0 x1 x2 (i 1).val).2.1 := by
  unfold out0_A_4 kernelRun0_A
  dsimp only
  refine (read_over (S := S1x1024x1) _ _ hz3 _ _ []).trans ?_
  rw [end_max, end_sum]

/-- The block of the rows' logarithms, as a row. -/
theorem out_lse_row : out0_A_5 c i a2 h2 a3 h3 a4 h4 a5 h5 a6 h6 a7 h7 a8 h8 a9 h9 a10 h10 x0 x1 x2 = k0_pay4 (fwdEnd x0 x1 x2 (i 1).val).1 (fwdEnd x0 x1 x2 (i 1).val).2.1 := by
  unfold out0_A_5 kernelRun0_A
  dsimp only
  refine (read_over (S := S1x1x1x1024) _ _ hz4 _ _ []).trans ?_
  rw [end_max, end_sum]

end

end Cert.Att
end
end
-- ==== Proof.AttDqOut.lean ====
module

public import proofs.«01_k».proof.Proof.Gen.AttIdeal.Frame
public import proofs.«01_k».proof.Proof.AttRead

@[expose] public section

set_option maxRecDepth 16384
set_option pp.maxSteps 400

noncomputable section

/-! The body of the kernel of the queries' gradient at one block of queries: the products of the scores' gradients with the keys are
summed over the blocks of keys before the diagonal one, then over the diagonal block. -/

namespace Cert.Att

open Idealize.ShloMosaic Idealize.ShloMosaic.TcCoe Idealize.SL.Sem
open Cert.AttIdeal Cert.AttIdeal.Gen

/-- The sum over the blocks of keys before block `n`. -/
def dqState (q : FVec Ideal S1024x256 .bf16) (d : FVec Ideal S1024x128 .bf16) (l e : FVec Ideal S1024x1 .f32)
    (x1 : Vec Ideal S16384x256 .bf16) (x2 : Vec Ideal S16384x128 .bf16) : ℕ → Vec Ideal S1024x256 .f32
  | 0 => k1_pay6 (F := Ideal)
  | n + 1 => k1_pay7 q d l e (keys x1 n) (vals x2 n) (dqState q d l e x1 x2 n)

section
variable (c : Dev nD) (i : grid1.Coords)
  (a2 : Memref sig .tc .vmem S1024x256 .bf16) (h2 : a2.IsWhole) (a3 : Memref sig .tc .vmem S16384x256 .bf16) (h3 : a3.IsWhole)
  (a4 : Memref sig .tc .vmem S16384x128 .bf16) (h4 : a4.IsWhole) (a5 : Memref sig .tc .vmem S1024x128 .bf16) (h5 : a5.IsWhole)
  (a6 : Memref sig .tc .vmem S1x1024x1 .f32) (h6 : a6.IsWhole) (a7 : Memref sig .tc .vmem S1024x128 .bf16) (h7 : a7.IsWhole)
  (a8 : Memref sig .tc .vmem S1024x256 .bf16) (h8 : a8.IsWhole) (a9 : Memref sig .tc .vmem S1x1x1x1024 .f32) (h9 : a9.IsWhole)
  (a10 : Memref sig .tc .vmem S1024x256 .f32) (h10 : a10.IsWhole)
  (x0 : Vec Ideal S1024x256 .bf16) (x1 : Vec Ideal S16384x256 .bf16) (x2 : Vec Ideal S16384x128 .bf16)
  (x3 : Vec Ideal S1024x128 .bf16) (x4 : Vec Ideal S1x1024x1 .f32) (x5 : Vec Ideal S1024x128 .bf16)

theorem load1_q : kernelRun1_A.sl.r c a2 h2 x0 = k1_pay1 x0 := by
  unfold kernelRun1_A.sl.r
  rw [View.readAt_eq_ld, View.ld_unit_zero (S := S1024x256) hz, h2.read_unread]

theorem load1_d : kernelRun1_A.sl.r_1 c a5 h5 x3 = k1_pay2 x3 := by
  unfold kernelRun1_A.sl.r_1
  rw [View.readAt_eq_ld, View.ld_unit_zero (S := S1024x128) hz, h5.read_unread]

theorem load1_l : kernelRun1_A.sl.r_2 c a6 h6 x4 = k1_pay3 x4 := by
  unfold kernelRun1_A.sl.r_2
  rw [View.readAt_eq_ld, View.ld_unit_zero (S := S1x1024x1) hz3, h6.read_unread]

theorem load1_e : kernelRun1_A.sl.r_3 c a5 h5 a7 h7 x3 x5 = k1_pay4 x3 x5 := by
  unfold kernelRun1_A.sl.r_3
  rw [View.readAt_eq_ld, View.readAt_eq_ld, View.ld_unit_zero (S := S1024x128) hz, View.ld_unit_zero (S := S1024x128) hz,
    h5.read_unread, h7.read_unread]

section
variable (𝒱 : Variants) (bd : Option 𝒱.V) (w w' w'' : BitVec 32) (q : FVec Ideal S1024x256 .bf16)
  (d : FVec Ideal S1024x128 .bf16) (l e : FVec Ideal S1024x1 .f32)

/-- The sum after a trip. -/
theorem trip1 (f10 : BufTy.Contents (Elt Ideal) a10.view.ty) (k : Fin (k1_t1_loop i).trips) :
    a10.view.read (Elt Ideal) (a10.view.writes (Elt Ideal) f10
        (tripL_k1_t1 𝒱 c bd i a2 h2 a3 h3 a4 h4 a5 h5 a6 h6 a7 h7 a8 h8 a9 h9 a10 h10 w q d l e w' w'' (h3.unread x1) (h4.unread x2) k f10))
      = k1_pay7 q d l e (keys x1 k.val) (vals x2 k.val) (a10.view.read (Elt Ideal) f10) := by
  rw [← ld_keys x1 k.val (k1_off1_eq i k) (k1_off1_inb i k), ← ld_vals x2 k.val (k1_off2_eq i k) (k1_off2_inb i k)]
  unfold tripL_k1_t1 trip_k1_t1
  dsimp only; sl_unfold_words
  refine (read_over (S := S1024x256) _ _ hz _ _ []).trans ?_
  simp only [View.readAt_eq_ld, View.ld_unit_zero (S := S1024x256) hz, h3.read_unread, h4.read_unread]

/-- What the memory of the sum holds after the trips before trip `n`. -/
theorem loop1 (g : BufTy.Contents (Elt Ideal) a10.view.ty) (eg : a10.view.read (Elt Ideal) g = k1_pay6 (F := Ideal)) :
    ∀ n, n ≤ (k1_t1_loop i).trips →
      a10.view.read (Elt Ideal) (a10.view.writes (Elt Ideal) g
          (pb_k1_t1 𝒱 c bd i a2 h2 a3 h3 a4 h4 a5 h5 a6 h6 a7 h7 a8 h8 a9 h9 a10 h10 w q d l e w' w'' (h3.unread x1) (h4.unread x2) g n)) = dqState q d l e x1 x2 n
  | 0, _ => eg
  | n + 1, h => by
    have i1 := loop1 g eg n (by omega)
    have s := pb_k1_t1_succ 𝒱 c bd i a2 h2 a3 h3 a4 h4 a5 h5 a6 h6 a7 h7 a8 h8 a9 h9 a10 h10 w q d l e w' w'' (h3.unread x1) (h4.unread x2) g ⟨n, h⟩
    rw [s, View.writes_append]
    refine (trip1 c i a2 h2 a3 h3 a4 h4 a5 h5 a6 h6 a7 h7 a8 h8 a9 h9 a10 h10 x1 x2 𝒱 bd w w' w'' q d l e _ _).trans ?_
    rw [i1]; rfl

end

/-- The diagonal step finds the sum over the blocks before it. -/
theorem dq_acc : kernelRun1_A.sl.v61 c i a2 h2 a3 h3 a4 h4 a5 h5 a6 h6 a7 h7 a8 h8 a9 h9 a10 h10 x0 x1 x2 x3 x4 x5
    = dqState (k1_pay1 x0) (k1_pay2 x3) (k1_pay3 x4) (k1_pay4 x3 x5) x1 x2 (i 1).val := by
  unfold kernelRun1_A.sl.v61
  have e : Scf.trips (k1_t2_loop i).lb (k1_t2_loop i).ub (k1_t2_loop i).st = 0 := trips1_2 i
  rw [e]
  refine (readCov_append (S := S1024x256) a10.view a10.view.junk hz inb_S1024x256_S1024x256_0_0 _ ⟨_, _, rfl⟩).trans ?_
  have e1 : Scf.trips (k1_t1_loop i).lb (k1_t1_loop i).ub (k1_t1_loop i).st = (i 1).val := trips1_1 i
  rw [e1, load1_q, load1_d, load1_l, load1_e]
  exact loop1 c i a2 h2 a3 h3 a4 h4 a5 h5 a6 h6 a7 h7 a8 h8 a9 h9 a10 h10 x1 x2 Variants.none none _ _ _ _ _ _ _ _ (read_over (S := S1024x256) _ _ hz _ _ []) _ (trips1_1 i).ge

/-- The block of the queries' gradient. -/
theorem out_dq : out1_A_6 c i a2 h2 a3 h3 a4 h4 a5 h5 a6 h6 a7 h7 a8 h8 a9 h9 a10 h10 x0 x1 x2 x3 x4 x5
    = k1_pay10 (k1_pay9 (k1_pay1 x0) (k1_pay2 x3) (k1_pay3 x4) (k1_pay4 x3 x5) (keys x1 (i 1).val) (vals x2 (i 1).val)
        (dqState (k1_pay1 x0) (k1_pay2 x3) (k1_pay3 x4) (k1_pay4 x3 x5) x1 x2 (i 1).val)) := by
  unfold out1_A_6 kernelRun1_A
  dsimp only
  refine (read_over (S := S1024x256) _ _ hz _ _ []).trans ?_
  unfold kernelRun1_A.sl.r_4
  unfold kernelRun1_A.sl.v68 kernelRun1_A.sl.HS0_1_1
  refine (congrArg (k1_pay10) (readCov_over (S := S1024x256) _ hz _ _ _)).trans ?_
  rw [load1_q, load1_d, load1_l, load1_e, dq_acc, View.readAt_eq_ld, View.readAt_eq_ld, h3.read_unread, h4.read_unread,
    ld_keys x1 (i 1).val (k1_off5_eq i), ld_vals x2 (i 1).val (k1_off6_eq i)]

/-- The block of the rows' sums of products of output and cotangent, as a row. -/
theorem out_delta_row : out1_A_7 c i a2 h2 a3 h3 a4 h4 a5 h5 a6 h6 a7 h7 a8 h8 a9 h9 a10 h10 x0 x1 x2 x3 x4 x5 = k1_pay5 x3 x5 := by
  unfold out1_A_7 kernelRun1_A
  dsimp only
  refine (read_over (S := S1x1x1x1024) _ _ hz4 _ _ []).trans ?_
  rw [View.readAt_eq_ld, View.readAt_eq_ld, View.ld_unit_zero (S := S1024x128) hz, View.ld_unit_zero (S := S1024x128) hz,
    h5.read_unread, h7.read_unread]

end

end Cert.Att
end
end
-- ==== Proof.AttDkvOut.lean ====
module

public import proofs.«01_k».proof.Proof.Gen.AttIdeal.Frame
public import proofs.«01_k».proof.Proof.AttRead

@[expose] public section

set_option maxRecDepth 16384
set_option pp.maxSteps 400

noncomputable section

/-! The body of the kernel of the queries' gradient at one block of queries: the products of the scores' gradients with the keys are
summed over the blocks of keys before the diagonal one, then over the diagonal block. -/

namespace Cert.Att

open Idealize.ShloMosaic Idealize.ShloMosaic.TcCoe Idealize.SL.Sem
open Cert.AttIdeal Cert.AttIdeal.Gen

/-- Row `b` of sixteen rows of 1024 numbers. -/
def rowBlk (x : Vec Ideal S1x16x1x1024 .f32) (b : ℕ) : Vec Ideal S1x1x1x1024 .f32 :=
  fun j => x (ix4 0 ⟨b % 16, Nat.mod_lt _ (by decide)⟩ 0 (j 3))

theorem ld_rowBlk (x : Vec Ideal S1x16x1x1024 .f32) (b : ℕ) {off : Fin 4 → ℕ} (e : off = ![0, b, 0, 0])
    (inb : ∀ a, off a + S1x1x1x1024.size a ≤ S1x16x1x1024.size a) :
    View.ld x (Rect.unit off S1x1x1x1024.size inb) = rowBlk x b := by
  subst e
  funext j
  have i0 := inb 1
  have h : b + 1 ≤ 16 := i0
  have h0 : (j 0).val < 1 := (j 0).isLt
  have h1 : (j 1).val < 1 := (j 1).isLt
  have h2 : (j 2).val < 1 := (j 2).isLt
  show x _ = x _
  congr 1
  funext a
  match a with
  | ⟨0, _⟩ => exact Fin.ext (by show 0 + 1 * (j 0).val = 0; omega)
  | ⟨1, _⟩ => exact Fin.ext (by show b + 1 * (j 1).val = b % 16; rw [Nat.mod_eq_of_lt (by omega)]; omega)
  | ⟨2, _⟩ => exact Fin.ext (by show 0 + 1 * (j 2).val = 0; omega)
  | ⟨3, _⟩ => exact Fin.ext (by show 0 + 1 * (j 3).val = (j 3).val; omega)

theorem off_eq (a b : ℕ) : (![1024 * a + 1024 * b + 1024, 0] : Fin 2 → ℕ) = ![1024 * (a + b + 1), 0] := by
  rw [show 1024 * a + 1024 * b + 1024 = 1024 * (a + b + 1) by ring]

/-- The two running sums: for the keys, for the values. -/
abbrev Dkv := Vec Ideal S1024x256 .f32 × Vec Ideal S1024x128 .f32

/-- The two sums after the diagonal block of queries. -/
def dkvDiag (k : Vec Ideal S1024x256 .bf16) (v : Vec Ideal S1024x128 .bf16) (q : Vec Ideal S1024x256 .bf16)
    (d : Vec Ideal S1024x128 .bf16) (l e : Vec Ideal S1x1x1x1024 .f32) : Dkv :=
  (k2_pay23 (k2_pay14 v) (k2_pay17 q) (k2_pay18 d) (k2_pay19 k q) (k2_pay20 l) e (k2_pay15 (F := Ideal)),
   k2_pay22 (k2_pay18 d) (k2_pay19 k q) (k2_pay20 l) (k2_pay16 (F := Ideal)))

/-- One step over a block of queries past the diagonal. -/
def dkvStep (k : FVec Ideal S1024x256 .bf16) (v : FVec Ideal S1024x128 .bf16) (q : Vec Ideal S1024x256 .bf16)
    (d : Vec Ideal S1024x128 .bf16) (l e : Vec Ideal S1x1x1x1024 .f32) (s : Dkv) : Dkv :=
  (k2_pay24 (k2_pay7 k v q d l e s.1), k2_pay6 k q d l s.2)

/-- The two sums after `n` blocks past block `b0`. -/
def dkvState (k : FVec Ideal S1024x256 .bf16) (v : FVec Ideal S1024x128 .bf16) (x2 : Vec Ideal S16384x256 .bf16)
    (x3 : Vec Ideal S16384x128 .bf16) (x4 x5 : Vec Ideal S1x16x1x1024 .f32) (b0 : ℕ) (b : Dkv) : ℕ → Dkv
  | 0 => b
  | n + 1 => dkvStep k v (keys x2 (b0 + n + 1)) (vals x3 (b0 + n + 1)) (rowBlk x4 (b0 + n + 1)) (rowBlk x5 (b0 + n + 1))
      (dkvState k v x2 x3 x4 x5 b0 b n)

section
variable (c : Dev nD) (i : grid2.Coords)
  (a2 : Memref sig .tc .vmem S1024x256 .bf16) (h2 : a2.IsWhole) (a3 : Memref sig .tc .vmem S1024x128 .bf16) (h3 : a3.IsWhole)
  (a4 : Memref sig .tc .vmem S16384x256 .bf16) (h4 : a4.IsWhole) (a5 : Memref sig .tc .vmem S16384x128 .bf16) (h5 : a5.IsWhole)
  (a6 : Memref sig .tc .vmem S1x16x1x1024 .f32) (h6 : a6.IsWhole) (a7 : Memref sig .tc .vmem S1x16x1x1024 .f32) (h7 : a7.IsWhole)
  (a8 : Memref sig .tc .vmem S1024x256 .bf16) (h8 : a8.IsWhole) (a9 : Memref sig .tc .vmem S1024x128 .bf16) (h9 : a9.IsWhole)
  (a10 : Memref sig .tc .vmem S1024x256 .f32) (h10 : a10.IsWhole) (a11 : Memref sig .tc .vmem S1024x128 .f32) (h11 : a11.IsWhole)
  (x0 : Vec Ideal S1024x256 .bf16) (x1 : Vec Ideal S1024x128 .bf16) (x2 : Vec Ideal S16384x256 .bf16)
  (x3 : Vec Ideal S16384x128 .bf16) (x4 : Vec Ideal S1x16x1x1024 .f32) (x5 : Vec Ideal S1x16x1x1024 .f32)

theorem load2_k : kernelRun2_A.sl.r c a2 h2 x0 = k2_pay13 x0 := by
  unfold kernelRun2_A.sl.r
  rw [View.readAt_eq_ld, View.ld_unit_zero (S := S1024x256) hz, h2.read_unread]

theorem load2_v : kernelRun2_A.sl.r_1 c a3 h3 x1 = k2_pay14 x1 := by
  unfold kernelRun2_A.sl.r_1
  rw [View.readAt_eq_ld, View.ld_unit_zero (S := S1024x128) hz, h3.read_unread]

theorem load2_q : kernelRun2_A.sl.r_2 c i a4 h4 x2 = k2_pay17 (keys x2 (i 1).val) := by
  unfold kernelRun2_A.sl.r_2
  rw [View.readAt_eq_ld, h4.read_unread, ld_keys x2 (i 1).val (k2_off1_eq i)]

theorem load2_d : kernelRun2_A.sl.r_3 c i a5 h5 x3 = k2_pay18 (vals x3 (i 1).val) := by
  unfold kernelRun2_A.sl.r_3
  rw [View.readAt_eq_ld, h5.read_unread, ld_vals x3 (i 1).val (k2_off2_eq i)]

theorem load2_s : kernelRun2_A.sl.r_4 c i a2 h2 a4 h4 x0 x2 = k2_pay19 x0 (keys x2 (i 1).val) := by
  unfold kernelRun2_A.sl.r_4
  rw [View.readAt_eq_ld, View.readAt_eq_ld, View.ld_unit_zero (S := S1024x256) hz, h2.read_unread, h4.read_unread,
    ld_keys x2 (i 1).val (k2_off1_eq i)]

theorem load2_l : kernelRun2_A.sl.r_5 c i a6 h6 x4 = k2_pay20 (rowBlk x4 (i 1).val) := by
  unfold kernelRun2_A.sl.r_5
  rw [View.readAt_eq_ld, h6.read_unread, ld_rowBlk x4 (i 1).val (k2_off3_eq i)]

/-- The sum for the keys after the diagonal block. -/
theorem diag2_k : a10.view.read (Elt Ideal) (a10.view.writes (Elt Ideal) a10.view.junk
      (kernelRun2_A.sl.HS0_2 c i a2 h2 a3 h3 a4 h4 a5 h5 a6 h6 a7 h7 a10 x0 x1 x2 x3 x4 x5))
    = (dkvDiag x0 x1 (keys x2 (i 1).val) (vals x3 (i 1).val) (rowBlk x4 (i 1).val) (rowBlk x5 (i 1).val)).1 := by
  unfold kernelRun2_A.sl.HS0_2
  refine (read_over (S := S1024x256) _ _ hz _ _ _).trans ?_
  rw [load2_v, load2_q, load2_d, load2_s, load2_l, View.readAt_eq_ld, h7.read_unread, ld_rowBlk x5 (i 1).val (k2_off3_eq i)]
  unfold kernelRun2_A.sl.v52 kernelRun2_A.sl.HS0_1
  exact congrArg (k2_pay23 _ _ _ _ _ _) (readCov_over (S := S1024x256) _ hz _ _ _)

theorem diag2_v : a11.view.read (Elt Ideal) (a11.view.writes (Elt Ideal) a11.view.junk
      (kernelRun2_A.sl.HS1_2 c i a2 h2 a4 h4 a5 h5 a6 h6 a11 x0 x2 x3 x4))
    = (dkvDiag x0 x1 (keys x2 (i 1).val) (vals x3 (i 1).val) (rowBlk x4 (i 1).val) (rowBlk x5 (i 1).val)).2 := by
  unfold kernelRun2_A.sl.HS1_2
  refine (read_over (S := S1024x128) _ _ hz _ _ _).trans ?_
  rw [load2_d, load2_s, load2_l]
  unfold kernelRun2_A.sl.v45 kernelRun2_A.sl.HS1_1
  exact congrArg (k2_pay22 _ _ _) (readCov_over (S := S1024x128) _ hz _ _ _)

section
variable (𝒱 : Variants) (bd : Option 𝒱.V) (w w' : BitVec 32) (k : FVec Ideal S1024x256 .bf16)
  (v : FVec Ideal S1024x128 .bf16) (v16 : FVec Ideal S1024x256 .bf16) (v21 : FVec Ideal S1024x128 .bf16)
  (v31 : FVec Ideal S1024x1024 .f32) (v34 : FVec Ideal S1x1024 .f32)

/-- The sum for the keys after a trip. -/
theorem trip2_k (f10 : BufTy.Contents (Elt Ideal) a10.view.ty) (f11 : BufTy.Contents (Elt Ideal) a11.view.ty) (n : Fin (k2_t1_loop i).trips) :
    a10.view.read (Elt Ideal) (a10.view.writes (Elt Ideal) f10
        (tripL_k2_t1 𝒱 c bd i a2 h2 a3 h3 a4 h4 a5 h5 a6 h6 a7 h7 a8 h8 a9 h9 a10 h10 a11 h11 w k v v16 v21 v31 v34 w' (h4.unread x2) (h5.unread x3) (h6.unread x4) (h7.unread x5) n f10 f11).1)
      = (dkvStep k v (keys x2 ((i 1).val + n.val + 1)) (vals x3 ((i 1).val + n.val + 1)) (rowBlk x4 ((i 1).val + n.val + 1))
          (rowBlk x5 ((i 1).val + n.val + 1)) (a10.view.read (Elt Ideal) f10, a11.view.read (Elt Ideal) f11)).1 := by
  rw [← ld_keys x2 _ ((k2_off4_eq i n).trans (off_eq _ _)) (k2_off4_inb i n), ← ld_vals x3 _ ((k2_off5_eq i n).trans (off_eq _ _)) (k2_off5_inb i n),
    ← ld_rowBlk x4 _ (k2_off6_eq i n) (k2_off6_inb i n), ← ld_rowBlk x5 _ (k2_off6_eq i n) (k2_off6_inb i n)]
  unfold tripL_k2_t1 trip_k2_t1
  dsimp only; sl_unfold_words
  refine (read_over (S := S1024x256) _ _ hz _ _ _).trans ?_
  simp only [View.readAt_eq_ld, View.ld_unit_zero (S := S1024x256) hz, h4.read_unread, h5.read_unread, h6.read_unread, h7.read_unread]
  rfl

/-- The sum for the values after a trip. -/
theorem trip2_v (f10 : BufTy.Contents (Elt Ideal) a10.view.ty) (f11 : BufTy.Contents (Elt Ideal) a11.view.ty) (n : Fin (k2_t1_loop i).trips) :
    a11.view.read (Elt Ideal) (a11.view.writes (Elt Ideal) f11
        (tripL_k2_t1 𝒱 c bd i a2 h2 a3 h3 a4 h4 a5 h5 a6 h6 a7 h7 a8 h8 a9 h9 a10 h10 a11 h11 w k v v16 v21 v31 v34 w' (h4.unread x2) (h5.unread x3) (h6.unread x4) (h7.unread x5) n f10 f11).2)
      = (dkvStep k v (keys x2 ((i 1).val + n.val + 1)) (vals x3 ((i 1).val + n.val + 1)) (rowBlk x4 ((i 1).val + n.val + 1))
          (rowBlk x5 ((i 1).val + n.val + 1)) (a10.view.read (Elt Ideal) f10, a11.view.read (Elt Ideal) f11)).2 := by
  rw [← ld_keys x2 _ ((k2_off4_eq i n).trans (off_eq _ _)) (k2_off4_inb i n), ← ld_vals x3 _ ((k2_off5_eq i n).trans (off_eq _ _)) (k2_off5_inb i n),
    ← ld_rowBlk x4 _ (k2_off6_eq i n) (k2_off6_inb i n), ← ld_rowBlk x5 _ (k2_off6_eq i n) (k2_off6_inb i n)]
  unfold tripL_k2_t1 trip_k2_t1
  dsimp only; sl_unfold_words
  refine (read_over (S := S1024x128) _ _ hz _ _ _).trans ?_
  simp only [View.readAt_eq_ld, View.ld_unit_zero (S := S1024x128) hz, h4.read_unread, h5.read_unread, h6.read_unread, h7.read_unread]
  rfl

/-- What the two memories hold after the trips before trip `n`. -/
theorem loop2 (g10 : BufTy.Contents (Elt Ideal) a10.view.ty) (g11 : BufTy.Contents (Elt Ideal) a11.view.ty) (b : Dkv)
    (e10 : a10.view.read (Elt Ideal) g10 = b.1) (e11 : a11.view.read (Elt Ideal) g11 = b.2) :
    ∀ n, n ≤ (k2_t1_loop i).trips →
      a10.view.read (Elt Ideal) (a10.view.writes (Elt Ideal) g10
          (pb_k2_t1 𝒱 c bd i a2 h2 a3 h3 a4 h4 a5 h5 a6 h6 a7 h7 a8 h8 a9 h9 a10 h10 a11 h11 w k v v16 v21 v31 v34 w' (h4.unread x2) (h5.unread x3) (h6.unread x4) (h7.unread x5) g10 g11 n).1)
          = (dkvState k v x2 x3 x4 x5 (i 1).val b n).1 ∧
      a11.view.read (Elt Ideal) (a11.view.writes (Elt Ideal) g11
          (pb_k2_t1 𝒱 c bd i a2 h2 a3 h3 a4 h4 a5 h5 a6 h6 a7 h7 a8 h8 a9 h9 a10 h10 a11 h11 w k v v16 v21 v31 v34 w' (h4.unread x2) (h5.unread x3) (h6.unread x4) (h7.unread x5) g10 g11 n).2)
          = (dkvState k v x2 x3 x4 x5 (i 1).val b n).2
  | 0, _ => ⟨e10, e11⟩
  | n + 1, h => by
    have i1 := loop2 g10 g11 b e10 e11 n (by omega)
    have s := pb_k2_t1_succ 𝒱 c bd i a2 h2 a3 h3 a4 h4 a5 h5 a6 h6 a7 h7 a8 h8 a9 h9 a10 h10 a11 h11 w k v v16 v21 v31 v34 w' (h4.unread x2) (h5.unread x3) (h6.unread x4) (h7.unread x5) g10 g11 ⟨n, h⟩
    rw [s]
    dsimp only
    rw [View.writes_append, View.writes_append]
    constructor
    · refine (trip2_k c i a2 h2 a3 h3 a4 h4 a5 h5 a6 h6 a7 h7 a8 h8 a9 h9 a10 h10 a11 h11 x2 x3 x4 x5 𝒱 bd w w' k v v16 v21 v31 v34 _ _ _).trans ?_
      rw [i1.1, i1.2]; rfl
    · refine (trip2_v c i a2 h2 a3 h3 a4 h4 a5 h5 a6 h6 a7 h7 a8 h8 a9 h9 a10 h10 a11 h11 x2 x3 x4 x5 𝒱 bd w w' k v v16 v21 v31 v34 _ _ _).trans ?_
      rw [i1.1, i1.2]; rfl

end

/-- The two sums after the diagonal block of queries and `n` blocks past it. -/
def dkvEnd (b n : ℕ) : Dkv :=
  dkvState (k2_pay13 x0) (k2_pay14 x1) x2 x3 x4 x5 b (dkvDiag x0 x1 (keys x2 b) (vals x3 b) (rowBlk x4 b) (rowBlk x5 b)) n

/-- The sum for the keys at the end. -/
theorem end2_k : kernelRun2_A.sl.v65 c i a2 h2 a3 h3 a4 h4 a5 h5 a6 h6 a7 h7 a8 h8 a9 h9 a10 h10 a11 h11 x0 x1 x2 x3 x4 x5 = (dkvEnd x0 x1 x2 x3 x4 x5 (i 1).val (15 - (i 1).val)).1 := by
  unfold kernelRun2_A.sl.v65
  have e : Scf.trips (k2_t2_loop i).lb (k2_t2_loop i).ub (k2_t2_loop i).st = 0 := trips2_2 i
  have e1 : Scf.trips (k2_t1_loop i).lb (k2_t1_loop i).ub (k2_t1_loop i).st = 15 - (i 1).val := trips2_1 i
  rw [e, e1]
  have hs : ∃ v T, kernelRun2_A.sl.HS0_2 c i a2 h2 a3 h3 a4 h4 a5 h5 a6 h6 a7 h7 a10 x0 x1 x2 x3 x4 x5
      = ⟨Rect.unit ![0, 0] S1024x256.size inb_S1024x256_S1024x256_0_0, v⟩ :: T := by
    unfold kernelRun2_A.sl.HS0_2; exact ⟨_, _, rfl⟩
  refine (readCov_append (S := S1024x256) a10.view a10.view.junk hz inb_S1024x256_S1024x256_0_0 _ hs).trans ?_
  rw [load2_k, load2_v, load2_q, load2_d, load2_s, load2_l]
  exact (loop2 c i a2 h2 a3 h3 a4 h4 a5 h5 a6 h6 a7 h7 a8 h8 a9 h9 a10 h10 a11 h11 x2 x3 x4 x5 Variants.none none _ _ _ _ _ _ _ _ _ _ _ (diag2_k c i a2 h2 a3 h3 a4 h4 a5 h5 a6 h6 a7 h7 a10 x0 x1 x2 x3 x4 x5) (diag2_v c i a2 h2 a4 h4 a5 h5 a6 h6 a11 x0 x1 x2 x3 x4 x5) _ (trips2_1 i).ge).1

/-- The sum for the values at the end. -/
theorem end2_v : kernelRun2_A.sl.v70 c i a2 h2 a3 h3 a4 h4 a5 h5 a6 h6 a7 h7 a8 h8 a9 h9 a10 h10 a11 h11 x0 x1 x2 x3 x4 x5 = (dkvEnd x0 x1 x2 x3 x4 x5 (i 1).val (15 - (i 1).val)).2 := by
  unfold kernelRun2_A.sl.v70
  have e : Scf.trips (k2_t2_loop i).lb (k2_t2_loop i).ub (k2_t2_loop i).st = 0 := trips2_2 i
  have e1 : Scf.trips (k2_t1_loop i).lb (k2_t1_loop i).ub (k2_t1_loop i).st = 15 - (i 1).val := trips2_1 i
  rw [e, e1]
  have hs : ∃ v T, kernelRun2_A.sl.HS1_2 c i a2 h2 a4 h4 a5 h5 a6 h6 a11 x0 x2 x3 x4
      = ⟨Rect.unit ![0, 0] S1024x128.size inb_S1024x128_S1024x128_0_0, v⟩ :: T := by
    unfold kernelRun2_A.sl.HS1_2; exact ⟨_, _, rfl⟩
  refine (readCov_append (S := S1024x128) a11.view a11.view.junk hz inb_S1024x128_S1024x128_0_0 _ hs).trans ?_
  rw [load2_k, load2_v, load2_q, load2_d, load2_s, load2_l]
  exact (loop2 c i a2 h2 a3 h3 a4 h4 a5 h5 a6 h6 a7 h7 a8 h8 a9 h9 a10 h10 a11 h11 x2 x3 x4 x5 Variants.none none _ _ _ _ _ _ _ _ _ _ _ (diag2_k c i a2 h2 a3 h3 a4 h4 a5 h5 a6 h6 a7 h7 a10 x0 x1 x2 x3 x4 x5) (diag2_v c i a2 h2 a4 h4 a5 h5 a6 h6 a11 x0 x1 x2 x3 x4 x5) _ (trips2_1 i).ge).2

/-- The block of the keys' gradient. -/
theorem out_dk : out2_A_6 c i a2 h2 a3 h3 a4 h4 a5 h5 a6 h6 a7 h7 a8 h8 a9 h9 a10 h10 a11 h11 x0 x1 x2 x3 x4 x5
    = k2_pay1 (k2_pay26 (dkvEnd x0 x1 x2 x3 x4 x5 (i 1).val (15 - (i 1).val)).1) := by
  unfold out2_A_6 kernelRun2_A
  dsimp only
  refine (read_over (S := S1024x256) _ _ hz _ _ []).trans ?_
  unfold kernelRun2_A.sl.r_6
  rw [end2_k]

/-- The block of the values' gradient. -/
theorem out_dv : out2_A_7 c i a2 h2 a3 h3 a4 h4 a5 h5 a6 h6 a7 h7 a8 h8 a9 h9 a10 h10 a11 h11 x0 x1 x2 x3 x4 x5
    = k2_pay2 (dkvEnd x0 x1 x2 x3 x4 x5 (i 1).val (15 - (i 1).val)).2 := by
  unfold out2_A_7 kernelRun2_A
  dsimp only
  refine (read_over (S := S1024x128) _ _ hz _ _ []).trans ?_
  rw [end2_v]

end

end Cert.Att
end
end
-- ==== Proof.AttPay.lean ====
module

public import proofs.«01_k».proof.Proof.AttFwdOut
public import proofs.«01_k».proof.Proof.AttDqOut
public import proofs.«01_k».proof.Proof.AttDkvOut
public import Idealize.ShloMosaic.Lib.Pointwise

/-! What each step of the three attention kernels computes, at an index. -/

@[expose] public section

set_option maxRecDepth 16384

noncomputable section

namespace Cert.Att

open Idealize.ShloMosaic Idealize.ShloMosaic.TcCoe Idealize.SL.Sem
open Cert.AttIdeal Cert.AttIdeal.Gen

/-- The word of minus infinity. -/
theorem neg_inf : Ideal.ofBits .f32 4286578688#32 = ⊥ := by simp [Ideal.ofBits, Ideal.ieee]

/-- The score of a query of a block and a key of a block. -/
def score (q k : Vec Ideal S1024x256 .bf16) (r j : Fin 1024) : EReal := ∑ c : Fin 256, (q (ix2 r c) : EReal) * k (ix2 j c)

/-- The score on the diagonal, masked by the chunks of the two rows. -/
def dscore (q k : Vec Ideal S1024x256 .bf16) (r j : Fin 1024) : EReal :=
  if j.val / 64 ≤ r.val / 64 then score q k r j else ⊥

section
variable (q k : Vec Ideal S1024x256 .bf16) (v : Vec Ideal S1024x128 .bf16) (s : Carry) (r : Fin 1024) (d : Fin 128)

/-- The running maximum after a block. -/
theorem step_max : (fwdStep q k v s).1 (ix2 r 0)
    = max (s.1 (ix2 r 0)) (Finset.fold max (⊥ : EReal) (fun j => score q k r j) Finset.univ) := by
  unfold fwdStep
  pointwise [k0_pay21, k0_pay6, k0_pay17, k0_pay5, neg_inf]
  rfl

/-- The running sum after a block. -/
theorem step_sum : (fwdStep q k v s).2.1 (ix2 r 0)
    = Ideal.exp2 (s.1 (ix2 r 0) - (fwdStep q k v s).1 (ix2 r 0)) * s.2.1 (ix2 r 0)
      + ∑ j, Ideal.exp2 (score q k r j - (fwdStep q k v s).1 (ix2 r 0)) := by
  rw [step_max]
  unfold fwdStep
  pointwise [k0_pay9, k0_pay6, k0_pay17, k0_pay5, k0_pay7, k0_pay8, neg_inf]
  rfl

/-- The running weighted values after a block. -/
theorem step_acc : (fwdStep q k v s).2.2 (ix2 r d)
    = Ideal.exp2 (s.1 (ix2 r 0) - (fwdStep q k v s).1 (ix2 r 0)) * s.2.2 (ix2 r d)
      + ∑ j, Ideal.exp2 (score q k r j - (fwdStep q k v s).1 (ix2 r 0)) * v (ix2 j d) := by
  rw [step_max]
  unfold fwdStep
  pointwise [k0_pay10, k0_pay6, k0_pay17, k0_pay5, k0_pay7, k0_pay8, neg_inf]
  rfl

/-- The mask of the diagonal block, spelt by the chunks of its rows. -/
theorem diag_mask (a b : ℕ) (ha : a < 1024) (hb : b < 1024) (x : EReal) :
    Scalar.select (IntOp.cmpi .sle (IntOp.shrui ArithUnit.vector (BitVec.ofNat 32 a) 6#32) (IntOp.shrui ArithUnit.vector (BitVec.ofNat 32 b) 6#32)) x
      (Named.named κ "mask" 4048155338#32 : Ideal .f32) = if a / 64 ≤ b / 64 then x else ⊥ := by
  have sh : ∀ n, n < 1024 → IntOp.shrui ArithUnit.vector (BitVec.ofNat 32 n) 6#32 = BitVec.ofNat 32 (n / 64) := by
    intro n hn
    unfold IntOp.shrui
    rw [if_pos (by decide)]
    apply BitVec.eq_of_toNat_eq
    simp only [BitVec.ushiftRight_eq', BitVec.toNat_ushiftRight, BitVec.toNat_ofNat, Nat.shiftRight_eq_div_pow]
    norm_num
    omega
  rw [sh a ha, sh b hb]
  have e : (BitVec.ofNat 32 (a / 64)).sle (BitVec.ofNat 32 (b / 64)) = decide (a / 64 ≤ b / 64) := by
    rw [BitVec.sle_eq_decide, BitVec.toInt_eq_toNat_of_lt (by simp; omega), BitVec.toInt_eq_toNat_of_lt (by simp; omega)]
    simp only [BitVec.toNat_ofNat, Nat.mod_eq_of_lt (show a / 64 < 2 ^ 32 by omega), Nat.mod_eq_of_lt (show b / 64 < 2 ^ 32 by omega),
      Nat.cast_le]
  by_cases h : a / 64 ≤ b / 64 <;> simp [Scalar.select, IntOp.cmpi, Named.named, κ, e, h]

/-- The maximum after the diagonal block. -/
theorem diag_max : (fwdDiag q k v s).1 (ix2 r 0)
    = max (s.1 (ix2 r 0)) (Finset.fold max (⊥ : EReal) (fun j => dscore q k r j) Finset.univ) := by
  unfold fwdDiag
  pointwise [k0_pay31, k0_pay23, k0_pay24, k0_pay17, k0_pay25, k0_pay26, neg_inf]
  simp only [diag_mask _ _ (Fin.isLt _) r.isLt]
  rfl

/-- The sum after the diagonal block. -/
theorem diag_sum : (fwdDiag q k v s).2.1 (ix2 r 0)
    = Ideal.exp2 (s.1 (ix2 r 0) - (fwdDiag q k v s).1 (ix2 r 0)) * s.2.1 (ix2 r 0)
      + ∑ j, Ideal.exp2 (dscore q k r j - (fwdDiag q k v s).1 (ix2 r 0)) := by
  rw [diag_max]
  unfold fwdDiag
  pointwise [k0_pay29, k0_pay23, k0_pay24, k0_pay17, k0_pay25, k0_pay26, k0_pay27, k0_pay28, neg_inf]
  simp only [diag_mask _ _ (Fin.isLt _) r.isLt]
  rfl

/-- The weighted values after the diagonal block. -/
theorem diag_acc : (fwdDiag q k v s).2.2 (ix2 r d)
    = Ideal.exp2 (s.1 (ix2 r 0) - (fwdDiag q k v s).1 (ix2 r 0)) * s.2.2 (ix2 r d)
      + ∑ j, Ideal.exp2 (dscore q k r j - (fwdDiag q k v s).1 (ix2 r 0)) * v (ix2 j d) := by
  rw [diag_max]
  unfold fwdDiag
  pointwise [k0_pay30, k0_pay23, k0_pay24, k0_pay17, k0_pay25, k0_pay26, k0_pay27, k0_pay28, neg_inf]
  simp only [diag_mask _ _ (Fin.isLt _) r.isLt]
  rfl

end

/-- The product of a row of the cotangent and a row of the values. -/
def dprod (d v : Vec Ideal S1024x128 .bf16) (r j : Fin 1024) : EReal := ∑ x : Fin 128, (d (ix2 r x) : EReal) * v (ix2 j x)

section
variable (m l : Vec Ideal S1024x1 .f32) (acc : Vec Ideal S1024x128 .f32) (r : Fin 1024) (x : Fin 128)

/-- The output block. -/
theorem o_apply : k0_pay1 acc l (ix2 r x) = Ideal.div (acc (ix2 r x)) (l (ix2 r 0)) := by
  pointwise [k0_pay1]

theorem log2e : (Named.named κ "log2e" 1069066811#32 : Ideal .f32) = (((Real.log 2)⁻¹ : ℝ) : EReal) := by simp [Named.named, κ]

theorem ln2 : (Named.named κ "ln2" 1060205080#32 : Ideal .f32) = ((Real.log 2 : ℝ) : EReal) := by simp [Named.named, κ]

theorem dq_scale : (Named.named κ "dq_scale" 1033096506#32 : Ideal .f32) = (((Real.sqrt 192)⁻¹ : ℝ) : EReal) := by simp [Named.named, κ]

/-- The block of the rows' logarithms, as a column. -/
theorem lse_apply : k0_pay3 m l (ix3 0 r 0) = m (ix2 r 0) + Ideal.log (l (ix2 r 0)) * (((Real.log 2)⁻¹ : ℝ) : EReal) := by
  pointwise [k0_pay3, k0_pay2, log2e]

/-- A column read as a row: the sum over a row of the identity's diagonal. -/
theorem diag_sum_row (f : Fin 1024 → EReal) :
    ∑ x : Fin 1024, Scalar.select (IntOp.cmpi .eq (BitVec.ofNat 32 x.val) (BitVec.ofNat 32 r.val)) (f x) (0 : EReal) = f r := by
  rw [Finset.sum_eq_single r]
  · simp [Scalar.select, IntOp.cmpi]
  · intro b _ hb
    have : BitVec.ofNat 32 b.val ≠ BitVec.ofNat 32 r.val := fun e => hb (Fin.ext (by
      have := congrArg BitVec.toNat e
      have h1 := b.isLt
      have h2 := r.isLt
      simpa [Nat.mod_eq_of_lt (show b.val < 4294967296 by omega), Nat.mod_eq_of_lt (show r.val < 4294967296 by omega)] using this))
    have e : (BitVec.ofNat 32 b.val == BitVec.ofNat 32 r.val) = false := beq_eq_false_iff_ne.mpr this
    simp [Scalar.select, IntOp.cmpi, e]
  · exact fun h => absurd (Finset.mem_univ r) h

/-- The block of the rows' logarithms, as a row. -/
theorem lse_row_apply : k0_pay4 m l (ix4 0 0 0 r) = m (ix2 r 0) + Ideal.log (l (ix2 r 0)) * (((Real.log 2)⁻¹ : ℝ) : EReal) := by
  pointwise [k0_pay4, k0_pay2, log2e]
  exact diag_sum_row r fun x => m (ix2 x 0) + Ideal.log (l (ix2 x 0)) * (((Real.log 2)⁻¹ : ℝ) : EReal)

theorem q_cast (q : Vec Ideal S1024x256 .bf16) : k1_pay1 q = q := by funext j; pointwise [k1_pay1]
theorem d_cast (d : Vec Ideal S1024x128 .bf16) : k1_pay2 d = d := by funext j; pointwise [k1_pay2]
theorem k_cast (k : Vec Ideal S1024x256 .bf16) : k2_pay13 k = k := by funext j; pointwise [k2_pay13]
theorem v_cast (v : Vec Ideal S1024x128 .bf16) : k2_pay14 v = v := by funext j; pointwise [k2_pay14]
theorem l_cast (l : Vec Ideal S1x1024x1 .f32) : k1_pay3 l (ix2 r 0) = l (ix3 0 r 0) := by pointwise [k1_pay3]

/-- The rows' products of output and cotangent. -/
theorem delta_apply (d o : Vec Ideal S1024x128 .bf16) : k1_pay4 d o (ix2 r 0) = ∑ x : Fin 128, (d (ix2 r x) : EReal) * o (ix2 r x) := by
  pointwise [k1_pay4, k1_pay2]
  exact Finset.sum_congr rfl fun _ _ => mul_comm _ _

/-- The same as a row. -/
theorem delta_row_apply (d o : Vec Ideal S1024x128 .bf16) : k1_pay5 d o (ix4 0 0 0 r) = ∑ x : Fin 128, (d (ix2 r x) : EReal) * o (ix2 r x) := by
  rw [← delta_apply]
  pointwise [k1_pay5]
  exact diag_sum_row r fun x => k1_pay4 d o (ix2 x 0)

end

section
variable (q k : Vec Ideal S1024x256 .bf16) (d v : Vec Ideal S1024x128 .bf16) (l e : FVec Ideal S1024x1 .f32) (a : Vec Ideal S1024x256 .f32)
  (r : Fin 1024) (c : Fin 256)

/-- The queries' sum after a block of keys. -/
theorem dq_step : k1_pay7 q d l e k v a (ix2 r c) = a (ix2 r c)
    + ∑ j, Ideal.exp2 (score q k r j - l (ix2 r 0)) * (dprod d v r j - e (ix2 r 0)) * k (ix2 j c) := by
  pointwise [k1_pay7]
  rfl

/-- The queries' sum after the diagonal block. -/
theorem dq_diag : k1_pay9 q d l e k v a (ix2 r c) = a (ix2 r c)
    + ∑ j, Ideal.exp2 (dscore q k r j - l (ix2 r 0)) * (dprod d v r j - e (ix2 r 0)) * k (ix2 j c) := by
  pointwise [k1_pay9]
  simp only [diag_mask _ _ (Fin.isLt _) r.isLt]
  rfl

theorem dq_zero : k1_pay6 (F := Ideal) (ix2 r c) = 0 := by pointwise [k1_pay6]

theorem dq_scaled : k1_pay10 a (ix2 r c) = a (ix2 r c) * (((Real.sqrt 192)⁻¹ : ℝ) : EReal) := by
  pointwise [k1_pay10, dq_scale]

end

section
variable (k q : Vec Ideal S1024x256 .bf16) (v d : Vec Ideal S1024x128 .bf16) (l e : Vec Ideal S1x1x1x1024 .f32) (s : Dkv)
  (r : Fin 1024) (c : Fin 256) (x : Fin 128)

theorem score_comm (q k : Vec Ideal S1024x256 .bf16) (r j : Fin 1024) : (∑ c, (k (ix2 j c) : EReal) * q (ix2 r c)) = score q k r j :=
  Finset.sum_congr rfl fun _ _ => mul_comm _ _

theorem dprod_comm (d v : Vec Ideal S1024x128 .bf16) (r j : Fin 1024) : (∑ x, (v (ix2 j x) : EReal) * d (ix2 r x)) = dprod d v r j :=
  Finset.sum_congr rfl fun _ _ => mul_comm _ _

/-- The keys' sum after a block of queries. -/
theorem dk_step : (dkvStep k v q d l e s).1 (ix2 r c) = s.1 (ix2 r c)
    + ∑ j, Ideal.exp2 (score q k j r - l (ix4 0 0 0 j)) * (dprod d v j r - e (ix4 0 0 0 j)) * q (ix2 j c) := by
  unfold dkvStep
  pointwise [k2_pay24, k2_pay7, k2_pay5, k2_pay4, k2_pay3]
  simp only [← score_comm, ← dprod_comm]
  rfl

/-- The values' sum after a block of queries. -/
theorem dv_step : (dkvStep k v q d l e s).2 (ix2 r x) = s.2 (ix2 r x)
    + ∑ j, Ideal.exp2 (score q k j r - l (ix4 0 0 0 j)) * d (ix2 j x) := by
  unfold dkvStep
  pointwise [k2_pay6, k2_pay5, k2_pay4, k2_pay3]
  simp only [← score_comm, ← dprod_comm]
  rfl

/-- The keys' sum after the diagonal block. -/
theorem dk_diag : (dkvDiag k v q d l e).1 (ix2 r c)
    = ∑ j, Ideal.exp2 (dscore q k j r - l (ix4 0 0 0 j)) * (dprod d v j r - e (ix4 0 0 0 j)) * q (ix2 j c) := by
  unfold dkvDiag
  pointwise [k2_pay23, k2_pay14, k2_pay17, k2_pay18, k2_pay19, k2_pay20, k2_pay15, k2_pay21]
  simp only [k_cast, diag_mask _ _ r.isLt (Fin.isLt _), dscore, ← score_comm, ← dprod_comm]
  rfl

/-- The values' sum after the diagonal block. -/
theorem dv_diag : (dkvDiag k v q d l e).2 (ix2 r x)
    = ∑ j, Ideal.exp2 (dscore q k j r - l (ix4 0 0 0 j)) * d (ix2 j x) := by
  unfold dkvDiag
  pointwise [k2_pay22, k2_pay14, k2_pay17, k2_pay18, k2_pay19, k2_pay20, k2_pay16, k2_pay21]
  simp only [k_cast, diag_mask _ _ r.isLt (Fin.isLt _), dscore, ← score_comm, ← dprod_comm]
  rfl

theorem dk_scaled (a : Vec Ideal S1024x256 .f32) : k2_pay1 (k2_pay26 a) (ix2 r c) = a (ix2 r c) * ((Real.log 2 : ℝ) : EReal) := by
  pointwise [k2_pay1, k2_pay26, ln2]

theorem dv_cast (a : Vec Ideal S1024x128 .f32) : k2_pay2 a (ix2 r x) = a (ix2 r x) := by
  pointwise [k2_pay2]

end

end Cert.Att
end
end
-- ==== Proof.AttReal.lean ====
module

public import proofs.«01_k».proof.Proof.AttPay
public import proofs.«01_k».proof.Proof.AttSpec

/-! What a block of each attention kernel computes when every number it reads is real: the rows of masked attention. -/

@[expose] public section

set_option maxRecDepth 16384

noncomputable section

namespace Cert.Att

open Idealize.ShloMosaic Idealize.ShloMosaic.TcCoe Idealize.SL.Sem
open Cert.AttIdeal Cert.AttIdeal.Gen Cert.AttSpec Cert.Online

section
variable (Q K : Fin 16384 → Fin 256 → ℝ) (V D : Fin 16384 → Fin 128 → ℝ)

theorem score_real {q k : Vec Ideal S1024x256 .bf16} {a b : ℕ} (hq : ∀ r c, q (ix2 r c) = (Q (at' a r) c : ℝ))
    (hk : ∀ j c, k (ix2 j c) = (K (at' b j) c : ℝ)) (r j : Fin 1024) : score q k r j = (sc Q K (at' a r) (at' b j) : ℝ) := by
  unfold score sc
  simp only [hq, hk, ← EReal.coe_mul, Cert.Finite.coe_sum]

theorem dprod_real {d v : Vec Ideal S1024x128 .bf16} {a b : ℕ} (hd : ∀ r x, d (ix2 r x) = (D (at' a r) x : ℝ))
    (hv : ∀ j x, v (ix2 j x) = (V (at' b j) x : ℝ)) (r j : Fin 1024) : dprod d v r j = (dP V D (at' a r) (at' b j) : ℝ) := by
  unfold dprod dP
  simp only [hd, hv, ← EReal.coe_mul, Cert.Finite.coe_sum]

theorem keys_real {x : Vec Ideal S16384x256 .bf16} (h : ∀ k c, x (ix2 k c) = (K k c : ℝ)) (b : ℕ) (j : Fin 1024) (c : Fin 256) :
    keys x b (ix2 j c) = (K (at' b j) c : ℝ) := h _ _

theorem vals_real {x : Vec Ideal S16384x128 .bf16} (h : ∀ k c, x (ix2 k c) = (V k c : ℝ)) (b : ℕ) (j : Fin 1024) (c : Fin 128) :
    vals x b (ix2 j c) = (V (at' b j) c : ℝ) := h _ _

section
variable {n : ℕ} (hn : n < 16) {x0 : Vec Ideal S1024x256 .bf16} {x1 : Vec Ideal S16384x256 .bf16} {x2 : Vec Ideal S16384x128 .bf16}
  (h0 : ∀ r c, x0 (ix2 r c) = (Q (at' n r) c : ℝ)) (h1 : ∀ k c, x1 (ix2 k c) = (K k c : ℝ)) (h2 : ∀ k x, x2 (ix2 k x) = (V k x : ℝ))

include hn h0 h1 h2 in
/-- What the forward pass carries before block `b` of keys. -/
theorem fwd_inv (r : Fin 1024) (d : Fin 128) : ∀ b, b ≤ n →
    Inv ((fwdState x0 x1 x2 b).1 (ix2 r 0)) ((fwdState x0 x1 x2 b).2.1 (ix2 r 0)) ((fwdState x0 x1 x2 b).2.2 (ix2 r d))
      (∑ i ∈ Finset.range b, ∑ j, w Q K (at' n r) (at' i j)) (∑ i ∈ Finset.range b, ∑ j, w Q K (at' n r) (at' i j) * V (at' i j) d)
  | 0, _ => by
    have e1 : k0_pay18 (F := Ideal) (ix2 r 0) = ⊥ := by pointwise [k0_pay18]; simp [Named.named, κ]
    have e2 : k0_pay19 (F := Ideal) (ix2 r 0) = 0 := by pointwise [k0_pay19]
    have e3 : k0_pay20 (F := Ideal) (ix2 r d) = 0 := by pointwise [k0_pay20]
    show Inv (k0_pay18 (F := Ideal) (ix2 r 0)) (k0_pay19 (F := Ideal) (ix2 r 0)) (k0_pay20 (F := Ideal) (ix2 r d)) _ _
    rw [e1, e2, e3, Finset.sum_range_zero, Finset.sum_range_zero]
    exact inv_zero
  | b + 1, hb => by
    have ih := fwd_inv r d b (by omega)
    have hs : ∀ j, score x0 (keys x1 b) r j = masked (sees (at' n r) (at' b j)) (sc Q K (at' n r) (at' b j)) := fun j => by
      rw [score_real Q K h0 (keys_real K h1 b) r j]; unfold masked; rw [if_pos (sees_before hn (by omega) r j)]
    have key := step ih (fun j => sees (at' n r) (at' b j)) (fun j => sc Q K (at' n r) (at' b j)) (fun j => V (at' b j) d)
      ⟨0, sees_before hn (by omega) r 0⟩ (M := (fwdState x0 x1 x2 (b + 1)).1 (ix2 r 0)) (by
        refine (step_max x0 (keys x1 b) (vals x2 b) (fwdState x0 x1 x2 b) r).trans ?_
        simp only [hs])
    rw [Finset.sum_range_succ, Finset.sum_range_succ]
    have e2 : (fwdState x0 x1 x2 (b + 1)).2.1 (ix2 r 0) = _ := step_sum x0 (keys x1 b) (vals x2 b) (fwdState x0 x1 x2 b) r
    have e3 : (fwdState x0 x1 x2 (b + 1)).2.2 (ix2 r d) = _ := step_acc x0 (keys x1 b) (vals x2 b) (fwdState x0 x1 x2 b) r d
    rw [e2, e3]
    simp only [hs, vals_real V h2]
    exact key

include hn h0 h1 h2 in
/-- What it carries at the end. -/
theorem fwd_end (r : Fin 1024) (d : Fin 128) :
    Inv ((fwdEnd x0 x1 x2 n).1 (ix2 r 0)) ((fwdEnd x0 x1 x2 n).2.1 (ix2 r 0)) ((fwdEnd x0 x1 x2 n).2.2 (ix2 r d))
      (Z Q K (at' n r)) (num Q K V (at' n r) d) := by
  have ih := fwd_inv Q K V hn h0 h1 h2 r d n le_rfl
  have hs : ∀ j, dscore x0 (keys x1 n) r j = masked (sees (at' n r) (at' n j)) (sc Q K (at' n r) (at' n j)) := fun j => by
    unfold dscore masked; simp only [score_real Q K h0 (keys_real K h1 n) r j, sees_diag hn]
  have key := step ih (fun j => sees (at' n r) (at' n j)) (fun j => sc Q K (at' n r) (at' n j)) (fun j => V (at' n j) d)
    ⟨r, le_rfl⟩ (M := (fwdEnd x0 x1 x2 n).1 (ix2 r 0)) (by
      refine (diag_max x0 (keys x1 n) (vals x2 n) (fwdState x0 x1 x2 n) r).trans ?_
      simp only [hs])
  have e2 : (fwdEnd x0 x1 x2 n).2.1 (ix2 r 0) = _ := diag_sum x0 (keys x1 n) (vals x2 n) (fwdState x0 x1 x2 n) r
  have e3 : (fwdEnd x0 x1 x2 n).2.2 (ix2 r d) = _ := diag_acc x0 (keys x1 n) (vals x2 n) (fwdState x0 x1 x2 n) r d
  rw [e2, e3]
  simp only [hs, vals_real V h2]
  unfold Z num
  rw [sum_low _ hn fun b h hb j => w_after Q K hb h r j,
    sum_low (fun b => w Q K (at' n r) b * V b d) hn fun b h hb j => by rw [w_after Q K hb h r j, zero_mul]]
  exact key

include hn h0 h1 h2 in
/-- The output block is attention's output. -/
theorem o_real (r : Fin 1024) (d : Fin 128) :
    k0_pay1 (fwdEnd x0 x1 x2 n).2.2 (fwdEnd x0 x1 x2 n).2.1 (ix2 r d) = (o Q K V (at' n r) d : ℝ) := by
  rw [o_apply]
  exact out (fwd_end Q K V hn h0 h1 h2 r d) (Z_pos Q K _)

include hn h0 h1 h2 in
/-- The column of logarithms. -/
theorem lse_real (r : Fin 1024) : k0_pay3 (fwdEnd x0 x1 x2 n).1 (fwdEnd x0 x1 x2 n).2.1 (ix3 0 r 0) = (lse Q K (at' n r) : ℝ) := by
  rw [lse_apply]
  exact Cert.Online.lse (fwd_end Q K V hn h0 h1 h2 r 0) (Z_pos Q K _)

include hn h0 h1 h2 in
/-- The row of logarithms. -/
theorem lse_row_real (r : Fin 1024) : k0_pay4 (fwdEnd x0 x1 x2 n).1 (fwdEnd x0 x1 x2 n).2.1 (ix4 0 0 0 r) = (lse Q K (at' n r) : ℝ) := by
  rw [lse_row_apply]
  exact Cert.Online.lse (fwd_end Q K V hn h0 h1 h2 r 0) (Z_pos Q K _)

section
variable {x3 : Vec Ideal S1024x128 .bf16} {x4 : Vec Ideal S1x1024x1 .f32} {x5 : Vec Ideal S1024x128 .bf16}
  (h3 : ∀ r x, x3 (ix2 r x) = (D (at' n r) x : ℝ)) (h4 : ∀ r, x4 (ix3 0 r 0) = (lse Q K (at' n r) : ℝ))
  (h5 : ∀ r x, x5 (ix2 r x) = (o Q K V (at' n r) x : ℝ))

include h3 h5 in
theorem delta_real (r : Fin 1024) : (∑ x : Fin 128, (x3 (ix2 r x) : EReal) * x5 (ix2 r x)) = (dl Q K V D (at' n r) : ℝ) := by
  unfold dl
  simp only [h3, h5, ← EReal.coe_mul, Cert.Finite.coe_sum]

include h3 h5 in
/-- The row of products of output and cotangent. -/
theorem delta_row_real (r : Fin 1024) : k1_pay5 x3 x5 (ix4 0 0 0 r) = (dl Q K V D (at' n r) : ℝ) := by
  rw [delta_row_apply, delta_real Q K V D h3 h5]

include hn h0 h1 h2 h3 h4 h5 in
/-- The sum for the queries before block `b` of keys. -/
theorem dq_inv (r : Fin 1024) (c : Fin 256) : ∀ b, b ≤ n →
    dqState (k1_pay1 x0) (k1_pay2 x3) (k1_pay3 x4) (k1_pay4 x3 x5) x1 x2 b (ix2 r c)
      = ((∑ i ∈ Finset.range b, ∑ j, dS Q K V D (at' n r) (at' i j) * K (at' i j) c : ℝ) : EReal)
  | 0, _ => by rw [Finset.sum_range_zero]; exact dq_zero r c
  | b + 1, hb => by
    have ih := dq_inv r c b (by omega)
    rw [Finset.sum_range_succ, EReal.coe_add, ← ih]
    refine (dq_step _ _ _ _ _ _ _ r c).trans ?_
    congr 1
    rw [q_cast, d_cast, ← Cert.Finite.coe_sum]
    refine Finset.sum_congr rfl fun j _ => ?_
    rw [score_real Q K h0 (keys_real K h1 b), dprod_real V D h3 (vals_real V h2 b), l_cast, h4, delta_apply, delta_real Q K V D h3 h5,
      prob_before Q K hn (by omega), keys_real K h1, ← EReal.coe_sub, ← EReal.coe_mul, ← EReal.coe_mul]
    rfl

include hn h0 h1 h2 h3 h4 h5 in
/-- The queries' gradient. -/
theorem dq_real (r : Fin 1024) (c : Fin 256) :
    k1_pay10 (k1_pay9 (k1_pay1 x0) (k1_pay2 x3) (k1_pay3 x4) (k1_pay4 x3 x5) (keys x1 n) (vals x2 n)
        (dqState (k1_pay1 x0) (k1_pay2 x3) (k1_pay3 x4) (k1_pay4 x3 x5) x1 x2 n)) (ix2 r c)
      = ((sdq Q K V D (at' n r) c * (Real.sqrt 192)⁻¹ : ℝ) : EReal) := by
  rw [dq_scaled, EReal.coe_mul]
  congr 1
  refine (dq_diag _ _ _ _ _ _ _ r c).trans ?_
  rw [dq_inv Q K V D hn h0 h1 h2 h3 h4 h5 r c n le_rfl]
  unfold sdq
  rw [sum_low (fun b => dS Q K V D (at' n r) b * K b c) hn fun b h hb j => by rw [dS_after Q K V D hb h r j, zero_mul], EReal.coe_add]
  congr 1
  rw [q_cast, d_cast, ← Cert.Finite.coe_sum]
  refine Finset.sum_congr rfl fun j _ => ?_
  unfold dscore
  rw [score_real Q K h0 (keys_real K h1 n), dprod_real V D h3 (vals_real V h2 n), l_cast, h4, delta_apply, delta_real Q K V D h3 h5,
    prob_diag Q K hn, keys_real K h1, ← EReal.coe_sub, ← EReal.coe_mul, ← EReal.coe_mul]
  rfl

end

end

section
variable {n : ℕ} (hn : n < 16) {x0 : Vec Ideal S1024x256 .bf16} {x1 : Vec Ideal S1024x128 .bf16} {x2 : Vec Ideal S16384x256 .bf16}
  {x3 : Vec Ideal S16384x128 .bf16} {x4 x5 : Vec Ideal S1x16x1x1024 .f32}
  (h0 : ∀ r c, x0 (ix2 r c) = (K (at' n r) c : ℝ)) (h1 : ∀ r x, x1 (ix2 r x) = (V (at' n r) x : ℝ))
  (h2 : ∀ k c, x2 (ix2 k c) = (Q k c : ℝ)) (h3 : ∀ k x, x3 (ix2 k x) = (D k x : ℝ))
  (h4 : ∀ (b : Fin 16) j, x4 (ix4 0 b 0 j) = (lse Q K (at' b.val j) : ℝ)) (h5 : ∀ (b : Fin 16) j, x5 (ix4 0 b 0 j) = (dl Q K V D (at' b.val j) : ℝ))

theorem row_real {x : Vec Ideal S1x16x1x1024 .f32} {f : Fin 16384 → ℝ} (h : ∀ (b : Fin 16) j, x (ix4 0 b 0 j) = (f (at' b.val j) : ℝ))
    {b : ℕ} (hb : b < 16) (j : Fin 1024) : rowBlk x b (ix4 0 0 0 j) = (f (at' b j) : ℝ) := by
  have e : (⟨b % 16, Nat.mod_lt _ (by decide)⟩ : Fin 16) = ⟨b, hb⟩ := Fin.ext (Nat.mod_eq_of_lt hb)
  show x (ix4 0 ⟨b % 16, Nat.mod_lt _ (by decide)⟩ 0 j) = _
  rw [e, h]

include hn h0 h1 h2 h3 h4 h5 in
/-- The sum for the keys after the diagonal block and `m` blocks of queries past it. -/
theorem dk_inv (r : Fin 1024) (c : Fin 256) : ∀ m, m ≤ 15 - n →
    (dkvEnd x0 x1 x2 x3 x4 x5 n m).1 (ix2 r c)
      = (((∑ j, dS Q K V D (at' n j) (at' n r) * Q (at' n j) c)
          + ∑ i ∈ Finset.range m, ∑ j, dS Q K V D (at' (n + i + 1) j) (at' n r) * Q (at' (n + i + 1) j) c : ℝ) : EReal)
  | 0, _ => by
    rw [Finset.sum_range_zero, add_zero, ← Cert.Finite.coe_sum]
    refine (dk_diag _ _ _ _ _ _ r c).trans (Finset.sum_congr rfl fun j _ => ?_)
    unfold dscore
    rw [score_real Q K (keys_real Q h2 n) h0, dprod_real V D (vals_real D h3 n) h1, row_real h4 hn, row_real h5 hn,
      prob_diag Q K hn, keys_real Q h2, ← EReal.coe_sub, ← EReal.coe_mul, ← EReal.coe_mul]
    rfl
  | m + 1, hm => by
    have ih := dk_inv r c m (by omega)
    rw [Finset.sum_range_succ, ← add_assoc, EReal.coe_add, ← ih]
    refine (dk_step _ _ _ _ _ _ _ r c).trans ?_
    congr 1
    rw [k_cast, v_cast, ← Cert.Finite.coe_sum]
    refine Finset.sum_congr rfl fun j _ => ?_
    rw [score_real Q K (keys_real Q h2 _) h0, dprod_real V D (vals_real D h3 _) h1, row_real h4 (by omega), row_real h5 (by omega),
      prob_before Q K (by omega) (by omega), keys_real Q h2, ← EReal.coe_sub, ← EReal.coe_mul, ← EReal.coe_mul]
    rfl

include hn h0 h2 h3 h4 in
/-- The sum for the values after the diagonal block and `m` blocks of queries past it. -/
theorem dv_inv (r : Fin 1024) (d : Fin 128) : ∀ m, m ≤ 15 - n →
    (dkvEnd x0 x1 x2 x3 x4 x5 n m).2 (ix2 r d)
      = (((∑ j, P Q K (at' n j) (at' n r) * D (at' n j) d)
          + ∑ i ∈ Finset.range m, ∑ j, P Q K (at' (n + i + 1) j) (at' n r) * D (at' (n + i + 1) j) d : ℝ) : EReal)
  | 0, _ => by
    rw [Finset.sum_range_zero, add_zero, ← Cert.Finite.coe_sum]
    refine (dv_diag _ _ _ _ _ _ r d).trans (Finset.sum_congr rfl fun j _ => ?_)
    unfold dscore
    rw [score_real Q K (keys_real Q h2 n) h0, row_real h4 hn, prob_diag Q K hn, vals_real D h3, ← EReal.coe_mul]
  | m + 1, hm => by
    have ih := dv_inv r d m (by omega)
    rw [Finset.sum_range_succ, ← add_assoc, EReal.coe_add, ← ih]
    refine (dv_step _ _ _ _ _ _ _ r d).trans ?_
    congr 1
    rw [k_cast, ← Cert.Finite.coe_sum]
    refine Finset.sum_congr rfl fun j _ => ?_
    rw [score_real Q K (keys_real Q h2 _) h0, row_real h4 (by omega), prob_before Q K (by omega) (by omega), vals_real D h3, ← EReal.coe_mul]

include hn h0 h1 h2 h3 h4 h5 in
/-- The keys' gradient. -/
theorem dk_real (r : Fin 1024) (c : Fin 256) :
    k2_pay1 (k2_pay26 (dkvEnd x0 x1 x2 x3 x4 x5 n (15 - n)).1) (ix2 r c) = ((sdk Q K V D (at' n r) c * Real.log 2 : ℝ) : EReal) := by
  rw [dk_scaled, dk_inv Q K V D hn h0 h1 h2 h3 h4 h5 r c _ le_rfl, EReal.coe_mul]
  unfold sdk
  rw [sum_high (fun a => dS Q K V D a (at' n r) * Q a c) hn fun b h j => by rw [dS_after Q K V D hn h j r, zero_mul]]

include hn h0 h2 h3 h4 in
/-- The values' gradient. -/
theorem dv_real (r : Fin 1024) (d : Fin 128) :
    k2_pay2 (dkvEnd x0 x1 x2 x3 x4 x5 n (15 - n)).2 (ix2 r d) = (dv Q K D (at' n r) d : ℝ) := by
  rw [dv_cast, dv_inv Q K D hn h0 h2 h3 h4 r d _ le_rfl]
  unfold dv
  rw [sum_high (fun a => P Q K a (at' n r) * D a d) hn fun b h j => by rw [P_after Q K hn h j r, zero_mul]]

end

end

end Cert.Att
end
end
-- ==== Proof.AttArr.lean ====
module

public import proofs.«01_k».proof.Proof.AttReal

/-! What the arrays of attention hold after each of the three kernels, for all heads. -/

@[expose] public section

set_option maxRecDepth 16384

noncomputable section

namespace Cert.Att

open Idealize.ShloMosaic Idealize.ShloMosaic.TcCoe Idealize.SL.Sem
open Idealize.ShloMosaic.Pipeline (Dat)
open Cert.AttIdeal Cert.AttIdeal.Gen Cert.AttSpec

/-- Column `x` of head `h` among the queries' and keys' columns. -/
abbrev qcol (h : Fin 6) (x : Fin 256) : Fin 1536 := ⟨256 * h.val + x.val, by omega⟩
/-- Column `x` of head `h` among the values' columns. -/
abbrev vcol (h : Fin 6) (x : Fin 128) : Fin 768 := ⟨128 * h.val + x.val, by omega⟩

variable (U : (c : Dev nD) → (b : Ref sig .tc) → Buf (Elt Ideal) ((c : Thread nD τ).loc b)) (c : Dev nD)
variable (Q K : Fin 6 → Fin 16384 → Fin 256 → ℝ) (V D : Fin 6 → Fin 16384 → Fin 128 → ℝ)

/-- The outputs' array. -/
def oArr : FVec Ideal S16384x768 .bf16 := fun i =>
  let h : Fin 6 := ⟨(i 1).val / 128, by have : (i 1).val < 768 := (i 1).isLt; omega⟩
  ((o (Q h) (K h) (V h) (i 0) ⟨(i 1).val % 128, Nat.mod_lt _ (by decide)⟩ : ℝ) : EReal)

/-- The logarithms' array, by columns. -/
def lseArr : FVec Ideal S6x16384x1 .f32 := fun i => ((lse (Q (i 0)) (K (i 0)) (i 1) : ℝ) : EReal)

/-- The logarithms' array, by rows. -/
def lseRowArr : FVec Ideal S6x16x1x1024 .f32 := fun i => ((lse (Q (i 0)) (K (i 0)) (at' (i 1).val (i 3)) : ℝ) : EReal)

/-- The rows' products' array. -/
def dlArr : FVec Ideal S6x16x1x1024 .f32 := fun i => ((dl (Q (i 0)) (K (i 0)) (V (i 0)) (D (i 0)) (at' (i 1).val (i 3)) : ℝ) : EReal)

/-- The queries' gradients' array. -/
def dqArr : FVec Ideal S16384x1536 .bf16 := fun i =>
  let h : Fin 6 := ⟨(i 1).val / 256, by have : (i 1).val < 1536 := (i 1).isLt; omega⟩
  ((sdq (Q h) (K h) (V h) (D h) (i 0) ⟨(i 1).val % 256, Nat.mod_lt _ (by decide)⟩ * (Real.sqrt 192)⁻¹ : ℝ) : EReal)

/-- The keys' gradients' array. -/
def dkArr : FVec Ideal S16384x1536 .bf16 := fun i =>
  let h : Fin 6 := ⟨(i 1).val / 256, by have : (i 1).val < 1536 := (i 1).isLt; omega⟩
  ((sdk (Q h) (K h) (V h) (D h) (i 0) ⟨(i 1).val % 256, Nat.mod_lt _ (by decide)⟩ * Real.log 2 : ℝ) : EReal)

/-- The values' gradients' array. -/
def dvArr : FVec Ideal S16384x768 .bf16 := fun i =>
  let h : Fin 6 := ⟨(i 1).val / 128, by have : (i 1).val < 768 := (i 1).isLt; omega⟩
  ((dv (Q h) (K h) (D h) (i 0) ⟨(i 1).val % 128, Nat.mod_lt _ (by decide)⟩ : ℝ) : EReal)

theorem oArr_apply (a : Fin 16384) (h : Fin 6) (x : Fin 128) : oArr Q K V (ix2 a (vcol h x)) = ((o (Q h) (K h) (V h) a x : ℝ) : EReal) := by
  have e1 : (⟨(128 * h.val + x.val) / 128, by omega⟩ : Fin 6) = h := by ext; show (128 * h.val + x.val) / 128 = h.val; omega
  have e2 : (⟨(128 * h.val + x.val) % 128, Nat.mod_lt _ (by decide)⟩ : Fin 128) = x := by ext; show (128 * h.val + x.val) % 128 = x.val; omega
  show ((o (Q ⟨(128 * h.val + x.val) / 128, _⟩) (K ⟨(128 * h.val + x.val) / 128, _⟩) (V ⟨(128 * h.val + x.val) / 128, _⟩) a ⟨(128 * h.val + x.val) % 128, _⟩ : ℝ) : EReal) = _
  rw [e1, e2]

theorem dvArr_apply (a : Fin 16384) (h : Fin 6) (x : Fin 128) : dvArr Q K D (ix2 a (vcol h x)) = ((dv (Q h) (K h) (D h) a x : ℝ) : EReal) := by
  have e1 : (⟨(128 * h.val + x.val) / 128, by omega⟩ : Fin 6) = h := by ext; show (128 * h.val + x.val) / 128 = h.val; omega
  have e2 : (⟨(128 * h.val + x.val) % 128, Nat.mod_lt _ (by decide)⟩ : Fin 128) = x := by ext; show (128 * h.val + x.val) % 128 = x.val; omega
  show ((dv (Q ⟨(128 * h.val + x.val) / 128, _⟩) (K ⟨(128 * h.val + x.val) / 128, _⟩) (D ⟨(128 * h.val + x.val) / 128, _⟩) a ⟨(128 * h.val + x.val) % 128, _⟩ : ℝ) : EReal) = _
  rw [e1, e2]

theorem dqArr_apply (a : Fin 16384) (h : Fin 6) (x : Fin 256) : dqArr Q K V D (ix2 a (qcol h x)) = ((sdq (Q h) (K h) (V h) (D h) a x * (Real.sqrt 192)⁻¹ : ℝ) : EReal) := by
  have e1 : (⟨(256 * h.val + x.val) / 256, by omega⟩ : Fin 6) = h := by ext; show (256 * h.val + x.val) / 256 = h.val; omega
  have e2 : (⟨(256 * h.val + x.val) % 256, Nat.mod_lt _ (by decide)⟩ : Fin 256) = x := by ext; show (256 * h.val + x.val) % 256 = x.val; omega
  show ((sdq (Q ⟨(256 * h.val + x.val) / 256, _⟩) (K ⟨(256 * h.val + x.val) / 256, _⟩) (V ⟨(256 * h.val + x.val) / 256, _⟩) (D ⟨(256 * h.val + x.val) / 256, _⟩) a ⟨(256 * h.val + x.val) % 256, _⟩ * (Real.sqrt 192)⁻¹ : ℝ) : EReal) = _
  rw [e1, e2]

theorem dkArr_apply (a : Fin 16384) (h : Fin 6) (x : Fin 256) : dkArr Q K V D (ix2 a (qcol h x)) = ((sdk (Q h) (K h) (V h) (D h) a x * Real.log 2 : ℝ) : EReal) := by
  have e1 : (⟨(256 * h.val + x.val) / 256, by omega⟩ : Fin 6) = h := by ext; show (256 * h.val + x.val) / 256 = h.val; omega
  have e2 : (⟨(256 * h.val + x.val) % 256, Nat.mod_lt _ (by decide)⟩ : Fin 256) = x := by ext; show (256 * h.val + x.val) % 256 = x.val; omega
  show ((sdk (Q ⟨(256 * h.val + x.val) / 256, _⟩) (K ⟨(256 * h.val + x.val) / 256, _⟩) (V ⟨(256 * h.val + x.val) / 256, _⟩) (D ⟨(256 * h.val + x.val) / 256, _⟩) a ⟨(256 * h.val + x.val) % 256, _⟩ * Real.log 2 : ℝ) : EReal) = _
  rw [e1, e2]

theorem lseArr_apply (h : Fin 6) (a : Fin 16384) : lseArr Q K (ix3 h a 0) = ((lse (Q h) (K h) a : ℝ) : EReal) := rfl
theorem lseRowArr_apply (h : Fin 6) (b : Fin 16) (j : Fin 1024) : lseRowArr Q K (ix4 h b 0 j) = ((lse (Q h) (K h) (at' b.val j) : ℝ) : EReal) := rfl
theorem dlArr_apply (h : Fin 6) (b : Fin 16) (j : Fin 1024) : dlArr Q K V D (ix4 h b 0 j) = ((dl (Q h) (K h) (V h) (D h) (at' b.val j) : ℝ) : EReal) := rfl

theorem coord0 : ∀ t : Fin cfg0.N, (grid0.coords t 1).val = t.val % 16 := (by decide +kernel : ∀ t : Fin grid0.N, _)
theorem coord1 : ∀ t : Fin cfg1.N, (grid1.coords t 1).val = t.val % 16 := (by decide +kernel : ∀ t : Fin grid1.N, _)
theorem coord2 : ∀ t : Fin cfg2.N, (grid2.coords t 1).val = t.val % 16 := (by decide +kernel : ∀ t : Fin grid2.N, _)

theorem idx0 : ∀ t : Fin cfg0.N, win0_0.index t = ![t.val % 16, t.val / 16] ∧ win0_1.index t = ![0, t.val / 16]
    ∧ win0_2.index t = ![0, t.val / 16] ∧ win0_3.index t = ![t.val % 16, t.val / 16]
    ∧ win0_4.index t = ![t.val / 16, t.val % 16, 0] ∧ win0_5.index t = ![t.val / 16, t.val % 16, 0, 0] :=
  (by decide +kernel : ∀ t : Fin grid0.N, _)

theorem idx1 : ∀ t : Fin cfg1.N, win1_0.index t = ![t.val % 16, t.val / 16] ∧ win1_1.index t = ![0, t.val / 16]
    ∧ win1_2.index t = ![0, t.val / 16] ∧ win1_3.index t = ![t.val % 16, t.val / 16]
    ∧ win1_4.index t = ![t.val / 16, t.val % 16, 0] ∧ win1_5.index t = ![t.val % 16, t.val / 16]
    ∧ win1_6.index t = ![t.val % 16, t.val / 16] ∧ win1_7.index t = ![t.val / 16, t.val % 16, 0, 0] :=
  (by decide +kernel : ∀ t : Fin grid1.N, _)

theorem idx2 : ∀ t : Fin cfg2.N, win2_0.index t = ![t.val % 16, t.val / 16] ∧ win2_1.index t = ![t.val % 16, t.val / 16]
    ∧ win2_2.index t = ![0, t.val / 16] ∧ win2_3.index t = ![0, t.val / 16]
    ∧ win2_4.index t = ![t.val / 16, 0, 0, 0] ∧ win2_5.index t = ![t.val / 16, 0, 0, 0]
    ∧ win2_6.index t = ![t.val % 16, t.val / 16] ∧ win2_7.index t = ![t.val % 16, t.val / 16] :=
  (by decide +kernel : ∀ t : Fin grid2.N, _)

/-- The head of a point. -/
abbrev hd0 (t : Fin cfg0.N) : Fin 6 := ⟨t.val / 16, by have : t.val < 96 := lt_of_lt_of_eq t.isLt N_0; omega⟩

/-- The head of a point. -/
abbrev hd1 (t : Fin cfg1.N) : Fin 6 := ⟨t.val / 16, by have : t.val < 96 := lt_of_lt_of_eq t.isLt N_1; omega⟩

/-- The head of a point. -/
abbrev hd2 (t : Fin cfg2.N) : Fin 6 := ⟨t.val / 16, by have : t.val < 96 := lt_of_lt_of_eq t.isLt N_2; omega⟩

section
variable (hq : ∀ (a : Fin 16384) h x, U c main_v10 (ix2 a (qcol h x)) = ((Q h a x : ℝ) : EReal))
  (hk : ∀ (a : Fin 16384) h x, U c main_v13 (ix2 a (qcol h x)) = ((K h a x : ℝ) : EReal))
  (hv : ∀ (a : Fin 16384) h x, U c main_v15 (ix2 a (vcol h x)) = ((V h a x : ℝ) : EReal))
  (hd : ∀ (a : Fin 16384) h x, U c main_v17 (ix2 a (vcol h x)) = ((D h a x : ℝ) : EReal))
  (hl : U c main_v16_1 = lseArr Q K)
  (ho : U c main_v16_0 = oArr Q K V)
  (hlr : U c main_v16_2 = lseRowArr Q K)
  (hdl : U c main_v18_1 = dlArr Q K V D)

include hq in
theorem blk0_q (t : Fin cfg0.N) (r : Fin 1024) (x : Fin 256) : iblk0 U c 0 t (ix2 r x) = ((Q (hd0 t) (at' (t.val % 16) r) x : ℝ) : EReal) := by
  rw [← hq]
  unfold iblk0
  have e : (at' (t.val % 16) r).val = 1024 * (t.val % 16) + r.val := at_val (by omega) r
  blk_ext [idx0 t]

include hk in
theorem blk0_k (t : Fin cfg0.N) (r : Fin 16384) (x : Fin 256) : iblk0 U c 1 t (ix2 r x) = ((K (hd0 t) r x : ℝ) : EReal) := by
  rw [← hk]
  unfold iblk0
  blk_ext [idx0 t]

include hv in
theorem blk0_v (t : Fin cfg0.N) (r : Fin 16384) (x : Fin 128) : iblk0 U c 2 t (ix2 r x) = ((V (hd0 t) r x : ℝ) : EReal) := by
  rw [← hv]
  unfold iblk0
  blk_ext [idx0 t]

include hq hk hv in
/-- The outputs after the forward kernel. -/
theorem arr0_o : (dat0 U c).arrAt 3 cfg0.N = oArr Q K V := by
  refine (dat0 U c).arrAt_eq_of_covers 3 _ (by decide +kernel) fun t _ y => ?_
  blk_simp
  rw [after0_3]; unfold outsAt0; dsimp only
  rw [out_o, coord0]
  idx_vars y
  have ht : t.val < 96 := lt_of_lt_of_eq t.isLt N_0
  have ee : ∀ j, (at' (t.val % 16) j).val = 1024 * (t.val % 16) + j.val := at_val (by omega)
  have e : ((View.whole main_v16_0).slice (win0_3.rect t)).emb (ix2 y0 y1) = ix2 (at' (t.val % 16) y0) (vcol (hd0 t) y1) := by
    blk_ext [idx0 t, ee]
  rw [e]
  exact (o_real (Q (hd0 t)) (K (hd0 t)) (V (hd0 t)) (by omega) (blk0_q U c Q hq t) (blk0_k U c K hk t) (blk0_v U c V hv t) y0 y1).trans (oArr_apply Q K V _ _ _).symm

include hq hk hv in
/-- The logarithms after the forward kernel, by columns. -/
theorem arr0_lse : (dat0 U c).arrAt 4 cfg0.N = lseArr Q K := by
  refine (dat0 U c).arrAt_eq_of_covers 4 _ (by decide +kernel) fun t _ y => ?_
  blk_simp
  rw [after0_4]; unfold outsAt0; dsimp only
  rw [out_lse, coord0]
  idx_vars y
  obtain rfl : y0 = 0 := Subsingleton.elim _ _
  obtain rfl : y2 = 0 := Subsingleton.elim _ _
  have ht : t.val < 96 := lt_of_lt_of_eq t.isLt N_0
  have ee : ∀ j, (at' (t.val % 16) j).val = 1024 * (t.val % 16) + j.val := at_val (by omega)
  have e : ((View.whole main_v16_1).slice (win0_4.rect t)).emb (ix3 0 y1 0) = ix3 (hd0 t) (at' (t.val % 16) y1) 0 := by
    blk_ext [idx0 t, ee]
  rw [e]
  exact (lse_real (Q (hd0 t)) (K (hd0 t)) (V (hd0 t)) (by omega) (blk0_q U c Q hq t) (blk0_k U c K hk t) (blk0_v U c V hv t) y1).trans (lseArr_apply Q K _ _).symm

include hq hk hv in
/-- The logarithms after the forward kernel, by rows. -/
theorem arr0_lse_row : (dat0 U c).arrAt 5 cfg0.N = lseRowArr Q K := by
  refine (dat0 U c).arrAt_eq_of_covers 5 _ (by decide +kernel) fun t _ y => ?_
  blk_simp
  rw [after0_5]; unfold outsAt0; dsimp only
  rw [out_lse_row, coord0]
  idx_vars y
  obtain rfl : y0 = 0 := Subsingleton.elim _ _
  obtain rfl : y1 = 0 := Subsingleton.elim _ _
  obtain rfl : y2 = 0 := Subsingleton.elim _ _
  have ht : t.val < 96 := lt_of_lt_of_eq t.isLt N_0
  have ee : ∀ j, (at' (t.val % 16) j).val = 1024 * (t.val % 16) + j.val := at_val (by omega)
  have e : ((View.whole main_v16_2).slice (win0_5.rect t)).emb (ix4 0 0 0 y3) = ix4 (hd0 t) ⟨t.val % 16, by omega⟩ 0 y3 := by
    blk_ext [idx0 t, ee]
  rw [e]
  exact (lse_row_real (Q (hd0 t)) (K (hd0 t)) (V (hd0 t)) (by omega) (blk0_q U c Q hq t) (blk0_k U c K hk t) (blk0_v U c V hv t) y3).trans (lseRowArr_apply Q K _ ⟨t.val % 16, by omega⟩ _).symm

include hq in
theorem blk1_q (t : Fin cfg1.N) (r : Fin 1024) (x : Fin 256) : iblk1 U c 0 t (ix2 r x) = ((Q (hd1 t) (at' (t.val % 16) r) x : ℝ) : EReal) := by
  rw [← hq]
  unfold iblk1
  have e : (at' (t.val % 16) r).val = 1024 * (t.val % 16) + r.val := at_val (by omega) r
  blk_ext [idx1 t]

include hk in
theorem blk1_k (t : Fin cfg1.N) (r : Fin 16384) (x : Fin 256) : iblk1 U c 1 t (ix2 r x) = ((K (hd1 t) r x : ℝ) : EReal) := by
  rw [← hk]
  unfold iblk1
  blk_ext [idx1 t]

include hv in
theorem blk1_v (t : Fin cfg1.N) (r : Fin 16384) (x : Fin 128) : iblk1 U c 2 t (ix2 r x) = ((V (hd1 t) r x : ℝ) : EReal) := by
  rw [← hv]
  unfold iblk1
  blk_ext [idx1 t]

include hd in
theorem blk1_d (t : Fin cfg1.N) (r : Fin 1024) (x : Fin 128) : iblk1 U c 3 t (ix2 r x) = ((D (hd1 t) (at' (t.val % 16) r) x : ℝ) : EReal) := by
  rw [← hd]
  unfold iblk1
  have e : (at' (t.val % 16) r).val = 1024 * (t.val % 16) + r.val := at_val (by omega) r
  blk_ext [idx1 t]

include hl in
theorem blk1_l (t : Fin cfg1.N) (r : Fin 1024) : iblk1 U c 4 t (ix3 0 r 0) = ((lse (Q (hd1 t)) (K (hd1 t)) (at' (t.val % 16) r) : ℝ) : EReal) := by
  rw [← lseArr_apply, ← hl]
  unfold iblk1
  have e : (at' (t.val % 16) r).val = 1024 * (t.val % 16) + r.val := at_val (by omega) r
  blk_ext [idx1 t]

include ho in
theorem blk1_o (t : Fin cfg1.N) (r : Fin 1024) (x : Fin 128) : iblk1 U c 5 t (ix2 r x) = ((o (Q (hd1 t)) (K (hd1 t)) (V (hd1 t)) (at' (t.val % 16) r) x : ℝ) : EReal) := by
  rw [← oArr_apply, ← ho]
  unfold iblk1
  have e : (at' (t.val % 16) r).val = 1024 * (t.val % 16) + r.val := at_val (by omega) r
  blk_ext [idx1 t]

include hq hk hv hd hl ho in
/-- The queries' gradients after the second kernel. -/
theorem arr1_dq : (dat1 U c).arrAt 6 cfg1.N = dqArr Q K V D := by
  refine (dat1 U c).arrAt_eq_of_covers 6 _ (by decide +kernel) fun t _ y => ?_
  blk_simp
  rw [after1_6]; unfold outsAt1; dsimp only
  rw [out_dq, coord1]
  idx_vars y
  have ht : t.val < 96 := lt_of_lt_of_eq t.isLt N_1
  have ee : ∀ j, (at' (t.val % 16) j).val = 1024 * (t.val % 16) + j.val := at_val (by omega)
  have e : ((View.whole main_v18_0).slice (win1_6.rect t)).emb (ix2 y0 y1) = ix2 (at' (t.val % 16) y0) (qcol (hd1 t) y1) := by
    blk_ext [idx1 t, ee]
  rw [e]
  exact (dq_real (Q (hd1 t)) (K (hd1 t)) (V (hd1 t)) (D (hd1 t)) (by omega) (blk1_q U c Q hq t) (blk1_k U c K hk t) (blk1_v U c V hv t) (blk1_d U c D hd t) (blk1_l U c Q K hl t) (blk1_o U c Q K V ho t) y0 y1).trans (dqArr_apply Q K V D _ _ _).symm

include hd ho in
/-- The rows' products after the second kernel. -/
theorem arr1_dl : (dat1 U c).arrAt 7 cfg1.N = dlArr Q K V D := by
  refine (dat1 U c).arrAt_eq_of_covers 7 _ (by decide +kernel) fun t _ y => ?_
  blk_simp
  rw [after1_7]; unfold outsAt1; dsimp only
  rw [out_delta_row]
  idx_vars y
  obtain rfl : y0 = 0 := Subsingleton.elim _ _
  obtain rfl : y1 = 0 := Subsingleton.elim _ _
  obtain rfl : y2 = 0 := Subsingleton.elim _ _
  have ht : t.val < 96 := lt_of_lt_of_eq t.isLt N_1
  have ee : ∀ j, (at' (t.val % 16) j).val = 1024 * (t.val % 16) + j.val := at_val (by omega)
  have e : ((View.whole main_v18_1).slice (win1_7.rect t)).emb (ix4 0 0 0 y3) = ix4 (hd1 t) ⟨t.val % 16, by omega⟩ 0 y3 := by
    blk_ext [idx1 t, ee]
  rw [e]
  exact (delta_row_real (Q (hd1 t)) (K (hd1 t)) (V (hd1 t)) (D (hd1 t)) (blk1_d U c D hd t) (blk1_o U c Q K V ho t) y3).trans (dlArr_apply Q K V D _ ⟨t.val % 16, by omega⟩ _).symm

include hk in
theorem blk2_k (t : Fin cfg2.N) (r : Fin 1024) (x : Fin 256) : iblk2 U c 0 t (ix2 r x) = ((K (hd2 t) (at' (t.val % 16) r) x : ℝ) : EReal) := by
  rw [← hk]
  unfold iblk2
  have e : (at' (t.val % 16) r).val = 1024 * (t.val % 16) + r.val := at_val (by omega) r
  blk_ext [idx2 t]

include hv in
theorem blk2_v (t : Fin cfg2.N) (r : Fin 1024) (x : Fin 128) : iblk2 U c 1 t (ix2 r x) = ((V (hd2 t) (at' (t.val % 16) r) x : ℝ) : EReal) := by
  rw [← hv]
  unfold iblk2
  have e : (at' (t.val % 16) r).val = 1024 * (t.val % 16) + r.val := at_val (by omega) r
  blk_ext [idx2 t]

include hq in
theorem blk2_q (t : Fin cfg2.N) (r : Fin 16384) (x : Fin 256) : iblk2 U c 2 t (ix2 r x) = ((Q (hd2 t) r x : ℝ) : EReal) := by
  rw [← hq]
  unfold iblk2
  blk_ext [idx2 t]

include hd in
theorem blk2_d (t : Fin cfg2.N) (r : Fin 16384) (x : Fin 128) : iblk2 U c 3 t (ix2 r x) = ((D (hd2 t) r x : ℝ) : EReal) := by
  rw [← hd]
  unfold iblk2
  blk_ext [idx2 t]

include hlr in
theorem blk2_lr (t : Fin cfg2.N) (b : Fin 16) (j : Fin 1024) : iblk2 U c 4 t (ix4 0 b 0 j) = ((lse (Q (hd2 t)) (K (hd2 t)) (at' b.val j) : ℝ) : EReal) := by
  rw [← lseRowArr_apply, ← hlr]
  unfold iblk2
  blk_ext [idx2 t]

include hdl in
theorem blk2_dl (t : Fin cfg2.N) (b : Fin 16) (j : Fin 1024) : iblk2 U c 5 t (ix4 0 b 0 j) = ((dl (Q (hd2 t)) (K (hd2 t)) (V (hd2 t)) (D (hd2 t)) (at' b.val j) : ℝ) : EReal) := by
  rw [← dlArr_apply, ← hdl]
  unfold iblk2
  blk_ext [idx2 t]

include hq hk hv hd hlr hdl in
/-- The keys' gradients after the third kernel. -/
theorem arr2_dk : (dat2 U c).arrAt 6 cfg2.N = dkArr Q K V D := by
  refine (dat2 U c).arrAt_eq_of_covers 6 _ (by decide +kernel) fun t _ y => ?_
  blk_simp
  rw [after2_6]; unfold outsAt2; dsimp only
  rw [out_dk, coord2]
  idx_vars y
  have ht : t.val < 96 := lt_of_lt_of_eq t.isLt N_2
  have ee : ∀ j, (at' (t.val % 16) j).val = 1024 * (t.val % 16) + j.val := at_val (by omega)
  have e : ((View.whole main_v19_0).slice (win2_6.rect t)).emb (ix2 y0 y1) = ix2 (at' (t.val % 16) y0) (qcol (hd2 t) y1) := by
    blk_ext [idx2 t, ee]
  rw [e]
  exact (dk_real (Q (hd2 t)) (K (hd2 t)) (V (hd2 t)) (D (hd2 t)) (by omega) (blk2_k U c K hk t) (blk2_v U c V hv t) (blk2_q U c Q hq t) (blk2_d U c D hd t) (blk2_lr U c Q K hlr t) (blk2_dl U c Q K V D hdl t) y0 y1).trans (dkArr_apply Q K V D _ _ _).symm

include hq hk hd hlr in
/-- The values' gradients after the third kernel. -/
theorem arr2_dv : (dat2 U c).arrAt 7 cfg2.N = dvArr Q K D := by
  refine (dat2 U c).arrAt_eq_of_covers 7 _ (by decide +kernel) fun t _ y => ?_
  blk_simp
  rw [after2_7]; unfold outsAt2; dsimp only
  rw [out_dv, coord2]
  idx_vars y
  have ht : t.val < 96 := lt_of_lt_of_eq t.isLt N_2
  have ee : ∀ j, (at' (t.val % 16) j).val = 1024 * (t.val % 16) + j.val := at_val (by omega)
  have e : ((View.whole main_v19_1).slice (win2_7.rect t)).emb (ix2 y0 y1) = ix2 (at' (t.val % 16) y0) (vcol (hd2 t) y1) := by
    blk_ext [idx2 t, ee]
  rw [e]
  exact (dv_real (Q (hd2 t)) (K (hd2 t)) (D (hd2 t)) (by omega) (blk2_k U c K hk t) (blk2_q U c Q hq t) (blk2_d U c D hd t) (blk2_lr U c Q K hlr t) y0 y1).trans (dvArr_apply Q K D _ _ _).symm

end

end Cert.Att
end
end
-- ==== Proof.AttHost.lean ====
module

public import proofs.«01_k».proof.Proof.AttArr
public import Idealize.ShloMosaic.Lib.StableHlo.RunRead

/-! The host's part of attention. -/

@[expose] public section

set_option maxRecDepth 16384

noncomputable section

namespace Cert.Att

open Idealize.ShloMosaic Idealize.ShloMosaic.TcCoe Idealize.SL.Sem
open Idealize.ShloMosaic.Pipeline (Dat)
open Cert.AttIdeal Cert.AttIdeal.Gen Cert.AttSpec

variable (m : (ℓ : Loc nD τ sig) → Buf (Elt Ideal) ℓ) (ρ : Dev nD → PrngReg) (c : Dev nD)

theorem cast_cols (X : FVec Ideal S16384x6x256 .f32) (hc) (a : Fin 16384) (h : Fin 6) (x : Fin 256) :
    shapeCast S16384x1536 X hc (ix2 a (qcol h x)) = X (ix3 a h x) := by
  have e1 : (⟨(256 * h.val + x.val) / 256, by omega⟩ : Fin 6) = h := by ext; show (256 * h.val + x.val) / 256 = h.val; omega
  have e2 : (⟨(256 * h.val + x.val) % 256, Nat.mod_lt _ (by decide)⟩ : Fin 256) = x := by ext; show (256 * h.val + x.val) % 256 = x.val; omega
  pointwise
  rw [e1, e2]

theorem cast_vcols (X : FVec Ideal S16384x6x128 .f32) (hc) (a : Fin 16384) (h : Fin 6) (x : Fin 128) :
    shapeCast S16384x768 X hc (ix2 a (vcol h x)) = X (ix3 a h x) := by
  have e1 : (⟨(128 * h.val + x.val) / 128, by omega⟩ : Fin 6) = h := by ext; show (128 * h.val + x.val) / 128 = h.val; omega
  have e2 : (⟨(128 * h.val + x.val) % 128, Nat.mod_lt _ (by decide)⟩ : Fin 128) = x := by ext; show (128 * h.val + x.val) % 128 = x.val; omega
  pointwise
  rw [e1, e2]

/-- Three arrays laid side by side along the last axis, read at an entry. -/
theorem cat3 (x0 : FVec Ideal S16384x6x128 .f32) (x1 x2 : FVec Ideal S16384x6x64 .f32) (hc) (a : Fin 16384) (h : Fin 6) (x : Fin 256) :
    concatenate S16384x6x256 2 [⟨S16384x6x128, x0⟩, ⟨S16384x6x64, x1⟩, ⟨S16384x6x64, x2⟩] hc (ix3 a h x)
      = if h1 : x.val < 128 then x0 (ix3 a h ⟨x.val, h1⟩) else if h2 : x.val - 128 < 64 then x1 (ix3 a h ⟨x.val - 128, h2⟩)
        else x2 (ix3 a h ⟨x.val - 128 - 64, by omega⟩) := by
  pointwise

theorem read_v3 (W : Valuation τ sig (Elt Ideal)) (a : Fin 16384) (h : Fin 6) (x : Fin 256) :
    StableHlo.upto hostOps0 W 5 main_v3 (ix3 a h x)
      = if h1 : x.val < 128 then W main_arg0 (ix3 a h ⟨x.val, h1⟩) else if h2 : x.val - 128 < 64 then W main_arg1 (ix3 a h ⟨x.val - 128, h2⟩) else (0 : EReal) := by
  refine (congrFun (StableHlo.upto_last_write (i := 4) [] rfl rfl (by decide) W) _).trans ?_
  refine (congrFun (StableHlo.nary_result' ![main_arg0, main_arg1, main_v0] _ _ _ _) _).trans ?_
  refine (cat3 _ _ _ _ a h x).trans ?_
  dsimp only [Matrix.cons_val]
  after_reads_simp
  split_ifs
  · rfl
  · rfl
  · pointwise

theorem read_v11 (W : Valuation τ sig (Elt Ideal)) (a : Fin 16384) (h : Fin 6) (x : Fin 256) :
    StableHlo.upto hostOps0 W 15 main_v11 (ix3 a h x)
      = if h1 : x.val < 128 then W main_arg2 (ix3 a h ⟨x.val, h1⟩) else if h2 : x.val - 128 < 64 then W main_arg3 (ix2 a ⟨x.val - 128, h2⟩) else (0 : EReal) := by
  refine (congrFun (StableHlo.upto_last_write (i := 14) [] rfl rfl (by decide) W) _).trans ?_
  refine (congrFun (StableHlo.nary_result' ![main_arg2, main_v2, main_v0] _ _ _ _) _).trans ?_
  refine (cat3 _ _ _ _ a h x).trans ?_
  dsimp only [Matrix.cons_val]
  after_reads_simp
  split_ifs
  · rfl
  · pointwise
  · pointwise

theorem read_v13 (W : Valuation τ sig (Elt Ideal)) (a : Fin 16384) (h : Fin 6) (x : Fin 256) :
    StableHlo.after hostOps0 W main_v13 (ix2 a (qcol h x)) = StableHlo.upto hostOps0 W 15 main_v11 (ix3 a h x) := by
  rw [StableHlo.after_last_write (i := 16) (hostOps0_W.drop 17) rfl rfl (by decide) W, StableHlo.unary_result',
    StableHlo.upto_last_write (i := 15) [] rfl rfl (by decide) W, StableHlo.reshape_result']
  exact (show _ = (shapeCast S16384x1536 (StableHlo.upto hostOps0 W 15 main_v11 : FVec Ideal S16384x6x256 .f32) shapeCasts_S16384x6x256_S16384x1536) (ix2 a (qcol h x))
    from rfl).trans (cast_cols _ _ a h x)

theorem read_v10 (W : Valuation τ sig (Elt Ideal)) (a : Fin 16384) (h : Fin 6) (x : Fin 256) :
    StableHlo.after hostOps0 W main_v10 (ix2 a (qcol h x))
      = Ideal.div (StableHlo.upto hostOps0 W 5 main_v3 (ix3 a h x)) ((Real.sqrt 192 * Real.log 2 : ℝ) : EReal) := by
  rw [StableHlo.after_last_write (i := 13) (hostOps0_W.drop 14) rfl rfl (by decide) W, StableHlo.unary_result',
    StableHlo.upto_last_write (i := 12) [] rfl rfl (by decide) W, StableHlo.binary_result',
    StableHlo.upto_last_write (r := main_v4) (i := 5) ((hostOps0_W.drop 6).take 6) rfl rfl (by decide) W, StableHlo.reshape_result']
  generalize StableHlo.upto hostOps0 W 5 _ = X
  after_reads_simp
  refine (show _ = Ideal.div ((shapeCast S16384x1536 (X : FVec Ideal S16384x6x256 .f32) shapeCasts_S16384x6x256_S16384x1536) (ix2 a (qcol h x)))
    (Ideal.sqrt (Ideal.ofBits .f32 1128267776#32) * Ideal.log (Ideal.ofBits .f32 1073741824#32)) from rfl).trans ?_
  rw [cast_cols]
  have e1 : Ideal.ofBits .f32 1128267776#32 = ((192 : ℝ) : EReal) := by
    simp [Ideal.ofBits, Ideal.ieee, -EReal.coe_mul]; norm_num
  have e2 : Ideal.ofBits .f32 1073741824#32 = ((2 : ℝ) : EReal) := by
    simp [Ideal.ofBits, Ideal.ieee, -EReal.coe_mul]; norm_num
  have e3 : Ideal.log ((2 : ℝ) : EReal) = ((Real.log 2 : ℝ) : EReal) := (Ideal.log_coe 2).trans (if_neg (by norm_num))
  have e4 : Ideal.sqrt ((192 : ℝ) : EReal) = ((Real.sqrt 192 : ℝ) : EReal) := (Ideal.sqrt_coe 192).trans (if_neg (by norm_num))
  rw [e1, e2, e3, e4, EReal.coe_mul]

theorem read_v15 (W : Valuation τ sig (Elt Ideal)) (a : Fin 16384) (h : Fin 6) (x : Fin 128) :
    StableHlo.after hostOps0 W main_v15 (ix2 a (vcol h x)) = W main_arg4 (ix3 a h x) := by
  rw [StableHlo.after_last_write (i := 18) [] rfl rfl (by decide) W, StableHlo.unary_result',
    StableHlo.upto_last_write (i := 17) [] rfl rfl (by decide) W, StableHlo.reshape_result',
    StableHlo.upto_unwritten (hostOps0_W.take 17) rfl (by decide) W]
  exact cast_vcols _ _ a h x

/-- The columns of one head: 128 of the first part, 64 of the second, 64 zeros. -/
def cat (n : S16384x6x128.Idx → ℝ) (r : Fin 16384 → Fin 6 → Fin 64 → ℝ) (h : Fin 6) (a : Fin 16384) (x : Fin 256) : ℝ :=
  if h1 : x.val < 128 then n (ix3 a h ⟨x.val, h1⟩) else if h2 : x.val - 128 < 64 then r a h ⟨x.val - 128, h2⟩ else 0

section
variable (qn : S16384x6x128.Idx → ℝ) (qr : S16384x6x64.Idx → ℝ) (kn : S16384x6x128.Idx → ℝ) (kr : S16384x64.Idx → ℝ)
  (v : S16384x6x128.Idx → ℝ) (d : S16384x768.Idx → ℝ)

/-- A head's keys. -/
def Kr : Fin 6 → Fin 16384 → Fin 256 → ℝ := cat kn fun a _ x => kr (ix2 a x)
/-- A head's queries as they are given. -/
def Q0 : Fin 6 → Fin 16384 → Fin 256 → ℝ := cat qn fun a h x => qr (ix3 a h x)
/-- A head's queries as the kernels read them. -/
def Qr : Fin 6 → Fin 16384 → Fin 256 → ℝ := fun h a x => Q0 qn qr h a x / (Real.sqrt 192 * Real.log 2)
/-- A head's values. -/
def Vr : Fin 6 → Fin 16384 → Fin 128 → ℝ := fun h a x => v (ix3 a h x)
/-- A head's cotangents. -/
def Dr : Fin 6 → Fin 16384 → Fin 128 → ℝ := fun h a x => d (ix2 a (vcol h x))

variable (hqn : m ((c.tc : Thread nD τ).loc main_arg0) = fun i => (qn i : EReal))
  (hqr : m ((c.tc : Thread nD τ).loc main_arg1) = fun i => (qr i : EReal))
  (hkn : m ((c.tc : Thread nD τ).loc main_arg2) = fun i => (kn i : EReal))
  (hkr : m ((c.tc : Thread nD τ).loc main_arg3) = fun i => (kr i : EReal))
  (hv : m ((c.tc : Thread nD τ).loc main_arg4) = fun i => (v i : EReal))
  (hd : m ((c.tc : Thread nD τ).loc main_arg5) = fun i => (d i : EReal))

include hqn hqr in
theorem host_q (a : Fin 16384) (h : Fin 6) (x : Fin 256) : V1 m ρ c main_v10 (ix2 a (qcol h x)) = ((Qr qn qr h a x : ℝ) : EReal) := by
  refine (read_v10 (W0 m ρ c) a h x).trans ?_
  have hne : Real.sqrt 192 * Real.log 2 ≠ 0 := mul_ne_zero (by positivity) (Real.log_pos (by norm_num)).ne'
  rw [read_v3, Ideal.div_coe hne]
  have e0 : ∀ i, W0 m ρ c main_arg0 i = (qn i : EReal) := fun i => congrFun hqn i
  have e1 : ∀ i, W0 m ρ c main_arg1 i = (qr i : EReal) := fun i => congrFun hqr i
  unfold Qr Q0 cat
  simp only [e0, e1]
  split_ifs <;> norm_cast <;> ring_nf

include hkn hkr in
theorem host_k (a : Fin 16384) (h : Fin 6) (x : Fin 256) : V1 m ρ c main_v13 (ix2 a (qcol h x)) = ((Kr kn kr h a x : ℝ) : EReal) := by
  refine (read_v13 (W0 m ρ c) a h x).trans ?_
  rw [read_v11]
  have e0 : ∀ i, W0 m ρ c main_arg2 i = (kn i : EReal) := fun i => congrFun hkn i
  have e1 : ∀ i, W0 m ρ c main_arg3 i = (kr i : EReal) := fun i => congrFun hkr i
  unfold Kr cat
  simp only [e0, e1]
  split_ifs <;> norm_cast

include hv in
theorem host_v (a : Fin 16384) (h : Fin 6) (x : Fin 128) : V1 m ρ c main_v15 (ix2 a (vcol h x)) = ((Vr v h a x : ℝ) : EReal) :=
  (read_v15 (W0 m ρ c) a h x).trans (congrFun hv _)

include hqn hqr hkn hkr hv in
/-- What the second kernel reads: the host's arrays and what the first one left. -/
theorem entry1 :
    (∀ a h x, V3 m ρ c main_v10 (ix2 a (qcol h x)) = ((Qr qn qr h a x : ℝ) : EReal))
    ∧ (∀ a h x, V3 m ρ c main_v13 (ix2 a (qcol h x)) = ((Kr kn kr h a x : ℝ) : EReal))
    ∧ (∀ a h x, V3 m ρ c main_v15 (ix2 a (vcol h x)) = ((Vr v h a x : ℝ) : EReal))
    ∧ V3 m ρ c main_v16_0 = oArr (Qr qn qr) (Kr kn kr) (Vr v)
    ∧ V3 m ρ c main_v16_1 = lseArr (Qr qn qr) (Kr kn kr)
    ∧ V3 m ρ c main_v16_2 = lseRowArr (Qr qn qr) (Kr kn kr) := by
  have hq := host_q m ρ c qn qr hqn hqr
  have hk := host_k m ρ c kn kr hkn hkr
  have hv := host_v m ρ c v hv
  refine ⟨fun a h x => ?_, fun a h x => ?_, fun a h x => ?_, ?_, ?_, ?_⟩
  · exact (congrFun ((W3_of m ρ c main_v10 (by decide)).trans (W2_of m ρ c main_v10 (by decide))) _).trans (hq a h x)
  · exact (congrFun ((W3_of m ρ c main_v13 (by decide)).trans (W2_of m ρ c main_v13 (by decide))) _).trans (hk a h x)
  · exact (congrFun ((W3_of m ρ c main_v15 (by decide)).trans (W2_of m ρ c main_v15 (by decide))) _).trans (hv a h x)
  · exact (W3_of m ρ c main_v16_0 (by decide)).trans ((W2_arr m ρ c 3).trans (arr0_o (V1 m ρ) c _ _ _ hq hk hv))
  · exact (W3_of m ρ c main_v16_1 (by decide)).trans ((W2_arr m ρ c 4).trans (arr0_lse (V1 m ρ) c _ _ _ hq hk hv))
  · exact (W3_of m ρ c main_v16_2 (by decide)).trans ((W2_arr m ρ c 5).trans (arr0_lse_row (V1 m ρ) c _ _ _ hq hk hv))

include hd in
theorem host_d (a : Fin 16384) (h : Fin 6) (x : Fin 128) : V3 m ρ c main_v17 (ix2 a (vcol h x)) = ((Dr d h a x : ℝ) : EReal) := by
  have e : W2 m ρ c main_arg5 = m ((c.tc : Thread nD τ).loc main_arg5) := W2_args m ρ c main_arg5 (by decide)
  show StableHlo.after hostOps1 (W2 m ρ c) main_v17 _ = _
  rw [StableHlo.after_last_write (i := 0) [] rfl rfl (by decide), StableHlo.unary_result', StableHlo.upto_zero, e, hd]
  rfl

include hqn hqr hkn hkr hv hd in
/-- The four results. -/
theorem results :
    W5 m ρ c main_v16_0 = oArr (Qr qn qr) (Kr kn kr) (Vr v)
    ∧ W5 m ρ c main_v18_0 = dqArr (Qr qn qr) (Kr kn kr) (Vr v) (Dr d)
    ∧ W5 m ρ c main_v19_0 = dkArr (Qr qn qr) (Kr kn kr) (Vr v) (Dr d)
    ∧ W5 m ρ c main_v19_1 = dvArr (Qr qn qr) (Kr kn kr) (Dr d) := by
  obtain ⟨hq, hk, hv', ho, hl, hlr⟩ := entry1 m ρ c qn qr kn kr v hqn hqr hkn hkr hv
  have hd' := host_d m ρ c d hd
  have q4 : ∀ a h x, V4 m ρ c main_v10 (ix2 a (qcol h x)) = ((Qr qn qr h a x : ℝ) : EReal) := fun a h x =>
    (congrFun (W4_of m ρ c main_v10 (by decide)) _).trans (hq a h x)
  have k4 : ∀ a h x, V4 m ρ c main_v13 (ix2 a (qcol h x)) = ((Kr kn kr h a x : ℝ) : EReal) := fun a h x =>
    (congrFun (W4_of m ρ c main_v13 (by decide)) _).trans (hk a h x)
  have v4 : ∀ a h x, V4 m ρ c main_v15 (ix2 a (vcol h x)) = ((Vr v h a x : ℝ) : EReal) := fun a h x =>
    (congrFun (W4_of m ρ c main_v15 (by decide)) _).trans (hv' a h x)
  have d4 : ∀ a h x, V4 m ρ c main_v17 (ix2 a (vcol h x)) = ((Dr d h a x : ℝ) : EReal) := fun a h x =>
    (congrFun (W4_of m ρ c main_v17 (by decide)) _).trans (hd' a h x)
  have l4 : V4 m ρ c main_v16_2 = lseRowArr (Qr qn qr) (Kr kn kr) := (W4_of m ρ c main_v16_2 (by decide)).trans hlr
  have e4 : V4 m ρ c main_v18_1 = dlArr (Qr qn qr) (Kr kn kr) (Vr v) (Dr d) :=
    (W4_arr m ρ c 7).trans (arr1_dl (V3 m ρ) c _ _ _ _ hd' ho)
  refine ⟨?_, ?_, ?_, ?_⟩
  · exact (W5_of m ρ c main_v16_0 (by decide)).trans ((W4_of m ρ c main_v16_0 (by decide)).trans ho)
  · exact (W5_of m ρ c main_v18_0 (by decide)).trans ((W4_arr m ρ c 6).trans (arr1_dq (V3 m ρ) c _ _ _ _ hq hk hv' hd' hl ho))
  · exact (W5_arr m ρ c 6).trans (arr2_dk (V4 m ρ) c _ _ _ _ q4 k4 v4 d4 l4 e4)
  · exact (W5_arr m ρ c 7).trans (arr2_dv (V4 m ρ) c _ _ _ q4 k4 d4 l4)

end

end Cert.Att
end
end
-- ==== Proof.AttRef.lean ====
module

public import proofs.«01_k».proof.Proof.AttMask
public import proofs.«01_k».proof.Proof.AttHost

/-! What attention's reference computes up to the gradient of the scores, on real arguments. -/

@[expose] public section

set_option maxRecDepth 16384

noncomputable section

namespace Cert.AttRefIdeal.Pf

open Idealize.ShloMosaic Idealize.ShloMosaic.TcCoe
open Cert.AttRefIdeal Cert.AttRefIdeal.Gen Cert.AttRefIdeal.Read
open Cert.AttSpec Cert.Online
open Cert.Att (cat Kr Q0 Qr Vr Dr vcol qcol)

/-- The word of the square root of 192. -/
theorem root : Ideal.sqrt (Ideal.ofBits FTy.f32 1128267776#32) = ((Real.sqrt 192 : ℝ) : EReal) := by
  have e : Ideal.ofBits FTy.f32 1128267776#32 = ((192 : ℝ) : EReal) := by
    simp [Ideal.ofBits, Ideal.ieee, -EReal.coe_mul]; norm_num
  rw [e]
  exact (Ideal.sqrt_coe 192).trans (if_neg (by norm_num))

theorem root_pos : 0 < Real.sqrt 192 := Real.sqrt_pos.mpr (by norm_num)

theorem log_pos : 0 < Real.log 2 := Real.log_pos (by norm_num)

/-- Finitely many sums of real numbers. -/
theorem sum_real {ι : Type} [Fintype ι] (f g : ι → ℝ) : ∑ i, (f i : EReal) * (g i : EReal) = ((∑ i, f i * g i : ℝ) : EReal) := by
  simp only [← EReal.coe_mul, Cert.Finite.coe_sum]

/-- A sum over the 256 columns of a product with a packed array: its two parts. -/
theorem sum_cat (n n' : S16384x6x128.Idx → ℝ) (r r' : Fin 16384 → Fin 6 → Fin 64 → ℝ) (h : Fin 6) (a b : Fin 16384) :
    ∑ x, cat n r h a x * cat n' r' h b x = ∑ x : Fin 128, n (ix3 a h x) * n' (ix3 b h x) + ∑ x : Fin 64, r a h x * r' b h x := by
  have e := Fin.sum_univ_add (M := ℝ) (a := 128) (b := 128) fun x : Fin 256 => cat n r h a x * cat n' r' h b x
  have e' := Fin.sum_univ_add (M := ℝ) (a := 64) (b := 64) fun x : Fin 128 => cat n r h a (Fin.natAdd 128 x) * cat n' r' h b (Fin.natAdd 128 x)
  refine e.trans ?_
  refine congrArg₂ (· + ·) (Finset.sum_congr rfl fun x _ => ?_) (e'.trans ?_)
  · have hx := x.isLt
    unfold cat
    rw [dif_pos (show (Fin.castAdd 128 x).val < 128 from hx), dif_pos (show (Fin.castAdd 128 x).val < 128 from hx)]
    rfl
  · refine (congrArg₂ (· + ·) (Finset.sum_congr rfl fun x _ => ?_) (Finset.sum_eq_zero fun x _ => ?_)).trans (add_zero _)
    · have hx := x.isLt
      have e1 : ¬ (Fin.natAdd 128 (Fin.castAdd 64 x)).val < 128 := by simp
      have e2 : (Fin.natAdd 128 (Fin.castAdd 64 x)).val - 128 < 64 := by simp
      have e3 : (⟨(Fin.natAdd 128 (Fin.castAdd 64 x)).val - 128, e2⟩ : Fin 64) = x := Fin.ext (by simp)
      unfold cat
      rw [dif_neg e1, dif_pos e2, dif_neg e1, dif_pos e2, e3]
    · have e1 : ¬ (Fin.natAdd 128 (Fin.natAdd 64 x)).val < 128 := by simp
      have e2 : ¬ (Fin.natAdd 128 (Fin.natAdd 64 x)).val - 128 < 64 := by simp
      unfold cat
      rw [dif_neg e1, dif_neg e2, zero_mul]

theorem scalar_prob {W ζ μ : ℝ} (hz : ζ ≠ 0) (hm : μ ≠ 0) : W * μ * (1 / (ζ * μ)) = W / ζ := by field_simp

theorem scalar_term {A W ζ μ : ℝ} (hz : ζ ≠ 0) (hm : μ ≠ 0) : A * (1 / (ζ * μ * (ζ * μ))) * (W * μ) = A * W * (1 / (ζ * (ζ * μ))) := by field_simp

theorem scalar_sum {A B ζ μ : ℝ} (hz : ζ ≠ 0) (hm : μ ≠ 0) : A * (1 / (ζ * μ)) + -(B * (1 / (ζ * (ζ * μ)))) = (A - B / ζ) / (ζ * μ) := by
  field_simp; ring

theorem scalar_grad {A W ζ μ r : ℝ} (hz : ζ ≠ 0) (hm : μ ≠ 0) : A / (ζ * μ) * (W * μ) * (1 / r) = W / ζ * A / r := by
  field_simp

section
variable (Q K : Fin 16384 → Fin 256 → ℝ) (V D : Fin 16384 → Fin 128 → ℝ)

/-- A weight is an exponential of the score times the logarithm of two. -/
theorem w_exp (a b : Fin 16384) (M : ℝ) : w Q K a b * Real.exp (-M) = if sees a b then Real.exp (sc Q K a b * Real.log 2 - M) else 0 := by
  unfold w weight
  split
  · rw [sub_eq_add_neg, Real.exp_add]
    refine congrArg (fun q : ℝ => q * Real.exp (-M)) ?_
    exact (Real.rpow_def_of_pos (by norm_num) _).trans (by rw [mul_comm])
  · rw [zero_mul]

/-- A row's product of output and cotangent is its mean of the probabilities' gradients. -/
theorem dl_eq (a : Fin 16384) : dl Q K V D a = (∑ b, dP V D a b * w Q K a b) / Z Q K a := by
  unfold dl o num dP
  rw [Finset.sum_congr rfl fun x _ => (mul_div_assoc (D a x) (∑ b, w Q K a b * V b x) (Z Q K a)).symm, ← Finset.sum_div]
  refine congrArg (fun q : ℝ => q / Z Q K a) ?_
  rw [Finset.sum_congr rfl fun x _ => Finset.mul_sum Finset.univ (fun b => w Q K a b * V b x) (D a x),
    Finset.sum_congr rfl fun b _ => Finset.sum_mul Finset.univ (fun x => D a x * V b x) (w Q K a b), Finset.sum_comm]
  exact Finset.sum_congr rfl fun b _ => Finset.sum_congr rfl fun x _ => by ring

end

variable (x0 : FVec Ideal S16384x6x128 .f32) (x1 : FVec Ideal S16384x6x64 .f32) (x2 : FVec Ideal S16384x6x128 .f32)
  (x3 : FVec Ideal S16384x64 .f32) (x4 : FVec Ideal S16384x6x128 .f32) (x5 : FVec Ideal S16384x768 .f32)
  (qn : S16384x6x128.Idx → ℝ) (qr : S16384x6x64.Idx → ℝ) (kn : S16384x6x128.Idx → ℝ) (kr : S16384x64.Idx → ℝ)
  (v : S16384x6x128.Idx → ℝ) (d : S16384x768.Idx → ℝ)
  (h0 : ∀ i, x0 i = (qn i : EReal)) (h1 : ∀ i, x1 i = (qr i : EReal)) (h2 : ∀ i, x2 i = (kn i : EReal)) (h3 : ∀ i, x3 i = (kr i : EReal))
  (h4 : ∀ i, x4 i = (v i : EReal)) (h5 : ∀ i, x5 i = (d i : EReal))

include h0 h1 h2 h3 in
/-- The scores. -/
theorem scores (h : Fin 6) (a b : Fin 16384) :
    val_main_v9 (F := Ideal) x0 x1 x2 x3 (ix3 h a b) = ((sc (Qr qn qr h) (Kr kn kr h) a b * Real.log 2 : ℝ) : EReal) := by
  pointwise [val_main_v9, val_main_v8, val_main_v7, val_main_cst, val_main_v6, val_main_v4, val_main_v5, val_main_v1, val_main_v0]
  simp only [h0, h1, h2, h3, sum_real]
  rw [root, ← EReal.coe_add, Ideal.div_coe root_pos.ne', ← EReal.coe_mul]
  refine congrArg Real.toEReal ?_
  have e : sc (Qr qn qr h) (Kr kn kr h) a b = (∑ x, cat qn (fun a h x => qr (ix3 a h x)) h a x * cat kn (fun a _ x => kr (ix2 a x)) h b x) / (Real.sqrt 192 * Real.log 2) := by
    unfold sc Qr Kr Q0
    rw [Finset.sum_div]
    exact Finset.sum_congr rfl fun x _ => by ring
  rw [e, sum_cat]
  have := root_pos.ne'
  have := log_pos.ne'
  field_simp

include h0 h1 h2 h3 in
/-- The masked scores. -/
theorem masked_scores (h : Fin 6) (a b : Fin 16384) :
    val_main_v15_0 (F := Ideal) x0 x1 x2 x3 (ix3 h a b) = masked (sees a b) (sc (Qr qn qr h) (Kr kn kr h) a b * Real.log 2) := by
  have e : val_main_call1_v2 (F := Ideal) (ix3 h a b) = ⊥ := by
    pointwise [val_main_call1_v2, val_main_call1_v0, val_main_cst_0]
    rfl
  pointwise [val_main_v15_0, mask]
  rw [e, scores x0 x1 x2 x3 qn qr kn kr h0 h1 h2 h3]
  rfl

include h0 h1 h2 h3 in
/-- The largest score of a row is a real number. -/
theorem top (h : Fin 6) (a : Fin 16384) : ∃ M : ℝ, val_main_v16 (F := Ideal) x0 x1 x2 x3 (ix2 h a) = (M : EReal) := by
  have e : val_main_cst_1 (F := Ideal) (Shape.Idx.first h_S_) = ⊥ := by
    rfl
  pointwise [val_main_v16]
  rw [e]
  simp only [masked_scores x0 x1 x2 x3 qn qr kn kr h0 h1 h2 h3]
  exact fold_max _ _ ⟨a, le_refl _⟩

include h0 h1 h2 h3 in
/-- The exponentials. -/
theorem exps (h : Fin 6) (a b : Fin 16384) (M : ℝ) (hM : val_main_v16 (F := Ideal) x0 x1 x2 x3 (ix2 h a) = (M : EReal)) :
    val_main_v36 (F := Ideal) x0 x1 x2 x3 (ix3 h a b) = ((w (Qr qn qr h) (Kr kn kr h) a b * Real.exp (-M) : ℝ) : EReal) := by
  have e : val_main_v23 (F := Ideal) x0 x1 x2 x3 (ix2 h a) = (M : EReal) := by
    have e1 : val_main_v22 (F := Ideal) (ix2 h a) = ⊥ := by
      pointwise [val_main_v22, val_main_cst_3]
      rfl
    rw [val_main_v23_apply, hM, e1]
    exact max_bot_left (M : EReal)
  have e' : val_main_v34 (F := Ideal) x0 x1 x2 x3 (ix3 h a b) = (M : EReal) := by
    refine Eq.trans ?_ e
    pointwise [val_main_v34, val_main_v33]
  rw [val_main_v36_apply, val_main_v35_apply, e', masked_scores x0 x1 x2 x3 qn qr kn kr h0 h1 h2 h3, w_exp]
  show Ideal.exp (masked _ _ - (M : EReal)) = _
  unfold masked
  split
  · rw [← EReal.coe_sub, Ideal.exp_coe]
  · simp

include h0 h1 h2 h3 in
/-- The exponentials' sum. -/
theorem exp_sum (h : Fin 6) (a : Fin 16384) (M : ℝ) (hM : val_main_v16 (F := Ideal) x0 x1 x2 x3 (ix2 h a) = (M : EReal)) :
    val_main_v37 (F := Ideal) x0 x1 x2 x3 (ix2 h a) = ((Z (Qr qn qr h) (Kr kn kr h) a * Real.exp (-M) : ℝ) : EReal) := by
  pointwise [val_main_v37, val_main_cst_9]
  simp only [exps x0 x1 x2 x3 qn qr kn kr h0 h1 h2 h3 _ _ _ M hM, Cert.Finite.coe_sum, ← Finset.sum_mul]
  rfl

include h0 h1 h2 h3 in
/-- The probabilities. -/
theorem probs (h : Fin 6) (a b : Fin 16384) :
    val_main_v40 (F := Ideal) x0 x1 x2 x3 (ix3 h a b) = ((P (Qr qn qr h) (Kr kn kr h) a b : ℝ) : EReal) := by
  obtain ⟨M, hM⟩ := top x0 x1 x2 x3 qn qr kn kr h0 h1 h2 h3 h a
  pointwise [val_main_v40, val_main_v39, val_main_v38]
  have z := (Z_pos (Qr qn qr h) (Kr kn kr h) a).ne'
  have m := (Real.exp_pos (-M)).ne'
  rw [exps x0 x1 x2 x3 qn qr kn kr h0 h1 h2 h3 _ _ _ M hM, exp_sum x0 x1 x2 x3 qn qr kn kr h0 h1 h2 h3 _ _ M hM,
    Ideal.div_coe (mul_ne_zero z m), ← EReal.coe_mul]
  refine congrArg Real.toEReal ?_
  exact scalar_prob z m

include h4 h5 in
/-- The gradients of the probabilities. -/
theorem prob_grads (h : Fin 6) (a b : Fin 16384) :
    val_main_v49 (F := Ideal) x4 x5 (ix3 h a b) = ((dP (Vr v h) (Dr d h) a b : ℝ) : EReal) := by
  pointwise [val_main_v49, val_main_v48, val_main_v47]
  simp only [h4, h5, sum_real]
  refine congrArg Real.toEReal ?_
  refine Finset.sum_congr rfl fun x _ => congrArg (fun q => d (ix2 a q) * v (ix3 b h x)) (Fin.ext ?_)
  show h.val * 128 + x.val = 128 * h.val + x.val
  omega

include h0 h1 h2 h3 h5 in
/-- The gradients of the values. -/
theorem value_grads (h : Fin 6) (b : Fin 16384) (x : Fin 128) :
    val_main_v51 (F := Ideal) x0 x1 x2 x3 x5 (ix3 b h x) = ((dv (Qr qn qr h) (Kr kn kr h) (Dr d h) b x : ℝ) : EReal) := by
  pointwise [val_main_v51, val_main_v50, val_main_v48, val_main_v47]
  simp only [probs x0 x1 x2 x3 qn qr kn kr h0 h1 h2 h3, h5, sum_real]
  refine congrArg Real.toEReal ?_
  refine Finset.sum_congr rfl fun a _ => (mul_comm _ _).trans ?_
  refine congrArg (fun q => P (Qr qn qr h) (Kr kn kr h) a b * d (ix2 a q)) (Fin.ext ?_)
  show h.val * 128 + x.val = 128 * h.val + x.val
  omega

include h0 h1 h2 h3 h4 h5 in
/-- The gradients of the scores, divided by the root of 192. -/
theorem score_grads (h : Fin 6) (a b : Fin 16384) :
    val_main_v66 (F := Ideal) x0 x1 x2 x3 x4 x5 (ix3 h a b)
      = ((dS (Qr qn qr h) (Kr kn kr h) (Vr v h) (Dr d h) a b / Real.sqrt 192 : ℝ) : EReal) := by
  obtain ⟨M, hM⟩ := top x0 x1 x2 x3 qn qr kn kr h0 h1 h2 h3 h a
  have z := (Z_pos (Qr qn qr h) (Kr kn kr h) a).ne'
  have m := (Real.exp_pos (-M)).ne'
  have e38 : val_main_v38 (F := Ideal) x0 x1 x2 x3 (ix3 h a 0) = ((Z (Qr qn qr h) (Kr kn kr h) a * Real.exp (-M) : ℝ) : EReal) := by
    refine Eq.trans ?_ (exp_sum x0 x1 x2 x3 qn qr kn kr h0 h1 h2 h3 _ _ M hM)
    pointwise [val_main_v38]
  have e62 : val_main_v62 (F := Ideal) x0 x1 x2 x3 x4 x5 (ix3 h a b)
      = (((dP (Vr v h) (Dr d h) a b - dl (Qr qn qr h) (Kr kn kr h) (Vr v h) (Dr d h) a) / (Z (Qr qn qr h) (Kr kn kr h) a * Real.exp (-M)) : ℝ) : EReal) := by
    pointwise [val_main_v62, val_main_v61, val_main_v60, val_main_v59, val_main_v58, val_main_v57, val_main_v56, val_main_v55, val_main_v54, val_main_v53,
      val_main_v52, val_main_v43, val_main_v42, val_main_v41, val_main_cst_10, val_main_cst_11, val_main_cst_12]
    simp only [e38, prob_grads x4 x5 v d h4 h5, exps x0 x1 x2 x3 qn qr kn kr h0 h1 h2 h3 _ _ _ M hM]
    rw [Ideal.div_coe (mul_ne_zero z m), ← EReal.coe_mul (Z _ _ _ * _), Ideal.div_coe (mul_ne_zero (mul_ne_zero z m) (mul_ne_zero z m))]
    simp only [one_mul, ← EReal.coe_mul, Cert.Finite.coe_sum, ← EReal.coe_neg, ← EReal.coe_add, Finset.univ_unique, Finset.sum_singleton, scalar_term z m, ← Finset.sum_mul]
    refine congrArg Real.toEReal ?_
    rw [dl_eq]
    exact scalar_sum z m
  have e0 : val_main_call2_v0 (F := Ideal) (ix3 h a b) = ((0 : ℝ) : EReal) := by
    pointwise [val_main_call2_v0, val_main_call2_cst]
    exact EReal.coe_zero.symm
  pointwise [val_main_v66, val_main_v65, val_main_v7, val_main_cst, val_main_v64, val_main_v63, mask]
  rw [e62, e0, exps x0 x1 x2 x3 qn qr kn kr h0 h1 h2 h3 _ _ _ M hM, root, Ideal.div_coe root_pos.ne']
  by_cases hs : sees a b
  · rw [if_pos hs, ← EReal.coe_mul, ← EReal.coe_mul]
    refine congrArg Real.toEReal ?_
    exact scalar_grad z m
  · have e : P (Qr qn qr h) (Kr kn kr h) a b = 0 := by
      unfold P w weight
      rw [if_neg hs, zero_div]
    rw [if_neg hs, ← EReal.coe_mul]
    refine congrArg Real.toEReal ?_
    unfold dS
    rw [e, zero_mul, zero_mul, zero_div]

include h0 h1 h2 h3 h4 h5 in
/-- The packed gradients of the queries. -/
theorem query_grads (a : Fin 16384) (h : Fin 6) (y : Fin 256) :
    val_main_v76 (F := Ideal) x0 x1 x2 x3 x4 x5 (ix3 a h y)
      = ((sdq (Qr qn qr h) (Kr kn kr h) (Vr v h) (Dr d h) a y * (Real.sqrt 192)⁻¹ : ℝ) : EReal) := by
  pointwise [val_main_v76, val_main_v74, val_main_v73, val_main_v70, val_main_v69, val_main_v75, val_main_v1, val_main_v0, val_main_cst_13]
  simp only [score_grads x0 x1 x2 x3 x4 x5 qn qr kn kr v d h0 h1 h2 h3 h4 h5, h2, h3, sum_real]
  unfold sdq Kr cat
  rw [Finset.sum_mul]
  by_cases p : y.val < 128
  · rw [dif_pos p]
    refine congrArg Real.toEReal ?_
    refine Finset.sum_congr rfl fun b _ => ?_
    rw [dif_pos p]
    ring
  by_cases q : y.val - 128 < 64
  · rw [dif_neg p, dif_pos q]
    refine congrArg Real.toEReal ?_
    refine Finset.sum_congr rfl fun b _ => ?_
    rw [dif_neg p, dif_pos q]
    ring
  rw [dif_neg p, dif_neg q]
  refine EReal.coe_zero.symm.trans (congrArg Real.toEReal ?_)
  refine (Finset.sum_eq_zero fun b _ => ?_).symm
  rw [dif_neg p, dif_neg q]
  ring

include h0 h1 h2 h3 h4 h5 in
/-- The packed gradients of the keys. -/
theorem key_grads (b : Fin 16384) (h : Fin 6) (y : Fin 256) :
    val_main_v78 (F := Ideal) x0 x1 x2 x3 x4 x5 (ix3 b h y)
      = ((sdk (Qr qn qr h) (Kr kn kr h) (Vr v h) (Dr d h) b y * Real.log 2 : ℝ) : EReal) := by
  pointwise [val_main_v78, val_main_v72, val_main_v71, val_main_v68, val_main_v67, val_main_v75, val_main_v1, val_main_v0, val_main_cst_13]
  simp only [score_grads x0 x1 x2 x3 x4 x5 qn qr kn kr v d h0 h1 h2 h3 h4 h5, h0, h1, sum_real]
  have e : ∀ A B : ℝ, A * (B / (Real.sqrt 192 * Real.log 2)) * Real.log 2 = A / Real.sqrt 192 * B := by
    intro A B
    have := root_pos.ne'
    have := log_pos.ne'
    field_simp
  unfold sdk
  rw [Finset.sum_mul]
  unfold Qr
  rw [Finset.sum_congr rfl fun a _ => e (dS (fun a x => Q0 qn qr h a x / (Real.sqrt 192 * Real.log 2)) (Kr kn kr h) (Vr v h) (Dr d h) a b) (Q0 qn qr h a y)]
  unfold Q0 cat
  by_cases p : y.val < 128
  · rw [dif_pos p]
    refine congrArg Real.toEReal ?_
    refine Finset.sum_congr rfl fun a _ => ?_
    rw [dif_pos p]
  by_cases q : y.val - 128 < 64
  · rw [dif_neg p, dif_pos q]
    refine congrArg Real.toEReal ?_
    refine Finset.sum_congr rfl fun a _ => ?_
    rw [dif_neg p, dif_pos q]
  rw [dif_neg p, dif_neg q]
  refine EReal.coe_zero.symm.trans (congrArg Real.toEReal ?_)
  refine (Finset.sum_eq_zero fun a _ => ?_).symm
  rw [dif_neg p, dif_neg q, mul_zero]

include h0 h1 h2 h3 h4 h5 in
/-- The reference's second result: the gradients of the queries. -/
theorem dq_eq : val_main_v81 (F := Ideal) x0 x1 x2 x3 x4 x5 = Cert.Att.dqArr (Qr qn qr) (Kr kn kr) (Vr v) (Dr d) := by
  funext i
  idx_vars i
  have hi := i1.isLt
  have e : val_main_v81 (F := Ideal) x0 x1 x2 x3 x4 x5 (ix2 i0 i1)
      = val_main_v76 (F := Ideal) x0 x1 x2 x3 x4 x5 (ix3 i0 (⟨i1.val / 256, by omega⟩ : Fin 6) (⟨i1.val % 256, Nat.mod_lt _ (by decide)⟩ : Fin 256)) := by
    pointwise [val_main_v81, val_main_v77]
  exact e.trans (query_grads x0 x1 x2 x3 x4 x5 qn qr kn kr v d h0 h1 h2 h3 h4 h5 _ _ _)

include h0 h1 h2 h3 h4 h5 in
/-- The reference's third result: the gradients of the keys. -/
theorem dk_eq : val_main_v82 (F := Ideal) x0 x1 x2 x3 x4 x5 = Cert.Att.dkArr (Qr qn qr) (Kr kn kr) (Vr v) (Dr d) := by
  funext i
  idx_vars i
  have hi := i1.isLt
  have e : val_main_v82 (F := Ideal) x0 x1 x2 x3 x4 x5 (ix2 i0 i1)
      = val_main_v78 (F := Ideal) x0 x1 x2 x3 x4 x5 (ix3 i0 (⟨i1.val / 256, by omega⟩ : Fin 6) (⟨i1.val % 256, Nat.mod_lt _ (by decide)⟩ : Fin 256)) := by
    pointwise [val_main_v82, val_main_v79]
  exact e.trans (key_grads x0 x1 x2 x3 x4 x5 qn qr kn kr v d h0 h1 h2 h3 h4 h5 _ _ _)

include h0 h1 h2 h3 h5 in
/-- The reference's fourth result: the gradients of the values. -/
theorem dv_eq : val_main_v84 (F := Ideal) x0 x1 x2 x3 x5 = Cert.Att.dvArr (Qr qn qr) (Kr kn kr) (Dr d) := by
  funext i
  idx_vars i
  have hi := i1.isLt
  have e : val_main_v84 (F := Ideal) x0 x1 x2 x3 x5 (ix2 i0 i1)
      = val_main_v51 (F := Ideal) x0 x1 x2 x3 x5 (ix3 i0 (⟨i1.val / 128, by omega⟩ : Fin 6) (⟨i1.val % 128, Nat.mod_lt _ (by decide)⟩ : Fin 128)) := by
    pointwise [val_main_v84, val_main_v83]
  exact e.trans (value_grads x0 x1 x2 x3 x5 qn qr kn kr d h0 h1 h2 h3 h5 _ _ _)

include h0 h1 h2 h3 h4 in
/-- The outputs. -/
theorem outputs (h : Fin 6) (a : Fin 16384) (x : Fin 128) :
    val_main_v45 (F := Ideal) x0 x1 x2 x3 x4 (ix3 a h x) = ((o (Qr qn qr h) (Kr kn kr h) (Vr v h) a x : ℝ) : EReal) := by
  pointwise [val_main_v45, val_main_v44]
  simp only [probs x0 x1 x2 x3 qn qr kn kr h0 h1 h2 h3, h4, sum_real]
  refine congrArg Real.toEReal ?_
  unfold o num P
  rw [Finset.sum_div]
  refine Finset.sum_congr rfl fun b _ => ?_
  show v (ix3 b h x) * _ = w _ _ a b * v (ix3 b h x) / _
  ring

include h0 h1 h2 h3 h4 in
/-- The reference's first result: the outputs. -/
theorem o_eq : val_main_v80 (F := Ideal) x0 x1 x2 x3 x4 = Cert.Att.oArr (Qr qn qr) (Kr kn kr) (Vr v) := by
  funext i
  idx_vars i
  have hi := i1.isLt
  have e : val_main_v80 (F := Ideal) x0 x1 x2 x3 x4 (ix2 i0 i1)
      = val_main_v45 (F := Ideal) x0 x1 x2 x3 x4 (ix3 i0 (⟨i1.val / 128, by omega⟩ : Fin 6) (⟨i1.val % 128, Nat.mod_lt _ (by decide)⟩ : Fin 128)) := by
    pointwise [val_main_v80, val_main_v46]
  exact e.trans (outputs x0 x1 x2 x3 x4 qn qr kn kr v h0 h1 h2 h3 h4 _ _ _)

end Cert.AttRefIdeal.Pf
end
end
-- ==== Proof.AttClaim.lean ====
module

public import proofs.«01_k».proof.Defs
public import proofs.«01_k».proof.Proof.Gen.Att.Frame
public import proofs.«01_k».proof.Proof.Gen.AttIdeal.Frame
public import proofs.«01_k».proof.Proof.Gen.Pre_finite_att
public import proofs.«01_k».proof.Proof.Gen.AttRefIdeal.Run
public import proofs.«01_k».proof.Proof.AttRun
public import proofs.«01_k».proof.Proof.AttRef
public import Idealize.ShloMosaic.Lib.Claim

@[expose] public section

set_option maxRecDepth 16384

noncomputable section

/-! The claims about attention's output and gradients. -/

namespace Cert.Proof.Att

open Idealize.ShloMosaic Idealize.ShloMosaic.TcCoe Idealize.SL.Sem
open Cert.Att (Qr Kr Vr Dr)

theorem frame_kernel : Cert.quiescent_Att := fun m ρ _ => Cert.Att.Gen.frame m ρ

theorem frame_ideal : Cert.quiescent_AttIdeal := fun m ρ _ => Cert.AttIdeal.Gen.frame m ρ

theorem frame_ideal_pre : Cert.quiescent_AttIdeal_pre_finite_att := fun m ρ _ => Cert.AttIdeal.Gen.frame m ρ

theorem frame_ref : Cert.quiescent_AttRefIdeal := fun m ρ _ =>
  (θ_run Cert.AttRefIdeal.defs _ _).mono
    (fun r h => ⟨fun c => (h c).2.2.2.2, Idealize.ShloMosaic.sem_eq_zero_of_no_sems (by decide) r.2⟩)
    (Cert.AttRefIdeal.Value.run (F := Ideal) m ρ)

theorem frame_ref_pre : Cert.quiescent_AttRefIdeal_pre_finite_att := fun m ρ _ => frame_ref m ρ trivial

/-- Each named constant has the value its name says. -/
theorem preserves : Cert.preserves_Att_AttIdeal :=
  ⟨IdealRules.named_const.statement Cert.AttIdeal.κ "mask" .f32 0xF149F2CA#32 ⊥ rfl,
    IdealRules.named_const.statement Cert.AttIdeal.κ "log2e" .f32 0x3FB8AA3B#32 (((Real.log 2)⁻¹ : ℝ) : EReal) rfl,
    IdealRules.named_const.statement Cert.AttIdeal.κ "dq_scale" .f32 0x3D93CD3A#32 (((Real.sqrt 192)⁻¹ : ℝ) : EReal) rfl,
    IdealRules.named_const.statement Cert.AttIdeal.κ "ln2" .f32 0x3F317218#32 ((Real.log 2 : ℝ) : EReal) rfl⟩

/-- Where the predicate holds, each of its six arguments is an array of real numbers. -/
theorem reals (x0 : FVec Ideal Cert.Pre_finite_att.S16384x6x128 .f32) (x1 : FVec Ideal Cert.Pre_finite_att.S16384x6x64 .f32)
    (x2 : FVec Ideal Cert.Pre_finite_att.S16384x6x128 .f32) (x3 : FVec Ideal Cert.Pre_finite_att.S16384x64 .f32)
    (x4 : FVec Ideal Cert.Pre_finite_att.S16384x6x128 .f32) (x5 : FVec Ideal Cert.Pre_finite_att.S16384x768 .f32)
    (h : Cert.Pre_finite_att.fn (F := Ideal) x0 x1 x2 x3 x4 x5 = fun _ => 1#1) :
    (∃ r : Cert.Pre_finite_att.S16384x6x128.Idx → ℝ, x0 = fun i => (r i : EReal))
      ∧ (∃ r : Cert.Pre_finite_att.S16384x6x64.Idx → ℝ, x1 = fun i => (r i : EReal))
      ∧ (∃ r : Cert.Pre_finite_att.S16384x6x128.Idx → ℝ, x2 = fun i => (r i : EReal))
      ∧ (∃ r : Cert.Pre_finite_att.S16384x64.Idx → ℝ, x3 = fun i => (r i : EReal))
      ∧ (∃ r : Cert.Pre_finite_att.S16384x6x128.Idx → ℝ, x4 = fun i => (r i : EReal))
      ∧ ∃ r : Cert.Pre_finite_att.S16384x768.Idx → ℝ, x5 = fun i => (r i : EReal) := by
  have e := congrFun h (fun k => k.elim0)
  obtain ⟨e, e5⟩ := Cert.Finite.and_eq_one _ _ e
  obtain ⟨e, e4⟩ := Cert.Finite.and_eq_one _ _ e
  obtain ⟨e, e3⟩ := Cert.Finite.and_eq_one _ _ e
  obtain ⟨e, e2⟩ := Cert.Finite.and_eq_one _ _ e
  obtain ⟨e0, e1⟩ := Cert.Finite.and_eq_one _ _ e
  exact ⟨Cert.Finite.reals_of_all x0 _ (fun _ => Cert.Finite.inf_word) _ _ _ _ e0,
    Cert.Finite.reals_of_all x1 _ (fun _ => Cert.Finite.inf_word) _ _ _ _ e1,
    Cert.Finite.reals_of_all x2 _ (fun _ => Cert.Finite.inf_word) _ _ _ _ e2,
    Cert.Finite.reals_of_all x3 _ (fun _ => Cert.Finite.inf_word) _ _ _ _ e3,
    Cert.Finite.reals_of_all x4 _ (fun _ => Cert.Finite.inf_word) _ _ _ _ e4,
    Cert.Finite.reals_of_all x5 _ (fun _ => Cert.Finite.inf_word) _ _ _ _ e5⟩

/-- For finite arguments the kernels' output and gradients of queries, keys and values are those of the plain lines' derivative. -/
theorem value : Cert.algebraic_AttIdeal_AttRefIdeal_pre_finite_att := by
  intro m g m' g' hpre hagree
  refine ⟨fun c => Cert.AttIdeal.Gen.W5 m g c Cert.AttIdeal.main_v16_0, fun c => Cert.AttIdeal.Gen.W5 m g c Cert.AttIdeal.main_v18_0, fun c => Cert.AttIdeal.Gen.W5 m g c Cert.AttIdeal.main_v19_0,
    fun c => Cert.AttIdeal.Gen.W5 m g c Cert.AttIdeal.main_v19_1, Cert.Att.run m g, ?_⟩
  refine (θ_run Cert.AttRefIdeal.defs _ _).mono (fun r h c => ?_) (Cert.AttRefIdeal.Value.run (F := Ideal) m' g')
  obtain ⟨⟨qn, hqn⟩, ⟨qr, hqr⟩, ⟨kn, hkn⟩, ⟨kr, hkr⟩, ⟨v, hv⟩, ⟨d, hd⟩⟩ := reals _ _ _ _ _ _ (hpre c)
  obtain ⟨h0, h1, h2, h3, h4, h5⟩ := hagree c
  obtain ⟨wo, w0, w1, w2⟩ := Cert.Att.results m g c qn qr kn kr v d hqn hqr hkn hkr hv hd
  have a0 := fun i => congrFun (h0.trans hqn) i
  have a1 := fun i => congrFun (h1.trans hqr) i
  have a2 := fun i => congrFun (h2.trans hkn) i
  have a3 := fun i => congrFun (h3.trans hkr) i
  have a4 := fun i => congrFun (h4.trans hv) i
  have a5 := fun i => congrFun (h5.trans hd) i
  obtain ⟨ro, r0, r1, r2, rest⟩ := h c
  refine ⟨ro.trans ?_, r0.trans ?_, r1.trans ?_, r2.trans ?_, rest⟩
  · exact (Cert.AttRefIdeal.Read.val_main_v80_eq m' c).trans
      ((Cert.AttRefIdeal.Pf.o_eq _ _ _ _ _ qn qr kn kr v a0 a1 a2 a3 a4).trans wo.symm)
  · exact (Cert.AttRefIdeal.Read.val_main_v81_eq m' c).trans
      ((Cert.AttRefIdeal.Pf.dq_eq _ _ _ _ _ _ qn qr kn kr v d a0 a1 a2 a3 a4 a5).trans w0.symm)
  · exact (Cert.AttRefIdeal.Read.val_main_v82_eq m' c).trans
      ((Cert.AttRefIdeal.Pf.dk_eq _ _ _ _ _ _ qn qr kn kr v d a0 a1 a2 a3 a4 a5).trans w1.symm)
  · exact (Cert.AttRefIdeal.Read.val_main_v84_eq m' c).trans
      ((Cert.AttRefIdeal.Pf.dv_eq _ _ _ _ _ qn qr kn kr d a0 a1 a2 a3 a5).trans w2.symm)

end Cert.Proof.Att

end
-- ==== Proof.Rms.lean ====
module

public import Idealize.ShloMosaic.Lib.Pointwise

@[expose] public section

noncomputable section

/-! The gradient of a row's root mean square norm, as both programs compute it. -/

namespace Cert.Rms

open Idealize.ShloMosaic

variable {n : ℕ} (N e h : EReal) (x u : Fin n → EReal)

/-- The row's mean square, with the norm's offset. -/
def var : EReal := Ideal.div (∑ k, x k * x k) N + e

/-- The factor the row's entries have in the gradient, for the cotangent `u` of the row times its scale. -/
def slope : EReal := Ideal.div ((∑ k, x k * u k) * (h * Ideal.div (Ideal.rsqrt (var N e x)) (var N e x))) N

/-- The gradient of the row's entry `j`. -/
def grad (j : Fin n) : EReal := u j * Ideal.rsqrt (var N e x) + x j * slope N e h x u + slope N e h x u * x j

/-- The row's entry `j` after the norm, before the gain. -/
def unit (j : Fin n) : EReal := x j * Ideal.rsqrt (var N e x)

end Cert.Rms

end
-- ==== Proof.NormKernel.lean ====
module

public import proofs.«01_k».proof.Proof.Gen.NormIdeal.Value
public import Idealize.ShloMosaic.Lib.Pipeline.ValueKit
public import Idealize.ShloMosaic.Lib.Pointwise
public import proofs.«01_k».proof.Proof.Rms

@[expose] public section

set_option maxRecDepth 16384

noncomputable section

/-! What the kernel for the norm's gradient leaves in its two result arrays. -/

namespace Cert.NormIdeal.Pf

open Idealize.ShloMosaic Idealize.ShloMosaic.TcCoe Idealize.SL.Sem
open Idealize.ShloMosaic.Pipeline (Dat)
open Cert.NormIdeal Cert.NormIdeal.Gen

variable (m : (ℓ : Loc nD τ sig) → Buf (Elt Ideal) ℓ)

/-- The row length. -/
abbrev len : EReal := Ideal.ofBits .f32 0x44800000#32
/-- The norm's offset. -/
abbrev eps : EReal := Ideal.ofBits .f32 0x358637BD#32
/-- Minus one half. -/
abbrev mhalf : EReal := Ideal.ofBits .f32 0xBF000000#32

section
variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .bf16) (h3 : a3.IsWhole)
  (a4 : Memref sig .tc .vmem S512x1024 .f32) (h4 : a4.IsWhole) (a5 : Memref sig .tc .vmem S512x1024 .f32) (h5 : a5.IsWhole)
  (a6 : Memref sig .tc .vmem S1x1024 .f32) (h6 : a6.IsWhole)
  (X : FVec Ideal S512x1024 .f32) (W : FVec Ideal S1x1024 .f32) (D : FVec Ideal S512x1024 .bf16) (R : FVec Ideal S512x1024 .f32)
  (Z : FVec Ideal S1x1024 .f32) (r : Fin 512) (x : Fin 1024)

/-- A point's rows of the gradient, with the residual's. -/
theorem dx_A (hc0 : cond0_0 i) :
    out0_A_4 (F := Ideal) c i a1 h1 a2 h2 a3 h3 a4 h4 a5 h5 a6 h6 hc0 X W D R (ix2 r x)
      = Rms.grad len eps mhalf (fun k => X (ix2 r k)) (fun k => D (ix2 r k) * W (ix2 0 k)) x + R (ix2 r x) := by
  frame_out
  pointwise [k0_pay1, k0_pay2, k0_pay3, k0_pay4, k0_pay5, k0_pay6, k0_pay7]
  simp only [Finset.univ_unique, Finset.sum_singleton]
  rfl

/-- The same at a later point. -/
theorem dx_B (hc0 : ¬cond0_0 i) :
    out0_B_4 (F := Ideal) c i a1 h1 a2 h2 a3 h3 a4 h4 a5 h5 a6 h6 hc0 X W D R Z (ix2 r x)
      = Rms.grad len eps mhalf (fun k => X (ix2 r k)) (fun k => D (ix2 r k) * W (ix2 0 k)) x + R (ix2 r x) := by
  frame_out
  pointwise [k0_pay1, k0_pay2, k0_pay3, k0_pay4, k0_pay5, k0_pay6, k0_pay7]
  simp only [Finset.univ_unique, Finset.sum_singleton]
  rfl

/-- A point's share of the gain's gradient. -/
def part (X : FVec Ideal S512x1024 .f32) (D : FVec Ideal S512x1024 .bf16) (x : Fin 1024) : EReal :=
  ∑ r : Fin 512, Rms.unit len eps (fun k => X (ix2 r k)) x * D (ix2 r x)

/-- The first point starts the gain's gradient. -/
theorem dw_A (hc0 : cond0_0 i) :
    out0_A_5 (F := Ideal) c i a1 h1 a2 h2 a3 h3 a4 h4 a5 h5 a6 h6 hc0 X W D R (ix2 0 x) = 0 + part X D x := by
  frame_out
  pointwise [k0_pay1, k0_pay2, k0_pay3, k0_pay4, k0_pay5, k0_pay6, k0_pay7]
  rfl

/-- A later point adds to it. -/
theorem dw_B (hc0 : ¬cond0_0 i) :
    out0_B_5 (F := Ideal) c i a1 h1 a2 h2 a3 h3 a4 h4 a5 h5 a6 h6 hc0 X W D R Z (ix2 0 x) = Z (ix2 0 x) + part X D x := by
  frame_out
  pointwise [k0_pay1, k0_pay2, k0_pay3, k0_pay4, k0_pay5, k0_pay6, k0_pay7]
  rfl

end

/-- Every window's block at point `t`. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The rows of the norm's input that point `t` reads. -/
theorem blk0 (c : Dev nD) (t : Fin cfg0.N) (r : Fin 512) (x : Fin 1024) (q : Fin 16384) (hq : q.val = t.val * 512 + r.val) :
    iblk m c 0 t (ix2 r x) = m ((c : Thread nD τ).loc main_arg0) (ix2 q x) := by
  unfold iblk; entry_read; blk_ext [idx t]

/-- The gain. -/
theorem blk1 (c : Dev nD) (t : Fin cfg0.N) (x : Fin 1024) :
    iblk m c 1 t (ix2 0 x) = m ((c : Thread nD τ).loc main_arg1) (ix1 x) := by
  unfold iblk; entry_read; blk_simp; pointwise; blk_ext [idx t]

/-- The rows of the cotangent. -/
theorem blk2 (c : Dev nD) (t : Fin cfg0.N) (r : Fin 512) (x : Fin 1024) (q : Fin 16384) (hq : q.val = t.val * 512 + r.val) :
    iblk m c 2 t (ix2 r x) = m ((c : Thread nD τ).loc main_arg2) (ix2 q x) := by
  unfold iblk; entry_read; blk_simp; pointwise; blk_ext [idx t]

/-- The rows of the residual's gradient. -/
theorem blk3 (c : Dev nD) (t : Fin cfg0.N) (r : Fin 512) (x : Fin 1024) (q : Fin 16384) (hq : q.val = t.val * 512 + r.val) :
    iblk m c 3 t (ix2 r x) = m ((c : Thread nD τ).loc main_arg3) (ix2 q x) := by
  unfold iblk; entry_read; blk_ext [idx t]

/-- The whole gradient of the norm's input. -/
def DX (a : FVec Ideal S16384x1024 .f32) (w : FVec Ideal S1024 .f32) (d r : FVec Ideal S16384x1024 .f32) : FVec Ideal S16384x1024 .f32 := fun i =>
  Rms.grad len eps mhalf (fun k => a (ix2 (i 0) k)) (fun k => d (ix2 (i 0) k) * w (ix1 k)) (i 1) + r (ix2 (i 0) (i 1))

/-- The whole gradient of the gain. -/
def DW (a d : FVec Ideal S16384x1024 .f32) : FVec Ideal S1x1024 .f32 := fun i =>
  ∑ t : Fin 16384, Rms.unit len eps (fun k => a (ix2 t k)) (i 1) * d (ix2 t (i 1))

/-- What a point writes of the input's gradient. -/
theorem rows (c : Dev nD) (t : Fin cfg0.N) (r : Fin 512) (x : Fin 1024) : (outsAt0 m c t.val t.isLt).1 (ix2 r x)
    = Rms.grad len eps mhalf (fun k => iblk m c 0 t (ix2 r k))
        (fun k => @HMul.hMul EReal EReal EReal _ (iblk m c 2 t (ix2 r k)) (iblk m c 1 t (ix2 0 k))) x + iblk m c 3 t (ix2 r x) := by
  by_cases h : t.val % 32 = 0
  · rw [outsAt0_A m c t h]
    dsimp only
    exact dx_A c _ _ _ _ _ _ _ _ _ _ _ _ _ (iblk m c 0 t) (iblk m c 1 t) (iblk m c 2 t) (iblk m c 3 t) r x _
  · rw [outsAt0_B m c t h]
    dsimp only
    exact dx_B c _ _ _ _ _ _ _ _ _ _ _ _ _ (iblk m c 0 t) (iblk m c 1 t) (iblk m c 2 t) (iblk m c 3 t) _ r x _

/-- The gain's gradient after point `t`. -/
theorem acc (c : Dev nD) (t : Fin cfg0.N) (x : Fin 1024) : (outsAt0 m c t.val t.isLt).2 (ix2 0 x)
    = 0 + ∑ s : Fin (t.val % 32 + 1), part (iblk m c 0 ⟨32 * (t.val / 32) + s.val, Pipeline.run_point_lt t rfl s⟩)
        (iblk m c 2 ⟨32 * (t.val / 32) + s.val, Pipeline.run_point_lt t rfl s⟩) x := by
  refine Pipeline.eq_sum_fin_of_reset_step_apply (fun n h (p : Fin 1024) => (outsAt0 m c n h).2 (ix2 0 p)) 32 (fun _ => 0)
    (fun t p => part (iblk m c 0 t) (iblk m c 2 t) p) (fun t h p => ?_) (fun t h p => ?_) t x
  · beta_reduce
    rw [outsAt0_A m c t h]
    dsimp only
    exact dw_A c _ _ _ _ _ _ _ _ _ _ _ _ _ (iblk m c 0 t) (iblk m c 1 t) (iblk m c 2 t) (iblk m c 3 t) p _
  · beta_reduce
    rw [outsAt0_B m c t h]
    dsimp only
    exact dw_B c _ _ _ _ _ _ _ _ _ _ _ _ _ (iblk m c 0 t) (iblk m c 1 t) (iblk m c 2 t) (iblk m c 3 t) _ p _

/-- The array of the input's gradient after the run. -/
theorem final_dx (c : Dev nD) : (dats m 0 c).arrAt 4 (cfgs 0).N = DX (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 32 := lt_of_lt_of_eq t.isLt N_0
  blk_simp
  rw [after0_4]
  idx_vars y
  have hy := y0.isLt
  have e : ((View.whole main_v2_0).slice (win0_4.rect t)).emb (ix2 y0 y1) = ix2 (⟨t.val * 512 + y0.val, by omega⟩ : Fin 16384) y1 := by
    blk_ext [idx t]
  rw [e]
  refine (rows m c t y0 y1).trans ?_
  rw [blk3 m c t y0 y1 ⟨t.val * 512 + y0.val, by omega⟩ rfl]
  simp only [fun k => blk0 m c t y0 k ⟨t.val * 512 + y0.val, by omega⟩ rfl, fun k => blk1 m c t k,
    fun k => blk2 m c t y0 k ⟨t.val * 512 + y0.val, by omega⟩ rfl]
  rfl

/-- The array of the gain's gradient after the run. -/
theorem final_dw (c : Dev nD) : (dats m 0 c).arrAt 5 (cfgs 0).N = DW (m ((c : Thread nD τ).loc main_arg0))
    (m ((c : Thread nD τ).loc main_arg2)) := by
  refine (dats m 0 c).arrAt_eq_of_covers 5 _ (by decide +kernel) fun t hf y => ?_
  have h31 : t.val % 32 = 31 := (flush0_5 t).mp hf
  have ht : t.val < 32 := lt_of_lt_of_eq t.isLt N_0
  blk_simp
  rw [after0_5]
  idx_vars y
  obtain rfl : y0 = 0 := Subsingleton.elim _ _
  have e : ((View.whole main_v2_1).slice (win0_5.rect t)).emb (ix2 0 y1) = ix2 0 y1 := by
    blk_ext [idx t]
  rw [e]
  refine (acc m c t y1).trans ?_
  rw [zero_add]
  unfold part
  refine Fin.sum_mul_add_congr (fun s k hl => ?_) (by rw [h31])
  have hs : s.val < 32 := by have := s.isLt; omega
  have b : ∀ n (hn : n < cfg0.N), n = 32 * (t.val / 32) + s.val →
      @HMul.hMul EReal EReal EReal _ (Rms.unit len eps (fun j => iblk m c 0 ⟨n, hn⟩ (ix2 k j)) y1) (iblk m c 2 ⟨n, hn⟩ (ix2 k y1))
        = Rms.unit len eps (fun j => m ((c : Thread nD τ).loc main_arg0) (ix2 (⟨s.val * 512 + k.val, hl⟩ : Fin 16384) j)) y1
          * m ((c : Thread nD τ).loc main_arg2) (ix2 (⟨s.val * 512 + k.val, hl⟩ : Fin 16384) y1) := fun n hn e => by
    rw [blk2 m c ⟨n, hn⟩ k y1 ⟨s.val * 512 + k.val, hl⟩ (by simp only; omega)]
    simp only [fun j => blk0 m c ⟨n, hn⟩ k j ⟨s.val * 512 + k.val, hl⟩ (by simp only; omega)]
  exact b _ _ rfl

end Cert.NormIdeal.Pf

end
-- ==== Proof.NormRef.lean ====
module

public import proofs.«01_k».proof.Proof.Gen.NormRefIdeal.Read
public import proofs.«01_k».proof.Proof.NormKernel

@[expose] public section

set_option maxRecDepth 16384

noncomputable section

/-! The norm's derivatives that the reference computes are the kernel's arrays. -/

namespace Cert.NormRefIdeal.Pf

open Idealize.ShloMosaic Idealize.ShloMosaic.TcCoe
open Cert.NormRefIdeal Cert.NormRefIdeal.Gen Cert.NormRefIdeal.Read
open Cert.NormIdeal.Pf (DX DW len eps mhalf)

/-- The input's gradient. -/
theorem dx_eq (x0 : FVec Ideal S16384x1024 .f32) (x1 : FVec Ideal S1024 .f32) (x2 x3 : FVec Ideal S16384x1024 .f32) :
    val_main_v36 (F := Ideal) x0 x1 x2 x3 = DX x0 x1 x2 x3 := by
  funext i
  idx_vars i
  pointwise [val_main_v36, val_main_v35, val_main_v34, val_main_v33, val_main_v32, val_main_v31, val_main_cst_7, val_main_v30, val_main_v29,
    val_main_cst_6, val_main_v28, val_main_v27, val_main_v26, val_main_v25, val_main_v24, val_main_v23, val_main_cst_5, val_main_v22,
    val_main_v20, val_main_v19, val_main_v13, val_main_v10, val_main_v9, val_main_cst_2, val_main_v8, val_main_v7, val_main_v6,
    val_main_v5, val_main_cst_1, val_main_v4, val_main_v3, val_main_cst_0, val_main_v2, val_main_v1, val_main_cst, val_main_v0]
  simp only [Finset.univ_unique, Finset.sum_singleton]
  unfold DX Rms.grad
  rw [add_comm _ (x3 _), ← add_assoc, ← add_assoc]
  rfl

/-- The gain's gradient. -/
theorem dw_eq (x0 x2 : FVec Ideal S16384x1024 .f32) : val_main_v37 (F := Ideal) x0 x2 = DW x0 x2 := by
  funext i
  idx_vars i
  pointwise [val_main_v37, val_main_v21, val_main_cst_4, val_main_v18, val_main_v17, val_main_cst_3, val_main_v16, val_main_v12, val_main_v11,
    val_main_v7, val_main_v6,
    val_main_v5, val_main_cst_1, val_main_v4, val_main_v3, val_main_cst_0, val_main_v2, val_main_v1, val_main_cst, val_main_v0]
  simp only [Finset.univ_unique, Finset.sum_singleton]
  rfl

end Cert.NormRefIdeal.Pf

end
-- ==== Proof.NormClaim.lean ====
module

public import proofs.«01_k».proof.Defs
public import proofs.«01_k».proof.Proof.Gen.Norm.Frame
public import proofs.«01_k».proof.Proof.Gen.NormRefIdeal.Run
public import proofs.«01_k».proof.Proof.NormRef
public import Idealize.ShloMosaic.Lib.Claim

@[expose] public section

set_option maxRecDepth 16384

noncomputable section

/-! The claims about the norm's gradients. -/

namespace Cert.Proof.Norm

open Idealize.ShloMosaic Idealize.SL.Sem

theorem frame_kernel : Cert.quiescent_Norm := fun m ρ _ => Cert.Norm.Gen.frame m ρ

theorem frame_ideal : Cert.quiescent_NormIdeal := fun m ρ _ => Cert.NormIdeal.Gen.frame m ρ

theorem frame_ref : Cert.quiescent_NormRefIdeal := fun m ρ _ =>
  (θ_run Cert.NormRefIdeal.defs _ _).mono
    (fun r h => ⟨fun c => (h c).2.2, Idealize.ShloMosaic.sem_eq_zero_of_no_sems (by decide) r.2⟩)
    (Cert.NormRefIdeal.Value.run (F := Ideal) m ρ)

/-- The kernel's results and the derivatives of the plain lines are the same arrays. -/
theorem value : Cert.algebraic_NormIdeal_NormRefIdeal := by
  intro m g m' g' hpre hagree
  refine ⟨fun c => Cert.NormIdeal.Pf.DX (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)),
    fun c => Cert.NormIdeal.Pf.DW (m ((c.tc : Thread Cert.NormIdeal.nD Cert.NormIdeal.τ).loc Cert.NormIdeal.main_arg0)) (m ((c.tc : Thread Cert.NormIdeal.nD Cert.NormIdeal.τ).loc Cert.NormIdeal.main_arg2)), ?_, ?_⟩
  · exact (θ_run Cert.NormIdeal.defs _ _).mono
      (fun r h c => ⟨(h c).1.trans (Cert.NormIdeal.Pf.final_dx m c), (h c).2.1.trans (Cert.NormIdeal.Pf.final_dw m c), (h c).2.2⟩)
      (Cert.NormIdeal.Value.run_blocks m g)
  · refine (θ_run Cert.NormRefIdeal.defs _ _).mono (fun r h c => ⟨(h c).1.trans ?_, (h c).2.1.trans ?_, (h c).2.2⟩)
      (Cert.NormRefIdeal.Value.run (F := Ideal) m' g')
    · obtain ⟨h0, h1, h2, h3⟩ := hagree c
      beta_reduce
      rw [h0, h1, h2, h3]
      exact (Cert.NormRefIdeal.Read.val_main_v36_eq _ _ _ _).trans (Cert.NormRefIdeal.Pf.dx_eq _ _ _ _)
    · obtain ⟨h0, h1, h2, h3⟩ := hagree c
      beta_reduce
      rw [h0, h2]
      exact (Cert.NormRefIdeal.Read.val_main_v37_eq _ _).trans (Cert.NormRefIdeal.Pf.dw_eq _ _)

end Cert.Proof.Norm

end
-- ==== Proof.QNormKernel.lean ====
module

public import proofs.«01_k».proof.Proof.Gen.QNormIdeal.Value
public import Idealize.ShloMosaic.Lib.Pipeline.ValueKit
public import Idealize.ShloMosaic.Lib.Pointwise
public import proofs.«01_k».proof.Proof.Rms

@[expose] public section

set_option maxRecDepth 16384

noncomputable section

/-! What the kernel for the latent norm's gradient leaves in its two result arrays. -/

namespace Cert.QNormIdeal.Pf

open Idealize.ShloMosaic Idealize.ShloMosaic.TcCoe Idealize.SL.Sem
open Idealize.ShloMosaic.Pipeline (Dat)
open Cert.QNormIdeal Cert.QNormIdeal.Gen

variable (m : (ℓ : Loc nD τ sig) → Buf (Elt Ideal) ℓ)

/-- The row length. -/
abbrev len : EReal := Ideal.ofBits .f32 0x43800000#32
/-- The norm's offset. -/
abbrev eps : EReal := Ideal.ofBits .f32 0x358637BD#32
/-- Minus one half. -/
abbrev mhalf : EReal := Ideal.ofBits .f32 0xBF000000#32

section
variable (c : Dev nD) (i : grid0.Coords) (a1 : Memref sig .tc .vmem S512x256 .bf16) (h1 : a1.IsWhole)
  (a2 : Memref sig .tc .vmem S1x256 .f32) (h2 : a2.IsWhole) (a3 : Memref sig .tc .vmem S512x256 .bf16) (h3 : a3.IsWhole)
  (a4 : Memref sig .tc .vmem S512x256 .bf16) (h4 : a4.IsWhole) (a5 : Memref sig .tc .vmem S1x256 .f32) (h5 : a5.IsWhole)
  (X : FVec Ideal S512x256 .bf16) (W : FVec Ideal S1x256 .f32) (D : FVec Ideal S512x256 .bf16)
  (Z : FVec Ideal S1x256 .f32) (r : Fin 512) (x : Fin 256)

/-- A point's rows of the gradient. -/
theorem dx_A (hc0 : cond0_0 i) :
    out0_A_3 (F := Ideal) c i a1 h1 a2 h2 a3 h3 a4 h4 a5 h5 hc0 X W D (ix2 r x)
      = Rms.grad len eps mhalf (fun k => X (ix2 r k)) (fun k => D (ix2 r k) * W (ix2 0 k)) x := by
  frame_out
  pointwise [k0_pay1, k0_pay2, k0_pay3, k0_pay4, k0_pay5, k0_pay6, k0_pay7, k0_pay8]
  simp only [Finset.univ_unique, Finset.sum_singleton]
  rfl

/-- The same at a later point. -/
theorem dx_B (hc0 : ¬cond0_0 i) :
    out0_B_3 (F := Ideal) c i a1 h1 a2 h2 a3 h3 a4 h4 a5 h5 hc0 X W D Z (ix2 r x)
      = Rms.grad len eps mhalf (fun k => X (ix2 r k)) (fun k => D (ix2 r k) * W (ix2 0 k)) x := by
  frame_out
  pointwise [k0_pay1, k0_pay2, k0_pay3, k0_pay4, k0_pay5, k0_pay6, k0_pay7, k0_pay8]
  simp only [Finset.univ_unique, Finset.sum_singleton]
  rfl

/-- A point's share of the gain's gradient. -/
def part (X : FVec Ideal S512x256 .bf16) (D : FVec Ideal S512x256 .bf16) (x : Fin 256) : EReal :=
  ∑ r : Fin 512, Rms.unit len eps (fun k => X (ix2 r k)) x * D (ix2 r x)

/-- The first point starts the gain's gradient. -/
theorem dw_A (hc0 : cond0_0 i) :
    out0_A_4 (F := Ideal) c i a1 h1 a2 h2 a3 h3 a4 h4 a5 h5 hc0 X W D (ix2 0 x) = 0 + part X D x := by
  frame_out
  pointwise [k0_pay1, k0_pay2, k0_pay3, k0_pay4, k0_pay5, k0_pay6, k0_pay7, k0_pay8]
  rfl

/-- A later point adds to it. -/
theorem dw_B (hc0 : ¬cond0_0 i) :
    out0_B_4 (F := Ideal) c i a1 h1 a2 h2 a3 h3 a4 h4 a5 h5 hc0 X W D Z (ix2 0 x) = Z (ix2 0 x) + part X D x := by
  frame_out
  pointwise [k0_pay1, k0_pay2, k0_pay3, k0_pay4, k0_pay5, k0_pay6, k0_pay7, k0_pay8]
  rfl

end

/-- Every window's block at point `t`. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The latent's columns of the projection. -/
abbrev left (x : Fin 256) : Fin 512 := ⟨x.val, by omega⟩

/-- The rows of the norm's input that point `t` reads. -/
theorem blk0 (c : Dev nD) (t : Fin cfg0.N) (r : Fin 512) (x : Fin 256) (q : Fin 16384) (hq : q.val = t.val * 512 + r.val) :
    iblk m c 0 t (ix2 r x) = m ((c : Thread nD τ).loc main_arg0) (ix2 q (left x)) := by
  unfold iblk; entry_read; blk_simp; pointwise; blk_ext [idx t]

/-- The gain. -/
theorem blk1 (c : Dev nD) (t : Fin cfg0.N) (x : Fin 256) :
    iblk m c 1 t (ix2 0 x) = m ((c : Thread nD τ).loc main_arg1) (ix1 x) := by
  unfold iblk; entry_read; blk_simp; pointwise; blk_ext [idx t]

/-- The rows of the cotangent. -/
theorem blk2 (c : Dev nD) (t : Fin cfg0.N) (r : Fin 512) (x : Fin 256) (q : Fin 16384) (hq : q.val = t.val * 512 + r.val) :
    iblk m c 2 t (ix2 r x) = m ((c : Thread nD τ).loc main_arg2) (ix2 q x) := by
  unfold iblk; entry_read; blk_simp; pointwise; blk_ext [idx t]

/-- The whole gradient of the norm's input. -/
def DX (a : FVec Ideal S16384x512 .f32) (w : FVec Ideal S256 .f32) (d : FVec Ideal S16384x256 .f32) : FVec Ideal S16384x256 .bf16 := fun i =>
  Rms.grad len eps mhalf (fun k => a (ix2 (i 0) (left k))) (fun k => d (ix2 (i 0) k) * w (ix1 k)) (i 1)

/-- The whole gradient of the gain. -/
def DW (a : FVec Ideal S16384x512 .f32) (d : FVec Ideal S16384x256 .f32) : FVec Ideal S1x256 .f32 := fun i =>
  ∑ t : Fin 16384, Rms.unit len eps (fun k => a (ix2 t (left k))) (i 1) * d (ix2 t (i 1))

/-- What a point writes of the input's gradient. -/
theorem rows (c : Dev nD) (t : Fin cfg0.N) (r : Fin 512) (x : Fin 256) : (outsAt0 m c t.val t.isLt).1 (ix2 r x)
    = Rms.grad len eps mhalf (fun k => iblk m c 0 t (ix2 r k))
        (fun k => @HMul.hMul EReal EReal EReal _ (iblk m c 2 t (ix2 r k)) (iblk m c 1 t (ix2 0 k))) x := by
  by_cases h : t.val % 32 = 0
  · rw [outsAt0_A m c t h]
    dsimp only
    exact dx_A c _ _ _ _ _ _ _ _ _ _ _ (iblk m c 0 t) (iblk m c 1 t) (iblk m c 2 t) r x _
  · rw [outsAt0_B m c t h]
    dsimp only
    exact dx_B c _ _ _ _ _ _ _ _ _ _ _ (iblk m c 0 t) (iblk m c 1 t) (iblk m c 2 t) _ r x _

/-- The gain's gradient after point `t`. -/
theorem acc (c : Dev nD) (t : Fin cfg0.N) (x : Fin 256) : (outsAt0 m c t.val t.isLt).2 (ix2 0 x)
    = 0 + ∑ s : Fin (t.val % 32 + 1), part (iblk m c 0 ⟨32 * (t.val / 32) + s.val, Pipeline.run_point_lt t rfl s⟩)
        (iblk m c 2 ⟨32 * (t.val / 32) + s.val, Pipeline.run_point_lt t rfl s⟩) x := by
  refine Pipeline.eq_sum_fin_of_reset_step_apply (fun n h (p : Fin 256) => (outsAt0 m c n h).2 (ix2 0 p)) 32 (fun _ => 0)
    (fun t p => part (iblk m c 0 t) (iblk m c 2 t) p) (fun t h p => ?_) (fun t h p => ?_) t x
  · beta_reduce
    rw [outsAt0_A m c t h]
    dsimp only
    exact dw_A c _ _ _ _ _ _ _ _ _ _ _ (iblk m c 0 t) (iblk m c 1 t) (iblk m c 2 t) p _
  · beta_reduce
    rw [outsAt0_B m c t h]
    dsimp only
    exact dw_B c _ _ _ _ _ _ _ _ _ _ _ (iblk m c 0 t) (iblk m c 1 t) (iblk m c 2 t) _ p _

/-- The array of the input's gradient after the run. -/
theorem final_dx (c : Dev nD) : (dats m 0 c).arrAt 3 (cfgs 0).N = DX (m ((c : Thread nD τ).loc main_arg0))
    (m ((c : Thread nD τ).loc main_arg1)) (m ((c : Thread nD τ).loc main_arg2)) := by
  refine (dats m 0 c).arrAt_eq_of_covers 3 _ (by decide +kernel) fun t hf y => ?_
  have ht : t.val < 32 := lt_of_lt_of_eq t.isLt N_0
  blk_simp
  rw [after0_3]
  idx_vars y
  have hy := y0.isLt
  have e : ((View.whole main_v3_0).slice (win0_3.rect t)).emb (ix2 y0 y1) = ix2 (⟨t.val * 512 + y0.val, by omega⟩ : Fin 16384) y1 := by
    blk_ext [idx t]
  rw [e]
  refine (rows m c t y0 y1).trans ?_
  simp only [fun k => blk0 m c t y0 k ⟨t.val * 512 + y0.val, by omega⟩ rfl, fun k => blk1 m c t k,
    fun k => blk2 m c t y0 k ⟨t.val * 512 + y0.val, by omega⟩ rfl]
  rfl

/-- The array of the gain's gradient after the run. -/
theorem final_dw (c : Dev nD) : (dats m 0 c).arrAt 4 (cfgs 0).N = DW (m ((c : Thread nD τ).loc main_arg0))
    (m ((c : Thread nD τ).loc main_arg2)) := by
  refine (dats m 0 c).arrAt_eq_of_covers 4 _ (by decide +kernel) fun t hf y => ?_
  have h31 : t.val % 32 = 31 := (flush0_4 t).mp hf
  have ht : t.val < 32 := lt_of_lt_of_eq t.isLt N_0
  blk_simp
  rw [after0_4]
  idx_vars y
  obtain rfl : y0 = 0 := Subsingleton.elim _ _
  have e : ((View.whole main_v3_1).slice (win0_4.rect t)).emb (ix2 0 y1) = ix2 0 y1 := by
    blk_ext [idx t]
  rw [e]
  refine (acc m c t y1).trans ?_
  rw [zero_add]
  unfold part
  refine Fin.sum_mul_add_congr (fun s k hl => ?_) (by rw [h31])
  have hs : s.val < 32 := by have := s.isLt; omega
  have b : ∀ n (hn : n < cfg0.N), n = 32 * (t.val / 32) + s.val →
      @HMul.hMul EReal EReal EReal _ (Rms.unit len eps (fun j => iblk m c 0 ⟨n, hn⟩ (ix2 k j)) y1) (iblk m c 2 ⟨n, hn⟩ (ix2 k y1))
        = Rms.unit len eps (fun j => m ((c : Thread nD τ).loc main_arg0) (ix2 (⟨s.val * 512 + k.val, hl⟩ : Fin 16384) (left j))) y1
          * m ((c : Thread nD τ).loc main_arg2) (ix2 (⟨s.val * 512 + k.val, hl⟩ : Fin 16384) y1) := fun n hn e => by
    rw [blk2 m c ⟨n, hn⟩ k y1 ⟨s.val * 512 + k.val, hl⟩ (by simp only; omega)]
    simp only [fun j => blk0 m c ⟨n, hn⟩ k j ⟨s.val * 512 + k.val, hl⟩ (by simp only; omega)]
  exact b _ _ rfl

end Cert.QNormIdeal.Pf

end
-- ==== Proof.QNormRef.lean ====
module

public import proofs.«01_k».proof.Proof.Gen.QNormRefIdeal.Read
public import proofs.«01_k».proof.Proof.QNormKernel

@[expose] public section

set_option maxRecDepth 16384

noncomputable section

/-! The latent norm's derivatives that the reference computes are the kernel's arrays. -/

namespace Cert.QNormRefIdeal.Pf

open Idealize.ShloMosaic Idealize.ShloMosaic.TcCoe
open Cert.QNormRefIdeal Cert.QNormRefIdeal.Gen Cert.QNormRefIdeal.Read
open Cert.QNormIdeal.Pf (DX DW len eps mhalf)

/-- The input's gradient. -/
theorem dx_eq (x0 : FVec Ideal S16384x512 .f32) (x1 : FVec Ideal S256 .f32) (x2 : FVec Ideal S16384x256 .f32) :
    val_main_v38 (F := Ideal) x0 x1 x2 = DX x0 x1 x2 := by
  funext i
  idx_vars i
  pointwise [val_main_v38, val_main_v37, val_main_v36, val_main_v35, val_main_v34, val_main_v33, val_main_v32, val_main_cst_7, val_main_v31, val_main_v30,
    val_main_cst_6, val_main_v29, val_main_v28, val_main_v27, val_main_v26, val_main_v25, val_main_cst_5, val_main_v24,
    val_main_v22, val_main_v21, val_main_v15, val_main_v12, val_main_v11, val_main_cst_2, val_main_v10, val_main_v9, val_main_v8,
    val_main_v7, val_main_cst_1, val_main_v6, val_main_v5, val_main_cst_0, val_main_v4, val_main_v3, val_main_cst, val_main_v2, val_main_v0]
  simp only [Finset.univ_unique, Finset.sum_singleton]
  unfold DX Rms.grad
  rfl

/-- The gain's gradient. -/
theorem dw_eq (x0 : FVec Ideal S16384x512 .f32) (x2 : FVec Ideal S16384x256 .f32) : val_main_v39 (F := Ideal) x0 x2 = DW x0 x2 := by
  funext i
  idx_vars i
  pointwise [val_main_v39, val_main_v23, val_main_cst_4, val_main_v20, val_main_v19, val_main_cst_3, val_main_v18, val_main_v14, val_main_v13,
    val_main_v9, val_main_v8,
    val_main_v7, val_main_cst_1, val_main_v6, val_main_v5, val_main_cst_0, val_main_v4, val_main_v3, val_main_cst, val_main_v2, val_main_v0]
  simp only [Finset.univ_unique, Finset.sum_singleton]
  rfl

end Cert.QNormRefIdeal.Pf

end
-- ==== Proof.QNormClaim.lean ====
module

public import proofs.«01_k».proof.Defs
public import proofs.«01_k».proof.Proof.Gen.QNorm.Frame
public import proofs.«01_k».proof.Proof.Gen.QNormRefIdeal.Run
public import proofs.«01_k».proof.Proof.QNormRef
public import Idealize.ShloMosaic.Lib.Claim

@[expose] public section

set_option maxRecDepth 16384

noncomputable section

/-! The claims about the latent norm's gradients. -/

namespace Cert.Proof.QNorm

open Idealize.ShloMosaic Idealize.SL.Sem

theorem frame_kernel : Cert.quiescent_QNorm := fun m ρ _ => Cert.QNorm.Gen.frame m ρ

theorem frame_ideal : Cert.quiescent_QNormIdeal := fun m ρ _ => Cert.QNormIdeal.Gen.frame m ρ

theorem frame_ref : Cert.quiescent_QNormRefIdeal := fun m ρ _ =>
  (θ_run Cert.QNormRefIdeal.defs _ _).mono
    (fun r h => ⟨fun c => (h c).2.2, Idealize.ShloMosaic.sem_eq_zero_of_no_sems (by decide) r.2⟩)
    (Cert.QNormRefIdeal.Value.run (F := Ideal) m ρ)

/-- The kernel's results and the derivatives of the plain lines are the same arrays. -/
theorem value : Cert.algebraic_QNormIdeal_QNormRefIdeal := by
  intro m g m' g' hpre hagree
  refine ⟨fun c => Cert.QNormIdeal.Pf.DX (m ((c.tc : Thread Cert.QNormIdeal.nD Cert.QNormIdeal.τ).loc Cert.QNormIdeal.main_arg0)) (m ((c.tc : Thread Cert.QNormIdeal.nD Cert.QNormIdeal.τ).loc Cert.QNormIdeal.main_arg1)) (m ((c.tc : Thread Cert.QNormIdeal.nD Cert.QNormIdeal.τ).loc Cert.QNormIdeal.main_arg2)),
    fun c => Cert.QNormIdeal.Pf.DW (m ((c.tc : Thread Cert.QNormIdeal.nD Cert.QNormIdeal.τ).loc Cert.QNormIdeal.main_arg0)) (m ((c.tc : Thread Cert.QNormIdeal.nD Cert.QNormIdeal.τ).loc Cert.QNormIdeal.main_arg2)), ?_, ?_⟩
  · exact (θ_run Cert.QNormIdeal.defs _ _).mono
      (fun r h c => ⟨(h c).1.trans (Cert.QNormIdeal.Pf.final_dx m c), (h c).2.1.trans (Cert.QNormIdeal.Pf.final_dw m c), (h c).2.2⟩)
      (Cert.QNormIdeal.Value.run_blocks m g)
  · refine (θ_run Cert.QNormRefIdeal.defs _ _).mono (fun r h c => ⟨(h c).1.trans ?_, (h c).2.1.trans ?_, (h c).2.2⟩)
      (Cert.QNormRefIdeal.Value.run (F := Ideal) m' g')
    · obtain ⟨h0, h1, h2⟩ := hagree c
      refine (Cert.QNormRefIdeal.Read.val_main_v38_eq m' c).trans ?_
      rw [h0, h1, h2]
      exact Cert.QNormRefIdeal.Pf.dx_eq _ _ _
    · obtain ⟨h0, h1, h2⟩ := hagree c
      beta_reduce
      rw [h0, h2]
      exact (Cert.QNormRefIdeal.Read.val_main_v39_eq _ _).trans (Cert.QNormRefIdeal.Pf.dw_eq _ _)

end Cert.Proof.QNorm

end
-- ==== Proof.MemNormKernel.lean ====
module

public import proofs.«01_k».proof.Proof.Gen.MemNormIdeal.Value
public import Idealize.ShloMosaic.Lib.Pipeline.ValueKit
public import Idealize.ShloMosaic.Lib.Pointwise
public import proofs.«01_k».proof.Proof.Rms

@[expose] public section

set_option maxRecDepth 16384

noncomputable section

/-! What the kernel for the memory norm's gradient leaves in its two result arrays. -/

namespace Cert.MemNormIdeal.Pf

open Idealize.ShloMosaic Idealize.ShloMosaic.TcCoe Idealize.SL.Sem
open Idealize.ShloMosaic.Pipeline (Dat)
open Cert.MemNormIdeal Cert.MemNormIdeal.Gen

variable (m : (ℓ : Loc nD τ sig) → Buf (Elt Ideal) ℓ)

/-- The row length. -/
abbrev len : EReal := Ideal.ofBits .f32 0x44800000#32
/-- The norm's offset. -/
abbrev eps : EReal := Ideal.ofBits .f32 0x358637BD#32
/-- Minus one half. -/
abbrev mhalf : EReal := Ideal.ofBits .f32 0xBF000000#32

/-- The rows of the gradient. -/
theorem dx (X : FVec Ideal S256x1024 .f32) (W : FVec Ideal S1x1024 .f32) (D : FVec Ideal S256x1024 .f32) (r : Fin 256) (x : Fin 1024) :
    out0_3 (F := Ideal) X W D (ix2 r x)
      = Rms.grad len eps mhalf (fun k => X (ix2 r k)) (fun k => D (ix2 r k) * W (ix2 0 k)) x := by
  frame_out
  pointwise [k0_pay1, k0_pay2, k0_pay3, k0_pay4]
  simp only [Finset.univ_unique, Finset.sum_singleton]
  rfl

/-- The gain's gradient. -/
theorem dw (X : FVec Ideal S256x1024 .f32) (W : FVec Ideal S1x1024 .f32) (D : FVec Ideal S256x1024 .f32) (x : Fin 1024) :
    out0_4 (F := Ideal) X W D (ix2 0 x) = ∑ r : Fin 256, Rms.unit len eps (fun k => X (ix2 r k)) x * D (ix2 r x) := by
  frame_out
  pointwise [k0_pay1, k0_pay2, k0_pay3, k0_pay4]
  rfl

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The memory. -/
theorem blk0 (c : Dev nD) (t : Fin cfg0.N) (r : Fin 256) (x : Fin 1024) :
    iblk m c 0 t (ix2 r x) = m ((c : Thread nD τ).loc main_arg0) (ix2 r x) := by
  unfold iblk; entry_read; blk_ext [idx t]

/-- The gain. -/
theorem blk1 (c : Dev nD) (t : Fin cfg0.N) (x : Fin 1024) :
    iblk m c 1 t (ix2 0 x) = m ((c : Thread nD τ).loc main_arg1) (ix1 x) := by
  unfold iblk; entry_read; blk_simp; pointwise; blk_ext [idx t]

/-- The cotangent. -/
theorem blk2 (c : Dev nD) (t : Fin cfg0.N) (r : Fin 256) (x : Fin 1024) :
    iblk m c 2 t (ix2 r x) = m ((c : Thread nD τ).loc main_arg2) (ix2 r x) := by
  unfold iblk; entry_read; blk_ext [idx t]

/-- The whole gradient of the memory. -/
def DX (a : FVec Ideal S256x1024 .f32) (w : FVec Ideal S1024 .f32) (d : FVec Ideal S256x1024 .f32) : FVec Ideal S256x1024 .f32 := fun i =>
  Rms.grad len eps mhalf (fun k => a (ix2 (i 0) k)) (fun k => d (ix2 (i 0) k) * w (ix1 k)) (i 1)

/-- The whole gradient of the gain. -/
def DW (a d : FVec Ideal S256x1024 .f32) : FVec Ideal S1x1024 .f32 := fun i =>
  ∑ t : Fin 256, Rms.unit len eps (fun k => a (ix2 t k)) (i 1) * d (ix2 t (i 1))

/-- The array of the memory's gradient after the run. -/
theorem final_dx (c : Dev nD) : (dats m 0 c).arrAt 3 (cfgs 0).N = DX (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have e : ((View.whole main_v1_0).slice (win0_3.rect t)).emb (ix2 y0 y1) = ix2 y0 y1 := by
    blk_ext [idx t]
  rw [e]
  refine (dx (iblk m c 0 t) (iblk m c 1 t) (iblk m c 2 t) y0 y1).trans ?_
  simp only [fun k => blk0 m c t y0 k, fun k => blk1 m c t k, fun k => blk2 m c t y0 k]
  rfl

/-- The array of the gain's gradient after the run. -/
theorem final_dw (c : Dev nD) : (dats m 0 c).arrAt 4 (cfgs 0).N = DW (m ((c : Thread nD τ).loc main_arg0))
    (m ((c : Thread nD τ).loc main_arg2)) := by
  refine (dats m 0 c).arrAt_eq_of_covers 4 _ (by decide +kernel) fun t hf y => ?_
  blk_simp
  rw [after0_4]
  idx_vars y
  obtain rfl : y0 = 0 := Subsingleton.elim _ _
  have e : ((View.whole main_v1_1).slice (win0_4.rect t)).emb (ix2 0 y1) = ix2 0 y1 := by
    blk_ext [idx t]
  rw [e]
  refine (dw (iblk m c 0 t) (iblk m c 1 t) (iblk m c 2 t) y1).trans ?_
  simp only [fun r k => blk0 m c t r k, fun r k => blk2 m c t r k]
  rfl

end Cert.MemNormIdeal.Pf

end
-- ==== Proof.MemNormRef.lean ====
module

public import proofs.«01_k».proof.Proof.Gen.MemNormRefIdeal.Read
public import proofs.«01_k».proof.Proof.MemNormKernel

@[expose] public section

set_option maxRecDepth 16384

noncomputable section

/-! The memory norm's derivatives that the reference computes are the kernel's arrays. -/

namespace Cert.MemNormRefIdeal.Pf

open Idealize.ShloMosaic Idealize.ShloMosaic.TcCoe
open Cert.MemNormRefIdeal Cert.MemNormRefIdeal.Gen Cert.MemNormRefIdeal.Read
open Cert.MemNormIdeal.Pf (DX DW len eps mhalf)

/-- The input's gradient. -/
theorem dx_eq (x0 : FVec Ideal S256x1024 .f32) (x1 : FVec Ideal S1024 .f32) (x2 : FVec Ideal S256x1024 .f32) :
    val_main_v35 (F := Ideal) x0 x1 x2 = DX x0 x1 x2 := by
  funext i
  idx_vars i
  pointwise [val_main_v35, val_main_v34, val_main_v33, val_main_v32, val_main_v31, val_main_v30, val_main_cst_7, val_main_v29, val_main_v28,
    val_main_cst_6, val_main_v27, val_main_v26, val_main_v25, val_main_v24, val_main_v23, val_main_cst_5, val_main_v22,
    val_main_v20, val_main_v19, val_main_v13, val_main_v10, val_main_v9, val_main_cst_2, val_main_v8, val_main_v7, val_main_v6,
    val_main_v5, val_main_cst_1, val_main_v4, val_main_v3, val_main_cst_0, val_main_v2, val_main_v1, val_main_cst, val_main_v0]
  simp only [Finset.univ_unique, Finset.sum_singleton]
  unfold DX Rms.grad
  rfl

/-- The gain's gradient. -/
theorem dw_eq (x0 x2 : FVec Ideal S256x1024 .f32) : val_main_v36 (F := Ideal) x0 x2 = DW x0 x2 := by
  funext i
  idx_vars i
  pointwise [val_main_v36, val_main_v21, val_main_cst_4, val_main_v18, val_main_v17, val_main_cst_3, val_main_v16, val_main_v12, val_main_v11,
    val_main_v7, val_main_v6,
    val_main_v5, val_main_cst_1, val_main_v4, val_main_v3, val_main_cst_0, val_main_v2, val_main_v1, val_main_cst, val_main_v0]
  simp only [Finset.univ_unique, Finset.sum_singleton]
  rfl

end Cert.MemNormRefIdeal.Pf

end
-- ==== Proof.MemNormClaim.lean ====
module

public import proofs.«01_k».proof.Defs
public import proofs.«01_k».proof.Proof.Gen.MemNorm.Frame
public import proofs.«01_k».proof.Proof.Gen.MemNormRefIdeal.Run
public import proofs.«01_k».proof.Proof.MemNormRef
public import Idealize.ShloMosaic.Lib.Claim

@[expose] public section

set_option maxRecDepth 16384

noncomputable section

/-! The claims about the memory norm's gradients. -/

namespace Cert.Proof.MemNorm

open Idealize.ShloMosaic Idealize.SL.Sem

theorem frame_kernel : Cert.quiescent_MemNorm := fun m ρ _ => Cert.MemNorm.Gen.frame m ρ

theorem frame_ideal : Cert.quiescent_MemNormIdeal := fun m ρ _ => Cert.MemNormIdeal.Gen.frame m ρ

theorem frame_ref : Cert.quiescent_MemNormRefIdeal := fun m ρ _ =>
  (θ_run Cert.MemNormRefIdeal.defs _ _).mono
    (fun r h => ⟨fun c => (h c).2.2, Idealize.ShloMosaic.sem_eq_zero_of_no_sems (by decide) r.2⟩)
    (Cert.MemNormRefIdeal.Value.run (F := Ideal) m ρ)

/-- The kernel's results and the derivatives of the plain lines are the same arrays. -/
theorem value : Cert.algebraic_MemNormIdeal_MemNormRefIdeal := by
  intro m g m' g' hpre hagree
  refine ⟨fun c => Cert.MemNormIdeal.Pf.DX (m ((c.tc : Thread Cert.MemNormIdeal.nD Cert.MemNormIdeal.τ).loc Cert.MemNormIdeal.main_arg0)) (m ((c.tc : Thread Cert.MemNormIdeal.nD Cert.MemNormIdeal.τ).loc Cert.MemNormIdeal.main_arg1)) (m ((c.tc : Thread Cert.MemNormIdeal.nD Cert.MemNormIdeal.τ).loc Cert.MemNormIdeal.main_arg2)),
    fun c => Cert.MemNormIdeal.Pf.DW (m ((c.tc : Thread Cert.MemNormIdeal.nD Cert.MemNormIdeal.τ).loc Cert.MemNormIdeal.main_arg0)) (m ((c.tc : Thread Cert.MemNormIdeal.nD Cert.MemNormIdeal.τ).loc Cert.MemNormIdeal.main_arg2)), ?_, ?_⟩
  · exact (θ_run Cert.MemNormIdeal.defs _ _).mono
      (fun r h c => ⟨(h c).1.trans (Cert.MemNormIdeal.Pf.final_dx m c), (h c).2.1.trans (Cert.MemNormIdeal.Pf.final_dw m c), (h c).2.2⟩)
      (Cert.MemNormIdeal.Value.run_blocks m g)
  · refine (θ_run Cert.MemNormRefIdeal.defs _ _).mono (fun r h c => ⟨(h c).1.trans ?_, (h c).2.1.trans ?_, (h c).2.2⟩)
      (Cert.MemNormRefIdeal.Value.run (F := Ideal) m' g')
    · obtain ⟨h0, h1, h2⟩ := hagree c
      beta_reduce
      rw [h0, h1, h2]
      exact (Cert.MemNormRefIdeal.Read.val_main_v35_eq _ _ _).trans (Cert.MemNormRefIdeal.Pf.dx_eq _ _ _)
    · obtain ⟨h0, h1, h2⟩ := hagree c
      beta_reduce
      rw [h0, h2]
      exact (Cert.MemNormRefIdeal.Read.val_main_v36_eq _ _).trans (Cert.MemNormRefIdeal.Pf.dw_eq _ _)

end Cert.Proof.MemNorm

end
-- ==== Proof.OutNormKernel.lean ====
module

public import proofs.«01_k».proof.Proof.Gen.OutNormIdeal.Value
public import Idealize.ShloMosaic.Lib.Pipeline.ValueKit
public import Idealize.ShloMosaic.Lib.Pointwise
public import Idealize.ShloMosaic.Lib.StableHlo.RunRead
public import proofs.«01_k».proof.Proof.Rms

@[expose] public section

set_option maxRecDepth 16384

noncomputable section

/-! What the kernel for the gradients of the gated norm of every head leaves in its three result arrays. -/

namespace Cert.OutNormIdeal.Pf

open Idealize.ShloMosaic Idealize.ShloMosaic.TcCoe Idealize.SL.Sem
open Idealize.ShloMosaic.Pipeline (Dat)
open Cert.OutNormIdeal Cert.OutNormIdeal.Gen

variable (m : (ℓ : Loc nD τ sig) → Buf (Elt Ideal) ℓ)

/-- The width of a head. -/
abbrev len : EReal := Ideal.ofBits .f32 0x43000000#32
/-- The norm's offset. -/
abbrev eps : EReal := Ideal.ofBits .f32 0x358637BD#32
/-- Minus one half. -/
abbrev mhalf : EReal := Ideal.ofBits .f32 0xBF000000#32

/-- The gradient of a head's row, from the row, the gate, the gain and the cotangent. -/
def gx (x g w d : Fin 128 → EReal) (j : Fin 128) : EReal :=
  Rms.grad len eps mhalf x (fun k => d k * (g k * Ideal.logistic (g k)) * w k) j

/-- The gradient of the gate. -/
def gg (x g w d : Fin 128 → EReal) (j : Fin 128) : EReal :=
  Rms.unit len eps x j * w j * d j * Ideal.logistic (g j)
    + g j * (Rms.unit len eps x j * w j * d j) * (Ideal.logistic (g j) * (1 - Ideal.logistic (g j)))

/-- A row's share of the gain's gradient. -/
def gw (x g d : Fin 128 → EReal) (j : Fin 128) : EReal :=
  Rms.unit len eps x j * (d j * (g j * Ideal.logistic (g j)))

section
variable (c : Dev nD) (i : grid0.Coords) (a2 : Memref sig .tc .vmem S2048x128 .bf16) (h2 : a2.IsWhole)
  (a3 : Memref sig .tc .vmem S2048x128 .bf16) (h3 : a3.IsWhole) (a4 : Memref sig .tc .vmem S1x128 .f32) (h4 : a4.IsWhole)
  (a5 : Memref sig .tc .vmem S2048x128 .bf16) (h5 : a5.IsWhole) (a6 : Memref sig .tc .vmem S2048x128 .bf16) (h6 : a6.IsWhole)
  (a7 : Memref sig .tc .vmem S2048x128 .bf16) (h7 : a7.IsWhole) (a8 : Memref sig .tc .vmem S1x128 .f32) (h8 : a8.IsWhole)
  (X G : FVec Ideal S2048x128 .bf16) (W : FVec Ideal S1x128 .f32) (D : FVec Ideal S2048x128 .bf16)
  (Z : FVec Ideal S1x128 .f32) (r : Fin 2048) (x : Fin 128)

/-- A point's rows of the gradient. -/
theorem dx_A (hc0 : cond0_0 i) :
    out0_A_4 (F := Ideal) c i a2 h2 a3 h3 a4 h4 a5 h5 a6 h6 a7 h7 a8 h8 hc0 X G W D (ix2 r x)
      = gx (fun k => X (ix2 r k)) (fun k => G (ix2 r k)) (fun k => W (ix2 0 k)) (fun k => D (ix2 r k)) x := by
  frame_out
  pointwise [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18]
  simp only [Finset.univ_unique, Finset.sum_singleton]
  rfl

/-- The same at a later point. -/
theorem dx_B (hc0 : ¬cond0_0 i) :
    out0_B_4 (F := Ideal) c i a2 h2 a3 h3 a4 h4 a5 h5 a6 h6 a7 h7 a8 h8 hc0 X G W D Z (ix2 r x)
      = gx (fun k => X (ix2 r k)) (fun k => G (ix2 r k)) (fun k => W (ix2 0 k)) (fun k => D (ix2 r k)) x := by
  frame_out
  pointwise [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18]
  simp only [Finset.univ_unique, Finset.sum_singleton]
  rfl

/-- A point's rows of the gate's gradient. -/
theorem dg_A (hc0 : cond0_0 i) :
    out0_A_5 (F := Ideal) c i a2 h2 a3 h3 a4 h4 a5 h5 a6 h6 a7 h7 a8 h8 hc0 X G W D (ix2 r x)
      = gg (fun k => X (ix2 r k)) (fun k => G (ix2 r k)) (fun k => W (ix2 0 k)) (fun k => D (ix2 r k)) x := by
  frame_out
  pointwise [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18]
  rfl

/-- The same at a later point. -/
theorem dg_B (hc0 : ¬cond0_0 i) :
    out0_B_5 (F := Ideal) c i a2 h2 a3 h3 a4 h4 a5 h5 a6 h6 a7 h7 a8 h8 hc0 X G W D Z (ix2 r x)
      = gg (fun k => X (ix2 r k)) (fun k => G (ix2 r k)) (fun k => W (ix2 0 k)) (fun k => D (ix2 r k)) x := by
  frame_out
  pointwise [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18]
  rfl

/-- A point's share of the gain's gradient. -/
def part (X G D : FVec Ideal S2048x128 .bf16) (x : Fin 128) : EReal :=
  ∑ r : Fin 2048, gw (fun k => X (ix2 r k)) (fun k => G (ix2 r k)) (fun k => D (ix2 r k)) x

/-- The first point starts the gain's gradient. -/
theorem dw_A (hc0 : cond0_0 i) :
    out0_A_6 (F := Ideal) c i a2 h2 a3 h3 a4 h4 a5 h5 a6 h6 a7 h7 a8 h8 hc0 X G W D (ix2 0 x) = 0 + part X G D x := by
  frame_out
  pointwise [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18]
  rfl

/-- A later point adds to it. -/
theorem dw_B (hc0 : ¬cond0_0 i) :
    out0_B_6 (F := Ideal) c i a2 h2 a3 h3 a4 h4 a5 h5 a6 h6 a7 h7 a8 h8 hc0 X G W D Z (ix2 0 x) = Z (ix2 0 x) + part X G D x := by
  frame_out
  pointwise [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18]
  rfl

end

/-- Every window's block at point `t`: row block `t / 6`, head `t % 6`. -/
theorem idx : ∀ t : Fin cfg0.N, win0_0.index t = ![t.val / 6, t.val % 6] ∧ win0_1.index t = ![t.val / 6, 18 + t.val % 6]
    ∧ win0_2.index t = ![0, 0] ∧ win0_3.index t = ![t.val / 6, t.val % 6] ∧ win0_4.index t = ![t.val / 6, t.val % 6]
    ∧ win0_5.index t = ![t.val / 6, t.val % 6] ∧ win0_6.index t = ![0, 0] :=
  (by decide +kernel : ∀ t : Fin grid0.N, _)

/-- The arrays before the last stretch of host lines. -/
def mid (c : Dev nD) : Valuation τ sig (Elt Ideal) :=
  StableHlo.after hostOps0_1 (StableHlo.after hostOps0 fun b => m (c, b))

theorem mid_arg0 (c : Dev nD) : mid m c main_arg0 = m ((c : Thread nD τ).loc main_arg0) := by
  unfold mid; after_reads_simp

theorem mid_arg1 (c : Dev nD) : mid m c main_arg1 = m ((c : Thread nD τ).loc main_arg1) := by
  unfold mid; after_reads_simp

theorem mid_arg2 (c : Dev nD) : mid m c main_arg2 = m ((c : Thread nD τ).loc main_arg2) := by
  unfold mid; after_reads_simp

theorem mid_arg3 (c : Dev nD) : mid m c main_arg3 = m ((c : Thread nD τ).loc main_arg3) := by
  unfold mid; after_reads_simp

theorem host_v6 (c : Dev nD) (r : Fin 16384) (q : Fin 768) :
    V m c main_v6 (ix2 r q) = m ((c : Thread nD τ).loc main_arg0) (ix2 r q) := by
  show StableHlo.after hostOps0_2 (mid m c) main_v6 (ix2 r q) = _
  after_reads_simp
  rw [mid_arg0]
  generalize m ((c : Thread nD τ).loc main_arg0) = A
  pointwise

theorem host_v7 (c : Dev nD) (x : Fin 128) :
    V m c main_v7 (ix2 0 x) = m ((c : Thread nD τ).loc main_arg2) (ix1 x) := by
  show StableHlo.after hostOps0_2 (mid m c) main_v7 (ix2 0 x) = _
  after_reads_simp
  rw [mid_arg2]
  generalize m ((c : Thread nD τ).loc main_arg2) = A
  pointwise

theorem host_v8 (c : Dev nD) (r : Fin 16384) (q : Fin 768) :
    V m c main_v8 (ix2 r q) = m ((c : Thread nD τ).loc main_arg3) (ix2 r q) := by
  show StableHlo.after hostOps0_2 (mid m c) main_v8 (ix2 r q) = _
  after_reads_simp
  rw [mid_arg3]
  generalize m ((c : Thread nD τ).loc main_arg3) = A
  pointwise

theorem cat3 (x0 : FVec Ideal S16384x3072 .f32) (x1 : FVec Ideal S16384x256 .f32) (x2 : FVec Ideal S16384x128 .f32) (hc)
    (r : Fin 16384) (q : Fin 3072) :
    concatenate S16384x3456 1 [⟨S16384x3072, x0⟩, ⟨S16384x256, x1⟩, ⟨S16384x128, x2⟩] hc (ix2 r ⟨q.val, by omega⟩)
      = x0 (ix2 r q) := by
  have h : q.val < 3072 := q.isLt
  pointwise

/-- The packed array that holds the gate, in its first columns. -/
theorem host_v5 (c : Dev nD) (r : Fin 16384) (q : Fin 3072) :
    V m c main_v5 (ix2 r ⟨q.val, by omega⟩) = m ((c : Thread nD τ).loc main_arg1) (ix2 r ⟨q.val, by omega⟩) := by
  show StableHlo.after hostOps0_2 (mid m c) main_v5 (ix2 r ⟨q.val, by omega⟩) = _
  rw [StableHlo.after_last_write (r := main_v5) (i := 3) [main_v6, main_v7, main_v8] rfl rfl (by decide) (mid m c), StableHlo.unary_result',
    StableHlo.upto_last_write (r := main_v4) (i := 2) [] rfl rfl (by decide) (mid m c)]
  refine (congrFun (congrArg (fun f => (truncf .bf16 f bitsLt_bf16_f32 : FVec Ideal S16384x3456 .bf16))
    (StableHlo.nary_result' ![main_v2, main_v3, main_v1] _ _ _ _)) _).trans ?_
  refine (cat3 _ _ _ concatenates_S16384x3072_S16384x256_S16384x128_S16384x3456_d1 r q).trans ?_
  dsimp only [Matrix.cons_val]
  after_reads_simp
  rw [mid_arg1]
  generalize m ((c : Thread nD τ).loc main_arg1) = A
  pointwise

/-- Column `k` of head `h`. -/
def col (h : Fin 6) (k : Fin 128) : Fin 768 := ⟨h.val * 128 + k.val, by omega⟩

/-- The gate's column `k` of head `h` in the packed array. -/
def gcol (h : Fin 6) (k : Fin 128) : Fin 3340 := ⟨2304 + (h.val * 128 + k.val), by omega⟩

/-- The rows that point `t` reads. -/
theorem blk0 (c : Dev nD) (t : Fin cfg0.N) (r : Fin 2048) (x : Fin 128) (q : Fin 16384) (h : Fin 6) (hq : q.val = t.val / 6 * 2048 + r.val)
    (hh : h.val = t.val % 6) : iblk m c 0 t (ix2 r x) = m ((c : Thread nD τ).loc main_arg0) (ix2 q (col h x)) := by
  refine Eq.trans ?_ (host_v6 m c q (col h x))
  unfold iblk col
  blk_ext [idx t]

/-- The gate's entries. -/
theorem blk1 (c : Dev nD) (t : Fin cfg0.N) (r : Fin 2048) (x : Fin 128) (q : Fin 16384) (h : Fin 6) (hq : q.val = t.val / 6 * 2048 + r.val)
    (hh : h.val = t.val % 6) : iblk m c 1 t (ix2 r x) = m ((c : Thread nD τ).loc main_arg1) (ix2 q (gcol h x)) := by
  refine Eq.trans ?_ (host_v5 m c q ⟨2304 + (h.val * 128 + x.val), by omega⟩)
  unfold iblk
  blk_ext [idx t]

/-- The gain. -/
theorem blk2 (c : Dev nD) (t : Fin cfg0.N) (x : Fin 128) :
    iblk m c 2 t (ix2 0 x) = m ((c : Thread nD τ).loc main_arg2) (ix1 x) := by
  refine Eq.trans ?_ (host_v7 m c x)
  unfold iblk
  blk_ext [idx t]

/-- The rows of the cotangent. -/
theorem blk3 (c : Dev nD) (t : Fin cfg0.N) (r : Fin 2048) (x : Fin 128) (q : Fin 16384) (h : Fin 6) (hq : q.val = t.val / 6 * 2048 + r.val)
    (hh : h.val = t.val % 6) : iblk m c 3 t (ix2 r x) = m ((c : Thread nD τ).loc main_arg3) (ix2 q (col h x)) := by
  refine Eq.trans ?_ (host_v8 m c q (col h x))
  unfold iblk col
  blk_ext [idx t]

/-- The head of a column. -/
def head (q : Fin 768) : Fin 6 := ⟨q.val / 128, by omega⟩

/-- A column's place in its head. -/
def lane (q : Fin 768) : Fin 128 := ⟨q.val % 128, by omega⟩

/-- The whole gradient of the normed array. -/
def DX (a : FVec Ideal S16384x768 .f32) (g : FVec Ideal S16384x3340 .f32) (w : FVec Ideal S128 .f32) (d : FVec Ideal S16384x768 .f32) :
    FVec Ideal S16384x768 .bf16 := fun i =>
  gx (fun k => a (ix2 (i 0) (col (head (i 1)) k))) (fun k => g (ix2 (i 0) (gcol (head (i 1)) k))) (fun k => w (ix1 k))
    (fun k => d (ix2 (i 0) (col (head (i 1)) k))) (lane (i 1))

/-- The whole gradient of the gate. -/
def DG (a : FVec Ideal S16384x768 .f32) (g : FVec Ideal S16384x3340 .f32) (w : FVec Ideal S128 .f32) (d : FVec Ideal S16384x768 .f32) :
    FVec Ideal S16384x768 .bf16 := fun i =>
  gg (fun k => a (ix2 (i 0) (col (head (i 1)) k))) (fun k => g (ix2 (i 0) (gcol (head (i 1)) k))) (fun k => w (ix1 k))
    (fun k => d (ix2 (i 0) (col (head (i 1)) k))) (lane (i 1))

theorem DX_at (a : FVec Ideal S16384x768 .f32) (g : FVec Ideal S16384x3340 .f32) (w : FVec Ideal S128 .f32) (d : FVec Ideal S16384x768 .f32)
    (q : Fin 16384) (p : Fin 768) (h : Fin 6) (j : Fin 128) (hh : head p = h) (hl : lane p = j) : DX a g w d (ix2 q p)
      = gx (fun k => a (ix2 q (col h k))) (fun k => g (ix2 q (gcol h k))) (fun k => w (ix1 k)) (fun k => d (ix2 q (col h k))) j := by
  subst hh hl; rfl

theorem DG_at (a : FVec Ideal S16384x768 .f32) (g : FVec Ideal S16384x3340 .f32) (w : FVec Ideal S128 .f32) (d : FVec Ideal S16384x768 .f32)
    (q : Fin 16384) (p : Fin 768) (h : Fin 6) (j : Fin 128) (hh : head p = h) (hl : lane p = j) : DG a g w d (ix2 q p)
      = gg (fun k => a (ix2 q (col h k))) (fun k => g (ix2 q (gcol h k))) (fun k => w (ix1 k)) (fun k => d (ix2 q (col h k))) j := by
  subst hh hl; rfl

/-- The whole gradient of the gain: over all rows and heads. -/
def DW (a : FVec Ideal S16384x768 .f32) (g : FVec Ideal S16384x3340 .f32) (d : FVec Ideal S16384x768 .f32) : FVec Ideal S1x128 .f32 := fun i =>
  ∑ q : Fin 16384, ∑ h : Fin 6, gw (fun k => a (ix2 q (col h k))) (fun k => g (ix2 q (gcol h k))) (fun k => d (ix2 q (col h k))) (i 1)

/-- What a point writes of the normed array's gradient. -/
theorem rows (c : Dev nD) (t : Fin cfg0.N) (r : Fin 2048) (x : Fin 128) : (outsAt0 m c t.val t.isLt).1 (ix2 r x)
    = gx (fun k => iblk m c 0 t (ix2 r k)) (fun k => iblk m c 1 t (ix2 r k)) (fun k => iblk m c 2 t (ix2 0 k))
        (fun k => iblk m c 3 t (ix2 r k)) x := by
  by_cases h : t.val % 48 = 0
  · rw [outsAt0_A m c t h]
    dsimp only
    exact dx_A c _ _ _ _ _ _ _ _ _ _ _ _ _ _ _ (iblk m c 0 t) (iblk m c 1 t) (iblk m c 2 t) (iblk m c 3 t) r x _
  · rw [outsAt0_B m c t h]
    dsimp only
    exact dx_B c _ _ _ _ _ _ _ _ _ _ _ _ _ _ _ (iblk m c 0 t) (iblk m c 1 t) (iblk m c 2 t) (iblk m c 3 t) _ r x _

/-- What a point writes of the gate's gradient. -/
theorem gates (c : Dev nD) (t : Fin cfg0.N) (r : Fin 2048) (x : Fin 128) : (outsAt0 m c t.val t.isLt).2.1 (ix2 r x)
    = gg (fun k => iblk m c 0 t (ix2 r k)) (fun k => iblk m c 1 t (ix2 r k)) (fun k => iblk m c 2 t (ix2 0 k))
        (fun k => iblk m c 3 t (ix2 r k)) x := by
  by_cases h : t.val % 48 = 0
  · rw [outsAt0_A m c t h]
    dsimp only
    exact dg_A c _ _ _ _ _ _ _ _ _ _ _ _ _ _ _ (iblk m c 0 t) (iblk m c 1 t) (iblk m c 2 t) (iblk m c 3 t) r x _
  · rw [outsAt0_B m c t h]
    dsimp only
    exact dg_B c _ _ _ _ _ _ _ _ _ _ _ _ _ _ _ (iblk m c 0 t) (iblk m c 1 t) (iblk m c 2 t) (iblk m c 3 t) _ r x _

/-- The gain's gradient after point `t`. -/
theorem acc (c : Dev nD) (t : Fin cfg0.N) (x : Fin 128) : (outsAt0 m c t.val t.isLt).2.2 (ix2 0 x)
    = 0 + ∑ s : Fin (t.val % 48 + 1), part (iblk m c 0 ⟨48 * (t.val / 48) + s.val, Pipeline.run_point_lt t rfl s⟩)
        (iblk m c 1 ⟨48 * (t.val / 48) + s.val, Pipeline.run_point_lt t rfl s⟩)
        (iblk m c 3 ⟨48 * (t.val / 48) + s.val, Pipeline.run_point_lt t rfl s⟩) x := by
  refine Pipeline.eq_sum_fin_of_reset_step_apply (fun n h (p : Fin 128) => (outsAt0 m c n h).2.2 (ix2 0 p)) 48 (fun _ => 0)
    (fun t p => part (iblk m c 0 t) (iblk m c 1 t) (iblk m c 3 t) p) (fun t h p => ?_) (fun t h p => ?_) t x
  · beta_reduce
    rw [outsAt0_A m c t h]
    dsimp only
    exact dw_A c _ _ _ _ _ _ _ _ _ _ _ _ _ _ _ (iblk m c 0 t) (iblk m c 1 t) (iblk m c 2 t) (iblk m c 3 t) p _
  · beta_reduce
    rw [outsAt0_B m c t h]
    dsimp only
    exact dw_B c _ _ _ _ _ _ _ _ _ _ _ _ _ _ _ (iblk m c 0 t) (iblk m c 1 t) (iblk m c 2 t) (iblk m c 3 t) _ p _

/-- The array of the normed array's gradient after the run. -/
theorem final_dx (c : Dev nD) : (dats m 0 c).arrAt 4 (cfgs 0).N = DX (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 48 := lt_of_lt_of_eq t.isLt N_0
  blk_simp
  rw [after0_4]
  idx_vars y
  have hy := y0.isLt
  have hh : head (col ⟨t.val % 6, by omega⟩ y1) = ⟨t.val % 6, by omega⟩ := by unfold head col; ext; simp only; omega
  have hl : lane (col ⟨t.val % 6, by omega⟩ y1) = y1 := by unfold lane col; ext; simp only; omega
  have e : ((View.whole main_v9_0).slice (win0_4.rect t)).emb (ix2 y0 y1)
      = ix2 (⟨t.val / 6 * 2048 + y0.val, by omega⟩ : Fin 16384) (col ⟨t.val % 6, by omega⟩ y1) := by
    unfold col; blk_ext [idx t]
  rw [e]
  refine (rows m c t y0 y1).trans ?_
  simp only [fun k => blk0 m c t y0 k ⟨t.val / 6 * 2048 + y0.val, by omega⟩ ⟨t.val % 6, by omega⟩ rfl rfl,
    fun k => blk1 m c t y0 k ⟨t.val / 6 * 2048 + y0.val, by omega⟩ ⟨t.val % 6, by omega⟩ rfl rfl, fun k => blk2 m c t k,
    fun k => blk3 m c t y0 k ⟨t.val / 6 * 2048 + y0.val, by omega⟩ ⟨t.val % 6, by omega⟩ rfl rfl]
  exact (DX_at _ _ _ _ _ _ _ _ hh hl).symm

/-- The array of the gate's gradient after the run. -/
theorem final_dg (c : Dev nD) : (dats m 0 c).arrAt 5 (cfgs 0).N = DG (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 48 := lt_of_lt_of_eq t.isLt N_0
  blk_simp
  rw [after0_5]
  idx_vars y
  have hy := y0.isLt
  have hh : head (col ⟨t.val % 6, by omega⟩ y1) = ⟨t.val % 6, by omega⟩ := by unfold head col; ext; simp only; omega
  have hl : lane (col ⟨t.val % 6, by omega⟩ y1) = y1 := by unfold lane col; ext; simp only; omega
  have e : ((View.whole main_v9_1).slice (win0_5.rect t)).emb (ix2 y0 y1)
      = ix2 (⟨t.val / 6 * 2048 + y0.val, by omega⟩ : Fin 16384) (col ⟨t.val % 6, by omega⟩ y1) := by
    unfold col; blk_ext [idx t]
  rw [e]
  refine (gates m c t y0 y1).trans ?_
  simp only [fun k => blk0 m c t y0 k ⟨t.val / 6 * 2048 + y0.val, by omega⟩ ⟨t.val % 6, by omega⟩ rfl rfl,
    fun k => blk1 m c t y0 k ⟨t.val / 6 * 2048 + y0.val, by omega⟩ ⟨t.val % 6, by omega⟩ rfl rfl, fun k => blk2 m c t k,
    fun k => blk3 m c t y0 k ⟨t.val / 6 * 2048 + y0.val, by omega⟩ ⟨t.val % 6, by omega⟩ rfl rfl]
  exact (DG_at _ _ _ _ _ _ _ _ hh hl).symm

/-- A sum over points, each over its block of rows, is a sum over rows and heads. -/
theorem sum_points {n : ℕ} (hn : n = 48) (f : Fin n → Fin 2048 → EReal) (g : Fin 16384 → Fin 6 → EReal)
    (hfg : ∀ (s : Fin n) (k : Fin 2048) (h : s.val / 6 * 2048 + k.val < 16384) (h' : s.val % 6 < 6),
      f s k = g ⟨s.val / 6 * 2048 + k.val, h⟩ ⟨s.val % 6, h'⟩) : (∑ s, ∑ k, f s k) = ∑ q, ∑ h, g q h := by
  have e1 : (∑ b : Fin 8, ∑ h : Fin 6, ∑ k : Fin 2048, g ⟨b.val * 2048 + k.val, by omega⟩ h) = ∑ s, ∑ k, f s k := by
    refine Fin.sum_mul_add_congr (fun b h hl => Finset.sum_congr rfl fun k _ => ?_) (by rw [hn])
    have hb := b.isLt
    have hh := h.isLt
    have hk := k.isLt
    rw [hfg _ k (by simp only; omega) (by simp only; omega)]
    have ex : (b.val * 6 + h.val) / 6 = b.val := by omega
    have ey : (b.val * 6 + h.val) % 6 = h.val := by omega
    simp only [ex, ey]
  have e2 : (∑ b : Fin 8, ∑ k : Fin 2048, ∑ h : Fin 6, g ⟨b.val * 2048 + k.val, by omega⟩ h) = ∑ q : Fin 16384, ∑ h, g q h :=
    Fin.sum_mul_add_congr (fun b k hl => rfl) (by norm_num)
  rw [← e1, ← e2]
  exact Finset.sum_congr rfl fun b _ => Finset.sum_comm

/-- The array of the gain's gradient after the run. -/
theorem final_dw (c : Dev nD) : (dats m 0 c).arrAt 6 (cfgs 0).N = DW (m ((c : Thread nD τ).loc main_arg0))
    (m ((c : Thread nD τ).loc main_arg1)) (m ((c : Thread nD τ).loc main_arg3)) := by
  refine (dats m 0 c).arrAt_eq_of_covers 6 _ (by decide +kernel) fun t hf y => ?_
  have h47 : t.val % 48 = 47 := (flush0_6 t).mp hf
  have ht : t.val < 48 := lt_of_lt_of_eq t.isLt N_0
  blk_simp
  rw [after0_6]
  idx_vars y
  obtain rfl : y0 = 0 := Subsingleton.elim _ _
  have e : ((View.whole main_v9_2).slice (win0_6.rect t)).emb (ix2 0 y1) = ix2 0 y1 := by
    blk_ext [idx t]
  rw [e]
  refine (acc m c t y1).trans ?_
  rw [zero_add]
  unfold part
  refine sum_points (by rw [h47]) _ _ fun s k hl h' => ?_
  have hs : s.val < 48 := by have := s.isLt; omega
  have b : ∀ n (hn : n < cfg0.N), n = 48 * (t.val / 48) + s.val →
      gw (fun j => iblk m c 0 ⟨n, hn⟩ (ix2 k j)) (fun j => iblk m c 1 ⟨n, hn⟩ (ix2 k j)) (fun j => iblk m c 3 ⟨n, hn⟩ (ix2 k j)) y1
        = gw (fun j => m ((c : Thread nD τ).loc main_arg0) (ix2 (⟨s.val / 6 * 2048 + k.val, hl⟩ : Fin 16384) (col ⟨s.val % 6, h'⟩ j)))
          (fun j => m ((c : Thread nD τ).loc main_arg1) (ix2 (⟨s.val / 6 * 2048 + k.val, hl⟩ : Fin 16384) (gcol ⟨s.val % 6, h'⟩ j)))
          (fun j => m ((c : Thread nD τ).loc main_arg3) (ix2 (⟨s.val / 6 * 2048 + k.val, hl⟩ : Fin 16384) (col ⟨s.val % 6, h'⟩ j))) y1 := fun n hn e => by
    simp only [fun j => blk0 m c ⟨n, hn⟩ k j ⟨s.val / 6 * 2048 + k.val, hl⟩ ⟨s.val % 6, h'⟩ (by simp only; omega) (by simp only; omega),
      fun j => blk1 m c ⟨n, hn⟩ k j ⟨s.val / 6 * 2048 + k.val, hl⟩ ⟨s.val % 6, h'⟩ (by simp only; omega) (by simp only; omega),
      fun j => blk3 m c ⟨n, hn⟩ k j ⟨s.val / 6 * 2048 + k.val, hl⟩ ⟨s.val % 6, h'⟩ (by simp only; omega) (by simp only; omega)]
  exact b _ _ rfl

end Cert.OutNormIdeal.Pf

end
-- ==== Proof.OutNormRef.lean ====
module

public import proofs.«01_k».proof.Proof.Gen.OutNormRefIdeal.Read
public import proofs.«01_k».proof.Proof.OutNormKernel

@[expose] public section

set_option maxRecDepth 16384

noncomputable section

/-! The gated norm's derivatives that the reference computes are the kernel's arrays. -/

namespace Cert.OutNormRefIdeal.Pf

open Idealize.ShloMosaic Idealize.ShloMosaic.TcCoe
open Cert.OutNormRefIdeal Cert.OutNormRefIdeal.Gen Cert.OutNormRefIdeal.Read
open Cert.OutNormIdeal.Pf (DX DG DW len eps mhalf gx gg gw col gcol head lane DX_at DG_at)

/-- A sum over the first two of three axes. -/
theorem sum_two {A B C : ℕ} (h : Shape.ReducesTo ⟨3, ![A, B, C]⟩ [0, 1] ⟨1, ![C]⟩) (x : (⟨3, ![A, B, C]⟩ : Shape).Idx → EReal)
    (init : EReal) (j : Fin C) : Ideal.hostReduceAdd h x init (ix1 j) = init + ∑ a : Fin A, ∑ b : Fin B, x (ix3 a b j) := by
  unfold Ideal.hostReduceAdd
  refine congrArg (init + ·) ?_
  rw [← Fintype.sum_prod_type']
  refine Finset.sum_nbij' (fun i => (i 0, i 1)) (fun p => ix3 p.1 p.2 j) ?_ ?_ ?_ ?_ ?_
  · intro i hi; exact Finset.mem_univ _
  · intro p hp
    refine Finset.mem_filter.mpr ⟨Finset.mem_univ _, funext fun b => Fin.ext ?_⟩
    obtain rfl : b = 0 := Subsingleton.elim _ _
    rfl
  · intro i hi
    have e := congrFun (Finset.mem_filter.mp hi).2 0
    have e2 : (i 2).val = j.val := congrArg Fin.val e
    refine funext fun a => Fin.ext ?_
    fin_cases a
    · rfl
    · rfl
    · exact e2.symm
  · intro p hp; rfl
  · intro i hi
    have e := congrFun (Finset.mem_filter.mp hi).2 0
    have e2 : (i 2).val = j.val := congrArg Fin.val e
    refine congrArg x (funext fun a => Fin.ext ?_)
    fin_cases a
    · rfl
    · rfl
    · exact e2

theorem x_at (x0 : FVec Ideal S16384x768 .f32) (q : Fin 16384) (h : Fin 6) (k : Fin 128) :
    val_main_v3 (F := Ideal) x0 (ix3 q h k) = x0 (ix2 q (col h k)) := by
  pointwise [val_main_v3]; rfl

theorem d_at (x3 : FVec Ideal S16384x768 .f32) (q : Fin 16384) (h : Fin 6) (k : Fin 128) :
    val_main_v24 (F := Ideal) x3 (ix3 q h k) = x3 (ix2 q (col h k)) := by
  pointwise [val_main_v24]; rfl

theorem g_at (x1 : FVec Ideal S16384x3340 .f32) (q : Fin 16384) (h : Fin 6) (k : Fin 128) :
    val_main_v20 (F := Ideal) x1 (ix3 q h k) = x1 (ix2 q (gcol h k)) := by
  pointwise [val_main_v20, val_main_v1]; unfold gcol; simp only [Nat.add_comm]

/-- The gradient at a row, head and lane. -/
theorem dx_at (x0 : FVec Ideal S16384x768 .f32) (x1 : FVec Ideal S16384x3340 .f32) (x2 : FVec Ideal S128 .f32) (x3 : FVec Ideal S16384x768 .f32)
    (q : Fin 16384) (h : Fin 6) (j : Fin 128) : val_main_v48 (F := Ideal) x0 x1 x2 x3 (ix3 q h j)
      = gx (fun k => x0 (ix2 q (col h k))) (fun k => x1 (ix2 q (gcol h k))) (fun k => x2 (ix1 k)) (fun k => x3 (ix2 q (col h k))) j := by
  have hx := fun k => x_at x0 q h k
  have hd := fun k => d_at x3 q h k
  have hg := fun k => g_at x1 q h k
  simp only [← hx, ← hd, ← hg]
  pointwise [val_main_v48, val_main_v47, val_main_v46, val_main_v45, val_main_v44, val_main_v43, val_main_cst_7, val_main_v42, val_main_v41,
    val_main_cst_6, val_main_v40, val_main_v39, val_main_v38, val_main_v37, val_main_v36, val_main_cst_5, val_main_v35, val_main_v33,
    val_main_v32, val_main_v26, val_main_v21_0, val_main_v21_2, val_main_call0_v4, val_main_call0_cst_0, val_main_call0_v3, val_main_call0_v2,
    val_main_call0_cst, val_main_call0_v1, val_main_call0_v0, val_main_v17, val_main_v14, val_main_v13, val_main_cst_2, val_main_v12,
    val_main_v11, val_main_v10, val_main_v9, val_main_cst_1, val_main_v8, val_main_v7, val_main_cst_0, val_main_v6, val_main_v5, val_main_cst,
    val_main_v4]
  simp only [Finset.univ_unique, Finset.sum_singleton]
  rfl

/-- The gate's gradient at a row, head and lane. -/
theorem dg_at (x0 : FVec Ideal S16384x768 .f32) (x1 : FVec Ideal S16384x3340 .f32) (x2 : FVec Ideal S128 .f32) (x3 : FVec Ideal S16384x768 .f32)
    (q : Fin 16384) (h : Fin 6) (j : Fin 128) : val_main_v27 (F := Ideal) x0 x1 x2 x3 (ix3 q h j)
      = gg (fun k => x0 (ix2 q (col h k))) (fun k => x1 (ix2 q (gcol h k))) (fun k => x2 (ix1 k)) (fun k => x3 (ix2 q (col h k))) j := by
  have hx := fun k => x_at x0 q h k
  have hd := fun k => d_at x3 q h k
  have hg := fun k => g_at x1 q h k
  simp only [← hx, ← hd, ← hg]
  pointwise [val_main_v27, val_main_call1_v2, val_main_call1_v1, val_main_call1_v0, val_main_v25, val_main_v21_1, val_main_call0_v7,
    val_main_call0_v6, val_main_call0_cst_1, val_main_v21_2, val_main_call0_v4, val_main_call0_cst_0, val_main_call0_v3, val_main_call0_v2,
    val_main_call0_cst, val_main_call0_v1, val_main_call0_v0, val_main_v19, val_main_v18, val_main_v17, val_main_v16, val_main_v15,
    val_main_v11, val_main_v10, val_main_v9, val_main_cst_1, val_main_v8, val_main_v7, val_main_cst_0, val_main_v6, val_main_v5, val_main_cst,
    val_main_v4]
  rfl

/-- A row's share of the gain's gradient. -/
theorem dw_at (x0 : FVec Ideal S16384x768 .f32) (x1 : FVec Ideal S16384x3340 .f32) (x3 : FVec Ideal S16384x768 .f32)
    (q : Fin 16384) (h : Fin 6) (j : Fin 128) : val_main_v29 (F := Ideal) x0 x1 x3 (ix3 q h j)
      = gw (fun k => x0 (ix2 q (col h k))) (fun k => x1 (ix2 q (gcol h k))) (fun k => x3 (ix2 q (col h k))) j := by
  have hx := fun k => x_at x0 q h k
  have hd := fun k => d_at x3 q h k
  have hg := fun k => g_at x1 q h k
  simp only [← hx, ← hd, ← hg]
  pointwise [val_main_v29, val_main_v26, val_main_v21_0, val_main_v21_2, val_main_call0_v4, val_main_call0_cst_0, val_main_call0_v3, val_main_call0_v2,
    val_main_call0_cst, val_main_call0_v1, val_main_call0_v0, val_main_v16, val_main_v15,
    val_main_v11, val_main_v10, val_main_v9, val_main_cst_1, val_main_v8, val_main_v7, val_main_cst_0, val_main_v6, val_main_v5, val_main_cst,
    val_main_v4]
  rfl

/-- The normed array's gradient. -/
theorem dx_eq (x0 : FVec Ideal S16384x768 .f32) (x1 : FVec Ideal S16384x3340 .f32) (x2 : FVec Ideal S128 .f32) (x3 : FVec Ideal S16384x768 .f32) :
    val_main_v50 (F := Ideal) x0 x1 x2 x3 = DX x0 x1 x2 x3 := by
  funext i
  idx_vars i
  have e : val_main_v50 (F := Ideal) x0 x1 x2 x3 (ix2 i0 i1) = val_main_v48 (F := Ideal) x0 x1 x2 x3 (ix3 i0 (head i1) (lane i1)) := by
    pointwise [val_main_v50, val_main_v49]; rfl
  rw [e, dx_at]
  rfl

/-- The gate's gradient. -/
theorem dg_eq (x0 : FVec Ideal S16384x768 .f32) (x1 : FVec Ideal S16384x3340 .f32) (x2 : FVec Ideal S128 .f32) (x3 : FVec Ideal S16384x768 .f32) :
    val_main_v51 (F := Ideal) x0 x1 x2 x3 = DG x0 x1 x2 x3 := by
  funext i
  idx_vars i
  have e : val_main_v51 (F := Ideal) x0 x1 x2 x3 (ix2 i0 i1) = val_main_v27 (F := Ideal) x0 x1 x2 x3 (ix3 i0 (head i1) (lane i1)) := by
    pointwise [val_main_v51, val_main_v28]; rfl
  rw [e, dg_at]
  rfl

/-- The gain's gradient. -/
theorem dw_eq (x0 : FVec Ideal S16384x768 .f32) (x1 : FVec Ideal S16384x3340 .f32) (x3 : FVec Ideal S16384x768 .f32) :
    val_main_v52 (F := Ideal) x0 x1 x3 = DW x0 x1 x3 := by
  have e30 (j : Fin 128) : val_main_v30 (F := Ideal) x0 x1 x3 (ix1 j) = ∑ q : Fin 16384, ∑ h : Fin 6, val_main_v29 (F := Ideal) x0 x1 x3 (ix3 q h j) := by
    unfold val_main_v30
    refine (sum_two reducesTo_S16384x6x128_S128_d0_1 _ _ j).trans ?_
    pointwise [val_main_cst_3]
  have e34 (j : Fin 128) : val_main_v34 (F := Ideal) x0 x1 x3 (ix1 j) = val_main_v30 (F := Ideal) x0 x1 x3 (ix1 j) := by
    unfold val_main_v34
    refine (sum_two reducesTo_S1x1x128_S128_d0_1 _ _ j).trans ?_
    simp only [Finset.univ_unique, Finset.sum_singleton]
    pointwise [val_main_cst_4, val_main_v31]
  funext i
  idx_vars i
  obtain rfl : i0 = 0 := Subsingleton.elim _ _
  have e : val_main_v52 (F := Ideal) x0 x1 x3 (ix2 0 i1) = val_main_v34 (F := Ideal) x0 x1 x3 (ix1 i1) := by
    pointwise [val_main_v52]
  rw [e, e34, e30]
  simp only [dw_at]
  rfl

end Cert.OutNormRefIdeal.Pf

end
-- ==== Proof.OutNormClaim.lean ====
module

public import proofs.«01_k».proof.Defs
public import proofs.«01_k».proof.Proof.Gen.OutNorm.Frame
public import proofs.«01_k».proof.Proof.Gen.OutNormRefIdeal.Run
public import proofs.«01_k».proof.Proof.OutNormRef
public import Idealize.ShloMosaic.Lib.Claim

@[expose] public section

set_option maxRecDepth 16384

noncomputable section

/-! The claims about the gradients of the gated norm of every head. -/

namespace Cert.Proof.OutNorm

open Idealize.ShloMosaic Idealize.SL.Sem

theorem frame_kernel : Cert.quiescent_OutNorm := fun m ρ _ => Cert.OutNorm.Gen.frame m ρ

theorem frame_ideal : Cert.quiescent_OutNormIdeal := fun m ρ _ => Cert.OutNormIdeal.Gen.frame m ρ

theorem frame_ref : Cert.quiescent_OutNormRefIdeal := fun m ρ _ =>
  (θ_run Cert.OutNormRefIdeal.defs _ _).mono
    (fun r h => ⟨fun c => (h c).2.2.2, Idealize.ShloMosaic.sem_eq_zero_of_no_sems (by decide) r.2⟩)
    (Cert.OutNormRefIdeal.Value.run (F := Ideal) m ρ)

/-- The kernel's results and the derivatives of the plain lines are the same arrays. -/
theorem value : Cert.algebraic_OutNormIdeal_OutNormRefIdeal := by
  intro m g m' g' hpre hagree
  refine ⟨fun c => Cert.OutNormIdeal.Pf.DX (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3)),
    fun c => Cert.OutNormIdeal.Pf.DG (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3)),
    fun c => Cert.OutNormIdeal.Pf.DW (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg3)), ?_, ?_⟩
  · exact (θ_run Cert.OutNormIdeal.defs _ _).mono
      (fun r h c => ⟨(h c).1.trans (Cert.OutNormIdeal.Pf.final_dx m c), (h c).2.1.trans (Cert.OutNormIdeal.Pf.final_dg m c), (h c).2.2.1.trans (Cert.OutNormIdeal.Pf.final_dw m c), (h c).2.2.2⟩)
      (Cert.OutNormIdeal.Value.run_blocks m g)
  · refine (θ_run Cert.OutNormRefIdeal.defs _ _).mono (fun r h c => ⟨(h c).1.trans ?_, (h c).2.1.trans ?_, (h c).2.2.1.trans ?_, (h c).2.2.2⟩)
      (Cert.OutNormRefIdeal.Value.run (F := Ideal) m' g')
    · obtain ⟨h0, h1, h2, h3⟩ := hagree c
      refine (Cert.OutNormRefIdeal.Read.val_main_v50_eq m' c).trans ?_
      rw [h0, h1, h2, h3]
      exact Cert.OutNormRefIdeal.Pf.dx_eq _ _ _ _
    · obtain ⟨h0, h1, h2, h3⟩ := hagree c
      beta_reduce
      rw [h0, h1, h2, h3]
      exact (Cert.OutNormRefIdeal.Read.val_main_v51_eq _ _ _ _).trans (Cert.OutNormRefIdeal.Pf.dg_eq _ _ _ _)
    · obtain ⟨h0, h1, h2, h3⟩ := hagree c
      beta_reduce
      rw [h0, h1, h3]
      exact (Cert.OutNormRefIdeal.Read.val_main_v52_eq _ _ _).trans (Cert.OutNormRefIdeal.Pf.dw_eq _ _ _)

end Cert.Proof.OutNorm

end
-- ==== Proof.LossKernel.lean ====
module

public import proofs.«01_k».proof.Proof.Gen.LossIdeal.Value
public import Idealize.ShloMosaic.Lib.Pipeline.ValueKit
public import Idealize.ShloMosaic.Lib.Pointwise
public import proofs.«01_k».proof.Proof.Rms
public import proofs.«01_k».proof.Proof.Half

@[expose] public section

set_option maxRecDepth 16384

noncomputable section

/-! What the kernel for the loss leaves in its three result arrays. -/

namespace Cert.LossIdeal.Pf

open Idealize.ShloMosaic Idealize.ShloMosaic.TcCoe Idealize.SL.Sem
open Idealize.ShloMosaic.Pipeline (Dat)
open Cert.LossIdeal Cert.LossIdeal.Gen

variable (m : (ℓ : Loc nD τ sig) → Buf (Elt Ideal) ℓ)

/-- The row length. -/
abbrev len : EReal := Ideal.ofBits .f32 0x44800000#32
/-- The norm's offset. -/
abbrev eps : EReal := Ideal.ofBits .f32 0x358637BD#32
/-- Minus one half. -/
abbrev mhalf : EReal := Ideal.ofBits .f32 0xBF000000#32

/-- One half. -/
abbrev half : EReal := Ideal.ofBits .f32 0x3F000000#32

/-- The derivative of the loss by a squared error: one half over the row length. -/
abbrev scale : EReal := Ideal.div half len

/-- The error of a normed row. -/
def err (x w y : Fin 1024 → EReal) (k : Fin 1024) : EReal := Rms.unit len eps x k * w k - y k

/-- The derivative of the loss by the normed row. -/
def cot (x w y : Fin 1024 → EReal) (k : Fin 1024) : EReal := err x w y k * scale + scale * err x w y k

/-- The gradient of a row. -/
def gx (x w y : Fin 1024 → EReal) (j : Fin 1024) : EReal := Rms.grad len eps mhalf x (fun k => cot x w y k * w k) j

/-- A row's mean squared error. -/
def sq (x w y : Fin 1024 → EReal) : EReal := Ideal.div (∑ k, err x w y k * err x w y k) len

section
variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S512x1024 .f32) (h4 : a4.IsWhole) (a5 : Memref sig .tc .vmem S1x1024 .f32) (h5 : a5.IsWhole)
  (a6 : Memref sig .tc .vmem S1x128 .f32) (h6 : a6.IsWhole)
  (X : FVec Ideal S512x1024 .f32) (W : FVec Ideal S1x1024 .f32) (Y : FVec Ideal S512x1024 .f32)
  (Z : FVec Ideal S1x1024 .f32) (L : FVec Ideal S1x128 .f32) (r : Fin 512) (x : Fin 1024) (p : Fin 128)

/-- The constant the kernel computes. -/
theorem scale_at : k0_pay9 (F := Ideal) (ix2 r 0) = scale := by
  unfold k0_pay9
  pointwise
  simp only [Finset.univ_unique, Finset.sum_singleton]

/-- A point's rows of the gradient. -/
theorem dx_A (hc0 : cond0_0 i) (hc1 : cond0_1 i) :
    out0_A_3 (F := Ideal) c i a1 h1 a2 h2 a3 h3 a4 h4 a5 h5 a6 h6 hc0 hc1 X W Y (ix2 r x)
      = gx (fun k => X (ix2 r k)) (fun k => W (ix2 0 k)) (fun k => Y (ix2 r k)) x := by
  frame_out
  pointwise [k0_pay1, k0_pay2, k0_pay3, k0_pay4, k0_pay5, k0_pay6, k0_pay7, k0_pay8, k0_pay10, k0_pay11, k0_pay12, k0_pay13, k0_pay14,
    k0_pay15]
  simp only [Finset.univ_unique, Finset.sum_singleton]
  simp only [Fin.default_eq_zero, scale_at]
  rfl

/-- The same at a later point. -/
theorem dx_B (hc0 : ¬cond0_0 i) (hc1 : ¬cond0_1 i) :
    out0_B_3 (F := Ideal) c i a1 h1 a2 h2 a3 h3 a4 h4 a5 h5 a6 h6 hc0 hc1 X W Y Z L (ix2 r x)
      = gx (fun k => X (ix2 r k)) (fun k => W (ix2 0 k)) (fun k => Y (ix2 r k)) x := by
  frame_out
  pointwise [k0_pay1, k0_pay2, k0_pay3, k0_pay4, k0_pay5, k0_pay6, k0_pay7, k0_pay8, k0_pay10, k0_pay11, k0_pay12, k0_pay13, k0_pay14,
    k0_pay15]
  simp only [Finset.univ_unique, Finset.sum_singleton]
  simp only [Fin.default_eq_zero, scale_at]
  rfl

/-- A point's share of the gain's gradient. -/
def part (X : FVec Ideal S512x1024 .f32) (W : FVec Ideal S1x1024 .f32) (Y : FVec Ideal S512x1024 .f32) (x : Fin 1024) : EReal :=
  ∑ r : Fin 512, Rms.unit len eps (fun k => X (ix2 r k)) x
    * cot (fun k => X (ix2 r k)) (fun k => W (ix2 0 k)) (fun k => Y (ix2 r k)) x

/-- The first point starts the gain's gradient. -/
theorem dw_A (hc0 : cond0_0 i) (hc1 : cond0_1 i) :
    out0_A_4 (F := Ideal) c i a1 h1 a2 h2 a3 h3 a4 h4 a5 h5 a6 h6 hc0 hc1 X W Y (ix2 0 x) = 0 + part X W Y x := by
  frame_out
  pointwise [k0_pay1, k0_pay2, k0_pay3, k0_pay4, k0_pay5, k0_pay6, k0_pay7, k0_pay8, k0_pay10, k0_pay11, k0_pay12, k0_pay13, k0_pay14,
    k0_pay15]
  simp only [Finset.univ_unique, Finset.sum_singleton]
  simp only [Fin.default_eq_zero, scale_at]
  rfl

/-- A later point adds to it. -/
theorem dw_B (hc0 : ¬cond0_0 i) (hc1 : ¬cond0_1 i) :
    out0_B_4 (F := Ideal) c i a1 h1 a2 h2 a3 h3 a4 h4 a5 h5 a6 h6 hc0 hc1 X W Y Z L (ix2 0 x) = Z (ix2 0 x) + part X W Y x := by
  frame_out
  pointwise [k0_pay1, k0_pay2, k0_pay3, k0_pay4, k0_pay5, k0_pay6, k0_pay7, k0_pay8, k0_pay10, k0_pay11, k0_pay12, k0_pay13, k0_pay14,
    k0_pay15]
  simp only [Finset.univ_unique, Finset.sum_singleton]
  simp only [Fin.default_eq_zero, scale_at]
  rfl

/-- A point's share of the loss. -/
def lpart (X : FVec Ideal S512x1024 .f32) (W : FVec Ideal S1x1024 .f32) (Y : FVec Ideal S512x1024 .f32) : EReal :=
  half * ∑ r : Fin 512, sq (fun k => X (ix2 r k)) (fun k => W (ix2 0 k)) (fun k => Y (ix2 r k))

/-- The first point starts the loss. -/
theorem loss_A (hc0 : cond0_0 i) (hc1 : cond0_1 i) :
    out0_A_5 (F := Ideal) c i a1 h1 a2 h2 a3 h3 a4 h4 a5 h5 a6 h6 hc0 hc1 X W Y (ix2 0 p) = 0 + lpart X W Y := by
  frame_out
  pointwise [k0_pay1, k0_pay2, k0_pay3, k0_pay4, k0_pay5, k0_pay6, k0_pay7, k0_pay8, k0_pay10, k0_pay11, k0_pay12, k0_pay13, k0_pay14,
    k0_pay15]
  rfl

/-- A later point adds to it. -/
theorem loss_B (hc0 : ¬cond0_0 i) (hc1 : ¬cond0_1 i) :
    out0_B_5 (F := Ideal) c i a1 h1 a2 h2 a3 h3 a4 h4 a5 h5 a6 h6 hc0 hc1 X W Y Z L (ix2 0 p) = L (ix2 0 p) + lpart X W Y := by
  frame_out
  pointwise [k0_pay1, k0_pay2, k0_pay3, k0_pay4, k0_pay5, k0_pay6, k0_pay7, k0_pay8, k0_pay10, k0_pay11, k0_pay12, k0_pay13, k0_pay14,
    k0_pay15]
  rfl

end

/-- Every window's block at point `t`. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

/-- The rows that point `t` reads. -/
theorem blk0 (c : Dev nD) (t : Fin cfg0.N) (r : Fin 512) (x : Fin 1024) (q : Fin 16384) (hq : q.val = t.val * 512 + r.val) :
    iblk m c 0 t (ix2 r x) = m ((c : Thread nD τ).loc main_arg0) (ix2 q x) := by
  unfold iblk; entry_read; blk_ext [idx t]

/-- The gain. -/
theorem blk1 (c : Dev nD) (t : Fin cfg0.N) (x : Fin 1024) :
    iblk m c 1 t (ix2 0 x) = m ((c : Thread nD τ).loc main_arg1) (ix1 x) := by
  unfold iblk; entry_read; blk_simp; pointwise; blk_ext [idx t]

/-- The rows of the target. -/
theorem blk2 (c : Dev nD) (t : Fin cfg0.N) (r : Fin 512) (x : Fin 1024) (q : Fin 16384) (hq : q.val = t.val * 512 + r.val) :
    iblk m c 2 t (ix2 r x) = m ((c : Thread nD τ).loc main_arg2) (ix2 q x) := by
  unfold iblk; entry_read; blk_ext [idx t]

/-- The whole gradient of the input. -/
def DX (a : FVec Ideal S16384x1024 .f32) (w : FVec Ideal S1024 .f32) (y : FVec Ideal S16384x1024 .f32) : FVec Ideal S16384x1024 .f32 := fun i =>
  gx (fun k => a (ix2 (i 0) k)) (fun k => w (ix1 k)) (fun k => y (ix2 (i 0) k)) (i 1)

/-- The whole gradient of the gain. -/
def DW (a : FVec Ideal S16384x1024 .f32) (w : FVec Ideal S1024 .f32) (y : FVec Ideal S16384x1024 .f32) : FVec Ideal S1x1024 .f32 := fun i =>
  ∑ t : Fin 16384, Rms.unit len eps (fun k => a (ix2 t k)) (i 1)
    * cot (fun k => a (ix2 t k)) (fun k => w (ix1 k)) (fun k => y (ix2 t k)) (i 1)

/-- The loss, in every lane. -/
def LS (a : FVec Ideal S16384x1024 .f32) (w : FVec Ideal S1024 .f32) (y : FVec Ideal S16384x1024 .f32) : FVec Ideal S1x128 .f32 := fun _ =>
  half * ∑ t : Fin 16384, sq (fun k => a (ix2 t k)) (fun k => w (ix1 k)) (fun k => y (ix2 t k))

/-- What a point writes of the input's gradient. -/
theorem rows (c : Dev nD) (t : Fin cfg0.N) (r : Fin 512) (x : Fin 1024) : (outsAt0 m c t.val t.isLt).1 (ix2 r x)
    = gx (fun k => iblk m c 0 t (ix2 r k)) (fun k => iblk m c 1 t (ix2 0 k)) (fun k => iblk m c 2 t (ix2 r k)) x := by
  by_cases h : t.val % 32 = 0
  · rw [outsAt0_A m c t h h]
    dsimp only
    exact dx_A c _ _ _ _ _ _ _ _ _ _ _ _ _ (iblk m c 0 t) (iblk m c 1 t) (iblk m c 2 t) r x _ _
  · rw [outsAt0_B m c t h h]
    dsimp only
    exact dx_B c _ _ _ _ _ _ _ _ _ _ _ _ _ (iblk m c 0 t) (iblk m c 1 t) (iblk m c 2 t) _ _ r x _ _

/-- The gain's gradient after point `t`. -/
theorem acc (c : Dev nD) (t : Fin cfg0.N) (x : Fin 1024) : (outsAt0 m c t.val t.isLt).2.1 (ix2 0 x)
    = 0 + ∑ s : Fin (t.val % 32 + 1), part (iblk m c 0 ⟨32 * (t.val / 32) + s.val, Pipeline.run_point_lt t rfl s⟩)
        (iblk m c 1 ⟨32 * (t.val / 32) + s.val, Pipeline.run_point_lt t rfl s⟩)
        (iblk m c 2 ⟨32 * (t.val / 32) + s.val, Pipeline.run_point_lt t rfl s⟩) x := by
  refine Pipeline.eq_sum_fin_of_reset_step_apply (fun n h (p : Fin 1024) => (outsAt0 m c n h).2.1 (ix2 0 p)) 32 (fun _ => 0)
    (fun t p => part (iblk m c 0 t) (iblk m c 1 t) (iblk m c 2 t) p) (fun t h p => ?_) (fun t h p => ?_) t x
  · beta_reduce
    rw [outsAt0_A m c t h h]
    dsimp only
    exact dw_A c _ _ _ _ _ _ _ _ _ _ _ _ _ (iblk m c 0 t) (iblk m c 1 t) (iblk m c 2 t) p _ _
  · beta_reduce
    rw [outsAt0_B m c t h h]
    dsimp only
    exact dw_B c _ _ _ _ _ _ _ _ _ _ _ _ _ (iblk m c 0 t) (iblk m c 1 t) (iblk m c 2 t) _ _ p _ _

/-- The loss after point `t`. -/
theorem lacc (c : Dev nD) (t : Fin cfg0.N) (x : Fin 128) : (outsAt0 m c t.val t.isLt).2.2 (ix2 0 x)
    = 0 + ∑ s : Fin (t.val % 32 + 1), lpart (iblk m c 0 ⟨32 * (t.val / 32) + s.val, Pipeline.run_point_lt t rfl s⟩)
        (iblk m c 1 ⟨32 * (t.val / 32) + s.val, Pipeline.run_point_lt t rfl s⟩)
        (iblk m c 2 ⟨32 * (t.val / 32) + s.val, Pipeline.run_point_lt t rfl s⟩) := by
  refine Pipeline.eq_sum_fin_of_reset_step_apply (fun n h (p : Fin 128) => (outsAt0 m c n h).2.2 (ix2 0 p)) 32 (fun _ => 0)
    (fun t p => lpart (iblk m c 0 t) (iblk m c 1 t) (iblk m c 2 t)) (fun t h p => ?_) (fun t h p => ?_) t x
  · beta_reduce
    rw [outsAt0_A m c t h h]
    dsimp only
    exact loss_A c _ _ _ _ _ _ _ _ _ _ _ _ _ (iblk m c 0 t) (iblk m c 1 t) (iblk m c 2 t) p _ _
  · beta_reduce
    rw [outsAt0_B m c t h h]
    dsimp only
    exact loss_B c _ _ _ _ _ _ _ _ _ _ _ _ _ (iblk m c 0 t) (iblk m c 1 t) (iblk m c 2 t) _ _ p _ _

/-- The array of the input's gradient after the run. -/
theorem final_dx (c : Dev nD) : (dats m 0 c).arrAt 3 (cfgs 0).N = DX (m ((c : Thread nD τ).loc main_arg0))
    (m ((c : Thread nD τ).loc main_arg1)) (m ((c : Thread nD τ).loc main_arg2)) := by
  refine (dats m 0 c).arrAt_eq_of_covers 3 _ (by decide +kernel) fun t hf y => ?_
  have ht : t.val < 32 := lt_of_lt_of_eq t.isLt N_0
  blk_simp
  rw [after0_3]
  idx_vars y
  have hy := y0.isLt
  have e : ((View.whole main_v1_0).slice (win0_3.rect t)).emb (ix2 y0 y1) = ix2 (⟨t.val * 512 + y0.val, by omega⟩ : Fin 16384) y1 := by
    blk_ext [idx t]
  rw [e]
  refine (rows m c t y0 y1).trans ?_
  simp only [fun k => blk0 m c t y0 k ⟨t.val * 512 + y0.val, by omega⟩ rfl, fun k => blk1 m c t k,
    fun k => blk2 m c t y0 k ⟨t.val * 512 + y0.val, by omega⟩ rfl]
  rfl

/-- The array of the gain's gradient after the run. -/
theorem final_dw (c : Dev nD) : (dats m 0 c).arrAt 4 (cfgs 0).N = DW (m ((c : Thread nD τ).loc main_arg0))
    (m ((c : Thread nD τ).loc main_arg1)) (m ((c : Thread nD τ).loc main_arg2)) := by
  refine (dats m 0 c).arrAt_eq_of_covers 4 _ (by decide +kernel) fun t hf y => ?_
  have h31 : t.val % 32 = 31 := (flush0_4 t).mp hf
  have ht : t.val < 32 := lt_of_lt_of_eq t.isLt N_0
  blk_simp
  rw [after0_4]
  idx_vars y
  obtain rfl : y0 = 0 := Subsingleton.elim _ _
  have e : ((View.whole main_v1_1).slice (win0_4.rect t)).emb (ix2 0 y1) = ix2 0 y1 := by
    blk_ext [idx t]
  rw [e]
  refine (acc m c t y1).trans ?_
  rw [zero_add]
  unfold part
  refine Fin.sum_mul_add_congr (fun s k hl => ?_) (by rw [h31])
  have hs : s.val < 32 := by have := s.isLt; omega
  have b : ∀ n (hn : n < cfg0.N), n = 32 * (t.val / 32) + s.val →
      Rms.unit len eps (fun j => iblk m c 0 ⟨n, hn⟩ (ix2 k j)) y1
          * cot (fun j => iblk m c 0 ⟨n, hn⟩ (ix2 k j)) (fun j => iblk m c 1 ⟨n, hn⟩ (ix2 0 j)) (fun j => iblk m c 2 ⟨n, hn⟩ (ix2 k j)) y1
        = Rms.unit len eps (fun j => m ((c : Thread nD τ).loc main_arg0) (ix2 (⟨s.val * 512 + k.val, hl⟩ : Fin 16384) j)) y1
          * cot (fun j => m ((c : Thread nD τ).loc main_arg0) (ix2 (⟨s.val * 512 + k.val, hl⟩ : Fin 16384) j))
            (fun j => m ((c : Thread nD τ).loc main_arg1) (ix1 j))
            (fun j => m ((c : Thread nD τ).loc main_arg2) (ix2 (⟨s.val * 512 + k.val, hl⟩ : Fin 16384) j)) y1 := fun n hn e => by
    simp only [fun j => blk0 m c ⟨n, hn⟩ k j ⟨s.val * 512 + k.val, hl⟩ (by simp only; omega), fun j => blk1 m c ⟨n, hn⟩ j,
      fun j => blk2 m c ⟨n, hn⟩ k j ⟨s.val * 512 + k.val, hl⟩ (by simp only; omega)]
  exact b _ _ rfl

/-- The array of the loss after the run. -/
theorem final_ls (c : Dev nD) : (dats m 0 c).arrAt 5 (cfgs 0).N = LS (m ((c : Thread nD τ).loc main_arg0))
    (m ((c : Thread nD τ).loc main_arg1)) (m ((c : Thread nD τ).loc main_arg2)) := by
  refine (dats m 0 c).arrAt_eq_of_covers 5 _ (by decide +kernel) fun t hf y => ?_
  have h31 : t.val % 32 = 31 := (flush0_5 t).mp hf
  have ht : t.val < 32 := lt_of_lt_of_eq t.isLt N_0
  blk_simp
  rw [after0_5]
  idx_vars y
  obtain rfl : y0 = 0 := Subsingleton.elim _ _
  refine (lacc m c t y1).trans ?_
  rw [zero_add]
  unfold lpart LS half
  rw [Half.half_word, Half.half_sum]
  refine congrArg (((1 / 2 : ℝ) : EReal) * ·) ?_
  refine Fin.sum_mul_add_congr (fun s k hl => ?_) (by rw [h31])
  have hs : s.val < 32 := by have := s.isLt; omega
  have b : ∀ n (hn : n < cfg0.N), n = 32 * (t.val / 32) + s.val →
      sq (fun j => iblk m c 0 ⟨n, hn⟩ (ix2 k j)) (fun j => iblk m c 1 ⟨n, hn⟩ (ix2 0 j)) (fun j => iblk m c 2 ⟨n, hn⟩ (ix2 k j))
        = sq (fun j => m ((c : Thread nD τ).loc main_arg0) (ix2 (⟨s.val * 512 + k.val, hl⟩ : Fin 16384) j))
            (fun j => m ((c : Thread nD τ).loc main_arg1) (ix1 j))
            (fun j => m ((c : Thread nD τ).loc main_arg2) (ix2 (⟨s.val * 512 + k.val, hl⟩ : Fin 16384) j)) := fun n hn e => by
    simp only [fun j => blk0 m c ⟨n, hn⟩ k j ⟨s.val * 512 + k.val, hl⟩ (by simp only; omega), fun j => blk1 m c ⟨n, hn⟩ j,
      fun j => blk2 m c ⟨n, hn⟩ k j ⟨s.val * 512 + k.val, hl⟩ (by simp only; omega)]
  exact b _ _ rfl

end Cert.LossIdeal.Pf

end
-- ==== Proof.LossRef.lean ====
module

public import proofs.«01_k».proof.Proof.Gen.LossRefIdeal.Read
public import proofs.«01_k».proof.Proof.LossKernel

@[expose] public section

set_option maxRecDepth 16384

noncomputable section

/-! The loss and its derivatives that the reference computes are the kernel's arrays. -/

namespace Cert.LossRefIdeal.Pf

open Idealize.ShloMosaic Idealize.ShloMosaic.TcCoe
open Cert.LossRefIdeal Cert.LossRefIdeal.Gen Cert.LossRefIdeal.Read
open Cert.LossIdeal.Pf (DX DW LS len eps mhalf half scale err cot gx sq)

theorem scale_real : scale = ((1 / 2048 : ℝ) : EReal) := by
  have h : len = ((1024 : ℝ) : EReal) := by simp [len, Ideal.ofBits, Ideal.ieee, -EReal.coe_mul]; norm_num
  unfold scale half
  rw [h, Half.half_word]
  refine (Ideal.div_coe (by norm_num) _).trans ?_
  rw [← EReal.coe_mul]
  norm_num

/-- The kernel's two halves of the error's factor are the reference's one. -/
theorem cot_eq (x w y : Fin 1024 → EReal) (k : Fin 1024) : cot x w y k = scale * (Ideal.ofBits .f32 0x40000000#32 * err x w y k) := by
  have h : Ideal.ofBits .f32 0x40000000#32 = 2 := by
    simp [Ideal.ofBits, Ideal.ieee, -EReal.coe_mul]; norm_num; rfl
  unfold cot
  rw [scale_real, h]
  exact Half.twice _ _ (by norm_num)

/-- The input's gradient. -/
theorem dx_eq (x0 : FVec Ideal S16384x1024 .f32) (x1 : FVec Ideal S1024 .f32) (x2 : FVec Ideal S16384x1024 .f32) :
    val_main_v50 (F := Ideal) x0 x1 x2 = DX x0 x1 x2 := by
  funext i
  idx_vars i
  unfold DX gx
  simp only [cot_eq]
  pointwise [val_main_v50, val_main_v49, val_main_v48, val_main_v47, val_main_v46, val_main_v45, val_main_cst_15, val_main_v44,
    val_main_v43, val_main_cst_14, val_main_v42, val_main_v41, val_main_v40, val_main_v39, val_main_v38, val_main_cst_13, val_main_v37,
    val_main_v35, val_main_v34, val_main_v30, val_main_v29, val_main_v28, val_main_v27, val_main_cst_10, val_main_v26, val_main_v25,
    val_main_cst_9, val_main_cst_8, val_main_v19, val_main_v18, val_main_cst_3, val_main_v16, val_main_v15, val_main_v14, val_main_v13,
    val_main_v12, val_main_v11, val_main_v10, val_main_v9, val_main_cst_2, val_main_v8, val_main_v7, val_main_v6, val_main_v5,
    val_main_cst_1, val_main_v4, val_main_v3, val_main_cst_0, val_main_v2, val_main_v1, val_main_cst, val_main_v0]
  simp only [Finset.univ_unique, Finset.sum_singleton]
  rfl

/-- The gain's gradient at a column, with the reference's factor. -/
theorem DW_at (x0 : FVec Ideal S16384x1024 .f32) (x1 : FVec Ideal S1024 .f32) (x2 : FVec Ideal S16384x1024 .f32)
    (p : Fin 1) (q : Fin 1024) : DW x0 x1 x2 (ix2 p q) =
      ∑ t : Fin 16384, Rms.unit len eps (fun k => x0 (ix2 t k)) q * (scale * (Ideal.ofBits .f32 0x40000000#32 *
        err (fun k => x0 (ix2 t k)) (fun k => x1 (ix1 k)) (fun k => x2 (ix2 t k)) q)) :=
  Finset.sum_congr rfl fun t _ => congrArg _ (cot_eq _ _ _ q)

/-- The gain's gradient. -/
theorem dw_eq (x0 : FVec Ideal S16384x1024 .f32) (x1 : FVec Ideal S1024 .f32) (x2 : FVec Ideal S16384x1024 .f32) :
    val_main_v51 (F := Ideal) x0 x1 x2 = DW x0 x1 x2 := by
  funext i
  idx_vars i
  rw [DW_at]
  pointwise [val_main_v51, val_main_v36, val_main_cst_12, val_main_v33, val_main_v32, val_main_cst_11, val_main_v31,
    val_main_v30, val_main_v29, val_main_v28, val_main_v27, val_main_cst_10, val_main_v26, val_main_v25,
    val_main_cst_9, val_main_cst_8, val_main_v19, val_main_v18, val_main_cst_3, val_main_v16, val_main_v15, val_main_v14, val_main_v13,
    val_main_v12, val_main_v11, val_main_v7, val_main_v6, val_main_v5,
    val_main_cst_1, val_main_v4, val_main_v3, val_main_cst_0, val_main_v2, val_main_v1, val_main_cst, val_main_v0]
  simp only [Finset.univ_unique, Finset.sum_singleton]
  rfl

/-- The loss. -/
theorem ls_eq (x0 : FVec Ideal S16384x1024 .f32) (x1 : FVec Ideal S1024 .f32) (x2 : FVec Ideal S16384x1024 .f32) :
    val_main_v52 (F := Ideal) x0 x1 x2 = LS x0 x1 x2 := by
  funext i
  idx_vars i
  pointwise [val_main_v52, val_main_v24, val_main_v23, val_main_cst_7, val_main_cst_6, val_main_v22, val_main_v21, val_main_cst_5,
    val_main_v20, val_main_cst_4, val_main_v17, val_main_v16, val_main_v15, val_main_v14, val_main_v13,
    val_main_v12, val_main_v11, val_main_v7, val_main_v6, val_main_v5,
    val_main_cst_1, val_main_v4, val_main_v3, val_main_cst_0, val_main_v2, val_main_v1, val_main_cst, val_main_v0]
  rfl

end Cert.LossRefIdeal.Pf

end
-- ==== Proof.LossClaim.lean ====
module

public import proofs.«01_k».proof.Defs
public import proofs.«01_k».proof.Proof.Gen.Loss.Frame
public import proofs.«01_k».proof.Proof.Gen.LossRefIdeal.Run
public import proofs.«01_k».proof.Proof.LossRef
public import Idealize.ShloMosaic.Lib.Claim

@[expose] public section

set_option maxRecDepth 16384

noncomputable section

/-! The claims about the loss and its gradients. -/

namespace Cert.Proof.Loss

open Idealize.ShloMosaic Idealize.SL.Sem

theorem frame_kernel : Cert.quiescent_Loss := fun m ρ _ => Cert.Loss.Gen.frame m ρ

theorem frame_ideal : Cert.quiescent_LossIdeal := fun m ρ _ => Cert.LossIdeal.Gen.frame m ρ

theorem frame_ref : Cert.quiescent_LossRefIdeal := fun m ρ _ =>
  (θ_run Cert.LossRefIdeal.defs _ _).mono
    (fun r h => ⟨fun c => (h c).2.2.2, Idealize.ShloMosaic.sem_eq_zero_of_no_sems (by decide) r.2⟩)
    (Cert.LossRefIdeal.Value.run (F := Ideal) m ρ)

/-- The kernel's results and the derivatives of the plain lines are the same arrays. -/
theorem value : Cert.algebraic_LossIdeal_LossRefIdeal := by
  intro m g m' g' hpre hagree
  refine ⟨fun c => Cert.LossIdeal.Pf.DX (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)),
    fun c => Cert.LossIdeal.Pf.DW (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)),
    fun c => Cert.LossIdeal.Pf.LS (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)), ?_, ?_⟩
  · exact (θ_run Cert.LossIdeal.defs _ _).mono
      (fun r h c => ⟨(h c).1.trans (Cert.LossIdeal.Pf.final_dx m c), (h c).2.1.trans (Cert.LossIdeal.Pf.final_dw m c), (h c).2.2.1.trans (Cert.LossIdeal.Pf.final_ls m c), (h c).2.2.2⟩)
      (Cert.LossIdeal.Value.run_blocks m g)
  · refine (θ_run Cert.LossRefIdeal.defs _ _).mono (fun r h c => ⟨(h c).1.trans ?_, (h c).2.1.trans ?_, (h c).2.2.1.trans ?_, (h c).2.2.2⟩)
      (Cert.LossRefIdeal.Value.run (F := Ideal) m' g')
    · obtain ⟨h0, h1, h2⟩ := hagree c
      refine (Cert.LossRefIdeal.Read.val_main_v50_eq m' c).trans ?_
      rw [h0, h1, h2]
      exact Cert.LossRefIdeal.Pf.dx_eq _ _ _
    · obtain ⟨h0, h1, h2⟩ := hagree c
      beta_reduce
      rw [h0, h1, h2]
      exact (Cert.LossRefIdeal.Read.val_main_v51_eq _ _ _).trans (Cert.LossRefIdeal.Pf.dw_eq _ _ _)
    · obtain ⟨h0, h1, h2⟩ := hagree c
      beta_reduce
      rw [h0, h1, h2]
      exact (Cert.LossRefIdeal.Read.val_main_v52_eq _ _ _).trans (Cert.LossRefIdeal.Pf.ls_eq _ _ _)

end Cert.Proof.Loss

end
-- ==== Proof.PrepKernel.lean ====
module

public import proofs.«01_k».proof.Proof.Gen.PrepIdeal.Value
public import Idealize.ShloMosaic.Lib.Pipeline.ValueKit
public import Idealize.ShloMosaic.Lib.Pointwise
public import Idealize.ShloMosaic.Lib.StableHlo.RunRead

@[expose] public section

set_option maxRecDepth 16384

noncomputable section

/-! The gradient of the delta rule's queries, keys and values before their gates and norms, as the kernel computes it. -/

namespace Cert.PrepIdeal.Pf

open Idealize.ShloMosaic Idealize.ShloMosaic.TcCoe Idealize.SL.Sem
open Idealize.ShloMosaic.Pipeline (Dat)
open Cert.PrepIdeal Cert.PrepIdeal.Gen

variable (m : (ℓ : Loc nD τ sig) → Buf (Elt Ideal) ℓ)

/-- The norm's offset. -/
abbrev eps : EReal := Ideal.ofBits .f32 0x358637BD#32
/-- Minus one half. -/
abbrev mhalf : EReal := Ideal.ofBits .f32 0xBF000000#32
/-- The queries' scale. -/
abbrev qsc : EReal := Ideal.ofBits .f32 0x3DB504F3#32

/-- The gate. -/
def act (g : EReal) : EReal := g * Ideal.logistic g

/-- The cotangent `d` taken back through the gate at `g`. -/
def slope (g d : EReal) : EReal := d * Ideal.logistic g + g * d * (Ideal.logistic g * (1 - Ideal.logistic g))

/-- A row's sum of squares, offset. -/
def sq (y : Fin 128 → EReal) : EReal := (∑ k, y k * y k) + eps

/-- What the norm's factor hands on to every lane. -/
def pull (y d : Fin 128 → EReal) : EReal := (∑ k, y k * d k) * (mhalf * Ideal.div (Ideal.rsqrt (sq y)) (sq y))

/-- The cotangent `d` taken back through the norm of the row `y`. -/
def back (y d : Fin 128 → EReal) (j : Fin 128) : EReal := d j * Ideal.rsqrt (sq y) + y j * pull y d + pull y d * y j

/-- The gradient of a head's row of queries. -/
def gq (x d : Fin 128 → EReal) (j : Fin 128) : EReal := slope (x j) (back (fun k => act (x k)) (fun k => d k * qsc) j)

/-- The gradient of a head's row of keys. -/
def gk (x d : Fin 128 → EReal) (j : Fin 128) : EReal := slope (x j) (back (fun k => act (x k)) d j)

section
variable (X D : FVec Ideal S3x2048x128 .bf16) (r : Fin 2048) (x : Fin 128)

/-- Three planes one after the other, read at an entry. -/
theorem cat3 (x0 x1 x2 : FVec Ideal S1x2048x128 .f32) (hc) (p : Fin 3) :
    concatenate S3x2048x128 0 [⟨S1x2048x128, x0⟩, ⟨S1x2048x128, x1⟩, ⟨S1x2048x128, x2⟩] hc (ix3 p r x)
      = if p = 0 then x0 (ix3 0 r x) else if p = 1 then x1 (ix3 0 r x) else x2 (ix3 0 r x) := by
  fin_cases p <;> pointwise <;> rfl

/-- A point's rows of the queries' gradient. -/
theorem out_q : out0_2 (F := Ideal) X D (ix3 0 r x) = gq (fun k => X (ix3 0 r k)) (fun k => D (ix3 0 r k)) x := by
  frame_out
  pointwise [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22]
  simp only [Finset.univ_unique, Finset.sum_singleton]
  rfl

/-- A point's rows of the keys' gradient. -/
theorem out_k : out0_2 (F := Ideal) X D (ix3 1 r x) = gk (fun k => X (ix3 1 r k)) (fun k => D (ix3 1 r k)) x := by
  frame_out
  pointwise [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22]
  simp only [Finset.univ_unique, Finset.sum_singleton]
  rfl

/-- A point's rows of the values' gradient. -/
theorem out_v : out0_2 (F := Ideal) X D (ix3 2 r x) = slope (X (ix3 2 r x)) (D (ix3 2 r x)) := by
  frame_out
  pointwise [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22]
  rfl

end

/-- Every window's block at point `t`: row block `t / 6`, head `t % 6`. -/
theorem idx : ∀ t : Fin cfg0.N, win0_0.index t = ![0, t.val / 6, t.val % 6] ∧ win0_1.index t = ![0, t.val / 6, t.val % 6]
    ∧ win0_2.index t = ![0, t.val / 6, t.val % 6] :=
  (by decide +kernel : ∀ t : Fin grid0.N, _)

/-- The column of plane `p`, head `h`, lane `k` in the array of 2304 columns. -/
def col (p : Fin 3) (h : Fin 6) (k : Fin 128) : Fin 2304 := ⟨768 * p.val + (h.val * 128 + k.val), by omega⟩

/-- The head of a column of a plane. -/
def head (n : Fin 768) : Fin 6 := ⟨n.val / 128, by omega⟩

/-- The lane of a column of a plane. -/
def lane (n : Fin 768) : Fin 128 := ⟨n.val % 128, Nat.mod_lt _ (by decide)⟩

/-- The gradient at a row, plane, head and lane. -/
def PQ (a d : FVec Ideal S16384x2304 .f32) (q : Fin 16384) (p : Fin 3) (h : Fin 6) (j : Fin 128) : EReal :=
  if p = 0 then gq (fun k => a (ix2 q (col p h k))) (fun k => d (ix2 q (col p h k))) j
  else if p = 1 then gk (fun k => a (ix2 q (col p h k))) (fun k => d (ix2 q (col p h k))) j
  else slope (a (ix2 q (col p h j))) (d (ix2 q (col p h j)))

/-- The packed gradient. -/
def DP (a d : FVec Ideal S16384x2304 .f32) : FVec Ideal S3x16384x768 .bf16 := fun i =>
  PQ a d (i 1) (i 0) (head (i 2)) (lane (i 2))

theorem DP_at (a d : FVec Ideal S16384x2304 .f32) (p : Fin 3) (q : Fin 16384) (n : Fin 768) (h : Fin 6) (j : Fin 128)
    (hh : head n = h) (hl : lane n = j) : DP a d (ix3 p q n) = PQ a d q p h j := by
  subst hh hl; rfl

/-- The argument's block, read. -/
theorem blk0 (c : Dev nD) (t : Fin cfg0.N) (p : Fin 3) (r : Fin 2048) (k : Fin 128) (q : Fin 16384) (h : Fin 6)
    (hq : q.val = t.val / 6 * 2048 + r.val) (hh : h.val = t.val % 6) :
    iblk m c 0 t (ix3 p r k) = m ((c : Thread nD τ).loc main_arg0) (ix2 q (col p h k)) := by
  unfold iblk
  entry_read
  blk_simp
  pointwise
  unfold col
  blk_ext [idx t]

/-- The cotangent's block, read. -/
theorem blk1 (c : Dev nD) (t : Fin cfg0.N) (p : Fin 3) (r : Fin 2048) (k : Fin 128) (q : Fin 16384) (h : Fin 6)
    (hq : q.val = t.val / 6 * 2048 + r.val) (hh : h.val = t.val % 6) :
    iblk m c 1 t (ix3 p r k) = m ((c : Thread nD τ).loc main_arg1) (ix2 q (col p h k)) := by
  unfold iblk
  entry_read
  blk_simp
  pointwise
  unfold col
  blk_ext [idx t]

/-- What a point writes, from the arguments. -/
theorem rows (c : Dev nD) (t : Fin cfg0.N) (p : Fin 3) (r : Fin 2048) (k : Fin 128) (q : Fin 16384) (h : Fin 6)
    (hq : q.val = t.val / 6 * 2048 + r.val) (hh : h.val = t.val % 6) :
    out0_2 (F := Ideal) (iblk m c 0 t) (iblk m c 1 t) (ix3 p r k)
      = PQ (m ((c : Thread nD τ).loc main_arg0)) (m ((c : Thread nD τ).loc main_arg1)) q p h k := by
  have e0 := fun p k => blk0 m c t p r k q h hq hh
  have e1 := fun p k => blk1 m c t p r k q h hq hh
  match p with
  | 0 =>
    refine (out_q (iblk m c 0 t) (iblk m c 1 t) r k).trans ?_
    simp only [e0, e1]
    rfl
  | 1 =>
    refine (out_k (iblk m c 0 t) (iblk m c 1 t) r k).trans ?_
    simp only [e0, e1]
    rfl
  | 2 =>
    refine (out_v (iblk m c 0 t) (iblk m c 1 t) r k).trans ?_
    rw [e0, e1]
    rfl

/-- The array of the gradient after the run. -/
theorem final_dp (c : Dev nD) : (dats m 0 c).arrAt 2 (cfgs 0).N = DP (m ((c : Thread nD τ).loc main_arg0))
    (m ((c : Thread nD τ).loc main_arg1)) := by
  refine (dats m 0 c).arrAt_eq_of_covers 2 _ (by decide +kernel) fun t hf y => ?_
  have ht : t.val < 48 := lt_of_lt_of_eq t.isLt N_0
  blk_simp
  rw [after0_2]
  idx_vars y
  have hy := y1.isLt
  have hh : head (⟨t.val % 6 * 128 + y2.val, by omega⟩ : Fin 768) = ⟨t.val % 6, by omega⟩ := by unfold head; ext; simp only; omega
  have hl : lane (⟨t.val % 6 * 128 + y2.val, by omega⟩ : Fin 768) = y2 := by unfold lane; ext; simp only; omega
  have e : ((View.whole main_v6).slice (win0_2.rect t)).emb (ix3 y0 y1 y2)
      = ix3 y0 (⟨t.val / 6 * 2048 + y1.val, by omega⟩ : Fin 16384) (⟨t.val % 6 * 128 + y2.val, by omega⟩ : Fin 768) := by
    blk_ext [idx t]
  rw [e]
  refine (rows m c t y0 y1 y2 ⟨t.val / 6 * 2048 + y1.val, by omega⟩ ⟨t.val % 6, by omega⟩ rfl rfl).trans ?_
  exact (DP_at _ _ _ _ _ _ _ hh hl).symm

end Cert.PrepIdeal.Pf

end
-- ==== Proof.PrepRef.lean ====
module

public import proofs.«01_k».proof.Proof.Gen.PrepRefIdeal.Read
public import proofs.«01_k».proof.Proof.PrepKernel

@[expose] public section

set_option maxRecDepth 16384

noncomputable section

/-! The gradient that the reference computes is the kernel's array. -/

namespace Cert.PrepRefIdeal.Pf

open Idealize.ShloMosaic Idealize.ShloMosaic.TcCoe
open Cert.PrepRefIdeal Cert.PrepRefIdeal.Gen Cert.PrepRefIdeal.Read
open Cert.PrepIdeal.Pf (DP PQ eps mhalf qsc act slope sq pull back gq gk col head lane DP_at)

/-- The gated queries at a row, head and lane. -/
theorem y_q (x0 : FVec Ideal S16384x2304 .f32) (q : Fin 16384) (h : Fin 6) (k : Fin 128) :
    val_main_v10 (F := Ideal) x0 (ix3 q h k) = act (x0 (ix2 q (col 0 h k))) := by
  have e : col 0 h k = ⟨h.val * 128 + k.val, by omega⟩ := by unfold col; ext; simp
  rw [e]
  pointwise [val_main_v10, val_main_v7, val_main_v6_0, val_main_v6_2, val_main_call0_v4, val_main_call0_cst_0, val_main_call0_v3,
    val_main_call0_v2, val_main_call0_cst, val_main_call0_v1, val_main_call0_v0]
  rfl

/-- The gated keys at a row, head and lane. -/
theorem y_k (x0 : FVec Ideal S16384x2304 .f32) (q : Fin 16384) (h : Fin 6) (k : Fin 128) :
    val_main_v11 (F := Ideal) x0 (ix3 q h k) = act (x0 (ix2 q (col 1 h k))) := by
  pointwise [val_main_v11, val_main_v8, val_main_v6_0, val_main_v6_2, val_main_call0_v4, val_main_call0_cst_0, val_main_call0_v3,
    val_main_call0_v2, val_main_call0_cst, val_main_call0_v1, val_main_call0_v0]
  rfl

theorem d_q (x1 : FVec Ideal S16384x2304 .f32) (q : Fin 16384) (h : Fin 6) (k : Fin 128) :
    val_main_v3 (F := Ideal) x1 (ix3 q h k) = x1 (ix2 q (col 0 h k)) := by
  have e : col 0 h k = ⟨h.val * 128 + k.val, by omega⟩ := by unfold col; ext; simp
  rw [e]
  pointwise [val_main_v3, val_main_v0]

theorem d_k (x1 : FVec Ideal S16384x2304 .f32) (q : Fin 16384) (h : Fin 6) (k : Fin 128) :
    val_main_v4 (F := Ideal) x1 (ix3 q h k) = x1 (ix2 q (col 1 h k)) := by
  pointwise [val_main_v4, val_main_v1]
  rfl

theorem d_v (x1 : FVec Ideal S16384x2304 .f32) (q : Fin 16384) (h : Fin 6) (k : Fin 128) :
    val_main_v5 (F := Ideal) x1 (ix3 q h k) = x1 (ix2 q (col 2 h k)) := by
  pointwise [val_main_v5, val_main_v2]
  rfl

/-- The queries' cotangent taken back through the norm. -/
theorem b_q (x0 x1 : FVec Ideal S16384x2304 .f32) (q : Fin 16384) (h : Fin 6) (j : Fin 128) :
    val_main_v62 (F := Ideal) x0 x1 (ix3 q h j)
      = back (fun k => act (x0 (ix2 q (col 0 h k)))) (fun k => x1 (ix2 q (col 0 h k)) * qsc) j := by
  have hy := fun k => y_q x0 q h k
  have hd := fun k => d_q x1 q h k
  simp only [← hy, ← hd]
  pointwise [val_main_v62, val_main_v61, val_main_v60, val_main_v59, val_main_v58, val_main_v57, val_main_cst_10, val_main_v56,
    val_main_v55, val_main_v54, val_main_v53, val_main_v52, val_main_cst_9, val_main_v51, val_main_v50, val_main_v49, val_main_cst_8,
    val_main_v21, val_main_v20, val_main_cst_1, val_main_v19, val_main_v18, val_main_v17, val_main_v16, val_main_cst_0, val_main_v15,
    val_main_v14, val_main_cst, val_main_v13]
  simp only [Finset.univ_unique, Finset.sum_singleton]
  rfl

/-- The keys' cotangent taken back through the norm. -/
theorem b_k (x0 x1 : FVec Ideal S16384x2304 .f32) (q : Fin 16384) (h : Fin 6) (j : Fin 128) :
    val_main_v48 (F := Ideal) x0 x1 (ix3 q h j)
      = back (fun k => act (x0 (ix2 q (col 1 h k)))) (fun k => x1 (ix2 q (col 1 h k))) j := by
  have hy := fun k => y_k x0 q h k
  have hd := fun k => d_k x1 q h k
  simp only [← hy, ← hd]
  pointwise [val_main_v48, val_main_v47, val_main_v46, val_main_v45, val_main_v44, val_main_v43, val_main_cst_7, val_main_v42,
    val_main_v41, val_main_v40, val_main_v39, val_main_v38, val_main_cst_6, val_main_v37,
    val_main_v34, val_main_v33, val_main_cst_5, val_main_v32, val_main_v31, val_main_v30, val_main_v29, val_main_cst_4, val_main_v28,
    val_main_v27, val_main_cst_3, val_main_v26]
  simp only [Finset.univ_unique, Finset.sum_singleton]
  rfl

/-- The three parts side by side, read at a column. -/
theorem cat3 (x0 x1 x2 : FVec Ideal S16384x768 .f32) (hc) (q : Fin 16384) (n : Fin 2304) :
    concatenate S16384x2304 1 [⟨S16384x768, x0⟩, ⟨S16384x768, x1⟩, ⟨S16384x768, x2⟩] hc (ix2 q n)
      = if h1 : n.val < 768 then x0 (ix2 q ⟨n.val, h1⟩) else if h2 : n.val - 768 < 768 then x1 (ix2 q ⟨n.val - 768, h2⟩)
        else x2 (ix2 q ⟨n.val - 768 - 768, by omega⟩) := by
  pointwise

/-- The cotangent of the gate at a row, plane, head and lane. -/
def ct (x0 x1 : FVec Ideal S16384x2304 .f32) (q : Fin 16384) (p : Fin 3) (h : Fin 6) (j : Fin 128) : EReal :=
  if p = 0 then back (fun k => act (x0 (ix2 q (col p h k)))) (fun k => x1 (ix2 q (col p h k)) * qsc) j
  else if p = 1 then back (fun k => act (x0 (ix2 q (col p h k)))) (fun k => x1 (ix2 q (col p h k))) j
  else x1 (ix2 q (col p h j))

theorem c_at (x0 x1 : FVec Ideal S16384x2304 .f32) (q : Fin 16384) (p : Fin 3) (h : Fin 6) (j : Fin 128) :
    val_main_v66 (F := Ideal) x0 x1 (ix2 q (col p h j)) = ct x0 x1 q p h j := by
  unfold val_main_v66
  refine (cat3 _ _ _ _ q _).trans ?_
  match p with
  | 0 =>
    have hc : (col 0 h j).val = h.val * 128 + j.val := by unfold col; simp
    rw [dif_pos (by omega)]
    simp only [hc]
    pointwise [val_main_v65]
    exact b_q x0 x1 q h j
  | 1 =>
    have hc : (col 1 h j).val - 768 = h.val * 128 + j.val := by unfold col; simp
    have hc0 : (col 1 h j).val = 768 + (h.val * 128 + j.val) := by unfold col; simp
    rw [dif_neg (by omega), dif_pos (by omega)]
    simp only [hc]
    pointwise [val_main_v64]
    exact b_k x0 x1 q h j
  | 2 =>
    have hc : (col 2 h j).val - 768 - 768 = h.val * 128 + j.val := by unfold col; simp; omega
    have hc0 : (col 2 h j).val = 1536 + (h.val * 128 + j.val) := by unfold col; simp
    rw [dif_neg (by omega), dif_neg (by omega)]
    simp only [hc]
    pointwise [val_main_v63]
    exact d_v x1 q h j

/-- The gate's gradient at any column. -/
theorem s_at (x0 x1 : FVec Ideal S16384x2304 .f32) (q : Fin 16384) (n : Fin 2304) :
    val_main_v67 (F := Ideal) x0 x1 (ix2 q n) = slope (x0 (ix2 q n)) (val_main_v66 (F := Ideal) x0 x1 (ix2 q n)) := by
  pointwise [val_main_v67, val_main_call1_v2, val_main_call1_v1, val_main_call1_v0, val_main_v6_1, val_main_call0_v7, val_main_call0_v6,
    val_main_call0_cst_1, val_main_v6_2, val_main_call0_v4, val_main_call0_cst_0, val_main_call0_v3,
    val_main_call0_v2, val_main_call0_cst, val_main_call0_v1, val_main_call0_v0]
  rfl

/-- The gradient is the gate's slope at that cotangent. -/
theorem slope_ct (x0 x1 : FVec Ideal S16384x2304 .f32) (q : Fin 16384) (p : Fin 3) (h : Fin 6) (j : Fin 128) :
    slope (x0 (ix2 q (col p h j))) (ct x0 x1 q p h j) = PQ x0 x1 q p h j := by
  unfold ct PQ gq gk
  split_ifs <;> rfl

/-- The packed gradient's entry is the gate's gradient at its column. -/
theorem pack_at (x0 x1 : FVec Ideal S16384x2304 .f32) (p : Fin 3) (q : Fin 16384) (n : Fin 768) :
    val_main_v70 (F := Ideal) x0 x1 (ix3 p q n) = val_main_v67 (F := Ideal) x0 x1 (ix2 q (col p (head n) (lane n))) := by
  have hn : col p (head n) (lane n) = ⟨p.val * 768 + n.val, by omega⟩ := by
    unfold col head lane; ext; simp only; omega
  rw [hn]
  pointwise [val_main_v70, val_main_v69, val_main_v68]

/-- The packed gradient. -/
theorem dp_eq (x0 x1 : FVec Ideal S16384x2304 .f32) : val_main_v70 (F := Ideal) x0 x1 = DP x0 x1 := by
  funext i
  idx_vars i
  refine (pack_at x0 x1 i0 i1 i2).trans ((s_at x0 x1 i1 _).trans ?_)
  rw [c_at, slope_ct]
  exact (DP_at x0 x1 i0 i1 i2 _ _ rfl rfl).symm

end Cert.PrepRefIdeal.Pf

end
-- ==== Proof.PrepClaim.lean ====
module

public import proofs.«01_k».proof.Defs
public import proofs.«01_k».proof.Proof.Gen.Prep.Frame
public import proofs.«01_k».proof.Proof.Gen.PrepRefIdeal.Run
public import proofs.«01_k».proof.Proof.PrepRef
public import Idealize.ShloMosaic.Lib.Claim

@[expose] public section

set_option maxRecDepth 16384

noncomputable section

/-! The claims about the gradient of the delta rule's queries, keys and values. -/

namespace Cert.Proof.Prep

open Idealize.ShloMosaic Idealize.SL.Sem

theorem frame_kernel : Cert.quiescent_Prep := fun m ρ _ => Cert.Prep.Gen.frame m ρ

theorem frame_ideal : Cert.quiescent_PrepIdeal := fun m ρ _ => Cert.PrepIdeal.Gen.frame m ρ

theorem frame_ref : Cert.quiescent_PrepRefIdeal := fun m ρ _ =>
  (θ_run Cert.PrepRefIdeal.defs _ _).mono
    (fun r h => ⟨fun c => (h c).2, Idealize.ShloMosaic.sem_eq_zero_of_no_sems (by decide) r.2⟩)
    (Cert.PrepRefIdeal.Value.run (F := Ideal) m ρ)

/-- The kernel's results and the derivatives of the plain lines are the same arrays. -/
theorem value : Cert.algebraic_PrepIdeal_PrepRefIdeal := by
  intro m g m' g' hpre hagree
  refine ⟨fun c => Cert.PrepIdeal.Pf.DP (m ((c.tc : Thread Cert.PrepIdeal.nD Cert.PrepIdeal.τ).loc Cert.PrepIdeal.main_arg0)) (m ((c.tc : Thread Cert.PrepIdeal.nD Cert.PrepIdeal.τ).loc Cert.PrepIdeal.main_arg1)), ?_, ?_⟩
  · exact (θ_run Cert.PrepIdeal.defs _ _).mono
      (fun r h c => ⟨(h c).1.trans (Cert.PrepIdeal.Pf.final_dp m c), (h c).2⟩)
      (Cert.PrepIdeal.Value.run_blocks m g)
  · refine (θ_run Cert.PrepRefIdeal.defs _ _).mono (fun r h c => ⟨(h c).1.trans ?_, (h c).2⟩)
      (Cert.PrepRefIdeal.Value.run (F := Ideal) m' g')
    · obtain ⟨h0, h1⟩ := hagree c
      refine (Cert.PrepRefIdeal.Read.val_main_v70_eq m' c).trans ?_
      rw [h0, h1]
      exact Cert.PrepRefIdeal.Pf.dp_eq _ _

end Cert.Proof.Prep

end
-- ==== Proof.RopeRun.lean ====
module

public import proofs.«01_k».proof.Proof.Gen.RopeIdeal.Frame

/-! The launch of the rotary gradient with the contents of its result at the end. -/

@[expose] public section

set_option maxRecDepth 16384

noncomputable section

namespace Cert.Rope

open Cert.RopeIdeal Cert.RopeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch, with what the result holds at the end: the entry of `W5`. -/
theorem run : θ_run defs (onTc (τ := τ) (main (F := F))) ⟨m, fun _ => 0, ρ⟩ (fun r => ∀ c : Dev nD,
      r.2.mem ((c.tc : Thread nD τ).loc main_v50) = W5 m ρ c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v50 (by decide)),
       (h c _ (mem_uc main_arg0 (by decide))).trans (W5_main_arg0 m ρ c),
       (h c _ (mem_uc main_arg1 (by decide))).trans (W5_main_arg1 m ρ c)⟩)

end Cert.Rope
end
end
-- ==== Proof.RopeArr.lean ====
module

public import proofs.«01_k».proof.Proof.Gen.RopeIdeal.Frame
public import Idealize.ShloMosaic.Lib.Pipeline.ValueKit
public import Idealize.ShloMosaic.Lib.Pointwise
public import Idealize.ShloMosaic.Lib.StableHlo.RunRead

/-! What the rotary's tables and products hold after each of the two kernels. -/

@[expose] public section

set_option maxRecDepth 16384

noncomputable section

namespace Cert.Rope

open Idealize.ShloMosaic Idealize.ShloMosaic.TcCoe Idealize.SL.Sem
open Idealize.ShloMosaic.Pipeline (Dat)
open Cert.RopeIdeal Cert.RopeIdeal.Gen

variable (U : (c : Dev nD) → (b : Ref sig .tc) → Buf (Elt Ideal) ((c : Thread nD τ).loc b)) (c : Dev nD)

/-- A position as a number. -/
def num (p : BitVec 32) : EReal := FloatOps.sitofp (F := Ideal) .f32 p

/-- The table of cosines: one where the columns are not rotated. -/
def tabC (p : IVec S16384x1 32) (f w n : FVec Ideal S1x256 .f32) : FVec Ideal S16384x256 .f32 := fun i =>
  Ideal.cos (num (p (ix2 (i 0) 0)) * f (ix2 0 (i 1))) * w (ix2 0 (i 1)) + n (ix2 0 (i 1))

/-- The table of signed sines. -/
def tabS (p : IVec S16384x1 32) (f w : FVec Ideal S1x256 .f32) : FVec Ideal S16384x256 .f32 := fun i =>
  Ideal.sin (num (p (ix2 (i 0) 0)) * f (ix2 0 (i 1))) * w (ix2 0 (i 1))

/-- A block of the table of cosines. -/
theorem out_c (P : IVec S512x1 32) (A B D E : FVec Ideal S1x256 .f32) (r : Fin 512) (x : Fin 256) :
    out0_5 (F := Ideal) P A B D E (ix2 r x) = Ideal.cos (num (P (ix2 r 0)) * A (ix2 0 x)) * D (ix2 0 x) + E (ix2 0 x) := by
  frame_out
  pointwise [k0_pay2, k0_pay1]
  rfl

/-- A block of the table of signed sines. -/
theorem out_s (P : IVec S512x1 32) (A B D E : FVec Ideal S1x256 .f32) (r : Fin 512) (x : Fin 256) :
    out0_6 (F := Ideal) P A B D E (ix2 r x) = Ideal.sin (num (P (ix2 r 0)) * A (ix2 0 x)) * B (ix2 0 x) := by
  frame_out
  pointwise [k0_pay3, k0_pay1]
  rfl

/-- A block of the products with the cosines, and of those with the sines. -/
theorem out_p (A B : FVec Ideal S2048x256 .f32) (X : FVec Ideal S2048x256 .bf16) (p : Fin 2) (r : Fin 2048) (x : Fin 256) :
    out1_3 (F := Ideal) A B X (ix3 p r x) = @HMul.hMul EReal EReal EReal _ (X (ix2 r x)) (if p = 0 then A (ix2 r x) else B (ix2 r x)) := by
  match p with
  | 0 =>
    frame_out
    pointwise [k1_pay1]
  | 1 =>
    frame_out
    pointwise [k1_pay1]

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

theorem idx1 : ∀ t : Fin cfg1.N, win1_0.index t = ![t.val / 6, 0] ∧ win1_1.index t = ![t.val / 6, 0]
    ∧ win1_2.index t = ![t.val / 6, t.val % 6] ∧ win1_3.index t = ![0, t.val / 6, t.val % 6] :=
  (by decide +kernel : ∀ t : Fin grid1.N, _)

theorem blk0_0 (t : Fin cfg0.N) (r : Fin 512) (q : Fin 16384) (hq : q.val = t.val * 512 + r.val) :
    iblk0 U c 0 t (ix2 r 0) = U c main_v0 (ix2 q 0) := by
  unfold iblk0; blk_ext [idx0 t]

theorem blk0_1 (t : Fin cfg0.N) (x : Fin 256) : iblk0 U c 1 t (ix2 0 x) = U c main_v15 (ix2 0 x) := by
  unfold iblk0; blk_ext [idx0 t]

theorem blk0_2 (t : Fin cfg0.N) (x : Fin 256) : iblk0 U c 2 t (ix2 0 x) = U c main_v18 (ix2 0 x) := by
  unfold iblk0; blk_ext [idx0 t]

theorem blk0_3 (t : Fin cfg0.N) (x : Fin 256) : iblk0 U c 3 t (ix2 0 x) = U c main_v20 (ix2 0 x) := by
  unfold iblk0; blk_ext [idx0 t]

theorem blk0_4 (t : Fin cfg0.N) (x : Fin 256) : iblk0 U c 4 t (ix2 0 x) = U c main_v28 (ix2 0 x) := by
  unfold iblk0; blk_ext [idx0 t]

/-- The table of cosines after the first kernel. -/
theorem arr0_c : (dat0 U c).arrAt 5 cfg0.N = tabC (U c main_v0) (U c main_v15) (U c main_v20) (U c main_v28) := by
  refine (dat0 U c).arrAt_eq_of_covers 5 _ (by decide +kernel) fun t hf y => ?_
  have ht : t.val < 32 := lt_of_lt_of_eq t.isLt N_0
  blk_simp
  rw [after0_5]
  idx_vars y
  have hy := y0.isLt
  have e : ((View.whole main_v29_0).slice (win0_5.rect t)).emb (ix2 y0 y1) = ix2 (⟨t.val * 512 + y0.val, by omega⟩ : Fin 16384) y1 := by
    blk_ext [idx0 t]
  rw [e]
  refine (out_c _ _ _ _ _ y0 y1).trans ?_
  rw [blk0_0 U c t y0 ⟨t.val * 512 + y0.val, by omega⟩ rfl, blk0_1, blk0_3, blk0_4]
  rfl

/-- The table of signed sines after the first kernel. -/
theorem arr0_s : (dat0 U c).arrAt 6 cfg0.N = tabS (U c main_v0) (U c main_v15) (U c main_v18) := by
  refine (dat0 U c).arrAt_eq_of_covers 6 _ (by decide +kernel) fun t hf y => ?_
  have ht : t.val < 32 := lt_of_lt_of_eq t.isLt N_0
  blk_simp
  rw [after0_6]
  idx_vars y
  have hy := y0.isLt
  have e : ((View.whole main_v29_1).slice (win0_6.rect t)).emb (ix2 y0 y1) = ix2 (⟨t.val * 512 + y0.val, by omega⟩ : Fin 16384) y1 := by
    blk_ext [idx0 t]
  rw [e]
  refine (out_s _ _ _ _ _ y0 y1).trans ?_
  rw [blk0_0 U c t y0 ⟨t.val * 512 + y0.val, by omega⟩ rfl, blk0_1, blk0_2]
  rfl

/-- Column `x` of head `h` among the queries' columns. -/
abbrev qcol (h : Fin 6) (x : Fin 256) : Fin 1536 := ⟨256 * h.val + x.val, by omega⟩

theorem blk1_0 (t : Fin cfg1.N) (r : Fin 2048) (x : Fin 256) (q : Fin 16384) (hq : q.val = t.val / 6 * 2048 + r.val) :
    iblk1 U c 0 t (ix2 r x) = U c main_v29_0 (ix2 q x) := by
  unfold iblk1; blk_ext [idx1 t]

theorem blk1_1 (t : Fin cfg1.N) (r : Fin 2048) (x : Fin 256) (q : Fin 16384) (hq : q.val = t.val / 6 * 2048 + r.val) :
    iblk1 U c 1 t (ix2 r x) = U c main_v29_1 (ix2 q x) := by
  unfold iblk1; blk_ext [idx1 t]

theorem blk1_2 (t : Fin cfg1.N) (r : Fin 2048) (x : Fin 256) (q : Fin 16384) (h : Fin 6) (hq : q.val = t.val / 6 * 2048 + r.val)
    (hh : h.val = t.val % 6) : iblk1 U c 2 t (ix2 r x) = U c main_v33 (ix2 q (qcol h x)) := by
  unfold iblk1; blk_ext [idx1 t]

/-- The product of a column with a table. -/
def prod (X : FVec Ideal S16384x1536 .bf16) (A B : FVec Ideal S16384x256 .f32) (p : Fin 2) (q : Fin 16384) (h : Fin 6) (x : Fin 256) : EReal :=
  @HMul.hMul EReal EReal EReal _ (X (ix2 q (qcol h x))) (if p = 0 then A (ix2 q x) else B (ix2 q x))

/-- The array of the products. -/
def prods (X : FVec Ideal S16384x1536 .bf16) (A B : FVec Ideal S16384x256 .f32) : FVec Ideal S2x16384x1536 .bf16 := fun i =>
  prod X A B (i 0) (i 1) ⟨(i 2).val / 256, by have : (i 2).val < 1536 := (i 2).isLt; omega⟩ ⟨(i 2).val % 256, Nat.mod_lt _ (by decide)⟩

theorem prods_at (X : FVec Ideal S16384x1536 .bf16) (A B : FVec Ideal S16384x256 .f32) (p : Fin 2) (q : Fin 16384) (h : Fin 6) (x : Fin 256) :
    prods X A B (ix3 p q (qcol h x)) = prod X A B p q h x := by
  have e1 : (⟨(256 * h.val + x.val) / 256, by omega⟩ : Fin 6) = h := by ext; show (256 * h.val + x.val) / 256 = h.val; omega
  have e2 : (⟨(256 * h.val + x.val) % 256, Nat.mod_lt _ (by decide)⟩ : Fin 256) = x := by ext; show (256 * h.val + x.val) % 256 = x.val; omega
  show prod X A B p q ⟨(256 * h.val + x.val) / 256, _⟩ ⟨(256 * h.val + x.val) % 256, _⟩ = _
  rw [e1, e2]

/-- The products after the second kernel. -/
theorem arr1 : (dat1 U c).arrAt 3 cfg1.N = prods (U c main_v33) (U c main_v29_0) (U c main_v29_1) := by
  refine (dat1 U c).arrAt_eq_of_covers 3 _ (by decide +kernel) fun t hf y => ?_
  have ht : t.val < 48 := lt_of_lt_of_eq t.isLt N_1
  blk_simp
  rw [after1_3]
  idx_vars y
  have hy := y1.isLt
  have e : ((View.whole main_v34).slice (win1_3.rect t)).emb (ix3 y0 y1 y2)
      = ix3 y0 (⟨t.val / 6 * 2048 + y1.val, by omega⟩ : Fin 16384) (qcol ⟨t.val % 6, by omega⟩ y2) := by
    blk_ext [idx1 t]
  rw [e, prods_at]
  refine (out_p _ _ _ y0 y1 y2).trans ?_
  rw [blk1_0 U c t y1 y2 ⟨t.val / 6 * 2048 + y1.val, by omega⟩ rfl, blk1_1 U c t y1 y2 ⟨t.val / 6 * 2048 + y1.val, by omega⟩ rfl,
    blk1_2 U c t y1 y2 ⟨t.val / 6 * 2048 + y1.val, by omega⟩ ⟨t.val % 6, by omega⟩ rfl rfl]
  rfl

end Cert.Rope
end
end
-- ==== Proof.RopeHost.lean ====
module

public import proofs.«01_k».proof.Proof.RopeArr
public import Idealize.ShloMosaic.Lib.StableHlo.RunRead

/-! The host's part of the rotary gradient. -/

@[expose] public section

set_option maxRecDepth 16384

noncomputable section

namespace Cert.Rope

open Idealize.ShloMosaic Idealize.ShloMosaic.TcCoe Idealize.SL.Sem
open Idealize.ShloMosaic.Pipeline (Dat)
open Cert.RopeIdeal Cert.RopeIdeal.Gen

variable (W : Valuation τ sig (Elt Ideal))

/-- The inverse frequency of a pair of columns. -/
def inv (k : Fin 32) : EReal :=
  Ideal.pow (Ideal.ofBits .f32 0x461C4000#32)
    (Ideal.div (-(Ideal.ofBits .f32 0x40000000#32 * FloatOps.sitofp (F := Ideal) .f32 (BitVec.ofNat 32 k.val))) (Ideal.ofBits .f32 0x42800000#32))

/-- A row of four parts: columns that are not rotated, the two halves of those that are, and the padding. -/
def row4 (a : EReal) (b d : Fin 32 → EReal) (e : EReal) (x : Fin 256) : EReal :=
  if h1 : x.val < 128 then a else if h2 : x.val - 128 < 32 then b ⟨x.val - 128, h2⟩
  else if h3 : x.val - 128 - 32 < 32 then d ⟨x.val - 128 - 32, h3⟩ else e

/-- Four rows laid side by side, read at an entry. -/
theorem cat4 (x0 : FVec Ideal S128 .f32) (x1 x2 : FVec Ideal S32 .f32) (x3 : FVec Ideal S64 .f32) (hc) (hr) (x : Fin 256) :
    shapeCast S1x256 (concatenate S256 0 [⟨S128, x0⟩, ⟨S32, x1⟩, ⟨S32, x2⟩, ⟨S64, x3⟩] hc) hr (ix2 0 x)
      = if h1 : x.val < 128 then x0 (ix1 ⟨x.val, h1⟩) else if h2 : x.val - 128 < 32 then x1 (ix1 ⟨x.val - 128, h2⟩)
        else if h3 : x.val - 128 - 32 < 32 then x2 (ix1 ⟨x.val - 128 - 32, h3⟩) else x3 (ix1 ⟨x.val - 128 - 32 - 32, by omega⟩) := by
  pointwise

theorem read_v0 (q : Fin 16384) : StableHlo.after hostOps0 W main_v0 (ix2 q 0) = W main_arg0 (ix1 q) := by
  rw [StableHlo.after_last_write (i := 0) (hostOps0_W.drop 1) rfl rfl (by decide) W, StableHlo.reshape_result']
  after_reads_simp
  pointwise

theorem read_v15 (x : Fin 256) : StableHlo.after hostOps0 W main_v15 (ix2 0 x) = row4 0 inv inv 0 x := by
  rw [StableHlo.after_last_write (i := 22) (hostOps0_W.drop 23) rfl rfl (by decide) W, StableHlo.reshape_result',
    StableHlo.upto_last_write (i := 21) [] rfl rfl (by decide) W, StableHlo.nary_result']
  refine (cat4 _ _ _ _ _ _ x).trans ?_
  dsimp only [Matrix.cons_val]
  after_reads_simp
  unfold row4
  split_ifs
  · pointwise
  · pointwise
    rfl
  · pointwise
    rfl
  · pointwise

theorem read_v18 (x : Fin 256) : StableHlo.after hostOps0 W main_v18 (ix2 0 x) = row4 0 (fun _ => -1) (fun _ => 1) 0 x := by
  rw [StableHlo.after_last_write (i := 25) (hostOps0_W.drop 26) rfl rfl (by decide) W, StableHlo.reshape_result',
    StableHlo.upto_last_write (i := 24) [] rfl rfl (by decide) W, StableHlo.nary_result']
  refine (cat4 _ _ _ _ _ _ x).trans ?_
  dsimp only [Matrix.cons_val]
  after_reads_simp
  unfold row4
  split_ifs <;> pointwise

theorem read_v20 (x : Fin 256) : StableHlo.after hostOps0 W main_v20 (ix2 0 x) = row4 0 (fun _ => 1) (fun _ => 1) 0 x := by
  rw [StableHlo.after_last_write (i := 27) (hostOps0_W.drop 28) rfl rfl (by decide) W, StableHlo.reshape_result',
    StableHlo.upto_last_write (i := 26) [] rfl rfl (by decide) W, StableHlo.nary_result']
  refine (cat4 _ _ _ _ _ _ x).trans ?_
  dsimp only [Matrix.cons_val]
  after_reads_simp
  unfold row4
  split_ifs <;> pointwise

theorem read_v28 (x : Fin 256) : StableHlo.after hostOps0 W main_v28 (ix2 0 x) = row4 1 (fun _ => 0) (fun _ => 0) 0 x := by
  rw [StableHlo.after_last_write (i := 38) [] rfl rfl (by decide) W, StableHlo.reshape_result',
    StableHlo.upto_last_write (i := 37) [] rfl rfl (by decide) W, StableHlo.nary_result']
  refine (cat4 _ _ _ _ _ _ x).trans ?_
  dsimp only [Matrix.cons_val]
  after_reads_simp
  unfold row4
  split_ifs <;> pointwise

/-- A head's columns and its padding, read at an entry. -/
theorem cat2 (x0 : FVec Ideal S16384x6x192 .f32) (x1 : FVec Ideal S16384x6x64 .f32) (hc) (hr) (a : Fin 16384) (h : Fin 6) (x : Fin 256) :
    shapeCast S16384x1536 (concatenate S16384x6x256 2 [⟨S16384x6x192, x0⟩, ⟨S16384x6x64, x1⟩] hc) hr (ix2 a (qcol h x))
      = if h1 : x.val < 192 then x0 (ix3 a h ⟨x.val, h1⟩) else x1 (ix3 a h ⟨x.val - 192, by omega⟩) := by
  have e1 : (⟨(256 * h.val + x.val) / 256, by omega⟩ : Fin 6) = h := by ext; show (256 * h.val + x.val) / 256 = h.val; omega
  have e2 : (⟨(256 * h.val + x.val) % 256, Nat.mod_lt _ (by decide)⟩ : Fin 256) = x := by ext; show (256 * h.val + x.val) % 256 = x.val; omega
  have e3 : ∀ X : FVec Ideal S16384x6x256 .f32, shapeCast S16384x1536 X hr (ix2 a (qcol h x)) = X (ix3 a h x) := by
    intro X
    pointwise
    rw [e1, e2]
  rw [e3]
  pointwise

theorem read_v33 (a : Fin 16384) (h : Fin 6) (x : Fin 256) :
    StableHlo.after hostOps1 W main_v33 (ix2 a (qcol h x)) = if h1 : x.val < 192 then W main_arg1 (ix3 a h ⟨x.val, h1⟩) else (0 : EReal) := by
  rw [StableHlo.after_last_write (i := 4) [] rfl rfl (by decide) W, StableHlo.unary_result',
    StableHlo.upto_last_write (i := 3) [] rfl rfl (by decide) W, StableHlo.reshape_result',
    StableHlo.upto_last_write (i := 2) [] rfl rfl (by decide) W, StableHlo.binary_result']
  refine (cat2 _ _ concatenates_S16384x6x192_S16384x6x64_S16384x6x256_d2 _ a h x).trans ?_
  after_reads_simp
  split_ifs
  · rfl
  · pointwise

/-- A head's columns that are not rotated and those that are, read at an entry. -/
theorem cat192 (x0 : FVec Ideal S16384x6x128 .f32) (x1 : FVec Ideal S16384x6x64 .f32) (hc) (a : Fin 16384) (h : Fin 6) (x : Fin 192) :
    concatenate S16384x6x192 2 [⟨S16384x6x128, x0⟩, ⟨S16384x6x64, x1⟩] hc (ix3 a h x)
      = if h1 : x.val < 128 then x0 (ix3 a h ⟨x.val, h1⟩) else x1 (ix3 a h ⟨x.val - 128, by omega⟩) := by
  pointwise

/-- The two halves of a head's rotated columns, read at an entry. -/
theorem cat64 (x0 x1 : FVec Ideal S16384x6x32 .f32) (hc) (a : Fin 16384) (h : Fin 6) (x : Fin 64) :
    concatenate S16384x6x64 2 [⟨S16384x6x32, x0⟩, ⟨S16384x6x32, x1⟩] hc (ix3 a h x)
      = if h1 : x.val < 32 then x0 (ix3 a h ⟨x.val, h1⟩) else x1 (ix3 a h ⟨x.val - 32, by omega⟩) := by
  pointwise

/-- The result of the host's last part, by columns. -/
def fold (X : FVec Ideal S2x16384x1536 .bf16) (a : Fin 16384) (h : Fin 6) (x : Fin 192) : EReal :=
  if h1 : x.val < 128 then X (ix3 0 a (qcol h ⟨x.val, by omega⟩))
  else @HAdd.hAdd EReal EReal EReal _ (X (ix3 0 a (qcol h ⟨x.val, by omega⟩)))
    (if h2 : x.val - 128 < 32 then X (ix3 1 a (qcol h ⟨x.val + 32, by omega⟩)) else X (ix3 1 a (qcol h ⟨x.val - 32, by omega⟩)))

/-- The same column, its number written in two ways. -/
theorem at_col (X : FVec Ideal S2x16384x1536 .bf16) (p : Fin 2) (a : Fin 16384) {k l : ℕ} (e : k = l) (hk : k < 1536) :
    X (ix3 p a ⟨k, hk⟩) = X (ix3 p a ⟨l, e ▸ hk⟩) := by
  subst e; rfl

theorem read_v46 (a : Fin 16384) (h : Fin 6) (y : Fin 32) :
    StableHlo.upto hostOps2 W 13 main_v46 (ix3 a h y) = W main_v34 (ix3 1 a (qcol h ⟨y.val + 160, by omega⟩)) := by
  after_reads_simp
  pointwise
  exact at_col _ 1 a (show _ = 256 * h.val + (y.val + 160) by omega) _

theorem read_v47 (a : Fin 16384) (h : Fin 6) (y : Fin 32) :
    StableHlo.upto hostOps2 W 13 main_v47 (ix3 a h y) = W main_v34 (ix3 1 a (qcol h ⟨y.val + 128, by omega⟩)) := by
  after_reads_simp
  pointwise
  exact at_col _ 1 a (show _ = 256 * h.val + (y.val + 128) by omega) _

theorem read_v50 (a : Fin 16384) (h : Fin 6) (x : Fin 192) :
    StableHlo.after hostOps2 W main_v50 (ix3 a h x) = fold (W main_v34) a h x := by
  rw [StableHlo.after_last_write (i := 15) [] rfl rfl (by decide) W, StableHlo.binary_result']
  refine (cat192 _ _ concatenates_S16384x6x128_S16384x6x64_S16384x6x192_d2 a h x).trans ?_
  unfold fold
  split_ifs with h1 h2
  · after_reads_simp
    pointwise
    exact at_col _ 0 a (show _ = 256 * h.val + x.val by omega) _
  · after_reads_simp
    pointwise
    rw [dif_pos h2]
    pointwise
    rw [at_col (W main_v34) 0 a (show h.val * 256 + (128 + (x.val - 128)) = 256 * h.val + x.val by omega), read_v46]
    exact congrArg (@HAdd.hAdd EReal EReal EReal _ _) (at_col (W main_v34) 1 a (show 256 * h.val + (x.val - 128 + 160) = 256 * h.val + (x.val + 32) by omega) _)
  · after_reads_simp
    pointwise
    rw [dif_neg h2]
    pointwise
    rw [at_col (W main_v34) 0 a (show h.val * 256 + (128 + (x.val - 128)) = 256 * h.val + x.val by omega), read_v47]
    exact congrArg (@HAdd.hAdd EReal EReal EReal _ _) (at_col (W main_v34) 1 a (show 256 * h.val + (x.val - 128 - 32 + 128) = 256 * h.val + (x.val - 32) by omega) _)

/-- The cosine of a row's angle for a pair of columns, and the sine. -/
def cosA (pos : IVec S16384 32) (q : Fin 16384) (k : Fin 32) : EReal := Ideal.cos (num (pos (ix1 q)) * inv k)
def sinA (pos : IVec S16384 32) (q : Fin 16384) (k : Fin 32) : EReal := Ideal.sin (num (pos (ix1 q)) * inv k)

/-- The gradient of the queries before the rotary. -/
def DQ (pos : IVec S16384 32) (ct : FVec Ideal S16384x6x192 .f32) (q : Fin 16384) (h : Fin 6) (x : Fin 192) : EReal :=
  if h1 : x.val < 128 then ct (ix3 q h x)
  else if h2 : x.val - 128 < 32 then
    @HAdd.hAdd EReal EReal EReal _ (@HMul.hMul EReal EReal EReal _ (ct (ix3 q h ⟨x.val + 32, by omega⟩)) (sinA pos q ⟨x.val - 128, h2⟩))
      (@HMul.hMul EReal EReal EReal _ (ct (ix3 q h x)) (cosA pos q ⟨x.val - 128, h2⟩))
  else
    @HAdd.hAdd EReal EReal EReal _ (@HMul.hMul EReal EReal EReal _ (ct (ix3 q h x)) (cosA pos q ⟨x.val - 128 - 32, by omega⟩))
      (@HMul.hMul EReal EReal EReal _ (@Neg.neg EReal _ (ct (ix3 q h ⟨x.val - 32, by omega⟩))) (sinA pos q ⟨x.val - 128 - 32, by omega⟩))

section
variable (pos : IVec S16384 32) (ct : FVec Ideal S16384x6x192 .f32)

/-- The rows the tables are made of, and the tables. -/
def tC : FVec Ideal S16384x256 .f32 := fun i => if h1 : (i 1).val < 128 then (1 : EReal)
  else if h2 : (i 1).val - 128 < 32 then cosA pos (i 0) ⟨(i 1).val - 128, h2⟩
  else if h3 : (i 1).val - 128 - 32 < 32 then cosA pos (i 0) ⟨(i 1).val - 128 - 32, h3⟩ else (0 : EReal)
def tS : FVec Ideal S16384x256 .f32 := fun i => if h1 : (i 1).val < 128 then (0 : EReal)
  else if h2 : (i 1).val - 128 < 32 then @HMul.hMul EReal EReal EReal _ (sinA pos (i 0) ⟨(i 1).val - 128, h2⟩) (-1)
  else if h3 : (i 1).val - 128 - 32 < 32 then sinA pos (i 0) ⟨(i 1).val - 128 - 32, h3⟩ else (0 : EReal)

theorem tabC_at (P : IVec S16384x1 32) (f w n : FVec Ideal S1x256 .f32) (hP : ∀ q, P (ix2 q 0) = pos (ix1 q))
    (hf : ∀ x, f (ix2 0 x) = row4 0 inv inv 0 x) (hw : ∀ x, w (ix2 0 x) = row4 0 (fun _ => 1) (fun _ => 1) 0 x)
    (hn : ∀ x, n (ix2 0 x) = row4 1 (fun _ => 0) (fun _ => 0) 0 x) (q : Fin 16384) (x : Fin 256) :
    tabC P f w n (ix2 q x) = tC pos (ix2 q x) := by
  refine (show _ = Ideal.cos (num (P (ix2 q 0)) * f (ix2 0 x)) * w (ix2 0 x) + n (ix2 0 x) from rfl).trans ?_
  refine Eq.trans ?_ (show (if h1 : x.val < 128 then (1 : EReal) else if h2 : x.val - 128 < 32 then cosA pos q ⟨x.val - 128, h2⟩
    else if h3 : x.val - 128 - 32 < 32 then cosA pos q ⟨x.val - 128 - 32, h3⟩ else (0 : EReal)) = _ from rfl)
  rw [hP, hf, hw, hn]
  unfold row4 cosA
  split_ifs
  · rw [mul_zero, zero_add]
  · rw [mul_one, add_zero]
  · rw [mul_one, add_zero]
  · rw [mul_zero, add_zero]

theorem tabS_at (P : IVec S16384x1 32) (f w : FVec Ideal S1x256 .f32) (hP : ∀ q, P (ix2 q 0) = pos (ix1 q))
    (hf : ∀ x, f (ix2 0 x) = row4 0 inv inv 0 x) (hw : ∀ x, w (ix2 0 x) = row4 0 (fun _ => -1) (fun _ => 1) 0 x) (q : Fin 16384) (x : Fin 256) :
    tabS P f w (ix2 q x) = tS pos (ix2 q x) := by
  refine (show _ = Ideal.sin (num (P (ix2 q 0)) * f (ix2 0 x)) * w (ix2 0 x) from rfl).trans ?_
  refine Eq.trans ?_ (show (if h1 : x.val < 128 then (0 : EReal)
    else if h2 : x.val - 128 < 32 then @HMul.hMul EReal EReal EReal _ (sinA pos q ⟨x.val - 128, h2⟩) (-1)
    else if h3 : x.val - 128 - 32 < 32 then sinA pos q ⟨x.val - 128 - 32, h3⟩ else (0 : EReal)) = _ from rfl)
  rw [hP, hf, hw]
  unfold row4 sinA
  split_ifs
  · rw [mul_zero]
  · rfl
  · rw [mul_one]
  · rw [mul_zero]

end

variable (m : (ℓ : Loc nD τ sig) → Buf (Elt Ideal) ℓ) (ρ : Dev nD → PrngReg) (c : Dev nD)
  (pos : IVec S16384 32) (ct : FVec Ideal S16384x6x192 .f32)
  (hp : m ((c.tc : Thread nD τ).loc main_arg0) = pos) (hc : m ((c.tc : Thread nD τ).loc main_arg1) = ct)

include hp in
theorem table_c (q : Fin 16384) (x : Fin 256) : V3 m ρ c main_v29_0 (ix2 q x) = tC pos (ix2 q x) := by
  refine (congrFun (W3_of m ρ c main_v29_0 (by decide)) _).trans ?_
  refine (congrFun (W2_arr m ρ c 5) _).trans ?_
  refine (congrFun (arr0_c (V1 m ρ) c) _).trans ?_
  exact tabC_at pos _ _ _ _ (fun q => (read_v0 (W0 m ρ c) q).trans (congrFun hp (ix1 q))) (read_v15 (W0 m ρ c))
    (read_v20 (W0 m ρ c)) (read_v28 (W0 m ρ c)) q x

include hp in
theorem table_s (q : Fin 16384) (x : Fin 256) : V3 m ρ c main_v29_1 (ix2 q x) = tS pos (ix2 q x) := by
  refine (congrFun (W3_of m ρ c main_v29_1 (by decide)) _).trans ?_
  refine (congrFun (W2_arr m ρ c 6) _).trans ?_
  refine (congrFun (arr0_s (V1 m ρ) c) _).trans ?_
  exact tabS_at pos _ _ _ (fun q => (read_v0 (W0 m ρ c) q).trans (congrFun hp (ix1 q))) (read_v15 (W0 m ρ c))
    (read_v18 (W0 m ρ c)) q x

include hc in
theorem cols (q : Fin 16384) (h : Fin 6) (x : Fin 256) :
    V3 m ρ c main_v33 (ix2 q (qcol h x)) = if h1 : x.val < 192 then ct (ix3 q h ⟨x.val, h1⟩) else (0 : EReal) := by
  refine (read_v33 (W2 m ρ c) q h x).trans ?_
  rw [W2_of m ρ c main_arg1 (by decide), W1_of m ρ c main_arg1 (by decide)]
  have e : W0 m ρ c main_arg1 = ct := hc
  rw [e]

include hp hc in
/-- What the kernels leave for a column. -/
theorem products (p : Fin 2) (q : Fin 16384) (h : Fin 6) (x : Fin 256) :
    W4 m ρ c main_v34 (ix3 p q (qcol h x)) = @HMul.hMul EReal EReal EReal _
      (if h1 : x.val < 192 then ct (ix3 q h ⟨x.val, h1⟩) else (0 : EReal)) (if p = 0 then tC pos (ix2 q x) else tS pos (ix2 q x)) := by
  refine (congrFun (W4_arr m ρ c 3) _).trans ?_
  refine (congrFun (arr1 (V3 m ρ) c) _).trans ?_
  rw [prods_at]
  unfold prod
  rw [cols m ρ c ct hc q h x, table_c m ρ c pos hp q x, table_s m ρ c pos hp q x]

include hp hc in
/-- A column of the first plane, and of the second. -/
theorem plane0 (q : Fin 16384) (h : Fin 6) (n : ℕ) (hn : n < 192) :
    W4 m ρ c main_v34 (ix3 0 q (qcol h ⟨n, by omega⟩))
      = @HMul.hMul EReal EReal EReal _ (ct (ix3 q h ⟨n, hn⟩)) (tC pos (ix2 q ⟨n, by omega⟩)) :=
  (products m ρ c pos ct hp hc 0 q h ⟨n, by omega⟩).trans (congrArg₂ (@HMul.hMul EReal EReal EReal _) (dif_pos hn) (if_pos rfl))

include hp hc in
theorem plane1 (q : Fin 16384) (h : Fin 6) (n : ℕ) (hn : n < 192) :
    W4 m ρ c main_v34 (ix3 1 q (qcol h ⟨n, by omega⟩))
      = @HMul.hMul EReal EReal EReal _ (ct (ix3 q h ⟨n, hn⟩)) (tS pos (ix2 q ⟨n, by omega⟩)) :=
  (products m ρ c pos ct hp hc 1 q h ⟨n, by omega⟩).trans (congrArg₂ (@HMul.hMul EReal EReal EReal _) (dif_pos hn) (if_neg (by decide)))

include hp hc in
/-- The kernels' result. -/
theorem result (q : Fin 16384) (h : Fin 6) (x : Fin 192) : W5 m ρ c main_v50 (ix3 q h x) = DQ pos ct q h x := by
  refine (read_v50 (W4 m ρ c) q h x).trans ?_
  unfold fold DQ
  have hx := x.isLt
  by_cases h1 : x.val < 128
  · rw [dif_pos h1, dif_pos h1]
    refine (plane0 m ρ c pos ct hp hc q h x.val hx).trans ?_
    exact (congrArg (@HMul.hMul EReal EReal EReal _ _) (dif_pos h1 : tC pos (ix2 q ⟨x.val, _⟩) = 1)).trans (mul_one _)
  rw [dif_neg h1, dif_neg h1]
  by_cases h2 : x.val - 128 < 32
  · rw [dif_pos h2, dif_pos h2]
    have e1 : tC pos (ix2 q ⟨x.val, by omega⟩) = cosA pos q ⟨x.val - 128, h2⟩ := (dif_neg h1).trans (dif_pos h2)
    have e2 : tS pos (ix2 q ⟨x.val + 32, by omega⟩) = sinA pos q ⟨x.val - 128, h2⟩ := by
      refine (dif_neg (show ¬ x.val + 32 < 128 by omega)).trans ((dif_neg (show ¬ x.val + 32 - 128 < 32 by omega)).trans
        ((dif_pos (show x.val + 32 - 128 - 32 < 32 by omega)).trans ?_))
      refine congrArg (sinA pos q) (Fin.ext ?_)
      show x.val + 32 - 128 - 32 = x.val - 128
      omega
    refine (congrArg₂ (@HAdd.hAdd EReal EReal EReal _) (plane0 m ρ c pos ct hp hc q h x.val hx)
      (plane1 m ρ c pos ct hp hc q h (x.val + 32) (by omega))).trans ?_
    rw [e1, e2]
    exact add_comm (G := EReal) _ _
  · rw [dif_neg h2, dif_neg h2]
    have e1 : tC pos (ix2 q ⟨x.val, by omega⟩) = cosA pos q ⟨x.val - 128 - 32, by omega⟩ :=
      (dif_neg h1).trans ((dif_neg h2).trans (dif_pos (show x.val - 128 - 32 < 32 by omega)))
    have e2 : tS pos (ix2 q ⟨x.val - 32, by omega⟩) = @HMul.hMul EReal EReal EReal _ (sinA pos q ⟨x.val - 128 - 32, by omega⟩) (-1) := by
      refine (dif_neg (show ¬ x.val - 32 < 128 by omega)).trans ((dif_pos (show x.val - 32 - 128 < 32 by omega)).trans ?_)
      refine congrArg (fun k => @HMul.hMul EReal EReal EReal _ (sinA pos q k) (-1)) (Fin.ext ?_)
      show x.val - 32 - 128 = x.val - 128 - 32
      omega
    refine (congrArg₂ (@HAdd.hAdd EReal EReal EReal _) (plane0 m ρ c pos ct hp hc q h x.val hx)
      (plane1 m ρ c pos ct hp hc q h (x.val - 32) (by omega))).trans ?_
    rw [e1, e2]
    refine congrArg _ ?_
    exact (congrArg (@HMul.hMul EReal EReal EReal _ _) ((mul_comm _ _).trans ((EReal.neg_mul _ _).trans (congrArg Neg.neg (one_mul _))))).trans
      ((mul_comm _ _).trans ((EReal.neg_mul _ _).trans ((congrArg Neg.neg (mul_comm _ _)).trans (EReal.neg_mul _ _).symm)))

end Cert.Rope
end
end
-- ==== Proof.RopeRef.lean ====
module

public import proofs.«01_k».proof.Proof.Gen.RopeRefIdeal.Read
public import proofs.«01_k».proof.Proof.RopeHost

@[expose] public section

set_option maxRecDepth 16384

noncomputable section

/-! The rotary's derivative that the reference computes, by columns. -/

namespace Cert.RopeRefIdeal.Pf

open Idealize.ShloMosaic Idealize.ShloMosaic.TcCoe
open Cert.RopeRefIdeal Cert.RopeRefIdeal.Gen Cert.RopeRefIdeal.Read
open Cert.Rope (DQ cosA sinA inv num)

theorem cat192 (x0 : FVec Ideal S16384x6x128 .f32) (x1 : FVec Ideal S16384x6x64 .f32) (hc) (a : Fin 16384) (h : Fin 6) (x : Fin 192) :
    concatenate S16384x6x192 2 [⟨S16384x6x128, x0⟩, ⟨S16384x6x64, x1⟩] hc (ix3 a h x)
      = if h1 : x.val < 128 then x0 (ix3 a h ⟨x.val, h1⟩) else x1 (ix3 a h ⟨x.val - 128, by omega⟩) := Cert.Rope.cat192 x0 x1 hc a h x

theorem cat64 (x0 x1 : FVec Ideal S16384x6x32 .f32) (hc) (a : Fin 16384) (h : Fin 6) (x : Fin 64) :
    concatenate S16384x6x64 2 [⟨S16384x6x32, x0⟩, ⟨S16384x6x32, x1⟩] hc (ix3 a h x)
      = if h1 : x.val < 32 then x0 (ix3 a h ⟨x.val, h1⟩) else x1 (ix3 a h ⟨x.val - 32, by omega⟩) := Cert.Rope.cat64 x0 x1 hc a h x

theorem cos_at (x0 : IVec S16384 32) (q : Fin 16384) (k : Fin 32) : val_main_v16 (F := Ideal) x0 (ix2 q k) = cosA x0 q k := by
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0,
    val_main_cst_1, val_main_cst_2]
  rfl

theorem sin_at (x0 : IVec S16384 32) (q : Fin 16384) (k : Fin 32) : val_main_v17 (F := Ideal) x0 (ix2 q k) = sinA x0 q k := by
  pointwise [val_main_v17, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0,
    val_main_cst_1, val_main_cst_2]
  rfl

/-- The reference's gradient of the queries. -/
theorem dq (x0 : IVec S16384 32) (x1 : FVec Ideal S16384x6x192 .f32) (q : Fin 16384) (h : Fin 6) (x : Fin 192) :
    val_main_v53 (F := Ideal) x0 x1 (ix3 q h x) = DQ x0 x1 q h x := by
  refine (cat192 _ _ _ q h x).trans ?_
  unfold DQ
  have hx := x.isLt
  split_ifs with h1 h2
  · pointwise [val_main_v37]
  · refine (cat64 _ _ _ q h _).trans ?_
    refine (dif_pos h2).trans ?_
    simp only [← cos_at, ← sin_at]
    pointwise [val_main_v51, val_main_v50, val_main_v49, val_main_v44, val_main_v43, val_main_v40, val_main_v39, val_main_v38, val_main_v24, val_main_v23]
    have e1 : (⟨128 + (32 + (x.val - 128)), by omega⟩ : Fin 192) = ⟨x.val + 32, by omega⟩ := Fin.ext (by show 128 + (32 + (x.val - 128)) = x.val + 32; omega)
    have e2 : (⟨128 + (x.val - 128), by omega⟩ : Fin 192) = x := Fin.ext (by show 128 + (x.val - 128) = x.val; omega)
    rw [e1, e2]
  · refine (cat64 _ _ _ q h _).trans ?_
    refine (dif_neg h2).trans ?_
    simp only [← cos_at, ← sin_at]
    pointwise [val_main_v48, val_main_v47, val_main_v46, val_main_v45, val_main_v42, val_main_v41, val_main_v40, val_main_v39, val_main_v38, val_main_v24, val_main_v23]
    have e1 : (⟨128 + (32 + (x.val - 128 - 32)), by omega⟩ : Fin 192) = x := Fin.ext (by show 128 + (32 + (x.val - 128 - 32)) = x.val; omega)
    have e2 : (⟨128 + (x.val - 128 - 32), by omega⟩ : Fin 192) = ⟨x.val - 32, by omega⟩ := Fin.ext (by show 128 + (x.val - 128 - 32) = x.val - 32; omega)
    rw [e1, e2]

end Cert.RopeRefIdeal.Pf

end
end
-- ==== Proof.RopeClaim.lean ====
module

public import proofs.«01_k».proof.Defs
public import proofs.«01_k».proof.Proof.Gen.Rope.Frame
public import proofs.«01_k».proof.Proof.Gen.RopeIdeal.Frame
public import proofs.«01_k».proof.Proof.Gen.RopeRefIdeal.Run
public import proofs.«01_k».proof.Proof.RopeRun
public import proofs.«01_k».proof.Proof.RopeRef
public import Idealize.ShloMosaic.Lib.Claim

@[expose] public section

set_option maxRecDepth 16384

noncomputable section

/-! The claims about the rotary's gradient. -/

namespace Cert.Proof.Rope

open Idealize.ShloMosaic Idealize.ShloMosaic.TcCoe Idealize.SL.Sem

theorem frame_kernel : Cert.quiescent_Rope := fun m ρ _ => Cert.Rope.Gen.frame m ρ

theorem frame_ideal : Cert.quiescent_RopeIdeal := fun m ρ _ => Cert.RopeIdeal.Gen.frame m ρ

theorem frame_ref : Cert.quiescent_RopeRefIdeal := fun m ρ _ =>
  (θ_run Cert.RopeRefIdeal.defs _ _).mono
    (fun r h => ⟨fun c => (h c).2, Idealize.ShloMosaic.sem_eq_zero_of_no_sems (by decide) r.2⟩)
    (Cert.RopeRefIdeal.Value.run (F := Ideal) m ρ)

/-- The kernels' gradient of the queries is the plain lines' derivative. -/
theorem value : Cert.algebraic_RopeIdeal_RopeRefIdeal := by
  intro m g m' g' _ hagree
  refine ⟨fun c => Cert.RopeIdeal.Gen.W5 m g c Cert.RopeIdeal.main_v50, Cert.Rope.run m g, ?_⟩
  refine (θ_run Cert.RopeRefIdeal.defs _ _).mono (fun r h c => ?_) (Cert.RopeRefIdeal.Value.run (F := Ideal) m' g')
  obtain ⟨h0, h1⟩ := hagree c
  refine ⟨(h c).1.trans ?_, (h c).2⟩
  refine (Cert.RopeRefIdeal.Read.val_main_v53_eq m' c).trans ?_
  rw [h0, h1]
  funext i
  idx_vars i
  exact (Cert.RopeRefIdeal.Pf.dq _ _ i0 i1 i2).trans (Cert.Rope.result m g c _ _ rfl rfl i0 i1 i2).symm

end Cert.Proof.Rope

end
end
-- ==== Proof.KvRopeRun.lean ====
module

public import proofs.«01_k».proof.Proof.Gen.KvRopeIdeal.Frame

/-! The launch of the gradient of keys and values with the contents of its results at the end. -/

@[expose] public section

set_option maxRecDepth 16384

noncomputable section

namespace Cert.KvRope

open Cert.KvRopeIdeal Cert.KvRopeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch, with what the results hold at the end: the entries of `W8`. -/
theorem run : θ_run defs (onTc (τ := τ) (main (F := F))) ⟨m, fun _ => 0, ρ⟩ (fun r => ∀ c : Dev nD,
      r.2.mem ((c.tc : Thread nD τ).loc main_v46) = W8 m ρ c main_v46
      ∧ r.2.mem ((c.tc : Thread nD τ).loc main_v54) = W8 m ρ c main_v54
      ∧ r.2.mem ((c.tc : Thread nD τ).loc main_v44) = W8 m ρ c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨h c _ (mem_uc main_v46 (by decide)), h c _ (mem_uc main_v54 (by decide)), h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KvRope
end
end
-- ==== Proof.KvRopeArr.lean ====
module

public import proofs.«01_k».proof.Proof.RopeArr
public import proofs.«01_k».proof.Proof.Gen.KvRopeIdeal.Frame
public import Idealize.ShloMosaic.Lib.Pipeline.ValueKit
public import Idealize.ShloMosaic.Lib.Pointwise
public import Idealize.ShloMosaic.Lib.StableHlo.RunRead

/-! What the arrays of the shared keys' and values' gradients hold after each of the four kernels. -/

@[expose] public section

set_option maxRecDepth 16384

noncomputable section

namespace Cert.KvRope

open Idealize.ShloMosaic Idealize.ShloMosaic.TcCoe Idealize.SL.Sem
open Idealize.ShloMosaic.Pipeline (Dat)
open Cert.KvRopeIdeal Cert.KvRopeIdeal.Gen
open Cert.Rope (num tabC tabS qcol)

variable (U : (c : Dev nD) → (b : Ref sig .tc) → Buf (Elt Ideal) ((c : Thread nD τ).loc b)) (c : Dev nD)

theorem out_c (P : IVec S512x1 32) (A B D E : FVec Ideal S1x256 .f32) (r : Fin 512) (x : Fin 256) :
    out0_5 (F := Ideal) P A B D E (ix2 r x) = Ideal.cos (num (P (ix2 r 0)) * A (ix2 0 x)) * D (ix2 0 x) + E (ix2 0 x) :=
  Cert.Rope.out_c P A B D E r x

theorem out_s (P : IVec S512x1 32) (A B D E : FVec Ideal S1x256 .f32) (r : Fin 512) (x : Fin 256) :
    out0_6 (F := Ideal) P A B D E (ix2 r x) = Ideal.sin (num (P (ix2 r 0)) * A (ix2 0 x)) * B (ix2 0 x) :=
  Cert.Rope.out_s P A B D E r x

/-- A block of the sum of the two cotangents. -/
theorem out_k (A B : FVec Ideal S2048x256 .f32) (X Y : FVec Ideal S2048x256 .bf16) (r : Fin 2048) (x : Fin 256) :
    out1_4 (F := Ideal) A B X Y (ix2 r x) = @HAdd.hAdd EReal EReal EReal _ (X (ix2 r x)) (Y (ix2 r x)) := by
  frame_out
  pointwise [k1_pay2, k1_pay1]

/-- A block of its products with the cosines. -/
theorem out_kc (A B : FVec Ideal S2048x256 .f32) (X Y : FVec Ideal S2048x256 .bf16) (r : Fin 2048) (x : Fin 256) :
    out1_5 (F := Ideal) A B X Y (ix3 0 r x)
      = @HMul.hMul EReal EReal EReal _ (@HAdd.hAdd EReal EReal EReal _ (X (ix2 r x)) (Y (ix2 r x))) (A (ix2 r x)) := by
  frame_out
  pointwise [k1_pay3, k1_pay1]

/-- A block of its products with the signed sines. -/
theorem out_ks (A B : FVec Ideal S2048x256 .f32) (X Y : FVec Ideal S2048x256 .bf16) (r : Fin 2048) (x : Fin 256) :
    out1_6 (F := Ideal) A B X Y (ix3 0 r x)
      = @HMul.hMul EReal EReal EReal _ (@HAdd.hAdd EReal EReal EReal _ (X (ix2 r x)) (Y (ix2 r x))) (B (ix2 r x)) := by
  frame_out
  pointwise [k1_pay4, k1_pay1]

/-- A block of the sums over the heads. -/
theorem out_h0 (X Y : FVec Ideal S6x512x256 .bf16) (r : Fin 512) (x : Fin 256) :
    out2_2 (F := Ideal) X Y (ix2 r x) = ∑ h : Fin 6, (X (ix3 h r x) : EReal) := by
  frame_out
  pointwise [k2_pay1]

theorem out_h1 (X Y : FVec Ideal S6x512x256 .bf16) (r : Fin 512) (x : Fin 256) :
    out2_3 (F := Ideal) X Y (ix2 r x) = ∑ h : Fin 6, (Y (ix3 h r x) : EReal) := by
  frame_out
  pointwise [k2_pay2]

/-- A block of the sum of the values' two cotangents. -/
theorem out_v (X Y : FVec Ideal S512x768 .bf16) (r : Fin 512) (x : Fin 768) :
    out3_2 (F := Ideal) X Y (ix2 r x) = @HAdd.hAdd EReal EReal EReal _ (X (ix2 r x)) (Y (ix2 r x)) := by
  frame_out
  pointwise [k3_pay1]

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

theorem idx1 : ∀ t : Fin cfg1.N, win1_0.index t = ![t.val / 6, 0] ∧ win1_1.index t = ![t.val / 6, 0]
    ∧ win1_2.index t = ![t.val / 6, t.val % 6] ∧ win1_3.index t = ![t.val / 6, t.val % 6] ∧ win1_4.index t = ![t.val / 6, t.val % 6]
    ∧ win1_5.index t = ![t.val % 6, t.val / 6, 0] ∧ win1_6.index t = ![t.val % 6, t.val / 6, 0] :=
  (by decide +kernel : ∀ t : Fin grid1.N, _)

theorem idx2 : ∀ t : Fin cfg2.N, win2_0.index t = ![0, t.val, 0] ∧ win2_1.index t = ![0, t.val, 0]
    ∧ win2_2.index t = ![t.val, 0] ∧ win2_3.index t = ![t.val, 0] :=
  (by decide +kernel : ∀ t : Fin grid2.N, _)

theorem idx3 : ∀ t : Fin cfg3.N, win3_0.index t = ![t.val, 0] ∧ win3_1.index t = ![t.val, 0] ∧ win3_2.index t = ![t.val, 0] :=
  (by decide +kernel : ∀ t : Fin grid3.N, _)

theorem blk0_0 (t : Fin cfg0.N) (r : Fin 512) (q : Fin 16384) (hq : q.val = t.val * 512 + r.val) :
    iblk0 U c 0 t (ix2 r 0) = U c main_v0 (ix2 q 0) := by
  unfold iblk0; blk_ext [idx0 t]

theorem blk0_1 (t : Fin cfg0.N) (x : Fin 256) : iblk0 U c 1 t (ix2 0 x) = U c main_v15 (ix2 0 x) := by
  unfold iblk0; blk_ext [idx0 t]

theorem blk0_2 (t : Fin cfg0.N) (x : Fin 256) : iblk0 U c 2 t (ix2 0 x) = U c main_v18 (ix2 0 x) := by
  unfold iblk0; blk_ext [idx0 t]

theorem blk0_3 (t : Fin cfg0.N) (x : Fin 256) : iblk0 U c 3 t (ix2 0 x) = U c main_v20 (ix2 0 x) := by
  unfold iblk0; blk_ext [idx0 t]

theorem blk0_4 (t : Fin cfg0.N) (x : Fin 256) : iblk0 U c 4 t (ix2 0 x) = U c main_v28 (ix2 0 x) := by
  unfold iblk0; blk_ext [idx0 t]

/-- The tables after the first kernel. -/
theorem arr0_c : (dat0 U c).arrAt 5 cfg0.N = tabC (U c main_v0) (U c main_v15) (U c main_v20) (U c main_v28) := by
  refine (dat0 U c).arrAt_eq_of_covers 5 _ (by decide +kernel) fun t hf y => ?_
  have ht : t.val < 32 := lt_of_lt_of_eq t.isLt N_0
  blk_simp
  rw [after0_5]
  idx_vars y
  have hy := y0.isLt
  have e : ((View.whole main_v29_0).slice (win0_5.rect t)).emb (ix2 y0 y1) = ix2 (⟨t.val * 512 + y0.val, by omega⟩ : Fin 16384) y1 := by
    blk_ext [idx0 t]
  rw [e]
  refine (out_c _ _ _ _ _ y0 y1).trans ?_
  rw [blk0_0 U c t y0 ⟨t.val * 512 + y0.val, by omega⟩ rfl, blk0_1, blk0_3, blk0_4]
  rfl

theorem arr0_s : (dat0 U c).arrAt 6 cfg0.N = tabS (U c main_v0) (U c main_v15) (U c main_v18) := by
  refine (dat0 U c).arrAt_eq_of_covers 6 _ (by decide +kernel) fun t hf y => ?_
  have ht : t.val < 32 := lt_of_lt_of_eq t.isLt N_0
  blk_simp
  rw [after0_6]
  idx_vars y
  have hy := y0.isLt
  have e : ((View.whole main_v29_1).slice (win0_6.rect t)).emb (ix2 y0 y1) = ix2 (⟨t.val * 512 + y0.val, by omega⟩ : Fin 16384) y1 := by
    blk_ext [idx0 t]
  rw [e]
  refine (out_s _ _ _ _ _ y0 y1).trans ?_
  rw [blk0_0 U c t y0 ⟨t.val * 512 + y0.val, by omega⟩ rfl, blk0_1, blk0_2]
  rfl

theorem blk1_0 (t : Fin cfg1.N) (r : Fin 2048) (x : Fin 256) (q : Fin 16384) (hq : q.val = t.val / 6 * 2048 + r.val) :
    iblk1 U c 0 t (ix2 r x) = U c main_v29_0 (ix2 q x) := by
  unfold iblk1; blk_ext [idx1 t]

theorem blk1_1 (t : Fin cfg1.N) (r : Fin 2048) (x : Fin 256) (q : Fin 16384) (hq : q.val = t.val / 6 * 2048 + r.val) :
    iblk1 U c 1 t (ix2 r x) = U c main_v29_1 (ix2 q x) := by
  unfold iblk1; blk_ext [idx1 t]

theorem blk1_2 (t : Fin cfg1.N) (r : Fin 2048) (x : Fin 256) (q : Fin 16384) (h : Fin 6) (hq : q.val = t.val / 6 * 2048 + r.val)
    (hh : h.val = t.val % 6) : iblk1 U c 2 t (ix2 r x) = U c main_v33 (ix2 q (qcol h x)) := by
  unfold iblk1; blk_ext [idx1 t]

theorem blk1_3 (t : Fin cfg1.N) (r : Fin 2048) (x : Fin 256) (q : Fin 16384) (h : Fin 6) (hq : q.val = t.val / 6 * 2048 + r.val)
    (hh : h.val = t.val % 6) : iblk1 U c 3 t (ix2 r x) = U c main_v37 (ix2 q (qcol h x)) := by
  unfold iblk1; blk_ext [idx1 t]

/-- The sum of the two cotangents. -/
def sum2 {S : Shape} (X Y : FVec Ideal S .bf16) : FVec Ideal S .bf16 := fun i => @HAdd.hAdd EReal EReal EReal _ (X i) (Y i)

/-- A head's columns of an array times a table, heads first. -/
def heads (X : FVec Ideal S16384x1536 .bf16) (A : FVec Ideal S16384x256 .f32) : FVec Ideal S6x16384x256 .bf16 := fun i =>
  @HMul.hMul EReal EReal EReal _ (X (ix2 (i 1) (qcol (i 0) (i 2)))) (A (ix2 (i 1) (i 2)))

/-- The sum over the heads. -/
def over (X : FVec Ideal S6x16384x256 .bf16) : FVec Ideal S16384x256 .bf16 := fun i => ∑ h : Fin 6, (X (ix3 h (i 0) (i 1)) : EReal)

/-- The sum of the cotangents after the second kernel. -/
theorem arr1_4 : (dat1 U c).arrAt 4 cfg1.N = sum2 (U c main_v33) (U c main_v37) := by
  refine (dat1 U c).arrAt_eq_of_covers 4 _ (by decide +kernel) fun t hf y => ?_
  have ht : t.val < 48 := lt_of_lt_of_eq t.isLt N_1
  blk_simp
  rw [after1_4]
  idx_vars y
  have hy := y0.isLt
  have e : ((View.whole main_v38_0).slice (win1_4.rect t)).emb (ix2 y0 y1)
      = ix2 (⟨t.val / 6 * 2048 + y0.val, by omega⟩ : Fin 16384) (qcol ⟨t.val % 6, by omega⟩ y1) := by
    blk_ext [idx1 t]
  rw [e]
  refine (out_k _ _ _ _ y0 y1).trans ?_
  rw [blk1_2 U c t y0 y1 ⟨t.val / 6 * 2048 + y0.val, by omega⟩ ⟨t.val % 6, by omega⟩ rfl rfl,
    blk1_3 U c t y0 y1 ⟨t.val / 6 * 2048 + y0.val, by omega⟩ ⟨t.val % 6, by omega⟩ rfl rfl]
  rfl

theorem arr1_5 : (dat1 U c).arrAt 5 cfg1.N = heads (sum2 (U c main_v33) (U c main_v37)) (U c main_v29_0) := by
  refine (dat1 U c).arrAt_eq_of_covers 5 _ (by decide +kernel) fun t hf y => ?_
  have ht : t.val < 48 := lt_of_lt_of_eq t.isLt N_1
  blk_simp
  rw [after1_5]
  idx_vars y
  have hy := y1.isLt
  obtain rfl : y0 = 0 := Subsingleton.elim _ _
  have e : ((View.whole main_v38_1).slice (win1_5.rect t)).emb (ix3 0 y1 y2)
      = ix3 (⟨t.val % 6, by omega⟩ : Fin 6) (⟨t.val / 6 * 2048 + y1.val, by omega⟩ : Fin 16384) y2 := by
    blk_ext [idx1 t]
  rw [e]
  refine (out_kc _ _ _ _ y1 y2).trans ?_
  rw [blk1_2 U c t y1 y2 ⟨t.val / 6 * 2048 + y1.val, by omega⟩ ⟨t.val % 6, by omega⟩ rfl rfl,
    blk1_3 U c t y1 y2 ⟨t.val / 6 * 2048 + y1.val, by omega⟩ ⟨t.val % 6, by omega⟩ rfl rfl,
    blk1_0 U c t y1 y2 ⟨t.val / 6 * 2048 + y1.val, by omega⟩ rfl]
  rfl

theorem arr1_6 : (dat1 U c).arrAt 6 cfg1.N = heads (sum2 (U c main_v33) (U c main_v37)) (U c main_v29_1) := by
  refine (dat1 U c).arrAt_eq_of_covers 6 _ (by decide +kernel) fun t hf y => ?_
  have ht : t.val < 48 := lt_of_lt_of_eq t.isLt N_1
  blk_simp
  rw [after1_6]
  idx_vars y
  have hy := y1.isLt
  obtain rfl : y0 = 0 := Subsingleton.elim _ _
  have e : ((View.whole main_v38_2).slice (win1_6.rect t)).emb (ix3 0 y1 y2)
      = ix3 (⟨t.val % 6, by omega⟩ : Fin 6) (⟨t.val / 6 * 2048 + y1.val, by omega⟩ : Fin 16384) y2 := by
    blk_ext [idx1 t]
  rw [e]
  refine (out_ks _ _ _ _ y1 y2).trans ?_
  rw [blk1_2 U c t y1 y2 ⟨t.val / 6 * 2048 + y1.val, by omega⟩ ⟨t.val % 6, by omega⟩ rfl rfl,
    blk1_3 U c t y1 y2 ⟨t.val / 6 * 2048 + y1.val, by omega⟩ ⟨t.val % 6, by omega⟩ rfl rfl,
    blk1_1 U c t y1 y2 ⟨t.val / 6 * 2048 + y1.val, by omega⟩ rfl]
  rfl

theorem blk2_0 (t : Fin cfg2.N) (h : Fin 6) (r : Fin 512) (x : Fin 256) (q : Fin 16384) (hq : q.val = t.val * 512 + r.val) :
    iblk2 U c 0 t (ix3 h r x) = U c main_v38_1 (ix3 h q x) := by
  unfold iblk2; blk_ext [idx2 t]

theorem blk2_1 (t : Fin cfg2.N) (h : Fin 6) (r : Fin 512) (x : Fin 256) (q : Fin 16384) (hq : q.val = t.val * 512 + r.val) :
    iblk2 U c 1 t (ix3 h r x) = U c main_v38_2 (ix3 h q x) := by
  unfold iblk2; blk_ext [idx2 t]

/-- The sums over the heads after the third kernel. -/
theorem arr2_2 : (dat2 U c).arrAt 2 cfg2.N = over (U c main_v38_1) := by
  refine (dat2 U c).arrAt_eq_of_covers 2 _ (by decide +kernel) fun t hf y => ?_
  have ht : t.val < 32 := lt_of_lt_of_eq t.isLt N_2
  blk_simp
  rw [after2_2]
  idx_vars y
  have hy := y0.isLt
  have e : ((View.whole main_v39_0).slice (win2_2.rect t)).emb (ix2 y0 y1) = ix2 (⟨t.val * 512 + y0.val, by omega⟩ : Fin 16384) y1 := by
    blk_ext [idx2 t]
  rw [e]
  refine (out_h0 _ _ y0 y1).trans ?_
  exact Finset.sum_congr rfl fun h _ => blk2_0 U c t h y0 y1 ⟨t.val * 512 + y0.val, by omega⟩ rfl

theorem arr2_3 : (dat2 U c).arrAt 3 cfg2.N = over (U c main_v38_2) := by
  refine (dat2 U c).arrAt_eq_of_covers 3 _ (by decide +kernel) fun t hf y => ?_
  have ht : t.val < 32 := lt_of_lt_of_eq t.isLt N_2
  blk_simp
  rw [after2_3]
  idx_vars y
  have hy := y0.isLt
  have e : ((View.whole main_v39_1).slice (win2_3.rect t)).emb (ix2 y0 y1) = ix2 (⟨t.val * 512 + y0.val, by omega⟩ : Fin 16384) y1 := by
    blk_ext [idx2 t]
  rw [e]
  refine (out_h1 _ _ y0 y1).trans ?_
  exact Finset.sum_congr rfl fun h _ => blk2_1 U c t h y0 y1 ⟨t.val * 512 + y0.val, by omega⟩ rfl

theorem blk3_0 (t : Fin cfg3.N) (r : Fin 512) (x : Fin 768) (q : Fin 16384) (hq : q.val = t.val * 512 + r.val) :
    iblk3 U c 0 t (ix2 r x) = U c main_v41 (ix2 q x) := by
  unfold iblk3; blk_ext [idx3 t]

theorem blk3_1 (t : Fin cfg3.N) (r : Fin 512) (x : Fin 768) (q : Fin 16384) (hq : q.val = t.val * 512 + r.val) :
    iblk3 U c 1 t (ix2 r x) = U c main_v43 (ix2 q x) := by
  unfold iblk3; blk_ext [idx3 t]

/-- The sum of the values' cotangents after the last kernel. -/
theorem arr3_2 : (dat3 U c).arrAt 2 cfg3.N = sum2 (U c main_v41) (U c main_v43) := by
  refine (dat3 U c).arrAt_eq_of_covers 2 _ (by decide +kernel) fun t hf y => ?_
  have ht : t.val < 32 := lt_of_lt_of_eq t.isLt N_3
  blk_simp
  rw [after3_2]
  idx_vars y
  have hy := y0.isLt
  have e : ((View.whole main_v44).slice (win3_2.rect t)).emb (ix2 y0 y1) = ix2 (⟨t.val * 512 + y0.val, by omega⟩ : Fin 16384) y1 := by
    blk_ext [idx3 t]
  rw [e]
  refine (out_v _ _ y0 y1).trans ?_
  rw [blk3_0 U c t y0 y1 ⟨t.val * 512 + y0.val, by omega⟩ rfl, blk3_1 U c t y0 y1 ⟨t.val * 512 + y0.val, by omega⟩ rfl]
  rfl

end Cert.KvRope
end
end
-- ==== Proof.KvRopeHost.lean ====
module

public import proofs.«01_k».proof.Proof.RopeHost
public import proofs.«01_k».proof.Proof.KvRopeArr

/-! The host's part of the shared keys' and values' gradients, and what the results hold. -/

@[expose] public section

set_option maxRecDepth 16384

noncomputable section

namespace Cert.KvRope

open Idealize.ShloMosaic Idealize.ShloMosaic.TcCoe Idealize.SL.Sem
open Idealize.ShloMosaic.Pipeline (Dat)
open Cert.KvRopeIdeal Cert.KvRopeIdeal.Gen
open Cert.Rope (num tabC tabS qcol inv row4 cosA sinA tC tS tabC_at tabS_at)

variable (W : Valuation τ sig (Elt Ideal))

/-- Four rows laid side by side, read at an entry. -/
theorem cat4 (x0 : FVec Ideal S128 .f32) (x1 x2 : FVec Ideal S32 .f32) (x3 : FVec Ideal S64 .f32) (hc) (hr) (x : Fin 256) :
    shapeCast S1x256 (concatenate S256 0 [⟨S128, x0⟩, ⟨S32, x1⟩, ⟨S32, x2⟩, ⟨S64, x3⟩] hc) hr (ix2 0 x)
      = if h1 : x.val < 128 then x0 (ix1 ⟨x.val, h1⟩) else if h2 : x.val - 128 < 32 then x1 (ix1 ⟨x.val - 128, h2⟩)
        else if h3 : x.val - 128 - 32 < 32 then x2 (ix1 ⟨x.val - 128 - 32, h3⟩) else x3 (ix1 ⟨x.val - 128 - 32 - 32, by omega⟩) :=
  Cert.Rope.cat4 x0 x1 x2 x3 hc hr x

theorem read_v0 (q : Fin 16384) : StableHlo.after hostOps0 W main_v0 (ix2 q 0) = W main_arg0 (ix1 q) := by
  rw [StableHlo.after_last_write (i := 0) (hostOps0_W.drop 1) rfl rfl (by decide) W, StableHlo.reshape_result']
  after_reads_simp
  pointwise

theorem read_v15 (x : Fin 256) : StableHlo.after hostOps0 W main_v15 (ix2 0 x) = row4 0 inv inv 0 x := by
  rw [StableHlo.after_last_write (i := 22) (hostOps0_W.drop 23) rfl rfl (by decide) W, StableHlo.reshape_result',
    StableHlo.upto_last_write (i := 21) [] rfl rfl (by decide) W, StableHlo.nary_result']
  refine (cat4 _ _ _ _ concatenates_S128_S32_S32_S64_S256_d0 _ x).trans ?_
  dsimp only [Matrix.cons_val]
  after_reads_simp
  unfold row4
  split_ifs
  · pointwise
  · pointwise
    rfl
  · pointwise
    rfl
  · pointwise

theorem read_v18 (x : Fin 256) : StableHlo.after hostOps0 W main_v18 (ix2 0 x) = row4 0 (fun _ => -1) (fun _ => 1) 0 x := by
  rw [StableHlo.after_last_write (i := 25) (hostOps0_W.drop 26) rfl rfl (by decide) W, StableHlo.reshape_result',
    StableHlo.upto_last_write (i := 24) [] rfl rfl (by decide) W, StableHlo.nary_result']
  refine (cat4 _ _ _ _ concatenates_S128_S32_S32_S64_S256_d0 _ x).trans ?_
  dsimp only [Matrix.cons_val]
  after_reads_simp
  unfold row4
  split_ifs <;> pointwise

theorem read_v20 (x : Fin 256) : StableHlo.after hostOps0 W main_v20 (ix2 0 x) = row4 0 (fun _ => 1) (fun _ => 1) 0 x := by
  rw [StableHlo.after_last_write (i := 27) (hostOps0_W.drop 28) rfl rfl (by decide) W, StableHlo.reshape_result',
    StableHlo.upto_last_write (i := 26) [] rfl rfl (by decide) W, StableHlo.nary_result']
  refine (cat4 _ _ _ _ concatenates_S128_S32_S32_S64_S256_d0 _ x).trans ?_
  dsimp only [Matrix.cons_val]
  after_reads_simp
  unfold row4
  split_ifs <;> pointwise

theorem read_v28 (x : Fin 256) : StableHlo.after hostOps0 W main_v28 (ix2 0 x) = row4 1 (fun _ => 0) (fun _ => 0) 0 x := by
  rw [StableHlo.after_last_write (i := 38) [] rfl rfl (by decide) W, StableHlo.reshape_result',
    StableHlo.upto_last_write (i := 37) [] rfl rfl (by decide) W, StableHlo.nary_result']
  refine (cat4 _ _ _ _ concatenates_S128_S32_S32_S64_S256_d0 _ x).trans ?_
  dsimp only [Matrix.cons_val]
  after_reads_simp
  unfold row4
  split_ifs <;> pointwise

/-- A head's columns and its padding, read at an entry. -/
theorem cat2 (x0 : FVec Ideal S16384x6x192 .f32) (x1 : FVec Ideal S16384x6x64 .f32) (hc) (hr) (a : Fin 16384) (h : Fin 6) (x : Fin 256) :
    shapeCast S16384x1536 (concatenate S16384x6x256 2 [⟨S16384x6x192, x0⟩, ⟨S16384x6x64, x1⟩] hc) hr (ix2 a (qcol h x))
      = if h1 : x.val < 192 then x0 (ix3 a h ⟨x.val, h1⟩) else x1 (ix3 a h ⟨x.val - 192, by omega⟩) := Cert.Rope.cat2 x0 x1 hc hr a h x

theorem read_v33 (a : Fin 16384) (h : Fin 6) (x : Fin 256) :
    StableHlo.after hostOps1 W main_v33 (ix2 a (qcol h x)) = if h1 : x.val < 192 then W main_arg1 (ix3 a h ⟨x.val, h1⟩) else (0 : EReal) := by
  rw [StableHlo.after_last_write (i := 4) (hostOps1_W.drop 5) rfl rfl (by decide) W, StableHlo.unary_result',
    StableHlo.upto_last_write (i := 3) [] rfl rfl (by decide) W, StableHlo.reshape_result',
    StableHlo.upto_last_write (i := 2) [] rfl rfl (by decide) W, StableHlo.binary_result']
  refine (cat2 _ _ concatenates_S16384x6x192_S16384x6x64_S16384x6x256_d2 _ a h x).trans ?_
  after_reads_simp
  split_ifs
  · rfl
  · pointwise

theorem read_v37 (a : Fin 16384) (h : Fin 6) (x : Fin 256) :
    StableHlo.after hostOps1 W main_v37 (ix2 a (qcol h x)) = if h1 : x.val < 192 then W main_arg2 (ix3 a h ⟨x.val, h1⟩) else (0 : EReal) := by
  rw [StableHlo.after_last_write (i := 9) [] rfl rfl (by decide) W, StableHlo.unary_result',
    StableHlo.upto_last_write (i := 8) [] rfl rfl (by decide) W, StableHlo.reshape_result',
    StableHlo.upto_last_write (i := 7) [] rfl rfl (by decide) W, StableHlo.binary_result']
  refine (cat2 _ _ concatenates_S16384x6x192_S16384x6x64_S16384x6x256_d2 _ a h x).trans ?_
  after_reads_simp
  split_ifs
  · rfl
  · pointwise

/-- An array of heads laid out as columns, read at an entry. -/
def flat (X : FVec Ideal S16384x6x128 .f32) (a : Fin 16384) (x : Fin 768) : EReal := X (ix3 a ⟨x.val / 128, by omega⟩ ⟨x.val % 128, by omega⟩)

theorem read_v41 (a : Fin 16384) (x : Fin 768) : StableHlo.after hostOps3 W main_v41 (ix2 a x) = flat (W main_arg3) a x := by
  rw [StableHlo.after_last_write (i := 1) (hostOps3_W.drop 2) rfl rfl (by decide) W, StableHlo.unary_result']
  after_reads_simp
  pointwise
  rfl

theorem read_v43 (a : Fin 16384) (x : Fin 768) : StableHlo.after hostOps3 W main_v43 (ix2 a x) = flat (W main_arg4) a x := by
  rw [StableHlo.after_last_write (i := 3) [] rfl rfl (by decide) W, StableHlo.unary_result']
  after_reads_simp
  pointwise
  rfl

/-- The same column, its number written in two ways. -/
theorem at_col (X : FVec Ideal S16384x1536 .bf16) (a : Fin 16384) {k l : ℕ} (e : k = l) (hk : k < 1536) :
    X (ix2 a ⟨k, hk⟩) = X (ix2 a ⟨l, e ▸ hk⟩) := by
  subst e; rfl

theorem read_v46 (a : Fin 16384) (h : Fin 6) (x : Fin 128) :
    StableHlo.after hostOps4 W main_v46 (ix3 a h x) = W main_v38_0 (ix2 a (qcol h ⟨x.val, by omega⟩)) := by
  rw [StableHlo.after_last_write (i := 1) (hostOps4_W.drop 2) rfl rfl (by decide) W, StableHlo.unary_result']
  after_reads_simp
  pointwise
  exact at_col _ a (show _ = 256 * h.val + x.val by omega) _

/-- The two halves of the rotated columns, read at an entry. -/
theorem cat64 (x0 x1 : FVec Ideal S16384x32 .f32) (hc) (a : Fin 16384) (x : Fin 64) :
    concatenate S16384x64 1 [⟨S16384x32, x0⟩, ⟨S16384x32, x1⟩] hc (ix2 a x)
      = if h1 : x.val < 32 then x0 (ix2 a ⟨x.val, h1⟩) else x1 (ix2 a ⟨x.val - 32, by omega⟩) := by
  pointwise

theorem at_row (X : FVec Ideal S16384x256 .bf16) (a : Fin 16384) {k l : ℕ} (e : k = l) (hk : k < 256) :
    X (ix2 a ⟨k, hk⟩) = X (ix2 a ⟨l, e ▸ hk⟩) := by
  subst e; rfl

theorem read_v48 (a : Fin 16384) (y : Fin 64) :
    StableHlo.upto hostOps4 W 9 main_v48 (ix2 a y) = W main_v39_0 (ix2 a ⟨y.val + 128, by omega⟩) := by
  after_reads_simp
  pointwise
  exact at_row _ a (show _ = y.val + 128 by omega) _

theorem read_v51 (a : Fin 16384) (y : Fin 32) :
    StableHlo.upto hostOps4 W 8 main_v51 (ix2 a y) = W main_v39_1 (ix2 a ⟨y.val + 160, by omega⟩) := by
  after_reads_simp
  pointwise
  exact at_row _ a (show _ = y.val + 160 by omega) _

theorem read_v52 (a : Fin 16384) (y : Fin 32) :
    StableHlo.upto hostOps4 W 8 main_v52 (ix2 a y) = W main_v39_1 (ix2 a ⟨y.val + 128, by omega⟩) := by
  after_reads_simp
  pointwise
  exact at_row _ a (show _ = y.val + 128 by omega) _

theorem read_v53 (a : Fin 16384) (y : Fin 64) :
    StableHlo.upto hostOps4 W 9 main_v53 (ix2 a y)
      = if h1 : y.val < 32 then W main_v39_1 (ix2 a ⟨y.val + 160, by omega⟩) else W main_v39_1 (ix2 a ⟨y.val + 96, by omega⟩) := by
  rw [StableHlo.upto_last_write (i := 8) [] rfl rfl (by decide) W, StableHlo.binary_result']
  refine (cat64 _ _ concatenates_S16384x32_S16384x32_S16384x64_d1 a y).trans ?_
  by_cases h1 : y.val < 32
  · rw [dif_pos h1, dif_pos h1]
    exact read_v51 W a ⟨y.val, h1⟩
  · rw [dif_neg h1, dif_neg h1]
    exact (read_v52 W a ⟨y.val - 32, by omega⟩).trans (at_row _ a (show y.val - 32 + 128 = y.val + 96 by omega) _)

theorem read_v54 (a : Fin 16384) (y : Fin 64) :
    StableHlo.after hostOps4 W main_v54 (ix2 a y) = @HAdd.hAdd EReal EReal EReal _ (W main_v39_0 (ix2 a ⟨y.val + 128, by omega⟩))
      (if h1 : y.val < 32 then W main_v39_1 (ix2 a ⟨y.val + 160, by omega⟩) else W main_v39_1 (ix2 a ⟨y.val + 96, by omega⟩)) := by
  rw [StableHlo.after_last_write (i := 9) [] rfl rfl (by decide) W, StableHlo.binary_result']
  exact congrArg₂ (@HAdd.hAdd EReal EReal EReal _) (read_v48 W a y) (read_v53 W a y)

variable (m : (ℓ : Loc nD τ sig) → Buf (Elt Ideal) ℓ) (ρ : Dev nD → PrngReg) (c : Dev nD)
  (pos : IVec S16384 32) (k0 k1 : FVec Ideal S16384x6x192 .f32) (v0 v1 : FVec Ideal S16384x6x128 .f32)
  (hp : m ((c.tc : Thread nD τ).loc main_arg0) = pos)
  (hk0 : m ((c.tc : Thread nD τ).loc main_arg1) = k0) (hk1 : m ((c.tc : Thread nD τ).loc main_arg2) = k1)
  (hv0 : m ((c.tc : Thread nD τ).loc main_arg3) = v0) (hv1 : m ((c.tc : Thread nD τ).loc main_arg4) = v1)

include hp in
theorem table_c (q : Fin 16384) (x : Fin 256) : V3 m ρ c main_v29_0 (ix2 q x) = tC pos (ix2 q x) := by
  refine (congrFun (W3_of m ρ c main_v29_0 (by decide)) _).trans ?_
  refine (congrFun (W2_arr m ρ c 5) _).trans ?_
  refine (congrFun (arr0_c (V1 m ρ) c) _).trans ?_
  exact tabC_at pos _ _ _ _ (fun q => (read_v0 (W0 m ρ c) q).trans (congrFun hp (ix1 q))) (read_v15 (W0 m ρ c))
    (read_v20 (W0 m ρ c)) (read_v28 (W0 m ρ c)) q x

include hp in
theorem table_s (q : Fin 16384) (x : Fin 256) : V3 m ρ c main_v29_1 (ix2 q x) = tS pos (ix2 q x) := by
  refine (congrFun (W3_of m ρ c main_v29_1 (by decide)) _).trans ?_
  refine (congrFun (W2_arr m ρ c 6) _).trans ?_
  refine (congrFun (arr0_s (V1 m ρ) c) _).trans ?_
  exact tabS_at pos _ _ _ (fun q => (read_v0 (W0 m ρ c) q).trans (congrFun hp (ix1 q))) (read_v15 (W0 m ρ c))
    (read_v18 (W0 m ρ c)) q x

/-- The sum of the keys' two cotangents. -/
def dk (q : Fin 16384) (h : Fin 6) (x : Fin 192) : EReal := @HAdd.hAdd EReal EReal EReal _ (k0 (ix3 q h x)) (k1 (ix3 q h x))

include hk0 hk1 in
/-- A head's column of the summed cotangents. -/
theorem cols (q : Fin 16384) (h : Fin 6) (n : ℕ) (hn : n < 192) :
    sum2 (V3 m ρ c main_v33) (V3 m ρ c main_v37) (ix2 q (qcol h ⟨n, by omega⟩)) = dk k0 k1 q h ⟨n, hn⟩ := by
  have e0 : V3 m ρ c main_v33 (ix2 q (qcol h ⟨n, by omega⟩)) = k0 (ix3 q h ⟨n, hn⟩) := by
    refine (read_v33 (W2 m ρ c) q h ⟨n, by omega⟩).trans ((dif_pos hn).trans ?_)
    rw [W2_of m ρ c main_arg1 (by decide), W1_of m ρ c main_arg1 (by decide)]
    exact congrFun hk0 _
  have e1 : V3 m ρ c main_v37 (ix2 q (qcol h ⟨n, by omega⟩)) = k1 (ix3 q h ⟨n, hn⟩) := by
    refine (read_v37 (W2 m ρ c) q h ⟨n, by omega⟩).trans ((dif_pos hn).trans ?_)
    rw [W2_of m ρ c main_arg2 (by decide), W1_of m ρ c main_arg2 (by decide)]
    exact congrFun hk1 _
  exact congrArg₂ (@HAdd.hAdd EReal EReal EReal _) e0 e1

theorem sum_six (f g : Fin 6 → EReal) (e : ∀ h, f h = g h) : ∑ h, f h = ∑ h, g h := Finset.sum_congr rfl fun h _ => e h

include hp hk0 hk1 in
/-- A column of the sums over the heads. -/
theorem sums_c (q : Fin 16384) (n : ℕ) (hn : n < 192) :
    W7 m ρ c main_v39_0 (ix2 q ⟨n, by omega⟩)
      = ∑ h : Fin 6, @HMul.hMul EReal EReal EReal _ (dk k0 k1 q h ⟨n, hn⟩) (tC pos (ix2 q ⟨n, by omega⟩)) := by
  rw [W7_of m ρ c main_v39_0 (by decide), W6_of m ρ c main_v39_0 (by decide)]
  refine (congrFun (W5_arr m ρ c 2) _).trans ((congrFun (arr2_2 (V4 m ρ) c) _).trans (sum_six _ _ fun h => ?_))
  refine (congrFun (W4_arr m ρ c 5) _).trans ((congrFun (arr1_5 (V3 m ρ) c) _).trans ?_)
  exact congrArg₂ (@HMul.hMul EReal EReal EReal _) (cols m ρ c k0 k1 hk0 hk1 q h n hn) (table_c m ρ c pos hp q ⟨n, by omega⟩)

include hp hk0 hk1 in
theorem sums_s (q : Fin 16384) (n : ℕ) (hn : n < 192) :
    W7 m ρ c main_v39_1 (ix2 q ⟨n, by omega⟩)
      = ∑ h : Fin 6, @HMul.hMul EReal EReal EReal _ (dk k0 k1 q h ⟨n, hn⟩) (tS pos (ix2 q ⟨n, by omega⟩)) := by
  rw [W7_of m ρ c main_v39_1 (by decide), W6_of m ρ c main_v39_1 (by decide)]
  refine (congrFun (W5_arr m ρ c 3) _).trans ((congrFun (arr2_3 (V4 m ρ) c) _).trans (sum_six _ _ fun h => ?_))
  refine (congrFun (W4_arr m ρ c 6) _).trans ((congrFun (arr1_6 (V3 m ρ) c) _).trans ?_)
  exact congrArg₂ (@HMul.hMul EReal EReal EReal _) (cols m ρ c k0 k1 hk0 hk1 q h n hn) (table_s m ρ c pos hp q ⟨n, by omega⟩)

include hk0 hk1 in
/-- The first result: the gradient of the keys' columns that are not rotated. -/
theorem result_nope (q : Fin 16384) (h : Fin 6) (x : Fin 128) : W8 m ρ c main_v46 (ix3 q h x) = dk k0 k1 q h ⟨x.val, by omega⟩ := by
  refine (read_v46 (W7 m ρ c) q h x).trans ?_
  rw [W7_of m ρ c main_v38_0 (by decide), W6_of m ρ c main_v38_0 (by decide), W5_of m ρ c main_v38_0 (by decide)]
  refine (congrFun (W4_arr m ρ c 4) _).trans ((congrFun (arr1_4 (V3 m ρ) c) _).trans ?_)
  exact cols m ρ c k0 k1 hk0 hk1 q h x.val (by omega)

include hv0 hv1 in
/-- The third result: the gradient of the values. -/
theorem result_v (q : Fin 16384) (x : Fin 768) :
    W8 m ρ c main_v44 (ix2 q x) = @HAdd.hAdd EReal EReal EReal _ (flat v0 q x) (flat v1 q x) := by
  rw [W8_of m ρ c main_v44 (by decide)]
  refine (congrFun (W7_arr m ρ c 2) _).trans ((congrFun (arr3_2 (V6 m ρ) c) _).trans ?_)
  refine congrArg₂ (@HAdd.hAdd EReal EReal EReal _) ((read_v41 (W5 m ρ c) q x).trans ?_) ((read_v43 (W5 m ρ c) q x).trans ?_)
  · rw [W5_of m ρ c main_arg3 (by decide), W4_of m ρ c main_arg3 (by decide), W3_of m ρ c main_arg3 (by decide),
      W2_of m ρ c main_arg3 (by decide), W1_of m ρ c main_arg3 (by decide)]
    exact congrFun hv0 _
  · rw [W5_of m ρ c main_arg4 (by decide), W4_of m ρ c main_arg4 (by decide), W3_of m ρ c main_arg4 (by decide),
      W2_of m ρ c main_arg4 (by decide), W1_of m ρ c main_arg4 (by decide)]
    exact congrFun hv1 _

/-! For finite cotangents the products leave the sums over the heads. -/

/-- A sum of products with one number is the product of the sum, for real numbers. -/
theorem sum_mul (f : Fin 6 → EReal) (r : Fin 6 → ℝ) (hf : ∀ h, f h = (r h : EReal)) (t : EReal) (s : ℝ) (ht : t = (s : EReal)) :
    ∑ h : Fin 6, f h * t = (∑ h : Fin 6, f h) * t := by
  subst ht
  simp only [hf, Fin.sum_univ_six]
  norm_cast
  ring

/-- The inverse frequencies are real numbers. -/
theorem inv_real (k : Fin 32) : ∃ r : ℝ, Cert.Rope.inv k = (r : EReal) := by
  have h0 : Ideal.ofBits .f32 0x461C4000#32 = ((10000 : ℝ) : EReal) := by
    simp [Ideal.ofBits, Ideal.ieee, -EReal.coe_mul]; norm_num
  have h1 : Ideal.ofBits .f32 0x40000000#32 = ((2 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  have h3 : FloatOps.sitofp (F := Ideal) .f32 (BitVec.ofNat 32 k.val) = (((BitVec.ofNat 32 k.val).toInt : ℝ) : EReal) := rfl
  refine ⟨Real.rpow 10000 (-(2 * ((BitVec.ofNat 32 k.val).toInt : ℝ)) * (1 / 64)), ?_⟩
  unfold Cert.Rope.inv
  rw [h0, h1, h2, h3]
  have h4 : -(((2 : ℝ) : EReal) * (((BitVec.ofNat 32 k.val).toInt : ℝ) : EReal)) = ((-(2 * ((BitVec.ofNat 32 k.val).toInt : ℝ)) : ℝ) : EReal) := by
    norm_cast
  rw [h4, Ideal.div_coe (by norm_num), ← EReal.coe_mul]
  exact Ideal.pow_coe_coe _ _

/-- A cosine of the tables and a sine are real numbers. -/
theorem cos_real (q : Fin 16384) (k : Fin 32) : ∃ r : ℝ, cosA pos q k = (r : EReal) := by
  obtain ⟨r, hr⟩ := inv_real k
  refine ⟨Real.cos (((pos (ix1 q)).toInt : ℝ) * r), ?_⟩
  unfold cosA
  rw [hr]
  exact (congrArg Ideal.cos (EReal.coe_mul _ _).symm).trans (Ideal.cos_coe _)

theorem sin_real (q : Fin 16384) (k : Fin 32) : ∃ r : ℝ, sinA pos q k = (r : EReal) := by
  obtain ⟨r, hr⟩ := inv_real k
  refine ⟨Real.sin (((pos (ix1 q)).toInt : ℝ) * r), ?_⟩
  unfold sinA
  rw [hr]
  exact (congrArg Ideal.sin (EReal.coe_mul _ _).symm).trans (Ideal.sin_coe _)

/-- The sum over the heads. -/
def DS (q : Fin 16384) (x : Fin 192) : EReal := ∑ h : Fin 6, dk k0 k1 q h x

/-- The gradient of the shared rotated keys. -/
def DR (q : Fin 16384) (y : Fin 64) : EReal :=
  if h1 : y.val < 32 then
    DS k0 k1 q ⟨y.val + 160, by omega⟩ * sinA pos q ⟨y.val, h1⟩ + DS k0 k1 q ⟨y.val + 128, by omega⟩ * cosA pos q ⟨y.val, h1⟩
  else
    DS k0 k1 q ⟨y.val + 128, by omega⟩ * cosA pos q ⟨y.val - 32, by omega⟩ + -DS k0 k1 q ⟨y.val + 96, by omega⟩ * sinA pos q ⟨y.val - 32, by omega⟩

variable (r0 r1 : S16384x6x192.Idx → ℝ) (hr0 : k0 = fun i => (r0 i : EReal)) (hr1 : k1 = fun i => (r1 i : EReal))

include hr0 hr1 in
theorem dk_real (q : Fin 16384) (h : Fin 6) (x : Fin 192) : dk k0 k1 q h x = ((r0 (ix3 q h x) + r1 (ix3 q h x) : ℝ) : EReal) := by
  unfold dk
  rw [hr0, hr1]
  exact (EReal.coe_add _ _).symm

include hp hk0 hk1 hr0 hr1 in
/-- The second result: the gradient of the shared rotated keys. -/
theorem result_rope (q : Fin 16384) (y : Fin 64) : W8 m ρ c main_v54 (ix2 q y) = DR pos k0 k1 q y := by
  have hy := y.isLt
  have out : ∀ (t : EReal) (s : ℝ) (x : Fin 192), t = (s : EReal) → ∑ h : Fin 6, dk k0 k1 q h x * t = DS k0 k1 q x * t :=
    fun t s x ht => sum_mul _ (fun h => r0 (ix3 q h x) + r1 (ix3 q h x)) (fun h => dk_real k0 k1 r0 r1 hr0 hr1 q h x) t s ht
  refine (read_v54 (W7 m ρ c) q y).trans ?_
  unfold DR
  by_cases h1 : y.val < 32
  · rw [dif_pos h1, dif_pos h1]
    obtain ⟨rc, hrc⟩ := cos_real pos q ⟨y.val, h1⟩
    obtain ⟨rs, hrs⟩ := sin_real pos q ⟨y.val, h1⟩
    have e1 : tC pos (ix2 q ⟨y.val + 128, by omega⟩) = cosA pos q ⟨y.val, h1⟩ := by
      refine (dif_neg (show ¬ y.val + 128 < 128 by omega)).trans ((dif_pos (show y.val + 128 - 128 < 32 by omega)).trans ?_)
      exact congrArg (cosA pos q) (Fin.ext (show y.val + 128 - 128 = y.val by omega))
    have e2 : tS pos (ix2 q ⟨y.val + 160, by omega⟩) = sinA pos q ⟨y.val, h1⟩ := by
      refine (dif_neg (show ¬ y.val + 160 < 128 by omega)).trans ((dif_neg (show ¬ y.val + 160 - 128 < 32 by omega)).trans
        ((dif_pos (show y.val + 160 - 128 - 32 < 32 by omega)).trans ?_))
      exact congrArg (sinA pos q) (Fin.ext (show y.val + 160 - 128 - 32 = y.val by omega))
    refine (congrArg₂ (@HAdd.hAdd EReal EReal EReal _) (sums_c m ρ c pos k0 k1 hp hk0 hk1 q (y.val + 128) (by omega))
      (sums_s m ρ c pos k0 k1 hp hk0 hk1 q (y.val + 160) (by omega))).trans ?_
    rw [e1, e2]
    refine (congrArg₂ (@HAdd.hAdd EReal EReal EReal _) (out _ rc _ hrc) (out _ rs _ hrs)).trans ?_
    exact add_comm (G := EReal) _ _
  · rw [dif_neg h1, dif_neg h1]
    obtain ⟨rc, hrc⟩ := cos_real pos q ⟨y.val - 32, by omega⟩
    obtain ⟨rs, hrs⟩ := sin_real pos q ⟨y.val - 32, by omega⟩
    have e1 : tC pos (ix2 q ⟨y.val + 128, by omega⟩) = cosA pos q ⟨y.val - 32, by omega⟩ := by
      refine (dif_neg (show ¬ y.val + 128 < 128 by omega)).trans ((dif_neg (show ¬ y.val + 128 - 128 < 32 by omega)).trans
        ((dif_pos (show y.val + 128 - 128 - 32 < 32 by omega)).trans ?_))
      exact congrArg (cosA pos q) (Fin.ext (show y.val + 128 - 128 - 32 = y.val - 32 by omega))
    have e2 : tS pos (ix2 q ⟨y.val + 96, by omega⟩) = -sinA pos q ⟨y.val - 32, by omega⟩ := by
      refine (dif_neg (show ¬ y.val + 96 < 128 by omega)).trans ((dif_pos (show y.val + 96 - 128 < 32 by omega)).trans ?_)
      refine (congrArg (fun k => @HMul.hMul EReal EReal EReal _ (sinA pos q k) (-1))
        (Fin.ext (show y.val + 96 - 128 = y.val - 32 by omega) : (⟨y.val + 96 - 128, _⟩ : Fin 32) = ⟨y.val - 32, by omega⟩)).trans ?_
      exact (mul_comm _ _).trans ((EReal.neg_mul _ _).trans (congrArg Neg.neg (one_mul _)))
    refine (congrArg₂ (@HAdd.hAdd EReal EReal EReal _) (sums_c m ρ c pos k0 k1 hp hk0 hk1 q (y.val + 128) (by omega))
      (sums_s m ρ c pos k0 k1 hp hk0 hk1 q (y.val + 96) (by omega))).trans ?_
    rw [e1, e2]
    refine (congrArg₂ (@HAdd.hAdd EReal EReal EReal _) (out _ rc _ hrc) (out _ (-rs) _ ((congrArg Neg.neg hrs).trans (EReal.coe_neg _).symm))).trans ?_
    refine congrArg _ ?_
    exact (mul_comm _ _).trans ((EReal.neg_mul _ _).trans ((congrArg Neg.neg (mul_comm _ _)).trans (EReal.neg_mul _ _).symm))

end Cert.KvRope
end
end
-- ==== Proof.KvRopeRef.lean ====
module

public import proofs.«01_k».proof.Proof.Gen.KvRopeRefIdeal.Read
public import proofs.«01_k».proof.Proof.KvRopeHost

@[expose] public section

set_option maxRecDepth 16384

noncomputable section

/-! The derivative of the shared keys and values that the reference computes, by columns. -/

namespace Cert.KvRopeRefIdeal.Pf

open Idealize.ShloMosaic Idealize.ShloMosaic.TcCoe
open Cert.KvRopeRefIdeal Cert.KvRopeRefIdeal.Gen Cert.KvRopeRefIdeal.Read
open Cert.Rope (cosA sinA inv num)
open Cert.KvRope (dk DS DR flat)

/-- The two halves of the rotated columns, read at an entry. -/
theorem cat64 (x0 x1 : FVec Ideal S16384x1x32 .f32) (hc) (a : Fin 16384) (x : Fin 64) :
    concatenate S16384x1x64 2 [⟨S16384x1x32, x0⟩, ⟨S16384x1x32, x1⟩] hc (ix3 a 0 x)
      = if h1 : x.val < 32 then x0 (ix3 a 0 ⟨x.val, h1⟩) else x1 (ix3 a 0 ⟨x.val - 32, by omega⟩) := by
  pointwise

theorem cos_at (x0 : IVec S16384 32) (q : Fin 16384) (k : Fin 32) : val_main_v16 (F := Ideal) x0 (ix2 q k) = cosA x0 q k := by
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0,
    val_main_cst_1, val_main_cst_2]
  rfl

theorem sin_at (x0 : IVec S16384 32) (q : Fin 16384) (k : Fin 32) : val_main_v17 (F := Ideal) x0 (ix2 q k) = sinA x0 q k := by
  pointwise [val_main_v17, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0,
    val_main_cst_1, val_main_cst_2]
  rfl

theorem cosb_at (x0 : IVec S16384 32) (q : Fin 16384) (k : Fin 32) : val_main_v24 (F := Ideal) x0 (ix3 q 0 k) = cosA x0 q k := by
  rw [← cos_at]
  pointwise [val_main_v24]

theorem sinb_at (x0 : IVec S16384 32) (q : Fin 16384) (k : Fin 32) : val_main_v25 (F := Ideal) x0 (ix3 q 0 k) = sinA x0 q k := by
  rw [← sin_at]
  pointwise [val_main_v25]

variable (x0 : IVec S16384 32) (x1 x2 : FVec Ideal S16384x6x192 .f32) (x3 x4 : FVec Ideal S16384x6x128 .f32)

/-- The sums over the heads. -/
theorem sums (q : Fin 16384) (y : Fin 64) : val_main_v39 (F := Ideal) x1 x2 (ix2 q y) = DS x1 x2 q ⟨128 + y.val, by omega⟩ := by
  pointwise [val_main_v39, val_main_cst_6, val_main_v38, val_main_v35]
  rfl

theorem half1 (q : Fin 16384) (k : Fin 32) : val_main_v41 (F := Ideal) x1 x2 (ix3 q 0 k) = DS x1 x2 q ⟨128 + k.val, by omega⟩ := by
  refine Eq.trans ?_ (sums x1 x2 q ⟨k.val, by omega⟩)
  pointwise [val_main_v41, val_main_v40]

theorem half2 (q : Fin 16384) (k : Fin 32) : val_main_v42 (F := Ideal) x1 x2 (ix3 q 0 k) = DS x1 x2 q ⟨128 + (32 + k.val), by omega⟩ := by
  refine Eq.trans ?_ (sums x1 x2 q ⟨32 + k.val, by omega⟩)
  pointwise [val_main_v42, val_main_v40]

theorem at_DS (q : Fin 16384) {k l : ℕ} (e : k = l) (hk : k < 192) : DS x1 x2 q ⟨k, hk⟩ = DS x1 x2 q ⟨l, e ▸ hk⟩ := by
  subst e; rfl

/-- The first half of the gradient of the shared rotated keys. -/
theorem first (q : Fin 16384) (k : Fin 32) : val_main_v49 (F := Ideal) x0 x1 x2 (ix3 q 0 k)
    = DS x1 x2 q ⟨128 + (32 + k.val), by omega⟩ * sinA x0 q k + DS x1 x2 q ⟨128 + k.val, by omega⟩ * cosA x0 q k := by
  rw [← half1, ← half2, ← cosb_at, ← sinb_at]
  pointwise [val_main_v49, val_main_v44, val_main_v48]

/-- The second half. -/
theorem second (q : Fin 16384) (k : Fin 32) : val_main_v47 (F := Ideal) x0 x1 x2 (ix3 q 0 k)
    = DS x1 x2 q ⟨128 + (32 + k.val), by omega⟩ * cosA x0 q k + -DS x1 x2 q ⟨128 + k.val, by omega⟩ * sinA x0 q k := by
  rw [← half1, ← half2, ← cosb_at, ← sinb_at]
  pointwise [val_main_v47, val_main_v43, val_main_v46, val_main_v45]

/-- The gradient of the shared rotated keys. -/
theorem rope (q : Fin 16384) (y : Fin 64) : val_main_v51 (F := Ideal) x0 x1 x2 (ix2 q y) = DR x0 x1 x2 q y := by
  have hy := y.isLt
  have e : val_main_v51 (F := Ideal) x0 x1 x2 (ix2 q y) = val_main_v50 (F := Ideal) x0 x1 x2 (ix3 q 0 y) := by
    pointwise [val_main_v51, val_main_cst_7]
    simp only [Finset.univ_unique, Finset.sum_singleton]
    rfl
  refine e.trans ((cat64 (val_main_v49 (F := Ideal) x0 x1 x2) (val_main_v47 (F := Ideal) x0 x1 x2) _ q y).trans ?_)
  unfold DR
  by_cases h1 : y.val < 32
  · rw [dif_pos h1, dif_pos h1, first, at_DS x1 x2 q (show 128 + (32 + y.val) = y.val + 160 by omega),
      at_DS x1 x2 q (show 128 + y.val = y.val + 128 by omega)]
  · rw [dif_neg h1, dif_neg h1, second, at_DS x1 x2 q (show 128 + (32 + (y.val - 32)) = y.val + 128 by omega),
      at_DS x1 x2 q (show 128 + (y.val - 32) = y.val + 96 by omega)]

/-- The gradient of the keys' columns that are not rotated. -/
theorem nope (q : Fin 16384) (h : Fin 6) (x : Fin 128) : val_main_v52 (F := Ideal) x1 x2 (ix3 q h x) = dk x1 x2 q h ⟨x.val, by omega⟩ := by
  pointwise [val_main_v52, val_main_v37, val_main_v35]
  rfl

/-- The gradient of the values. -/
theorem vals (q : Fin 16384) (x : Fin 768) :
    val_main_v54 (F := Ideal) x3 x4 (ix2 q x) = @HAdd.hAdd EReal EReal EReal _ (flat x3 q x) (flat x4 q x) := by
  pointwise [val_main_v54, val_main_v53, val_main_v36]
  rfl

end Cert.KvRopeRefIdeal.Pf

end
end
-- ==== Proof.KvRopeClaim.lean ====
module

public import proofs.«01_k».proof.Defs
public import proofs.«01_k».proof.Proof.Gen.KvRope.Frame
public import proofs.«01_k».proof.Proof.Gen.KvRopeIdeal.Frame
public import proofs.«01_k».proof.Proof.Gen.Pre_finite_kvrope
public import proofs.«01_k».proof.Proof.Gen.KvRopeRefIdeal.Run
public import proofs.«01_k».proof.Proof.Finite
public import proofs.«01_k».proof.Proof.KvRopeRun
public import proofs.«01_k».proof.Proof.KvRopeRef
public import Idealize.ShloMosaic.Lib.Claim

@[expose] public section

set_option maxRecDepth 16384

noncomputable section

/-! The claims about the gradients of the shared keys and values. -/

namespace Cert.Proof.KvRope

open Idealize.ShloMosaic Idealize.ShloMosaic.TcCoe Idealize.SL.Sem

theorem frame_kernel : Cert.quiescent_KvRope := fun m ρ _ => Cert.KvRope.Gen.frame m ρ

theorem frame_ideal : Cert.quiescent_KvRopeIdeal := fun m ρ _ => Cert.KvRopeIdeal.Gen.frame m ρ

theorem frame_ideal_pre : Cert.quiescent_KvRopeIdeal_pre_finite_kvrope := fun m ρ _ => Cert.KvRopeIdeal.Gen.frame m ρ

theorem frame_ref : Cert.quiescent_KvRopeRefIdeal := fun m ρ _ =>
  (θ_run Cert.KvRopeRefIdeal.defs _ _).mono
    (fun r h => ⟨fun c => (h c).2.2.2, Idealize.ShloMosaic.sem_eq_zero_of_no_sems (by decide) r.2⟩)
    (Cert.KvRopeRefIdeal.Value.run (F := Ideal) m ρ)

theorem frame_ref_pre : Cert.quiescent_KvRopeRefIdeal_pre_finite_kvrope := fun m ρ _ => frame_ref m ρ trivial

/-- Where the predicate holds, the keys' two cotangents are arrays of real numbers. -/
theorem reals (x0 : IVec Cert.Pre_finite_kvrope.S16384 32) (x1 x2 : FVec Ideal Cert.Pre_finite_kvrope.S16384x6x192 .f32)
    (x3 x4 : FVec Ideal Cert.Pre_finite_kvrope.S16384x6x128 .f32)
    (h : Cert.Pre_finite_kvrope.fn (F := Ideal) x0 x1 x2 x3 x4 = fun _ => 1#1) :
    (∃ r : Cert.Pre_finite_kvrope.S16384x6x192.Idx → ℝ, x1 = fun i => (r i : EReal))
      ∧ ∃ r : Cert.Pre_finite_kvrope.S16384x6x192.Idx → ℝ, x2 = fun i => (r i : EReal) := by
  obtain ⟨e1, e2⟩ := Cert.Finite.and_eq_one _ _ (congrFun h (fun k => k.elim0))
  exact ⟨Cert.Finite.reals_of_all x1 _ (fun _ => Cert.Finite.inf_word) _ _ _ _ e1,
    Cert.Finite.reals_of_all x2 _ (fun _ => Cert.Finite.inf_word) _ _ _ _ e2⟩

/-- For finite cotangents of the keys the kernels' three gradients are those of the plain lines' derivative. -/
theorem value : Cert.algebraic_KvRopeIdeal_KvRopeRefIdeal_pre_finite_kvrope := by
  intro m g m' g' hpre hagree
  refine ⟨fun c => Cert.KvRopeIdeal.Gen.W8 m g c Cert.KvRopeIdeal.main_v46, fun c => Cert.KvRopeIdeal.Gen.W8 m g c Cert.KvRopeIdeal.main_v54,
    fun c => Cert.KvRopeIdeal.Gen.W8 m g c Cert.KvRopeIdeal.main_v44, Cert.KvRope.run m g, ?_⟩
  refine (θ_run Cert.KvRopeRefIdeal.defs _ _).mono (fun r h c => ?_) (Cert.KvRopeRefIdeal.Value.run (F := Ideal) m' g')
  obtain ⟨⟨r0, hr0⟩, ⟨r1, hr1⟩⟩ := reals _ _ _ _ _ (hpre c)
  obtain ⟨h0, h1, h2, h3, h4⟩ := hagree c
  obtain ⟨a0, a1, a2, rest⟩ := h c
  refine ⟨a0.trans ?_, a1.trans ?_, a2.trans ?_, rest⟩
  · refine (Cert.KvRopeRefIdeal.Read.val_main_v52_eq _ _).trans ?_
    rw [h1, h2]
    funext i
    idx_vars i
    exact (Cert.KvRopeRefIdeal.Pf.nope _ _ i0 i1 i2).trans (Cert.KvRope.result_nope m g c _ _ rfl rfl i0 i1 i2).symm
  · refine (Cert.KvRopeRefIdeal.Read.val_main_v51_eq m' c).trans ?_
    rw [h0, h1, h2]
    funext i
    idx_vars i
    exact (Cert.KvRopeRefIdeal.Pf.rope _ _ _ i0 i1).trans (Cert.KvRope.result_rope m g c _ _ _ rfl rfl rfl r0 r1 hr0 hr1 i0 i1).symm
  · refine (Cert.KvRopeRefIdeal.Read.val_main_v54_eq _ _).trans ?_
    rw [h3, h4]
    funext i
    idx_vars i
    exact (Cert.KvRopeRefIdeal.Pf.vals _ _ i0 i1).trans (Cert.KvRope.result_v m g c _ _ rfl rfl i0 i1).symm

end Cert.Proof.KvRope

end
end
-- ==== Proof.MemAtt.lean ====
module

public import Idealize.ShloMosaic.Lib.Pointwise

@[expose] public section

noncomputable section

/-! One row of queries against 256 keys and values in four heads of 64 lanes: the softmax weights and their derivative, over the
extended reals. -/

namespace Cert.MemAtt

open Idealize.ShloMosaic

/-- The factor of the scores. -/
abbrev eighth : EReal := Ideal.ofBits .f32 0x3E000000#32

/-- Lane `e` of head `h`. -/
def lane (h : Fin 4) (e : Fin 64) : Fin 256 := ⟨h.val * 64 + e.val, by omega⟩

/-- The head of a lane. -/
def head (l : Fin 256) : Fin 4 := ⟨l.val / 64, by omega⟩

/-- A sum of entries that vanish outside one head's lanes is the sum over those lanes. -/
theorem sum_head (h : Fin 4) (f g : Fin 256 → EReal) (e : ∀ l, f l = if l.val / 64 = h.val then g l else 0) :
    ∑ l, f l = ∑ e, g (lane h e) := by
  have hi : Function.Injective (lane h) := fun a b hab => by
    have := congrArg Fin.val hab
    simp only [lane] at this
    omega
  rw [← Finset.sum_image (s := Finset.univ) (g := lane h) (f := g) fun a _ b _ hab => hi hab]
  simp only [e]
  rw [← Finset.sum_filter]
  refine Finset.sum_congr (Finset.ext fun l => ?_) fun _ _ => rfl
  simp only [Finset.mem_filter, Finset.mem_univ, true_and, Finset.mem_image]
  constructor
  · intro hl
    refine ⟨⟨l.val % 64, by omega⟩, Fin.ext ?_⟩
    simp only [lane]
    omega
  · rintro ⟨a, rfl⟩
    simp only [lane]
    omega

section
variable (q c : Fin 256 → EReal) (k v : Fin 256 → Fin 256 → EReal) (h : Fin 4) (n : Fin 256)

/-- The score of key `n` in head `h`. -/
def score : EReal := (∑ e, q (lane h e) * k n (lane h e)) * eighth

/-- The largest score of a head. -/
def top : EReal := Finset.fold max (⊥ : EReal) (fun n => score q k h n) Finset.univ

/-- The exponential of a score over the largest. -/
def ex : EReal := Ideal.exp (score q k h n - top q k h)

/-- The sum of a head's exponentials. -/
def tot : EReal := ∑ n, ex q k h n

/-- The weight of key `n`. -/
def prob : EReal := Ideal.div (ex q k h n) (tot q k h)

/-- The derivative by a weight. -/
def dprob : EReal := ∑ e, c (lane h e) * v n (lane h e)

/-- The derivative by the score before its factor. -/
def dscore : EReal :=
  (Ideal.div (dprob c v h n) (tot q k h)
    + -∑ n, dprob c v h n * Ideal.div 1 (tot q k h * tot q k h) * ex q k h n) * ex q k h n * eighth

end

/-- The queries' gradient at a row's lane. -/
def gq (q c : Fin 256 → EReal) (k v : Fin 256 → Fin 256 → EReal) (l : Fin 256) : EReal :=
  ∑ n, dscore q c k v (head l) n * k n l

/-- One of four, picked by a lane's head. -/
theorem pick (x : Fin 4 → EReal) (w : Fin 4 → EReal) (l : Fin 256) (e : ∀ h : Fin 4, w h = if l.val / 64 = h.val then 1 else 0) :
    x 3 * w 3 + x 2 * w 2 + x 1 * w 1 + x 0 * w 0 = x (head l) := by
  have hl : l.val / 64 < 4 := by omega
  simp only [e]
  have : l.val / 64 = 0 ∨ l.val / 64 = 1 ∨ l.val / 64 = 2 ∨ l.val / 64 = 3 := by omega
  rcases this with a | a | a | a
  · rw [show head l = 0 from Fin.ext a]; simp [a]
  · rw [show head l = 1 from Fin.ext a]; simp [a]
  · rw [show head l = 2 from Fin.ext a]; simp [a]
  · rw [show head l = 3 from Fin.ext a]; simp [a]

/-- The same where each of the four is a sum of products with masked entries. -/
theorem pick_sum {R : ℕ} (x : Fin 4 → Fin R → EReal) (y : Fin R → EReal) (w : Fin 4 → EReal) (l : Fin 256)
    (e : ∀ h : Fin 4, w h = if l.val / 64 = h.val then 1 else 0) :
    (∑ r, x 3 r * (y r * w 3)) + (∑ r, x 2 r * (y r * w 2)) + (∑ r, x 1 r * (y r * w 1)) + (∑ r, x 0 r * (y r * w 0))
      = ∑ r, x (head l) r * y r := by
  have g : ∀ h : Fin 4, ∑ r, x h r * (y r * w h) = (∑ r, x h r * y r) * w h := fun h => by
    rw [e h]
    split_ifs <;> simp
  simp only [g]
  exact pick (fun h => ∑ r, x h r * y r) w l e

end Cert.MemAtt

end
-- ==== Proof.MemoryKernel.lean ====
module

public import proofs.«01_k».proof.Proof.Gen.MemoryIdeal.Value
public import Idealize.ShloMosaic.Lib.Pipeline.ValueKit
public import Idealize.ShloMosaic.Lib.Pointwise
public import Idealize.ShloMosaic.Lib.StableHlo.RunRead
public import proofs.«01_k».proof.Proof.MemAtt

@[expose] public section

set_option maxRecDepth 16384

noncomputable section

/-! What the kernel for the memory attention's gradients computes from its blocks at one point of its grid. -/

namespace Cert.MemoryIdeal.Pf

open Idealize.ShloMosaic Idealize.ShloMosaic.TcCoe Idealize.SL.Sem
open Idealize.ShloMosaic.Pipeline (Dat)
open Cert.MemoryIdeal Cert.MemoryIdeal.Gen
open Cert.MemAtt

/-- Head `h`'s number in every lane. -/
def num (h : Fin 4) : IVec S1x256 32 := broadcast S1x256 (BitVec.ofNat 32 h.val)

/-- The head's mask: one in its lanes, zero elsewhere. -/
theorem mask_at (h : Fin 4) (l : Fin 256) :
    k0_pay15 (F := Ideal) k0_pay5 (num h) (ix2 0 l) = if l.val / 64 = h.val then 1 else 0 := by
  have sh : IntOp.shrui ArithUnit.vector (BitVec.ofNat 32 l.val) 6#32 = BitVec.ofNat 32 (l.val / 64) := by
    have hn := l.isLt
    unfold IntOp.shrui
    rw [if_pos (by decide)]
    apply BitVec.eq_of_toNat_eq
    simp only [BitVec.ushiftRight_eq', BitVec.toNat_ushiftRight, BitVec.toNat_ofNat, Nat.shiftRight_eq_div_pow]
    norm_num
    omega
  pointwise [k0_pay15, k0_pay5, num]
  rw [sh]
  have hl : l.val / 64 < 4 := by have := l.isLt; omega
  generalize l.val / 64 = a at hl
  have : a = 0 ∨ a = 1 ∨ a = 2 ∨ a = 3 := by omega
  fin_cases h <;> rcases this with rfl | rfl | rfl | rfl <;> simp [IntOp.cmpi, FloatOps.sitofp]

section
variable (Q : Vec Ideal S512x256 .bf16) (K V : Vec Ideal S256x256 .bf16) (C : Vec Ideal S512x256 .bf16) (h : Fin 4)
  (r : Fin 512) (n l : Fin 256)

/-- The rows of a block. -/
abbrev rq : Fin 256 → EReal := fun x => Q (ix2 r x)
abbrev rk : Fin 256 → Fin 256 → EReal := fun n x => K (ix2 n x)

/-- Head `h`'s exponentials of a block. -/
def E : FVec Ideal S512x256 .f32 := k0_pay18 (k0_pay1 Q) (k0_pay2 K) k0_pay5 (num h)
/-- Their sums. -/
def L : FVec Ideal S512x1 .f32 := k0_pay19 (k0_pay1 Q) (k0_pay2 K) k0_pay5 (num h)
/-- One over the squared sums. -/
def N : FVec Ideal S512x1 .f32 := k0_pay20 (k0_pay1 Q) (k0_pay2 K) k0_pay5 (num h)
/-- The weights. -/
def P : FVec Ideal S512x256 .bf16 := k0_pay21 (k0_pay1 Q) (k0_pay2 K) k0_pay5 (num h)
/-- The values of a head. -/
def VM : FVec Ideal S256x256 .bf16 := k0_pay22 (k0_pay3 V) k0_pay5 (num h)
/-- The derivative by the scores. -/
def D : FVec Ideal S512x256 .f32 := k0_pay48 (k0_pay4 C) (E Q K h) (L Q K h) (N Q K h) (VM V h)

theorem E_at : E Q K h (ix2 r n) = ex (rq Q r) (rk K) h n := by
  have s : ∀ n : Fin 256, (∑ x : Fin 256, Q (ix2 r x) * k0_pay15 (F := Ideal) k0_pay5 (num h) (ix2 0 x) * K (ix2 n x))
      = ∑ e, Q (ix2 r (lane h e)) * K (ix2 n (lane h e)) := fun n => by
    refine sum_head h _ (fun x => Q (ix2 r x) * K (ix2 n x)) fun l => ?_
    rw [mask_at]
    split_ifs <;> simp
  unfold E ex top score
  pointwise [k0_pay18, k0_pay16, k0_pay17, k0_pay1, k0_pay2]
  simp only [s]
  rfl

theorem L_at : L Q K h (ix2 r 0) = tot (rq Q r) (rk K) h := by
  unfold tot
  simp only [← E_at]
  unfold L E
  pointwise [k0_pay19]

theorem P_at : P Q K h (ix2 r n) = prob (rq Q r) (rk K) h n := by
  unfold prob
  rw [← E_at, ← L_at]
  unfold P E L
  pointwise [k0_pay21]

theorem N_at : N Q K h (ix2 r 0) = Ideal.div 1 (tot (rq Q r) (rk K) h * tot (rq Q r) (rk K) h) := by
  rw [← L_at]
  unfold N L
  pointwise [k0_pay20]

theorem DP_at : (∑ x : Fin 256, k0_pay4 C (ix2 r x) * VM V h (ix2 n x)) = dprob (rq C r) (rk V) h n := by
  refine sum_head h _ (fun x => C (ix2 r x) * V (ix2 n x)) fun l => ?_
  unfold VM
  pointwise [k0_pay22, k0_pay4, k0_pay3]
  rw [mask_at]
  split_ifs <;> simp

theorem D_at : D Q K V C h (ix2 r n) = dscore (rq Q r) (rq C r) (rk K) (rk V) h n := by
  unfold dscore
  simp only [← N_at, ← DP_at]
  simp only [← E_at, ← L_at]
  unfold D
  pointwise [k0_pay48]
  simp only [Finset.univ_unique, Finset.sum_singleton, zero_sub]

/-! The kernel's terms for each head are these. -/

theorem k_entry : k0_pay2 K (ix2 n l) = K (ix2 n l) := by
  pointwise [k0_pay2]

theorem q_entry : k0_pay1 Q (ix2 r l) = Q (ix2 r l) := by
  pointwise [k0_pay1]

theorem m0 : k0_pay6 (F := Ideal) = k0_pay15 k0_pay5 (num 0) := rfl
theorem m1 : k0_pay15 (F := Ideal) k0_pay5 k0_pay14 = k0_pay15 k0_pay5 (num 1) := rfl
theorem m2 : k0_pay23 (F := Ideal) k0_pay5 = k0_pay15 k0_pay5 (num 2) := rfl
theorem m3 : k0_pay32 (F := Ideal) k0_pay5 = k0_pay15 k0_pay5 (num 3) := rfl

theorem e0 : k0_pay9 Q K = E Q K 0 := rfl
theorem e1 : k0_pay18 (k0_pay1 Q) (k0_pay2 K) k0_pay5 k0_pay14 = E Q K 1 := rfl
theorem e2 : k0_pay26 (k0_pay1 Q) (k0_pay2 K) k0_pay5 = E Q K 2 := rfl
theorem e3 : k0_pay35 (k0_pay1 Q) (k0_pay2 K) k0_pay5 = E Q K 3 := rfl

theorem l0 : k0_pay10 Q K = L Q K 0 := rfl
theorem l1 : k0_pay19 (k0_pay1 Q) (k0_pay2 K) k0_pay5 k0_pay14 = L Q K 1 := rfl
theorem l2 : k0_pay27 (k0_pay1 Q) (k0_pay2 K) k0_pay5 = L Q K 2 := rfl
theorem l3 : k0_pay36 (k0_pay1 Q) (k0_pay2 K) k0_pay5 = L Q K 3 := rfl

theorem n0 : k0_pay11 Q K = N Q K 0 := rfl
theorem n1 : k0_pay20 (k0_pay1 Q) (k0_pay2 K) k0_pay5 k0_pay14 = N Q K 1 := rfl
theorem n2 : k0_pay29 (k0_pay1 Q) (k0_pay2 K) k0_pay5 = N Q K 2 := rfl

theorem p0 : k0_pay12 Q K = P Q K 0 := rfl
theorem p1 : k0_pay21 (k0_pay1 Q) (k0_pay2 K) k0_pay5 k0_pay14 = P Q K 1 := rfl
theorem p2 : k0_pay30 (k0_pay28 (k0_pay1 Q) (k0_pay2 K) k0_pay5) = P Q K 2 := rfl
theorem p3 : Ideal.div (E Q K 3 (ix2 r n)) (L Q K 3 (ix2 r 0)) = P Q K 3 (ix2 r n) := by
  rw [P_at, E_at, L_at]
  rfl

theorem w0 : k0_pay13 V = VM V 0 := rfl
theorem w1 : k0_pay22 (k0_pay3 V) k0_pay5 k0_pay14 = VM V 1 := rfl
theorem w2 : k0_pay31 (k0_pay3 V) (k0_pay15 k0_pay5 (num 2)) = VM V 2 := rfl

theorem d0 : k0_pay54 (E Q K 0) (L Q K 0) (k0_pay51 (k0_pay4 C) (VM V 0)) (k0_pay53 (k0_pay4 C) (N Q K 0) (VM V 0)) = D Q K V C 0 := rfl
theorem d1 : k0_pay48 (k0_pay4 C) (E Q K 1) (L Q K 1) (N Q K 1) (VM V 1) = D Q K V C 1 := rfl
theorem d2 : k0_pay44 (k0_pay4 C) (E Q K 2) (L Q K 2) (N Q K 2) (VM V 2) = D Q K V C 2 := rfl
theorem d3 : k0_pay41 (E Q K 3) (k0_pay39 (k0_pay1 Q) (k0_pay2 K) (k0_pay3 V) (k0_pay4 C) k0_pay5)
    (k0_pay40 (k0_pay1 Q) (k0_pay2 K) (k0_pay3 V) (k0_pay4 C) k0_pay5) = D Q K V C 3 := rfl

/-- The four heads' shares of the queries' gradient. -/
theorem q_at : (∑ n : Fin 256, D Q K V C 3 (ix2 r n) * K (ix2 n l)) * k0_pay15 (F := Ideal) k0_pay5 (num 3) (ix2 0 l)
    + (∑ n : Fin 256, D Q K V C 2 (ix2 r n) * K (ix2 n l)) * k0_pay15 (F := Ideal) k0_pay5 (num 2) (ix2 0 l)
    + (∑ n : Fin 256, D Q K V C 1 (ix2 r n) * K (ix2 n l)) * k0_pay15 (F := Ideal) k0_pay5 (num 1) (ix2 0 l)
    + (∑ n : Fin 256, D Q K V C 0 (ix2 r n) * K (ix2 n l)) * k0_pay15 (F := Ideal) k0_pay5 (num 0) (ix2 0 l)
    = gq (rq Q r) (rq C r) (rk K) (rk V) l := by
  refine (pick (fun h => ∑ n : Fin 256, D Q K V C h (ix2 r n) * K (ix2 n l))
    (fun h => k0_pay15 (F := Ideal) k0_pay5 (num h) (ix2 0 l)) l fun h => mask_at h l).trans ?_
  simp only [D_at]
  rfl

/-- A block's share of the keys' gradient. -/
def pk : EReal := ∑ r : Fin 512, dscore (rq Q r) (rq C r) (rk K) (rk V) (head l) n * Q (ix2 r l)

/-- A block's share of the values' gradient. -/
def pv : EReal := ∑ r : Fin 512, C (ix2 r l) * prob (rq Q r) (rk K) (head l) n

theorem k_at : (∑ r : Fin 512, D Q K V C 3 (ix2 r n) * (Q (ix2 r l) * k0_pay15 (F := Ideal) k0_pay5 (num 3) (ix2 0 l)))
    + (∑ r : Fin 512, D Q K V C 2 (ix2 r n) * (Q (ix2 r l) * k0_pay15 (F := Ideal) k0_pay5 (num 2) (ix2 0 l)))
    + (∑ r : Fin 512, D Q K V C 1 (ix2 r n) * (Q (ix2 r l) * k0_pay15 (F := Ideal) k0_pay5 (num 1) (ix2 0 l)))
    + (∑ r : Fin 512, D Q K V C 0 (ix2 r n) * (Q (ix2 r l) * k0_pay15 (F := Ideal) k0_pay5 (num 0) (ix2 0 l)))
    = pk Q K V C n l := by
  refine (pick_sum (fun h r => D Q K V C h (ix2 r n)) (fun r => Q (ix2 r l))
    (fun h => k0_pay15 (F := Ideal) k0_pay5 (num h) (ix2 0 l)) l fun h => mask_at h l).trans ?_
  simp only [D_at]
  rfl

theorem v_at : (∑ r : Fin 512, C (ix2 r l) * P Q K 3 (ix2 r n)) * k0_pay15 (F := Ideal) k0_pay5 (num 3) (ix2 0 l)
    + (∑ r : Fin 512, C (ix2 r l) * P Q K 2 (ix2 r n)) * k0_pay15 (F := Ideal) k0_pay5 (num 2) (ix2 0 l)
    + (∑ r : Fin 512, C (ix2 r l) * P Q K 1 (ix2 r n)) * k0_pay15 (F := Ideal) k0_pay5 (num 1) (ix2 0 l)
    + (∑ r : Fin 512, C (ix2 r l) * P Q K 0 (ix2 r n)) * k0_pay15 (F := Ideal) k0_pay5 (num 0) (ix2 0 l)
    = pv Q K C n l := by
  refine (pick (fun h => ∑ r : Fin 512, C (ix2 r l) * P Q K h (ix2 r n))
    (fun h => k0_pay15 (F := Ideal) k0_pay5 (num h) (ix2 0 l)) l fun h => mask_at h l).trans ?_
  simp only [P_at]
  rfl

section
variable (c : Dev nD) (i : grid0.Coords) (a1 : Memref sig .tc .vmem S512x256 .bf16) (h1 : a1.IsWhole)
  (a2 : Memref sig .tc .vmem S256x256 .bf16) (h2 : a2.IsWhole) (a3 : Memref sig .tc .vmem S256x256 .bf16) (h3 : a3.IsWhole)
  (a4 : Memref sig .tc .vmem S512x256 .bf16) (h4 : a4.IsWhole) (a5 : Memref sig .tc .vmem S512x256 .bf16) (h5 : a5.IsWhole)
  (a6 : Memref sig .tc .vmem S256x256 .f32) (h6 : a6.IsWhole) (a7 : Memref sig .tc .vmem S256x256 .f32) (h7 : a7.IsWhole)
  (Z Y : Vec Ideal S256x256 .f32)

/-- What the first point writes of the queries' gradient. -/
theorem dq_A (hc0 : cond0_0 i) (hc1 : cond0_1 i) :
    out0_A_4 (F := Ideal) c i a1 h1 a2 h2 a3 h3 a4 h4 a5 h5 a6 h6 a7 h7 hc0 hc1 Q K V C (ix2 r l)
      = gq (rq Q r) (rq C r) (rk K) (rk V) l := by
  refine Eq.trans ?_ (q_at Q K V C r l)
  frame_out
  pointwise [k0_pay55, k0_pay50, k0_pay42, k0_pay46, k0_pay47, k0_pay8, k0_pay17, k0_pay25, k0_pay34]
  simp only [k_entry, q_entry, m0, m1, m2, m3, e0, e1, e2, e3, l0, l1, l2, l3, n0, n1, n2, p0, p1, p2, p3, w0, w1, w2, d0, d1, d2, d3]

/-- The same at a later point. -/
theorem dq_B (hc0 : ¬cond0_0 i) (hc1 : ¬cond0_1 i) :
    out0_B_4 (F := Ideal) c i a1 h1 a2 h2 a3 h3 a4 h4 a5 h5 a6 h6 a7 h7 hc0 hc1 Q K V C Z Y (ix2 r l)
      = gq (rq Q r) (rq C r) (rk K) (rk V) l := by
  refine Eq.trans ?_ (q_at Q K V C r l)
  frame_out
  pointwise [k0_pay55, k0_pay50, k0_pay42, k0_pay46, k0_pay47, k0_pay8, k0_pay17, k0_pay25, k0_pay34]
  simp only [k_entry, q_entry, m0, m1, m2, m3, e0, e1, e2, e3, l0, l1, l2, l3, n0, n1, n2, p0, p1, p2, p3, w0, w1, w2, d0, d1, d2, d3]

/-- The first point starts the keys' gradient. -/
theorem dk_A (hc0 : cond0_0 i) (hc1 : cond0_1 i) :
    out0_A_5 (F := Ideal) c i a1 h1 a2 h2 a3 h3 a4 h4 a5 h5 a6 h6 a7 h7 hc0 hc1 Q K V C (ix2 n l) = 0 + pk Q K V C n l := by
  rw [← k_at]
  frame_out
  pointwise [k0_pay57, k0_pay56, k0_pay49, k0_pay45, k0_pay7, k0_pay16, k0_pay24, k0_pay33]
  simp only [k_entry, q_entry, m0, m1, m2, m3, e0, e1, e2, e3, l0, l1, l2, l3, n0, n1, n2, p0, p1, p2, p3, w0, w1, w2, d0, d1, d2, d3]

/-- A later point adds to it. -/
theorem dk_B (hc0 : ¬cond0_0 i) (hc1 : ¬cond0_1 i) :
    out0_B_5 (F := Ideal) c i a1 h1 a2 h2 a3 h3 a4 h4 a5 h5 a6 h6 a7 h7 hc0 hc1 Q K V C Z Y (ix2 n l)
      = Z (ix2 n l) + pk Q K V C n l := by
  rw [← k_at]
  frame_out
  pointwise [k0_pay57, k0_pay56, k0_pay49, k0_pay45, k0_pay7, k0_pay16, k0_pay24, k0_pay33]
  simp only [k_entry, q_entry, m0, m1, m2, m3, e0, e1, e2, e3, l0, l1, l2, l3, n0, n1, n2, p0, p1, p2, p3, w0, w1, w2, d0, d1, d2, d3]

/-- The first point starts the values' gradient. -/
theorem dv_A (hc0 : cond0_0 i) (hc1 : cond0_1 i) :
    out0_A_6 (F := Ideal) c i a1 h1 a2 h2 a3 h3 a4 h4 a5 h5 a6 h6 a7 h7 hc0 hc1 Q K V C (ix2 n l) = 0 + pv Q K C n l := by
  rw [← v_at]
  frame_out
  pointwise [k0_pay59, k0_pay58, k0_pay52, k0_pay43, k0_pay38, k0_pay4]
  simp only [k_entry, q_entry, m0, m1, m2, m3, e0, e1, e2, e3, l0, l1, l2, l3, n0, n1, n2, p0, p1, p2, p3, w0, w1, w2, d0, d1, d2, d3]

/-- A later point adds to it. -/
theorem dv_B (hc0 : ¬cond0_0 i) (hc1 : ¬cond0_1 i) :
    out0_B_6 (F := Ideal) c i a1 h1 a2 h2 a3 h3 a4 h4 a5 h5 a6 h6 a7 h7 hc0 hc1 Q K V C Z Y (ix2 n l)
      = Y (ix2 n l) + pv Q K C n l := by
  rw [← v_at]
  frame_out
  pointwise [k0_pay59, k0_pay58, k0_pay52, k0_pay43, k0_pay38, k0_pay4]
  simp only [k_entry, q_entry, m0, m1, m2, m3, e0, e1, e2, e3, l0, l1, l2, l3, n0, n1, n2, p0, p1, p2, p3, w0, w1, w2, d0, d1, d2, d3]

end
end

end Cert.MemoryIdeal.Pf

end
-- ==== Proof.MemoryArr.lean ====
module

public import proofs.«01_k».proof.Proof.MemoryKernel

@[expose] public section

set_option maxRecDepth 16384

noncomputable section

/-! What the kernel for the memory attention's gradients leaves in its three result arrays. -/

namespace Cert.MemoryIdeal.Pf

open Idealize.ShloMosaic Idealize.ShloMosaic.TcCoe Idealize.SL.Sem
open Idealize.ShloMosaic.Pipeline (Dat)
open Cert.MemoryIdeal Cert.MemoryIdeal.Gen
open Cert.MemAtt

variable (m : (ℓ : Loc nD τ sig) → Buf (Elt Ideal) ℓ)

/-- The arrays before the columns are laid side by side. -/
def mid (c : Dev nD) : Valuation τ sig (Elt Ideal) :=
  StableHlo.after hostOps0_1 (StableHlo.after hostOps0 fun b => m (c, b))

/-- The arrays after it. -/
def mid2 (c : Dev nD) : Valuation τ sig (Elt Ideal) := StableHlo.after hostOps0_2 (mid m c)

theorem mid_arg0 (c : Dev nD) : mid m c main_arg0 = m ((c : Thread nD τ).loc main_arg0) := by
  unfold mid; after_reads_simp

theorem mid2_arg1 (c : Dev nD) : mid2 m c main_arg1 = m ((c : Thread nD τ).loc main_arg1) := by
  unfold mid2 mid; after_reads_simp

theorem mid2_arg2 (c : Dev nD) : mid2 m c main_arg2 = m ((c : Thread nD τ).loc main_arg2) := by
  unfold mid2 mid; after_reads_simp

/-- The keys and values, rounded. -/
theorem host_v8 (c : Dev nD) (n : Fin 256) (x : Fin 512) :
    V m c main_v8 (ix2 n x) = m ((c : Thread nD τ).loc main_arg1) (ix2 n x) := by
  show StableHlo.after hostOps0_4 (StableHlo.after hostOps0_3 (mid2 m c)) main_v8 (ix2 n x) = _
  after_reads_simp
  rw [mid2_arg1]
  generalize m ((c : Thread nD τ).loc main_arg1) = A
  pointwise

/-- An array behind 768 columns, read in its own columns. -/
theorem pad_at (A : FVec Ideal S16384x256 .f32) (z : FVec Ideal S_ .f32) (r : Fin 16384) (x : Fin 256) :
    pad S16384x1024 ![0, 768] ![0, 0] ![0, 0] A z pads_S16384x256_S16384x1024_000_76800 h_S_ (ix2 r ⟨768 + x.val, by omega⟩)
      = A (ix2 r x) := by
  pointwise

/-- The cotangent, behind 768 columns of zeros. -/
theorem host_v7 (c : Dev nD) (r : Fin 16384) (x : Fin 256) :
    V m c main_v7 (ix2 r ⟨768 + x.val, by omega⟩) = m ((c : Thread nD τ).loc main_arg2) (ix2 r x) := by
  show StableHlo.after hostOps0_4 (StableHlo.after hostOps0_3 (mid2 m c)) main_v7 (ix2 r ⟨768 + x.val, by omega⟩) = _
  after_reads_simp
  rw [mid2_arg2]
  generalize m ((c : Thread nD τ).loc main_arg2) = A
  pointwise
  exact pad_at A _ r x

theorem cat3 (x0 : FVec Ideal S16384x3072 .f32) (x1 : FVec Ideal S16384x256 .f32) (x2 : FVec Ideal S16384x128 .f32) (hc)
    (r : Fin 16384) (x : Fin 256) :
    concatenate S16384x3456 1 [⟨S16384x3072, x0⟩, ⟨S16384x256, x1⟩, ⟨S16384x128, x2⟩] hc (ix2 r ⟨3072 + x.val, by omega⟩)
      = x1 (ix2 r x) := by
  pointwise

/-- The queries, behind the first 3072 columns. -/
theorem host_v5 (c : Dev nD) (r : Fin 16384) (x : Fin 256) :
    V m c main_v5 (ix2 r ⟨3072 + x.val, by omega⟩) = m ((c : Thread nD τ).loc main_arg0) (ix2 r ⟨3084 + x.val, by omega⟩) := by
  show StableHlo.after (hostOps0_2 ++ hostOps0_3 ++ hostOps0_4) (mid m c) main_v5 (ix2 r ⟨3072 + x.val, by omega⟩) = _
  rw [StableHlo.after_last_write (r := main_v5) (i := 3) [main_c_0, main_call1_v0, main_v6, main_v7, main_v8] rfl rfl (by decide) (mid m c),
    StableHlo.unary_result', StableHlo.upto_last_write (r := main_v4) (i := 2) [] rfl rfl (by decide) (mid m c)]
  refine (congrFun (congrArg (fun f => (truncf .bf16 f bitsLt_bf16_f32 : FVec Ideal S16384x3456 .bf16))
    (StableHlo.nary_result' ![main_v2, main_v3, main_v1] _ _ _ _)) _).trans ?_
  refine (cat3 _ _ _ concatenates_S16384x3072_S16384x256_S16384x128_S16384x3456_d1 r x).trans ?_
  dsimp only [Matrix.cons_val]
  after_reads_simp
  rw [mid_arg0]
  generalize m ((c : Thread nD τ).loc main_arg0) = A
  pointwise

/-- Every window's block at point `t`. -/
theorem idx : ∀ t : Fin cfg0.N, win0_0.index t = ![t.val, 12] ∧ win0_1.index t = ![0, 0] ∧ win0_2.index t = ![0, 1]
    ∧ win0_3.index t = ![t.val, 3] ∧ win0_4.index t = ![t.val, 0] ∧ win0_5.index t = ![0, 0] ∧ win0_6.index t = ![0, 0] :=
  (by decide +kernel : ∀ t : Fin grid0.N, _)

/-- The rows of queries that point `t` reads. -/
theorem blk0 (c : Dev nD) (t : Fin cfg0.N) (r : Fin 512) (x : Fin 256) (q : Fin 16384) (hq : q.val = t.val * 512 + r.val) :
    X0_0 m c t (ix2 r x) = m ((c : Thread nD τ).loc main_arg0) (ix2 q ⟨3084 + x.val, by omega⟩) := by
  refine Eq.trans ?_ (host_v5 m c q x)
  unfold X0_0 Pipeline.Window.fill
  rw [dif_pos (moved0_0 t _)]
  unfold iblk
  blk_ext [idx t]

/-- The keys. -/
theorem blk1 (c : Dev nD) (t : Fin cfg0.N) (n x : Fin 256) :
    iblk m c 1 t (ix2 n x) = m ((c : Thread nD τ).loc main_arg1) (ix2 n ⟨x.val, by omega⟩) := by
  refine Eq.trans ?_ (host_v8 m c n ⟨x.val, by omega⟩)
  unfold iblk; blk_ext [idx t]

/-- The values. -/
theorem blk2 (c : Dev nD) (t : Fin cfg0.N) (n x : Fin 256) :
    iblk m c 2 t (ix2 n x) = m ((c : Thread nD τ).loc main_arg1) (ix2 n ⟨256 + x.val, by omega⟩) := by
  refine Eq.trans ?_ (host_v8 m c n ⟨256 + x.val, by omega⟩)
  unfold iblk; blk_ext [idx t]

/-- The rows of the cotangent. -/
theorem blk3 (c : Dev nD) (t : Fin cfg0.N) (r : Fin 512) (x : Fin 256) (q : Fin 16384) (hq : q.val = t.val * 512 + r.val) :
    iblk m c 3 t (ix2 r x) = m ((c : Thread nD τ).loc main_arg2) (ix2 q x) := by
  refine Eq.trans ?_ (host_v7 m c q x)
  unfold iblk; blk_ext [idx t]

section
variable (a : FVec Ideal S16384x3340 .f32) (b : FVec Ideal S256x512 .f32) (y : FVec Ideal S16384x256 .f32)

/-- A row's queries. -/
abbrev qs (t : Fin 16384) : Fin 256 → EReal := fun x => a (ix2 t ⟨3084 + x.val, by omega⟩)
/-- The keys. -/
abbrev ks : Fin 256 → Fin 256 → EReal := fun n x => b (ix2 n ⟨x.val, by omega⟩)
/-- The values. -/
abbrev vs : Fin 256 → Fin 256 → EReal := fun n x => b (ix2 n ⟨256 + x.val, by omega⟩)
/-- A row's cotangent. -/
abbrev cs (t : Fin 16384) : Fin 256 → EReal := fun x => y (ix2 t x)

/-- The whole gradient of the queries. -/
def DQ : FVec Ideal S16384x256 .bf16 := fun i => gq (qs a (i 0)) (cs y (i 0)) (ks b) (vs b) (i 1)

/-- The whole gradient of the keys. -/
def DK : FVec Ideal S256x256 .f32 := fun i =>
  ∑ t : Fin 16384, dscore (qs a t) (cs y t) (ks b) (vs b) (head (i 1)) (i 0) * qs a t (i 1)

/-- The whole gradient of the values. -/
def DV : FVec Ideal S256x256 .f32 := fun i => ∑ t : Fin 16384, cs y t (i 1) * prob (qs a t) (ks b) (head (i 1)) (i 0)

end

/-- What a point writes of the queries' gradient. -/
theorem rows (c : Dev nD) (t : Fin cfg0.N) (r : Fin 512) (l : Fin 256) : (outsAt0 m c t.val t.isLt).1 (ix2 r l)
    = gq (rq (X0_0 m c t) r) (rq (iblk m c 3 t) r) (rk (iblk m c 1 t)) (rk (iblk m c 2 t)) l := by
  by_cases h : t.val % 32 = 0
  · rw [outsAt0_A m c t h h]
    dsimp only
    exact dq_A (X0_0 m c t) (iblk m c 1 t) (iblk m c 2 t) (iblk m c 3 t) r l c _ _ _ _ _ _ _ _ _ _ _ _ _ _ _ _ _
  · rw [outsAt0_B m c t h h]
    dsimp only
    exact dq_B (X0_0 m c t) (iblk m c 1 t) (iblk m c 2 t) (iblk m c 3 t) r l c _ _ _ _ _ _ _ _ _ _ _ _ _ _ _ _ _ _ _

/-- The keys' gradient after point `t`. -/
theorem acck (c : Dev nD) (t : Fin cfg0.N) (n l : Fin 256) : (outsAt0 m c t.val t.isLt).2.1 (ix2 n l)
    = 0 + ∑ s : Fin (t.val % 32 + 1), pk (X0_0 m c ⟨32 * (t.val / 32) + s.val, Pipeline.run_point_lt t rfl s⟩)
        (iblk m c 1 ⟨32 * (t.val / 32) + s.val, Pipeline.run_point_lt t rfl s⟩)
        (iblk m c 2 ⟨32 * (t.val / 32) + s.val, Pipeline.run_point_lt t rfl s⟩)
        (iblk m c 3 ⟨32 * (t.val / 32) + s.val, Pipeline.run_point_lt t rfl s⟩) n l := by
  refine Pipeline.eq_sum_fin_of_reset_step_apply (fun k h (p : Fin 256 × Fin 256) => (outsAt0 m c k h).2.1 (ix2 p.1 p.2)) 32 (fun _ => 0)
    (fun t p => pk (X0_0 m c t) (iblk m c 1 t) (iblk m c 2 t) (iblk m c 3 t) p.1 p.2) (fun t h p => ?_) (fun t h p => ?_) t (n, l)
  · beta_reduce
    rw [outsAt0_A m c t h h]
    dsimp only
    exact dk_A (X0_0 m c t) (iblk m c 1 t) (iblk m c 2 t) (iblk m c 3 t) p.1 p.2 c _ _ _ _ _ _ _ _ _ _ _ _ _ _ _ _ _
  · beta_reduce
    rw [outsAt0_B m c t h h]
    dsimp only
    exact dk_B (X0_0 m c t) (iblk m c 1 t) (iblk m c 2 t) (iblk m c 3 t) p.1 p.2 c _ _ _ _ _ _ _ _ _ _ _ _ _ _ _ _ _ _ _

/-- The values' gradient after point `t`. -/
theorem accv (c : Dev nD) (t : Fin cfg0.N) (n l : Fin 256) : (outsAt0 m c t.val t.isLt).2.2 (ix2 n l)
    = 0 + ∑ s : Fin (t.val % 32 + 1), pv (X0_0 m c ⟨32 * (t.val / 32) + s.val, Pipeline.run_point_lt t rfl s⟩)
        (iblk m c 1 ⟨32 * (t.val / 32) + s.val, Pipeline.run_point_lt t rfl s⟩)
        (iblk m c 3 ⟨32 * (t.val / 32) + s.val, Pipeline.run_point_lt t rfl s⟩) n l := by
  refine Pipeline.eq_sum_fin_of_reset_step_apply (fun k h (p : Fin 256 × Fin 256) => (outsAt0 m c k h).2.2 (ix2 p.1 p.2)) 32 (fun _ => 0)
    (fun t p => pv (X0_0 m c t) (iblk m c 1 t) (iblk m c 3 t) p.1 p.2) (fun t h p => ?_) (fun t h p => ?_) t (n, l)
  · beta_reduce
    rw [outsAt0_A m c t h h]
    dsimp only
    exact dv_A (X0_0 m c t) (iblk m c 1 t) (iblk m c 2 t) (iblk m c 3 t) p.1 p.2 c _ _ _ _ _ _ _ _ _ _ _ _ _ _ _ _ _
  · beta_reduce
    rw [outsAt0_B m c t h h]
    dsimp only
    exact dv_B (X0_0 m c t) (iblk m c 1 t) (iblk m c 2 t) (iblk m c 3 t) p.1 p.2 c _ _ _ _ _ _ _ _ _ _ _ _ _ _ _ _ _ _ _

section
variable (c : Dev nD) (t : Fin cfg0.N)

/-- The blocks' rows are the arrays' rows. -/
theorem rows_q (r : Fin 512) (q : Fin 16384) (hq : q.val = t.val * 512 + r.val) :
    rq (X0_0 m c t) r = qs (m ((c : Thread nD τ).loc main_arg0)) q := funext fun x => blk0 m c t r x q hq

theorem rows_c (r : Fin 512) (q : Fin 16384) (hq : q.val = t.val * 512 + r.val) :
    rq (iblk m c 3 t) r = cs (m ((c : Thread nD τ).loc main_arg2)) q := funext fun x => blk3 m c t r x q hq

theorem rows_k : rk (iblk m c 1 t) = ks (m ((c : Thread nD τ).loc main_arg1)) := funext fun n => funext fun x => blk1 m c t n x

theorem rows_v : rk (iblk m c 2 t) = vs (m ((c : Thread nD τ).loc main_arg1)) := funext fun n => funext fun x => blk2 m c t n x

end

/-- The array of the queries' gradient after the run. -/
theorem final_dq (c : Dev nD) : (dats m 0 c).arrAt 4 (cfgs 0).N = DQ (m ((c : Thread nD τ).loc main_arg0))
    (m ((c : Thread nD τ).loc main_arg1)) (m ((c : Thread nD τ).loc main_arg2)) := by
  refine (dats m 0 c).arrAt_eq_of_covers 4 _ (by decide +kernel) fun t hf y => ?_
  have ht : t.val < 32 := lt_of_lt_of_eq t.isLt N_0
  blk_simp
  rw [after0_4]
  idx_vars y
  have hy := y0.isLt
  have e : ((View.whole main_v9_0).slice (win0_4.rect t)).emb (ix2 y0 y1) = ix2 (⟨t.val * 512 + y0.val, by omega⟩ : Fin 16384) y1 := by
    blk_ext [idx t]
  rw [e]
  refine (rows m c t y0 y1).trans ?_
  rw [rows_q m c t y0 ⟨t.val * 512 + y0.val, by omega⟩ rfl, rows_c m c t y0 ⟨t.val * 512 + y0.val, by omega⟩ rfl, rows_k, rows_v]
  rfl

/-- The array of the keys' gradient after the run. -/
theorem final_dk (c : Dev nD) : (dats m 0 c).arrAt 5 (cfgs 0).N = DK (m ((c : Thread nD τ).loc main_arg0))
    (m ((c : Thread nD τ).loc main_arg1)) (m ((c : Thread nD τ).loc main_arg2)) := by
  refine (dats m 0 c).arrAt_eq_of_covers 5 _ (by decide +kernel) fun t hf y => ?_
  have h31 : t.val % 32 = 31 := (flush0_5 t).mp hf
  have ht : t.val < 32 := lt_of_lt_of_eq t.isLt N_0
  blk_simp
  rw [after0_5]
  idx_vars y
  have e : ((View.whole main_v9_1).slice (win0_5.rect t)).emb (ix2 y0 y1) = ix2 y0 y1 := by
    blk_ext [idx t]
  rw [e]
  refine (acck m c t y0 y1).trans ?_
  rw [zero_add]
  unfold pk
  refine Fin.sum_mul_add_congr (fun s k hl => ?_) (by rw [h31])
  have hs : s.val < 32 := by have := s.isLt; omega
  have b : ∀ n (hn : n < cfg0.N), n = 32 * (t.val / 32) + s.val →
      dscore (rq (X0_0 m c ⟨n, hn⟩) k) (rq (iblk m c 3 ⟨n, hn⟩) k) (rk (iblk m c 1 ⟨n, hn⟩)) (rk (iblk m c 2 ⟨n, hn⟩)) (head y1) y0
          * rq (X0_0 m c ⟨n, hn⟩) k y1
        = dscore (qs (m ((c : Thread nD τ).loc main_arg0)) ⟨s.val * 512 + k.val, hl⟩)
            (cs (m ((c : Thread nD τ).loc main_arg2)) ⟨s.val * 512 + k.val, hl⟩)
            (ks (m ((c : Thread nD τ).loc main_arg1))) (vs (m ((c : Thread nD τ).loc main_arg1))) (head y1) y0
          * qs (m ((c : Thread nD τ).loc main_arg0)) ⟨s.val * 512 + k.val, hl⟩ y1 := fun n hn e => by
    rw [rows_q m c ⟨n, hn⟩ k ⟨s.val * 512 + k.val, hl⟩ (by simp only; omega),
      rows_c m c ⟨n, hn⟩ k ⟨s.val * 512 + k.val, hl⟩ (by simp only; omega), rows_k, rows_v]
  exact b _ _ rfl

/-- The array of the values' gradient after the run. -/
theorem final_dv (c : Dev nD) : (dats m 0 c).arrAt 6 (cfgs 0).N = DV (m ((c : Thread nD τ).loc main_arg0))
    (m ((c : Thread nD τ).loc main_arg1)) (m ((c : Thread nD τ).loc main_arg2)) := by
  refine (dats m 0 c).arrAt_eq_of_covers 6 _ (by decide +kernel) fun t hf y => ?_
  have h31 : t.val % 32 = 31 := (flush0_6 t).mp hf
  have ht : t.val < 32 := lt_of_lt_of_eq t.isLt N_0
  blk_simp
  rw [after0_6]
  idx_vars y
  have e : ((View.whole main_v9_2).slice (win0_6.rect t)).emb (ix2 y0 y1) = ix2 y0 y1 := by
    blk_ext [idx t]
  rw [e]
  refine (accv m c t y0 y1).trans ?_
  rw [zero_add]
  unfold pv
  refine Fin.sum_mul_add_congr (fun s k hl => ?_) (by rw [h31])
  have hs : s.val < 32 := by have := s.isLt; omega
  have b : ∀ n (hn : n < cfg0.N), n = 32 * (t.val / 32) + s.val →
      rq (iblk m c 3 ⟨n, hn⟩) k y1 * prob (rq (X0_0 m c ⟨n, hn⟩) k) (rk (iblk m c 1 ⟨n, hn⟩)) (head y1) y0
        = cs (m ((c : Thread nD τ).loc main_arg2)) ⟨s.val * 512 + k.val, hl⟩ y1
          * prob (qs (m ((c : Thread nD τ).loc main_arg0)) ⟨s.val * 512 + k.val, hl⟩)
            (ks (m ((c : Thread nD τ).loc main_arg1))) (head y1) y0 := fun n hn e => by
    rw [rows_q m c ⟨n, hn⟩ k ⟨s.val * 512 + k.val, hl⟩ (by simp only; omega),
      rows_c m c ⟨n, hn⟩ k ⟨s.val * 512 + k.val, hl⟩ (by simp only; omega), rows_k]
  exact b _ _ rfl

end Cert.MemoryIdeal.Pf

end
-- ==== Proof.MemoryRef.lean ====
module

public import proofs.«01_k».proof.Proof.Gen.MemoryRefIdeal.Read
public import Idealize.ShloMosaic.Lib.Pointwise
public import proofs.«01_k».proof.Proof.MemoryArr

@[expose] public section

set_option maxRecDepth 16384

noncomputable section

/-! The memory attention's gradients that the reference computes are the kernel's arrays. -/

namespace Cert.MemoryRefIdeal.Pf

open Idealize.ShloMosaic Idealize.ShloMosaic.TcCoe
open Cert.MemoryRefIdeal Cert.MemoryRefIdeal.Gen Cert.MemoryRefIdeal.Read
open Cert.MemAtt
open Cert.MemoryIdeal.Pf (DQ DK DV qs ks vs cs)

variable (x0 : FVec Ideal S16384x3340 .f32) (x1 : FVec Ideal S256x512 .f32) (x2 : FVec Ideal S16384x256 .f32)
  (h : Fin 4) (r : Fin 16384) (n : Fin 256) (e : Fin 64)

theorem q_at : val_main_v3 (F := Ideal) x0 (ix3 r h e) = qs x0 r (lane h e) := by
  unfold qs lane
  pointwise [val_main_v3, val_main_v0]

theorem k_at : val_main_v4 (F := Ideal) x1 (ix3 n h e) = ks x1 n (lane h e) := by
  unfold ks lane
  pointwise [val_main_v4, val_main_v1]

theorem v_at : val_main_v5 (F := Ideal) x1 (ix3 n h e) = vs x1 n (lane h e) := by
  unfold vs lane
  pointwise [val_main_v5, val_main_v2]

theorem c_at : val_main_v41 (F := Ideal) x2 (ix3 h e r) = cs x2 r (lane h e) := by
  unfold cs lane
  pointwise [val_main_v41, val_main_v40]

theorem score_at : val_main_v8 (F := Ideal) x0 x1 (ix3 h r n) = score (qs x0 r) (ks x1) h n := by
  pointwise [val_main_v8, val_main_v6, val_main_v7, val_main_cst]
  simp only [q_at, k_at]
  rfl

/-- The word of minus infinity denotes the bottom element. -/
theorem ninf_word : Ideal.ofBits .f32 0xFF800000#32 = ⊥ := by
  simp [Ideal.ofBits, Ideal.ieee]

theorem low_at : val_main_v15 (F := Ideal) (ix2 h r) = ⊥ := by
  pointwise [val_main_v15, val_main_cst_1]
  exact ninf_word

theorem most_at : val_main_v9 (F := Ideal) x0 x1 (ix2 h r) = top (qs x0 r) (ks x1) h := by
  unfold top
  pointwise [val_main_v9]
  simp only [score_at]
  rw [show val_main_cst_0 (F := Ideal) (Shape.Idx.first h_S_) = ⊥ from ninf_word]

theorem top_at : val_main_v16 (F := Ideal) x0 x1 (ix2 h r) = top (qs x0 r) (ks x1) h := by
  rw [val_main_v16_apply, low_at, most_at]
  generalize top (qs x0 r) (ks x1) h = y
  exact max_bot_left y

theorem ex_at : val_main_v29 (F := Ideal) x0 x1 (ix3 h r n) = ex (qs x0 r) (ks x1) h n := by
  pointwise [val_main_v29, val_main_v28, val_main_v27, val_main_v26]
  rw [score_at, top_at]
  rfl

theorem tot_at : val_main_v30 (F := Ideal) x0 x1 (ix2 h r) = tot (qs x0 r) (ks x1) h := by
  pointwise [val_main_v30, val_main_cst_8]
  simp only [ex_at]
  rfl

theorem prob_at : val_main_v33 (F := Ideal) x0 x1 (ix3 h r n) = prob (qs x0 r) (ks x1) h n := by
  pointwise [val_main_v33, val_main_v32, val_main_v31]
  rw [ex_at, tot_at]
  rfl

theorem dprob_at : val_main_v42 (F := Ideal) x1 x2 (ix3 h r n) = dprob (cs x2 r) (vs x1) h n := by
  pointwise [val_main_v42]
  simp only [c_at, v_at]
  rfl

theorem dscore_at : val_main_v58 (F := Ideal) x0 x1 x2 (ix3 h r n) = dscore (qs x0 r) (cs x2 r) (ks x1) (vs x1) h n := by
  pointwise [val_main_v58, val_main_v57, val_main_cst_12, val_main_v56, val_main_v55, val_main_v54, val_main_v53, val_main_cst_11,
    val_main_v52, val_main_v51, val_main_v50, val_main_v49, val_main_v48, val_main_cst_10, val_main_v47, val_main_v46, val_main_v45,
    val_main_v36, val_main_v35, val_main_cst_9, val_main_v34, val_main_v31]
  simp only [Finset.univ_unique, Finset.sum_singleton, ex_at, tot_at, dprob_at]
  rfl

/-- The queries' gradient. -/
theorem dq_eq : val_main_v66 (F := Ideal) x0 x1 x2 = DQ x0 x1 x2 := by
  funext i
  idx_vars i
  unfold DQ gq
  pointwise [val_main_v66, val_main_v65, val_main_v62, val_main_v61]
  refine Finset.sum_congr rfl fun n _ => ?_
  refine congrArg₂ (· * ·) (dscore_at x0 x1 x2 (head i1) i0 n) ((k_at x1 (head i1) n ⟨i1.val % 64, by omega⟩).trans ?_)
  refine congrArg (ks x1 n) (Fin.ext ?_)
  simp only [lane, head]
  omega

/-- The keys' gradient. -/
theorem dk_eq : val_main_v64 (F := Ideal) x0 x1 x2 = DK x0 x1 x2 := by
  funext i
  idx_vars i
  unfold DK
  pointwise [val_main_v64, val_main_v60, val_main_v59]
  refine Finset.sum_congr rfl fun r _ => ?_
  refine congrArg₂ (· * ·) (dscore_at x0 x1 x2 (head i1) r i0) ((q_at x0 (head i1) r ⟨i1.val % 64, by omega⟩).trans ?_)
  refine congrArg (qs x0 r) (Fin.ext ?_)
  simp only [lane, head]
  omega

/-- The values' gradient. -/
theorem dv_eq : val_main_v63 (F := Ideal) x0 x1 x2 = DV x0 x1 x2 := by
  funext i
  idx_vars i
  unfold DV
  pointwise [val_main_v63, val_main_v44, val_main_v43]
  refine Finset.sum_congr rfl fun r _ => ?_
  refine congrArg₂ (· * ·) ((c_at x2 (head i1) r ⟨i1.val % 64, by omega⟩).trans ?_) (prob_at x0 x1 (head i1) r i0)
  refine congrArg (cs x2 r) (Fin.ext ?_)
  simp only [lane, head]
  omega

end Cert.MemoryRefIdeal.Pf

end
-- ==== Proof.MemoryClaim.lean ====
module

public import proofs.«01_k».proof.Defs
public import proofs.«01_k».proof.Proof.Gen.Memory.Frame
public import proofs.«01_k».proof.Proof.Gen.MemoryRefIdeal.Run
public import proofs.«01_k».proof.Proof.MemoryRef
public import Idealize.ShloMosaic.Lib.Claim

@[expose] public section

set_option maxRecDepth 16384

noncomputable section

/-! The claims about the gradients of the memory attention. -/

namespace Cert.Proof.Memory

open Idealize.ShloMosaic Idealize.SL.Sem

theorem frame_kernel : Cert.quiescent_Memory := fun m ρ _ => Cert.Memory.Gen.frame m ρ

theorem frame_ideal : Cert.quiescent_MemoryIdeal := fun m ρ _ => Cert.MemoryIdeal.Gen.frame m ρ

theorem frame_ref : Cert.quiescent_MemoryRefIdeal := fun m ρ _ =>
  (θ_run Cert.MemoryRefIdeal.defs _ _).mono
    (fun r h => ⟨fun c => (h c).2.2.2, Idealize.ShloMosaic.sem_eq_zero_of_no_sems (by decide) r.2⟩)
    (Cert.MemoryRefIdeal.Value.run (F := Ideal) m ρ)

/-- The kernel's results and the derivatives of the plain lines are the same arrays. -/
theorem value : Cert.algebraic_MemoryIdeal_MemoryRefIdeal := by
  intro m g m' g' hpre hagree
  refine ⟨fun c => Cert.MemoryIdeal.Pf.DQ (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2)),
    fun c => Cert.MemoryIdeal.Pf.DK (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2)),
    fun c => Cert.MemoryIdeal.Pf.DV (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2)), ?_, ?_⟩
  · exact (θ_run Cert.MemoryIdeal.defs _ _).mono
      (fun r h c => ⟨(h c).1.trans (Cert.MemoryIdeal.Pf.final_dq m c), (h c).2.1.trans (Cert.MemoryIdeal.Pf.final_dk m c), (h c).2.2.1.trans (Cert.MemoryIdeal.Pf.final_dv m c), (h c).2.2.2⟩)
      (Cert.MemoryIdeal.Value.run_blocks m g)
  · refine (θ_run Cert.MemoryRefIdeal.defs _ _).mono (fun r h c => ⟨(h c).1.trans ?_, (h c).2.1.trans ?_, (h c).2.2.1.trans ?_, (h c).2.2.2⟩)
      (Cert.MemoryRefIdeal.Value.run (F := Ideal) m' g')
    · obtain ⟨h0, h1, h2⟩ := hagree c
      refine (Cert.MemoryRefIdeal.Read.val_main_v66_eq m' c).trans ?_
      rw [h0, h1, h2]
      exact Cert.MemoryRefIdeal.Pf.dq_eq _ _ _
    · obtain ⟨h0, h1, h2⟩ := hagree c
      refine (Cert.MemoryRefIdeal.Read.val_main_v64_eq m' c).trans ?_
      rw [h0, h1, h2]
      exact Cert.MemoryRefIdeal.Pf.dk_eq _ _ _
    · obtain ⟨h0, h1, h2⟩ := hagree c
      beta_reduce
      rw [h0, h1, h2]
      exact (Cert.MemoryRefIdeal.Read.val_main_v63_eq _ _ _).trans (Cert.MemoryRefIdeal.Pf.dv_eq _ _ _)

end Cert.Proof.Memory

end
-- ==== Proof.GatesMath.lean ====
module

public import Idealize.ShloMosaic.Lib.Pointwise
public import proofs.«01_k».proof.Proof.Finite

@[expose] public section

noncomputable section

/-! The softplus function, its derivative in the two spellings, and the lanes that hold the decay gates. -/

namespace Cert.Softplus

open Idealize.ShloMosaic

/-- Lanes below six. -/
theorem sel6 (x : Fin 128) (a b : EReal) :
    Scalar.select (IntOp.cmpi .slt (BitVec.ofNat 32 x.val) 6#32) a b = if x.val < 6 then a else b := by
  have h : ∀ x : Fin 128, IntOp.cmpi .slt (BitVec.ofNat 32 x.val) 6#32 = BitVec.ofBool (decide (x.val < 6)) := by decide +kernel
  rw [h]
  by_cases hx : x.val < 6 <;> simp [Scalar.select, hx]

/-- Lanes below twelve. -/
theorem sel12 (x : Fin 128) (a b : EReal) :
    Scalar.select (IntOp.cmpi .slt (BitVec.ofNat 32 x.val) 12#32) a b = if x.val < 12 then a else b := by
  have h : ∀ x : Fin 128, IntOp.cmpi .slt (BitVec.ofNat 32 x.val) 12#32 = BitVec.ofBool (decide (x.val < 12)) := by decide +kernel
  rw [h]
  by_cases hx : x.val < 12 <;> simp [Scalar.select, hx]

/-- A value in the lanes of the decay gates, zero in the others. -/
def keep (x : Fin 128) (a : EReal) : EReal := if x.val < 12 then if x.val < 6 then 0 else a else 0

theorem keep_in {x : Fin 128} (h : 6 ≤ x.val ∧ x.val < 12) (a : EReal) : keep x a = a := by
  unfold keep; rw [if_pos h.2, if_neg (by omega)]

theorem keep_out {x : Fin 128} (h : ¬(6 ≤ x.val ∧ x.val < 12)) (a : EReal) : keep x a = 0 := by
  unfold keep; split_ifs <;> first | rfl | omega

/-- The decaying exponential of the magnitude. -/
def em (z : EReal) : EReal := Ideal.exp (0 - max z (-z))

/-- Softplus, from the maximum and the decaying exponential. -/
def sp (z : EReal) : EReal := max z 0 + Ideal.log (1 + em z)

/-- The slope of the maximum: one half at zero. -/
def step (z : EReal) : EReal := if 0 < z then 1 else if z = 0 then Ideal.ofBits .f32 1056964608#32 else 0

/-- The gradient of softplus at `z` for the cotangent `w`, with every factor spelled. -/
def dz (x : Fin 128) (w z : EReal) : EReal :=
  (if 0 ≤ z then 0 - Ideal.div (keep x w) (1 + em z) * em z else 0)
    + (0 - if 0 ≤ z then 0 else 0 - Ideal.div (keep x w) (1 + em z) * em z) + keep x (w * step z)

/-- Softplus of a real number. -/
def spr (z : ℝ) : ℝ := max z 0 + Real.log (1 + Real.exp (-max z (-z)))

theorem em_coe (z : ℝ) : em z = ((Real.exp (-max z (-z)) : ℝ) : EReal) := by
  have h : (0 - max (z : EReal) (-(z : EReal)) : EReal) = ((-max z (-z) : ℝ) : EReal) := by
    rcases le_total z (-z) with h | h
    · have h' : (z : EReal) ≤ -(z : EReal) := by exact_mod_cast h
      rw [max_eq_right h, max_eq_right h', zero_sub]; norm_cast
    · have h' : -(z : EReal) ≤ (z : EReal) := by exact_mod_cast h
      rw [max_eq_left h, max_eq_left h', zero_sub]; norm_cast
  unfold em
  rw [h, Ideal.exp_coe]

theorem sp_coe (z : ℝ) : sp z = (spr z : EReal) := by
  unfold sp spr
  rw [em_coe]
  have hp : 0 < 1 + Real.exp (-max z (-z)) := by positivity
  have h1 : (1 + ((Real.exp (-max z (-z)) : ℝ) : EReal)) = ((1 + Real.exp (-max z (-z)) : ℝ) : EReal) := by norm_cast
  have h2 : max (z : EReal) 0 = ((max z 0 : ℝ) : EReal) := by
    rcases le_total z 0 with h | h
    · have h' : (z : EReal) ≤ 0 := by exact_mod_cast h
      rw [max_eq_right h, max_eq_right h']; rfl
    · have h' : (0 : EReal) ≤ (z : EReal) := by exact_mod_cast h
      rw [max_eq_left h, max_eq_left h']
  rw [h1, h2, Ideal.log_coe, if_neg (not_le.mpr hp), EReal.coe_add]

/-- The exponential of `z` less its softplus is the logistic function. -/
theorem exp_sub_spr (z : ℝ) : Real.exp (z - spr z) = (1 + Real.exp (-z))⁻¹ := by
  have hp : 0 < 1 + Real.exp (-max z (-z)) := by positivity
  unfold spr
  rw [← sub_sub, Real.exp_sub, Real.exp_log hp]
  rcases le_total z 0 with h | h
  · rw [max_eq_right h, max_eq_right (by linarith : z ≤ -z), sub_zero, neg_neg, Real.exp_neg]
    have := Real.exp_pos z
    field_simp
    ring
  · rw [max_eq_left h, max_eq_left (by linarith : -z ≤ z), sub_self, Real.exp_zero, one_div]

/-- Away from zero the spelled gradient is the cotangent times the logistic function. -/
theorem dz_in {x : Fin 128} (hx : 6 ≤ x.val ∧ x.val < 12) (w z : ℝ) (hz : z ≠ 0) :
    dz x w z = ((w * (1 + Real.exp (-z))⁻¹ : ℝ) : EReal) := by
  unfold dz step
  rw [em_coe, keep_in hx, keep_in hx]
  have hp : 1 + Real.exp (-max z (-z)) ≠ 0 := by positivity
  have h1 : (1 + ((Real.exp (-max z (-z)) : ℝ) : EReal)) = ((1 + Real.exp (-max z (-z)) : ℝ) : EReal) := by norm_cast
  rw [h1, Ideal.div_coe hp]
  rcases lt_or_gt_of_ne hz with h | h
  · have g1 : ¬(0 : EReal) ≤ (z : EReal) := by exact_mod_cast not_le.mpr h
    have g2 : ¬(0 : EReal) < (z : EReal) := by exact_mod_cast not_lt.mpr h.le
    have g3 : ¬(z : EReal) = 0 := by exact_mod_cast hz
    rw [if_neg g1, if_neg g1, if_neg g2, if_neg g3, mul_zero, add_zero, zero_add]
    rw [max_eq_right (by linarith : z ≤ -z), neg_neg]
    have : (w * (1 + Real.exp (-z))⁻¹ : ℝ) = 0 - (0 - w * (1 / (1 + Real.exp z)) * Real.exp z) := by
      rw [Real.exp_neg]
      have := Real.exp_pos z
      field_simp
      ring
    rw [this]
    norm_cast
  · have g1 : (0 : EReal) ≤ (z : EReal) := by exact_mod_cast h.le
    have g2 : (0 : EReal) < (z : EReal) := by exact_mod_cast h
    rw [if_pos g1, if_pos g1, if_pos g2, mul_one, sub_zero (0 : EReal), add_zero]
    rw [max_eq_left (by linarith : -z ≤ z)]
    have : (w * (1 + Real.exp (-z))⁻¹ : ℝ) = 0 - w * (1 / (1 + Real.exp (-z))) * Real.exp (-z) + w := by
      have := Real.exp_pos (-z)
      field_simp
      ring
    rw [this]
    norm_cast

/-- The decaying exponential is a real number that is not negative. -/
theorem em_real (z : EReal) : ∃ r : ℝ, 0 ≤ r ∧ em z = (r : EReal) := by
  induction z with
  | bot => exact ⟨0, le_rfl, by unfold em; simp⟩
  | top => exact ⟨0, le_rfl, by unfold em; simp⟩
  | coe z => exact ⟨_, (Real.exp_pos _).le, em_coe z⟩

/-- In the other lanes it is zero. -/
theorem dz_out {x : Fin 128} (hx : ¬(6 ≤ x.val ∧ x.val < 12)) (w z : EReal) : dz x w z = 0 := by
  obtain ⟨r, hr, er⟩ := em_real z
  unfold dz
  rw [er, keep_out hx, keep_out hx]
  have hp : 1 + r ≠ 0 := by positivity
  have h1 : (1 + (r : EReal)) = ((1 + r : ℝ) : EReal) := by norm_cast
  rw [h1, Ideal.div_coe hp, zero_mul, zero_mul]
  simp

end Cert.Softplus

end
-- ==== Proof.GatesKernel.lean ====
module

public import proofs.«01_k».proof.Proof.Gen.GatesIdeal.Value
public import Idealize.ShloMosaic.Lib.Pipeline.ValueKit
public import Idealize.ShloMosaic.Lib.Pointwise
public import proofs.«01_k».proof.Proof.GatesMath

@[expose] public section

set_option maxRecDepth 16384

noncomputable section

namespace Cert.GatesIdeal.Pf

open Idealize.ShloMosaic Idealize.ShloMosaic.TcCoe Idealize.SL.Sem
open Idealize.ShloMosaic.Pipeline (Dat)
open Cert.GatesIdeal Cert.GatesIdeal.Gen

variable (m : (ℓ : Loc nD τ sig) → Buf (Elt Ideal) ℓ)

section
variable (c : Dev nD) (i : grid0.Coords) (a1 : Memref sig .tc .vmem S512x128 .bf16) (h1 : a1.IsWhole)
  (a2 : Memref sig .tc .vmem S1x128 .f32) (h2 : a2.IsWhole) (a3 : Memref sig .tc .vmem S1x128 .f32) (h3 : a3.IsWhole)
  (a4 : Memref sig .tc .vmem S6x512x128 .f32) (h4 : a4.IsWhole) (a5 : Memref sig .tc .vmem S512x128 .bf16) (h5 : a5.IsWhole)
  (a6 : Memref sig .tc .vmem S1x128 .f32) (h6 : a6.IsWhole) (a7 : Memref sig .tc .vmem S1x128 .f32) (h7 : a7.IsWhole)
  (X : FVec Ideal S512x128 .bf16) (L B : FVec Ideal S1x128 .f32) (D : FVec Ideal S6x512x128 .f32)
  (Z Y : FVec Ideal S1x128 .f32) (r : Fin 512) (x : Fin 128)

/-- The cotangent of the gates' products, in a lane. -/
def ct (D : FVec Ideal S6x512x128 .f32) (r : Fin 512) (x : Fin 128) : EReal := ∑ k : Fin 6, D (ix3 k r x)

/-- The gradient of the pre-activation of a decay gate. -/
def dzb (X : FVec Ideal S512x128 .bf16) (L B : FVec Ideal S1x128 .f32) (D : FVec Ideal S6x512x128 .f32) (r : Fin 512) (x : Fin 128) : EReal :=
  Cert.Softplus.dz x ((0 - Ideal.exp (L (ix2 0 x))) * ct D r x) (X (ix2 r x) + B (ix2 0 x))

/-- What a point writes of the gradient of the pre-activations. -/
def dxb (X : FVec Ideal S512x128 .bf16) (L B : FVec Ideal S1x128 .f32) (D : FVec Ideal S6x512x128 .f32) (r : Fin 512) (x : Fin 128) : EReal :=
  dzb X L B D r x + if x.val < 6 then ct D r x * (Ideal.logistic (X (ix2 r x)) * (1 - Ideal.logistic (X (ix2 r x)))) else 0

/-- What a point adds to the gradient of the logarithms of the rates. -/
def dlb (X : FVec Ideal S512x128 .bf16) (L B : FVec Ideal S1x128 .f32) (D : FVec Ideal S6x512x128 .f32) (x : Fin 128) : EReal :=
  (0 - ∑ r : Fin 512, Cert.Softplus.keep x (ct D r x * Cert.Softplus.sp (X (ix2 r x) + B (ix2 0 x)))) * Ideal.exp (L (ix2 0 x))

theorem dx_A (hc0 : cond0_0 i) (hc1 : cond0_1 i) :
    out0_A_4 (F := Ideal) c i a1 h1 a2 h2 a3 h3 a4 h4 a5 h5 a6 h6 a7 h7 hc0 hc1 X L B D (ix2 r x)
      = dxb X L B D r x := by
  frame_out
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20, k0_pay21, k0_pay22]
  simp only [Cert.Softplus.sel6, Cert.Softplus.sel12]
  rfl

theorem dx_B (hc0 : ¬cond0_0 i) (hc1 : ¬cond0_1 i) :
    out0_B_4 (F := Ideal) c i a1 h1 a2 h2 a3 h3 a4 h4 a5 h5 a6 h6 a7 h7 hc0 hc1 X L B D Z Y (ix2 r x)
      = dxb X L B D r x := by
  frame_out
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20, k0_pay21, k0_pay22]
  simp only [Cert.Softplus.sel6, Cert.Softplus.sel12]
  rfl

theorem dl_A (hc0 : cond0_0 i) (hc1 : cond0_1 i) :
    out0_A_5 (F := Ideal) c i a1 h1 a2 h2 a3 h3 a4 h4 a5 h5 a6 h6 a7 h7 hc0 hc1 X L B D (ix2 0 x)
      = dlb X L B D x := by
  frame_out
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20, k0_pay21, k0_pay22]
  simp only [Cert.Softplus.sel6, Cert.Softplus.sel12]
  rfl

theorem dl_B (hc0 : ¬cond0_0 i) (hc1 : ¬cond0_1 i) :
    out0_B_5 (F := Ideal) c i a1 h1 a2 h2 a3 h3 a4 h4 a5 h5 a6 h6 a7 h7 hc0 hc1 X L B D Z Y (ix2 0 x)
      = Z (ix2 0 x) + dlb X L B D x := by
  frame_out
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20, k0_pay21, k0_pay22]
  simp only [Cert.Softplus.sel6, Cert.Softplus.sel12]
  rfl

theorem db_A (hc0 : cond0_0 i) (hc1 : cond0_1 i) :
    out0_A_6 (F := Ideal) c i a1 h1 a2 h2 a3 h3 a4 h4 a5 h5 a6 h6 a7 h7 hc0 hc1 X L B D (ix2 0 x)
      = ∑ r : Fin 512, dzb X L B D r x := by
  frame_out
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20, k0_pay21, k0_pay22]
  simp only [Cert.Softplus.sel6, Cert.Softplus.sel12]
  rfl

theorem db_B (hc0 : ¬cond0_0 i) (hc1 : ¬cond0_1 i) :
    out0_B_6 (F := Ideal) c i a1 h1 a2 h2 a3 h3 a4 h4 a5 h5 a6 h6 a7 h7 hc0 hc1 X L B D Z Y (ix2 0 x)
      = Y (ix2 0 x) + ∑ r : Fin 512, dzb X L B D r x := by
  frame_out
  pointwise [k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20, k0_pay21, k0_pay22]
  simp only [Cert.Softplus.sel6, Cert.Softplus.sel12]
  rfl

end
end Cert.GatesIdeal.Pf

end
-- ==== Proof.GatesHost.lean ====
module

public import proofs.«01_k».proof.Proof.GatesKernel
public import Idealize.ShloMosaic.Lib.StableHlo.RunRead

@[expose] public section

set_option maxRecDepth 16384

noncomputable section

/-! The arrays that the kernel for the gates' gradients reads: the gates' columns and the two rows, with zeros in the spare lanes. -/

namespace Cert.GatesIdeal.Pf

open Idealize.ShloMosaic Idealize.ShloMosaic.TcCoe Idealize.SL.Sem
open Idealize.ShloMosaic.Pipeline (Dat)
open Cert.GatesIdeal Cert.GatesIdeal.Gen

variable (m : (ℓ : Loc nD τ sig) → Buf (Elt Ideal) ℓ)

/-- The filling value is zero. -/
theorem fill_zero (j : S_.Idx) : (sitofp .f32 (constantI S_ 32 0#32) : FVec Ideal S_ .f32) j = 0 := by
  show (((0#32 : BitVec 32).toInt : ℝ) : EReal) = 0
  simp

/-- A row of six behind six spare lanes, in its own lanes. -/
theorem row_in (A : FVec Ideal S1x6 .f32) (z : FVec Ideal S_ .f32) (x : Fin 128) (h : 6 ≤ x.val ∧ x.val < 12) :
    pad S1x128 ![0, 6] ![0, 116] ![0, 0] A z pads_S1x6_S1x128_000_61160 h_S_ (ix2 0 x) = A (ix2 0 ⟨x.val - 6, by omega⟩) := by
  pointwise
  rw [dif_pos (by omega)]

/-- The same row in the other lanes. -/
theorem row_out (A : FVec Ideal S1x6 .f32) (z : FVec Ideal S_ .f32) (hz : ∀ j, z j = 0) (x : Fin 128) (h : ¬(6 ≤ x.val ∧ x.val < 12)) :
    pad S1x128 ![0, 6] ![0, 116] ![0, 0] A z pads_S1x6_S1x128_000_61160 h_S_ (ix2 0 x) = 0 := by
  pointwise
  rw [dif_neg (by omega), hz]

/-- The gates' twelve columns, in their own lanes. -/
theorem cols_in (A : FVec Ideal S16384x12 .f32) (z : FVec Ideal S_ .f32) (r : Fin 16384) (x : Fin 128) (h : x.val < 12) :
    pad S16384x128 ![0, 0] ![0, 116] ![0, 0] A z pads_S16384x12_S16384x128_000_01160 h_S_ (ix2 r x) = A (ix2 r ⟨x.val, h⟩) := by
  pointwise
  rw [dif_pos h]

theorem cols_out (A : FVec Ideal S16384x12 .f32) (z : FVec Ideal S_ .f32) (hz : ∀ j, z j = 0) (r : Fin 16384) (x : Fin 128)
    (h : ¬x.val < 12) :
    pad S16384x128 ![0, 0] ![0, 116] ![0, 0] A z pads_S16384x12_S16384x128_000_01160 h_S_ (ix2 r x) = 0 := by
  pointwise
  rw [dif_neg h, hz]

theorem cat3 (x0 : FVec Ideal S16384x3072 .f32) (x1 : FVec Ideal S16384x256 .f32) (x2 : FVec Ideal S16384x128 .f32) (hc)
    (r : Fin 16384) (x : Fin 128) :
    concatenate S16384x3456 1 [⟨S16384x3072, x0⟩, ⟨S16384x256, x1⟩, ⟨S16384x128, x2⟩] hc (ix2 r ⟨3328 + x.val, by omega⟩)
      = x2 (ix2 r x) := by
  pointwise
  rw [dif_neg (by omega), dif_neg (by omega)]
  congr 2
  exact Fin.ext (by simp only; omega)

/-- The arrays before the columns are laid side by side. -/
def mid (c : Dev nD) : Valuation τ sig (Elt Ideal) :=
  StableHlo.after hostOps0_1 (StableHlo.after hostOps0 fun b => m (c, b))

/-- The arrays after it. -/
def mid2 (c : Dev nD) : Valuation τ sig (Elt Ideal) := StableHlo.after hostOps0_2 (mid m c)

/-- A row of six values in its lanes, zeros beside it. -/
def padRow (A : FVec Ideal S6 .f32) : FVec Ideal S1x128 .f32 :=
  pad S1x128 ![0, 6] ![0, 116] ![0, 0] (shapeCast S1x6 A shapeCasts_S6_S1x6 : FVec Ideal S1x6 .f32)
    (sitofp .f32 (constantI S_ 32 0#32)) pads_S1x6_S1x128_000_61160 h_S_

/-- The gates' columns in their lanes, zeros beside them. -/
def padCols (A : FVec Ideal S16384x3340 .f32) : FVec Ideal S16384x128 .f32 :=
  pad S16384x128 ![0, 0] ![0, 116] ![0, 0]
    (extractStridedSlice S16384x12 ![0, 3072] A slices_S16384x3340_S16384x12_0_3072 : FVec Ideal S16384x12 .f32)
    (sitofp .f32 (constantI S_ 32 0#32)) pads_S16384x12_S16384x128_000_01160 h_S_

theorem padRow_in (A : FVec Ideal S6 .f32) (x : Fin 128) (h : 6 ≤ x.val ∧ x.val < 12) :
    padRow A (ix2 0 x) = A (ix1 ⟨x.val - 6, by omega⟩) := by
  refine (row_in _ _ x h).trans ?_
  pointwise

theorem padRow_out (A : FVec Ideal S6 .f32) (x : Fin 128) (h : ¬(6 ≤ x.val ∧ x.val < 12)) : padRow A (ix2 0 x) = 0 :=
  row_out _ _ fill_zero x h

theorem padCols_in (A : FVec Ideal S16384x3340 .f32) (r : Fin 16384) (x : Fin 128) (h : x.val < 12) :
    padCols A (ix2 r x) = A (ix2 r ⟨3072 + x.val, by omega⟩) := by
  refine (cols_in _ _ r x h).trans ?_
  pointwise

theorem padCols_out (A : FVec Ideal S16384x3340 .f32) (r : Fin 16384) (x : Fin 128) (h : ¬x.val < 12) : padCols A (ix2 r x) = 0 :=
  cols_out _ _ fill_zero r x h

theorem mid_v1 (c : Dev nD) : mid m c main_v1 = padCols (m ((c : Thread nD τ).loc main_arg0)) := by
  unfold mid; after_reads_simp; rfl

theorem mid2_v6 (c : Dev nD) : mid2 m c main_v6 = (shapeCast S1x6 (m ((c : Thread nD τ).loc main_arg1) : FVec Ideal S6 .f32) shapeCasts_S6_S1x6 : FVec Ideal S1x6 .f32) := by
  unfold mid2 mid; after_reads_simp; rfl

theorem mid2_arg2 (c : Dev nD) : mid2 m c main_arg2 = m ((c : Thread nD τ).loc main_arg2) := by
  unfold mid2 mid; after_reads_simp

/-- The logarithms of the rates. -/
theorem host_v7 (c : Dev nD) : V m c main_v7 = padRow (m ((c : Thread nD τ).loc main_arg1)) := by
  show StableHlo.after hostOps0_5 (StableHlo.after hostOps0_4 (StableHlo.after hostOps0_3 (mid2 m c))) main_v7 = _
  after_reads_simp
  rw [mid2_v6]
  rfl

/-- The biases. -/
theorem host_v9 (c : Dev nD) : V m c main_v9 = padRow (m ((c : Thread nD τ).loc main_arg2)) := by
  show StableHlo.after hostOps0_5 (StableHlo.after hostOps0_4 (StableHlo.after hostOps0_3 (mid2 m c))) main_v9 = _
  after_reads_simp
  rw [mid2_arg2]
  rfl

/-- The pre-activations, behind the first 3328 columns. -/
theorem host_v5 (c : Dev nD) (r : Fin 16384) (x : Fin 128) :
    V m c main_v5 (ix2 r ⟨3328 + x.val, by omega⟩) = padCols (m ((c : Thread nD τ).loc main_arg0)) (ix2 r x) := by
  show StableHlo.after (hostOps0_2 ++ hostOps0_3 ++ hostOps0_4 ++ hostOps0_5) (mid m c) main_v5 (ix2 r ⟨3328 + x.val, by omega⟩) = _
  rw [StableHlo.after_last_write (r := main_v5) (i := 3) [main_v6, main_c_0, main_call1_v0, main_v7, main_v8, main_c_1, main_call2_v0, main_v9] rfl rfl (by decide) (mid m c),
    StableHlo.unary_result', StableHlo.upto_last_write (r := main_v4) (i := 2) [] rfl rfl (by decide) (mid m c)]
  refine (congrFun (congrArg (fun f => (truncf .bf16 f bitsLt_bf16_f32 : FVec Ideal S16384x3456 .bf16))
    (StableHlo.nary_result' ![main_v2, main_v3, main_v1] _ _ _ _)) _).trans ?_
  refine (cat3 _ _ _ concatenates_S16384x3072_S16384x256_S16384x128_S16384x3456_d1 r x).trans ?_
  dsimp only [Matrix.cons_val]
  after_reads_simp
  rw [mid_v1]

/-- Every window's block at point `t`. -/
theorem idx : ∀ t : Fin cfg0.N, win0_0.index t = ![t.val, 26] ∧ win0_1.index t = ![0, 0] ∧ win0_2.index t = ![0, 0]
    ∧ win0_3.index t = ![0, t.val, 0] ∧ win0_4.index t = ![t.val, 0] ∧ win0_5.index t = ![0, 0] ∧ win0_6.index t = ![0, 0] :=
  (by decide +kernel : ∀ t : Fin grid0.N, _)

/-- The rows of the pre-activations that point `t` reads. -/
theorem blk0 (c : Dev nD) (t : Fin cfg0.N) (r : Fin 512) (x : Fin 128) (q : Fin 16384) (hq : q.val = t.val * 512 + r.val) :
    iblk m c 0 t (ix2 r x) = padCols (m ((c : Thread nD τ).loc main_arg0)) (ix2 q x) := by
  refine Eq.trans ?_ (host_v5 m c q x)
  unfold iblk; blk_ext [idx t]

theorem blk1 (c : Dev nD) (t : Fin cfg0.N) (x : Fin 128) :
    iblk m c 1 t (ix2 0 x) = padRow (m ((c : Thread nD τ).loc main_arg1)) (ix2 0 x) := by
  refine Eq.trans ?_ (congrFun (host_v7 m c) _)
  unfold iblk; blk_ext [idx t]

theorem blk2 (c : Dev nD) (t : Fin cfg0.N) (x : Fin 128) :
    iblk m c 2 t (ix2 0 x) = padRow (m ((c : Thread nD τ).loc main_arg2)) (ix2 0 x) := by
  refine Eq.trans ?_ (congrFun (host_v9 m c) _)
  unfold iblk; blk_ext [idx t]

/-- The rows of the cotangent. -/
theorem blk3 (c : Dev nD) (t : Fin cfg0.N) (k : Fin 6) (r : Fin 512) (x : Fin 128) (q : Fin 16384) (hq : q.val = t.val * 512 + r.val) :
    iblk m c 3 t (ix3 k r x) = m ((c : Thread nD τ).loc main_arg3) (ix3 k q x) := by
  unfold iblk; entry_read; blk_simp; pointwise; blk_ext [idx t]

end Cert.GatesIdeal.Pf

end
-- ==== Proof.GatesArr.lean ====
module

public import proofs.«01_k».proof.Proof.GatesHost

@[expose] public section

set_option maxRecDepth 16384

noncomputable section

/-! What the kernel for the gates' gradients leaves in its three result arrays. -/

namespace Cert.GatesIdeal.Pf

open Idealize.ShloMosaic Idealize.ShloMosaic.TcCoe Idealize.SL.Sem
open Idealize.ShloMosaic.Pipeline (Dat)
open Cert.GatesIdeal Cert.GatesIdeal.Gen

variable (m : (ℓ : Loc nD τ sig) → Buf (Elt Ideal) ℓ)

/-- What a point writes of the gradient of the pre-activations. -/
theorem rows (c : Dev nD) (t : Fin cfg0.N) (r : Fin 512) (x : Fin 128) : (outsAt0 m c t.val t.isLt).1 (ix2 r x)
    = dxb (iblk m c 0 t) (iblk m c 1 t) (iblk m c 2 t) (iblk m c 3 t) r x := by
  by_cases h : t.val % 32 = 0
  · rw [outsAt0_A m c t h h]
    dsimp only
    exact dx_A c _ _ _ _ _ _ _ _ _ _ _ _ _ _ _ (iblk m c 0 t) (iblk m c 1 t) (iblk m c 2 t) (iblk m c 3 t) r x _ _
  · rw [outsAt0_B m c t h h]
    dsimp only
    exact dx_B c _ _ _ _ _ _ _ _ _ _ _ _ _ _ _ (iblk m c 0 t) (iblk m c 1 t) (iblk m c 2 t) (iblk m c 3 t) _ _ r x _ _

/-- The gradient of the logarithms of the rates after point `t`. -/
theorem acc_dl (c : Dev nD) (t : Fin cfg0.N) (x : Fin 128) : (outsAt0 m c t.val t.isLt).2.1 (ix2 0 x)
    = 0 + ∑ s : Fin (t.val % 32 + 1), dlb (iblk m c 0 ⟨32 * (t.val / 32) + s.val, Pipeline.run_point_lt t rfl s⟩)
        (iblk m c 1 ⟨32 * (t.val / 32) + s.val, Pipeline.run_point_lt t rfl s⟩)
        (iblk m c 2 ⟨32 * (t.val / 32) + s.val, Pipeline.run_point_lt t rfl s⟩)
        (iblk m c 3 ⟨32 * (t.val / 32) + s.val, Pipeline.run_point_lt t rfl s⟩) x := by
  refine Pipeline.eq_sum_fin_of_reset_step_apply (fun n h (p : Fin 128) => (outsAt0 m c n h).2.1 (ix2 0 p)) 32 (fun _ => 0)
    (fun t p => dlb (iblk m c 0 t) (iblk m c 1 t) (iblk m c 2 t) (iblk m c 3 t) p) (fun t h p => ?_) (fun t h p => ?_) t x
  · beta_reduce
    rw [outsAt0_A m c t h h, zero_add]
    dsimp only
    exact dl_A c _ _ _ _ _ _ _ _ _ _ _ _ _ _ _ (iblk m c 0 t) (iblk m c 1 t) (iblk m c 2 t) (iblk m c 3 t) p _ _
  · beta_reduce
    rw [outsAt0_B m c t h h]
    dsimp only
    exact dl_B c _ _ _ _ _ _ _ _ _ _ _ _ _ _ _ (iblk m c 0 t) (iblk m c 1 t) (iblk m c 2 t) (iblk m c 3 t) _ _ p _ _

/-- The gradient of the biases after point `t`. -/
theorem acc_db (c : Dev nD) (t : Fin cfg0.N) (x : Fin 128) : (outsAt0 m c t.val t.isLt).2.2 (ix2 0 x)
    = 0 + ∑ s : Fin (t.val % 32 + 1), ∑ r : Fin 512, dzb (iblk m c 0 ⟨32 * (t.val / 32) + s.val, Pipeline.run_point_lt t rfl s⟩)
        (iblk m c 1 ⟨32 * (t.val / 32) + s.val, Pipeline.run_point_lt t rfl s⟩)
        (iblk m c 2 ⟨32 * (t.val / 32) + s.val, Pipeline.run_point_lt t rfl s⟩)
        (iblk m c 3 ⟨32 * (t.val / 32) + s.val, Pipeline.run_point_lt t rfl s⟩) r x := by
  refine Pipeline.eq_sum_fin_of_reset_step_apply (fun n h (p : Fin 128) => (outsAt0 m c n h).2.2 (ix2 0 p)) 32 (fun _ => 0)
    (fun t p => ∑ r : Fin 512, dzb (iblk m c 0 t) (iblk m c 1 t) (iblk m c 2 t) (iblk m c 3 t) r p) (fun t h p => ?_) (fun t h p => ?_) t x
  · beta_reduce
    rw [outsAt0_A m c t h h, zero_add]
    dsimp only
    exact db_A c _ _ _ _ _ _ _ _ _ _ _ _ _ _ _ (iblk m c 0 t) (iblk m c 1 t) (iblk m c 2 t) (iblk m c 3 t) p _ _
  · beta_reduce
    rw [outsAt0_B m c t h h]
    dsimp only
    exact db_B c _ _ _ _ _ _ _ _ _ _ _ _ _ _ _ (iblk m c 0 t) (iblk m c 1 t) (iblk m c 2 t) (iblk m c 3 t) _ _ p _ _

/-- The cotangent of the gates' products, summed over the heads. -/
def ctq (d : FVec Ideal S6x16384x128 .f32) (q : Fin 16384) (x : Fin 128) : EReal := ∑ k : Fin 6, d (ix3 k q x)

/-- The pre-activation of a gate. -/
def pre (a : FVec Ideal S16384x3340 .f32) (b : FVec Ideal S6 .f32) (q : Fin 16384) (x : Fin 128) : EReal :=
  padCols a (ix2 q x) + padRow b (ix2 0 x)

/-- The gradient of the pre-activation of a decay gate. -/
def gz (a : FVec Ideal S16384x3340 .f32) (l b : FVec Ideal S6 .f32) (d : FVec Ideal S6x16384x128 .f32) (q : Fin 16384) (x : Fin 128) : EReal :=
  Cert.Softplus.dz x ((0 - Ideal.exp (padRow l (ix2 0 x))) * ctq d q x) (pre a b q x)

/-- The whole gradient of the pre-activations. -/
def DX (a : FVec Ideal S16384x3340 .f32) (l b : FVec Ideal S6 .f32) (d : FVec Ideal S6x16384x128 .f32) : FVec Ideal S16384x128 .bf16 := fun i =>
  gz a l b d (i 0) (i 1) + if (i 1).val < 6 then ctq d (i 0) (i 1)
    * (Ideal.logistic (padCols a (ix2 (i 0) (i 1))) * (1 - Ideal.logistic (padCols a (ix2 (i 0) (i 1))))) else 0

/-- The whole gradient of the biases. -/
def DB (a : FVec Ideal S16384x3340 .f32) (l b : FVec Ideal S6 .f32) (d : FVec Ideal S6x16384x128 .f32) : FVec Ideal S1x128 .f32 := fun i =>
  ∑ q : Fin 16384, gz a l b d q (i 1)

/-- A point's cotangent is the whole array's. -/
theorem ct_blk (c : Dev nD) (t : Fin cfg0.N) (r : Fin 512) (x : Fin 128) (q : Fin 16384) (hq : q.val = t.val * 512 + r.val) :
    ct (iblk m c 3 t) r x = ctq (m ((c : Thread nD τ).loc main_arg3)) q x := by
  unfold ct ctq
  exact Finset.sum_congr rfl fun k _ => blk3 m c t k r x q hq

theorem dzb_blk (c : Dev nD) (t : Fin cfg0.N) (r : Fin 512) (x : Fin 128) (q : Fin 16384) (hq : q.val = t.val * 512 + r.val) :
    dzb (iblk m c 0 t) (iblk m c 1 t) (iblk m c 2 t) (iblk m c 3 t) r x = gz (m ((c : Thread nD τ).loc main_arg0))
      (m ((c : Thread nD τ).loc main_arg1)) (m ((c : Thread nD τ).loc main_arg2)) (m ((c : Thread nD τ).loc main_arg3)) q x := by
  unfold dzb
  rw [ct_blk m c t r x q hq, blk0 m c t r x q hq, blk1 m c t x, blk2 m c t x]
  rfl

/-- The array of the pre-activations' gradient after the run. -/
theorem final_dx (c : Dev nD) : (dats m 0 c).arrAt 4 (cfgs 0).N = DX (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 32 := lt_of_lt_of_eq t.isLt N_0
  blk_simp
  rw [after0_4]
  idx_vars y
  have hy := y0.isLt
  have e : ((View.whole main_v10_0).slice (win0_4.rect t)).emb (ix2 y0 y1) = ix2 (⟨t.val * 512 + y0.val, by omega⟩ : Fin 16384) y1 := by
    blk_ext [idx t]
  rw [e]
  refine (rows m c t y0 y1).trans ?_
  unfold dxb
  rw [dzb_blk m c t y0 y1 ⟨t.val * 512 + y0.val, by omega⟩ rfl, ct_blk m c t y0 y1 ⟨t.val * 512 + y0.val, by omega⟩ rfl,
    blk0 m c t y0 y1 ⟨t.val * 512 + y0.val, by omega⟩ rfl]
  rfl

/-- The array of the biases' gradient after the run. -/
theorem final_db (c : Dev nD) : (dats m 0 c).arrAt 6 (cfgs 0).N = DB (m ((c : Thread nD τ).loc main_arg0))
    (m ((c : Thread nD τ).loc main_arg1)) (m ((c : Thread nD τ).loc main_arg2)) (m ((c : Thread nD τ).loc main_arg3)) := by
  refine (dats m 0 c).arrAt_eq_of_covers 6 _ (by decide +kernel) fun t hf y => ?_
  have h31 : t.val % 32 = 31 := (flush0_6 t).mp hf
  have ht : t.val < 32 := lt_of_lt_of_eq t.isLt N_0
  blk_simp
  rw [after0_6]
  idx_vars y
  obtain rfl : y0 = 0 := Subsingleton.elim _ _
  have e : ((View.whole main_v10_2).slice (win0_6.rect t)).emb (ix2 0 y1) = ix2 0 y1 := by
    blk_ext [idx t]
  rw [e]
  refine (acc_db m c t y1).trans ?_
  rw [zero_add]
  refine Fin.sum_mul_add_congr (fun s k hl => ?_) (by rw [h31])
  have hs : s.val < 32 := by have := s.isLt; omega
  exact dzb_blk m c _ k y1 ⟨s.val * 512 + k.val, hl⟩ (by simp only; omega)

/-- The array of the gradient of the rates' logarithms after the run, where the entries that enter it are real numbers. -/
theorem final_dl (c : Dev nD) (g : Fin 16384 → Fin 128 → ℝ) (e : Fin 128 → ℝ)
    (hg : ∀ q x, Cert.Softplus.keep x (ctq (m ((c : Thread nD τ).loc main_arg3)) q x
      * Cert.Softplus.sp (pre (m ((c : Thread nD τ).loc main_arg0)) (m ((c : Thread nD τ).loc main_arg2)) q x)) = (g q x : EReal))
    (he : ∀ x, Ideal.exp (padRow (m ((c : Thread nD τ).loc main_arg1)) (ix2 0 x)) = (e x : EReal)) :
    (dats m 0 c).arrAt 5 (cfgs 0).N = (fun i => ∑ q : Fin 16384, ((-g q (i 1) * e (i 1) : ℝ) : EReal) : FVec Ideal S1x128 .f32) := by
  refine (dats m 0 c).arrAt_eq_of_covers 5 _ (by decide +kernel) fun t hf y => ?_
  have h31 : t.val % 32 = 31 := (flush0_5 t).mp hf
  have ht : t.val < 32 := lt_of_lt_of_eq t.isLt N_0
  blk_simp
  rw [after0_5]
  idx_vars y
  obtain rfl : y0 = 0 := Subsingleton.elim _ _
  have e0 : ((View.whole main_v10_1).slice (win0_5.rect t)).emb (ix2 0 y1) = ix2 0 y1 := by
    blk_ext [idx t]
  rw [e0]
  refine (acc_dl m c t y1).trans ?_
  rw [zero_add]
  have part : ∀ n (hn : n < cfg0.N) (hn' : n < 32), dlb (iblk m c 0 ⟨n, hn⟩) (iblk m c 1 ⟨n, hn⟩) (iblk m c 2 ⟨n, hn⟩) (iblk m c 3 ⟨n, hn⟩) y1
      = ∑ k : Fin 512, ((-g ⟨n * 512 + k.val, by have := k.isLt; omega⟩ y1 * e y1 : ℝ) : EReal) := fun n hn hn' => by
    unfold dlb
    have inner : ∀ k : Fin 512, Cert.Softplus.keep y1 (ct (iblk m c 3 ⟨n, hn⟩) k y1 * Cert.Softplus.sp
        (@HAdd.hAdd EReal EReal EReal _ (iblk m c 0 ⟨n, hn⟩ (ix2 k y1)) (iblk m c 2 ⟨n, hn⟩ (ix2 0 y1))))
        = (g ⟨n * 512 + k.val, by have := k.isLt; omega⟩ y1 : EReal) := fun k => by
      rw [ct_blk m c ⟨n, hn⟩ k y1 ⟨n * 512 + k.val, by have := k.isLt; omega⟩ rfl,
        blk0 m c ⟨n, hn⟩ k y1 ⟨n * 512 + k.val, by have := k.isLt; omega⟩ rfl, blk2 m c ⟨n, hn⟩ y1]
      exact hg _ _
    rw [Finset.sum_congr rfl fun k _ => inner k, blk1 m c ⟨n, hn⟩ y1, he, Cert.Finite.coe_sum, Cert.Finite.coe_sum, ← Finset.sum_mul,
      Finset.sum_neg_distrib, zero_sub]
    norm_cast
  rw [Finset.sum_congr rfl fun s _ => part (32 * (t.val / 32) + s.val) _ (by have := s.isLt; omega)]
  refine Fin.sum_mul_add_congr (fun s k hl => ?_) (by rw [h31])
  have hs : s.val < 32 := by have := s.isLt; omega
  have h0 : 32 * (t.val / 32) + s.val = s.val := by omega
  simp only [h0]
  rfl

end Cert.GatesIdeal.Pf

end
-- ==== Proof.GatesRef.lean ====
module

public import proofs.«01_k».proof.Proof.Gen.GatesRefIdeal.Read
public import proofs.«01_k».proof.Proof.GatesArr

@[expose] public section

set_option maxRecDepth 16384

noncomputable section

/-! The gates' gradients that the reference computes, at real arguments. -/

namespace Cert.GatesRefIdeal.Pf

open Idealize.ShloMosaic Idealize.ShloMosaic.TcCoe
open Cert.GatesRefIdeal Cert.GatesRefIdeal.Gen Cert.GatesRefIdeal.Read

/-- The pre-activation of a decay gate. -/
theorem z_eq (x0 : FVec Ideal S16384x3340 .f32) (x2 : FVec Ideal S6 .f32) (q : Fin 16384) (j : Fin 6) :
    val_main_v18 (F := Ideal) x0 x2 (ix2 q j) = x0 (ix2 q ⟨3078 + j.val, by omega⟩) + x2 (ix1 j) := by
  pointwise [val_main_v18, val_main_v17, val_main_v16, val_main_v2]

/-- Softplus of a real pre-activation. -/
theorem sp_eq (x0 : FVec Ideal S16384x3340 .f32) (x2 : FVec Ideal S6 .f32) (q : Fin 16384) (j : Fin 6) (z : ℝ)
    (hz : val_main_v18 (F := Ideal) x0 x2 (ix2 q j) = (z : EReal)) :
    val_main_v19_0 (F := Ideal) x0 x2 (ix2 q j) = (Cert.Softplus.spr z : EReal) := by
  rw [← Cert.Softplus.sp_coe]
  pointwise [val_main_v19_0, val_main_call0_v11, val_main_call0_v10, val_main_call0_v9, val_main_call0_v8, val_main_call0_v7, val_main_call0_v6,
    val_main_call0_v5, val_main_call0_v4, val_main_call0_v3, val_main_call0_v2, val_main_call0_v1, val_main_call0_v0, val_main_call0_cst]
  simp only [hz]
  rw [if_neg (fun h => h rfl)]
  unfold Cert.Softplus.sp Cert.Softplus.em
  rw [zero_sub]
  rfl

/-- Its derivative. -/
theorem sg_eq (x0 : FVec Ideal S16384x3340 .f32) (x2 : FVec Ideal S6 .f32) (q : Fin 16384) (j : Fin 6) (z : ℝ)
    (hz : val_main_v18 (F := Ideal) x0 x2 (ix2 q j) = (z : EReal)) :
    val_main_v19_1 (F := Ideal) x0 x2 (ix2 q j) = (((1 + Real.exp (-z))⁻¹ : ℝ) : EReal) := by
  have hs := sp_eq x0 x2 q j z hz
  rw [← Cert.Softplus.exp_sub_spr]
  pointwise [val_main_v19_1, val_main_call0_v21, val_main_call0_v20, val_main_call0_v19, val_main_call0_v18, val_main_call0_v17, val_main_call0_v16,
    val_main_call0_v15, val_main_call0_v14, val_main_call0_v13, val_main_call0_cst_0, val_main_call0_cst_1, val_main_call0_cst_2, val_main_call0_cst_3]
  simp only [hz, hs]
  rw [Cert.Finite.inf_word, if_neg (EReal.coe_ne_top _), if_neg (EReal.coe_ne_top _), ← EReal.coe_sub, Ideal.exp_coe]

/-- The gradient of a decay gate's pre-activation. -/
theorem dz_eq (x0 : FVec Ideal S16384x3340 .f32) (x1 x2 : FVec Ideal S6 .f32) (x3 : FVec Ideal S6x16384x128 .f32) (q : Fin 16384) (j : Fin 6) :
    val_main_v31 (F := Ideal) x0 x1 x2 x3 (ix2 q j) = ((0 - Ideal.exp (x1 (ix1 j))) * ∑ k : Fin 6, x3 (ix3 k q ⟨6 + j.val, by omega⟩))
      * val_main_v19_1 (F := Ideal) x0 x2 (ix2 q j) := by
  pointwise [val_main_v31, val_main_v26, val_main_v25, val_main_v24, val_main_v20, val_main_v15, val_main_v14, val_main_v4, val_main_cst]
  rw [zero_sub]

/-- The gradient of an update gate's pre-activation. -/
theorem du_eq (x0 : FVec Ideal S16384x3340 .f32) (x3 : FVec Ideal S6x16384x128 .f32) (q : Fin 16384) (j : Fin 6) :
    val_main_v37 (F := Ideal) x0 x3 (ix2 q j) = (∑ k : Fin 6, x3 (ix3 k q ⟨j.val, by omega⟩))
      * (Ideal.logistic (x0 (ix2 q ⟨3072 + j.val, by omega⟩)) * (1 - Ideal.logistic (x0 (ix2 q ⟨3072 + j.val, by omega⟩)))) := by
  pointwise [val_main_v37, val_main_v23, val_main_v13, val_main_v12, val_main_v11, val_main_cst_2, val_main_v10, val_main_v9, val_main_cst_1,
    val_main_v8, val_main_v7, val_main_cst_0, val_main_v6, val_main_v5, val_main_v1, val_main_v4, val_main_cst]
  rfl

/-- The gradient of a bias. -/
theorem db_eq (x0 : FVec Ideal S16384x3340 .f32) (x1 x2 : FVec Ideal S6 .f32) (x3 : FVec Ideal S6x16384x128 .f32) (j : Fin 6) :
    val_main_v34 (F := Ideal) x0 x1 x2 x3 (ix1 j) = ∑ q : Fin 16384, val_main_v31 (F := Ideal) x0 x1 x2 x3 (ix2 q j) := by
  pointwise [val_main_v34, val_main_v33, val_main_v32, val_main_cst_5, val_main_cst_6]
  simp only [Finset.univ_unique, Finset.sum_singleton]

/-- The gradient of a rate's logarithm. -/
theorem dl_eq (x0 : FVec Ideal S16384x3340 .f32) (x1 x2 : FVec Ideal S6 .f32) (x3 : FVec Ideal S6x16384x128 .f32) (j : Fin 6) :
    val_main_v36 (F := Ideal) x0 x1 x2 x3 (ix1 j) = (0 - ∑ q : Fin 16384, (∑ k : Fin 6, x3 (ix3 k q ⟨6 + j.val, by omega⟩))
      * val_main_v19_0 (F := Ideal) x0 x2 (ix2 q j)) * Ideal.exp (x1 (ix1 j)) := by
  pointwise [val_main_v36, val_main_v35, val_main_v30, val_main_v29, val_main_v28, val_main_cst_3, val_main_cst_4, val_main_v27, val_main_v24,
    val_main_v14, val_main_v4, val_main_cst]
  simp only [Finset.univ_unique, Finset.sum_singleton]
  rw [zero_sub]

end Cert.GatesRefIdeal.Pf

end
-- ==== Proof.GatesEq.lean ====
module

public import proofs.«01_k».proof.Proof.GatesRef

@[expose] public section

set_option maxRecDepth 16384

noncomputable section

/-! For real arguments and pre-activations other than zero, the gates' gradients that the reference computes are the kernel's arrays. -/

namespace Cert.GatesRefIdeal.Pf

open Idealize.ShloMosaic Idealize.ShloMosaic.TcCoe
open Cert.GatesRefIdeal Cert.GatesRefIdeal.Gen Cert.GatesRefIdeal.Read
open Cert.GatesIdeal.Pf (padRow padCols padRow_in padRow_out padCols_in padCols_out row_in row_out cols_in cols_out fill_zero ctq pre gz DX DB)

/-- The lane of an update gate. -/
abbrev lo (j : Fin 6) : Fin 128 := ⟨j.val, by omega⟩

/-- The lane of a decay gate. -/
abbrev hi (j : Fin 6) : Fin 128 := ⟨6 + j.val, by omega⟩

/-- A lane holds an update gate, a decay gate or nothing. -/
theorem lanes (x : Fin 128) : (∃ j : Fin 6, x = lo j) ∨ (∃ j : Fin 6, x = hi j) ∨ 12 ≤ x.val := by
  by_cases h : x.val < 6
  · exact .inl ⟨⟨x.val, h⟩, rfl⟩
  · by_cases h' : x.val < 12
    · exact .inr (.inl ⟨⟨x.val - 6, by omega⟩, Fin.ext (by simp only; omega)⟩)
    · exact .inr (.inr (by omega))

theorem in_hi (j : Fin 6) : 6 ≤ (hi j).val ∧ (hi j).val < 12 := by
  have := j.isLt
  constructor <;> (simp only; omega)

theorem padRow_hi (A : FVec Ideal S6 .f32) (j : Fin 6) : padRow A (ix2 0 (hi j)) = A (ix1 j) := by
  rw [padRow_in A (hi j) (in_hi j)]
  congr 2
  exact Fin.ext (by simp only; omega)

theorem padCols_hi (A : FVec Ideal S16384x3340 .f32) (q : Fin 16384) (j : Fin 6) :
    padCols A (ix2 q (hi j)) = A (ix2 q ⟨3078 + j.val, by omega⟩) := by
  rw [padCols_in A q (hi j) (in_hi j).2]
  congr 2
  exact Fin.ext (by simp only; omega)

theorem padCols_lo (A : FVec Ideal S16384x3340 .f32) (q : Fin 16384) (j : Fin 6) :
    padCols A (ix2 q (lo j)) = A (ix2 q ⟨3072 + j.val, by omega⟩) :=
  padCols_in A q (lo j) (by have := j.isLt; simp only; omega)

/-- The two gates' columns side by side: the update gates first. -/
theorem cat_lo (x0 x1 : FVec Ideal S16384x6 .f32) (hc) (q : Fin 16384) (j : Fin 6) :
    concatenate S16384x12 1 [⟨S16384x6, x0⟩, ⟨S16384x6, x1⟩] hc (ix2 q ⟨j.val, by omega⟩) = x0 (ix2 q j) := by
  pointwise

theorem cat_hi (x0 x1 : FVec Ideal S16384x6 .f32) (hc) (q : Fin 16384) (j : Fin 6) :
    concatenate S16384x12 1 [⟨S16384x6, x0⟩, ⟨S16384x6, x1⟩] hc (ix2 q ⟨6 + j.val, by omega⟩) = x1 (ix2 q j) := by
  pointwise

section
variable (A : FVec Ideal S16384x3340 .f32) (L B : FVec Ideal S6 .f32) (D : FVec Ideal S6x16384x128 .f32)

theorem v40_lo (q : Fin 16384) (j : Fin 6) : val_main_v40 (F := Ideal) A L B D (ix2 q (lo j)) = val_main_v37 (F := Ideal) A D (ix2 q j) :=
  (cols_in (val_main_v38 (F := Ideal) A L B D) _ q (lo j) (by have := j.isLt; simp only; omega)).trans (cat_lo _ _ _ q j)

theorem v40_hi (q : Fin 16384) (j : Fin 6) : val_main_v40 (F := Ideal) A L B D (ix2 q (hi j)) = val_main_v31 (F := Ideal) A L B D (ix2 q j) :=
  (cols_in (val_main_v38 (F := Ideal) A L B D) _ q (hi j) (in_hi j).2).trans (cat_hi _ _ _ q j)

theorem v40_out (q : Fin 16384) (x : Fin 128) (h : 12 ≤ x.val) : val_main_v40 (F := Ideal) A L B D (ix2 q x) = 0 :=
  cols_out (val_main_v38 (F := Ideal) A L B D) _ fill_zero q x (by omega)

theorem v42_hi (j : Fin 6) : val_main_v42 (F := Ideal) A L B D (ix2 0 (hi j)) = val_main_v36 (F := Ideal) A L B D (ix1 j) :=
  padRow_hi (val_main_v36 (F := Ideal) A L B D) j

theorem v42_out (x : Fin 128) (h : ¬(6 ≤ x.val ∧ x.val < 12)) : val_main_v42 (F := Ideal) A L B D (ix2 0 x) = 0 :=
  padRow_out (val_main_v36 (F := Ideal) A L B D) x h

theorem v44_hi (j : Fin 6) : val_main_v44 (F := Ideal) A L B D (ix2 0 (hi j)) = val_main_v34 (F := Ideal) A L B D (ix1 j) :=
  padRow_hi (val_main_v34 (F := Ideal) A L B D) j

theorem v44_out (x : Fin 128) (h : ¬(6 ≤ x.val ∧ x.val < 12)) : val_main_v44 (F := Ideal) A L B D (ix2 0 x) = 0 :=
  padRow_out (val_main_v34 (F := Ideal) A L B D) x h

/-- A padded row of real numbers. -/
theorem padRow_real (b : S6.Idx → ℝ) (x : Fin 128) : ∃ r : ℝ, padRow (fun i => (b i : EReal)) (ix2 0 x) = (r : EReal) := by
  by_cases h : 6 ≤ x.val ∧ x.val < 12
  · exact ⟨_, padRow_in _ x h⟩
  · exact ⟨0, padRow_out _ x h⟩

/-- The sum over the heads of real cotangents. -/
theorem ctq_real (d : S6x16384x128.Idx → ℝ) (q : Fin 16384) (x : Fin 128) : ∃ r : ℝ, ctq (fun i => (d i : EReal)) q x = (r : EReal) :=
  ⟨_, Cert.Finite.coe_sum _ _⟩

/-- The pre-activation that the reference takes softplus of. -/
theorem v18_pre (q : Fin 16384) (j : Fin 6) : val_main_v18 (F := Ideal) A B (ix2 q j) = pre A B q (hi j) := by
  unfold pre
  rw [z_eq, padCols_hi, padRow_hi]
end

section
variable (A : FVec Ideal S16384x3340 .f32) (hA : ∀ (q : Fin 16384) (j : Fin 6), ∃ r : ℝ, A (ix2 q ⟨3078 + j.val, by omega⟩) = (r : EReal))
  (l b : S6.Idx → ℝ) (d : S6x16384x128.Idx → ℝ)

/-- The arrays of real numbers, read as extended reals. -/
abbrev cR (b : S6.Idx → ℝ) : FVec Ideal S6 .f32 := fun i => (b i : EReal)
abbrev cD : FVec Ideal S6x16384x128 .f32 := fun i => (d i : EReal)

include hA in
theorem pre_real (q : Fin 16384) (j : Fin 6) : ∃ r : ℝ, pre A (cR b) q (hi j) = (r : EReal) := by
  obtain ⟨r, hr⟩ := hA q j
  exact ⟨r + b (ix1 j), by unfold pre; rw [padCols_hi, padRow_hi, hr, EReal.coe_add]⟩

/-- The cotangent of softplus is a real number. -/
theorem w_real (q : Fin 16384) (x : Fin 128) :
    ∃ r : ℝ, (0 - Ideal.exp (padRow (cR l) (ix2 0 x))) * ctq (cD d) q x = (r : EReal) := by
  obtain ⟨r, hr⟩ := padRow_real l x
  obtain ⟨s, hs⟩ := ctq_real d q x
  exact ⟨-Real.exp r * s, by rw [hr, hs, Ideal.exp_coe, zero_sub, ← EReal.coe_neg, ← EReal.coe_mul]⟩

include hA in
/-- The kernel's gradient of a decay gate's pre-activation is the reference's. -/
theorem gz_hi (hz : ∀ q j, pre A (cR b) q (hi j) ≠ 0) (q : Fin 16384) (j : Fin 6) :
    gz A (cR l) (cR b) (cD d) q (hi j) = val_main_v31 (F := Ideal) A (cR l) (cR b) (cD d) (ix2 q j) := by
  obtain ⟨z, ez⟩ := pre_real A hA b q j
  obtain ⟨w, ew⟩ := w_real l d q (hi j)
  have nz : z ≠ 0 := fun h => hz q j (by rw [ez, h]; rfl)
  rw [dz_eq, sg_eq _ _ q j z ((v18_pre _ _ q j).trans ez)]
  have ew' : (0 - Ideal.exp (cR l (ix1 j))) * ∑ k : Fin 6, cD d (ix3 k q ⟨6 + j.val, by omega⟩) = (w : EReal) := by
    rw [← ew, padRow_hi]
    rfl
  rw [ew', ← EReal.coe_mul]
  unfold gz
  rw [ez, ew]
  exact Cert.Softplus.dz_in (in_hi j) w z nz

/-- In the other lanes it is zero. -/
theorem gz_out (q : Fin 16384) (x : Fin 128) (h : ¬(6 ≤ x.val ∧ x.val < 12)) : gz A (cR l) (cR b) (cD d) q x = 0 :=
  Cert.Softplus.dz_out h _ _

include hA in
/-- The gradient of the pre-activations. -/
theorem dx_ref (hz : ∀ q j, pre A (cR b) q (hi j) ≠ 0) :
    val_main_v40 (F := Ideal) A (cR l) (cR b) (cD d) = DX A (cR l) (cR b) (cD d) := by
  funext i
  idx_vars i
  rcases lanes i1 with ⟨j, rfl⟩ | ⟨j, rfl⟩ | h
  · refine (v40_lo _ _ _ _ i0 j).trans ((du_eq _ _ i0 j).trans ?_)
    show _ = gz A (cR l) (cR b) (cD d) i0 (lo j) + _
    rw [gz_out A l b d i0 (lo j) (by have := j.isLt; simp only; omega), zero_add]
    refine Eq.trans ?_ (if_pos (show (lo j).val < 6 from j.isLt)).symm
    show _ = ctq (cD d) i0 (lo j) * (Ideal.logistic (padCols A (ix2 i0 (lo j))) * (1 - Ideal.logistic (padCols A (ix2 i0 (lo j)))))
    rw [padCols_lo]
    rfl
  · refine (v40_hi _ _ _ _ i0 j).trans ?_
    show _ = gz A (cR l) (cR b) (cD d) i0 (hi j) + _
    rw [gz_hi A hA l b d hz i0 j]
    refine Eq.trans (add_zero _).symm (congrArg _ ?_)
    exact (if_neg (show ¬(hi j).val < 6 by simp only; omega)).symm
  · refine (v40_out _ _ _ _ i0 i1 h).trans ?_
    show _ = gz A (cR l) (cR b) (cD d) i0 i1 + _
    rw [gz_out A l b d i0 i1 (by omega), zero_add]
    exact (if_neg (show ¬i1.val < 6 by omega)).symm

include hA in
/-- The gradient of the biases. -/
theorem db_ref (hz : ∀ q j, pre A (cR b) q (hi j) ≠ 0) :
    val_main_v44 (F := Ideal) A (cR l) (cR b) (cD d) = DB A (cR l) (cR b) (cD d) := by
  funext i
  idx_vars i
  obtain rfl : i0 = 0 := Subsingleton.elim _ _
  show _ = ∑ q : Fin 16384, gz A (cR l) (cR b) (cD d) q i1
  by_cases h : 6 ≤ i1.val ∧ i1.val < 12
  · obtain ⟨j, rfl⟩ : ∃ j : Fin 6, i1 = hi j := ⟨⟨i1.val - 6, by omega⟩, Fin.ext (by simp only; omega)⟩
    refine (v44_hi _ _ _ _ j).trans ((db_eq _ _ _ _ j).trans ?_)
    exact Finset.sum_congr rfl fun q _ => (gz_hi A hA l b d hz q j).symm
  · refine (v44_out _ _ _ _ i1 h).trans ?_
    exact (Finset.sum_eq_zero fun q _ => gz_out A l b d q i1 h).symm

include hA in
/-- The gradient of the rates' logarithms, where the entries that enter it are the real numbers `g` and `e`. -/
theorem dl_ref (g : Fin 16384 → Fin 128 → ℝ) (e : Fin 128 → ℝ)
    (hg : ∀ q x, Cert.Softplus.keep x (ctq (cD d) q x * Cert.Softplus.sp (pre A (cR b) q x)) = (g q x : EReal))
    (he : ∀ x, Ideal.exp (padRow (cR l) (ix2 0 x)) = (e x : EReal)) :
    val_main_v42 (F := Ideal) A (cR l) (cR b) (cD d) = fun i => ∑ q : Fin 16384, ((-g q (i 1) * e (i 1) : ℝ) : EReal) := by
  funext i
  idx_vars i
  obtain rfl : i0 = 0 := Subsingleton.elim _ _
  show _ = ∑ q : Fin 16384, ((-g q i1 * e i1 : ℝ) : EReal)
  by_cases h : 6 ≤ i1.val ∧ i1.val < 12
  · obtain ⟨j, rfl⟩ : ∃ j : Fin 6, i1 = hi j := ⟨⟨i1.val - 6, by omega⟩, Fin.ext (by simp only; omega)⟩
    refine (v42_hi _ _ _ _ j).trans ((dl_eq _ _ _ _ j).trans ?_)
    have inner : ∀ q : Fin 16384, (∑ k : Fin 6, cD d (ix3 k q ⟨6 + j.val, by omega⟩)) * val_main_v19_0 (F := Ideal) A (cR b) (ix2 q j)
        = (g q (hi j) : EReal) := fun q => by
      obtain ⟨z, ez⟩ := pre_real A hA b q j
      rw [sp_eq _ _ q j z ((v18_pre _ _ q j).trans ez), ← hg, Cert.Softplus.keep_in (in_hi j), ez, Cert.Softplus.sp_coe]
      rfl
    rw [Finset.sum_congr rfl fun q _ => inner q, ← padRow_hi (cR l) j, he, Cert.Finite.coe_sum, Cert.Finite.coe_sum, ← Finset.sum_mul,
      Finset.sum_neg_distrib, zero_sub]
    norm_cast
  · refine (v42_out _ _ _ _ i1 h).trans ?_
    refine (Finset.sum_eq_zero fun q _ => ?_).symm
    have h0 : g q i1 = 0 := by
      have := hg q i1
      rw [Cert.Softplus.keep_out h] at this
      exact_mod_cast this.symm
    rw [h0, neg_zero, zero_mul]
    rfl

include hA in
/-- The entries that enter the gradient of the rates' logarithms are real numbers. -/
theorem g_real : ∃ g : Fin 16384 → Fin 128 → ℝ,
    ∀ q x, Cert.Softplus.keep x (ctq (cD d) q x * Cert.Softplus.sp (pre A (cR b) q x)) = (g q x : EReal) := by
  have key : ∀ q x, ∃ r : ℝ, Cert.Softplus.keep x (ctq (cD d) q x * Cert.Softplus.sp (pre A (cR b) q x)) = (r : EReal) := fun q x => by
    by_cases h : 6 ≤ x.val ∧ x.val < 12
    · obtain ⟨j, rfl⟩ : ∃ j : Fin 6, x = hi j := ⟨⟨x.val - 6, by omega⟩, Fin.ext (by simp only; omega)⟩
      obtain ⟨z, ez⟩ := pre_real A hA b q j
      obtain ⟨s, es⟩ := ctq_real d q (hi j)
      exact ⟨s * Cert.Softplus.spr z, by rw [Cert.Softplus.keep_in h, ez, es, Cert.Softplus.sp_coe, EReal.coe_mul]⟩
    · exact ⟨0, Cert.Softplus.keep_out h _⟩
  choose g hg using key
  exact ⟨g, hg⟩

/-- The rates are real numbers. -/
theorem e_real : ∃ e : Fin 128 → ℝ, ∀ x, Ideal.exp (padRow (cR l) (ix2 0 x)) = (e x : EReal) := by
  have key : ∀ x, ∃ r : ℝ, Ideal.exp (padRow (cR l) (ix2 0 x)) = (r : EReal) := fun x => by
    obtain ⟨r, hr⟩ := padRow_real l x
    exact ⟨Real.exp r, by rw [hr, Ideal.exp_coe]⟩
  choose e he using key
  exact ⟨e, he⟩
end

end Cert.GatesRefIdeal.Pf

end
-- ==== Proof.GatesClaim.lean ====
module

public import proofs.«01_k».proof.Defs
public import proofs.«01_k».proof.Proof.Gen.Gates.Frame
public import proofs.«01_k».proof.Proof.Gen.GatesIdeal.Frame
public import proofs.«01_k».proof.Proof.Gen.Pre_finite_gates
public import proofs.«01_k».proof.Proof.Gen.GatesRefIdeal.Run
public import proofs.«01_k».proof.Proof.GatesEq
public import Idealize.ShloMosaic.Lib.Claim

@[expose] public section

set_option maxRecDepth 16384

noncomputable section

/-! The claims about the gradients of the gates. -/

namespace Cert.Proof.Gates

open Idealize.ShloMosaic Idealize.ShloMosaic.TcCoe Idealize.SL.Sem
open Cert.GatesRefIdeal.Pf (cR cD hi)

theorem frame_kernel : Cert.quiescent_Gates := fun m ρ _ => Cert.Gates.Gen.frame m ρ

theorem frame_ideal : Cert.quiescent_GatesIdeal := fun m ρ _ => Cert.GatesIdeal.Gen.frame m ρ

theorem frame_ideal_pre : Cert.quiescent_GatesIdeal_pre_finite_gates := fun m ρ _ => Cert.GatesIdeal.Gen.frame m ρ

theorem frame_ref : Cert.quiescent_GatesRefIdeal := fun m ρ _ =>
  (θ_run Cert.GatesRefIdeal.defs _ _).mono
    (fun r h => ⟨fun c => (h c).2.2.2, Idealize.ShloMosaic.sem_eq_zero_of_no_sems (by decide) r.2⟩)
    (Cert.GatesRefIdeal.Value.run (F := Ideal) m ρ)

theorem frame_ref_pre : Cert.quiescent_GatesRefIdeal_pre_finite_gates := fun m ρ _ => frame_ref m ρ trivial

/-- An array that compares unequal to zeros everywhere has no entry that is zero. -/
theorem ne_of_all {s t u : Shape} {axes : List (Fin s.rank)} [Subsingleton t.Idx] (x y : FVec Ideal s .f32)
    (hy : ∀ i, y i = 0) (init : u.Idx → BitVec 1) (h : s.ReducesTo axes t) (hu : 0 < u.numel) (j : t.Idx)
    (e : Host.reduce IntOp.andi (cmpf .une x y) init h hu j = 1#1) (i : s.Idx) : x i ≠ 0 := by
  have h2 : BitVec.ofBool (decide (x i ≠ y i)) = 1#1 := Host.reduce_andi_all _ init h hu j e i
  rw [hy i] at h2
  intro hn
  simp [hn] at h2

/-- Where the predicate holds, the decay gates' columns and the other arguments are real numbers and no pre-activation of a decay gate is zero. -/
theorem reals (x0 : FVec Ideal Cert.Pre_finite_gates.S16384x3340 .f32) (x1 x2 : FVec Ideal Cert.Pre_finite_gates.S6 .f32)
    (x3 : FVec Ideal Cert.Pre_finite_gates.S6x16384x128 .f32)
    (h : Cert.Pre_finite_gates.fn (F := Ideal) x0 x1 x2 x3 = fun _ => 1#1) :
    (∀ (q : Fin 16384) (j : Fin 6), ∃ r : ℝ, x0 (ix2 q ⟨3078 + j.val, by omega⟩) = (r : EReal))
      ∧ (∃ l : Cert.Pre_finite_gates.S6.Idx → ℝ, x1 = fun i => (l i : EReal))
      ∧ (∃ b : Cert.Pre_finite_gates.S6.Idx → ℝ, x2 = fun i => (b i : EReal))
      ∧ (∃ d : Cert.Pre_finite_gates.S6x16384x128.Idx → ℝ, x3 = fun i => (d i : EReal))
      ∧ ∀ (q : Fin 16384) (j : Fin 6), Cert.GatesIdeal.Pf.pre x0 x2 q (hi j) ≠ 0 := by
  obtain ⟨e4, e5⟩ := Cert.Finite.and_eq_one _ _ (congrFun h (fun k => k.elim0))
  obtain ⟨e4, e3⟩ := Cert.Finite.and_eq_one _ _ e4
  obtain ⟨e4, e2⟩ := Cert.Finite.and_eq_one _ _ e4
  obtain ⟨e0, e1⟩ := Cert.Finite.and_eq_one _ _ e4
  refine ⟨fun q j => ?_,
    Cert.Finite.reals_of_all x1 _ (fun _ => Cert.Finite.inf_word) _ _ _ _ e1,
    Cert.Finite.reals_of_all x2 _ (fun _ => Cert.Finite.inf_word) _ _ _ _ e2,
    Cert.Finite.reals_of_all x3 _ (fun _ => Cert.Finite.inf_word) _ _ _ _ e3, fun q j hn => ?_⟩
  · obtain ⟨r, hr⟩ := Cert.Finite.reals_of_all _ _ (fun _ => Cert.Finite.inf_word) _ _ _ _ e0
    refine ⟨r (ix2 q j), Eq.trans ?_ (congrFun hr (ix2 q j))⟩
    pointwise
  refine ne_of_all _ _ (fun i => ?_) _ _ _ _ e5 (ix2 q j) ?_
  · pointwise
  · rw [← Cert.GatesRefIdeal.Pf.v18_pre, Cert.GatesRefIdeal.Pf.z_eq] at hn
    refine Eq.trans ?_ hn
    pointwise

/-- Where the decay gates' columns and the other arguments are finite, and for decay gates whose pre-activation is not zero, the kernel's results and the derivatives of the
plain lines are the same arrays. -/
theorem value : Cert.algebraic_GatesIdeal_GatesRefIdeal_pre_finite_gates := by
  intro m g m' g' hpre hagree
  refine ⟨_, _, _, Cert.GatesIdeal.Value.run_blocks m g, ?_⟩
  refine (θ_run Cert.GatesRefIdeal.defs _ _).mono (fun r h c => ?_) (Cert.GatesRefIdeal.Value.run (F := Ideal) m' g')
  obtain ⟨hA, ⟨l, hl⟩, ⟨b, hb⟩, ⟨d, hd⟩, hz⟩ := reals _ _ _ _ (hpre c)
  obtain ⟨h0, h1, h2, h3⟩ := hagree c
  obtain ⟨a0, a1, a2, rest⟩ := h c
  rw [hb] at hz
  refine ⟨a0.trans ?_, a1.trans ?_, a2.trans ?_, rest⟩
  · refine (Cert.GatesRefIdeal.Read.val_main_v40_eq m' c).trans ?_
    refine Eq.trans ?_ (Cert.GatesIdeal.Pf.final_dx m c).symm
    rw [h0, h1, h2, h3, hl, hb, hd]
    exact Cert.GatesRefIdeal.Pf.dx_ref _ hA l b d hz
  · refine (Cert.GatesRefIdeal.Read.val_main_v42_eq _ _ _ _).trans ?_
    obtain ⟨gr, hg⟩ := Cert.GatesRefIdeal.Pf.g_real _ hA b d
    obtain ⟨er, he⟩ := Cert.GatesRefIdeal.Pf.e_real l
    refine Eq.trans ?_ (Cert.GatesIdeal.Pf.final_dl m c gr er (by rw [hb, hd]; exact hg) (by rw [hl]; exact he)).symm
    rw [h0, h1, h2, h3, hl, hb, hd]
    exact Cert.GatesRefIdeal.Pf.dl_ref _ hA l b d gr er hg he
  · refine (Cert.GatesRefIdeal.Read.val_main_v44_eq m' c).trans ?_
    refine Eq.trans ?_ (Cert.GatesIdeal.Pf.final_db m c).symm
    rw [h0, h1, h2, h3, hl, hb, hd]
    exact Cert.GatesRefIdeal.Pf.db_ref _ hA l b d hz

end Cert.Proof.Gates

end
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Att
public import proofs.«01_k».proof.Proof.Gen.Att.Skeleton
public import proofs.«01_k».proof.Proof.Gen.Att.Loops
public import proofs.«01_k».proof.Proof.Gen.Att.Launch
public import proofs.«01_k».proof.Proof.Gen.Att.Points
public import proofs.«01_k».proof.Proof.Gen.Att.Frame
public import proofs.«01_k».proof.Proof.Gen.AttIdeal
public import proofs.«01_k».proof.Proof.Gen.AttIdeal.Skeleton
public import proofs.«01_k».proof.Proof.Gen.AttIdeal.Loops
public import proofs.«01_k».proof.Proof.Gen.AttIdeal.Launch
public import proofs.«01_k».proof.Proof.Gen.AttIdeal.Points
public import proofs.«01_k».proof.Proof.Gen.AttIdeal.Frame
public import proofs.«01_k».proof.Proof.Gen.AttRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.QNorm
public import proofs.«01_k».proof.Proof.Gen.QNorm.Skeleton
public import proofs.«01_k».proof.Proof.Gen.QNorm.Launch
public import proofs.«01_k».proof.Proof.Gen.QNorm.Points
public import proofs.«01_k».proof.Proof.Gen.QNorm.Frame
public import proofs.«01_k».proof.Proof.Gen.QNormIdeal
public import proofs.«01_k».proof.Proof.Gen.QNormIdeal.Skeleton
public import proofs.«01_k».proof.Proof.Gen.QNormIdeal.Launch
public import proofs.«01_k».proof.Proof.Gen.QNormIdeal.Points
public import proofs.«01_k».proof.Proof.Gen.QNormIdeal.Frame
public import proofs.«01_k».proof.Proof.Gen.QNormRefIdeal
public import proofs.«01_k».proof.Proof.Gen.MemNorm
public import proofs.«01_k».proof.Proof.Gen.MemNorm.Skeleton
public import proofs.«01_k».proof.Proof.Gen.MemNorm.Launch
public import proofs.«01_k».proof.Proof.Gen.MemNorm.Points
public import proofs.«01_k».proof.Proof.Gen.MemNorm.Frame
public import proofs.«01_k».proof.Proof.Gen.MemNormIdeal
public import proofs.«01_k».proof.Proof.Gen.MemNormIdeal.Skeleton
public import proofs.«01_k».proof.Proof.Gen.MemNormIdeal.Launch
public import proofs.«01_k».proof.Proof.Gen.MemNormIdeal.Points
public import proofs.«01_k».proof.Proof.Gen.MemNormIdeal.Frame
public import proofs.«01_k».proof.Proof.Gen.MemNormRefIdeal
public import proofs.«01_k».proof.Proof.Gen.OutNorm
public import proofs.«01_k».proof.Proof.Gen.OutNorm.Skeleton
public import proofs.«01_k».proof.Proof.Gen.OutNorm.Launch
public import proofs.«01_k».proof.Proof.Gen.OutNorm.Points
public import proofs.«01_k».proof.Proof.Gen.OutNorm.Frame
public import proofs.«01_k».proof.Proof.Gen.OutNormIdeal
public import proofs.«01_k».proof.Proof.Gen.OutNormIdeal.Skeleton
public import proofs.«01_k».proof.Proof.Gen.OutNormIdeal.Launch
public import proofs.«01_k».proof.Proof.Gen.OutNormIdeal.Points
public import proofs.«01_k».proof.Proof.Gen.OutNormIdeal.Frame
public import proofs.«01_k».proof.Proof.Gen.OutNormRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.KvRope
public import proofs.«01_k».proof.Proof.Gen.KvRope.Skeleton
public import proofs.«01_k».proof.Proof.Gen.KvRope.Launch
public import proofs.«01_k».proof.Proof.Gen.KvRope.Points
public import proofs.«01_k».proof.Proof.Gen.KvRope.Frame
public import proofs.«01_k».proof.Proof.Gen.KvRopeIdeal
public import proofs.«01_k».proof.Proof.Gen.KvRopeIdeal.Skeleton
public import proofs.«01_k».proof.Proof.Gen.KvRopeIdeal.Launch
public import proofs.«01_k».proof.Proof.Gen.KvRopeIdeal.Points
public import proofs.«01_k».proof.Proof.Gen.KvRopeIdeal.Frame
public import proofs.«01_k».proof.Proof.Gen.KvRopeRefIdeal
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.Pre_finite_gate
public import proofs.«01_k».proof.Proof.Gen.Pre_finite_att
public import proofs.«01_k».proof.Proof.Gen.Pre_finite_kvrope
public import proofs.«01_k».proof.Proof.Gen.Pre_finite_gates
public import proofs.«01_k».proof.Proof.Gen.GateIdeal.Value
public import proofs.«01_k».proof.Proof.Gen.GateRefIdeal.Run
public import proofs.«01_k».proof.Proof.Gen.GateRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.AttRefIdeal.Run
public import proofs.«01_k».proof.Proof.Gen.AttRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Gen.QNormIdeal.Value
public import proofs.«01_k».proof.Proof.Gen.QNormRefIdeal.Run
public import proofs.«01_k».proof.Proof.Gen.QNormRefIdeal.Read
public import proofs.«01_k».proof.Proof.Gen.MemNormIdeal.Value
public import proofs.«01_k».proof.Proof.Gen.MemNormRefIdeal.Run
public import proofs.«01_k».proof.Proof.Gen.MemNormRefIdeal.Read
public import proofs.«01_k».proof.Proof.Gen.OutNormIdeal.Value
public import proofs.«01_k».proof.Proof.Gen.OutNormRefIdeal.Run
public import proofs.«01_k».proof.Proof.Gen.OutNormRefIdeal.Read
public import proofs.«01_k».proof.Proof.Gen.LossIdeal.Value
public import proofs.«01_k».proof.Proof.Gen.LossRefIdeal.Run
public import proofs.«01_k».proof.Proof.Gen.LossRefIdeal.Read
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.RopeRefIdeal.Run
public import proofs.«01_k».proof.Proof.Gen.RopeRefIdeal.Read
public import proofs.«01_k».proof.Proof.Gen.KvRopeRefIdeal.Run
public import proofs.«01_k».proof.Proof.Gen.KvRopeRefIdeal.Read
public import proofs.«01_k».proof.Proof.Gen.MemoryIdeal.Value
public import proofs.«01_k».proof.Proof.Gen.MemoryRefIdeal.Run
public import proofs.«01_k».proof.Proof.Gen.MemoryRefIdeal.Read
public import proofs.«01_k».proof.Proof.Gen.GatesIdeal.Value
public import proofs.«01_k».proof.Proof.Gen.GatesRefIdeal.Run
public import proofs.«01_k».proof.Proof.Gen.GatesRefIdeal.Read
public import proofs.«01_k».proof.Proof.GateClaim
public import proofs.«01_k».proof.Proof.DownClaim
public import proofs.«01_k».proof.Proof.ConvClaim
public import proofs.«01_k».proof.Proof.AttClaim
public import proofs.«01_k».proof.Proof.NormClaim
public import proofs.«01_k».proof.Proof.QNormClaim
public import proofs.«01_k».proof.Proof.MemNormClaim
public import proofs.«01_k».proof.Proof.OutNormClaim
public import proofs.«01_k».proof.Proof.LossClaim
public import proofs.«01_k».proof.Proof.PrepClaim
public import proofs.«01_k».proof.Proof.RopeClaim
public import proofs.«01_k».proof.Proof.KvRopeClaim
public import proofs.«01_k».proof.Proof.MemoryClaim
public import proofs.«01_k».proof.Proof.GatesClaim
public import Idealize.ShloMosaic.Adequacy
public import Idealize.ShloMosaic.Init

@[expose] public section

noncomputable section

namespace Cert.Proof

open Idealize.ShloMosaic Idealize.SL.Sem Cert.Gate

theorem claim : Cert.Claim := ⟨Cert.Gate.Gen.facts, Cert.GateIdeal.Gen.facts, Cert.GateRefIdeal.Gen.facts, Cert.Down.Gen.facts, Cert.DownIdeal.Gen.facts, Cert.DownRefIdeal.Gen.facts, Cert.Conv.Gen.facts, Cert.ConvIdeal.Gen.facts, Cert.ConvRefIdeal.Gen.facts, Cert.Att.Gen.facts, Cert.AttIdeal.Gen.facts, Cert.AttRefIdeal.Gen.facts, Cert.Norm.Gen.facts, Cert.NormIdeal.Gen.facts, Cert.NormRefIdeal.Gen.facts, Cert.QNorm.Gen.facts, Cert.QNormIdeal.Gen.facts, Cert.QNormRefIdeal.Gen.facts, Cert.MemNorm.Gen.facts, Cert.MemNormIdeal.Gen.facts, Cert.MemNormRefIdeal.Gen.facts, Cert.OutNorm.Gen.facts, Cert.OutNormIdeal.Gen.facts, Cert.OutNormRefIdeal.Gen.facts, Cert.Loss.Gen.facts, Cert.LossIdeal.Gen.facts, Cert.LossRefIdeal.Gen.facts, Cert.Prep.Gen.facts, Cert.PrepIdeal.Gen.facts, Cert.PrepRefIdeal.Gen.facts, Cert.Rope.Gen.facts, Cert.RopeIdeal.Gen.facts, Cert.RopeRefIdeal.Gen.facts, Cert.KvRope.Gen.facts, Cert.KvRopeIdeal.Gen.facts, Cert.KvRopeRefIdeal.Gen.facts, Cert.Memory.Gen.facts, Cert.MemoryIdeal.Gen.facts, Cert.MemoryRefIdeal.Gen.facts, Cert.Gates.Gen.facts, Cert.GatesIdeal.Gen.facts, Cert.GatesRefIdeal.Gen.facts, Cert.Pre_finite_gate.Gen.facts, Cert.Pre_finite_att.Gen.facts, Cert.Pre_finite_kvrope.Gen.facts, Cert.Pre_finite_gates.Gen.facts,
  Gate.frame_kernel, Gate.frame_ideal, Gate.frame_ideal_pre, Gate.frame_ref, Gate.frame_ref_pre,
  Down.frame_kernel, Down.frame_ideal, Down.frame_ref,
  Conv.frame_kernel, Conv.frame_ideal, Conv.frame_ref,
  Att.frame_kernel, Att.frame_ideal, Att.frame_ideal_pre, Att.frame_ref, Att.frame_ref_pre,
  Norm.frame_kernel, Norm.frame_ideal, Norm.frame_ref,
  QNorm.frame_kernel, QNorm.frame_ideal, QNorm.frame_ref,
  MemNorm.frame_kernel, MemNorm.frame_ideal, MemNorm.frame_ref,
  OutNorm.frame_kernel, OutNorm.frame_ideal, OutNorm.frame_ref,
  Loss.frame_kernel, Loss.frame_ideal, Loss.frame_ref,
  Prep.frame_kernel, Prep.frame_ideal, Prep.frame_ref,
  Rope.frame_kernel, Rope.frame_ideal, Rope.frame_ref,
  KvRope.frame_kernel, KvRope.frame_ideal, KvRope.frame_ideal_pre, KvRope.frame_ref, KvRope.frame_ref_pre,
  Memory.frame_kernel, Memory.frame_ideal, Memory.frame_ref,
  Gates.frame_kernel, Gates.frame_ideal, Gates.frame_ideal_pre, Gates.frame_ref, Gates.frame_ref_pre,
  trivial, Gate.value, trivial, Down.value, trivial, Conv.value, Att.preserves, Att.value, trivial, Norm.value, trivial, QNorm.value, trivial, MemNorm.value, trivial, OutNorm.value, trivial, Loss.value, trivial, Prep.value, trivial, Rope.value, trivial, KvRope.value, trivial, Memory.value, trivial, Gates.value⟩

end Cert.Proof

end
